-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UpGradIn (m : (ℓ : Loc Cert.UpGradIn.nD Cert.UpGradIn.τ Cert.UpGradIn.sig) → Buf (Elt Bits) ℓ) : Prop :=
  True

def Pre_UpGradInIdeal (m : (ℓ : Loc Cert.UpGradInIdeal.nD Cert.UpGradInIdeal.τ Cert.UpGradInIdeal.sig) → Buf (Elt Ideal) ℓ) : Prop :=
  True

def Pre_UpGradInRefIdeal (m : (ℓ : Loc Cert.UpGradInRefIdeal.nD Cert.UpGradInRefIdeal.τ Cert.UpGradInRefIdeal.sig) → Buf (Elt Ideal) ℓ) : Prop :=
  True

def Pre_UpGradW (m : (ℓ : Loc Cert.UpGradW.nD Cert.UpGradW.τ Cert.UpGradW.sig) → Buf (Elt Bits) ℓ) : Prop :=
  True

def Pre_UpGradWIdeal (m : (ℓ : Loc Cert.UpGradWIdeal.nD Cert.UpGradWIdeal.τ Cert.UpGradWIdeal.sig) → Buf (Elt Ideal) ℓ) : Prop :=
  True

def Pre_UpGradWRefIdeal (m : (ℓ : Loc Cert.UpGradWRefIdeal.nD Cert.UpGradWRefIdeal.τ Cert.UpGradWRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownGradIn (m : (ℓ : Loc Cert.DownGradIn.nD Cert.DownGradIn.τ Cert.DownGradIn.sig) → Buf (Elt Bits) ℓ) : Prop :=
  True

def Pre_DownGradInIdeal (m : (ℓ : Loc Cert.DownGradInIdeal.nD Cert.DownGradInIdeal.τ Cert.DownGradInIdeal.sig) → Buf (Elt Ideal) ℓ) : Prop :=
  True

def Pre_DownGradInRefIdeal (m : (ℓ : Loc Cert.DownGradInRefIdeal.nD Cert.DownGradInRefIdeal.τ Cert.DownGradInRefIdeal.sig) → Buf (Elt Ideal) ℓ) : Prop :=
  True

def Pre_DownGradW (m : (ℓ : Loc Cert.DownGradW.nD Cert.DownGradW.τ Cert.DownGradW.sig) → Buf (Elt Bits) ℓ) : Prop :=
  True

def Pre_DownGradWIdeal (m : (ℓ : Loc Cert.DownGradWIdeal.nD Cert.DownGradWIdeal.τ Cert.DownGradWIdeal.sig) → Buf (Elt Ideal) ℓ) : Prop :=
  True

def Pre_DownGradWRefIdeal (m : (ℓ : Loc Cert.DownGradWRefIdeal.nD Cert.DownGradWRefIdeal.τ Cert.DownGradWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InGradW (m : (ℓ : Loc Cert.InGradW.nD Cert.InGradW.τ Cert.InGradW.sig) → Buf (Elt Bits) ℓ) : Prop :=
  True

def Pre_InGradWIdeal (m : (ℓ : Loc Cert.InGradWIdeal.nD Cert.InGradWIdeal.τ Cert.InGradWIdeal.sig) → Buf (Elt Ideal) ℓ) : Prop :=
  True

def Pre_InGradWRefIdeal (m : (ℓ : Loc Cert.InGradWRefIdeal.nD Cert.InGradWRefIdeal.τ Cert.InGradWRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixGradIn (m : (ℓ : Loc Cert.MixGradIn.nD Cert.MixGradIn.τ Cert.MixGradIn.sig) → Buf (Elt Bits) ℓ) : Prop :=
  True

def Pre_MixGradInIdeal (m : (ℓ : Loc Cert.MixGradInIdeal.nD Cert.MixGradInIdeal.τ Cert.MixGradInIdeal.sig) → Buf (Elt Ideal) ℓ) : Prop :=
  True

def Pre_MixGradInRefIdeal (m : (ℓ : Loc Cert.MixGradInRefIdeal.nD Cert.MixGradInRefIdeal.τ Cert.MixGradInRefIdeal.sig) → Buf (Elt Ideal) ℓ) : Prop :=
  True

def Pre_MixGradW (m : (ℓ : Loc Cert.MixGradW.nD Cert.MixGradW.τ Cert.MixGradW.sig) → Buf (Elt Bits) ℓ) : Prop :=
  True

def Pre_MixGradWIdeal (m : (ℓ : Loc Cert.MixGradWIdeal.nD Cert.MixGradWIdeal.τ Cert.MixGradWIdeal.sig) → Buf (Elt Ideal) ℓ) : Prop :=
  True

def Pre_MixGradWRefIdeal (m : (ℓ : Loc Cert.MixGradWRefIdeal.nD Cert.MixGradWRefIdeal.τ Cert.MixGradWRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_ConvGradIn (m : (ℓ : Loc Cert.ConvGradIn.nD Cert.ConvGradIn.τ Cert.ConvGradIn.sig) → Buf (Elt Bits) ℓ) : Prop :=
  True

def Pre_ConvGradInIdeal (m : (ℓ : Loc Cert.ConvGradInIdeal.nD Cert.ConvGradInIdeal.τ Cert.ConvGradInIdeal.sig) → Buf (Elt Ideal) ℓ) : Prop :=
  True

def Pre_ConvGradInRefIdeal (m : (ℓ : Loc Cert.ConvGradInRefIdeal.nD Cert.ConvGradInRefIdeal.τ Cert.ConvGradInRefIdeal.sig) → Buf (Elt Ideal) ℓ) : Prop :=
  True

def Pre_AttnGradIn (m : (ℓ : Loc Cert.AttnGradIn.nD Cert.AttnGradIn.τ Cert.AttnGradIn.sig) → Buf (Elt Bits) ℓ) : Prop :=
  True

def Pre_AttnGradInIdeal (m : (ℓ : Loc Cert.AttnGradInIdeal.nD Cert.AttnGradInIdeal.τ Cert.AttnGradInIdeal.sig) → Buf (Elt Ideal) ℓ) : Prop :=
  True

def Pre_AttnGradInRefIdeal (m : (ℓ : Loc Cert.AttnGradInRefIdeal.nD Cert.AttnGradInRefIdeal.τ Cert.AttnGradInRefIdeal.sig) → Buf (Elt Ideal) ℓ) : Prop :=
  True

def Pre_BranchGradW (m : (ℓ : Loc Cert.BranchGradW.nD Cert.BranchGradW.τ Cert.BranchGradW.sig) → Buf (Elt Bits) ℓ) : Prop :=
  True

def Pre_BranchGradWIdeal (m : (ℓ : Loc Cert.BranchGradWIdeal.nD Cert.BranchGradWIdeal.τ Cert.BranchGradWIdeal.sig) → Buf (Elt Ideal) ℓ) : Prop :=
  True

def Pre_BranchGradWRefIdeal (m : (ℓ : Loc Cert.BranchGradWRefIdeal.nD Cert.BranchGradWRefIdeal.τ Cert.BranchGradWRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_GateGradIn (m : (ℓ : Loc Cert.GateGradIn.nD Cert.GateGradIn.τ Cert.GateGradIn.sig) → Buf (Elt Bits) ℓ) : Prop :=
  True

def Pre_GateGradInIdeal (m : (ℓ : Loc Cert.GateGradInIdeal.nD Cert.GateGradInIdeal.τ Cert.GateGradInIdeal.sig) → Buf (Elt Ideal) ℓ) : Prop :=
  True

def Pre_GateGradInRefIdeal (m : (ℓ : Loc Cert.GateGradInRefIdeal.nD Cert.GateGradInRefIdeal.τ Cert.GateGradInRefIdeal.sig) → Buf (Elt Ideal) ℓ) : Prop :=
  True

def Pre_GateGradW (m : (ℓ : Loc Cert.GateGradW.nD Cert.GateGradW.τ Cert.GateGradW.sig) → Buf (Elt Bits) ℓ) : Prop :=
  True

def Pre_GateGradWIdeal (m : (ℓ : Loc Cert.GateGradWIdeal.nD Cert.GateGradWIdeal.τ Cert.GateGradWIdeal.sig) → Buf (Elt Ideal) ℓ) : Prop :=
  True

def Pre_GateGradWRefIdeal (m : (ℓ : Loc Cert.GateGradWRefIdeal.nD Cert.GateGradWRefIdeal.τ Cert.GateGradWRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradRefIdeal (m : (ℓ : Loc Cert.BiasGradRefIdeal.nD Cert.BiasGradRefIdeal.τ Cert.BiasGradRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_finite_norm [hPre_finite_norm : Cert.Pre_finite_norm.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_finite_norm.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3))) = (fun _ => 1#1)

def Pre_ResGrad (m : (ℓ : Loc Cert.ResGrad.nD Cert.ResGrad.τ Cert.ResGrad.sig) → Buf (Elt Bits) ℓ) : Prop :=
  True

def Pre_ResGradIdeal (m : (ℓ : Loc Cert.ResGradIdeal.nD Cert.ResGradIdeal.τ Cert.ResGradIdeal.sig) → Buf (Elt Ideal) ℓ) : Prop :=
  True

def Pre_ResGradIdeal_finite_res [hPre_finite_res : Cert.Pre_finite_res.Facts] (m : (ℓ : Loc Cert.ResGradIdeal.nD Cert.ResGradIdeal.τ Cert.ResGradIdeal.sig) → Buf (Elt Ideal) ℓ) : Prop :=
  ∀ c : Dev Cert.ResGradIdeal.nD,
    (Cert.Pre_finite_res.fn (F := Ideal) (m ((c.tc : Thread Cert.ResGradIdeal.nD Cert.ResGradIdeal.τ).loc Cert.ResGradIdeal.main_arg0)) (m ((c.tc : Thread Cert.ResGradIdeal.nD Cert.ResGradIdeal.τ).loc Cert.ResGradIdeal.main_arg1)) (m ((c.tc : Thread Cert.ResGradIdeal.nD Cert.ResGradIdeal.τ).loc Cert.ResGradIdeal.main_arg2)) (m ((c.tc : Thread Cert.ResGradIdeal.nD Cert.ResGradIdeal.τ).loc Cert.ResGradIdeal.main_arg3)) (m ((c.tc : Thread Cert.ResGradIdeal.nD Cert.ResGradIdeal.τ).loc Cert.ResGradIdeal.main_arg4))) = (fun _ => 1#1)

def Pre_ResGradRefIdeal (m : (ℓ : Loc Cert.ResGradRefIdeal.nD Cert.ResGradRefIdeal.τ Cert.ResGradRefIdeal.sig) → Buf (Elt Ideal) ℓ) : Prop :=
  True

def Pre_ResGradRefIdeal_finite_res [hPre_finite_res : Cert.Pre_finite_res.Facts] (m : (ℓ : Loc Cert.ResGradRefIdeal.nD Cert.ResGradRefIdeal.τ Cert.ResGradRefIdeal.sig) → Buf (Elt Ideal) ℓ) : Prop :=
  ∀ c : Dev Cert.ResGradRefIdeal.nD,
    (Cert.Pre_finite_res.fn (F := Ideal) (m ((c.tc : Thread Cert.ResGradRefIdeal.nD Cert.ResGradRefIdeal.τ).loc Cert.ResGradRefIdeal.main_arg0)) (m ((c.tc : Thread Cert.ResGradRefIdeal.nD Cert.ResGradRefIdeal.τ).loc Cert.ResGradRefIdeal.main_arg1)) (m ((c.tc : Thread Cert.ResGradRefIdeal.nD Cert.ResGradRefIdeal.τ).loc Cert.ResGradRefIdeal.main_arg2)) (m ((c.tc : Thread Cert.ResGradRefIdeal.nD Cert.ResGradRefIdeal.τ).loc Cert.ResGradRefIdeal.main_arg3)) (m ((c.tc : Thread Cert.ResGradRefIdeal.nD Cert.ResGradRefIdeal.τ).loc Cert.ResGradRefIdeal.main_arg4))) = (fun _ => 1#1)

def Pre_ResModGrad (m : (ℓ : Loc Cert.ResModGrad.nD Cert.ResModGrad.τ Cert.ResModGrad.sig) → Buf (Elt Bits) ℓ) : Prop :=
  True

def Pre_ResModGradIdeal (m : (ℓ : Loc Cert.ResModGradIdeal.nD Cert.ResModGradIdeal.τ Cert.ResModGradIdeal.sig) → Buf (Elt Ideal) ℓ) : Prop :=
  True

def Pre_ResModGradIdeal_finite_mod [hPre_finite_mod : Cert.Pre_finite_mod.Facts] (m : (ℓ : Loc Cert.ResModGradIdeal.nD Cert.ResModGradIdeal.τ Cert.ResModGradIdeal.sig) → Buf (Elt Ideal) ℓ) : Prop :=
  ∀ c : Dev Cert.ResModGradIdeal.nD,
    (Cert.Pre_finite_mod.fn (F := Ideal) (m ((c.tc : Thread Cert.ResModGradIdeal.nD Cert.ResModGradIdeal.τ).loc Cert.ResModGradIdeal.main_arg0)) (m ((c.tc : Thread Cert.ResModGradIdeal.nD Cert.ResModGradIdeal.τ).loc Cert.ResModGradIdeal.main_arg1)) (m ((c.tc : Thread Cert.ResModGradIdeal.nD Cert.ResModGradIdeal.τ).loc Cert.ResModGradIdeal.main_arg2)) (m ((c.tc : Thread Cert.ResModGradIdeal.nD Cert.ResModGradIdeal.τ).loc Cert.ResModGradIdeal.main_arg3)) (m ((c.tc : Thread Cert.ResModGradIdeal.nD Cert.ResModGradIdeal.τ).loc Cert.ResModGradIdeal.main_arg4)) (m ((c.tc : Thread Cert.ResModGradIdeal.nD Cert.ResModGradIdeal.τ).loc Cert.ResModGradIdeal.main_arg5)) (m ((c.tc : Thread Cert.ResModGradIdeal.nD Cert.ResModGradIdeal.τ).loc Cert.ResModGradIdeal.main_arg6)) (m ((c.tc : Thread Cert.ResModGradIdeal.nD Cert.ResModGradIdeal.τ).loc Cert.ResModGradIdeal.main_arg7))) = (fun _ => 1#1)

def Pre_ResModGradRefIdeal (m : (ℓ : Loc Cert.ResModGradRefIdeal.nD Cert.ResModGradRefIdeal.τ Cert.ResModGradRefIdeal.sig) → Buf (Elt Ideal) ℓ) : Prop :=
  True

def Pre_ResModGradRefIdeal_finite_mod [hPre_finite_mod : Cert.Pre_finite_mod.Facts] (m : (ℓ : Loc Cert.ResModGradRefIdeal.nD Cert.ResModGradRefIdeal.τ Cert.ResModGradRefIdeal.sig) → Buf (Elt Ideal) ℓ) : Prop :=
  ∀ c : Dev Cert.ResModGradRefIdeal.nD,
    (Cert.Pre_finite_mod.fn (F := Ideal) (m ((c.tc : Thread Cert.ResModGradRefIdeal.nD Cert.ResModGradRefIdeal.τ).loc Cert.ResModGradRefIdeal.main_arg0)) (m ((c.tc : Thread Cert.ResModGradRefIdeal.nD Cert.ResModGradRefIdeal.τ).loc Cert.ResModGradRefIdeal.main_arg1)) (m ((c.tc : Thread Cert.ResModGradRefIdeal.nD Cert.ResModGradRefIdeal.τ).loc Cert.ResModGradRefIdeal.main_arg2)) (m ((c.tc : Thread Cert.ResModGradRefIdeal.nD Cert.ResModGradRefIdeal.τ).loc Cert.ResModGradRefIdeal.main_arg3)) (m ((c.tc : Thread Cert.ResModGradRefIdeal.nD Cert.ResModGradRefIdeal.τ).loc Cert.ResModGradRefIdeal.main_arg4)) (m ((c.tc : Thread Cert.ResModGradRefIdeal.nD Cert.ResModGradRefIdeal.τ).loc Cert.ResModGradRefIdeal.main_arg5)) (m ((c.tc : Thread Cert.ResModGradRefIdeal.nD Cert.ResModGradRefIdeal.τ).loc Cert.ResModGradRefIdeal.main_arg6)) (m ((c.tc : Thread Cert.ResModGradRefIdeal.nD Cert.ResModGradRefIdeal.τ).loc Cert.ResModGradRefIdeal.main_arg7))) = (fun _ => 1#1)

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_ResMod (m : (ℓ : Loc Cert.ResMod.nD Cert.ResMod.τ Cert.ResMod.sig) → Buf (Elt Bits) ℓ) : Prop :=
  True

def Pre_ResModIdeal (m : (ℓ : Loc Cert.ResModIdeal.nD Cert.ResModIdeal.τ Cert.ResModIdeal.sig) → Buf (Elt Ideal) ℓ) : Prop :=
  True

def Pre_ResModRefIdeal (m : (ℓ : Loc Cert.ResModRefIdeal.nD Cert.ResModRefIdeal.τ Cert.ResModRefIdeal.sig) → Buf (Elt Ideal) ℓ) : Prop :=
  True

def Pre_GateBiasGrad (m : (ℓ : Loc Cert.GateBiasGrad.nD Cert.GateBiasGrad.τ Cert.GateBiasGrad.sig) → Buf (Elt Bits) ℓ) : Prop :=
  True

def Pre_GateBiasGradIdeal (m : (ℓ : Loc Cert.GateBiasGradIdeal.nD Cert.GateBiasGradIdeal.τ Cert.GateBiasGradIdeal.sig) → Buf (Elt Ideal) ℓ) : Prop :=
  True

def Pre_GateBiasGradRefIdeal (m : (ℓ : Loc Cert.GateBiasGradRefIdeal.nD Cert.GateBiasGradRefIdeal.τ Cert.GateBiasGradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpGradIn [hUpGradIn : Cert.UpGradIn.Facts] : Prop :=
  ∀ (m : (ℓ : Loc Cert.UpGradIn.nD Cert.UpGradIn.τ Cert.UpGradIn.sig) → Buf (Elt Bits) ℓ) (g : Dev Cert.UpGradIn.nD → PrngReg), Pre_UpGradIn m →
    θ_run (Cert.UpGradIn.defs (F := Bits)) (onTc (τ := Cert.UpGradIn.τ) (Cert.UpGradIn.main (F := Bits))) ⟨m, fun _ => 0, g⟩ (fun r => (∀ c : Dev Cert.UpGradIn.nD,
      r.2.mem ((c.tc : Thread Cert.UpGradIn.nD Cert.UpGradIn.τ).loc Cert.UpGradIn.main_arg0) = m ((c.tc : Thread Cert.UpGradIn.nD Cert.UpGradIn.τ).loc Cert.UpGradIn.main_arg0)
      ∧ r.2.mem ((c.tc : Thread Cert.UpGradIn.nD Cert.UpGradIn.τ).loc Cert.UpGradIn.main_arg1) = m ((c.tc : Thread Cert.UpGradIn.nD Cert.UpGradIn.τ).loc Cert.UpGradIn.main_arg1)
      ∧ r.2.mem ((c.tc : Thread Cert.UpGradIn.nD Cert.UpGradIn.τ).loc Cert.UpGradIn.main_arg2) = m ((c.tc : Thread Cert.UpGradIn.nD Cert.UpGradIn.τ).loc Cert.UpGradIn.main_arg2))
      ∧ r.2.sem = fun _ => 0)

def quiescent_UpGradInIdeal [hUpGradInIdeal : Cert.UpGradInIdeal.Facts] : Prop :=
  ∀ (m : (ℓ : Loc Cert.UpGradInIdeal.nD Cert.UpGradInIdeal.τ Cert.UpGradInIdeal.sig) → Buf (Elt Ideal) ℓ) (g : Dev Cert.UpGradInIdeal.nD → PrngReg), Pre_UpGradInIdeal m →
    θ_run (Cert.UpGradInIdeal.defs (F := Ideal)) (onTc (τ := Cert.UpGradInIdeal.τ) (Cert.UpGradInIdeal.main (F := Ideal))) ⟨m, fun _ => 0, g⟩ (fun r => (∀ c : Dev Cert.UpGradInIdeal.nD,
      r.2.mem ((c.tc : Thread Cert.UpGradInIdeal.nD Cert.UpGradInIdeal.τ).loc Cert.UpGradInIdeal.main_arg0) = m ((c.tc : Thread Cert.UpGradInIdeal.nD Cert.UpGradInIdeal.τ).loc Cert.UpGradInIdeal.main_arg0)
      ∧ r.2.mem ((c.tc : Thread Cert.UpGradInIdeal.nD Cert.UpGradInIdeal.τ).loc Cert.UpGradInIdeal.main_arg1) = m ((c.tc : Thread Cert.UpGradInIdeal.nD Cert.UpGradInIdeal.τ).loc Cert.UpGradInIdeal.main_arg1)
      ∧ r.2.mem ((c.tc : Thread Cert.UpGradInIdeal.nD Cert.UpGradInIdeal.τ).loc Cert.UpGradInIdeal.main_arg2) = m ((c.tc : Thread Cert.UpGradInIdeal.nD Cert.UpGradInIdeal.τ).loc Cert.UpGradInIdeal.main_arg2))
      ∧ r.2.sem = fun _ => 0)

def quiescent_UpGradInRefIdeal [hUpGradInRefIdeal : Cert.UpGradInRefIdeal.Facts] : Prop :=
  ∀ (m : (ℓ : Loc Cert.UpGradInRefIdeal.nD Cert.UpGradInRefIdeal.τ Cert.UpGradInRefIdeal.sig) → Buf (Elt Ideal) ℓ) (g : Dev Cert.UpGradInRefIdeal.nD → PrngReg), Pre_UpGradInRefIdeal m →
    θ_run (Cert.UpGradInRefIdeal.defs (F := Ideal)) (onTc (τ := Cert.UpGradInRefIdeal.τ) (Cert.UpGradInRefIdeal.main (F := Ideal))) ⟨m, fun _ => 0, g⟩ (fun r => (∀ c : Dev Cert.UpGradInRefIdeal.nD,
      r.2.mem ((c.tc : Thread Cert.UpGradInRefIdeal.nD Cert.UpGradInRefIdeal.τ).loc Cert.UpGradInRefIdeal.main_arg0) = m ((c.tc : Thread Cert.UpGradInRefIdeal.nD Cert.UpGradInRefIdeal.τ).loc Cert.UpGradInRefIdeal.main_arg0)
      ∧ r.2.mem ((c.tc : Thread Cert.UpGradInRefIdeal.nD Cert.UpGradInRefIdeal.τ).loc Cert.UpGradInRefIdeal.main_arg1) = m ((c.tc : Thread Cert.UpGradInRefIdeal.nD Cert.UpGradInRefIdeal.τ).loc Cert.UpGradInRefIdeal.main_arg1)
      ∧ r.2.mem ((c.tc : Thread Cert.UpGradInRefIdeal.nD Cert.UpGradInRefIdeal.τ).loc Cert.UpGradInRefIdeal.main_arg2) = m ((c.tc : Thread Cert.UpGradInRefIdeal.nD Cert.UpGradInRefIdeal.τ).loc Cert.UpGradInRefIdeal.main_arg2))
      ∧ r.2.sem = fun _ => 0)

def quiescent_UpGradW [hUpGradW : Cert.UpGradW.Facts] : Prop :=
  ∀ (m : (ℓ : Loc Cert.UpGradW.nD Cert.UpGradW.τ Cert.UpGradW.sig) → Buf (Elt Bits) ℓ) (g : Dev Cert.UpGradW.nD → PrngReg), Pre_UpGradW m →
    θ_run (Cert.UpGradW.defs (F := Bits)) (onTc (τ := Cert.UpGradW.τ) (Cert.UpGradW.main (F := Bits))) ⟨m, fun _ => 0, g⟩ (fun r => (∀ c : Dev Cert.UpGradW.nD,
      r.2.mem ((c.tc : Thread Cert.UpGradW.nD Cert.UpGradW.τ).loc Cert.UpGradW.main_arg0) = m ((c.tc : Thread Cert.UpGradW.nD Cert.UpGradW.τ).loc Cert.UpGradW.main_arg0)
      ∧ r.2.mem ((c.tc : Thread Cert.UpGradW.nD Cert.UpGradW.τ).loc Cert.UpGradW.main_arg1) = m ((c.tc : Thread Cert.UpGradW.nD Cert.UpGradW.τ).loc Cert.UpGradW.main_arg1)
      ∧ r.2.mem ((c.tc : Thread Cert.UpGradW.nD Cert.UpGradW.τ).loc Cert.UpGradW.main_arg2) = m ((c.tc : Thread Cert.UpGradW.nD Cert.UpGradW.τ).loc Cert.UpGradW.main_arg2))
      ∧ r.2.sem = fun _ => 0)

def quiescent_UpGradWIdeal [hUpGradWIdeal : Cert.UpGradWIdeal.Facts] : Prop :=
  ∀ (m : (ℓ : Loc Cert.UpGradWIdeal.nD Cert.UpGradWIdeal.τ Cert.UpGradWIdeal.sig) → Buf (Elt Ideal) ℓ) (g : Dev Cert.UpGradWIdeal.nD → PrngReg), Pre_UpGradWIdeal m →
    θ_run (Cert.UpGradWIdeal.defs (F := Ideal)) (onTc (τ := Cert.UpGradWIdeal.τ) (Cert.UpGradWIdeal.main (F := Ideal))) ⟨m, fun _ => 0, g⟩ (fun r => (∀ c : Dev Cert.UpGradWIdeal.nD,
      r.2.mem ((c.tc : Thread Cert.UpGradWIdeal.nD Cert.UpGradWIdeal.τ).loc Cert.UpGradWIdeal.main_arg0) = m ((c.tc : Thread Cert.UpGradWIdeal.nD Cert.UpGradWIdeal.τ).loc Cert.UpGradWIdeal.main_arg0)
      ∧ r.2.mem ((c.tc : Thread Cert.UpGradWIdeal.nD Cert.UpGradWIdeal.τ).loc Cert.UpGradWIdeal.main_arg1) = m ((c.tc : Thread Cert.UpGradWIdeal.nD Cert.UpGradWIdeal.τ).loc Cert.UpGradWIdeal.main_arg1)
      ∧ r.2.mem ((c.tc : Thread Cert.UpGradWIdeal.nD Cert.UpGradWIdeal.τ).loc Cert.UpGradWIdeal.main_arg2) = m ((c.tc : Thread Cert.UpGradWIdeal.nD Cert.UpGradWIdeal.τ).loc Cert.UpGradWIdeal.main_arg2))
      ∧ r.2.sem = fun _ => 0)

def quiescent_UpGradWRefIdeal [hUpGradWRefIdeal : Cert.UpGradWRefIdeal.Facts] : Prop :=
  ∀ (m : (ℓ : Loc Cert.UpGradWRefIdeal.nD Cert.UpGradWRefIdeal.τ Cert.UpGradWRefIdeal.sig) → Buf (Elt Ideal) ℓ) (g : Dev Cert.UpGradWRefIdeal.nD → PrngReg), Pre_UpGradWRefIdeal m →
    θ_run (Cert.UpGradWRefIdeal.defs (F := Ideal)) (onTc (τ := Cert.UpGradWRefIdeal.τ) (Cert.UpGradWRefIdeal.main (F := Ideal))) ⟨m, fun _ => 0, g⟩ (fun r => (∀ c : Dev Cert.UpGradWRefIdeal.nD,
      r.2.mem ((c.tc : Thread Cert.UpGradWRefIdeal.nD Cert.UpGradWRefIdeal.τ).loc Cert.UpGradWRefIdeal.main_arg0) = m ((c.tc : Thread Cert.UpGradWRefIdeal.nD Cert.UpGradWRefIdeal.τ).loc Cert.UpGradWRefIdeal.main_arg0)
      ∧ r.2.mem ((c.tc : Thread Cert.UpGradWRefIdeal.nD Cert.UpGradWRefIdeal.τ).loc Cert.UpGradWRefIdeal.main_arg1) = m ((c.tc : Thread Cert.UpGradWRefIdeal.nD Cert.UpGradWRefIdeal.τ).loc Cert.UpGradWRefIdeal.main_arg1)
      ∧ r.2.mem ((c.tc : Thread Cert.UpGradWRefIdeal.nD Cert.UpGradWRefIdeal.τ).loc Cert.UpGradWRefIdeal.main_arg2) = m ((c.tc : Thread Cert.UpGradWRefIdeal.nD Cert.UpGradWRefIdeal.τ).loc Cert.UpGradWRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownGradIn [hDownGradIn : Cert.DownGradIn.Facts] : Prop :=
  ∀ (m : (ℓ : Loc Cert.DownGradIn.nD Cert.DownGradIn.τ Cert.DownGradIn.sig) → Buf (Elt Bits) ℓ) (g : Dev Cert.DownGradIn.nD → PrngReg), Pre_DownGradIn m →
    θ_run (Cert.DownGradIn.defs (F := Bits)) (onTc (τ := Cert.DownGradIn.τ) (Cert.DownGradIn.main (F := Bits))) ⟨m, fun _ => 0, g⟩ (fun r => (∀ c : Dev Cert.DownGradIn.nD,
      r.2.mem ((c.tc : Thread Cert.DownGradIn.nD Cert.DownGradIn.τ).loc Cert.DownGradIn.main_arg0) = m ((c.tc : Thread Cert.DownGradIn.nD Cert.DownGradIn.τ).loc Cert.DownGradIn.main_arg0)
      ∧ r.2.mem ((c.tc : Thread Cert.DownGradIn.nD Cert.DownGradIn.τ).loc Cert.DownGradIn.main_arg1) = m ((c.tc : Thread Cert.DownGradIn.nD Cert.DownGradIn.τ).loc Cert.DownGradIn.main_arg1))
      ∧ r.2.sem = fun _ => 0)

def quiescent_DownGradInIdeal [hDownGradInIdeal : Cert.DownGradInIdeal.Facts] : Prop :=
  ∀ (m : (ℓ : Loc Cert.DownGradInIdeal.nD Cert.DownGradInIdeal.τ Cert.DownGradInIdeal.sig) → Buf (Elt Ideal) ℓ) (g : Dev Cert.DownGradInIdeal.nD → PrngReg), Pre_DownGradInIdeal m →
    θ_run (Cert.DownGradInIdeal.defs (F := Ideal)) (onTc (τ := Cert.DownGradInIdeal.τ) (Cert.DownGradInIdeal.main (F := Ideal))) ⟨m, fun _ => 0, g⟩ (fun r => (∀ c : Dev Cert.DownGradInIdeal.nD,
      r.2.mem ((c.tc : Thread Cert.DownGradInIdeal.nD Cert.DownGradInIdeal.τ).loc Cert.DownGradInIdeal.main_arg0) = m ((c.tc : Thread Cert.DownGradInIdeal.nD Cert.DownGradInIdeal.τ).loc Cert.DownGradInIdeal.main_arg0)
      ∧ r.2.mem ((c.tc : Thread Cert.DownGradInIdeal.nD Cert.DownGradInIdeal.τ).loc Cert.DownGradInIdeal.main_arg1) = m ((c.tc : Thread Cert.DownGradInIdeal.nD Cert.DownGradInIdeal.τ).loc Cert.DownGradInIdeal.main_arg1))
      ∧ r.2.sem = fun _ => 0)

def quiescent_DownGradInRefIdeal [hDownGradInRefIdeal : Cert.DownGradInRefIdeal.Facts] : Prop :=
  ∀ (m : (ℓ : Loc Cert.DownGradInRefIdeal.nD Cert.DownGradInRefIdeal.τ Cert.DownGradInRefIdeal.sig) → Buf (Elt Ideal) ℓ) (g : Dev Cert.DownGradInRefIdeal.nD → PrngReg), Pre_DownGradInRefIdeal m →
    θ_run (Cert.DownGradInRefIdeal.defs (F := Ideal)) (onTc (τ := Cert.DownGradInRefIdeal.τ) (Cert.DownGradInRefIdeal.main (F := Ideal))) ⟨m, fun _ => 0, g⟩ (fun r => (∀ c : Dev Cert.DownGradInRefIdeal.nD,
      r.2.mem ((c.tc : Thread Cert.DownGradInRefIdeal.nD Cert.DownGradInRefIdeal.τ).loc Cert.DownGradInRefIdeal.main_arg0) = m ((c.tc : Thread Cert.DownGradInRefIdeal.nD Cert.DownGradInRefIdeal.τ).loc Cert.DownGradInRefIdeal.main_arg0)
      ∧ r.2.mem ((c.tc : Thread Cert.DownGradInRefIdeal.nD Cert.DownGradInRefIdeal.τ).loc Cert.DownGradInRefIdeal.main_arg1) = m ((c.tc : Thread Cert.DownGradInRefIdeal.nD Cert.DownGradInRefIdeal.τ).loc Cert.DownGradInRefIdeal.main_arg1))
      ∧ r.2.sem = fun _ => 0)

def quiescent_DownGradW [hDownGradW : Cert.DownGradW.Facts] : Prop :=
  ∀ (m : (ℓ : Loc Cert.DownGradW.nD Cert.DownGradW.τ Cert.DownGradW.sig) → Buf (Elt Bits) ℓ) (g : Dev Cert.DownGradW.nD → PrngReg), Pre_DownGradW m →
    θ_run (Cert.DownGradW.defs (F := Bits)) (onTc (τ := Cert.DownGradW.τ) (Cert.DownGradW.main (F := Bits))) ⟨m, fun _ => 0, g⟩ (fun r => (∀ c : Dev Cert.DownGradW.nD,
      r.2.mem ((c.tc : Thread Cert.DownGradW.nD Cert.DownGradW.τ).loc Cert.DownGradW.main_arg0) = m ((c.tc : Thread Cert.DownGradW.nD Cert.DownGradW.τ).loc Cert.DownGradW.main_arg0)
      ∧ r.2.mem ((c.tc : Thread Cert.DownGradW.nD Cert.DownGradW.τ).loc Cert.DownGradW.main_arg1) = m ((c.tc : Thread Cert.DownGradW.nD Cert.DownGradW.τ).loc Cert.DownGradW.main_arg1))
      ∧ r.2.sem = fun _ => 0)

def quiescent_DownGradWIdeal [hDownGradWIdeal : Cert.DownGradWIdeal.Facts] : Prop :=
  ∀ (m : (ℓ : Loc Cert.DownGradWIdeal.nD Cert.DownGradWIdeal.τ Cert.DownGradWIdeal.sig) → Buf (Elt Ideal) ℓ) (g : Dev Cert.DownGradWIdeal.nD → PrngReg), Pre_DownGradWIdeal m →
    θ_run (Cert.DownGradWIdeal.defs (F := Ideal)) (onTc (τ := Cert.DownGradWIdeal.τ) (Cert.DownGradWIdeal.main (F := Ideal))) ⟨m, fun _ => 0, g⟩ (fun r => (∀ c : Dev Cert.DownGradWIdeal.nD,
      r.2.mem ((c.tc : Thread Cert.DownGradWIdeal.nD Cert.DownGradWIdeal.τ).loc Cert.DownGradWIdeal.main_arg0) = m ((c.tc : Thread Cert.DownGradWIdeal.nD Cert.DownGradWIdeal.τ).loc Cert.DownGradWIdeal.main_arg0)
      ∧ r.2.mem ((c.tc : Thread Cert.DownGradWIdeal.nD Cert.DownGradWIdeal.τ).loc Cert.DownGradWIdeal.main_arg1) = m ((c.tc : Thread Cert.DownGradWIdeal.nD Cert.DownGradWIdeal.τ).loc Cert.DownGradWIdeal.main_arg1))
      ∧ r.2.sem = fun _ => 0)

def quiescent_DownGradWRefIdeal [hDownGradWRefIdeal : Cert.DownGradWRefIdeal.Facts] : Prop :=
  ∀ (m : (ℓ : Loc Cert.DownGradWRefIdeal.nD Cert.DownGradWRefIdeal.τ Cert.DownGradWRefIdeal.sig) → Buf (Elt Ideal) ℓ) (g : Dev Cert.DownGradWRefIdeal.nD → PrngReg), Pre_DownGradWRefIdeal m →
    θ_run (Cert.DownGradWRefIdeal.defs (F := Ideal)) (onTc (τ := Cert.DownGradWRefIdeal.τ) (Cert.DownGradWRefIdeal.main (F := Ideal))) ⟨m, fun _ => 0, g⟩ (fun r => (∀ c : Dev Cert.DownGradWRefIdeal.nD,
      r.2.mem ((c.tc : Thread Cert.DownGradWRefIdeal.nD Cert.DownGradWRefIdeal.τ).loc Cert.DownGradWRefIdeal.main_arg0) = m ((c.tc : Thread Cert.DownGradWRefIdeal.nD Cert.DownGradWRefIdeal.τ).loc Cert.DownGradWRefIdeal.main_arg0)
      ∧ r.2.mem ((c.tc : Thread Cert.DownGradWRefIdeal.nD Cert.DownGradWRefIdeal.τ).loc Cert.DownGradWRefIdeal.main_arg1) = m ((c.tc : Thread Cert.DownGradWRefIdeal.nD Cert.DownGradWRefIdeal.τ).loc Cert.DownGradWRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2))
      ∧ r.2.sem = fun _ => 0)

def quiescent_InGradW [hInGradW : Cert.InGradW.Facts] : Prop :=
  ∀ (m : (ℓ : Loc Cert.InGradW.nD Cert.InGradW.τ Cert.InGradW.sig) → Buf (Elt Bits) ℓ) (g : Dev Cert.InGradW.nD → PrngReg), Pre_InGradW m →
    θ_run (Cert.InGradW.defs (F := Bits)) (onTc (τ := Cert.InGradW.τ) (Cert.InGradW.main (F := Bits))) ⟨m, fun _ => 0, g⟩ (fun r => (∀ c : Dev Cert.InGradW.nD,
      r.2.mem ((c.tc : Thread Cert.InGradW.nD Cert.InGradW.τ).loc Cert.InGradW.main_arg0) = m ((c.tc : Thread Cert.InGradW.nD Cert.InGradW.τ).loc Cert.InGradW.main_arg0)
      ∧ r.2.mem ((c.tc : Thread Cert.InGradW.nD Cert.InGradW.τ).loc Cert.InGradW.main_arg1) = m ((c.tc : Thread Cert.InGradW.nD Cert.InGradW.τ).loc Cert.InGradW.main_arg1))
      ∧ r.2.sem = fun _ => 0)

def quiescent_InGradWIdeal [hInGradWIdeal : Cert.InGradWIdeal.Facts] : Prop :=
  ∀ (m : (ℓ : Loc Cert.InGradWIdeal.nD Cert.InGradWIdeal.τ Cert.InGradWIdeal.sig) → Buf (Elt Ideal) ℓ) (g : Dev Cert.InGradWIdeal.nD → PrngReg), Pre_InGradWIdeal m →
    θ_run (Cert.InGradWIdeal.defs (F := Ideal)) (onTc (τ := Cert.InGradWIdeal.τ) (Cert.InGradWIdeal.main (F := Ideal))) ⟨m, fun _ => 0, g⟩ (fun r => (∀ c : Dev Cert.InGradWIdeal.nD,
      r.2.mem ((c.tc : Thread Cert.InGradWIdeal.nD Cert.InGradWIdeal.τ).loc Cert.InGradWIdeal.main_arg0) = m ((c.tc : Thread Cert.InGradWIdeal.nD Cert.InGradWIdeal.τ).loc Cert.InGradWIdeal.main_arg0)
      ∧ r.2.mem ((c.tc : Thread Cert.InGradWIdeal.nD Cert.InGradWIdeal.τ).loc Cert.InGradWIdeal.main_arg1) = m ((c.tc : Thread Cert.InGradWIdeal.nD Cert.InGradWIdeal.τ).loc Cert.InGradWIdeal.main_arg1))
      ∧ r.2.sem = fun _ => 0)

def quiescent_InGradWRefIdeal [hInGradWRefIdeal : Cert.InGradWRefIdeal.Facts] : Prop :=
  ∀ (m : (ℓ : Loc Cert.InGradWRefIdeal.nD Cert.InGradWRefIdeal.τ Cert.InGradWRefIdeal.sig) → Buf (Elt Ideal) ℓ) (g : Dev Cert.InGradWRefIdeal.nD → PrngReg), Pre_InGradWRefIdeal m →
    θ_run (Cert.InGradWRefIdeal.defs (F := Ideal)) (onTc (τ := Cert.InGradWRefIdeal.τ) (Cert.InGradWRefIdeal.main (F := Ideal))) ⟨m, fun _ => 0, g⟩ (fun r => (∀ c : Dev Cert.InGradWRefIdeal.nD,
      r.2.mem ((c.tc : Thread Cert.InGradWRefIdeal.nD Cert.InGradWRefIdeal.τ).loc Cert.InGradWRefIdeal.main_arg0) = m ((c.tc : Thread Cert.InGradWRefIdeal.nD Cert.InGradWRefIdeal.τ).loc Cert.InGradWRefIdeal.main_arg0)
      ∧ r.2.mem ((c.tc : Thread Cert.InGradWRefIdeal.nD Cert.InGradWRefIdeal.τ).loc Cert.InGradWRefIdeal.main_arg1) = m ((c.tc : Thread Cert.InGradWRefIdeal.nD Cert.InGradWRefIdeal.τ).loc Cert.InGradWRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_MixGradIn [hMixGradIn : Cert.MixGradIn.Facts] : Prop :=
  ∀ (m : (ℓ : Loc Cert.MixGradIn.nD Cert.MixGradIn.τ Cert.MixGradIn.sig) → Buf (Elt Bits) ℓ) (g : Dev Cert.MixGradIn.nD → PrngReg), Pre_MixGradIn m →
    θ_run (Cert.MixGradIn.defs (F := Bits)) (onTc (τ := Cert.MixGradIn.τ) (Cert.MixGradIn.main (F := Bits))) ⟨m, fun _ => 0, g⟩ (fun r => (∀ c : Dev Cert.MixGradIn.nD,
      r.2.mem ((c.tc : Thread Cert.MixGradIn.nD Cert.MixGradIn.τ).loc Cert.MixGradIn.main_arg0) = m ((c.tc : Thread Cert.MixGradIn.nD Cert.MixGradIn.τ).loc Cert.MixGradIn.main_arg0)
      ∧ r.2.mem ((c.tc : Thread Cert.MixGradIn.nD Cert.MixGradIn.τ).loc Cert.MixGradIn.main_arg1) = m ((c.tc : Thread Cert.MixGradIn.nD Cert.MixGradIn.τ).loc Cert.MixGradIn.main_arg1))
      ∧ r.2.sem = fun _ => 0)

def quiescent_MixGradInIdeal [hMixGradInIdeal : Cert.MixGradInIdeal.Facts] : Prop :=
  ∀ (m : (ℓ : Loc Cert.MixGradInIdeal.nD Cert.MixGradInIdeal.τ Cert.MixGradInIdeal.sig) → Buf (Elt Ideal) ℓ) (g : Dev Cert.MixGradInIdeal.nD → PrngReg), Pre_MixGradInIdeal m →
    θ_run (Cert.MixGradInIdeal.defs (F := Ideal)) (onTc (τ := Cert.MixGradInIdeal.τ) (Cert.MixGradInIdeal.main (F := Ideal))) ⟨m, fun _ => 0, g⟩ (fun r => (∀ c : Dev Cert.MixGradInIdeal.nD,
      r.2.mem ((c.tc : Thread Cert.MixGradInIdeal.nD Cert.MixGradInIdeal.τ).loc Cert.MixGradInIdeal.main_arg0) = m ((c.tc : Thread Cert.MixGradInIdeal.nD Cert.MixGradInIdeal.τ).loc Cert.MixGradInIdeal.main_arg0)
      ∧ r.2.mem ((c.tc : Thread Cert.MixGradInIdeal.nD Cert.MixGradInIdeal.τ).loc Cert.MixGradInIdeal.main_arg1) = m ((c.tc : Thread Cert.MixGradInIdeal.nD Cert.MixGradInIdeal.τ).loc Cert.MixGradInIdeal.main_arg1))
      ∧ r.2.sem = fun _ => 0)

def quiescent_MixGradInRefIdeal [hMixGradInRefIdeal : Cert.MixGradInRefIdeal.Facts] : Prop :=
  ∀ (m : (ℓ : Loc Cert.MixGradInRefIdeal.nD Cert.MixGradInRefIdeal.τ Cert.MixGradInRefIdeal.sig) → Buf (Elt Ideal) ℓ) (g : Dev Cert.MixGradInRefIdeal.nD → PrngReg), Pre_MixGradInRefIdeal m →
    θ_run (Cert.MixGradInRefIdeal.defs (F := Ideal)) (onTc (τ := Cert.MixGradInRefIdeal.τ) (Cert.MixGradInRefIdeal.main (F := Ideal))) ⟨m, fun _ => 0, g⟩ (fun r => (∀ c : Dev Cert.MixGradInRefIdeal.nD,
      r.2.mem ((c.tc : Thread Cert.MixGradInRefIdeal.nD Cert.MixGradInRefIdeal.τ).loc Cert.MixGradInRefIdeal.main_arg0) = m ((c.tc : Thread Cert.MixGradInRefIdeal.nD Cert.MixGradInRefIdeal.τ).loc Cert.MixGradInRefIdeal.main_arg0)
      ∧ r.2.mem ((c.tc : Thread Cert.MixGradInRefIdeal.nD Cert.MixGradInRefIdeal.τ).loc Cert.MixGradInRefIdeal.main_arg1) = m ((c.tc : Thread Cert.MixGradInRefIdeal.nD Cert.MixGradInRefIdeal.τ).loc Cert.MixGradInRefIdeal.main_arg1))
      ∧ r.2.sem = fun _ => 0)

def quiescent_MixGradW [hMixGradW : Cert.MixGradW.Facts] : Prop :=
  ∀ (m : (ℓ : Loc Cert.MixGradW.nD Cert.MixGradW.τ Cert.MixGradW.sig) → Buf (Elt Bits) ℓ) (g : Dev Cert.MixGradW.nD → PrngReg), Pre_MixGradW m →
    θ_run (Cert.MixGradW.defs (F := Bits)) (onTc (τ := Cert.MixGradW.τ) (Cert.MixGradW.main (F := Bits))) ⟨m, fun _ => 0, g⟩ (fun r => (∀ c : Dev Cert.MixGradW.nD,
      r.2.mem ((c.tc : Thread Cert.MixGradW.nD Cert.MixGradW.τ).loc Cert.MixGradW.main_arg0) = m ((c.tc : Thread Cert.MixGradW.nD Cert.MixGradW.τ).loc Cert.MixGradW.main_arg0)
      ∧ r.2.mem ((c.tc : Thread Cert.MixGradW.nD Cert.MixGradW.τ).loc Cert.MixGradW.main_arg1) = m ((c.tc : Thread Cert.MixGradW.nD Cert.MixGradW.τ).loc Cert.MixGradW.main_arg1))
      ∧ r.2.sem = fun _ => 0)

def quiescent_MixGradWIdeal [hMixGradWIdeal : Cert.MixGradWIdeal.Facts] : Prop :=
  ∀ (m : (ℓ : Loc Cert.MixGradWIdeal.nD Cert.MixGradWIdeal.τ Cert.MixGradWIdeal.sig) → Buf (Elt Ideal) ℓ) (g : Dev Cert.MixGradWIdeal.nD → PrngReg), Pre_MixGradWIdeal m →
    θ_run (Cert.MixGradWIdeal.defs (F := Ideal)) (onTc (τ := Cert.MixGradWIdeal.τ) (Cert.MixGradWIdeal.main (F := Ideal))) ⟨m, fun _ => 0, g⟩ (fun r => (∀ c : Dev Cert.MixGradWIdeal.nD,
      r.2.mem ((c.tc : Thread Cert.MixGradWIdeal.nD Cert.MixGradWIdeal.τ).loc Cert.MixGradWIdeal.main_arg0) = m ((c.tc : Thread Cert.MixGradWIdeal.nD Cert.MixGradWIdeal.τ).loc Cert.MixGradWIdeal.main_arg0)
      ∧ r.2.mem ((c.tc : Thread Cert.MixGradWIdeal.nD Cert.MixGradWIdeal.τ).loc Cert.MixGradWIdeal.main_arg1) = m ((c.tc : Thread Cert.MixGradWIdeal.nD Cert.MixGradWIdeal.τ).loc Cert.MixGradWIdeal.main_arg1))
      ∧ r.2.sem = fun _ => 0)

def quiescent_MixGradWRefIdeal [hMixGradWRefIdeal : Cert.MixGradWRefIdeal.Facts] : Prop :=
  ∀ (m : (ℓ : Loc Cert.MixGradWRefIdeal.nD Cert.MixGradWRefIdeal.τ Cert.MixGradWRefIdeal.sig) → Buf (Elt Ideal) ℓ) (g : Dev Cert.MixGradWRefIdeal.nD → PrngReg), Pre_MixGradWRefIdeal m →
    θ_run (Cert.MixGradWRefIdeal.defs (F := Ideal)) (onTc (τ := Cert.MixGradWRefIdeal.τ) (Cert.MixGradWRefIdeal.main (F := Ideal))) ⟨m, fun _ => 0, g⟩ (fun r => (∀ c : Dev Cert.MixGradWRefIdeal.nD,
      r.2.mem ((c.tc : Thread Cert.MixGradWRefIdeal.nD Cert.MixGradWRefIdeal.τ).loc Cert.MixGradWRefIdeal.main_arg0) = m ((c.tc : Thread Cert.MixGradWRefIdeal.nD Cert.MixGradWRefIdeal.τ).loc Cert.MixGradWRefIdeal.main_arg0)
      ∧ r.2.mem ((c.tc : Thread Cert.MixGradWRefIdeal.nD Cert.MixGradWRefIdeal.τ).loc Cert.MixGradWRefIdeal.main_arg1) = m ((c.tc : Thread Cert.MixGradWRefIdeal.nD Cert.MixGradWRefIdeal.τ).loc Cert.MixGradWRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_ConvGradIn [hConvGradIn : Cert.ConvGradIn.Facts] : Prop :=
  ∀ (m : (ℓ : Loc Cert.ConvGradIn.nD Cert.ConvGradIn.τ Cert.ConvGradIn.sig) → Buf (Elt Bits) ℓ) (g : Dev Cert.ConvGradIn.nD → PrngReg), Pre_ConvGradIn m →
    θ_run (Cert.ConvGradIn.defs (F := Bits)) (onTc (τ := Cert.ConvGradIn.τ) (Cert.ConvGradIn.main (F := Bits))) ⟨m, fun _ => 0, g⟩ (fun r => (∀ c : Dev Cert.ConvGradIn.nD,
      r.2.mem ((c.tc : Thread Cert.ConvGradIn.nD Cert.ConvGradIn.τ).loc Cert.ConvGradIn.main_arg0) = m ((c.tc : Thread Cert.ConvGradIn.nD Cert.ConvGradIn.τ).loc Cert.ConvGradIn.main_arg0)
      ∧ r.2.mem ((c.tc : Thread Cert.ConvGradIn.nD Cert.ConvGradIn.τ).loc Cert.ConvGradIn.main_arg1) = m ((c.tc : Thread Cert.ConvGradIn.nD Cert.ConvGradIn.τ).loc Cert.ConvGradIn.main_arg1))
      ∧ r.2.sem = fun _ => 0)

def quiescent_ConvGradInIdeal [hConvGradInIdeal : Cert.ConvGradInIdeal.Facts] : Prop :=
  ∀ (m : (ℓ : Loc Cert.ConvGradInIdeal.nD Cert.ConvGradInIdeal.τ Cert.ConvGradInIdeal.sig) → Buf (Elt Ideal) ℓ) (g : Dev Cert.ConvGradInIdeal.nD → PrngReg), Pre_ConvGradInIdeal m →
    θ_run (Cert.ConvGradInIdeal.defs (F := Ideal)) (onTc (τ := Cert.ConvGradInIdeal.τ) (Cert.ConvGradInIdeal.main (F := Ideal))) ⟨m, fun _ => 0, g⟩ (fun r => (∀ c : Dev Cert.ConvGradInIdeal.nD,
      r.2.mem ((c.tc : Thread Cert.ConvGradInIdeal.nD Cert.ConvGradInIdeal.τ).loc Cert.ConvGradInIdeal.main_arg0) = m ((c.tc : Thread Cert.ConvGradInIdeal.nD Cert.ConvGradInIdeal.τ).loc Cert.ConvGradInIdeal.main_arg0)
      ∧ r.2.mem ((c.tc : Thread Cert.ConvGradInIdeal.nD Cert.ConvGradInIdeal.τ).loc Cert.ConvGradInIdeal.main_arg1) = m ((c.tc : Thread Cert.ConvGradInIdeal.nD Cert.ConvGradInIdeal.τ).loc Cert.ConvGradInIdeal.main_arg1))
      ∧ r.2.sem = fun _ => 0)

def quiescent_ConvGradInRefIdeal [hConvGradInRefIdeal : Cert.ConvGradInRefIdeal.Facts] : Prop :=
  ∀ (m : (ℓ : Loc Cert.ConvGradInRefIdeal.nD Cert.ConvGradInRefIdeal.τ Cert.ConvGradInRefIdeal.sig) → Buf (Elt Ideal) ℓ) (g : Dev Cert.ConvGradInRefIdeal.nD → PrngReg), Pre_ConvGradInRefIdeal m →
    θ_run (Cert.ConvGradInRefIdeal.defs (F := Ideal)) (onTc (τ := Cert.ConvGradInRefIdeal.τ) (Cert.ConvGradInRefIdeal.main (F := Ideal))) ⟨m, fun _ => 0, g⟩ (fun r => (∀ c : Dev Cert.ConvGradInRefIdeal.nD,
      r.2.mem ((c.tc : Thread Cert.ConvGradInRefIdeal.nD Cert.ConvGradInRefIdeal.τ).loc Cert.ConvGradInRefIdeal.main_arg0) = m ((c.tc : Thread Cert.ConvGradInRefIdeal.nD Cert.ConvGradInRefIdeal.τ).loc Cert.ConvGradInRefIdeal.main_arg0)
      ∧ r.2.mem ((c.tc : Thread Cert.ConvGradInRefIdeal.nD Cert.ConvGradInRefIdeal.τ).loc Cert.ConvGradInRefIdeal.main_arg1) = m ((c.tc : Thread Cert.ConvGradInRefIdeal.nD Cert.ConvGradInRefIdeal.τ).loc Cert.ConvGradInRefIdeal.main_arg1))
      ∧ r.2.sem = fun _ => 0)

def quiescent_AttnGradIn [hAttnGradIn : Cert.AttnGradIn.Facts] : Prop :=
  ∀ (m : (ℓ : Loc Cert.AttnGradIn.nD Cert.AttnGradIn.τ Cert.AttnGradIn.sig) → Buf (Elt Bits) ℓ) (g : Dev Cert.AttnGradIn.nD → PrngReg), Pre_AttnGradIn m →
    θ_run (Cert.AttnGradIn.defs (F := Bits)) (onTc (τ := Cert.AttnGradIn.τ) (Cert.AttnGradIn.main (F := Bits))) ⟨m, fun _ => 0, g⟩ (fun r => (∀ c : Dev Cert.AttnGradIn.nD,
      r.2.mem ((c.tc : Thread Cert.AttnGradIn.nD Cert.AttnGradIn.τ).loc Cert.AttnGradIn.main_arg0) = m ((c.tc : Thread Cert.AttnGradIn.nD Cert.AttnGradIn.τ).loc Cert.AttnGradIn.main_arg0)
      ∧ r.2.mem ((c.tc : Thread Cert.AttnGradIn.nD Cert.AttnGradIn.τ).loc Cert.AttnGradIn.main_arg1) = m ((c.tc : Thread Cert.AttnGradIn.nD Cert.AttnGradIn.τ).loc Cert.AttnGradIn.main_arg1))
      ∧ r.2.sem = fun _ => 0)

def quiescent_AttnGradInIdeal [hAttnGradInIdeal : Cert.AttnGradInIdeal.Facts] : Prop :=
  ∀ (m : (ℓ : Loc Cert.AttnGradInIdeal.nD Cert.AttnGradInIdeal.τ Cert.AttnGradInIdeal.sig) → Buf (Elt Ideal) ℓ) (g : Dev Cert.AttnGradInIdeal.nD → PrngReg), Pre_AttnGradInIdeal m →
    θ_run (Cert.AttnGradInIdeal.defs (F := Ideal)) (onTc (τ := Cert.AttnGradInIdeal.τ) (Cert.AttnGradInIdeal.main (F := Ideal))) ⟨m, fun _ => 0, g⟩ (fun r => (∀ c : Dev Cert.AttnGradInIdeal.nD,
      r.2.mem ((c.tc : Thread Cert.AttnGradInIdeal.nD Cert.AttnGradInIdeal.τ).loc Cert.AttnGradInIdeal.main_arg0) = m ((c.tc : Thread Cert.AttnGradInIdeal.nD Cert.AttnGradInIdeal.τ).loc Cert.AttnGradInIdeal.main_arg0)
      ∧ r.2.mem ((c.tc : Thread Cert.AttnGradInIdeal.nD Cert.AttnGradInIdeal.τ).loc Cert.AttnGradInIdeal.main_arg1) = m ((c.tc : Thread Cert.AttnGradInIdeal.nD Cert.AttnGradInIdeal.τ).loc Cert.AttnGradInIdeal.main_arg1))
      ∧ r.2.sem = fun _ => 0)

def quiescent_AttnGradInRefIdeal [hAttnGradInRefIdeal : Cert.AttnGradInRefIdeal.Facts] : Prop :=
  ∀ (m : (ℓ : Loc Cert.AttnGradInRefIdeal.nD Cert.AttnGradInRefIdeal.τ Cert.AttnGradInRefIdeal.sig) → Buf (Elt Ideal) ℓ) (g : Dev Cert.AttnGradInRefIdeal.nD → PrngReg), Pre_AttnGradInRefIdeal m →
    θ_run (Cert.AttnGradInRefIdeal.defs (F := Ideal)) (onTc (τ := Cert.AttnGradInRefIdeal.τ) (Cert.AttnGradInRefIdeal.main (F := Ideal))) ⟨m, fun _ => 0, g⟩ (fun r => (∀ c : Dev Cert.AttnGradInRefIdeal.nD,
      r.2.mem ((c.tc : Thread Cert.AttnGradInRefIdeal.nD Cert.AttnGradInRefIdeal.τ).loc Cert.AttnGradInRefIdeal.main_arg0) = m ((c.tc : Thread Cert.AttnGradInRefIdeal.nD Cert.AttnGradInRefIdeal.τ).loc Cert.AttnGradInRefIdeal.main_arg0)
      ∧ r.2.mem ((c.tc : Thread Cert.AttnGradInRefIdeal.nD Cert.AttnGradInRefIdeal.τ).loc Cert.AttnGradInRefIdeal.main_arg1) = m ((c.tc : Thread Cert.AttnGradInRefIdeal.nD Cert.AttnGradInRefIdeal.τ).loc Cert.AttnGradInRefIdeal.main_arg1))
      ∧ r.2.sem = fun _ => 0)

def quiescent_BranchGradW [hBranchGradW : Cert.BranchGradW.Facts] : Prop :=
  ∀ (m : (ℓ : Loc Cert.BranchGradW.nD Cert.BranchGradW.τ Cert.BranchGradW.sig) → Buf (Elt Bits) ℓ) (g : Dev Cert.BranchGradW.nD → PrngReg), Pre_BranchGradW m →
    θ_run (Cert.BranchGradW.defs (F := Bits)) (onTc (τ := Cert.BranchGradW.τ) (Cert.BranchGradW.main (F := Bits))) ⟨m, fun _ => 0, g⟩ (fun r => (∀ c : Dev Cert.BranchGradW.nD,
      r.2.mem ((c.tc : Thread Cert.BranchGradW.nD Cert.BranchGradW.τ).loc Cert.BranchGradW.main_arg0) = m ((c.tc : Thread Cert.BranchGradW.nD Cert.BranchGradW.τ).loc Cert.BranchGradW.main_arg0)
      ∧ r.2.mem ((c.tc : Thread Cert.BranchGradW.nD Cert.BranchGradW.τ).loc Cert.BranchGradW.main_arg1) = m ((c.tc : Thread Cert.BranchGradW.nD Cert.BranchGradW.τ).loc Cert.BranchGradW.main_arg1))
      ∧ r.2.sem = fun _ => 0)

def quiescent_BranchGradWIdeal [hBranchGradWIdeal : Cert.BranchGradWIdeal.Facts] : Prop :=
  ∀ (m : (ℓ : Loc Cert.BranchGradWIdeal.nD Cert.BranchGradWIdeal.τ Cert.BranchGradWIdeal.sig) → Buf (Elt Ideal) ℓ) (g : Dev Cert.BranchGradWIdeal.nD → PrngReg), Pre_BranchGradWIdeal m →
    θ_run (Cert.BranchGradWIdeal.defs (F := Ideal)) (onTc (τ := Cert.BranchGradWIdeal.τ) (Cert.BranchGradWIdeal.main (F := Ideal))) ⟨m, fun _ => 0, g⟩ (fun r => (∀ c : Dev Cert.BranchGradWIdeal.nD,
      r.2.mem ((c.tc : Thread Cert.BranchGradWIdeal.nD Cert.BranchGradWIdeal.τ).loc Cert.BranchGradWIdeal.main_arg0) = m ((c.tc : Thread Cert.BranchGradWIdeal.nD Cert.BranchGradWIdeal.τ).loc Cert.BranchGradWIdeal.main_arg0)
      ∧ r.2.mem ((c.tc : Thread Cert.BranchGradWIdeal.nD Cert.BranchGradWIdeal.τ).loc Cert.BranchGradWIdeal.main_arg1) = m ((c.tc : Thread Cert.BranchGradWIdeal.nD Cert.BranchGradWIdeal.τ).loc Cert.BranchGradWIdeal.main_arg1))
      ∧ r.2.sem = fun _ => 0)

def quiescent_BranchGradWRefIdeal [hBranchGradWRefIdeal : Cert.BranchGradWRefIdeal.Facts] : Prop :=
  ∀ (m : (ℓ : Loc Cert.BranchGradWRefIdeal.nD Cert.BranchGradWRefIdeal.τ Cert.BranchGradWRefIdeal.sig) → Buf (Elt Ideal) ℓ) (g : Dev Cert.BranchGradWRefIdeal.nD → PrngReg), Pre_BranchGradWRefIdeal m →
    θ_run (Cert.BranchGradWRefIdeal.defs (F := Ideal)) (onTc (τ := Cert.BranchGradWRefIdeal.τ) (Cert.BranchGradWRefIdeal.main (F := Ideal))) ⟨m, fun _ => 0, g⟩ (fun r => (∀ c : Dev Cert.BranchGradWRefIdeal.nD,
      r.2.mem ((c.tc : Thread Cert.BranchGradWRefIdeal.nD Cert.BranchGradWRefIdeal.τ).loc Cert.BranchGradWRefIdeal.main_arg0) = m ((c.tc : Thread Cert.BranchGradWRefIdeal.nD Cert.BranchGradWRefIdeal.τ).loc Cert.BranchGradWRefIdeal.main_arg0)
      ∧ r.2.mem ((c.tc : Thread Cert.BranchGradWRefIdeal.nD Cert.BranchGradWRefIdeal.τ).loc Cert.BranchGradWRefIdeal.main_arg1) = m ((c.tc : Thread Cert.BranchGradWRefIdeal.nD Cert.BranchGradWRefIdeal.τ).loc Cert.BranchGradWRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1)
      ∧ r.2.mem ((c.tc : Thread Cert.GateProj.nD Cert.GateProj.τ).loc Cert.GateProj.main_arg2) = m ((c.tc : Thread Cert.GateProj.nD Cert.GateProj.τ).loc Cert.GateProj.main_arg2))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
      ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1)
      ∧ r.2.mem ((c.tc : Thread Cert.GateProjRefIdeal.nD Cert.GateProjRefIdeal.τ).loc Cert.GateProjRefIdeal.main_arg2) = m ((c.tc : Thread Cert.GateProjRefIdeal.nD Cert.GateProjRefIdeal.τ).loc Cert.GateProjRefIdeal.main_arg2))
      ∧ r.2.sem = fun _ => 0)

def quiescent_GateGradIn [hGateGradIn : Cert.GateGradIn.Facts] : Prop :=
  ∀ (m : (ℓ : Loc Cert.GateGradIn.nD Cert.GateGradIn.τ Cert.GateGradIn.sig) → Buf (Elt Bits) ℓ) (g : Dev Cert.GateGradIn.nD → PrngReg), Pre_GateGradIn m →
    θ_run (Cert.GateGradIn.defs (F := Bits)) (onTc (τ := Cert.GateGradIn.τ) (Cert.GateGradIn.main (F := Bits))) ⟨m, fun _ => 0, g⟩ (fun r => (∀ c : Dev Cert.GateGradIn.nD,
      r.2.mem ((c.tc : Thread Cert.GateGradIn.nD Cert.GateGradIn.τ).loc Cert.GateGradIn.main_arg0) = m ((c.tc : Thread Cert.GateGradIn.nD Cert.GateGradIn.τ).loc Cert.GateGradIn.main_arg0)
      ∧ r.2.mem ((c.tc : Thread Cert.GateGradIn.nD Cert.GateGradIn.τ).loc Cert.GateGradIn.main_arg1) = m ((c.tc : Thread Cert.GateGradIn.nD Cert.GateGradIn.τ).loc Cert.GateGradIn.main_arg1))
      ∧ r.2.sem = fun _ => 0)

def quiescent_GateGradInIdeal [hGateGradInIdeal : Cert.GateGradInIdeal.Facts] : Prop :=
  ∀ (m : (ℓ : Loc Cert.GateGradInIdeal.nD Cert.GateGradInIdeal.τ Cert.GateGradInIdeal.sig) → Buf (Elt Ideal) ℓ) (g : Dev Cert.GateGradInIdeal.nD → PrngReg), Pre_GateGradInIdeal m →
    θ_run (Cert.GateGradInIdeal.defs (F := Ideal)) (onTc (τ := Cert.GateGradInIdeal.τ) (Cert.GateGradInIdeal.main (F := Ideal))) ⟨m, fun _ => 0, g⟩ (fun r => (∀ c : Dev Cert.GateGradInIdeal.nD,
      r.2.mem ((c.tc : Thread Cert.GateGradInIdeal.nD Cert.GateGradInIdeal.τ).loc Cert.GateGradInIdeal.main_arg0) = m ((c.tc : Thread Cert.GateGradInIdeal.nD Cert.GateGradInIdeal.τ).loc Cert.GateGradInIdeal.main_arg0)
      ∧ r.2.mem ((c.tc : Thread Cert.GateGradInIdeal.nD Cert.GateGradInIdeal.τ).loc Cert.GateGradInIdeal.main_arg1) = m ((c.tc : Thread Cert.GateGradInIdeal.nD Cert.GateGradInIdeal.τ).loc Cert.GateGradInIdeal.main_arg1))
      ∧ r.2.sem = fun _ => 0)

def quiescent_GateGradInRefIdeal [hGateGradInRefIdeal : Cert.GateGradInRefIdeal.Facts] : Prop :=
  ∀ (m : (ℓ : Loc Cert.GateGradInRefIdeal.nD Cert.GateGradInRefIdeal.τ Cert.GateGradInRefIdeal.sig) → Buf (Elt Ideal) ℓ) (g : Dev Cert.GateGradInRefIdeal.nD → PrngReg), Pre_GateGradInRefIdeal m →
    θ_run (Cert.GateGradInRefIdeal.defs (F := Ideal)) (onTc (τ := Cert.GateGradInRefIdeal.τ) (Cert.GateGradInRefIdeal.main (F := Ideal))) ⟨m, fun _ => 0, g⟩ (fun r => (∀ c : Dev Cert.GateGradInRefIdeal.nD,
      r.2.mem ((c.tc : Thread Cert.GateGradInRefIdeal.nD Cert.GateGradInRefIdeal.τ).loc Cert.GateGradInRefIdeal.main_arg0) = m ((c.tc : Thread Cert.GateGradInRefIdeal.nD Cert.GateGradInRefIdeal.τ).loc Cert.GateGradInRefIdeal.main_arg0)
      ∧ r.2.mem ((c.tc : Thread Cert.GateGradInRefIdeal.nD Cert.GateGradInRefIdeal.τ).loc Cert.GateGradInRefIdeal.main_arg1) = m ((c.tc : Thread Cert.GateGradInRefIdeal.nD Cert.GateGradInRefIdeal.τ).loc Cert.GateGradInRefIdeal.main_arg1))
      ∧ r.2.sem = fun _ => 0)

def quiescent_GateGradW [hGateGradW : Cert.GateGradW.Facts] : Prop :=
  ∀ (m : (ℓ : Loc Cert.GateGradW.nD Cert.GateGradW.τ Cert.GateGradW.sig) → Buf (Elt Bits) ℓ) (g : Dev Cert.GateGradW.nD → PrngReg), Pre_GateGradW m →
    θ_run (Cert.GateGradW.defs (F := Bits)) (onTc (τ := Cert.GateGradW.τ) (Cert.GateGradW.main (F := Bits))) ⟨m, fun _ => 0, g⟩ (fun r => (∀ c : Dev Cert.GateGradW.nD,
      r.2.mem ((c.tc : Thread Cert.GateGradW.nD Cert.GateGradW.τ).loc Cert.GateGradW.main_arg0) = m ((c.tc : Thread Cert.GateGradW.nD Cert.GateGradW.τ).loc Cert.GateGradW.main_arg0)
      ∧ r.2.mem ((c.tc : Thread Cert.GateGradW.nD Cert.GateGradW.τ).loc Cert.GateGradW.main_arg1) = m ((c.tc : Thread Cert.GateGradW.nD Cert.GateGradW.τ).loc Cert.GateGradW.main_arg1))
      ∧ r.2.sem = fun _ => 0)

def quiescent_GateGradWIdeal [hGateGradWIdeal : Cert.GateGradWIdeal.Facts] : Prop :=
  ∀ (m : (ℓ : Loc Cert.GateGradWIdeal.nD Cert.GateGradWIdeal.τ Cert.GateGradWIdeal.sig) → Buf (Elt Ideal) ℓ) (g : Dev Cert.GateGradWIdeal.nD → PrngReg), Pre_GateGradWIdeal m →
    θ_run (Cert.GateGradWIdeal.defs (F := Ideal)) (onTc (τ := Cert.GateGradWIdeal.τ) (Cert.GateGradWIdeal.main (F := Ideal))) ⟨m, fun _ => 0, g⟩ (fun r => (∀ c : Dev Cert.GateGradWIdeal.nD,
      r.2.mem ((c.tc : Thread Cert.GateGradWIdeal.nD Cert.GateGradWIdeal.τ).loc Cert.GateGradWIdeal.main_arg0) = m ((c.tc : Thread Cert.GateGradWIdeal.nD Cert.GateGradWIdeal.τ).loc Cert.GateGradWIdeal.main_arg0)
      ∧ r.2.mem ((c.tc : Thread Cert.GateGradWIdeal.nD Cert.GateGradWIdeal.τ).loc Cert.GateGradWIdeal.main_arg1) = m ((c.tc : Thread Cert.GateGradWIdeal.nD Cert.GateGradWIdeal.τ).loc Cert.GateGradWIdeal.main_arg1))
      ∧ r.2.sem = fun _ => 0)

def quiescent_GateGradWRefIdeal [hGateGradWRefIdeal : Cert.GateGradWRefIdeal.Facts] : Prop :=
  ∀ (m : (ℓ : Loc Cert.GateGradWRefIdeal.nD Cert.GateGradWRefIdeal.τ Cert.GateGradWRefIdeal.sig) → Buf (Elt Ideal) ℓ) (g : Dev Cert.GateGradWRefIdeal.nD → PrngReg), Pre_GateGradWRefIdeal m →
    θ_run (Cert.GateGradWRefIdeal.defs (F := Ideal)) (onTc (τ := Cert.GateGradWRefIdeal.τ) (Cert.GateGradWRefIdeal.main (F := Ideal))) ⟨m, fun _ => 0, g⟩ (fun r => (∀ c : Dev Cert.GateGradWRefIdeal.nD,
      r.2.mem ((c.tc : Thread Cert.GateGradWRefIdeal.nD Cert.GateGradWRefIdeal.τ).loc Cert.GateGradWRefIdeal.main_arg0) = m ((c.tc : Thread Cert.GateGradWRefIdeal.nD Cert.GateGradWRefIdeal.τ).loc Cert.GateGradWRefIdeal.main_arg0)
      ∧ r.2.mem ((c.tc : Thread Cert.GateGradWRefIdeal.nD Cert.GateGradWRefIdeal.τ).loc Cert.GateGradWRefIdeal.main_arg1) = m ((c.tc : Thread Cert.GateGradWRefIdeal.nD Cert.GateGradWRefIdeal.τ).loc Cert.GateGradWRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_NormGradRefIdeal_pre_finite_norm [hNormGradRefIdeal : Cert.NormGradRefIdeal.Facts] [hPre_finite_norm : Cert.Pre_finite_norm.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_finite_norm m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_ResGrad [hResGrad : Cert.ResGrad.Facts] : Prop :=
  ∀ (m : (ℓ : Loc Cert.ResGrad.nD Cert.ResGrad.τ Cert.ResGrad.sig) → Buf (Elt Bits) ℓ) (g : Dev Cert.ResGrad.nD → PrngReg), Pre_ResGrad m →
    θ_run (Cert.ResGrad.defs (F := Bits)) (onTc (τ := Cert.ResGrad.τ) (Cert.ResGrad.main (F := Bits))) ⟨m, fun _ => 0, g⟩ (fun r => (∀ c : Dev Cert.ResGrad.nD,
      r.2.mem ((c.tc : Thread Cert.ResGrad.nD Cert.ResGrad.τ).loc Cert.ResGrad.main_arg0) = m ((c.tc : Thread Cert.ResGrad.nD Cert.ResGrad.τ).loc Cert.ResGrad.main_arg0)
      ∧ r.2.mem ((c.tc : Thread Cert.ResGrad.nD Cert.ResGrad.τ).loc Cert.ResGrad.main_arg1) = m ((c.tc : Thread Cert.ResGrad.nD Cert.ResGrad.τ).loc Cert.ResGrad.main_arg1)
      ∧ r.2.mem ((c.tc : Thread Cert.ResGrad.nD Cert.ResGrad.τ).loc Cert.ResGrad.main_arg2) = m ((c.tc : Thread Cert.ResGrad.nD Cert.ResGrad.τ).loc Cert.ResGrad.main_arg2)
      ∧ r.2.mem ((c.tc : Thread Cert.ResGrad.nD Cert.ResGrad.τ).loc Cert.ResGrad.main_arg3) = m ((c.tc : Thread Cert.ResGrad.nD Cert.ResGrad.τ).loc Cert.ResGrad.main_arg3)
      ∧ r.2.mem ((c.tc : Thread Cert.ResGrad.nD Cert.ResGrad.τ).loc Cert.ResGrad.main_arg4) = m ((c.tc : Thread Cert.ResGrad.nD Cert.ResGrad.τ).loc Cert.ResGrad.main_arg4))
      ∧ r.2.sem = fun _ => 0)

def quiescent_ResGradIdeal [hResGradIdeal : Cert.ResGradIdeal.Facts] : Prop :=
  ∀ (m : (ℓ : Loc Cert.ResGradIdeal.nD Cert.ResGradIdeal.τ Cert.ResGradIdeal.sig) → Buf (Elt Ideal) ℓ) (g : Dev Cert.ResGradIdeal.nD → PrngReg), Pre_ResGradIdeal m →
    θ_run (Cert.ResGradIdeal.defs (F := Ideal)) (onTc (τ := Cert.ResGradIdeal.τ) (Cert.ResGradIdeal.main (F := Ideal))) ⟨m, fun _ => 0, g⟩ (fun r => (∀ c : Dev Cert.ResGradIdeal.nD,
      r.2.mem ((c.tc : Thread Cert.ResGradIdeal.nD Cert.ResGradIdeal.τ).loc Cert.ResGradIdeal.main_arg0) = m ((c.tc : Thread Cert.ResGradIdeal.nD Cert.ResGradIdeal.τ).loc Cert.ResGradIdeal.main_arg0)
      ∧ r.2.mem ((c.tc : Thread Cert.ResGradIdeal.nD Cert.ResGradIdeal.τ).loc Cert.ResGradIdeal.main_arg1) = m ((c.tc : Thread Cert.ResGradIdeal.nD Cert.ResGradIdeal.τ).loc Cert.ResGradIdeal.main_arg1)
      ∧ r.2.mem ((c.tc : Thread Cert.ResGradIdeal.nD Cert.ResGradIdeal.τ).loc Cert.ResGradIdeal.main_arg2) = m ((c.tc : Thread Cert.ResGradIdeal.nD Cert.ResGradIdeal.τ).loc Cert.ResGradIdeal.main_arg2)
      ∧ r.2.mem ((c.tc : Thread Cert.ResGradIdeal.nD Cert.ResGradIdeal.τ).loc Cert.ResGradIdeal.main_arg3) = m ((c.tc : Thread Cert.ResGradIdeal.nD Cert.ResGradIdeal.τ).loc Cert.ResGradIdeal.main_arg3)
      ∧ r.2.mem ((c.tc : Thread Cert.ResGradIdeal.nD Cert.ResGradIdeal.τ).loc Cert.ResGradIdeal.main_arg4) = m ((c.tc : Thread Cert.ResGradIdeal.nD Cert.ResGradIdeal.τ).loc Cert.ResGradIdeal.main_arg4))
      ∧ r.2.sem = fun _ => 0)

def quiescent_ResGradIdeal_pre_finite_res [hResGradIdeal : Cert.ResGradIdeal.Facts] [hPre_finite_res : Cert.Pre_finite_res.Facts] : Prop :=
  ∀ (m : (ℓ : Loc Cert.ResGradIdeal.nD Cert.ResGradIdeal.τ Cert.ResGradIdeal.sig) → Buf (Elt Ideal) ℓ) (g : Dev Cert.ResGradIdeal.nD → PrngReg), Pre_ResGradIdeal_finite_res m →
    θ_run (Cert.ResGradIdeal.defs (F := Ideal)) (onTc (τ := Cert.ResGradIdeal.τ) (Cert.ResGradIdeal.main (F := Ideal))) ⟨m, fun _ => 0, g⟩ (fun r => (∀ c : Dev Cert.ResGradIdeal.nD,
      r.2.mem ((c.tc : Thread Cert.ResGradIdeal.nD Cert.ResGradIdeal.τ).loc Cert.ResGradIdeal.main_arg0) = m ((c.tc : Thread Cert.ResGradIdeal.nD Cert.ResGradIdeal.τ).loc Cert.ResGradIdeal.main_arg0)
      ∧ r.2.mem ((c.tc : Thread Cert.ResGradIdeal.nD Cert.ResGradIdeal.τ).loc Cert.ResGradIdeal.main_arg1) = m ((c.tc : Thread Cert.ResGradIdeal.nD Cert.ResGradIdeal.τ).loc Cert.ResGradIdeal.main_arg1)
      ∧ r.2.mem ((c.tc : Thread Cert.ResGradIdeal.nD Cert.ResGradIdeal.τ).loc Cert.ResGradIdeal.main_arg2) = m ((c.tc : Thread Cert.ResGradIdeal.nD Cert.ResGradIdeal.τ).loc Cert.ResGradIdeal.main_arg2)
      ∧ r.2.mem ((c.tc : Thread Cert.ResGradIdeal.nD Cert.ResGradIdeal.τ).loc Cert.ResGradIdeal.main_arg3) = m ((c.tc : Thread Cert.ResGradIdeal.nD Cert.ResGradIdeal.τ).loc Cert.ResGradIdeal.main_arg3)
      ∧ r.2.mem ((c.tc : Thread Cert.ResGradIdeal.nD Cert.ResGradIdeal.τ).loc Cert.ResGradIdeal.main_arg4) = m ((c.tc : Thread Cert.ResGradIdeal.nD Cert.ResGradIdeal.τ).loc Cert.ResGradIdeal.main_arg4))
      ∧ r.2.sem = fun _ => 0)

def quiescent_ResGradRefIdeal [hResGradRefIdeal : Cert.ResGradRefIdeal.Facts] : Prop :=
  ∀ (m : (ℓ : Loc Cert.ResGradRefIdeal.nD Cert.ResGradRefIdeal.τ Cert.ResGradRefIdeal.sig) → Buf (Elt Ideal) ℓ) (g : Dev Cert.ResGradRefIdeal.nD → PrngReg), Pre_ResGradRefIdeal m →
    θ_run (Cert.ResGradRefIdeal.defs (F := Ideal)) (onTc (τ := Cert.ResGradRefIdeal.τ) (Cert.ResGradRefIdeal.main (F := Ideal))) ⟨m, fun _ => 0, g⟩ (fun r => (∀ c : Dev Cert.ResGradRefIdeal.nD,
      r.2.mem ((c.tc : Thread Cert.ResGradRefIdeal.nD Cert.ResGradRefIdeal.τ).loc Cert.ResGradRefIdeal.main_arg0) = m ((c.tc : Thread Cert.ResGradRefIdeal.nD Cert.ResGradRefIdeal.τ).loc Cert.ResGradRefIdeal.main_arg0)
      ∧ r.2.mem ((c.tc : Thread Cert.ResGradRefIdeal.nD Cert.ResGradRefIdeal.τ).loc Cert.ResGradRefIdeal.main_arg1) = m ((c.tc : Thread Cert.ResGradRefIdeal.nD Cert.ResGradRefIdeal.τ).loc Cert.ResGradRefIdeal.main_arg1)
      ∧ r.2.mem ((c.tc : Thread Cert.ResGradRefIdeal.nD Cert.ResGradRefIdeal.τ).loc Cert.ResGradRefIdeal.main_arg2) = m ((c.tc : Thread Cert.ResGradRefIdeal.nD Cert.ResGradRefIdeal.τ).loc Cert.ResGradRefIdeal.main_arg2)
      ∧ r.2.mem ((c.tc : Thread Cert.ResGradRefIdeal.nD Cert.ResGradRefIdeal.τ).loc Cert.ResGradRefIdeal.main_arg3) = m ((c.tc : Thread Cert.ResGradRefIdeal.nD Cert.ResGradRefIdeal.τ).loc Cert.ResGradRefIdeal.main_arg3)
      ∧ r.2.mem ((c.tc : Thread Cert.ResGradRefIdeal.nD Cert.ResGradRefIdeal.τ).loc Cert.ResGradRefIdeal.main_arg4) = m ((c.tc : Thread Cert.ResGradRefIdeal.nD Cert.ResGradRefIdeal.τ).loc Cert.ResGradRefIdeal.main_arg4))
      ∧ r.2.sem = fun _ => 0)

def quiescent_ResGradRefIdeal_pre_finite_res [hResGradRefIdeal : Cert.ResGradRefIdeal.Facts] [hPre_finite_res : Cert.Pre_finite_res.Facts] : Prop :=
  ∀ (m : (ℓ : Loc Cert.ResGradRefIdeal.nD Cert.ResGradRefIdeal.τ Cert.ResGradRefIdeal.sig) → Buf (Elt Ideal) ℓ) (g : Dev Cert.ResGradRefIdeal.nD → PrngReg), Pre_ResGradRefIdeal_finite_res m →
    θ_run (Cert.ResGradRefIdeal.defs (F := Ideal)) (onTc (τ := Cert.ResGradRefIdeal.τ) (Cert.ResGradRefIdeal.main (F := Ideal))) ⟨m, fun _ => 0, g⟩ (fun r => (∀ c : Dev Cert.ResGradRefIdeal.nD,
      r.2.mem ((c.tc : Thread Cert.ResGradRefIdeal.nD Cert.ResGradRefIdeal.τ).loc Cert.ResGradRefIdeal.main_arg0) = m ((c.tc : Thread Cert.ResGradRefIdeal.nD Cert.ResGradRefIdeal.τ).loc Cert.ResGradRefIdeal.main_arg0)
      ∧ r.2.mem ((c.tc : Thread Cert.ResGradRefIdeal.nD Cert.ResGradRefIdeal.τ).loc Cert.ResGradRefIdeal.main_arg1) = m ((c.tc : Thread Cert.ResGradRefIdeal.nD Cert.ResGradRefIdeal.τ).loc Cert.ResGradRefIdeal.main_arg1)
      ∧ r.2.mem ((c.tc : Thread Cert.ResGradRefIdeal.nD Cert.ResGradRefIdeal.τ).loc Cert.ResGradRefIdeal.main_arg2) = m ((c.tc : Thread Cert.ResGradRefIdeal.nD Cert.ResGradRefIdeal.τ).loc Cert.ResGradRefIdeal.main_arg2)
      ∧ r.2.mem ((c.tc : Thread Cert.ResGradRefIdeal.nD Cert.ResGradRefIdeal.τ).loc Cert.ResGradRefIdeal.main_arg3) = m ((c.tc : Thread Cert.ResGradRefIdeal.nD Cert.ResGradRefIdeal.τ).loc Cert.ResGradRefIdeal.main_arg3)
      ∧ r.2.mem ((c.tc : Thread Cert.ResGradRefIdeal.nD Cert.ResGradRefIdeal.τ).loc Cert.ResGradRefIdeal.main_arg4) = m ((c.tc : Thread Cert.ResGradRefIdeal.nD Cert.ResGradRefIdeal.τ).loc Cert.ResGradRefIdeal.main_arg4))
      ∧ r.2.sem = fun _ => 0)

def quiescent_ResModGrad [hResModGrad : Cert.ResModGrad.Facts] : Prop :=
  ∀ (m : (ℓ : Loc Cert.ResModGrad.nD Cert.ResModGrad.τ Cert.ResModGrad.sig) → Buf (Elt Bits) ℓ) (g : Dev Cert.ResModGrad.nD → PrngReg), Pre_ResModGrad m →
    θ_run (Cert.ResModGrad.defs (F := Bits)) (onTc (τ := Cert.ResModGrad.τ) (Cert.ResModGrad.main (F := Bits))) ⟨m, fun _ => 0, g⟩ (fun r => (∀ c : Dev Cert.ResModGrad.nD,
      r.2.mem ((c.tc : Thread Cert.ResModGrad.nD Cert.ResModGrad.τ).loc Cert.ResModGrad.main_arg0) = m ((c.tc : Thread Cert.ResModGrad.nD Cert.ResModGrad.τ).loc Cert.ResModGrad.main_arg0)
      ∧ r.2.mem ((c.tc : Thread Cert.ResModGrad.nD Cert.ResModGrad.τ).loc Cert.ResModGrad.main_arg1) = m ((c.tc : Thread Cert.ResModGrad.nD Cert.ResModGrad.τ).loc Cert.ResModGrad.main_arg1)
      ∧ r.2.mem ((c.tc : Thread Cert.ResModGrad.nD Cert.ResModGrad.τ).loc Cert.ResModGrad.main_arg2) = m ((c.tc : Thread Cert.ResModGrad.nD Cert.ResModGrad.τ).loc Cert.ResModGrad.main_arg2)
      ∧ r.2.mem ((c.tc : Thread Cert.ResModGrad.nD Cert.ResModGrad.τ).loc Cert.ResModGrad.main_arg3) = m ((c.tc : Thread Cert.ResModGrad.nD Cert.ResModGrad.τ).loc Cert.ResModGrad.main_arg3)
      ∧ r.2.mem ((c.tc : Thread Cert.ResModGrad.nD Cert.ResModGrad.τ).loc Cert.ResModGrad.main_arg4) = m ((c.tc : Thread Cert.ResModGrad.nD Cert.ResModGrad.τ).loc Cert.ResModGrad.main_arg4)
      ∧ r.2.mem ((c.tc : Thread Cert.ResModGrad.nD Cert.ResModGrad.τ).loc Cert.ResModGrad.main_arg5) = m ((c.tc : Thread Cert.ResModGrad.nD Cert.ResModGrad.τ).loc Cert.ResModGrad.main_arg5)
      ∧ r.2.mem ((c.tc : Thread Cert.ResModGrad.nD Cert.ResModGrad.τ).loc Cert.ResModGrad.main_arg6) = m ((c.tc : Thread Cert.ResModGrad.nD Cert.ResModGrad.τ).loc Cert.ResModGrad.main_arg6)
      ∧ r.2.mem ((c.tc : Thread Cert.ResModGrad.nD Cert.ResModGrad.τ).loc Cert.ResModGrad.main_arg7) = m ((c.tc : Thread Cert.ResModGrad.nD Cert.ResModGrad.τ).loc Cert.ResModGrad.main_arg7))
      ∧ r.2.sem = fun _ => 0)

def quiescent_ResModGradIdeal [hResModGradIdeal : Cert.ResModGradIdeal.Facts] : Prop :=
  ∀ (m : (ℓ : Loc Cert.ResModGradIdeal.nD Cert.ResModGradIdeal.τ Cert.ResModGradIdeal.sig) → Buf (Elt Ideal) ℓ) (g : Dev Cert.ResModGradIdeal.nD → PrngReg), Pre_ResModGradIdeal m →
    θ_run (Cert.ResModGradIdeal.defs (F := Ideal)) (onTc (τ := Cert.ResModGradIdeal.τ) (Cert.ResModGradIdeal.main (F := Ideal))) ⟨m, fun _ => 0, g⟩ (fun r => (∀ c : Dev Cert.ResModGradIdeal.nD,
      r.2.mem ((c.tc : Thread Cert.ResModGradIdeal.nD Cert.ResModGradIdeal.τ).loc Cert.ResModGradIdeal.main_arg0) = m ((c.tc : Thread Cert.ResModGradIdeal.nD Cert.ResModGradIdeal.τ).loc Cert.ResModGradIdeal.main_arg0)
      ∧ r.2.mem ((c.tc : Thread Cert.ResModGradIdeal.nD Cert.ResModGradIdeal.τ).loc Cert.ResModGradIdeal.main_arg1) = m ((c.tc : Thread Cert.ResModGradIdeal.nD Cert.ResModGradIdeal.τ).loc Cert.ResModGradIdeal.main_arg1)
      ∧ r.2.mem ((c.tc : Thread Cert.ResModGradIdeal.nD Cert.ResModGradIdeal.τ).loc Cert.ResModGradIdeal.main_arg2) = m ((c.tc : Thread Cert.ResModGradIdeal.nD Cert.ResModGradIdeal.τ).loc Cert.ResModGradIdeal.main_arg2)
      ∧ r.2.mem ((c.tc : Thread Cert.ResModGradIdeal.nD Cert.ResModGradIdeal.τ).loc Cert.ResModGradIdeal.main_arg3) = m ((c.tc : Thread Cert.ResModGradIdeal.nD Cert.ResModGradIdeal.τ).loc Cert.ResModGradIdeal.main_arg3)
      ∧ r.2.mem ((c.tc : Thread Cert.ResModGradIdeal.nD Cert.ResModGradIdeal.τ).loc Cert.ResModGradIdeal.main_arg4) = m ((c.tc : Thread Cert.ResModGradIdeal.nD Cert.ResModGradIdeal.τ).loc Cert.ResModGradIdeal.main_arg4)
      ∧ r.2.mem ((c.tc : Thread Cert.ResModGradIdeal.nD Cert.ResModGradIdeal.τ).loc Cert.ResModGradIdeal.main_arg5) = m ((c.tc : Thread Cert.ResModGradIdeal.nD Cert.ResModGradIdeal.τ).loc Cert.ResModGradIdeal.main_arg5)
      ∧ r.2.mem ((c.tc : Thread Cert.ResModGradIdeal.nD Cert.ResModGradIdeal.τ).loc Cert.ResModGradIdeal.main_arg6) = m ((c.tc : Thread Cert.ResModGradIdeal.nD Cert.ResModGradIdeal.τ).loc Cert.ResModGradIdeal.main_arg6)
      ∧ r.2.mem ((c.tc : Thread Cert.ResModGradIdeal.nD Cert.ResModGradIdeal.τ).loc Cert.ResModGradIdeal.main_arg7) = m ((c.tc : Thread Cert.ResModGradIdeal.nD Cert.ResModGradIdeal.τ).loc Cert.ResModGradIdeal.main_arg7))
      ∧ r.2.sem = fun _ => 0)

def quiescent_ResModGradIdeal_pre_finite_mod [hResModGradIdeal : Cert.ResModGradIdeal.Facts] [hPre_finite_mod : Cert.Pre_finite_mod.Facts] : Prop :=
  ∀ (m : (ℓ : Loc Cert.ResModGradIdeal.nD Cert.ResModGradIdeal.τ Cert.ResModGradIdeal.sig) → Buf (Elt Ideal) ℓ) (g : Dev Cert.ResModGradIdeal.nD → PrngReg), Pre_ResModGradIdeal_finite_mod m →
    θ_run (Cert.ResModGradIdeal.defs (F := Ideal)) (onTc (τ := Cert.ResModGradIdeal.τ) (Cert.ResModGradIdeal.main (F := Ideal))) ⟨m, fun _ => 0, g⟩ (fun r => (∀ c : Dev Cert.ResModGradIdeal.nD,
      r.2.mem ((c.tc : Thread Cert.ResModGradIdeal.nD Cert.ResModGradIdeal.τ).loc Cert.ResModGradIdeal.main_arg0) = m ((c.tc : Thread Cert.ResModGradIdeal.nD Cert.ResModGradIdeal.τ).loc Cert.ResModGradIdeal.main_arg0)
      ∧ r.2.mem ((c.tc : Thread Cert.ResModGradIdeal.nD Cert.ResModGradIdeal.τ).loc Cert.ResModGradIdeal.main_arg1) = m ((c.tc : Thread Cert.ResModGradIdeal.nD Cert.ResModGradIdeal.τ).loc Cert.ResModGradIdeal.main_arg1)
      ∧ r.2.mem ((c.tc : Thread Cert.ResModGradIdeal.nD Cert.ResModGradIdeal.τ).loc Cert.ResModGradIdeal.main_arg2) = m ((c.tc : Thread Cert.ResModGradIdeal.nD Cert.ResModGradIdeal.τ).loc Cert.ResModGradIdeal.main_arg2)
      ∧ r.2.mem ((c.tc : Thread Cert.ResModGradIdeal.nD Cert.ResModGradIdeal.τ).loc Cert.ResModGradIdeal.main_arg3) = m ((c.tc : Thread Cert.ResModGradIdeal.nD Cert.ResModGradIdeal.τ).loc Cert.ResModGradIdeal.main_arg3)
      ∧ r.2.mem ((c.tc : Thread Cert.ResModGradIdeal.nD Cert.ResModGradIdeal.τ).loc Cert.ResModGradIdeal.main_arg4) = m ((c.tc : Thread Cert.ResModGradIdeal.nD Cert.ResModGradIdeal.τ).loc Cert.ResModGradIdeal.main_arg4)
      ∧ r.2.mem ((c.tc : Thread Cert.ResModGradIdeal.nD Cert.ResModGradIdeal.τ).loc Cert.ResModGradIdeal.main_arg5) = m ((c.tc : Thread Cert.ResModGradIdeal.nD Cert.ResModGradIdeal.τ).loc Cert.ResModGradIdeal.main_arg5)
      ∧ r.2.mem ((c.tc : Thread Cert.ResModGradIdeal.nD Cert.ResModGradIdeal.τ).loc Cert.ResModGradIdeal.main_arg6) = m ((c.tc : Thread Cert.ResModGradIdeal.nD Cert.ResModGradIdeal.τ).loc Cert.ResModGradIdeal.main_arg6)
      ∧ r.2.mem ((c.tc : Thread Cert.ResModGradIdeal.nD Cert.ResModGradIdeal.τ).loc Cert.ResModGradIdeal.main_arg7) = m ((c.tc : Thread Cert.ResModGradIdeal.nD Cert.ResModGradIdeal.τ).loc Cert.ResModGradIdeal.main_arg7))
      ∧ r.2.sem = fun _ => 0)

def quiescent_ResModGradRefIdeal [hResModGradRefIdeal : Cert.ResModGradRefIdeal.Facts] : Prop :=
  ∀ (m : (ℓ : Loc Cert.ResModGradRefIdeal.nD Cert.ResModGradRefIdeal.τ Cert.ResModGradRefIdeal.sig) → Buf (Elt Ideal) ℓ) (g : Dev Cert.ResModGradRefIdeal.nD → PrngReg), Pre_ResModGradRefIdeal m →
    θ_run (Cert.ResModGradRefIdeal.defs (F := Ideal)) (onTc (τ := Cert.ResModGradRefIdeal.τ) (Cert.ResModGradRefIdeal.main (F := Ideal))) ⟨m, fun _ => 0, g⟩ (fun r => (∀ c : Dev Cert.ResModGradRefIdeal.nD,
      r.2.mem ((c.tc : Thread Cert.ResModGradRefIdeal.nD Cert.ResModGradRefIdeal.τ).loc Cert.ResModGradRefIdeal.main_arg0) = m ((c.tc : Thread Cert.ResModGradRefIdeal.nD Cert.ResModGradRefIdeal.τ).loc Cert.ResModGradRefIdeal.main_arg0)
      ∧ r.2.mem ((c.tc : Thread Cert.ResModGradRefIdeal.nD Cert.ResModGradRefIdeal.τ).loc Cert.ResModGradRefIdeal.main_arg1) = m ((c.tc : Thread Cert.ResModGradRefIdeal.nD Cert.ResModGradRefIdeal.τ).loc Cert.ResModGradRefIdeal.main_arg1)
      ∧ r.2.mem ((c.tc : Thread Cert.ResModGradRefIdeal.nD Cert.ResModGradRefIdeal.τ).loc Cert.ResModGradRefIdeal.main_arg2) = m ((c.tc : Thread Cert.ResModGradRefIdeal.nD Cert.ResModGradRefIdeal.τ).loc Cert.ResModGradRefIdeal.main_arg2)
      ∧ r.2.mem ((c.tc : Thread Cert.ResModGradRefIdeal.nD Cert.ResModGradRefIdeal.τ).loc Cert.ResModGradRefIdeal.main_arg3) = m ((c.tc : Thread Cert.ResModGradRefIdeal.nD Cert.ResModGradRefIdeal.τ).loc Cert.ResModGradRefIdeal.main_arg3)
      ∧ r.2.mem ((c.tc : Thread Cert.ResModGradRefIdeal.nD Cert.ResModGradRefIdeal.τ).loc Cert.ResModGradRefIdeal.main_arg4) = m ((c.tc : Thread Cert.ResModGradRefIdeal.nD Cert.ResModGradRefIdeal.τ).loc Cert.ResModGradRefIdeal.main_arg4)
      ∧ r.2.mem ((c.tc : Thread Cert.ResModGradRefIdeal.nD Cert.ResModGradRefIdeal.τ).loc Cert.ResModGradRefIdeal.main_arg5) = m ((c.tc : Thread Cert.ResModGradRefIdeal.nD Cert.ResModGradRefIdeal.τ).loc Cert.ResModGradRefIdeal.main_arg5)
      ∧ r.2.mem ((c.tc : Thread Cert.ResModGradRefIdeal.nD Cert.ResModGradRefIdeal.τ).loc Cert.ResModGradRefIdeal.main_arg6) = m ((c.tc : Thread Cert.ResModGradRefIdeal.nD Cert.ResModGradRefIdeal.τ).loc Cert.ResModGradRefIdeal.main_arg6)
      ∧ r.2.mem ((c.tc : Thread Cert.ResModGradRefIdeal.nD Cert.ResModGradRefIdeal.τ).loc Cert.ResModGradRefIdeal.main_arg7) = m ((c.tc : Thread Cert.ResModGradRefIdeal.nD Cert.ResModGradRefIdeal.τ).loc Cert.ResModGradRefIdeal.main_arg7))
      ∧ r.2.sem = fun _ => 0)

def quiescent_ResModGradRefIdeal_pre_finite_mod [hResModGradRefIdeal : Cert.ResModGradRefIdeal.Facts] [hPre_finite_mod : Cert.Pre_finite_mod.Facts] : Prop :=
  ∀ (m : (ℓ : Loc Cert.ResModGradRefIdeal.nD Cert.ResModGradRefIdeal.τ Cert.ResModGradRefIdeal.sig) → Buf (Elt Ideal) ℓ) (g : Dev Cert.ResModGradRefIdeal.nD → PrngReg), Pre_ResModGradRefIdeal_finite_mod m →
    θ_run (Cert.ResModGradRefIdeal.defs (F := Ideal)) (onTc (τ := Cert.ResModGradRefIdeal.τ) (Cert.ResModGradRefIdeal.main (F := Ideal))) ⟨m, fun _ => 0, g⟩ (fun r => (∀ c : Dev Cert.ResModGradRefIdeal.nD,
      r.2.mem ((c.tc : Thread Cert.ResModGradRefIdeal.nD Cert.ResModGradRefIdeal.τ).loc Cert.ResModGradRefIdeal.main_arg0) = m ((c.tc : Thread Cert.ResModGradRefIdeal.nD Cert.ResModGradRefIdeal.τ).loc Cert.ResModGradRefIdeal.main_arg0)
      ∧ r.2.mem ((c.tc : Thread Cert.ResModGradRefIdeal.nD Cert.ResModGradRefIdeal.τ).loc Cert.ResModGradRefIdeal.main_arg1) = m ((c.tc : Thread Cert.ResModGradRefIdeal.nD Cert.ResModGradRefIdeal.τ).loc Cert.ResModGradRefIdeal.main_arg1)
      ∧ r.2.mem ((c.tc : Thread Cert.ResModGradRefIdeal.nD Cert.ResModGradRefIdeal.τ).loc Cert.ResModGradRefIdeal.main_arg2) = m ((c.tc : Thread Cert.ResModGradRefIdeal.nD Cert.ResModGradRefIdeal.τ).loc Cert.ResModGradRefIdeal.main_arg2)
      ∧ r.2.mem ((c.tc : Thread Cert.ResModGradRefIdeal.nD Cert.ResModGradRefIdeal.τ).loc Cert.ResModGradRefIdeal.main_arg3) = m ((c.tc : Thread Cert.ResModGradRefIdeal.nD Cert.ResModGradRefIdeal.τ).loc Cert.ResModGradRefIdeal.main_arg3)
      ∧ r.2.mem ((c.tc : Thread Cert.ResModGradRefIdeal.nD Cert.ResModGradRefIdeal.τ).loc Cert.ResModGradRefIdeal.main_arg4) = m ((c.tc : Thread Cert.ResModGradRefIdeal.nD Cert.ResModGradRefIdeal.τ).loc Cert.ResModGradRefIdeal.main_arg4)
      ∧ r.2.mem ((c.tc : Thread Cert.ResModGradRefIdeal.nD Cert.ResModGradRefIdeal.τ).loc Cert.ResModGradRefIdeal.main_arg5) = m ((c.tc : Thread Cert.ResModGradRefIdeal.nD Cert.ResModGradRefIdeal.τ).loc Cert.ResModGradRefIdeal.main_arg5)
      ∧ r.2.mem ((c.tc : Thread Cert.ResModGradRefIdeal.nD Cert.ResModGradRefIdeal.τ).loc Cert.ResModGradRefIdeal.main_arg6) = m ((c.tc : Thread Cert.ResModGradRefIdeal.nD Cert.ResModGradRefIdeal.τ).loc Cert.ResModGradRefIdeal.main_arg6)
      ∧ r.2.mem ((c.tc : Thread Cert.ResModGradRefIdeal.nD Cert.ResModGradRefIdeal.τ).loc Cert.ResModGradRefIdeal.main_arg7) = m ((c.tc : Thread Cert.ResModGradRefIdeal.nD Cert.ResModGradRefIdeal.τ).loc Cert.ResModGradRefIdeal.main_arg7))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4))
      ∧ r.2.sem = fun _ => 0)

def quiescent_ResMod [hResMod : Cert.ResMod.Facts] : Prop :=
  ∀ (m : (ℓ : Loc Cert.ResMod.nD Cert.ResMod.τ Cert.ResMod.sig) → Buf (Elt Bits) ℓ) (g : Dev Cert.ResMod.nD → PrngReg), Pre_ResMod m →
    θ_run (Cert.ResMod.defs (F := Bits)) (onTc (τ := Cert.ResMod.τ) (Cert.ResMod.main (F := Bits))) ⟨m, fun _ => 0, g⟩ (fun r => (∀ c : Dev Cert.ResMod.nD,
      r.2.mem ((c.tc : Thread Cert.ResMod.nD Cert.ResMod.τ).loc Cert.ResMod.main_arg0) = m ((c.tc : Thread Cert.ResMod.nD Cert.ResMod.τ).loc Cert.ResMod.main_arg0)
      ∧ r.2.mem ((c.tc : Thread Cert.ResMod.nD Cert.ResMod.τ).loc Cert.ResMod.main_arg1) = m ((c.tc : Thread Cert.ResMod.nD Cert.ResMod.τ).loc Cert.ResMod.main_arg1)
      ∧ r.2.mem ((c.tc : Thread Cert.ResMod.nD Cert.ResMod.τ).loc Cert.ResMod.main_arg2) = m ((c.tc : Thread Cert.ResMod.nD Cert.ResMod.τ).loc Cert.ResMod.main_arg2)
      ∧ r.2.mem ((c.tc : Thread Cert.ResMod.nD Cert.ResMod.τ).loc Cert.ResMod.main_arg3) = m ((c.tc : Thread Cert.ResMod.nD Cert.ResMod.τ).loc Cert.ResMod.main_arg3)
      ∧ r.2.mem ((c.tc : Thread Cert.ResMod.nD Cert.ResMod.τ).loc Cert.ResMod.main_arg4) = m ((c.tc : Thread Cert.ResMod.nD Cert.ResMod.τ).loc Cert.ResMod.main_arg4)
      ∧ r.2.mem ((c.tc : Thread Cert.ResMod.nD Cert.ResMod.τ).loc Cert.ResMod.main_arg5) = m ((c.tc : Thread Cert.ResMod.nD Cert.ResMod.τ).loc Cert.ResMod.main_arg5)
      ∧ r.2.mem ((c.tc : Thread Cert.ResMod.nD Cert.ResMod.τ).loc Cert.ResMod.main_arg6) = m ((c.tc : Thread Cert.ResMod.nD Cert.ResMod.τ).loc Cert.ResMod.main_arg6))
      ∧ r.2.sem = fun _ => 0)

def quiescent_ResModIdeal [hResModIdeal : Cert.ResModIdeal.Facts] : Prop :=
  ∀ (m : (ℓ : Loc Cert.ResModIdeal.nD Cert.ResModIdeal.τ Cert.ResModIdeal.sig) → Buf (Elt Ideal) ℓ) (g : Dev Cert.ResModIdeal.nD → PrngReg), Pre_ResModIdeal m →
    θ_run (Cert.ResModIdeal.defs (F := Ideal)) (onTc (τ := Cert.ResModIdeal.τ) (Cert.ResModIdeal.main (F := Ideal))) ⟨m, fun _ => 0, g⟩ (fun r => (∀ c : Dev Cert.ResModIdeal.nD,
      r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
      ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
      ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
      ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
      ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4)
      ∧ r.2.mem ((c.tc : Thread Cert.ResModIdeal.nD Cert.ResModIdeal.τ).loc Cert.ResModIdeal.main_arg5) = m ((c.tc : Thread Cert.ResModIdeal.nD Cert.ResModIdeal.τ).loc Cert.ResModIdeal.main_arg5)
      ∧ r.2.mem ((c.tc : Thread Cert.ResModIdeal.nD Cert.ResModIdeal.τ).loc Cert.ResModIdeal.main_arg6) = m ((c.tc : Thread Cert.ResModIdeal.nD Cert.ResModIdeal.τ).loc Cert.ResModIdeal.main_arg6))
      ∧ r.2.sem = fun _ => 0)

def quiescent_ResModRefIdeal [hResModRefIdeal : Cert.ResModRefIdeal.Facts] : Prop :=
  ∀ (m : (ℓ : Loc Cert.ResModRefIdeal.nD Cert.ResModRefIdeal.τ Cert.ResModRefIdeal.sig) → Buf (Elt Ideal) ℓ) (g : Dev Cert.ResModRefIdeal.nD → PrngReg), Pre_ResModRefIdeal m →
    θ_run (Cert.ResModRefIdeal.defs (F := Ideal)) (onTc (τ := Cert.ResModRefIdeal.τ) (Cert.ResModRefIdeal.main (F := Ideal))) ⟨m, fun _ => 0, g⟩ (fun r => (∀ c : Dev Cert.ResModRefIdeal.nD,
      r.2.mem ((c.tc : Thread Cert.ResModRefIdeal.nD Cert.ResModRefIdeal.τ).loc Cert.ResModRefIdeal.main_arg0) = m ((c.tc : Thread Cert.ResModRefIdeal.nD Cert.ResModRefIdeal.τ).loc Cert.ResModRefIdeal.main_arg0)
      ∧ r.2.mem ((c.tc : Thread Cert.ResModRefIdeal.nD Cert.ResModRefIdeal.τ).loc Cert.ResModRefIdeal.main_arg1) = m ((c.tc : Thread Cert.ResModRefIdeal.nD Cert.ResModRefIdeal.τ).loc Cert.ResModRefIdeal.main_arg1)
      ∧ r.2.mem ((c.tc : Thread Cert.ResModRefIdeal.nD Cert.ResModRefIdeal.τ).loc Cert.ResModRefIdeal.main_arg2) = m ((c.tc : Thread Cert.ResModRefIdeal.nD Cert.ResModRefIdeal.τ).loc Cert.ResModRefIdeal.main_arg2)
      ∧ r.2.mem ((c.tc : Thread Cert.ResModRefIdeal.nD Cert.ResModRefIdeal.τ).loc Cert.ResModRefIdeal.main_arg3) = m ((c.tc : Thread Cert.ResModRefIdeal.nD Cert.ResModRefIdeal.τ).loc Cert.ResModRefIdeal.main_arg3)
      ∧ r.2.mem ((c.tc : Thread Cert.ResModRefIdeal.nD Cert.ResModRefIdeal.τ).loc Cert.ResModRefIdeal.main_arg4) = m ((c.tc : Thread Cert.ResModRefIdeal.nD Cert.ResModRefIdeal.τ).loc Cert.ResModRefIdeal.main_arg4)
      ∧ r.2.mem ((c.tc : Thread Cert.ResModRefIdeal.nD Cert.ResModRefIdeal.τ).loc Cert.ResModRefIdeal.main_arg5) = m ((c.tc : Thread Cert.ResModRefIdeal.nD Cert.ResModRefIdeal.τ).loc Cert.ResModRefIdeal.main_arg5)
      ∧ r.2.mem ((c.tc : Thread Cert.ResModRefIdeal.nD Cert.ResModRefIdeal.τ).loc Cert.ResModRefIdeal.main_arg6) = m ((c.tc : Thread Cert.ResModRefIdeal.nD Cert.ResModRefIdeal.τ).loc Cert.ResModRefIdeal.main_arg6))
      ∧ r.2.sem = fun _ => 0)

def quiescent_GateBiasGrad [hGateBiasGrad : Cert.GateBiasGrad.Facts] : Prop :=
  ∀ (m : (ℓ : Loc Cert.GateBiasGrad.nD Cert.GateBiasGrad.τ Cert.GateBiasGrad.sig) → Buf (Elt Bits) ℓ) (g : Dev Cert.GateBiasGrad.nD → PrngReg), Pre_GateBiasGrad m →
    θ_run (Cert.GateBiasGrad.defs (F := Bits)) (onTc (τ := Cert.GateBiasGrad.τ) (Cert.GateBiasGrad.main (F := Bits))) ⟨m, fun _ => 0, g⟩ (fun r => (∀ c : Dev Cert.GateBiasGrad.nD,
      r.2.mem ((c.tc : Thread Cert.GateBiasGrad.nD Cert.GateBiasGrad.τ).loc Cert.GateBiasGrad.main_arg0) = m ((c.tc : Thread Cert.GateBiasGrad.nD Cert.GateBiasGrad.τ).loc Cert.GateBiasGrad.main_arg0))
      ∧ r.2.sem = fun _ => 0)

def quiescent_GateBiasGradIdeal [hGateBiasGradIdeal : Cert.GateBiasGradIdeal.Facts] : Prop :=
  ∀ (m : (ℓ : Loc Cert.GateBiasGradIdeal.nD Cert.GateBiasGradIdeal.τ Cert.GateBiasGradIdeal.sig) → Buf (Elt Ideal) ℓ) (g : Dev Cert.GateBiasGradIdeal.nD → PrngReg), Pre_GateBiasGradIdeal m →
    θ_run (Cert.GateBiasGradIdeal.defs (F := Ideal)) (onTc (τ := Cert.GateBiasGradIdeal.τ) (Cert.GateBiasGradIdeal.main (F := Ideal))) ⟨m, fun _ => 0, g⟩ (fun r => (∀ c : Dev Cert.GateBiasGradIdeal.nD,
      r.2.mem ((c.tc : Thread Cert.GateBiasGradIdeal.nD Cert.GateBiasGradIdeal.τ).loc Cert.GateBiasGradIdeal.main_arg0) = m ((c.tc : Thread Cert.GateBiasGradIdeal.nD Cert.GateBiasGradIdeal.τ).loc Cert.GateBiasGradIdeal.main_arg0))
      ∧ r.2.sem = fun _ => 0)

def quiescent_GateBiasGradRefIdeal [hGateBiasGradRefIdeal : Cert.GateBiasGradRefIdeal.Facts] : Prop :=
  ∀ (m : (ℓ : Loc Cert.GateBiasGradRefIdeal.nD Cert.GateBiasGradRefIdeal.τ Cert.GateBiasGradRefIdeal.sig) → Buf (Elt Ideal) ℓ) (g : Dev Cert.GateBiasGradRefIdeal.nD → PrngReg), Pre_GateBiasGradRefIdeal m →
    θ_run (Cert.GateBiasGradRefIdeal.defs (F := Ideal)) (onTc (τ := Cert.GateBiasGradRefIdeal.τ) (Cert.GateBiasGradRefIdeal.main (F := Ideal))) ⟨m, fun _ => 0, g⟩ (fun r => (∀ c : Dev Cert.GateBiasGradRefIdeal.nD,
      r.2.mem ((c.tc : Thread Cert.GateBiasGradRefIdeal.nD Cert.GateBiasGradRefIdeal.τ).loc Cert.GateBiasGradRefIdeal.main_arg0) = m ((c.tc : Thread Cert.GateBiasGradRefIdeal.nD Cert.GateBiasGradRefIdeal.τ).loc Cert.GateBiasGradRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpGradIn_UpGradInIdeal : Prop :=
  True

def algebraic_UpGradInIdeal_UpGradInRefIdeal [hUpGradInIdeal : Cert.UpGradInIdeal.Facts] [hUpGradInRefIdeal : Cert.UpGradInRefIdeal.Facts] : Prop :=
  ∀ (m : (ℓ : Loc Cert.UpGradInIdeal.nD Cert.UpGradInIdeal.τ Cert.UpGradInIdeal.sig) → Buf (Elt Ideal) ℓ) (g : Dev Cert.UpGradInIdeal.nD → PrngReg)
    (m' : (ℓ : Loc Cert.UpGradInRefIdeal.nD Cert.UpGradInRefIdeal.τ Cert.UpGradInRefIdeal.sig) → Buf (Elt Ideal) ℓ) (g' : Dev Cert.UpGradInRefIdeal.nD → PrngReg), Pre_UpGradInIdeal m →
    (∀ c : Dev Cert.UpGradInIdeal.nD,
      m' ((c.tc : Thread Cert.UpGradInRefIdeal.nD Cert.UpGradInRefIdeal.τ).loc Cert.UpGradInRefIdeal.main_arg0) = m ((c.tc : Thread Cert.UpGradInIdeal.nD Cert.UpGradInIdeal.τ).loc Cert.UpGradInIdeal.main_arg0)
      ∧ m' ((c.tc : Thread Cert.UpGradInRefIdeal.nD Cert.UpGradInRefIdeal.τ).loc Cert.UpGradInRefIdeal.main_arg1) = m ((c.tc : Thread Cert.UpGradInIdeal.nD Cert.UpGradInIdeal.τ).loc Cert.UpGradInIdeal.main_arg1)
      ∧ m' ((c.tc : Thread Cert.UpGradInRefIdeal.nD Cert.UpGradInRefIdeal.τ).loc Cert.UpGradInRefIdeal.main_arg2) = m ((c.tc : Thread Cert.UpGradInIdeal.nD Cert.UpGradInIdeal.τ).loc Cert.UpGradInIdeal.main_arg2)) →
    ∃ (v0 : (c : Dev Cert.UpGradInIdeal.nD) → Buf (Elt Ideal) ((c.tc : Thread Cert.UpGradInIdeal.nD Cert.UpGradInIdeal.τ).loc Cert.UpGradInIdeal.main_v0)),
      θ_run (Cert.UpGradInIdeal.defs (F := Ideal)) (onTc (τ := Cert.UpGradInIdeal.τ) (Cert.UpGradInIdeal.main (F := Ideal))) ⟨m, fun _ => 0, g⟩ (fun r => ∀ c : Dev Cert.UpGradInIdeal.nD,
          r.2.mem ((c.tc : Thread Cert.UpGradInIdeal.nD Cert.UpGradInIdeal.τ).loc Cert.UpGradInIdeal.main_v0) = v0 c
          ∧ r.2.mem ((c.tc : Thread Cert.UpGradInIdeal.nD Cert.UpGradInIdeal.τ).loc Cert.UpGradInIdeal.main_arg0) = m ((c.tc : Thread Cert.UpGradInIdeal.nD Cert.UpGradInIdeal.τ).loc Cert.UpGradInIdeal.main_arg0)
          ∧ r.2.mem ((c.tc : Thread Cert.UpGradInIdeal.nD Cert.UpGradInIdeal.τ).loc Cert.UpGradInIdeal.main_arg1) = m ((c.tc : Thread Cert.UpGradInIdeal.nD Cert.UpGradInIdeal.τ).loc Cert.UpGradInIdeal.main_arg1)
          ∧ r.2.mem ((c.tc : Thread Cert.UpGradInIdeal.nD Cert.UpGradInIdeal.τ).loc Cert.UpGradInIdeal.main_arg2) = m ((c.tc : Thread Cert.UpGradInIdeal.nD Cert.UpGradInIdeal.τ).loc Cert.UpGradInIdeal.main_arg2))
      ∧ θ_run (Cert.UpGradInRefIdeal.defs (F := Ideal)) (onTc (τ := Cert.UpGradInRefIdeal.τ) (Cert.UpGradInRefIdeal.main (F := Ideal))) ⟨m', fun _ => 0, g'⟩ (fun r => ∀ c : Dev Cert.UpGradInRefIdeal.nD,
          r.2.mem ((c.tc : Thread Cert.UpGradInRefIdeal.nD Cert.UpGradInRefIdeal.τ).loc Cert.UpGradInRefIdeal.main_v6) = v0 c
          ∧ r.2.mem ((c.tc : Thread Cert.UpGradInRefIdeal.nD Cert.UpGradInRefIdeal.τ).loc Cert.UpGradInRefIdeal.main_arg0) = m' ((c.tc : Thread Cert.UpGradInRefIdeal.nD Cert.UpGradInRefIdeal.τ).loc Cert.UpGradInRefIdeal.main_arg0)
          ∧ r.2.mem ((c.tc : Thread Cert.UpGradInRefIdeal.nD Cert.UpGradInRefIdeal.τ).loc Cert.UpGradInRefIdeal.main_arg1) = m' ((c.tc : Thread Cert.UpGradInRefIdeal.nD Cert.UpGradInRefIdeal.τ).loc Cert.UpGradInRefIdeal.main_arg1)
          ∧ r.2.mem ((c.tc : Thread Cert.UpGradInRefIdeal.nD Cert.UpGradInRefIdeal.τ).loc Cert.UpGradInRefIdeal.main_arg2) = m' ((c.tc : Thread Cert.UpGradInRefIdeal.nD Cert.UpGradInRefIdeal.τ).loc Cert.UpGradInRefIdeal.main_arg2))

def preserves_UpGradW_UpGradWIdeal : Prop :=
  True

def algebraic_UpGradWIdeal_UpGradWRefIdeal [hUpGradWIdeal : Cert.UpGradWIdeal.Facts] [hUpGradWRefIdeal : Cert.UpGradWRefIdeal.Facts] : Prop :=
  ∀ (m : (ℓ : Loc Cert.UpGradWIdeal.nD Cert.UpGradWIdeal.τ Cert.UpGradWIdeal.sig) → Buf (Elt Ideal) ℓ) (g : Dev Cert.UpGradWIdeal.nD → PrngReg)
    (m' : (ℓ : Loc Cert.UpGradWRefIdeal.nD Cert.UpGradWRefIdeal.τ Cert.UpGradWRefIdeal.sig) → Buf (Elt Ideal) ℓ) (g' : Dev Cert.UpGradWRefIdeal.nD → PrngReg), Pre_UpGradWIdeal m →
    (∀ c : Dev Cert.UpGradWIdeal.nD,
      m' ((c.tc : Thread Cert.UpGradWRefIdeal.nD Cert.UpGradWRefIdeal.τ).loc Cert.UpGradWRefIdeal.main_arg0) = m ((c.tc : Thread Cert.UpGradWIdeal.nD Cert.UpGradWIdeal.τ).loc Cert.UpGradWIdeal.main_arg0)
      ∧ m' ((c.tc : Thread Cert.UpGradWRefIdeal.nD Cert.UpGradWRefIdeal.τ).loc Cert.UpGradWRefIdeal.main_arg1) = m ((c.tc : Thread Cert.UpGradWIdeal.nD Cert.UpGradWIdeal.τ).loc Cert.UpGradWIdeal.main_arg1)
      ∧ m' ((c.tc : Thread Cert.UpGradWRefIdeal.nD Cert.UpGradWRefIdeal.τ).loc Cert.UpGradWRefIdeal.main_arg2) = m ((c.tc : Thread Cert.UpGradWIdeal.nD Cert.UpGradWIdeal.τ).loc Cert.UpGradWIdeal.main_arg2)) →
    ∃ (v0 : (c : Dev Cert.UpGradWIdeal.nD) → Buf (Elt Ideal) ((c.tc : Thread Cert.UpGradWIdeal.nD Cert.UpGradWIdeal.τ).loc Cert.UpGradWIdeal.main_v0)),
      θ_run (Cert.UpGradWIdeal.defs (F := Ideal)) (onTc (τ := Cert.UpGradWIdeal.τ) (Cert.UpGradWIdeal.main (F := Ideal))) ⟨m, fun _ => 0, g⟩ (fun r => ∀ c : Dev Cert.UpGradWIdeal.nD,
          r.2.mem ((c.tc : Thread Cert.UpGradWIdeal.nD Cert.UpGradWIdeal.τ).loc Cert.UpGradWIdeal.main_v0) = v0 c
          ∧ r.2.mem ((c.tc : Thread Cert.UpGradWIdeal.nD Cert.UpGradWIdeal.τ).loc Cert.UpGradWIdeal.main_arg0) = m ((c.tc : Thread Cert.UpGradWIdeal.nD Cert.UpGradWIdeal.τ).loc Cert.UpGradWIdeal.main_arg0)
          ∧ r.2.mem ((c.tc : Thread Cert.UpGradWIdeal.nD Cert.UpGradWIdeal.τ).loc Cert.UpGradWIdeal.main_arg1) = m ((c.tc : Thread Cert.UpGradWIdeal.nD Cert.UpGradWIdeal.τ).loc Cert.UpGradWIdeal.main_arg1)
          ∧ r.2.mem ((c.tc : Thread Cert.UpGradWIdeal.nD Cert.UpGradWIdeal.τ).loc Cert.UpGradWIdeal.main_arg2) = m ((c.tc : Thread Cert.UpGradWIdeal.nD Cert.UpGradWIdeal.τ).loc Cert.UpGradWIdeal.main_arg2))
      ∧ θ_run (Cert.UpGradWRefIdeal.defs (F := Ideal)) (onTc (τ := Cert.UpGradWRefIdeal.τ) (Cert.UpGradWRefIdeal.main (F := Ideal))) ⟨m', fun _ => 0, g'⟩ (fun r => ∀ c : Dev Cert.UpGradWRefIdeal.nD,
          r.2.mem ((c.tc : Thread Cert.UpGradWRefIdeal.nD Cert.UpGradWRefIdeal.τ).loc Cert.UpGradWRefIdeal.main_v8) = v0 c
          ∧ r.2.mem ((c.tc : Thread Cert.UpGradWRefIdeal.nD Cert.UpGradWRefIdeal.τ).loc Cert.UpGradWRefIdeal.main_arg0) = m' ((c.tc : Thread Cert.UpGradWRefIdeal.nD Cert.UpGradWRefIdeal.τ).loc Cert.UpGradWRefIdeal.main_arg0)
          ∧ r.2.mem ((c.tc : Thread Cert.UpGradWRefIdeal.nD Cert.UpGradWRefIdeal.τ).loc Cert.UpGradWRefIdeal.main_arg1) = m' ((c.tc : Thread Cert.UpGradWRefIdeal.nD Cert.UpGradWRefIdeal.τ).loc Cert.UpGradWRefIdeal.main_arg1)
          ∧ r.2.mem ((c.tc : Thread Cert.UpGradWRefIdeal.nD Cert.UpGradWRefIdeal.τ).loc Cert.UpGradWRefIdeal.main_arg2) = m' ((c.tc : Thread Cert.UpGradWRefIdeal.nD Cert.UpGradWRefIdeal.τ).loc Cert.UpGradWRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownGradIn_DownGradInIdeal : Prop :=
  True

def algebraic_DownGradInIdeal_DownGradInRefIdeal [hDownGradInIdeal : Cert.DownGradInIdeal.Facts] [hDownGradInRefIdeal : Cert.DownGradInRefIdeal.Facts] : Prop :=
  ∀ (m : (ℓ : Loc Cert.DownGradInIdeal.nD Cert.DownGradInIdeal.τ Cert.DownGradInIdeal.sig) → Buf (Elt Ideal) ℓ) (g : Dev Cert.DownGradInIdeal.nD → PrngReg)
    (m' : (ℓ : Loc Cert.DownGradInRefIdeal.nD Cert.DownGradInRefIdeal.τ Cert.DownGradInRefIdeal.sig) → Buf (Elt Ideal) ℓ) (g' : Dev Cert.DownGradInRefIdeal.nD → PrngReg), Pre_DownGradInIdeal m →
    (∀ c : Dev Cert.DownGradInIdeal.nD,
      m' ((c.tc : Thread Cert.DownGradInRefIdeal.nD Cert.DownGradInRefIdeal.τ).loc Cert.DownGradInRefIdeal.main_arg0) = m ((c.tc : Thread Cert.DownGradInIdeal.nD Cert.DownGradInIdeal.τ).loc Cert.DownGradInIdeal.main_arg0)
      ∧ m' ((c.tc : Thread Cert.DownGradInRefIdeal.nD Cert.DownGradInRefIdeal.τ).loc Cert.DownGradInRefIdeal.main_arg1) = m ((c.tc : Thread Cert.DownGradInIdeal.nD Cert.DownGradInIdeal.τ).loc Cert.DownGradInIdeal.main_arg1)) →
    ∃ (v0 : (c : Dev Cert.DownGradInIdeal.nD) → Buf (Elt Ideal) ((c.tc : Thread Cert.DownGradInIdeal.nD Cert.DownGradInIdeal.τ).loc Cert.DownGradInIdeal.main_v0)),
      θ_run (Cert.DownGradInIdeal.defs (F := Ideal)) (onTc (τ := Cert.DownGradInIdeal.τ) (Cert.DownGradInIdeal.main (F := Ideal))) ⟨m, fun _ => 0, g⟩ (fun r => ∀ c : Dev Cert.DownGradInIdeal.nD,
          r.2.mem ((c.tc : Thread Cert.DownGradInIdeal.nD Cert.DownGradInIdeal.τ).loc Cert.DownGradInIdeal.main_v0) = v0 c
          ∧ r.2.mem ((c.tc : Thread Cert.DownGradInIdeal.nD Cert.DownGradInIdeal.τ).loc Cert.DownGradInIdeal.main_arg0) = m ((c.tc : Thread Cert.DownGradInIdeal.nD Cert.DownGradInIdeal.τ).loc Cert.DownGradInIdeal.main_arg0)
          ∧ r.2.mem ((c.tc : Thread Cert.DownGradInIdeal.nD Cert.DownGradInIdeal.τ).loc Cert.DownGradInIdeal.main_arg1) = m ((c.tc : Thread Cert.DownGradInIdeal.nD Cert.DownGradInIdeal.τ).loc Cert.DownGradInIdeal.main_arg1))
      ∧ θ_run (Cert.DownGradInRefIdeal.defs (F := Ideal)) (onTc (τ := Cert.DownGradInRefIdeal.τ) (Cert.DownGradInRefIdeal.main (F := Ideal))) ⟨m', fun _ => 0, g'⟩ (fun r => ∀ c : Dev Cert.DownGradInRefIdeal.nD,
          r.2.mem ((c.tc : Thread Cert.DownGradInRefIdeal.nD Cert.DownGradInRefIdeal.τ).loc Cert.DownGradInRefIdeal.main_v4) = v0 c
          ∧ r.2.mem ((c.tc : Thread Cert.DownGradInRefIdeal.nD Cert.DownGradInRefIdeal.τ).loc Cert.DownGradInRefIdeal.main_arg0) = m' ((c.tc : Thread Cert.DownGradInRefIdeal.nD Cert.DownGradInRefIdeal.τ).loc Cert.DownGradInRefIdeal.main_arg0)
          ∧ r.2.mem ((c.tc : Thread Cert.DownGradInRefIdeal.nD Cert.DownGradInRefIdeal.τ).loc Cert.DownGradInRefIdeal.main_arg1) = m' ((c.tc : Thread Cert.DownGradInRefIdeal.nD Cert.DownGradInRefIdeal.τ).loc Cert.DownGradInRefIdeal.main_arg1))

def preserves_DownGradW_DownGradWIdeal : Prop :=
  True

def algebraic_DownGradWIdeal_DownGradWRefIdeal [hDownGradWIdeal : Cert.DownGradWIdeal.Facts] [hDownGradWRefIdeal : Cert.DownGradWRefIdeal.Facts] : Prop :=
  ∀ (m : (ℓ : Loc Cert.DownGradWIdeal.nD Cert.DownGradWIdeal.τ Cert.DownGradWIdeal.sig) → Buf (Elt Ideal) ℓ) (g : Dev Cert.DownGradWIdeal.nD → PrngReg)
    (m' : (ℓ : Loc Cert.DownGradWRefIdeal.nD Cert.DownGradWRefIdeal.τ Cert.DownGradWRefIdeal.sig) → Buf (Elt Ideal) ℓ) (g' : Dev Cert.DownGradWRefIdeal.nD → PrngReg), Pre_DownGradWIdeal m →
    (∀ c : Dev Cert.DownGradWIdeal.nD,
      m' ((c.tc : Thread Cert.DownGradWRefIdeal.nD Cert.DownGradWRefIdeal.τ).loc Cert.DownGradWRefIdeal.main_arg0) = m ((c.tc : Thread Cert.DownGradWIdeal.nD Cert.DownGradWIdeal.τ).loc Cert.DownGradWIdeal.main_arg0)
      ∧ m' ((c.tc : Thread Cert.DownGradWRefIdeal.nD Cert.DownGradWRefIdeal.τ).loc Cert.DownGradWRefIdeal.main_arg1) = m ((c.tc : Thread Cert.DownGradWIdeal.nD Cert.DownGradWIdeal.τ).loc Cert.DownGradWIdeal.main_arg1)) →
    ∃ (v0 : (c : Dev Cert.DownGradWIdeal.nD) → Buf (Elt Ideal) ((c.tc : Thread Cert.DownGradWIdeal.nD Cert.DownGradWIdeal.τ).loc Cert.DownGradWIdeal.main_v0)),
      θ_run (Cert.DownGradWIdeal.defs (F := Ideal)) (onTc (τ := Cert.DownGradWIdeal.τ) (Cert.DownGradWIdeal.main (F := Ideal))) ⟨m, fun _ => 0, g⟩ (fun r => ∀ c : Dev Cert.DownGradWIdeal.nD,
          r.2.mem ((c.tc : Thread Cert.DownGradWIdeal.nD Cert.DownGradWIdeal.τ).loc Cert.DownGradWIdeal.main_v0) = v0 c
          ∧ r.2.mem ((c.tc : Thread Cert.DownGradWIdeal.nD Cert.DownGradWIdeal.τ).loc Cert.DownGradWIdeal.main_arg0) = m ((c.tc : Thread Cert.DownGradWIdeal.nD Cert.DownGradWIdeal.τ).loc Cert.DownGradWIdeal.main_arg0)
          ∧ r.2.mem ((c.tc : Thread Cert.DownGradWIdeal.nD Cert.DownGradWIdeal.τ).loc Cert.DownGradWIdeal.main_arg1) = m ((c.tc : Thread Cert.DownGradWIdeal.nD Cert.DownGradWIdeal.τ).loc Cert.DownGradWIdeal.main_arg1))
      ∧ θ_run (Cert.DownGradWRefIdeal.defs (F := Ideal)) (onTc (τ := Cert.DownGradWRefIdeal.τ) (Cert.DownGradWRefIdeal.main (F := Ideal))) ⟨m', fun _ => 0, g'⟩ (fun r => ∀ c : Dev Cert.DownGradWRefIdeal.nD,
          r.2.mem ((c.tc : Thread Cert.DownGradWRefIdeal.nD Cert.DownGradWRefIdeal.τ).loc Cert.DownGradWRefIdeal.main_v5) = v0 c
          ∧ r.2.mem ((c.tc : Thread Cert.DownGradWRefIdeal.nD Cert.DownGradWRefIdeal.τ).loc Cert.DownGradWRefIdeal.main_arg0) = m' ((c.tc : Thread Cert.DownGradWRefIdeal.nD Cert.DownGradWRefIdeal.τ).loc Cert.DownGradWRefIdeal.main_arg0)
          ∧ r.2.mem ((c.tc : Thread Cert.DownGradWRefIdeal.nD Cert.DownGradWRefIdeal.τ).loc Cert.DownGradWRefIdeal.main_arg1) = m' ((c.tc : Thread Cert.DownGradWRefIdeal.nD Cert.DownGradWRefIdeal.τ).loc Cert.DownGradWRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v6) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2))

def preserves_InGradW_InGradWIdeal : Prop :=
  True

def algebraic_InGradWIdeal_InGradWRefIdeal [hInGradWIdeal : Cert.InGradWIdeal.Facts] [hInGradWRefIdeal : Cert.InGradWRefIdeal.Facts] : Prop :=
  ∀ (m : (ℓ : Loc Cert.InGradWIdeal.nD Cert.InGradWIdeal.τ Cert.InGradWIdeal.sig) → Buf (Elt Ideal) ℓ) (g : Dev Cert.InGradWIdeal.nD → PrngReg)
    (m' : (ℓ : Loc Cert.InGradWRefIdeal.nD Cert.InGradWRefIdeal.τ Cert.InGradWRefIdeal.sig) → Buf (Elt Ideal) ℓ) (g' : Dev Cert.InGradWRefIdeal.nD → PrngReg), Pre_InGradWIdeal m →
    (∀ c : Dev Cert.InGradWIdeal.nD,
      m' ((c.tc : Thread Cert.InGradWRefIdeal.nD Cert.InGradWRefIdeal.τ).loc Cert.InGradWRefIdeal.main_arg0) = m ((c.tc : Thread Cert.InGradWIdeal.nD Cert.InGradWIdeal.τ).loc Cert.InGradWIdeal.main_arg0)
      ∧ m' ((c.tc : Thread Cert.InGradWRefIdeal.nD Cert.InGradWRefIdeal.τ).loc Cert.InGradWRefIdeal.main_arg1) = m ((c.tc : Thread Cert.InGradWIdeal.nD Cert.InGradWIdeal.τ).loc Cert.InGradWIdeal.main_arg1)) →
    ∃ (v0 : (c : Dev Cert.InGradWIdeal.nD) → Buf (Elt Ideal) ((c.tc : Thread Cert.InGradWIdeal.nD Cert.InGradWIdeal.τ).loc Cert.InGradWIdeal.main_v0)),
      θ_run (Cert.InGradWIdeal.defs (F := Ideal)) (onTc (τ := Cert.InGradWIdeal.τ) (Cert.InGradWIdeal.main (F := Ideal))) ⟨m, fun _ => 0, g⟩ (fun r => ∀ c : Dev Cert.InGradWIdeal.nD,
          r.2.mem ((c.tc : Thread Cert.InGradWIdeal.nD Cert.InGradWIdeal.τ).loc Cert.InGradWIdeal.main_v0) = v0 c
          ∧ r.2.mem ((c.tc : Thread Cert.InGradWIdeal.nD Cert.InGradWIdeal.τ).loc Cert.InGradWIdeal.main_arg0) = m ((c.tc : Thread Cert.InGradWIdeal.nD Cert.InGradWIdeal.τ).loc Cert.InGradWIdeal.main_arg0)
          ∧ r.2.mem ((c.tc : Thread Cert.InGradWIdeal.nD Cert.InGradWIdeal.τ).loc Cert.InGradWIdeal.main_arg1) = m ((c.tc : Thread Cert.InGradWIdeal.nD Cert.InGradWIdeal.τ).loc Cert.InGradWIdeal.main_arg1))
      ∧ θ_run (Cert.InGradWRefIdeal.defs (F := Ideal)) (onTc (τ := Cert.InGradWRefIdeal.τ) (Cert.InGradWRefIdeal.main (F := Ideal))) ⟨m', fun _ => 0, g'⟩ (fun r => ∀ c : Dev Cert.InGradWRefIdeal.nD,
          r.2.mem ((c.tc : Thread Cert.InGradWRefIdeal.nD Cert.InGradWRefIdeal.τ).loc Cert.InGradWRefIdeal.main_v7) = v0 c
          ∧ r.2.mem ((c.tc : Thread Cert.InGradWRefIdeal.nD Cert.InGradWRefIdeal.τ).loc Cert.InGradWRefIdeal.main_arg0) = m' ((c.tc : Thread Cert.InGradWRefIdeal.nD Cert.InGradWRefIdeal.τ).loc Cert.InGradWRefIdeal.main_arg0)
          ∧ r.2.mem ((c.tc : Thread Cert.InGradWRefIdeal.nD Cert.InGradWRefIdeal.τ).loc Cert.InGradWRefIdeal.main_arg1) = m' ((c.tc : Thread Cert.InGradWRefIdeal.nD Cert.InGradWRefIdeal.τ).loc Cert.InGradWRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_MixGradIn_MixGradInIdeal : Prop :=
  True

def algebraic_MixGradInIdeal_MixGradInRefIdeal [hMixGradInIdeal : Cert.MixGradInIdeal.Facts] [hMixGradInRefIdeal : Cert.MixGradInRefIdeal.Facts] : Prop :=
  ∀ (m : (ℓ : Loc Cert.MixGradInIdeal.nD Cert.MixGradInIdeal.τ Cert.MixGradInIdeal.sig) → Buf (Elt Ideal) ℓ) (g : Dev Cert.MixGradInIdeal.nD → PrngReg)
    (m' : (ℓ : Loc Cert.MixGradInRefIdeal.nD Cert.MixGradInRefIdeal.τ Cert.MixGradInRefIdeal.sig) → Buf (Elt Ideal) ℓ) (g' : Dev Cert.MixGradInRefIdeal.nD → PrngReg), Pre_MixGradInIdeal m →
    (∀ c : Dev Cert.MixGradInIdeal.nD,
      m' ((c.tc : Thread Cert.MixGradInRefIdeal.nD Cert.MixGradInRefIdeal.τ).loc Cert.MixGradInRefIdeal.main_arg0) = m ((c.tc : Thread Cert.MixGradInIdeal.nD Cert.MixGradInIdeal.τ).loc Cert.MixGradInIdeal.main_arg0)
      ∧ m' ((c.tc : Thread Cert.MixGradInRefIdeal.nD Cert.MixGradInRefIdeal.τ).loc Cert.MixGradInRefIdeal.main_arg1) = m ((c.tc : Thread Cert.MixGradInIdeal.nD Cert.MixGradInIdeal.τ).loc Cert.MixGradInIdeal.main_arg1)) →
    ∃ (v0 : (c : Dev Cert.MixGradInIdeal.nD) → Buf (Elt Ideal) ((c.tc : Thread Cert.MixGradInIdeal.nD Cert.MixGradInIdeal.τ).loc Cert.MixGradInIdeal.main_v0)),
      θ_run (Cert.MixGradInIdeal.defs (F := Ideal)) (onTc (τ := Cert.MixGradInIdeal.τ) (Cert.MixGradInIdeal.main (F := Ideal))) ⟨m, fun _ => 0, g⟩ (fun r => ∀ c : Dev Cert.MixGradInIdeal.nD,
          r.2.mem ((c.tc : Thread Cert.MixGradInIdeal.nD Cert.MixGradInIdeal.τ).loc Cert.MixGradInIdeal.main_v0) = v0 c
          ∧ r.2.mem ((c.tc : Thread Cert.MixGradInIdeal.nD Cert.MixGradInIdeal.τ).loc Cert.MixGradInIdeal.main_arg0) = m ((c.tc : Thread Cert.MixGradInIdeal.nD Cert.MixGradInIdeal.τ).loc Cert.MixGradInIdeal.main_arg0)
          ∧ r.2.mem ((c.tc : Thread Cert.MixGradInIdeal.nD Cert.MixGradInIdeal.τ).loc Cert.MixGradInIdeal.main_arg1) = m ((c.tc : Thread Cert.MixGradInIdeal.nD Cert.MixGradInIdeal.τ).loc Cert.MixGradInIdeal.main_arg1))
      ∧ θ_run (Cert.MixGradInRefIdeal.defs (F := Ideal)) (onTc (τ := Cert.MixGradInRefIdeal.τ) (Cert.MixGradInRefIdeal.main (F := Ideal))) ⟨m', fun _ => 0, g'⟩ (fun r => ∀ c : Dev Cert.MixGradInRefIdeal.nD,
          r.2.mem ((c.tc : Thread Cert.MixGradInRefIdeal.nD Cert.MixGradInRefIdeal.τ).loc Cert.MixGradInRefIdeal.main_v4) = v0 c
          ∧ r.2.mem ((c.tc : Thread Cert.MixGradInRefIdeal.nD Cert.MixGradInRefIdeal.τ).loc Cert.MixGradInRefIdeal.main_arg0) = m' ((c.tc : Thread Cert.MixGradInRefIdeal.nD Cert.MixGradInRefIdeal.τ).loc Cert.MixGradInRefIdeal.main_arg0)
          ∧ r.2.mem ((c.tc : Thread Cert.MixGradInRefIdeal.nD Cert.MixGradInRefIdeal.τ).loc Cert.MixGradInRefIdeal.main_arg1) = m' ((c.tc : Thread Cert.MixGradInRefIdeal.nD Cert.MixGradInRefIdeal.τ).loc Cert.MixGradInRefIdeal.main_arg1))

def preserves_MixGradW_MixGradWIdeal : Prop :=
  True

def algebraic_MixGradWIdeal_MixGradWRefIdeal [hMixGradWIdeal : Cert.MixGradWIdeal.Facts] [hMixGradWRefIdeal : Cert.MixGradWRefIdeal.Facts] : Prop :=
  ∀ (m : (ℓ : Loc Cert.MixGradWIdeal.nD Cert.MixGradWIdeal.τ Cert.MixGradWIdeal.sig) → Buf (Elt Ideal) ℓ) (g : Dev Cert.MixGradWIdeal.nD → PrngReg)
    (m' : (ℓ : Loc Cert.MixGradWRefIdeal.nD Cert.MixGradWRefIdeal.τ Cert.MixGradWRefIdeal.sig) → Buf (Elt Ideal) ℓ) (g' : Dev Cert.MixGradWRefIdeal.nD → PrngReg), Pre_MixGradWIdeal m →
    (∀ c : Dev Cert.MixGradWIdeal.nD,
      m' ((c.tc : Thread Cert.MixGradWRefIdeal.nD Cert.MixGradWRefIdeal.τ).loc Cert.MixGradWRefIdeal.main_arg0) = m ((c.tc : Thread Cert.MixGradWIdeal.nD Cert.MixGradWIdeal.τ).loc Cert.MixGradWIdeal.main_arg0)
      ∧ m' ((c.tc : Thread Cert.MixGradWRefIdeal.nD Cert.MixGradWRefIdeal.τ).loc Cert.MixGradWRefIdeal.main_arg1) = m ((c.tc : Thread Cert.MixGradWIdeal.nD Cert.MixGradWIdeal.τ).loc Cert.MixGradWIdeal.main_arg1)) →
    ∃ (v0 : (c : Dev Cert.MixGradWIdeal.nD) → Buf (Elt Ideal) ((c.tc : Thread Cert.MixGradWIdeal.nD Cert.MixGradWIdeal.τ).loc Cert.MixGradWIdeal.main_v0)),
      θ_run (Cert.MixGradWIdeal.defs (F := Ideal)) (onTc (τ := Cert.MixGradWIdeal.τ) (Cert.MixGradWIdeal.main (F := Ideal))) ⟨m, fun _ => 0, g⟩ (fun r => ∀ c : Dev Cert.MixGradWIdeal.nD,
          r.2.mem ((c.tc : Thread Cert.MixGradWIdeal.nD Cert.MixGradWIdeal.τ).loc Cert.MixGradWIdeal.main_v0) = v0 c
          ∧ r.2.mem ((c.tc : Thread Cert.MixGradWIdeal.nD Cert.MixGradWIdeal.τ).loc Cert.MixGradWIdeal.main_arg0) = m ((c.tc : Thread Cert.MixGradWIdeal.nD Cert.MixGradWIdeal.τ).loc Cert.MixGradWIdeal.main_arg0)
          ∧ r.2.mem ((c.tc : Thread Cert.MixGradWIdeal.nD Cert.MixGradWIdeal.τ).loc Cert.MixGradWIdeal.main_arg1) = m ((c.tc : Thread Cert.MixGradWIdeal.nD Cert.MixGradWIdeal.τ).loc Cert.MixGradWIdeal.main_arg1))
      ∧ θ_run (Cert.MixGradWRefIdeal.defs (F := Ideal)) (onTc (τ := Cert.MixGradWRefIdeal.τ) (Cert.MixGradWRefIdeal.main (F := Ideal))) ⟨m', fun _ => 0, g'⟩ (fun r => ∀ c : Dev Cert.MixGradWRefIdeal.nD,
          r.2.mem ((c.tc : Thread Cert.MixGradWRefIdeal.nD Cert.MixGradWRefIdeal.τ).loc Cert.MixGradWRefIdeal.main_v5) = v0 c
          ∧ r.2.mem ((c.tc : Thread Cert.MixGradWRefIdeal.nD Cert.MixGradWRefIdeal.τ).loc Cert.MixGradWRefIdeal.main_arg0) = m' ((c.tc : Thread Cert.MixGradWRefIdeal.nD Cert.MixGradWRefIdeal.τ).loc Cert.MixGradWRefIdeal.main_arg0)
          ∧ r.2.mem ((c.tc : Thread Cert.MixGradWRefIdeal.nD Cert.MixGradWRefIdeal.τ).loc Cert.MixGradWRefIdeal.main_arg1) = m' ((c.tc : Thread Cert.MixGradWRefIdeal.nD Cert.MixGradWRefIdeal.τ).loc Cert.MixGradWRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_ConvGradIn_ConvGradInIdeal : Prop :=
  True

def algebraic_ConvGradInIdeal_ConvGradInRefIdeal [hConvGradInIdeal : Cert.ConvGradInIdeal.Facts] [hConvGradInRefIdeal : Cert.ConvGradInRefIdeal.Facts] : Prop :=
  ∀ (m : (ℓ : Loc Cert.ConvGradInIdeal.nD Cert.ConvGradInIdeal.τ Cert.ConvGradInIdeal.sig) → Buf (Elt Ideal) ℓ) (g : Dev Cert.ConvGradInIdeal.nD → PrngReg)
    (m' : (ℓ : Loc Cert.ConvGradInRefIdeal.nD Cert.ConvGradInRefIdeal.τ Cert.ConvGradInRefIdeal.sig) → Buf (Elt Ideal) ℓ) (g' : Dev Cert.ConvGradInRefIdeal.nD → PrngReg), Pre_ConvGradInIdeal m →
    (∀ c : Dev Cert.ConvGradInIdeal.nD,
      m' ((c.tc : Thread Cert.ConvGradInRefIdeal.nD Cert.ConvGradInRefIdeal.τ).loc Cert.ConvGradInRefIdeal.main_arg0) = m ((c.tc : Thread Cert.ConvGradInIdeal.nD Cert.ConvGradInIdeal.τ).loc Cert.ConvGradInIdeal.main_arg0)
      ∧ m' ((c.tc : Thread Cert.ConvGradInRefIdeal.nD Cert.ConvGradInRefIdeal.τ).loc Cert.ConvGradInRefIdeal.main_arg1) = m ((c.tc : Thread Cert.ConvGradInIdeal.nD Cert.ConvGradInIdeal.τ).loc Cert.ConvGradInIdeal.main_arg1)) →
    ∃ (v0 : (c : Dev Cert.ConvGradInIdeal.nD) → Buf (Elt Ideal) ((c.tc : Thread Cert.ConvGradInIdeal.nD Cert.ConvGradInIdeal.τ).loc Cert.ConvGradInIdeal.main_v0)),
      θ_run (Cert.ConvGradInIdeal.defs (F := Ideal)) (onTc (τ := Cert.ConvGradInIdeal.τ) (Cert.ConvGradInIdeal.main (F := Ideal))) ⟨m, fun _ => 0, g⟩ (fun r => ∀ c : Dev Cert.ConvGradInIdeal.nD,
          r.2.mem ((c.tc : Thread Cert.ConvGradInIdeal.nD Cert.ConvGradInIdeal.τ).loc Cert.ConvGradInIdeal.main_v0) = v0 c
          ∧ r.2.mem ((c.tc : Thread Cert.ConvGradInIdeal.nD Cert.ConvGradInIdeal.τ).loc Cert.ConvGradInIdeal.main_arg0) = m ((c.tc : Thread Cert.ConvGradInIdeal.nD Cert.ConvGradInIdeal.τ).loc Cert.ConvGradInIdeal.main_arg0)
          ∧ r.2.mem ((c.tc : Thread Cert.ConvGradInIdeal.nD Cert.ConvGradInIdeal.τ).loc Cert.ConvGradInIdeal.main_arg1) = m ((c.tc : Thread Cert.ConvGradInIdeal.nD Cert.ConvGradInIdeal.τ).loc Cert.ConvGradInIdeal.main_arg1))
      ∧ θ_run (Cert.ConvGradInRefIdeal.defs (F := Ideal)) (onTc (τ := Cert.ConvGradInRefIdeal.τ) (Cert.ConvGradInRefIdeal.main (F := Ideal))) ⟨m', fun _ => 0, g'⟩ (fun r => ∀ c : Dev Cert.ConvGradInRefIdeal.nD,
          r.2.mem ((c.tc : Thread Cert.ConvGradInRefIdeal.nD Cert.ConvGradInRefIdeal.τ).loc Cert.ConvGradInRefIdeal.main_v5) = v0 c
          ∧ r.2.mem ((c.tc : Thread Cert.ConvGradInRefIdeal.nD Cert.ConvGradInRefIdeal.τ).loc Cert.ConvGradInRefIdeal.main_arg0) = m' ((c.tc : Thread Cert.ConvGradInRefIdeal.nD Cert.ConvGradInRefIdeal.τ).loc Cert.ConvGradInRefIdeal.main_arg0)
          ∧ r.2.mem ((c.tc : Thread Cert.ConvGradInRefIdeal.nD Cert.ConvGradInRefIdeal.τ).loc Cert.ConvGradInRefIdeal.main_arg1) = m' ((c.tc : Thread Cert.ConvGradInRefIdeal.nD Cert.ConvGradInRefIdeal.τ).loc Cert.ConvGradInRefIdeal.main_arg1))

def preserves_AttnGradIn_AttnGradInIdeal : Prop :=
  True

def algebraic_AttnGradInIdeal_AttnGradInRefIdeal [hAttnGradInIdeal : Cert.AttnGradInIdeal.Facts] [hAttnGradInRefIdeal : Cert.AttnGradInRefIdeal.Facts] : Prop :=
  ∀ (m : (ℓ : Loc Cert.AttnGradInIdeal.nD Cert.AttnGradInIdeal.τ Cert.AttnGradInIdeal.sig) → Buf (Elt Ideal) ℓ) (g : Dev Cert.AttnGradInIdeal.nD → PrngReg)
    (m' : (ℓ : Loc Cert.AttnGradInRefIdeal.nD Cert.AttnGradInRefIdeal.τ Cert.AttnGradInRefIdeal.sig) → Buf (Elt Ideal) ℓ) (g' : Dev Cert.AttnGradInRefIdeal.nD → PrngReg), Pre_AttnGradInIdeal m →
    (∀ c : Dev Cert.AttnGradInIdeal.nD,
      m' ((c.tc : Thread Cert.AttnGradInRefIdeal.nD Cert.AttnGradInRefIdeal.τ).loc Cert.AttnGradInRefIdeal.main_arg0) = m ((c.tc : Thread Cert.AttnGradInIdeal.nD Cert.AttnGradInIdeal.τ).loc Cert.AttnGradInIdeal.main_arg0)
      ∧ m' ((c.tc : Thread Cert.AttnGradInRefIdeal.nD Cert.AttnGradInRefIdeal.τ).loc Cert.AttnGradInRefIdeal.main_arg1) = m ((c.tc : Thread Cert.AttnGradInIdeal.nD Cert.AttnGradInIdeal.τ).loc Cert.AttnGradInIdeal.main_arg1)) →
    ∃ (v0 : (c : Dev Cert.AttnGradInIdeal.nD) → Buf (Elt Ideal) ((c.tc : Thread Cert.AttnGradInIdeal.nD Cert.AttnGradInIdeal.τ).loc Cert.AttnGradInIdeal.main_v0)),
      θ_run (Cert.AttnGradInIdeal.defs (F := Ideal)) (onTc (τ := Cert.AttnGradInIdeal.τ) (Cert.AttnGradInIdeal.main (F := Ideal))) ⟨m, fun _ => 0, g⟩ (fun r => ∀ c : Dev Cert.AttnGradInIdeal.nD,
          r.2.mem ((c.tc : Thread Cert.AttnGradInIdeal.nD Cert.AttnGradInIdeal.τ).loc Cert.AttnGradInIdeal.main_v0) = v0 c
          ∧ r.2.mem ((c.tc : Thread Cert.AttnGradInIdeal.nD Cert.AttnGradInIdeal.τ).loc Cert.AttnGradInIdeal.main_arg0) = m ((c.tc : Thread Cert.AttnGradInIdeal.nD Cert.AttnGradInIdeal.τ).loc Cert.AttnGradInIdeal.main_arg0)
          ∧ r.2.mem ((c.tc : Thread Cert.AttnGradInIdeal.nD Cert.AttnGradInIdeal.τ).loc Cert.AttnGradInIdeal.main_arg1) = m ((c.tc : Thread Cert.AttnGradInIdeal.nD Cert.AttnGradInIdeal.τ).loc Cert.AttnGradInIdeal.main_arg1))
      ∧ θ_run (Cert.AttnGradInRefIdeal.defs (F := Ideal)) (onTc (τ := Cert.AttnGradInRefIdeal.τ) (Cert.AttnGradInRefIdeal.main (F := Ideal))) ⟨m', fun _ => 0, g'⟩ (fun r => ∀ c : Dev Cert.AttnGradInRefIdeal.nD,
          r.2.mem ((c.tc : Thread Cert.AttnGradInRefIdeal.nD Cert.AttnGradInRefIdeal.τ).loc Cert.AttnGradInRefIdeal.main_v6) = v0 c
          ∧ r.2.mem ((c.tc : Thread Cert.AttnGradInRefIdeal.nD Cert.AttnGradInRefIdeal.τ).loc Cert.AttnGradInRefIdeal.main_arg0) = m' ((c.tc : Thread Cert.AttnGradInRefIdeal.nD Cert.AttnGradInRefIdeal.τ).loc Cert.AttnGradInRefIdeal.main_arg0)
          ∧ r.2.mem ((c.tc : Thread Cert.AttnGradInRefIdeal.nD Cert.AttnGradInRefIdeal.τ).loc Cert.AttnGradInRefIdeal.main_arg1) = m' ((c.tc : Thread Cert.AttnGradInRefIdeal.nD Cert.AttnGradInRefIdeal.τ).loc Cert.AttnGradInRefIdeal.main_arg1))

def preserves_BranchGradW_BranchGradWIdeal : Prop :=
  True

def algebraic_BranchGradWIdeal_BranchGradWRefIdeal [hBranchGradWIdeal : Cert.BranchGradWIdeal.Facts] [hBranchGradWRefIdeal : Cert.BranchGradWRefIdeal.Facts] : Prop :=
  ∀ (m : (ℓ : Loc Cert.BranchGradWIdeal.nD Cert.BranchGradWIdeal.τ Cert.BranchGradWIdeal.sig) → Buf (Elt Ideal) ℓ) (g : Dev Cert.BranchGradWIdeal.nD → PrngReg)
    (m' : (ℓ : Loc Cert.BranchGradWRefIdeal.nD Cert.BranchGradWRefIdeal.τ Cert.BranchGradWRefIdeal.sig) → Buf (Elt Ideal) ℓ) (g' : Dev Cert.BranchGradWRefIdeal.nD → PrngReg), Pre_BranchGradWIdeal m →
    (∀ c : Dev Cert.BranchGradWIdeal.nD,
      m' ((c.tc : Thread Cert.BranchGradWRefIdeal.nD Cert.BranchGradWRefIdeal.τ).loc Cert.BranchGradWRefIdeal.main_arg0) = m ((c.tc : Thread Cert.BranchGradWIdeal.nD Cert.BranchGradWIdeal.τ).loc Cert.BranchGradWIdeal.main_arg0)
      ∧ m' ((c.tc : Thread Cert.BranchGradWRefIdeal.nD Cert.BranchGradWRefIdeal.τ).loc Cert.BranchGradWRefIdeal.main_arg1) = m ((c.tc : Thread Cert.BranchGradWIdeal.nD Cert.BranchGradWIdeal.τ).loc Cert.BranchGradWIdeal.main_arg1)) →
    ∃ (v0 : (c : Dev Cert.BranchGradWIdeal.nD) → Buf (Elt Ideal) ((c.tc : Thread Cert.BranchGradWIdeal.nD Cert.BranchGradWIdeal.τ).loc Cert.BranchGradWIdeal.main_v0)),
      θ_run (Cert.BranchGradWIdeal.defs (F := Ideal)) (onTc (τ := Cert.BranchGradWIdeal.τ) (Cert.BranchGradWIdeal.main (F := Ideal))) ⟨m, fun _ => 0, g⟩ (fun r => ∀ c : Dev Cert.BranchGradWIdeal.nD,
          r.2.mem ((c.tc : Thread Cert.BranchGradWIdeal.nD Cert.BranchGradWIdeal.τ).loc Cert.BranchGradWIdeal.main_v0) = v0 c
          ∧ r.2.mem ((c.tc : Thread Cert.BranchGradWIdeal.nD Cert.BranchGradWIdeal.τ).loc Cert.BranchGradWIdeal.main_arg0) = m ((c.tc : Thread Cert.BranchGradWIdeal.nD Cert.BranchGradWIdeal.τ).loc Cert.BranchGradWIdeal.main_arg0)
          ∧ r.2.mem ((c.tc : Thread Cert.BranchGradWIdeal.nD Cert.BranchGradWIdeal.τ).loc Cert.BranchGradWIdeal.main_arg1) = m ((c.tc : Thread Cert.BranchGradWIdeal.nD Cert.BranchGradWIdeal.τ).loc Cert.BranchGradWIdeal.main_arg1))
      ∧ θ_run (Cert.BranchGradWRefIdeal.defs (F := Ideal)) (onTc (τ := Cert.BranchGradWRefIdeal.τ) (Cert.BranchGradWRefIdeal.main (F := Ideal))) ⟨m', fun _ => 0, g'⟩ (fun r => ∀ c : Dev Cert.BranchGradWRefIdeal.nD,
          r.2.mem ((c.tc : Thread Cert.BranchGradWRefIdeal.nD Cert.BranchGradWRefIdeal.τ).loc Cert.BranchGradWRefIdeal.main_v7) = v0 c
          ∧ r.2.mem ((c.tc : Thread Cert.BranchGradWRefIdeal.nD Cert.BranchGradWRefIdeal.τ).loc Cert.BranchGradWRefIdeal.main_arg0) = m' ((c.tc : Thread Cert.BranchGradWRefIdeal.nD Cert.BranchGradWRefIdeal.τ).loc Cert.BranchGradWRefIdeal.main_arg0)
          ∧ r.2.mem ((c.tc : Thread Cert.BranchGradWRefIdeal.nD Cert.BranchGradWRefIdeal.τ).loc Cert.BranchGradWRefIdeal.main_arg1) = m' ((c.tc : Thread Cert.BranchGradWRefIdeal.nD Cert.BranchGradWRefIdeal.τ).loc Cert.BranchGradWRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)
      ∧ m' ((c.tc : Thread Cert.GateProjRefIdeal.nD Cert.GateProjRefIdeal.τ).loc Cert.GateProjRefIdeal.main_arg2) = m ((c.tc : Thread Cert.GateProjIdeal.nD Cert.GateProjIdeal.τ).loc Cert.GateProjIdeal.main_arg2)) →
    ∃ (v0 : (c : Dev Cert.GateProjIdeal.nD) → Buf (Elt Ideal) ((c.tc : Thread Cert.GateProjIdeal.nD Cert.GateProjIdeal.τ).loc Cert.GateProjIdeal.main_v0)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v0) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
          ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v5) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1)
          ∧ r.2.mem ((c.tc : Thread Cert.GateProjRefIdeal.nD Cert.GateProjRefIdeal.τ).loc Cert.GateProjRefIdeal.main_arg2) = m' ((c.tc : Thread Cert.GateProjRefIdeal.nD Cert.GateProjRefIdeal.τ).loc Cert.GateProjRefIdeal.main_arg2))

def preserves_GateGradIn_GateGradInIdeal : Prop :=
  True

def algebraic_GateGradInIdeal_GateGradInRefIdeal [hGateGradInIdeal : Cert.GateGradInIdeal.Facts] [hGateGradInRefIdeal : Cert.GateGradInRefIdeal.Facts] : Prop :=
  ∀ (m : (ℓ : Loc Cert.GateGradInIdeal.nD Cert.GateGradInIdeal.τ Cert.GateGradInIdeal.sig) → Buf (Elt Ideal) ℓ) (g : Dev Cert.GateGradInIdeal.nD → PrngReg)
    (m' : (ℓ : Loc Cert.GateGradInRefIdeal.nD Cert.GateGradInRefIdeal.τ Cert.GateGradInRefIdeal.sig) → Buf (Elt Ideal) ℓ) (g' : Dev Cert.GateGradInRefIdeal.nD → PrngReg), Pre_GateGradInIdeal m →
    (∀ c : Dev Cert.GateGradInIdeal.nD,
      m' ((c.tc : Thread Cert.GateGradInRefIdeal.nD Cert.GateGradInRefIdeal.τ).loc Cert.GateGradInRefIdeal.main_arg0) = m ((c.tc : Thread Cert.GateGradInIdeal.nD Cert.GateGradInIdeal.τ).loc Cert.GateGradInIdeal.main_arg0)
      ∧ m' ((c.tc : Thread Cert.GateGradInRefIdeal.nD Cert.GateGradInRefIdeal.τ).loc Cert.GateGradInRefIdeal.main_arg1) = m ((c.tc : Thread Cert.GateGradInIdeal.nD Cert.GateGradInIdeal.τ).loc Cert.GateGradInIdeal.main_arg1)) →
    ∃ (v0 : (c : Dev Cert.GateGradInIdeal.nD) → Buf (Elt Ideal) ((c.tc : Thread Cert.GateGradInIdeal.nD Cert.GateGradInIdeal.τ).loc Cert.GateGradInIdeal.main_v0)),
      θ_run (Cert.GateGradInIdeal.defs (F := Ideal)) (onTc (τ := Cert.GateGradInIdeal.τ) (Cert.GateGradInIdeal.main (F := Ideal))) ⟨m, fun _ => 0, g⟩ (fun r => ∀ c : Dev Cert.GateGradInIdeal.nD,
          r.2.mem ((c.tc : Thread Cert.GateGradInIdeal.nD Cert.GateGradInIdeal.τ).loc Cert.GateGradInIdeal.main_v0) = v0 c
          ∧ r.2.mem ((c.tc : Thread Cert.GateGradInIdeal.nD Cert.GateGradInIdeal.τ).loc Cert.GateGradInIdeal.main_arg0) = m ((c.tc : Thread Cert.GateGradInIdeal.nD Cert.GateGradInIdeal.τ).loc Cert.GateGradInIdeal.main_arg0)
          ∧ r.2.mem ((c.tc : Thread Cert.GateGradInIdeal.nD Cert.GateGradInIdeal.τ).loc Cert.GateGradInIdeal.main_arg1) = m ((c.tc : Thread Cert.GateGradInIdeal.nD Cert.GateGradInIdeal.τ).loc Cert.GateGradInIdeal.main_arg1))
      ∧ θ_run (Cert.GateGradInRefIdeal.defs (F := Ideal)) (onTc (τ := Cert.GateGradInRefIdeal.τ) (Cert.GateGradInRefIdeal.main (F := Ideal))) ⟨m', fun _ => 0, g'⟩ (fun r => ∀ c : Dev Cert.GateGradInRefIdeal.nD,
          r.2.mem ((c.tc : Thread Cert.GateGradInRefIdeal.nD Cert.GateGradInRefIdeal.τ).loc Cert.GateGradInRefIdeal.main_v5) = v0 c
          ∧ r.2.mem ((c.tc : Thread Cert.GateGradInRefIdeal.nD Cert.GateGradInRefIdeal.τ).loc Cert.GateGradInRefIdeal.main_arg0) = m' ((c.tc : Thread Cert.GateGradInRefIdeal.nD Cert.GateGradInRefIdeal.τ).loc Cert.GateGradInRefIdeal.main_arg0)
          ∧ r.2.mem ((c.tc : Thread Cert.GateGradInRefIdeal.nD Cert.GateGradInRefIdeal.τ).loc Cert.GateGradInRefIdeal.main_arg1) = m' ((c.tc : Thread Cert.GateGradInRefIdeal.nD Cert.GateGradInRefIdeal.τ).loc Cert.GateGradInRefIdeal.main_arg1))

def preserves_GateGradW_GateGradWIdeal : Prop :=
  True

def algebraic_GateGradWIdeal_GateGradWRefIdeal [hGateGradWIdeal : Cert.GateGradWIdeal.Facts] [hGateGradWRefIdeal : Cert.GateGradWRefIdeal.Facts] : Prop :=
  ∀ (m : (ℓ : Loc Cert.GateGradWIdeal.nD Cert.GateGradWIdeal.τ Cert.GateGradWIdeal.sig) → Buf (Elt Ideal) ℓ) (g : Dev Cert.GateGradWIdeal.nD → PrngReg)
    (m' : (ℓ : Loc Cert.GateGradWRefIdeal.nD Cert.GateGradWRefIdeal.τ Cert.GateGradWRefIdeal.sig) → Buf (Elt Ideal) ℓ) (g' : Dev Cert.GateGradWRefIdeal.nD → PrngReg), Pre_GateGradWIdeal m →
    (∀ c : Dev Cert.GateGradWIdeal.nD,
      m' ((c.tc : Thread Cert.GateGradWRefIdeal.nD Cert.GateGradWRefIdeal.τ).loc Cert.GateGradWRefIdeal.main_arg0) = m ((c.tc : Thread Cert.GateGradWIdeal.nD Cert.GateGradWIdeal.τ).loc Cert.GateGradWIdeal.main_arg0)
      ∧ m' ((c.tc : Thread Cert.GateGradWRefIdeal.nD Cert.GateGradWRefIdeal.τ).loc Cert.GateGradWRefIdeal.main_arg1) = m ((c.tc : Thread Cert.GateGradWIdeal.nD Cert.GateGradWIdeal.τ).loc Cert.GateGradWIdeal.main_arg1)) →
    ∃ (v0 : (c : Dev Cert.GateGradWIdeal.nD) → Buf (Elt Ideal) ((c.tc : Thread Cert.GateGradWIdeal.nD Cert.GateGradWIdeal.τ).loc Cert.GateGradWIdeal.main_v0)),
      θ_run (Cert.GateGradWIdeal.defs (F := Ideal)) (onTc (τ := Cert.GateGradWIdeal.τ) (Cert.GateGradWIdeal.main (F := Ideal))) ⟨m, fun _ => 0, g⟩ (fun r => ∀ c : Dev Cert.GateGradWIdeal.nD,
          r.2.mem ((c.tc : Thread Cert.GateGradWIdeal.nD Cert.GateGradWIdeal.τ).loc Cert.GateGradWIdeal.main_v0) = v0 c
          ∧ r.2.mem ((c.tc : Thread Cert.GateGradWIdeal.nD Cert.GateGradWIdeal.τ).loc Cert.GateGradWIdeal.main_arg0) = m ((c.tc : Thread Cert.GateGradWIdeal.nD Cert.GateGradWIdeal.τ).loc Cert.GateGradWIdeal.main_arg0)
          ∧ r.2.mem ((c.tc : Thread Cert.GateGradWIdeal.nD Cert.GateGradWIdeal.τ).loc Cert.GateGradWIdeal.main_arg1) = m ((c.tc : Thread Cert.GateGradWIdeal.nD Cert.GateGradWIdeal.τ).loc Cert.GateGradWIdeal.main_arg1))
      ∧ θ_run (Cert.GateGradWRefIdeal.defs (F := Ideal)) (onTc (τ := Cert.GateGradWRefIdeal.τ) (Cert.GateGradWRefIdeal.main (F := Ideal))) ⟨m', fun _ => 0, g'⟩ (fun r => ∀ c : Dev Cert.GateGradWRefIdeal.nD,
          r.2.mem ((c.tc : Thread Cert.GateGradWRefIdeal.nD Cert.GateGradWRefIdeal.τ).loc Cert.GateGradWRefIdeal.main_v7) = v0 c
          ∧ r.2.mem ((c.tc : Thread Cert.GateGradWRefIdeal.nD Cert.GateGradWRefIdeal.τ).loc Cert.GateGradWRefIdeal.main_arg0) = m' ((c.tc : Thread Cert.GateGradWRefIdeal.nD Cert.GateGradWRefIdeal.τ).loc Cert.GateGradWRefIdeal.main_arg0)
          ∧ r.2.mem ((c.tc : Thread Cert.GateGradWRefIdeal.nD Cert.GateGradWRefIdeal.τ).loc Cert.GateGradWRefIdeal.main_arg1) = m' ((c.tc : Thread Cert.GateGradWRefIdeal.nD Cert.GateGradWRefIdeal.τ).loc Cert.GateGradWRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)) (v3 : (c : Dev Cert.MergeGradIdeal.nD) → Buf (Elt Ideal) ((c.tc : Thread Cert.MergeGradIdeal.nD Cert.MergeGradIdeal.τ).loc Cert.MergeGradIdeal.main_v0_3)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v0_0) = v0 c
          ∧ r.2.mem ((c.tc : Thread Cert.MergeGradIdeal.nD Cert.MergeGradIdeal.τ).loc Cert.MergeGradIdeal.main_v0_1) = v1 c
          ∧ r.2.mem ((c.tc : Thread Cert.MergeGradIdeal.nD Cert.MergeGradIdeal.τ).loc Cert.MergeGradIdeal.main_v0_2) = v2 c
          ∧ r.2.mem ((c.tc : Thread Cert.MergeGradIdeal.nD Cert.MergeGradIdeal.τ).loc Cert.MergeGradIdeal.main_v0_3) = v3 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v31) = v0 c
          ∧ r.2.mem ((c.tc : Thread Cert.MergeGradRefIdeal.nD Cert.MergeGradRefIdeal.τ).loc Cert.MergeGradRefIdeal.main_v32) = v1 c
          ∧ r.2.mem ((c.tc : Thread Cert.MergeGradRefIdeal.nD Cert.MergeGradRefIdeal.τ).loc Cert.MergeGradRefIdeal.main_v33) = v2 c
          ∧ r.2.mem ((c.tc : Thread Cert.MergeGradRefIdeal.nD Cert.MergeGradRefIdeal.τ).loc Cert.MergeGradRefIdeal.main_v34) = v3 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3))

def preserves_BiasGrad_BiasGradIdeal : Prop :=
  True

def algebraic_BiasGradIdeal_BiasGradRefIdeal [hBiasGradIdeal : Cert.BiasGradIdeal.Facts] [hBiasGradRefIdeal : Cert.BiasGradRefIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)) →
    ∃ (v0 : (c : Dev Cert.BiasGradIdeal.nD) → Buf (Elt Ideal) ((c.tc : Thread Cert.BiasGradIdeal.nD Cert.BiasGradIdeal.τ).loc Cert.BiasGradIdeal.main_v0)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v0) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v6) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v24) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormGrad_NormGradIdeal : Prop :=
  True

def algebraic_NormGradIdeal_NormGradRefIdeal_pre_finite_norm [hNormGradIdeal : Cert.NormGradIdeal.Facts] [hNormGradRefIdeal : Cert.NormGradRefIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_finite_norm m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v58) = v0 c
          ∧ r.2.mem ((c.tc : Thread Cert.NormGradRefIdeal.nD Cert.NormGradRefIdeal.τ).loc Cert.NormGradRefIdeal.main_v32) = v1 c
          ∧ r.2.mem ((c.tc : Thread Cert.NormGradRefIdeal.nD Cert.NormGradRefIdeal.τ).loc Cert.NormGradRefIdeal.main_v29) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_ResGrad_ResGradIdeal : Prop :=
  True

def algebraic_ResGradIdeal_ResGradRefIdeal_pre_finite_res [hResGradIdeal : Cert.ResGradIdeal.Facts] [hResGradRefIdeal : Cert.ResGradRefIdeal.Facts] [hPre_finite_res : Cert.Pre_finite_res.Facts] : Prop :=
  ∀ (m : (ℓ : Loc Cert.ResGradIdeal.nD Cert.ResGradIdeal.τ Cert.ResGradIdeal.sig) → Buf (Elt Ideal) ℓ) (g : Dev Cert.ResGradIdeal.nD → PrngReg)
    (m' : (ℓ : Loc Cert.ResGradRefIdeal.nD Cert.ResGradRefIdeal.τ Cert.ResGradRefIdeal.sig) → Buf (Elt Ideal) ℓ) (g' : Dev Cert.ResGradRefIdeal.nD → PrngReg), Pre_ResGradIdeal_finite_res m →
    (∀ c : Dev Cert.ResGradIdeal.nD,
      m' ((c.tc : Thread Cert.ResGradRefIdeal.nD Cert.ResGradRefIdeal.τ).loc Cert.ResGradRefIdeal.main_arg0) = m ((c.tc : Thread Cert.ResGradIdeal.nD Cert.ResGradIdeal.τ).loc Cert.ResGradIdeal.main_arg0)
      ∧ m' ((c.tc : Thread Cert.ResGradRefIdeal.nD Cert.ResGradRefIdeal.τ).loc Cert.ResGradRefIdeal.main_arg1) = m ((c.tc : Thread Cert.ResGradIdeal.nD Cert.ResGradIdeal.τ).loc Cert.ResGradIdeal.main_arg1)
      ∧ m' ((c.tc : Thread Cert.ResGradRefIdeal.nD Cert.ResGradRefIdeal.τ).loc Cert.ResGradRefIdeal.main_arg2) = m ((c.tc : Thread Cert.ResGradIdeal.nD Cert.ResGradIdeal.τ).loc Cert.ResGradIdeal.main_arg2)
      ∧ m' ((c.tc : Thread Cert.ResGradRefIdeal.nD Cert.ResGradRefIdeal.τ).loc Cert.ResGradRefIdeal.main_arg3) = m ((c.tc : Thread Cert.ResGradIdeal.nD Cert.ResGradIdeal.τ).loc Cert.ResGradIdeal.main_arg3)
      ∧ m' ((c.tc : Thread Cert.ResGradRefIdeal.nD Cert.ResGradRefIdeal.τ).loc Cert.ResGradRefIdeal.main_arg4) = m ((c.tc : Thread Cert.ResGradIdeal.nD Cert.ResGradIdeal.τ).loc Cert.ResGradIdeal.main_arg4)) →
    ∃ (v0 : (c : Dev Cert.ResGradIdeal.nD) → Buf (Elt Ideal) ((c.tc : Thread Cert.ResGradIdeal.nD Cert.ResGradIdeal.τ).loc Cert.ResGradIdeal.main_v0_0)) (v1 : (c : Dev Cert.ResGradIdeal.nD) → Buf (Elt Ideal) ((c.tc : Thread Cert.ResGradIdeal.nD Cert.ResGradIdeal.τ).loc Cert.ResGradIdeal.main_v0_1)) (v2 : (c : Dev Cert.ResGradIdeal.nD) → Buf (Elt Ideal) ((c.tc : Thread Cert.ResGradIdeal.nD Cert.ResGradIdeal.τ).loc Cert.ResGradIdeal.main_v0_2)) (v3 : (c : Dev Cert.ResGradIdeal.nD) → Buf (Elt Ideal) ((c.tc : Thread Cert.ResGradIdeal.nD Cert.ResGradIdeal.τ).loc Cert.ResGradIdeal.main_v0_3)) (v4 : (c : Dev Cert.ResGradIdeal.nD) → Buf (Elt Ideal) ((c.tc : Thread Cert.ResGradIdeal.nD Cert.ResGradIdeal.τ).loc Cert.ResGradIdeal.main_v0_4)) (v5 : (c : Dev Cert.ResGradIdeal.nD) → Buf (Elt Ideal) ((c.tc : Thread Cert.ResGradIdeal.nD Cert.ResGradIdeal.τ).loc Cert.ResGradIdeal.main_v0_5)),
      θ_run (Cert.ResGradIdeal.defs (F := Ideal)) (onTc (τ := Cert.ResGradIdeal.τ) (Cert.ResGradIdeal.main (F := Ideal))) ⟨m, fun _ => 0, g⟩ (fun r => ∀ c : Dev Cert.ResGradIdeal.nD,
          r.2.mem ((c.tc : Thread Cert.ResGradIdeal.nD Cert.ResGradIdeal.τ).loc Cert.ResGradIdeal.main_v0_0) = v0 c
          ∧ r.2.mem ((c.tc : Thread Cert.ResGradIdeal.nD Cert.ResGradIdeal.τ).loc Cert.ResGradIdeal.main_v0_1) = v1 c
          ∧ r.2.mem ((c.tc : Thread Cert.ResGradIdeal.nD Cert.ResGradIdeal.τ).loc Cert.ResGradIdeal.main_v0_2) = v2 c
          ∧ r.2.mem ((c.tc : Thread Cert.ResGradIdeal.nD Cert.ResGradIdeal.τ).loc Cert.ResGradIdeal.main_v0_3) = v3 c
          ∧ r.2.mem ((c.tc : Thread Cert.ResGradIdeal.nD Cert.ResGradIdeal.τ).loc Cert.ResGradIdeal.main_v0_4) = v4 c
          ∧ r.2.mem ((c.tc : Thread Cert.ResGradIdeal.nD Cert.ResGradIdeal.τ).loc Cert.ResGradIdeal.main_v0_5) = v5 c
          ∧ r.2.mem ((c.tc : Thread Cert.ResGradIdeal.nD Cert.ResGradIdeal.τ).loc Cert.ResGradIdeal.main_arg0) = m ((c.tc : Thread Cert.ResGradIdeal.nD Cert.ResGradIdeal.τ).loc Cert.ResGradIdeal.main_arg0)
          ∧ r.2.mem ((c.tc : Thread Cert.ResGradIdeal.nD Cert.ResGradIdeal.τ).loc Cert.ResGradIdeal.main_arg1) = m ((c.tc : Thread Cert.ResGradIdeal.nD Cert.ResGradIdeal.τ).loc Cert.ResGradIdeal.main_arg1)
          ∧ r.2.mem ((c.tc : Thread Cert.ResGradIdeal.nD Cert.ResGradIdeal.τ).loc Cert.ResGradIdeal.main_arg2) = m ((c.tc : Thread Cert.ResGradIdeal.nD Cert.ResGradIdeal.τ).loc Cert.ResGradIdeal.main_arg2)
          ∧ r.2.mem ((c.tc : Thread Cert.ResGradIdeal.nD Cert.ResGradIdeal.τ).loc Cert.ResGradIdeal.main_arg3) = m ((c.tc : Thread Cert.ResGradIdeal.nD Cert.ResGradIdeal.τ).loc Cert.ResGradIdeal.main_arg3)
          ∧ r.2.mem ((c.tc : Thread Cert.ResGradIdeal.nD Cert.ResGradIdeal.τ).loc Cert.ResGradIdeal.main_arg4) = m ((c.tc : Thread Cert.ResGradIdeal.nD Cert.ResGradIdeal.τ).loc Cert.ResGradIdeal.main_arg4))
      ∧ θ_run (Cert.ResGradRefIdeal.defs (F := Ideal)) (onTc (τ := Cert.ResGradRefIdeal.τ) (Cert.ResGradRefIdeal.main (F := Ideal))) ⟨m', fun _ => 0, g'⟩ (fun r => ∀ c : Dev Cert.ResGradRefIdeal.nD,
          r.2.mem ((c.tc : Thread Cert.ResGradRefIdeal.nD Cert.ResGradRefIdeal.τ).loc Cert.ResGradRefIdeal.main_v85) = v0 c
          ∧ r.2.mem ((c.tc : Thread Cert.ResGradRefIdeal.nD Cert.ResGradRefIdeal.τ).loc Cert.ResGradRefIdeal.main_v87) = v1 c
          ∧ r.2.mem ((c.tc : Thread Cert.ResGradRefIdeal.nD Cert.ResGradRefIdeal.τ).loc Cert.ResGradRefIdeal.main_v46) = v2 c
          ∧ r.2.mem ((c.tc : Thread Cert.ResGradRefIdeal.nD Cert.ResGradRefIdeal.τ).loc Cert.ResGradRefIdeal.main_v39) = v3 c
          ∧ r.2.mem ((c.tc : Thread Cert.ResGradRefIdeal.nD Cert.ResGradRefIdeal.τ).loc Cert.ResGradRefIdeal.main_v73) = v4 c
          ∧ r.2.mem ((c.tc : Thread Cert.ResGradRefIdeal.nD Cert.ResGradRefIdeal.τ).loc Cert.ResGradRefIdeal.main_v84) = v5 c
          ∧ r.2.mem ((c.tc : Thread Cert.ResGradRefIdeal.nD Cert.ResGradRefIdeal.τ).loc Cert.ResGradRefIdeal.main_arg0) = m' ((c.tc : Thread Cert.ResGradRefIdeal.nD Cert.ResGradRefIdeal.τ).loc Cert.ResGradRefIdeal.main_arg0)
          ∧ r.2.mem ((c.tc : Thread Cert.ResGradRefIdeal.nD Cert.ResGradRefIdeal.τ).loc Cert.ResGradRefIdeal.main_arg1) = m' ((c.tc : Thread Cert.ResGradRefIdeal.nD Cert.ResGradRefIdeal.τ).loc Cert.ResGradRefIdeal.main_arg1)
          ∧ r.2.mem ((c.tc : Thread Cert.ResGradRefIdeal.nD Cert.ResGradRefIdeal.τ).loc Cert.ResGradRefIdeal.main_arg2) = m' ((c.tc : Thread Cert.ResGradRefIdeal.nD Cert.ResGradRefIdeal.τ).loc Cert.ResGradRefIdeal.main_arg2)
          ∧ r.2.mem ((c.tc : Thread Cert.ResGradRefIdeal.nD Cert.ResGradRefIdeal.τ).loc Cert.ResGradRefIdeal.main_arg3) = m' ((c.tc : Thread Cert.ResGradRefIdeal.nD Cert.ResGradRefIdeal.τ).loc Cert.ResGradRefIdeal.main_arg3)
          ∧ r.2.mem ((c.tc : Thread Cert.ResGradRefIdeal.nD Cert.ResGradRefIdeal.τ).loc Cert.ResGradRefIdeal.main_arg4) = m' ((c.tc : Thread Cert.ResGradRefIdeal.nD Cert.ResGradRefIdeal.τ).loc Cert.ResGradRefIdeal.main_arg4))

def preserves_ResModGrad_ResModGradIdeal : Prop :=
  True

def algebraic_ResModGradIdeal_ResModGradRefIdeal_pre_finite_mod [hResModGradIdeal : Cert.ResModGradIdeal.Facts] [hResModGradRefIdeal : Cert.ResModGradRefIdeal.Facts] [hPre_finite_mod : Cert.Pre_finite_mod.Facts] : Prop :=
  ∀ (m : (ℓ : Loc Cert.ResModGradIdeal.nD Cert.ResModGradIdeal.τ Cert.ResModGradIdeal.sig) → Buf (Elt Ideal) ℓ) (g : Dev Cert.ResModGradIdeal.nD → PrngReg)
    (m' : (ℓ : Loc Cert.ResModGradRefIdeal.nD Cert.ResModGradRefIdeal.τ Cert.ResModGradRefIdeal.sig) → Buf (Elt Ideal) ℓ) (g' : Dev Cert.ResModGradRefIdeal.nD → PrngReg), Pre_ResModGradIdeal_finite_mod m →
    (∀ c : Dev Cert.ResModGradIdeal.nD,
      m' ((c.tc : Thread Cert.ResModGradRefIdeal.nD Cert.ResModGradRefIdeal.τ).loc Cert.ResModGradRefIdeal.main_arg0) = m ((c.tc : Thread Cert.ResModGradIdeal.nD Cert.ResModGradIdeal.τ).loc Cert.ResModGradIdeal.main_arg0)
      ∧ m' ((c.tc : Thread Cert.ResModGradRefIdeal.nD Cert.ResModGradRefIdeal.τ).loc Cert.ResModGradRefIdeal.main_arg1) = m ((c.tc : Thread Cert.ResModGradIdeal.nD Cert.ResModGradIdeal.τ).loc Cert.ResModGradIdeal.main_arg1)
      ∧ m' ((c.tc : Thread Cert.ResModGradRefIdeal.nD Cert.ResModGradRefIdeal.τ).loc Cert.ResModGradRefIdeal.main_arg2) = m ((c.tc : Thread Cert.ResModGradIdeal.nD Cert.ResModGradIdeal.τ).loc Cert.ResModGradIdeal.main_arg2)
      ∧ m' ((c.tc : Thread Cert.ResModGradRefIdeal.nD Cert.ResModGradRefIdeal.τ).loc Cert.ResModGradRefIdeal.main_arg3) = m ((c.tc : Thread Cert.ResModGradIdeal.nD Cert.ResModGradIdeal.τ).loc Cert.ResModGradIdeal.main_arg3)
      ∧ m' ((c.tc : Thread Cert.ResModGradRefIdeal.nD Cert.ResModGradRefIdeal.τ).loc Cert.ResModGradRefIdeal.main_arg4) = m ((c.tc : Thread Cert.ResModGradIdeal.nD Cert.ResModGradIdeal.τ).loc Cert.ResModGradIdeal.main_arg4)
      ∧ m' ((c.tc : Thread Cert.ResModGradRefIdeal.nD Cert.ResModGradRefIdeal.τ).loc Cert.ResModGradRefIdeal.main_arg5) = m ((c.tc : Thread Cert.ResModGradIdeal.nD Cert.ResModGradIdeal.τ).loc Cert.ResModGradIdeal.main_arg5)
      ∧ m' ((c.tc : Thread Cert.ResModGradRefIdeal.nD Cert.ResModGradRefIdeal.τ).loc Cert.ResModGradRefIdeal.main_arg6) = m ((c.tc : Thread Cert.ResModGradIdeal.nD Cert.ResModGradIdeal.τ).loc Cert.ResModGradIdeal.main_arg6)
      ∧ m' ((c.tc : Thread Cert.ResModGradRefIdeal.nD Cert.ResModGradRefIdeal.τ).loc Cert.ResModGradRefIdeal.main_arg7) = m ((c.tc : Thread Cert.ResModGradIdeal.nD Cert.ResModGradIdeal.τ).loc Cert.ResModGradIdeal.main_arg7)) →
    ∃ (v0 : (c : Dev Cert.ResModGradIdeal.nD) → Buf (Elt Ideal) ((c.tc : Thread Cert.ResModGradIdeal.nD Cert.ResModGradIdeal.τ).loc Cert.ResModGradIdeal.main_v0_0)) (v1 : (c : Dev Cert.ResModGradIdeal.nD) → Buf (Elt Ideal) ((c.tc : Thread Cert.ResModGradIdeal.nD Cert.ResModGradIdeal.τ).loc Cert.ResModGradIdeal.main_v0_1)) (v2 : (c : Dev Cert.ResModGradIdeal.nD) → Buf (Elt Ideal) ((c.tc : Thread Cert.ResModGradIdeal.nD Cert.ResModGradIdeal.τ).loc Cert.ResModGradIdeal.main_v0_2)) (v3 : (c : Dev Cert.ResModGradIdeal.nD) → Buf (Elt Ideal) ((c.tc : Thread Cert.ResModGradIdeal.nD Cert.ResModGradIdeal.τ).loc Cert.ResModGradIdeal.main_v0_3)) (v4 : (c : Dev Cert.ResModGradIdeal.nD) → Buf (Elt Ideal) ((c.tc : Thread Cert.ResModGradIdeal.nD Cert.ResModGradIdeal.τ).loc Cert.ResModGradIdeal.main_v0_4)) (v5 : (c : Dev Cert.ResModGradIdeal.nD) → Buf (Elt Ideal) ((c.tc : Thread Cert.ResModGradIdeal.nD Cert.ResModGradIdeal.τ).loc Cert.ResModGradIdeal.main_v0_5)) (v6 : (c : Dev Cert.ResModGradIdeal.nD) → Buf (Elt Ideal) ((c.tc : Thread Cert.ResModGradIdeal.nD Cert.ResModGradIdeal.τ).loc Cert.ResModGradIdeal.main_v0_6)) (v7 : (c : Dev Cert.ResModGradIdeal.nD) → Buf (Elt Ideal) ((c.tc : Thread Cert.ResModGradIdeal.nD Cert.ResModGradIdeal.τ).loc Cert.ResModGradIdeal.main_v0_7)),
      θ_run (Cert.ResModGradIdeal.defs (F := Ideal)) (onTc (τ := Cert.ResModGradIdeal.τ) (Cert.ResModGradIdeal.main (F := Ideal))) ⟨m, fun _ => 0, g⟩ (fun r => ∀ c : Dev Cert.ResModGradIdeal.nD,
          r.2.mem ((c.tc : Thread Cert.ResModGradIdeal.nD Cert.ResModGradIdeal.τ).loc Cert.ResModGradIdeal.main_v0_0) = v0 c
          ∧ r.2.mem ((c.tc : Thread Cert.ResModGradIdeal.nD Cert.ResModGradIdeal.τ).loc Cert.ResModGradIdeal.main_v0_1) = v1 c
          ∧ r.2.mem ((c.tc : Thread Cert.ResModGradIdeal.nD Cert.ResModGradIdeal.τ).loc Cert.ResModGradIdeal.main_v0_2) = v2 c
          ∧ r.2.mem ((c.tc : Thread Cert.ResModGradIdeal.nD Cert.ResModGradIdeal.τ).loc Cert.ResModGradIdeal.main_v0_3) = v3 c
          ∧ r.2.mem ((c.tc : Thread Cert.ResModGradIdeal.nD Cert.ResModGradIdeal.τ).loc Cert.ResModGradIdeal.main_v0_4) = v4 c
          ∧ r.2.mem ((c.tc : Thread Cert.ResModGradIdeal.nD Cert.ResModGradIdeal.τ).loc Cert.ResModGradIdeal.main_v0_5) = v5 c
          ∧ r.2.mem ((c.tc : Thread Cert.ResModGradIdeal.nD Cert.ResModGradIdeal.τ).loc Cert.ResModGradIdeal.main_v0_6) = v6 c
          ∧ r.2.mem ((c.tc : Thread Cert.ResModGradIdeal.nD Cert.ResModGradIdeal.τ).loc Cert.ResModGradIdeal.main_v0_7) = v7 c
          ∧ r.2.mem ((c.tc : Thread Cert.ResModGradIdeal.nD Cert.ResModGradIdeal.τ).loc Cert.ResModGradIdeal.main_arg0) = m ((c.tc : Thread Cert.ResModGradIdeal.nD Cert.ResModGradIdeal.τ).loc Cert.ResModGradIdeal.main_arg0)
          ∧ r.2.mem ((c.tc : Thread Cert.ResModGradIdeal.nD Cert.ResModGradIdeal.τ).loc Cert.ResModGradIdeal.main_arg1) = m ((c.tc : Thread Cert.ResModGradIdeal.nD Cert.ResModGradIdeal.τ).loc Cert.ResModGradIdeal.main_arg1)
          ∧ r.2.mem ((c.tc : Thread Cert.ResModGradIdeal.nD Cert.ResModGradIdeal.τ).loc Cert.ResModGradIdeal.main_arg2) = m ((c.tc : Thread Cert.ResModGradIdeal.nD Cert.ResModGradIdeal.τ).loc Cert.ResModGradIdeal.main_arg2)
          ∧ r.2.mem ((c.tc : Thread Cert.ResModGradIdeal.nD Cert.ResModGradIdeal.τ).loc Cert.ResModGradIdeal.main_arg3) = m ((c.tc : Thread Cert.ResModGradIdeal.nD Cert.ResModGradIdeal.τ).loc Cert.ResModGradIdeal.main_arg3)
          ∧ r.2.mem ((c.tc : Thread Cert.ResModGradIdeal.nD Cert.ResModGradIdeal.τ).loc Cert.ResModGradIdeal.main_arg4) = m ((c.tc : Thread Cert.ResModGradIdeal.nD Cert.ResModGradIdeal.τ).loc Cert.ResModGradIdeal.main_arg4)
          ∧ r.2.mem ((c.tc : Thread Cert.ResModGradIdeal.nD Cert.ResModGradIdeal.τ).loc Cert.ResModGradIdeal.main_arg5) = m ((c.tc : Thread Cert.ResModGradIdeal.nD Cert.ResModGradIdeal.τ).loc Cert.ResModGradIdeal.main_arg5)
          ∧ r.2.mem ((c.tc : Thread Cert.ResModGradIdeal.nD Cert.ResModGradIdeal.τ).loc Cert.ResModGradIdeal.main_arg6) = m ((c.tc : Thread Cert.ResModGradIdeal.nD Cert.ResModGradIdeal.τ).loc Cert.ResModGradIdeal.main_arg6)
          ∧ r.2.mem ((c.tc : Thread Cert.ResModGradIdeal.nD Cert.ResModGradIdeal.τ).loc Cert.ResModGradIdeal.main_arg7) = m ((c.tc : Thread Cert.ResModGradIdeal.nD Cert.ResModGradIdeal.τ).loc Cert.ResModGradIdeal.main_arg7))
      ∧ θ_run (Cert.ResModGradRefIdeal.defs (F := Ideal)) (onTc (τ := Cert.ResModGradRefIdeal.τ) (Cert.ResModGradRefIdeal.main (F := Ideal))) ⟨m', fun _ => 0, g'⟩ (fun r => ∀ c : Dev Cert.ResModGradRefIdeal.nD,
          r.2.mem ((c.tc : Thread Cert.ResModGradRefIdeal.nD Cert.ResModGradRefIdeal.τ).loc Cert.ResModGradRefIdeal.main_v143) = v0 c
          ∧ r.2.mem ((c.tc : Thread Cert.ResModGradRefIdeal.nD Cert.ResModGradRefIdeal.τ).loc Cert.ResModGradRefIdeal.main_v145) = v1 c
          ∧ r.2.mem ((c.tc : Thread Cert.ResModGradRefIdeal.nD Cert.ResModGradRefIdeal.τ).loc Cert.ResModGradRefIdeal.main_v104) = v2 c
          ∧ r.2.mem ((c.tc : Thread Cert.ResModGradRefIdeal.nD Cert.ResModGradRefIdeal.τ).loc Cert.ResModGradRefIdeal.main_v97) = v3 c
          ∧ r.2.mem ((c.tc : Thread Cert.ResModGradRefIdeal.nD Cert.ResModGradRefIdeal.τ).loc Cert.ResModGradRefIdeal.main_v131) = v4 c
          ∧ r.2.mem ((c.tc : Thread Cert.ResModGradRefIdeal.nD Cert.ResModGradRefIdeal.τ).loc Cert.ResModGradRefIdeal.main_v142) = v5 c
          ∧ r.2.mem ((c.tc : Thread Cert.ResModGradRefIdeal.nD Cert.ResModGradRefIdeal.τ).loc Cert.ResModGradRefIdeal.main_v32) = v6 c
          ∧ r.2.mem ((c.tc : Thread Cert.ResModGradRefIdeal.nD Cert.ResModGradRefIdeal.τ).loc Cert.ResModGradRefIdeal.main_v29) = v7 c
          ∧ r.2.mem ((c.tc : Thread Cert.ResModGradRefIdeal.nD Cert.ResModGradRefIdeal.τ).loc Cert.ResModGradRefIdeal.main_arg0) = m' ((c.tc : Thread Cert.ResModGradRefIdeal.nD Cert.ResModGradRefIdeal.τ).loc Cert.ResModGradRefIdeal.main_arg0)
          ∧ r.2.mem ((c.tc : Thread Cert.ResModGradRefIdeal.nD Cert.ResModGradRefIdeal.τ).loc Cert.ResModGradRefIdeal.main_arg1) = m' ((c.tc : Thread Cert.ResModGradRefIdeal.nD Cert.ResModGradRefIdeal.τ).loc Cert.ResModGradRefIdeal.main_arg1)
          ∧ r.2.mem ((c.tc : Thread Cert.ResModGradRefIdeal.nD Cert.ResModGradRefIdeal.τ).loc Cert.ResModGradRefIdeal.main_arg2) = m' ((c.tc : Thread Cert.ResModGradRefIdeal.nD Cert.ResModGradRefIdeal.τ).loc Cert.ResModGradRefIdeal.main_arg2)
          ∧ r.2.mem ((c.tc : Thread Cert.ResModGradRefIdeal.nD Cert.ResModGradRefIdeal.τ).loc Cert.ResModGradRefIdeal.main_arg3) = m' ((c.tc : Thread Cert.ResModGradRefIdeal.nD Cert.ResModGradRefIdeal.τ).loc Cert.ResModGradRefIdeal.main_arg3)
          ∧ r.2.mem ((c.tc : Thread Cert.ResModGradRefIdeal.nD Cert.ResModGradRefIdeal.τ).loc Cert.ResModGradRefIdeal.main_arg4) = m' ((c.tc : Thread Cert.ResModGradRefIdeal.nD Cert.ResModGradRefIdeal.τ).loc Cert.ResModGradRefIdeal.main_arg4)
          ∧ r.2.mem ((c.tc : Thread Cert.ResModGradRefIdeal.nD Cert.ResModGradRefIdeal.τ).loc Cert.ResModGradRefIdeal.main_arg5) = m' ((c.tc : Thread Cert.ResModGradRefIdeal.nD Cert.ResModGradRefIdeal.τ).loc Cert.ResModGradRefIdeal.main_arg5)
          ∧ r.2.mem ((c.tc : Thread Cert.ResModGradRefIdeal.nD Cert.ResModGradRefIdeal.τ).loc Cert.ResModGradRefIdeal.main_arg6) = m' ((c.tc : Thread Cert.ResModGradRefIdeal.nD Cert.ResModGradRefIdeal.τ).loc Cert.ResModGradRefIdeal.main_arg6)
          ∧ r.2.mem ((c.tc : Thread Cert.ResModGradRefIdeal.nD Cert.ResModGradRefIdeal.τ).loc Cert.ResModGradRefIdeal.main_arg7) = m' ((c.tc : Thread Cert.ResModGradRefIdeal.nD Cert.ResModGradRefIdeal.τ).loc Cert.ResModGradRefIdeal.main_arg7))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)) →
    ∃ (v0 : (c : Dev Cert.ResIdeal.nD) → Buf (Elt Ideal) ((c.tc : Thread Cert.ResIdeal.nD Cert.ResIdeal.τ).loc Cert.ResIdeal.main_v0)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v31) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4))

def preserves_ResMod_ResModIdeal : Prop :=
  True

def algebraic_ResModIdeal_ResModRefIdeal [hResModIdeal : Cert.ResModIdeal.Facts] [hResModRefIdeal : Cert.ResModRefIdeal.Facts] : Prop :=
  ∀ (m : (ℓ : Loc Cert.ResModIdeal.nD Cert.ResModIdeal.τ Cert.ResModIdeal.sig) → Buf (Elt Ideal) ℓ) (g : Dev Cert.ResModIdeal.nD → PrngReg)
    (m' : (ℓ : Loc Cert.ResModRefIdeal.nD Cert.ResModRefIdeal.τ Cert.ResModRefIdeal.sig) → Buf (Elt Ideal) ℓ) (g' : Dev Cert.ResModRefIdeal.nD → PrngReg), Pre_ResModIdeal m →
    (∀ c : Dev Cert.ResModIdeal.nD,
      m' ((c.tc : Thread Cert.ResModRefIdeal.nD Cert.ResModRefIdeal.τ).loc Cert.ResModRefIdeal.main_arg0) = m ((c.tc : Thread Cert.ResModIdeal.nD Cert.ResModIdeal.τ).loc Cert.ResModIdeal.main_arg0)
      ∧ m' ((c.tc : Thread Cert.ResModRefIdeal.nD Cert.ResModRefIdeal.τ).loc Cert.ResModRefIdeal.main_arg1) = m ((c.tc : Thread Cert.ResModIdeal.nD Cert.ResModIdeal.τ).loc Cert.ResModIdeal.main_arg1)
      ∧ m' ((c.tc : Thread Cert.ResModRefIdeal.nD Cert.ResModRefIdeal.τ).loc Cert.ResModRefIdeal.main_arg2) = m ((c.tc : Thread Cert.ResModIdeal.nD Cert.ResModIdeal.τ).loc Cert.ResModIdeal.main_arg2)
      ∧ m' ((c.tc : Thread Cert.ResModRefIdeal.nD Cert.ResModRefIdeal.τ).loc Cert.ResModRefIdeal.main_arg3) = m ((c.tc : Thread Cert.ResModIdeal.nD Cert.ResModIdeal.τ).loc Cert.ResModIdeal.main_arg3)
      ∧ m' ((c.tc : Thread Cert.ResModRefIdeal.nD Cert.ResModRefIdeal.τ).loc Cert.ResModRefIdeal.main_arg4) = m ((c.tc : Thread Cert.ResModIdeal.nD Cert.ResModIdeal.τ).loc Cert.ResModIdeal.main_arg4)
      ∧ m' ((c.tc : Thread Cert.ResModRefIdeal.nD Cert.ResModRefIdeal.τ).loc Cert.ResModRefIdeal.main_arg5) = m ((c.tc : Thread Cert.ResModIdeal.nD Cert.ResModIdeal.τ).loc Cert.ResModIdeal.main_arg5)
      ∧ m' ((c.tc : Thread Cert.ResModRefIdeal.nD Cert.ResModRefIdeal.τ).loc Cert.ResModRefIdeal.main_arg6) = m ((c.tc : Thread Cert.ResModIdeal.nD Cert.ResModIdeal.τ).loc Cert.ResModIdeal.main_arg6)) →
    ∃ (v0 : (c : Dev Cert.ResModIdeal.nD) → Buf (Elt Ideal) ((c.tc : Thread Cert.ResModIdeal.nD Cert.ResModIdeal.τ).loc Cert.ResModIdeal.main_v0_0)) (v1 : (c : Dev Cert.ResModIdeal.nD) → Buf (Elt Ideal) ((c.tc : Thread Cert.ResModIdeal.nD Cert.ResModIdeal.τ).loc Cert.ResModIdeal.main_v0_1)),
      θ_run (Cert.ResModIdeal.defs (F := Ideal)) (onTc (τ := Cert.ResModIdeal.τ) (Cert.ResModIdeal.main (F := Ideal))) ⟨m, fun _ => 0, g⟩ (fun r => ∀ c : Dev Cert.ResModIdeal.nD,
          r.2.mem ((c.tc : Thread Cert.ResModIdeal.nD Cert.ResModIdeal.τ).loc Cert.ResModIdeal.main_v0_0) = v0 c
          ∧ r.2.mem ((c.tc : Thread Cert.ResModIdeal.nD Cert.ResModIdeal.τ).loc Cert.ResModIdeal.main_v0_1) = v1 c
          ∧ r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
          ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
          ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
          ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
          ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4)
          ∧ r.2.mem ((c.tc : Thread Cert.ResModIdeal.nD Cert.ResModIdeal.τ).loc Cert.ResModIdeal.main_arg5) = m ((c.tc : Thread Cert.ResModIdeal.nD Cert.ResModIdeal.τ).loc Cert.ResModIdeal.main_arg5)
          ∧ r.2.mem ((c.tc : Thread Cert.ResModIdeal.nD Cert.ResModIdeal.τ).loc Cert.ResModIdeal.main_arg6) = m ((c.tc : Thread Cert.ResModIdeal.nD Cert.ResModIdeal.τ).loc Cert.ResModIdeal.main_arg6))
      ∧ θ_run (Cert.ResModRefIdeal.defs (F := Ideal)) (onTc (τ := Cert.ResModRefIdeal.τ) (Cert.ResModRefIdeal.main (F := Ideal))) ⟨m', fun _ => 0, g'⟩ (fun r => ∀ c : Dev Cert.ResModRefIdeal.nD,
          r.2.mem ((c.tc : Thread Cert.ResModRefIdeal.nD Cert.ResModRefIdeal.τ).loc Cert.ResModRefIdeal.main_v31) = v0 c
          ∧ r.2.mem ((c.tc : Thread Cert.ResModRefIdeal.nD Cert.ResModRefIdeal.τ).loc Cert.ResModRefIdeal.main_v55) = v1 c
          ∧ r.2.mem ((c.tc : Thread Cert.ResModRefIdeal.nD Cert.ResModRefIdeal.τ).loc Cert.ResModRefIdeal.main_arg0) = m' ((c.tc : Thread Cert.ResModRefIdeal.nD Cert.ResModRefIdeal.τ).loc Cert.ResModRefIdeal.main_arg0)
          ∧ r.2.mem ((c.tc : Thread Cert.ResModRefIdeal.nD Cert.ResModRefIdeal.τ).loc Cert.ResModRefIdeal.main_arg1) = m' ((c.tc : Thread Cert.ResModRefIdeal.nD Cert.ResModRefIdeal.τ).loc Cert.ResModRefIdeal.main_arg1)
          ∧ r.2.mem ((c.tc : Thread Cert.ResModRefIdeal.nD Cert.ResModRefIdeal.τ).loc Cert.ResModRefIdeal.main_arg2) = m' ((c.tc : Thread Cert.ResModRefIdeal.nD Cert.ResModRefIdeal.τ).loc Cert.ResModRefIdeal.main_arg2)
          ∧ r.2.mem ((c.tc : Thread Cert.ResModRefIdeal.nD Cert.ResModRefIdeal.τ).loc Cert.ResModRefIdeal.main_arg3) = m' ((c.tc : Thread Cert.ResModRefIdeal.nD Cert.ResModRefIdeal.τ).loc Cert.ResModRefIdeal.main_arg3)
          ∧ r.2.mem ((c.tc : Thread Cert.ResModRefIdeal.nD Cert.ResModRefIdeal.τ).loc Cert.ResModRefIdeal.main_arg4) = m' ((c.tc : Thread Cert.ResModRefIdeal.nD Cert.ResModRefIdeal.τ).loc Cert.ResModRefIdeal.main_arg4)
          ∧ r.2.mem ((c.tc : Thread Cert.ResModRefIdeal.nD Cert.ResModRefIdeal.τ).loc Cert.ResModRefIdeal.main_arg5) = m' ((c.tc : Thread Cert.ResModRefIdeal.nD Cert.ResModRefIdeal.τ).loc Cert.ResModRefIdeal.main_arg5)
          ∧ r.2.mem ((c.tc : Thread Cert.ResModRefIdeal.nD Cert.ResModRefIdeal.τ).loc Cert.ResModRefIdeal.main_arg6) = m' ((c.tc : Thread Cert.ResModRefIdeal.nD Cert.ResModRefIdeal.τ).loc Cert.ResModRefIdeal.main_arg6))

def preserves_GateBiasGrad_GateBiasGradIdeal : Prop :=
  True

def algebraic_GateBiasGradIdeal_GateBiasGradRefIdeal [hGateBiasGradIdeal : Cert.GateBiasGradIdeal.Facts] [hGateBiasGradRefIdeal : Cert.GateBiasGradRefIdeal.Facts] : Prop :=
  ∀ (m : (ℓ : Loc Cert.GateBiasGradIdeal.nD Cert.GateBiasGradIdeal.τ Cert.GateBiasGradIdeal.sig) → Buf (Elt Ideal) ℓ) (g : Dev Cert.GateBiasGradIdeal.nD → PrngReg)
    (m' : (ℓ : Loc Cert.GateBiasGradRefIdeal.nD Cert.GateBiasGradRefIdeal.τ Cert.GateBiasGradRefIdeal.sig) → Buf (Elt Ideal) ℓ) (g' : Dev Cert.GateBiasGradRefIdeal.nD → PrngReg), Pre_GateBiasGradIdeal m →
    (∀ c : Dev Cert.GateBiasGradIdeal.nD,
      m' ((c.tc : Thread Cert.GateBiasGradRefIdeal.nD Cert.GateBiasGradRefIdeal.τ).loc Cert.GateBiasGradRefIdeal.main_arg0) = m ((c.tc : Thread Cert.GateBiasGradIdeal.nD Cert.GateBiasGradIdeal.τ).loc Cert.GateBiasGradIdeal.main_arg0)) →
    ∃ (v0 : (c : Dev Cert.GateBiasGradIdeal.nD) → Buf (Elt Ideal) ((c.tc : Thread Cert.GateBiasGradIdeal.nD Cert.GateBiasGradIdeal.τ).loc Cert.GateBiasGradIdeal.main_v0)),
      θ_run (Cert.GateBiasGradIdeal.defs (F := Ideal)) (onTc (τ := Cert.GateBiasGradIdeal.τ) (Cert.GateBiasGradIdeal.main (F := Ideal))) ⟨m, fun _ => 0, g⟩ (fun r => ∀ c : Dev Cert.GateBiasGradIdeal.nD,
          r.2.mem ((c.tc : Thread Cert.GateBiasGradIdeal.nD Cert.GateBiasGradIdeal.τ).loc Cert.GateBiasGradIdeal.main_v0) = v0 c
          ∧ r.2.mem ((c.tc : Thread Cert.GateBiasGradIdeal.nD Cert.GateBiasGradIdeal.τ).loc Cert.GateBiasGradIdeal.main_arg0) = m ((c.tc : Thread Cert.GateBiasGradIdeal.nD Cert.GateBiasGradIdeal.τ).loc Cert.GateBiasGradIdeal.main_arg0))
      ∧ θ_run (Cert.GateBiasGradRefIdeal.defs (F := Ideal)) (onTc (τ := Cert.GateBiasGradRefIdeal.τ) (Cert.GateBiasGradRefIdeal.main (F := Ideal))) ⟨m', fun _ => 0, g'⟩ (fun r => ∀ c : Dev Cert.GateBiasGradRefIdeal.nD,
          r.2.mem ((c.tc : Thread Cert.GateBiasGradRefIdeal.nD Cert.GateBiasGradRefIdeal.τ).loc Cert.GateBiasGradRefIdeal.main_v6) = v0 c
          ∧ r.2.mem ((c.tc : Thread Cert.GateBiasGradRefIdeal.nD Cert.GateBiasGradRefIdeal.τ).loc Cert.GateBiasGradRefIdeal.main_arg0) = m' ((c.tc : Thread Cert.GateBiasGradRefIdeal.nD Cert.GateBiasGradRefIdeal.τ).loc Cert.GateBiasGradRefIdeal.main_arg0))

def Claim : Prop :=
  ∃ (hKernel : Cert.Kernel.Facts) (hKernelIdeal : Cert.KernelIdeal.Facts) (hReferenceIdeal : Cert.ReferenceIdeal.Facts) (hUpGradIn : Cert.UpGradIn.Facts) (hUpGradInIdeal : Cert.UpGradInIdeal.Facts) (hUpGradInRefIdeal : Cert.UpGradInRefIdeal.Facts) (hUpGradW : Cert.UpGradW.Facts) (hUpGradWIdeal : Cert.UpGradWIdeal.Facts) (hUpGradWRefIdeal : Cert.UpGradWRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownGradIn : Cert.DownGradIn.Facts) (hDownGradInIdeal : Cert.DownGradInIdeal.Facts) (hDownGradInRefIdeal : Cert.DownGradInRefIdeal.Facts) (hDownGradW : Cert.DownGradW.Facts) (hDownGradWIdeal : Cert.DownGradWIdeal.Facts) (hDownGradWRefIdeal : Cert.DownGradWRefIdeal.Facts) (hInProj : Cert.InProj.Facts) (hInProjIdeal : Cert.InProjIdeal.Facts) (hInProjRefIdeal : Cert.InProjRefIdeal.Facts) (hInGrad : Cert.InGrad.Facts) (hInGradIdeal : Cert.InGradIdeal.Facts) (hInGradRefIdeal : Cert.InGradRefIdeal.Facts) (hInGradW : Cert.InGradW.Facts) (hInGradWIdeal : Cert.InGradWIdeal.Facts) (hInGradWRefIdeal : Cert.InGradWRefIdeal.Facts) (hMix : Cert.Mix.Facts) (hMixIdeal : Cert.MixIdeal.Facts) (hMixRefIdeal : Cert.MixRefIdeal.Facts) (hMixGradIn : Cert.MixGradIn.Facts) (hMixGradInIdeal : Cert.MixGradInIdeal.Facts) (hMixGradInRefIdeal : Cert.MixGradInRefIdeal.Facts) (hMixGradW : Cert.MixGradW.Facts) (hMixGradWIdeal : Cert.MixGradWIdeal.Facts) (hMixGradWRefIdeal : Cert.MixGradWRefIdeal.Facts) (hBranch : Cert.Branch.Facts) (hBranchIdeal : Cert.BranchIdeal.Facts) (hBranchRefIdeal : Cert.BranchRefIdeal.Facts) (hConvGradIn : Cert.ConvGradIn.Facts) (hConvGradInIdeal : Cert.ConvGradInIdeal.Facts) (hConvGradInRefIdeal : Cert.ConvGradInRefIdeal.Facts) (hAttnGradIn : Cert.AttnGradIn.Facts) (hAttnGradInIdeal : Cert.AttnGradInIdeal.Facts) (hAttnGradInRefIdeal : Cert.AttnGradInRefIdeal.Facts) (hBranchGradW : Cert.BranchGradW.Facts) (hBranchGradWIdeal : Cert.BranchGradWIdeal.Facts) (hBranchGradWRefIdeal : Cert.BranchGradWRefIdeal.Facts) (hGateProj : Cert.GateProj.Facts) (hGateProjIdeal : Cert.GateProjIdeal.Facts) (hGateProjRefIdeal : Cert.GateProjRefIdeal.Facts) (hGateGradIn : Cert.GateGradIn.Facts) (hGateGradInIdeal : Cert.GateGradInIdeal.Facts) (hGateGradInRefIdeal : Cert.GateGradInRefIdeal.Facts) (hGateGradW : Cert.GateGradW.Facts) (hGateGradWIdeal : Cert.GateGradWIdeal.Facts) (hGateGradWRefIdeal : Cert.GateGradWRefIdeal.Facts) (hMerge : Cert.Merge.Facts) (hMergeIdeal : Cert.MergeIdeal.Facts) (hMergeRefIdeal : Cert.MergeRefIdeal.Facts) (hMergeGrad : Cert.MergeGrad.Facts) (hMergeGradIdeal : Cert.MergeGradIdeal.Facts) (hMergeGradRefIdeal : Cert.MergeGradRefIdeal.Facts) (hBiasGrad : Cert.BiasGrad.Facts) (hBiasGradIdeal : Cert.BiasGradIdeal.Facts) (hBiasGradRefIdeal : Cert.BiasGradRefIdeal.Facts) (hNorm : Cert.Norm.Facts) (hNormIdeal : Cert.NormIdeal.Facts) (hNormRefIdeal : Cert.NormRefIdeal.Facts) (hNormGrad : Cert.NormGrad.Facts) (hNormGradIdeal : Cert.NormGradIdeal.Facts) (hNormGradRefIdeal : Cert.NormGradRefIdeal.Facts) (hResGrad : Cert.ResGrad.Facts) (hResGradIdeal : Cert.ResGradIdeal.Facts) (hResGradRefIdeal : Cert.ResGradRefIdeal.Facts) (hResModGrad : Cert.ResModGrad.Facts) (hResModGradIdeal : Cert.ResModGradIdeal.Facts) (hResModGradRefIdeal : Cert.ResModGradRefIdeal.Facts) (hRes : Cert.Res.Facts) (hResIdeal : Cert.ResIdeal.Facts) (hResRefIdeal : Cert.ResRefIdeal.Facts) (hResMod : Cert.ResMod.Facts) (hResModIdeal : Cert.ResModIdeal.Facts) (hResModRefIdeal : Cert.ResModRefIdeal.Facts) (hGateBiasGrad : Cert.GateBiasGrad.Facts) (hGateBiasGradIdeal : Cert.GateBiasGradIdeal.Facts) (hGateBiasGradRefIdeal : Cert.GateBiasGradRefIdeal.Facts) (hPre_finite : Cert.Pre_finite.Facts) (hPre_finite_norm : Cert.Pre_finite_norm.Facts) (hPre_finite_res : Cert.Pre_finite_res.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpGradIn (hUpGradIn := hUpGradIn)
    ∧ quiescent_UpGradInIdeal (hUpGradInIdeal := hUpGradInIdeal)
    ∧ quiescent_UpGradInRefIdeal (hUpGradInRefIdeal := hUpGradInRefIdeal)
    ∧ quiescent_UpGradW (hUpGradW := hUpGradW)
    ∧ quiescent_UpGradWIdeal (hUpGradWIdeal := hUpGradWIdeal)
    ∧ quiescent_UpGradWRefIdeal (hUpGradWRefIdeal := hUpGradWRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownGradIn (hDownGradIn := hDownGradIn)
    ∧ quiescent_DownGradInIdeal (hDownGradInIdeal := hDownGradInIdeal)
    ∧ quiescent_DownGradInRefIdeal (hDownGradInRefIdeal := hDownGradInRefIdeal)
    ∧ quiescent_DownGradW (hDownGradW := hDownGradW)
    ∧ quiescent_DownGradWIdeal (hDownGradWIdeal := hDownGradWIdeal)
    ∧ quiescent_DownGradWRefIdeal (hDownGradWRefIdeal := hDownGradWRefIdeal)
    ∧ quiescent_InProj (hInProj := hInProj)
    ∧ quiescent_InProjIdeal (hInProjIdeal := hInProjIdeal)
    ∧ quiescent_InProjRefIdeal (hInProjRefIdeal := hInProjRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InGradW (hInGradW := hInGradW)
    ∧ quiescent_InGradWIdeal (hInGradWIdeal := hInGradWIdeal)
    ∧ quiescent_InGradWRefIdeal (hInGradWRefIdeal := hInGradWRefIdeal)
    ∧ quiescent_Mix (hMix := hMix)
    ∧ quiescent_MixIdeal (hMixIdeal := hMixIdeal)
    ∧ quiescent_MixRefIdeal (hMixRefIdeal := hMixRefIdeal)
    ∧ quiescent_MixGradIn (hMixGradIn := hMixGradIn)
    ∧ quiescent_MixGradInIdeal (hMixGradInIdeal := hMixGradInIdeal)
    ∧ quiescent_MixGradInRefIdeal (hMixGradInRefIdeal := hMixGradInRefIdeal)
    ∧ quiescent_MixGradW (hMixGradW := hMixGradW)
    ∧ quiescent_MixGradWIdeal (hMixGradWIdeal := hMixGradWIdeal)
    ∧ quiescent_MixGradWRefIdeal (hMixGradWRefIdeal := hMixGradWRefIdeal)
    ∧ quiescent_Branch (hBranch := hBranch)
    ∧ quiescent_BranchIdeal (hBranchIdeal := hBranchIdeal)
    ∧ quiescent_BranchRefIdeal (hBranchRefIdeal := hBranchRefIdeal)
    ∧ quiescent_ConvGradIn (hConvGradIn := hConvGradIn)
    ∧ quiescent_ConvGradInIdeal (hConvGradInIdeal := hConvGradInIdeal)
    ∧ quiescent_ConvGradInRefIdeal (hConvGradInRefIdeal := hConvGradInRefIdeal)
    ∧ quiescent_AttnGradIn (hAttnGradIn := hAttnGradIn)
    ∧ quiescent_AttnGradInIdeal (hAttnGradInIdeal := hAttnGradInIdeal)
    ∧ quiescent_AttnGradInRefIdeal (hAttnGradInRefIdeal := hAttnGradInRefIdeal)
    ∧ quiescent_BranchGradW (hBranchGradW := hBranchGradW)
    ∧ quiescent_BranchGradWIdeal (hBranchGradWIdeal := hBranchGradWIdeal)
    ∧ quiescent_BranchGradWRefIdeal (hBranchGradWRefIdeal := hBranchGradWRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_GateGradIn (hGateGradIn := hGateGradIn)
    ∧ quiescent_GateGradInIdeal (hGateGradInIdeal := hGateGradInIdeal)
    ∧ quiescent_GateGradInRefIdeal (hGateGradInRefIdeal := hGateGradInRefIdeal)
    ∧ quiescent_GateGradW (hGateGradW := hGateGradW)
    ∧ quiescent_GateGradWIdeal (hGateGradWIdeal := hGateGradWIdeal)
    ∧ quiescent_GateGradWRefIdeal (hGateGradWRefIdeal := hGateGradWRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_BiasGrad (hBiasGrad := hBiasGrad)
    ∧ quiescent_BiasGradIdeal (hBiasGradIdeal := hBiasGradIdeal)
    ∧ quiescent_BiasGradRefIdeal (hBiasGradRefIdeal := hBiasGradRefIdeal)
    ∧ quiescent_Norm (hNorm := hNorm)
    ∧ quiescent_NormIdeal (hNormIdeal := hNormIdeal)
    ∧ quiescent_NormRefIdeal (hNormRefIdeal := hNormRefIdeal)
    ∧ quiescent_NormGrad (hNormGrad := hNormGrad)
    ∧ quiescent_NormGradIdeal (hNormGradIdeal := hNormGradIdeal)
    ∧ quiescent_NormGradIdeal_pre_finite_norm (hNormGradIdeal := hNormGradIdeal) (hPre_finite_norm := hPre_finite_norm)
    ∧ quiescent_NormGradRefIdeal (hNormGradRefIdeal := hNormGradRefIdeal)
    ∧ quiescent_NormGradRefIdeal_pre_finite_norm (hNormGradRefIdeal := hNormGradRefIdeal) (hPre_finite_norm := hPre_finite_norm)
    ∧ quiescent_ResGrad (hResGrad := hResGrad)
    ∧ quiescent_ResGradIdeal (hResGradIdeal := hResGradIdeal)
    ∧ quiescent_ResGradIdeal_pre_finite_res (hResGradIdeal := hResGradIdeal) (hPre_finite_res := hPre_finite_res)
    ∧ quiescent_ResGradRefIdeal (hResGradRefIdeal := hResGradRefIdeal)
    ∧ quiescent_ResGradRefIdeal_pre_finite_res (hResGradRefIdeal := hResGradRefIdeal) (hPre_finite_res := hPre_finite_res)
    ∧ quiescent_ResModGrad (hResModGrad := hResModGrad)
    ∧ quiescent_ResModGradIdeal (hResModGradIdeal := hResModGradIdeal)
    ∧ quiescent_ResModGradIdeal_pre_finite_mod (hResModGradIdeal := hResModGradIdeal) (hPre_finite_mod := hPre_finite_mod)
    ∧ quiescent_ResModGradRefIdeal (hResModGradRefIdeal := hResModGradRefIdeal)
    ∧ quiescent_ResModGradRefIdeal_pre_finite_mod (hResModGradRefIdeal := hResModGradRefIdeal) (hPre_finite_mod := hPre_finite_mod)
    ∧ quiescent_Res (hRes := hRes)
    ∧ quiescent_ResIdeal (hResIdeal := hResIdeal)
    ∧ quiescent_ResRefIdeal (hResRefIdeal := hResRefIdeal)
    ∧ quiescent_ResMod (hResMod := hResMod)
    ∧ quiescent_ResModIdeal (hResModIdeal := hResModIdeal)
    ∧ quiescent_ResModRefIdeal (hResModRefIdeal := hResModRefIdeal)
    ∧ quiescent_GateBiasGrad (hGateBiasGrad := hGateBiasGrad)
    ∧ quiescent_GateBiasGradIdeal (hGateBiasGradIdeal := hGateBiasGradIdeal)
    ∧ quiescent_GateBiasGradRefIdeal (hGateBiasGradRefIdeal := hGateBiasGradRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpGradIn_UpGradInIdeal
    ∧ algebraic_UpGradInIdeal_UpGradInRefIdeal (hUpGradInIdeal := hUpGradInIdeal) (hUpGradInRefIdeal := hUpGradInRefIdeal)
    ∧ preserves_UpGradW_UpGradWIdeal
    ∧ algebraic_UpGradWIdeal_UpGradWRefIdeal (hUpGradWIdeal := hUpGradWIdeal) (hUpGradWRefIdeal := hUpGradWRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownGradIn_DownGradInIdeal
    ∧ algebraic_DownGradInIdeal_DownGradInRefIdeal (hDownGradInIdeal := hDownGradInIdeal) (hDownGradInRefIdeal := hDownGradInRefIdeal)
    ∧ preserves_DownGradW_DownGradWIdeal
    ∧ algebraic_DownGradWIdeal_DownGradWRefIdeal (hDownGradWIdeal := hDownGradWIdeal) (hDownGradWRefIdeal := hDownGradWRefIdeal)
    ∧ preserves_InProj_InProjIdeal
    ∧ algebraic_InProjIdeal_InProjRefIdeal (hInProjIdeal := hInProjIdeal) (hInProjRefIdeal := hInProjRefIdeal)
    ∧ preserves_InGrad_InGradIdeal
    ∧ algebraic_InGradIdeal_InGradRefIdeal (hInGradIdeal := hInGradIdeal) (hInGradRefIdeal := hInGradRefIdeal)
    ∧ preserves_InGradW_InGradWIdeal
    ∧ algebraic_InGradWIdeal_InGradWRefIdeal (hInGradWIdeal := hInGradWIdeal) (hInGradWRefIdeal := hInGradWRefIdeal)
    ∧ preserves_Mix_MixIdeal
    ∧ algebraic_MixIdeal_MixRefIdeal (hMixIdeal := hMixIdeal) (hMixRefIdeal := hMixRefIdeal)
    ∧ preserves_MixGradIn_MixGradInIdeal
    ∧ algebraic_MixGradInIdeal_MixGradInRefIdeal (hMixGradInIdeal := hMixGradInIdeal) (hMixGradInRefIdeal := hMixGradInRefIdeal)
    ∧ preserves_MixGradW_MixGradWIdeal
    ∧ algebraic_MixGradWIdeal_MixGradWRefIdeal (hMixGradWIdeal := hMixGradWIdeal) (hMixGradWRefIdeal := hMixGradWRefIdeal)
    ∧ preserves_Branch_BranchIdeal
    ∧ algebraic_BranchIdeal_BranchRefIdeal (hBranchIdeal := hBranchIdeal) (hBranchRefIdeal := hBranchRefIdeal)
    ∧ preserves_ConvGradIn_ConvGradInIdeal
    ∧ algebraic_ConvGradInIdeal_ConvGradInRefIdeal (hConvGradInIdeal := hConvGradInIdeal) (hConvGradInRefIdeal := hConvGradInRefIdeal)
    ∧ preserves_AttnGradIn_AttnGradInIdeal
    ∧ algebraic_AttnGradInIdeal_AttnGradInRefIdeal (hAttnGradInIdeal := hAttnGradInIdeal) (hAttnGradInRefIdeal := hAttnGradInRefIdeal)
    ∧ preserves_BranchGradW_BranchGradWIdeal
    ∧ algebraic_BranchGradWIdeal_BranchGradWRefIdeal (hBranchGradWIdeal := hBranchGradWIdeal) (hBranchGradWRefIdeal := hBranchGradWRefIdeal)
    ∧ preserves_GateProj_GateProjIdeal
    ∧ algebraic_GateProjIdeal_GateProjRefIdeal (hGateProjIdeal := hGateProjIdeal) (hGateProjRefIdeal := hGateProjRefIdeal)
    ∧ preserves_GateGradIn_GateGradInIdeal
    ∧ algebraic_GateGradInIdeal_GateGradInRefIdeal (hGateGradInIdeal := hGateGradInIdeal) (hGateGradInRefIdeal := hGateGradInRefIdeal)
    ∧ preserves_GateGradW_GateGradWIdeal
    ∧ algebraic_GateGradWIdeal_GateGradWRefIdeal (hGateGradWIdeal := hGateGradWIdeal) (hGateGradWRefIdeal := hGateGradWRefIdeal)
    ∧ preserves_Merge_MergeIdeal
    ∧ algebraic_MergeIdeal_MergeRefIdeal (hMergeIdeal := hMergeIdeal) (hMergeRefIdeal := hMergeRefIdeal)
    ∧ preserves_MergeGrad_MergeGradIdeal
    ∧ algebraic_MergeGradIdeal_MergeGradRefIdeal (hMergeGradIdeal := hMergeGradIdeal) (hMergeGradRefIdeal := hMergeGradRefIdeal)
    ∧ preserves_BiasGrad_BiasGradIdeal
    ∧ algebraic_BiasGradIdeal_BiasGradRefIdeal (hBiasGradIdeal := hBiasGradIdeal) (hBiasGradRefIdeal := hBiasGradRefIdeal)
    ∧ preserves_Norm_NormIdeal
    ∧ algebraic_NormIdeal_NormRefIdeal (hNormIdeal := hNormIdeal) (hNormRefIdeal := hNormRefIdeal)
    ∧ preserves_NormGrad_NormGradIdeal
    ∧ algebraic_NormGradIdeal_NormGradRefIdeal_pre_finite_norm (hNormGradIdeal := hNormGradIdeal) (hNormGradRefIdeal := hNormGradRefIdeal) (hPre_finite_norm := hPre_finite_norm)
    ∧ preserves_ResGrad_ResGradIdeal
    ∧ algebraic_ResGradIdeal_ResGradRefIdeal_pre_finite_res (hResGradIdeal := hResGradIdeal) (hResGradRefIdeal := hResGradRefIdeal) (hPre_finite_res := hPre_finite_res)
    ∧ preserves_ResModGrad_ResModGradIdeal
    ∧ algebraic_ResModGradIdeal_ResModGradRefIdeal_pre_finite_mod (hResModGradIdeal := hResModGradIdeal) (hResModGradRefIdeal := hResModGradRefIdeal) (hPre_finite_mod := hPre_finite_mod)
    ∧ preserves_Res_ResIdeal
    ∧ algebraic_ResIdeal_ResRefIdeal (hResIdeal := hResIdeal) (hResRefIdeal := hResRefIdeal)
    ∧ preserves_ResMod_ResModIdeal
    ∧ algebraic_ResModIdeal_ResModRefIdeal (hResModIdeal := hResModIdeal) (hResModRefIdeal := hResModRefIdeal)
    ∧ preserves_GateBiasGrad_GateBiasGradIdeal
    ∧ algebraic_GateBiasGradIdeal_GateBiasGradRefIdeal (hGateBiasGradIdeal := hGateBiasGradIdeal) (hGateBiasGradRefIdeal := hGateBiasGradRefIdeal)
-- ==== Pre_finite.lean ====
abbrev S8192x4608 : Shape := ⟨2, ![8192, 4608]⟩
abbrev S4x2048x8 : Shape := ⟨3, ![4, 2048, 8]⟩
abbrev S8192x512 : Shape := ⟨2, ![8192, 512]⟩
abbrev S_ : Shape := ⟨0, ![]⟩

class Facts : Prop where
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg2 : FVec F S8192x512 .f32) (main_v12 : IVec S_ 1) (main_v14 : IVec S8192x512 1) (main_v15 : FVec F S8192x512 .f32) : IVec S_ 1 :=
  let main_v16 : IVec S8192x512 1 := cmpf .olt main_arg2 main_v15
  let main_v17 : IVec S8192x512 1 := andi main_v14 main_v16
  let main_c_6 : IVec S_ 1 := constantI S_ 1 1#1
  let main_v18 : IVec S_ 1 := (fun x v => Host.reduce IntOp.andi x v reducesTo_S8192x512_S_d0_1 h_S_) main_v17 main_c_6
  let main_v19 : IVec S_ 1 := andi main_v12 main_v18
  main_v19

def fn {F : FTy → Type} [FloatOps F] (main_arg0 : FVec F S8192x4608 .f32) (main_arg1 : FVec F S4x2048x8 .f32) (main_arg2 : FVec F S8192x512 .f32) : IVec S_ 1 :=
  let main_cst : FVec F S_ .f32 := constant S_ .f32 0xFF800000#32
  let main_v0 : FVec F S8192x4608 .f32 := broadcastInDim S8192x4608 ![] bcast_S_S8192x4608 main_cst
  let main_v1 : IVec S8192x4608 1 := cmpf .ogt main_arg0 main_v0
  let main_cst_0 : FVec F S_ .f32 := constant S_ .f32 0x7F800000#32
  let main_v2 : FVec F S8192x4608 .f32 := broadcastInDim S8192x4608 ![] bcast_S_S8192x4608 main_cst_0
  let main_v3 : IVec S8192x4608 1 := cmpf .olt main_arg0 main_v2
  let main_v4 : IVec S8192x4608 1 := andi main_v1 main_v3
  let main_c : IVec S_ 1 := constantI S_ 1 1#1
  let main_v5 : IVec S_ 1 := (fun x v => Host.reduce IntOp.andi x v reducesTo_S8192x4608_S_d0_1 h_S_) main_v4 main_c
  let main_cst_1 : FVec F S_ .f32 := constant S_ .f32 0xFF800000#32
  let main_v6 : FVec F S4x2048x8 .f32 := broadcastInDim S4x2048x8 ![] bcast_S_S4x2048x8 main_cst_1
  let main_v7 : IVec S4x2048x8 1 := cmpf .ogt main_arg1 main_v6
  let main_cst_2 : FVec F S_ .f32 := constant S_ .f32 0x7F800000#32
  let main_v8 : FVec F S4x2048x8 .f32 := broadcastInDim S4x2048x8 ![] bcast_S_S4x2048x8 main_cst_2
  let main_v9 : IVec S4x2048x8 1 := cmpf .olt main_arg1 main_v8
  let main_v10 : IVec S4x2048x8 1 := andi main_v7 main_v9
  let main_c_3 : IVec S_ 1 := constantI S_ 1 1#1
  let main_v11 : IVec S_ 1 := (fun x v => Host.reduce IntOp.andi x v reducesTo_S4x2048x8_S_d0_1_2 h_S_) main_v10 main_c_3
  let main_v12 : IVec S_ 1 := andi main_v5 main_v11
  let main_cst_4 : FVec F S_ .f32 := constant S_ .f32 0xFF800000#32
  let main_v13 : FVec F S8192x512 .f32 := broadcastInDim S8192x512 ![] bcast_S_S8192x512 main_cst_4
  let main_v14 : IVec S8192x512 1 := cmpf .ogt main_arg2 main_v13
  let main_cst_5 : FVec F S_ .f32 := constant S_ .f32 0x7F800000#32
  let main_v15 : FVec F S8192x512 .f32 := broadcastInDim S8192x512 ![] bcast_S_S8192x512 main_cst_5
  fn_part1 (F := F) main_arg2 main_v12 main_v14 main_v15
-- ==== Pre_finite_mod.lean ====
abbrev S8192x1024 : Shape := ⟨2, ![8192, 1024]⟩
abbrev S4x1x1024 : Shape := ⟨3, ![4, 1, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg7 : FVec F S1x1024 .f32) (main_v47 : IVec S_ 1) (main_v49 : IVec S1x1024 1) : IVec S_ 1 :=
  let main_cst_20 : FVec F S_ .f32 := constant S_ .f32 0x7F800000#32
  let main_v50 : FVec F S1x1024 .f32 := broadcastInDim S1x1024 ![] bcast_S_S1x1024 main_cst_20
  let main_v51 : IVec S1x1024 1 := cmpf .olt main_arg7 main_v50
  let main_v52 : IVec S1x1024 1 := andi main_v49 main_v51
  let main_c_21 : IVec S_ 1 := constantI S_ 1 1#1
  let main_v53 : IVec S_ 1 := (fun x v => Host.reduce IntOp.andi x v reducesTo_S1x1024_S_d0_1 h_S_) main_v52 main_c_21
  let main_v54 : IVec S_ 1 := andi main_v47 main_v53
  main_v54

def fn_part2 {F : FTy → Type} [FloatOps F] (main_arg5 : FVec F S8192x1024 .f32) (main_arg6 : FVec F S4x1x1024 .f32) (main_arg7 : FVec F S1x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x1024 .f32 := broadcastInDim S8192x1024 ![] bcast_S_S8192x1024 main_cst_13
  let main_v35 : IVec S8192x1024 1 := cmpf .ogt main_arg5 main_v34
  let main_cst_14 : FVec F S_ .f32 := constant S_ .f32 0x7F800000#32
  let main_v36 : FVec F S8192x1024 .f32 := broadcastInDim S8192x1024 ![] bcast_S_S8192x1024 main_cst_14
  let main_v37 : IVec S8192x1024 1 := cmpf .olt main_arg5 main_v36
  let main_v38 : IVec S8192x1024 1 := andi main_v35 main_v37
  let main_c_15 : IVec S_ 1 := constantI S_ 1 1#1
  let main_v39 : IVec S_ 1 := (fun x v => Host.reduce IntOp.andi x v reducesTo_S8192x1024_S_d0_1 h_S_) main_v38 main_c_15
  let main_v40 : IVec S_ 1 := andi main_v33 main_v39
  let main_cst_16 : FVec F S_ .f32 := constant S_ .f32 0xFF800000#32
  let main_v41 : FVec F S4x1x1024 .f32 := broadcastInDim S4x1x1024 ![] bcast_S_S4x1x1024 main_cst_16
  let main_v42 : IVec S4x1x1024 1 := cmpf .ogt main_arg6 main_v41
  let main_cst_17 : FVec F S_ .f32 := constant S_ .f32 0x7F800000#32
  let main_v43 : FVec F S4x1x1024 .f32 := broadcastInDim S4x1x1024 ![] bcast_S_S4x1x1024 main_cst_17
  let main_v44 : IVec S4x1x1024 1 := cmpf .olt main_arg6 main_v43
  let main_v45 : IVec S4x1x1024 1 := andi main_v42 main_v44
  let main_c_18 : IVec S_ 1 := constantI S_ 1 1#1
  let main_v46 : IVec S_ 1 := (fun x v => Host.reduce IntOp.andi x v reducesTo_S4x1x1024_S_d0_1_2 h_S_) main_v45 main_c_18
  let main_v47 : IVec S_ 1 := andi main_v40 main_v46
  let main_cst_19 : FVec F S_ .f32 := constant S_ .f32 0xFF800000#32
  let main_v48 : FVec F S1x1024 .f32 := broadcastInDim S1x1024 ![] bcast_S_S1x1024 main_cst_19
  let main_v49 : IVec S1x1024 1 := cmpf .ogt main_arg7 main_v48
  fn_part3 (F := F) main_arg7 main_v47 main_v49

def fn_part1 {F : FTy → Type} [FloatOps F] (main_arg2 : FVec F S4x1x1024 .f32) (main_arg3 : FVec F S8192x1024 .f32) (main_arg4 : FVec F S8192x1024 .f32) (main_arg5 : FVec F S8192x1024 .f32) (main_arg6 : FVec F S4x1x1024 .f32) (main_arg7 : FVec F S1x1024 .f32) (main_v12 : IVec S_ 1) (main_v14 : IVec S4x1x1024 1) (main_v15 : FVec F S4x1x1024 .f32) : IVec S_ 1 :=
  let main_v16 : IVec S4x1x1024 1 := cmpf .olt main_arg2 main_v15
  let main_v17 : IVec S4x1x1024 1 := andi main_v14 main_v16
  let main_c_6 : IVec S_ 1 := constantI S_ 1 1#1
  let main_v18 : IVec S_ 1 := (fun x v => Host.reduce IntOp.andi x v reducesTo_S4x1x1024_S_d0_1_2 h_S_) main_v17 main_c_6
  let main_v19 : IVec S_ 1 := andi main_v12 main_v18
  let main_cst_7 : FVec F S_ .f32 := constant S_ .f32 0xFF800000#32
  let main_v20 : FVec F S8192x1024 .f32 := broadcastInDim S8192x1024 ![] bcast_S_S8192x1024 main_cst_7
  let main_v21 : IVec S8192x1024 1 := cmpf .ogt main_arg3 main_v20
  let main_cst_8 : FVec F S_ .f32 := constant S_ .f32 0x7F800000#32
  let main_v22 : FVec F S8192x1024 .f32 := broadcastInDim S8192x1024 ![] bcast_S_S8192x1024 main_cst_8
  let main_v23 : IVec S8192x1024 1 := cmpf .olt main_arg3 main_v22
  let main_v24 : IVec S8192x1024 1 := andi main_v21 main_v23
  let main_c_9 : IVec S_ 1 := constantI S_ 1 1#1
  let main_v25 : IVec S_ 1 := (fun x v => Host.reduce IntOp.andi x v reducesTo_S8192x1024_S_d0_1 h_S_) main_v24 main_c_9
  let main_v26 : IVec S_ 1 := andi main_v19 main_v25
  let main_cst_10 : FVec F S_ .f32 := constant S_ .f32 0xFF800000#32
  let main_v27 : FVec F S8192x1024 .f32 := broadcastInDim S8192x1024 ![] bcast_S_S8192x1024 main_cst_10
  let main_v28 : IVec S8192x1024 1 := cmpf .ogt main_arg4 main_v27
  let main_cst_11 : FVec F S_ .f32 := constant S_ .f32 0x7F800000#32
  let main_v29 : FVec F S8192x1024 .f32 := broadcastInDim S8192x1024 ![] bcast_S_S8192x1024 main_cst_11
  let main_v30 : IVec S8192x1024 1 := cmpf .olt main_arg4 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_arg5 main_arg6 main_arg7 main_v26 main_v32

def fn {F : FTy → Type} [FloatOps F] (main_arg0 : FVec F S8192x1024 .f32) (main_arg1 : FVec F S8192x1024 .f32) (main_arg2 : FVec F S4x1x1024 .f32) (main_arg3 : FVec F S8192x1024 .f32) (main_arg4 : FVec F S8192x1024 .f32) (main_arg5 : FVec F S8192x1024 .f32) (main_arg6 : FVec F S4x1x1024 .f32) (main_arg7 : FVec F S1x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S4x1x1024 .f32 := broadcastInDim S4x1x1024 ![] bcast_S_S4x1x1024 main_cst_4
  let main_v14 : IVec S4x1x1024 1 := cmpf .ogt main_arg2 main_v13
  let main_cst_5 : FVec F S_ .f32 := constant S_ .f32 0x7F800000#32
  let main_v15 : FVec F S4x1x1024 .f32 := broadcastInDim S4x1x1024 ![] bcast_S_S4x1x1024 main_cst_5
  fn_part1 (F := F) main_arg2 main_arg3 main_arg4 main_arg5 main_arg6 main_arg7 main_v12 main_v14 main_v15
-- ==== Pre_finite_norm.lean ====
abbrev S8192x1024 : Shape := ⟨2, ![8192, 1024]⟩
abbrev S4x1x1024 : Shape := ⟨3, ![4, 1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_

variable [Facts]

def fn_part1 {F : FTy → Type} [FloatOps F] (main_arg2 : FVec F S4x1x1024 .f32) (main_v12 : IVec S_ 1) (main_v14 : IVec S4x1x1024 1) (main_v15 : FVec F S4x1x1024 .f32) : IVec S_ 1 :=
  let main_v16 : IVec S4x1x1024 1 := cmpf .olt main_arg2 main_v15
  let main_v17 : IVec S4x1x1024 1 := andi main_v14 main_v16
  let main_c_6 : IVec S_ 1 := constantI S_ 1 1#1
  let main_v18 : IVec S_ 1 := (fun x v => Host.reduce IntOp.andi x v reducesTo_S4x1x1024_S_d0_1_2 h_S_) main_v17 main_c_6
  let main_v19 : IVec S_ 1 := andi main_v12 main_v18
  main_v19

def fn {F : FTy → Type} [FloatOps F] (main_arg0 : FVec F S8192x1024 .f32) (main_arg1 : FVec F S8192x1024 .f32) (main_arg2 : FVec F S4x1x1024 .f32) (main_arg3 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S4x1x1024 .f32 := broadcastInDim S4x1x1024 ![] bcast_S_S4x1x1024 main_cst_4
  let main_v14 : IVec S4x1x1024 1 := cmpf .ogt main_arg2 main_v13
  let main_cst_5 : FVec F S_ .f32 := constant S_ .f32 0x7F800000#32
  let main_v15 : FVec F S4x1x1024 .f32 := broadcastInDim S4x1x1024 ![] bcast_S_S4x1x1024 main_cst_5
  fn_part1 (F := F) main_arg2 main_v12 main_v14 main_v15
-- ==== Pre_finite_res.lean ====
abbrev S8192x1024 : Shape := ⟨2, ![8192, 1024]⟩
abbrev S4x1x1024 : Shape := ⟨3, ![4, 1, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S8192x1024 .f32) (main_arg3 : FVec F S4x1x1024 .f32) (main_arg4 : FVec F S1x1024 .f32) (main_v12 : IVec S_ 1) (main_v14 : IVec S8192x1024 1) (main_v15 : FVec F S8192x1024 .f32) : IVec S_ 1 :=
  let main_v16 : IVec S8192x1024 1 := cmpf .olt main_arg2 main_v15
  let main_v17 : IVec S8192x1024 1 := andi main_v14 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v12 main_v18
  let main_cst_7 : FVec F S_ .f32 := constant S_ .f32 0xFF800000#32
  let main_v20 : FVec F S4x1x1024 .f32 := broadcastInDim S4x1x1024 ![] bcast_S_S4x1x1024 main_cst_7
  let main_v21 : IVec S4x1x1024 1 := cmpf .ogt main_arg3 main_v20
  let main_cst_8 : FVec F S_ .f32 := constant S_ .f32 0x7F800000#32
  let main_v22 : FVec F S4x1x1024 .f32 := broadcastInDim S4x1x1024 ![] bcast_S_S4x1x1024 main_cst_8
  let main_v23 : IVec S4x1x1024 1 := cmpf .olt main_arg3 main_v22
  let main_v24 : IVec S4x1x1024 1 := andi main_v21 main_v23
  let main_c_9 : IVec S_ 1 := constantI S_ 1 1#1
  let main_v25 : IVec S_ 1 := (fun x v => Host.reduce IntOp.andi x v reducesTo_S4x1x1024_S_d0_1_2 h_S_) main_v24 main_c_9
  let main_v26 : IVec S_ 1 := andi main_v19 main_v25
  let main_cst_10 : FVec F S_ .f32 := constant S_ .f32 0xFF800000#32
  let main_v27 : FVec F S1x1024 .f32 := broadcastInDim S1x1024 ![] bcast_S_S1x1024 main_cst_10
  let main_v28 : IVec S1x1024 1 := cmpf .ogt main_arg4 main_v27
  let main_cst_11 : FVec F S_ .f32 := constant S_ .f32 0x7F800000#32
  let main_v29 : FVec F S1x1024 .f32 := broadcastInDim S1x1024 ![] bcast_S_S1x1024 main_cst_11
  let main_v30 : IVec S1x1024 1 := cmpf .olt main_arg4 main_v29
  let main_v31 : IVec S1x1024 1 := andi main_v28 main_v30
  let main_c_12 : IVec S_ 1 := constantI S_ 1 1#1
  let main_v32 : IVec S_ 1 := (fun x v => Host.reduce IntOp.andi x v reducesTo_S1x1024_S_d0_1 h_S_) main_v31 main_c_12
  fn_part2 (F := F) main_v26 main_v32

def fn {F : FTy → Type} [FloatOps F] (main_arg0 : FVec F S8192x1024 .f32) (main_arg1 : FVec F S8192x1024 .f32) (main_arg2 : FVec F S8192x1024 .f32) (main_arg3 : FVec F S4x1x1024 .f32) (main_arg4 : FVec F S1x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S8192x1024 .f32 := broadcastInDim S8192x1024 ![] bcast_S_S8192x1024 main_cst_4
  let main_v14 : IVec S8192x1024 1 := cmpf .ogt main_arg2 main_v13
  let main_cst_5 : FVec F S_ .f32 := constant S_ .f32 0x7F800000#32
  let main_v15 : FVec F S8192x1024 .f32 := broadcastInDim S8192x1024 ![] bcast_S_S8192x1024 main_cst_5
  fn_part1 (F := F) main_arg2 main_arg3 main_arg4 main_v12 main_v14 main_v15
-- ==== Kernel.lean ====
abbrev S8192x4608 : Shape := ⟨2, ![8192, 4608]⟩
abbrev S4x2048x8 : Shape := ⟨3, ![4, 2048, 8]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x4x2x2048 : Shape := ⟨4, ![4, 4, 2, 2048]⟩
abbrev S4x4x8x2048 : Shape := ⟨4, ![4, 4, 8, 2048]⟩
abbrev S8192x4x2 : Shape := ⟨3, ![8192, 4, 2]⟩
abbrev S4x8192x2 : Shape := ⟨3, ![4, 8192, 2]⟩
abbrev S4x8192x128 : Shape := ⟨3, ![4, 8192, 128]⟩
abbrev S2048x128 : Shape := ⟨2, ![2048, 128]⟩
abbrev S1x2048x128 : Shape := ⟨3, ![1, 2048, 128]⟩
abbrev S1x1x8x2048 : Shape := ⟨4, ![1, 1, 8, 2048]⟩
abbrev S2x2048x128 : Shape := ⟨3, ![2, 2048, 128]⟩
abbrev S128x2048 : Shape := ⟨2, ![128, 2048]⟩
abbrev S8x2048 : Shape := ⟨2, ![8, 2048]⟩
abbrev S1x128 : Shape := ⟨2, ![1, 128]⟩
abbrev S128x1 : Shape := ⟨2, ![128, 1]⟩
abbrev S256x512 : Shape := ⟨2, ![256, 512]⟩
abbrev S256x128 : Shape := ⟨2, ![256, 128]⟩
abbrev S128x256 : Shape := ⟨2, ![128, 256]⟩
abbrev S1x256x1 : Shape := ⟨3, ![1, 256, 1]⟩
abbrev S256x1 : Shape := ⟨2, ![256, 1]⟩
abbrev S1x256x128 : Shape := ⟨3, ![1, 256, 128]⟩
abbrev S64x256 : Shape := ⟨2, ![64, 256]⟩
abbrev S256 : Shape := ⟨1, ![256]⟩
abbrev S1x256 : Shape := ⟨2, ![1, 256]⟩
abbrev S512x128 : Shape := ⟨2, ![512, 128]⟩
abbrev S1x512x128 : Shape := ⟨3, ![1, 512, 128]⟩
abbrev S1x1x1x512 : Shape := ⟨4, ![1, 1, 1, 512]⟩
abbrev S1x512 : Shape := ⟨2, ![1, 512]⟩
abbrev S128x512 : Shape := ⟨2, ![128, 512]⟩

abbrev nBuf : Space → Nat
  | .hbm => 68
  | .vmem => 28
  | .smem => 0
  | _ => 0

abbrev bufTy : (tb : Table) → Fin (tcTables nBuf tb) → BufTy
  | .hbm, ⟨0, _⟩ => ⟨S8192x4608, .f32⟩
  | .hbm, ⟨1, _⟩ => ⟨S4x2048x8, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S4x2048x8x64, .f32⟩
  | .hbm, ⟨6, _⟩ => ⟨S4x8x2048x64, .f32⟩
  | .hbm, ⟨7, _⟩ => ⟨S_, .f32⟩
  | .hbm, ⟨8, _⟩ => ⟨S4x8x2048x64, .f32⟩
  | .hbm, ⟨9, _⟩ => ⟨S4x8x2048x64, .f32⟩
  | .hbm, ⟨10, _⟩ => ⟨S4x2048x8x64, .f32⟩
  | .hbm, ⟨11, _⟩ => ⟨S4x8x2048x64, .f32⟩
  | .hbm, ⟨12, _⟩ => ⟨S4x8x2048x2048, .f32⟩
  | .hbm, ⟨13, _⟩ => ⟨S4x8x2048, .f32⟩
  | .hbm, ⟨14, _⟩ => ⟨S4x8x2048x1, .f32⟩
  | .hbm, ⟨15, _⟩ => ⟨S4x8x2048x2048, .f32⟩
  | .hbm, ⟨16, _⟩ => ⟨S4x8x2048x2048, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S4x8x2048x1, .f32⟩
  | .hbm, ⟨42, _⟩ => ⟨S4x8x2048x2048, .f32⟩
  | .hbm, ⟨43, _⟩ => ⟨S4x8x2048x2048, .f32⟩
  | .hbm, ⟨44, _⟩ => ⟨S8192x512, .f32⟩
  | .hbm, ⟨45, _⟩ => ⟨S4x2048x8x64, .f32⟩
  | .hbm, ⟨46, _⟩ => ⟨S4x8x2048x64, .f32⟩
  | .hbm, ⟨47, _⟩ => ⟨S4x8x2048x64, .f32⟩
  | .hbm, ⟨48, _⟩ => ⟨S4x2048x8x64, .f32⟩
  | .hbm, ⟨49, _⟩ => ⟨S8192x512, .f32⟩
  | .hbm, ⟨50, _⟩ => ⟨S4x8x2048, .f32⟩
  | .hbm, ⟨51, _⟩ => ⟨S4x8x2048, .f32⟩
  | .hbm, ⟨52, _⟩ => ⟨S4x8x2048, .f32⟩
  | .hbm, ⟨53, _⟩ => ⟨S4x8x2048, .f32⟩
  | .hbm, ⟨54, _⟩ => ⟨S4x4x2x2048, .f32⟩
  | .hbm, ⟨55, _⟩ => ⟨S_, .i32⟩
  | .hbm, ⟨56, _⟩ => ⟨S_, .f32⟩
  | .hbm, ⟨57, _⟩ => ⟨S4x4x8x2048, .f32⟩
  | .hbm, ⟨58, _⟩ => ⟨S8192x4x2, .f32⟩
  | .hbm, ⟨59, _⟩ => ⟨S4x8192x2, .f32⟩
  | .hbm, ⟨60, _⟩ => ⟨S_, .i32⟩
  | .hbm, ⟨61, _⟩ => ⟨S_, .f32⟩
  | .hbm, ⟨62, _⟩ => ⟨S4x8192x128, .f32⟩
  | .hbm, ⟨63, _⟩ => ⟨S8192x512, .bf16⟩
  | .hbm, ⟨64, _⟩ => ⟨S8192x512, .bf16⟩
  | .hbm, ⟨65, _⟩ => ⟨S8192x512, .bf16⟩
  | .hbm, ⟨66, _⟩ => ⟨S8192x512, .bf16⟩
  | .hbm, ⟨67, _⟩ => ⟨S4x8192x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S1x1x8x2048, .f32⟩
  | .local _ .vmem, ⟨13, _⟩ => ⟨S1x1x8x2048, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x128, .f32⟩
  | .local _ .vmem, ⟨21, _⟩ => ⟨S1x2048x128, .f32⟩
  | .local _ .vmem, ⟨22, _⟩ => ⟨S2x2048x128, .bf16⟩
  | .local _ .vmem, ⟨23, _⟩ => ⟨S2x2048x128, .bf16⟩
  | .local _ .vmem, ⟨24, _⟩ => ⟨S2x2048x128, .bf16⟩
  | .local _ .vmem, ⟨25, _⟩ => ⟨S128x2048, .bf16⟩
  | .local _ .vmem, ⟨26, _⟩ => ⟨S8x2048, .f32⟩
  | .local _ .vmem, ⟨27, _⟩ => ⟨S128x2048, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_call1_v0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_3 : Ref sig .tc := ⟨.hbm, 60, rfl⟩
abbrev main_call2_v0 : Ref sig .tc := ⟨.hbm, 61, rfl⟩
abbrev main_v48 : Ref sig .tc := ⟨.hbm, 62, rfl⟩
abbrev main_v49 : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev main_v50_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  v7
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v9 : Index := Scalar.indexCast v8
  let c0 : Index := 0#32
  ![v9.toNat, 0]
def k0_off2 (k0_t1 : Fin k0_t1_loop.trips) : Fin 3 → Nat :=
  let c0_14 : Index := 0#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v30 : Index := Scalar.indexCast v8
  let c0_15 : Index := 0#32
  ![0, v30.toNat, 0]
def k0_off3 (k0_t1 : Fin k0_t1_loop.trips) : Fin 3 → Nat :=
  let c0_22 : Index := 0#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v78 : Index := Scalar.indexCast v8
  let c0_23 : Index := 0#32
  ![0, v78.toNat, 0]
def k0_off4 (k0_t1 : Fin k0_t1_loop.trips) : Fin 2 → Nat :=
  let c0_34 : Index := 0#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v119 : Index := Scalar.indexCast v8
  ![0, v119.toNat]
def k0_off5 (k0_t1 : Fin k0_t1_loop.trips) : Fin 3 → Nat :=
  let c0_36 : Index := 0#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v129 : Index := Scalar.indexCast v8
  let c1 : Index := 1#32
  ![0, v129.toNat, 1]
def k0_off6 (k0_t1 : Fin k0_t1_loop.trips) : Fin 3 → Nat :=
  let c1_45 : Index := 1#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v177 : Index := Scalar.indexCast v8
  let c0_46 : Index := 0#32
  ![1, v177.toNat, 0]
def k0_off7 (k0_t1 : Fin k0_t1_loop.trips) : Fin 2 → Nat :=
  let c1_57 : Index := 1#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v218 : Index := Scalar.indexCast v8
  ![1, v218.toNat]
def k0_off8 (k0_t1 : Fin k0_t1_loop.trips) : Fin 2 → Nat :=
  let c0_58 : Index := 0#32
  let c0_i32 : BitVec 32 := 0#32
  let c1_i32 : BitVec 32 := 1#32
  let arg19 : BitVec 32 := Scf.iv c0_i32 c1_i32 k0_t1
  let c256_i32 : BitVec 32 := 256#32
  let v7 : BitVec 32 := Scalar.muli arg19 c256_i32
  let v8 : BitVec 32 := v7
  let v224 : Index := Scalar.indexCast v8
  ![0, v224.toNat]
@[reducible] def k0_t2_loop : Scf.Loop 32 :=
  let c0_i32_1 : BitVec 32 := 0#32
  let c8_i32_2 : BitVec 32 := 8#32
  let v5 : BitVec 32 := Scalar.addi c0_i32_1 c8_i32_2
  let c1_i32_3 : BitVec 32 := 1#32
  ⟨c0_i32_1, v5, c1_i32_3⟩
def k0_mult2 (k0_t2 : Fin k0_t2_loop.trips) : BitVec 32 :=
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  v7
def k0_mult3 (k0_t2 : Fin k0_t2_loop.trips) : BitVec 32 :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  v29
def k0_off9 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v31 : Index := Scalar.indexCast v30
  let c0 : Index := 0#32
  ![v31.toNat, 0]
def k0_off10 (k0_t2 : Fin k0_t2_loop.trips) : Fin 3 → Nat :=
  let c0_17 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v34 : Index := Scalar.indexCast v30
  let c0_18 : Index := 0#32
  ![0, v34.toNat, 0]
def k0_off11 (k0_t2 : Fin k0_t2_loop.trips) : Fin 3 → Nat :=
  let c0_19 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v37 : Index := Scalar.indexCast v8
  let c0_20 : Index := 0#32
  ![0, v37.toNat, 0]
def k0_off12 (k0_t2 : Fin k0_t2_loop.trips) : Fin 4 → Nat :=
  let c0_22 : Index := 0#32
  let c0_23 : Index := 0#32
  let c0_24 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v41 : Index := Scalar.indexCast v30
  ![0, 0, 0, v41.toNat]
def k0_off13 (k0_t2 : Fin k0_t2_loop.trips) : Fin 2 → Nat :=
  let c0_29 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v57 : Index := Scalar.indexCast v30
  ![0, v57.toNat]
def k0_off14 (k0_t2 : Fin k0_t2_loop.trips) : Fin 2 → Nat :=
  let c0_32 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v68 : Index := Scalar.indexCast v8
  ![0, v68.toNat]
def k0_off15 (k0_t2 : Fin k0_t2_loop.trips) : Fin 3 → Nat :=
  let c1 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v79 : Index := Scalar.indexCast v30
  let c0_34 : Index := 0#32
  ![1, v79.toNat, 0]
def k0_off16 (k0_t2 : Fin k0_t2_loop.trips) : Fin 3 → Nat :=
  let c1_35 : Index := 1#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v82 : Index := Scalar.indexCast v8
  let c0_36 : Index := 0#32
  ![1, v82.toNat, 0]
def k0_off17 (k0_t2 : Fin k0_t2_loop.trips) : Fin 4 → Nat :=
  let c0_38 : Index := 0#32
  let c0_39 : Index := 0#32
  let c1_40 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v86 : Index := Scalar.indexCast v30
  ![0, 0, 1, v86.toNat]
def k0_off18 (k0_t2 : Fin k0_t2_loop.trips) : Fin 2 → Nat :=
  let c1_45 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v102 : Index := Scalar.indexCast v30
  ![1, v102.toNat]
def k0_off19 (k0_t2 : Fin k0_t2_loop.trips) : Fin 2 → Nat :=
  let c0_50 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c512_i32 : BitVec 32 := 512#32
  let v29 : BitVec 32 := Scalar.muli v25 c512_i32
  let v30 : BitVec 32 := v29
  let v132 : Index := Scalar.indexCast v30
  ![0, v132.toNat]
@[reducible] def k0_t3_loop (k0_t2 : Fin k0_t2_loop.trips) : Scf.Loop 32 :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_54 : BitVec 32 := 1#32
  ⟨v28, v145, c1_i32_54⟩
def k0_mult4 (k0_t2 : Fin k0_t2_loop.trips) (k0_t3 : Fin (k0_t3_loop k0_t2).trips) : BitVec 32 :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  v197
def k0_off20 (k0_t2 : Fin k0_t2_loop.trips) (k0_t3 : Fin (k0_t3_loop k0_t2).trips) : Fin 2 → Nat :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v199 : Index := Scalar.indexCast v198
  let c0_72 : Index := 0#32
  ![v199.toNat, 0]
def k0_off21 (k0_t2 : Fin k0_t2_loop.trips) (k0_t3 : Fin (k0_t3_loop k0_t2).trips) : Fin 3 → Nat :=
  let c0_73 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v202 : Index := Scalar.indexCast v198
  let c0_74 : Index := 0#32
  ![0, v202.toNat, 0]
def k0_off22 (k0_t2 : Fin k0_t2_loop.trips) : Fin 3 → Nat :=
  let c0_75 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v205 : Index := Scalar.indexCast v8
  let c0_76 : Index := 0#32
  ![0, v205.toNat, 0]
def k0_off23 (k0_t2 : Fin k0_t2_loop.trips) (k0_t3 : Fin (k0_t3_loop k0_t2).trips) : Fin 4 → Nat :=
  let c0_78 : Index := 0#32
  let c0_79 : Index := 0#32
  let c0_80 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v209 : Index := Scalar.indexCast v198
  ![0, 0, 0, v209.toNat]
def k0_off24 (k0_t2 : Fin k0_t2_loop.trips) (k0_t3 : Fin (k0_t3_loop k0_t2).trips) : Fin 2 → Nat :=
  let c0_84 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v219 : Index := Scalar.indexCast v198
  ![0, v219.toNat]
def k0_off25 (k0_t2 : Fin k0_t2_loop.trips) : Fin 2 → Nat :=
  let c0_87 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v230 : Index := Scalar.indexCast v8
  ![0, v230.toNat]
def k0_off26 (k0_t2 : Fin k0_t2_loop.trips) (k0_t3 : Fin (k0_t3_loop k0_t2).trips) : Fin 3 → Nat :=
  let c1_89 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v241 : Index := Scalar.indexCast v198
  let c0_90 : Index := 0#32
  ![1, v241.toNat, 0]
def k0_off27 (k0_t2 : Fin k0_t2_loop.trips) : Fin 3 → Nat :=
  let c1_91 : Index := 1#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v244 : Index := Scalar.indexCast v8
  let c0_92 : Index := 0#32
  ![1, v244.toNat, 0]
def k0_off28 (k0_t2 : Fin k0_t2_loop.trips) (k0_t3 : Fin (k0_t3_loop k0_t2).trips) : Fin 4 → Nat :=
  let c0_94 : Index := 0#32
  let c0_95 : Index := 0#32
  let c1_96 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v248 : Index := Scalar.indexCast v198
  ![0, 0, 1, v248.toNat]
def k0_off29 (k0_t2 : Fin k0_t2_loop.trips) (k0_t3 : Fin (k0_t3_loop k0_t2).trips) : Fin 2 → Nat :=
  let c1_100 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v258 : Index := Scalar.indexCast v198
  ![1, v258.toNat]
def k0_off30 (k0_t2 : Fin k0_t2_loop.trips) (k0_t3 : Fin (k0_t3_loop k0_t2).trips) : Fin 2 → Nat :=
  let c0_107 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c1_i32_54 : BitVec 32 := 1#32
  let arg20 : BitVec 32 := Scf.iv v28 c1_i32_54 k0_t3
  let c512_i32_71 : BitVec 32 := 512#32
  let v197 : BitVec 32 := Scalar.muli arg20 c512_i32_71
  let v198 : BitVec 32 := v197
  let v288 : Index := Scalar.indexCast v198
  ![0, v288.toNat]
@[reducible] def k0_t4_loop (k0_t2 : Fin k0_t2_loop.trips) : Scf.Loop 32 :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let v142 : BitVec 32 := Scalar.addi v28 v141
  let c1_i32_55 : BitVec 32 := 1#32
  ⟨v145, v142, c1_i32_55⟩
def k0_mult5 (k0_t2 : Fin k0_t2_loop.trips) (k0_t4 : Fin (k0_t4_loop k0_t2).trips) : BitVec 32 :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  v197
def k0_off31 (k0_t2 : Fin k0_t2_loop.trips) (k0_t4 : Fin (k0_t4_loop k0_t2).trips) : Fin 2 → Nat :=
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v199 : Index := Scalar.indexCast v198
  let c0_72 : Index := 0#32
  ![v199.toNat, 0]
def k0_off32 (k0_t2 : Fin k0_t2_loop.trips) (k0_t4 : Fin (k0_t4_loop k0_t2).trips) : Fin 3 → Nat :=
  let c0_73 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v202 : Index := Scalar.indexCast v198
  let c0_74 : Index := 0#32
  ![0, v202.toNat, 0]
def k0_off33 (k0_t2 : Fin k0_t2_loop.trips) : Fin 3 → Nat :=
  let c0_75 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v205 : Index := Scalar.indexCast v8
  let c0_76 : Index := 0#32
  ![0, v205.toNat, 0]
def k0_off34 (k0_t2 : Fin k0_t2_loop.trips) (k0_t4 : Fin (k0_t4_loop k0_t2).trips) : Fin 4 → Nat :=
  let c0_78 : Index := 0#32
  let c0_79 : Index := 0#32
  let c0_80 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v209 : Index := Scalar.indexCast v198
  ![0, 0, 0, v209.toNat]
def k0_off35 (k0_t2 : Fin k0_t2_loop.trips) (k0_t4 : Fin (k0_t4_loop k0_t2).trips) : Fin 2 → Nat :=
  let c0_84 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v219 : Index := Scalar.indexCast v198
  ![0, v219.toNat]
def k0_off36 (k0_t2 : Fin k0_t2_loop.trips) : Fin 2 → Nat :=
  let c0_87 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v230 : Index := Scalar.indexCast v8
  ![0, v230.toNat]
def k0_off37 (k0_t2 : Fin k0_t2_loop.trips) (k0_t4 : Fin (k0_t4_loop k0_t2).trips) : Fin 3 → Nat :=
  let c1_89 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v241 : Index := Scalar.indexCast v198
  let c0_90 : Index := 0#32
  ![1, v241.toNat, 0]
def k0_off38 (k0_t2 : Fin k0_t2_loop.trips) : Fin 3 → Nat :=
  let c1_91 : Index := 1#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v244 : Index := Scalar.indexCast v8
  let c0_92 : Index := 0#32
  ![1, v244.toNat, 0]
def k0_off39 (k0_t2 : Fin k0_t2_loop.trips) (k0_t4 : Fin (k0_t4_loop k0_t2).trips) : Fin 4 → Nat :=
  let c0_94 : Index := 0#32
  let c0_95 : Index := 0#32
  let c1_96 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v248 : Index := Scalar.indexCast v198
  ![0, 0, 1, v248.toNat]
def k0_off40 (k0_t2 : Fin k0_t2_loop.trips) (k0_t4 : Fin (k0_t4_loop k0_t2).trips) : Fin 2 → Nat :=
  let c1_100 : Index := 1#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v258 : Index := Scalar.indexCast v198
  ![1, v258.toNat]
def k0_off41 (k0_t2 : Fin k0_t2_loop.trips) (k0_t4 : Fin (k0_t4_loop k0_t2).trips) : Fin 2 → Nat :=
  let c0_107 : Index := 0#32
  let c0_i32_1 : BitVec 32 := 0#32
  let c1_i32_3 : BitVec 32 := 1#32
  let arg19 : BitVec 32 := Scf.iv c0_i32_1 c1_i32_3 k0_t2
  let c0_i32_9 : BitVec 32 := 0#32
  let v10 : BitVec 1 := Scalar.cmpi .sgt arg19 c0_i32_9
  let v11 : BitVec 32 := Scalar.extui v10
  let c0_i32_10 : BitVec 32 := 0#32
  let v12 : BitVec 1 := Scalar.cmpi .slt arg19 c0_i32_10
  let v13 : BitVec 32 := Scalar.extui v12
  let v14 : BitVec 32 := Scalar.subi v11 v13
  let c2_i32 : BitVec 32 := 2#32
  let c0_i32_11 : BitVec 32 := 0#32
  let v15 : BitVec 1 := Scalar.cmpi .sgt c2_i32 c0_i32_11
  let v16 : BitVec 32 := Scalar.extui v15
  let c0_i32_12 : BitVec 32 := 0#32
  let v17 : BitVec 1 := Scalar.cmpi .slt c2_i32 c0_i32_12
  let v18 : BitVec 32 := Scalar.extui v17
  let v19 : BitVec 32 := Scalar.subi v16 v18
  let v20 : BitVec 1 := Scalar.cmpi .ne v14 v19
  let v21 : BitVec 32 := Scalar.remsi arg19 c2_i32
  let c0_i32_13 : BitVec 32 := 0#32
  let v22 : BitVec 1 := Scalar.cmpi .ne v21 c0_i32_13
  let v23 : BitVec 1 := Scalar.andi v20 v22
  let v9 : BitVec 32 := Scalar.divsi arg19 c2_i32
  let c1_i32_14 : BitVec 32 := 1#32
  let v24 : BitVec 32 := Scalar.subi v9 c1_i32_14
  let v25 : BitVec 32 := Scalar.select v23 v24 v9
  let c1_i32_16 : BitVec 32 := 1#32
  let v28 : BitVec 32 := Scalar.addi v25 c1_i32_16
  let c4_i32 : BitVec 32 := 4#32
  let v141 : BitVec 32 := Scalar.subi c4_i32 v28
  let c1_i32_53 : BitVec 32 := 1#32
  let v143 : BitVec 32 := Scalar.divsi v141 c1_i32_53
  let v144 : BitVec 32 := Scalar.muli v143 c1_i32_53
  let v145 : BitVec 32 := Scalar.addi v28 v144
  let c1_i32_55 : BitVec 32 := 1#32
  let arg20 : BitVec 32 := Scf.iv v145 c1_i32_55 k0_t4
  let c512_i32_71 : BitVec 32 := 512#32
  let v197 : BitVec 32 := Scalar.muli arg20 c512_i32_71
  let v198 : BitVec 32 := v197
  let v288 : Index := Scalar.indexCast v198
  ![0, v288.toNat]
def k0_off42 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v188 : Index := Scalar.indexCast v8
  let c0_67 : Index := 0#32
  ![v188.toNat, 0]
def k0_off43 (k0_t2 : Fin k0_t2_loop.trips) : Fin 3 → Nat :=
  let c0_69 : Index := 0#32
  let c0_i32_1 : BitVec 32 := 0#32
  let c1_i32_3 : BitVec 32 := 1#32
  let arg19 : BitVec 32 := Scf.iv c0_i32_1 c1_i32_3 k0_t2
  let c256_i32 : BitVec 32 := 256#32
  let v7 : BitVec 32 := Scalar.muli arg19 c256_i32
  let v8 : BitVec 32 := v7
  let v193 : Index := Scalar.indexCast v8
  let c0_70 : Index := 0#32
  ![0, v193.toNat, 0]
@[reducible] def k0_t5_loop : Scf.Loop 32 :=
  let c0_i32_5 : BitVec 32 := 0#32
  let c8_i32_6 : BitVec 32 := 8#32
  let v6 : BitVec 32 := Scalar.addi c0_i32_5 c8_i32_6
  let c1_i32_7 : BitVec 32 := 1#32
  ⟨c0_i32_5, v6, c1_i32_7⟩
def k0_mult6 (k0_t5 : Fin k0_t5_loop.trips) : BitVec 32 :=
  let c0_i32_5 : BitVec 32 := 0#32
  let c1_i32_7 : BitVec 32 := 1#32
  let arg19 : BitVec 32 := Scf.iv c0_i32_5 c1_i32_7 k0_t5
  let c256_i32 : BitVec 32 := 256#32
  let v7 : BitVec 32 := Scalar.muli arg19 c256_i32
  v7
def k0_off44 (k0_t5 : Fin k0_t5_loop.trips) : Fin 2 → Nat :=
  let c0 : Index := 0#32
  let c0_i32_5 : BitVec 32 := 0#32
  let c1_i32_7 : BitVec 32 := 1#32
  let arg19 : BitVec 32 := Scf.iv c0_i32_5 c1_i32_7 k0_t5
  let c256_i32 : BitVec 32 := 256#32
  let v7 : BitVec 32 := Scalar.muli arg19 c256_i32
  let v8 : BitVec 32 := v7
  let v9 : Index := Scalar.indexCast v8
  ![0, v9.toNat]
def k0_off45 (k0_t5 : Fin k0_t5_loop.trips) : Fin 2 → Nat :=
  let c0_i32_5 : BitVec 32 := 0#32
  let c1_i32_7 : BitVec 32 := 1#32
  let arg19 : BitVec 32 := Scf.iv c0_i32_5 c1_i32_7 k0_t5
  let c256_i32 : BitVec 32 := 256#32
  let v7 : BitVec 32 := Scalar.muli arg19 c256_i32
  let v8 : BitVec 32 := v7
  let v13 : Index := Scalar.indexCast v8
  let c0_9 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x4608 : Shape := ⟨2, ![8192, 4608]⟩
abbrev S4x2048x8 : Shape := ⟨3, ![4, 2048, 8]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩
abbrev S8192x4x2 : Shape := ⟨3, ![8192, 4, 2]⟩
abbrev S4x8192x2 : Shape := ⟨3, ![4, 8192, 2]⟩
abbrev S4x8192x128 : Shape := ⟨3, ![4, 8192, 128]⟩

abbrev nBuf : Space → Nat
  | .hbm => 133
  | .vmem => 0
  | .smem => 0
  | _ => 0

abbrev hbmTy0_0 (i : Nat) : BufTy := match i % 128 with
  | 0 => ⟨S8192x4608, .f32⟩
  | 1 => ⟨S4x2048x8, .f32⟩
  | 2 => ⟨S8192x512, .f32⟩
  | 3 => ⟨S8192x512, .f32⟩
  | 4 => ⟨S8192x512, .f32⟩
  | 5 => ⟨S8192x512, .f32⟩
  | 6 => ⟨S4x2048x8x64, .f32⟩
  | 7 => ⟨S4x8x2048x64, .f32⟩
  | 8 => ⟨S_, .f32⟩
  | 9 => ⟨S4x8x2048x64, .f32⟩
  | 10 => ⟨S4x8x2048x64, .f32⟩
  | 11 => ⟨S4x2048x8x64, .f32⟩
  | 12 => ⟨S4x8x2048x64, .f32⟩
  | 13 => ⟨S4x8x2048x2048, .f32⟩
  | 14 => ⟨S4x8x2048, .f32⟩
  | 15 => ⟨S4x8x2048x1, .f32⟩
  | 16 => ⟨S4x8x2048x2048, .f32⟩
  | 17 => ⟨S4x8x2048x2048, .f32⟩
  | 18 => ⟨S4x8x1x2048, .f32⟩
  | 19 => ⟨S4x8x2048x2048, .f32⟩
  | 20 => ⟨S4x8x2048x2048, .f32⟩
  | 21 => ⟨S2048, .i32⟩
  | 22 => ⟨S2048x1, .i32⟩
  | 23 => ⟨S2048, .i32⟩
  | 24 => ⟨S1x2048, .i32⟩
  | 25 => ⟨S2048x2048, .i32⟩
  | 26 => ⟨S2048x2048, .i32⟩
  | 27 => ⟨S2048x2048, .i1⟩
  | 28 => ⟨S1x1x2048x2048, .i1⟩
  | 29 => ⟨S_, .f32⟩
  | 30 => ⟨S_, .f32⟩
  | 31 => ⟨S4x8x2048x2048, .i1⟩
  | 32 => ⟨S4x8x2048x2048, .f32⟩
  | 33 => ⟨S4x8x2048x2048, .f32⟩
  | 34 => ⟨S_, .f32⟩
  | 35 => ⟨S4x8x2048x2048, .f32⟩
  | 36 => ⟨S_, .f32⟩
  | 37 => ⟨S4x8x2048, .f32⟩
  | 38 => ⟨S4x8x2048x1, .f32⟩
  | 39 => ⟨S4x8x2048x2048, .f32⟩
  | 40 => ⟨S4x8x2048x2048, .i1⟩
  | 41 => ⟨S4x8x2048x2048, .f32⟩
  | 42 => ⟨S_, .f32⟩
  | 43 => ⟨S4x8x2048, .f32⟩
  | 44 => ⟨S_, .f32⟩
  | 45 => ⟨S4x8x2048, .f32⟩
  | 46 => ⟨S4x8x2048, .f32⟩
  | 47 => ⟨S_, .f32⟩
  | 48 => ⟨S4x8x2048, .f32⟩
  | 49 => ⟨S4x8x2048, .i1⟩
  | 50 => ⟨S_, .f32⟩
  | 51 => ⟨S4x8x2048, .f32⟩
  | 52 => ⟨S4x8x2048, .i1⟩
  | 53 => ⟨S_, .f32⟩
  | 54 => ⟨S4x8x2048, .f32⟩
  | 55 => ⟨S_, .f32⟩
  | 56 => ⟨S4x8x2048, .f32⟩
  | 57 => ⟨S_, .f32⟩
  | 58 => ⟨S4x8x2048, .f32⟩
  | 59 => ⟨S4x8x2048, .f32⟩
  | 60 => ⟨S4x8x2048, .f32⟩
  | 61 => ⟨S4x8x2048x1, .f32⟩
  | 62 => ⟨S4x8x2048x2048, .f32⟩
  | 63 => ⟨S4x8x2048x2048, .f32⟩
  | 64 => ⟨S4x8x2048x2048, .f32⟩
  | 65 => ⟨S_, .f32⟩
  | 66 => ⟨S4x8x2048, .f32⟩
  | 67 => ⟨S4x8x2048x1, .f32⟩
  | 68 => ⟨S4x8x2048x2048, .f32⟩
  | 69 => ⟨S4x8x2048x2048, .f32⟩
  | 70 => ⟨S4x8x2048x1, .f32⟩
  | 71 => ⟨S_, .f32⟩
  | 72 => ⟨S4x8x2048x1, .f32⟩
  | 73 => ⟨S4x8x2048x1, .f32⟩
  | 74 => ⟨S4x2048x8x64, .f32⟩
  | 75 => ⟨S4x8x2048x64, .f32⟩
  | 76 => ⟨S4x8x2048x64, .f32⟩
  | 77 => ⟨S4x2048x8x64, .f32⟩
  | 78 => ⟨S8192x512, .f32⟩
  | 79 => ⟨S4x2048x8x64, .f32⟩
  | 80 => ⟨S4x8x2048x64, .f32⟩
  | 81 => ⟨S4x8x64x2048, .f32⟩
  | 82 => ⟨S4x8x2048x64, .f32⟩
  | 83 => ⟨S4x8x2048x2048, .f32⟩
  | 84 => ⟨S4x2048x8x64, .f32⟩
  | 85 => ⟨S8192x512, .f32⟩
  | 86 => ⟨S4x8x2048x2048, .f32⟩
  | 87 => ⟨S4x8x2048x2048, .f32⟩
  | 88 => ⟨S4x8x2048x2048, .f32⟩
  | 89 => ⟨S_, .f32⟩
  | 90 => ⟨S4x8x2048, .f32⟩
  | 91 => ⟨S4x8x2048x1, .f32⟩
  | 92 => ⟨S4x8x2048x1, .f32⟩
  | 93 => ⟨S4x8x2048x2048, .f32⟩
  | 94 => ⟨S4x8x2048x2048, .f32⟩
  | 95 => ⟨S_, .f32⟩
  | 96 => ⟨S4x8x2048, .f32⟩
  | 97 => ⟨S4x8x2048x2048, .f32⟩
  | 98 => ⟨S4x8x2048x2048, .f32⟩
  | 99 => ⟨S4x8x2048x2048, .f32⟩
  | 100 => ⟨S_, .f32⟩
  | 101 => ⟨S4x8x2048x2048, .f32⟩
  | 102 => ⟨S4x8x2048x2048, .f32⟩
  | 103 => ⟨S4x8x2048x2048, .f32⟩
  | 104 => ⟨S_, .f32⟩
  | 105 => ⟨S4x8x2048, .f32⟩
  | 106 => ⟨S4x8x1x2048, .f32⟩
  | 107 => ⟨S_, .f32⟩
  | 108 => ⟨S4x8x2048, .f32⟩
  | 109 => ⟨S_, .f32⟩
  | 110 => ⟨S4x8x2048, .f32⟩
  | 111 => ⟨S4x8x2048x1, .f32⟩
  | 112 => ⟨S_, .f32⟩
  | 113 => ⟨S4x8x2048, .f32⟩
  | 114 => ⟨S4x8x2048, .f32⟩
  | 115 => ⟨S4x2048x8, .f32⟩
  | 116 => ⟨S4x8x2048x64, .f32⟩
  | 117 => ⟨S4x8x2048x64, .f32⟩
  | 118 => ⟨S4x2048x8x64, .f32⟩
  | 119 => ⟨S8192x512, .f32⟩
  | 120 => ⟨S_, .f32⟩
  | 121 => ⟨S4x8x2048x64, .f32⟩
  | 122 => ⟨S4x8x2048x64, .f32⟩
  | 123 => ⟨S4x2048x8x64, .f32⟩
  | 124 => ⟨S8192x512, .f32⟩
  | 125 => ⟨S8192x4x2, .f32⟩
  | 126 => ⟨S4x8192x2, .f32⟩
  | 127 => ⟨S_, .i32⟩
  | _ => ⟨S8192x4608, .f32⟩

abbrev hbmTy0_1 (i : Nat) : BufTy := match i % 128 with
  | 0 => ⟨S_, .f32⟩
  | 1 => ⟨S4x8192x128, .f32⟩
  | 2 => ⟨S8192x512, .bf16⟩
  | 3 => ⟨S8192x512, .bf16⟩
  | 4 => ⟨S8192x512, .bf16⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c : Ref sig .tc := ⟨.hbm, 127, rfl⟩
abbrev main_call2_v0 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩

abbrev nD : Nat := 1
abbrev τ : Topo := Topo.v7x

variable {F : FTy → Type} [FloatOps F]
-- ==== UpGradIn.lean ====
abbrev S5632x1024 : Shape := ⟨2, ![5632, 1024]⟩
abbrev S8192x2816 : Shape := ⟨2, ![8192, 2816]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S5632x1024, .bf16⟩
  | .hbm, ⟨1, _⟩ => ⟨S8192x2816, .bf16⟩
  | .hbm, ⟨2, _⟩ => ⟨S8192x2816, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond7 (i : grid0.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpGradInRefIdeal.lean ====
abbrev S5632x1024 : Shape := ⟨2, ![5632, 1024]⟩
abbrev S8192x2816 : Shape := ⟨2, ![8192, 2816]⟩
abbrev S_ : Shape := ⟨0, ![]⟩
abbrev S8192x1024 : Shape := ⟨2, ![8192, 1024]⟩
abbrev S8192x5632 : Shape := ⟨2, ![8192, 5632]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S5632x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S8192x1024, .f32⟩
  | .hbm, ⟨5, _⟩ => ⟨S8192x5632, .bf16⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S8192x5632, .f32⟩
  | .hbm, ⟨10, _⟩ => ⟨S8192x1024, .f32⟩
  | _, _ => ⟨S5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpGradW.lean ====
abbrev S8192x1024 : Shape := ⟨2, ![8192, 1024]⟩
abbrev S8192x2816 : Shape := ⟨2, ![8192, 2816]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond7 (i : grid0.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpGradWRefIdeal.lean ====
abbrev S8192x1024 : Shape := ⟨2, ![8192, 1024]⟩
abbrev S8192x2816 : Shape := ⟨2, ![8192, 2816]⟩
abbrev S_ : Shape := ⟨0, ![]⟩
abbrev S5632x1024 : Shape := ⟨2, ![5632, 1024]⟩
abbrev S8192x5632 : Shape := ⟨2, ![8192, 5632]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S5632x1024, .f32⟩
  | .hbm, ⟨5, _⟩ => ⟨S8192x5632, .bf16⟩
  | .hbm, ⟨6, _⟩ => ⟨S8192x5632, .f32⟩
  | .hbm, ⟨7, _⟩ => ⟨S8192x1024, .f32⟩
  | .hbm, ⟨8, _⟩ => ⟨S1024x5632, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S5632x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Up.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownGradIn.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradInRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownGradW.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradWRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S8192x1024 : Shape := ⟨2, ![8192, 1024]⟩
abbrev S4608x1024 : Shape := ⟨2, ![4608, 1024]⟩
abbrev S1x4608 : Shape := ⟨2, ![1, 4608]⟩
abbrev S8192x4608 : Shape := ⟨2, ![8192, 4608]⟩
abbrev S1024x1024 : Shape := ⟨2, ![1024, 1024]⟩
abbrev S1536x1024 : Shape := ⟨2, ![1536, 1024]⟩
abbrev S1x1536 : Shape := ⟨2, ![1, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4608x1024, .bf16⟩
  | .hbm, ⟨2, _⟩ => ⟨S1x4608, .f32⟩
  | .hbm, ⟨3, _⟩ => ⟨S8192x4608, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1x1536, .f32⟩
  | .local _ .vmem, ⟨5, _⟩ => ⟨S1x1536, .f32⟩
  | .local _ .vmem, ⟨6, _⟩ => ⟨S1024x1536, .f32⟩
  | .local _ .vmem, ⟨7, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S8192x1024 : Shape := ⟨2, ![8192, 1024]⟩
abbrev S4608x1024 : Shape := ⟨2, ![4608, 1024]⟩
abbrev S1x4608 : Shape := ⟨2, ![1, 4608]⟩
abbrev S1024x4608 : Shape := ⟨2, ![1024, 4608]⟩
abbrev S8192x4608 : Shape := ⟨2, ![8192, 4608]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4608x1024, .bf16⟩
  | .hbm, ⟨2, _⟩ => ⟨S1x4608, .f32⟩
  | .hbm, ⟨3, _⟩ => ⟨S8192x1024, .f32⟩
  | .hbm, ⟨4, _⟩ => ⟨S4608x1024, .f32⟩
  | .hbm, ⟨5, _⟩ => ⟨S1024x4608, .f32⟩
  | .hbm, ⟨6, _⟩ => ⟨S8192x4608, .f32⟩
  | .hbm, ⟨7, _⟩ => ⟨S8192x4608, .f32⟩
  | .hbm, ⟨8, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGrad.lean ====
abbrev S8192x4608 : Shape := ⟨2, ![8192, 4608]⟩
abbrev S4608x1024 : Shape := ⟨2, ![4608, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4608, .bf16⟩
  | .hbm, ⟨1, _⟩ => ⟨S4608x1024, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGradRefIdeal.lean ====
abbrev S8192x4608 : Shape := ⟨2, ![8192, 4608]⟩
abbrev S4608x1024 : Shape := ⟨2, ![4608, 1024]⟩
abbrev S8192x1024 : Shape := ⟨2, ![8192, 1024]⟩
abbrev S_ : Shape := ⟨0, ![]⟩
abbrev S1024x4608 : Shape := ⟨2, ![1024, 4608]⟩

abbrev nBuf : Space → Nat
  | .hbm => 11
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S4608x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S4608x1024, .f32⟩
  | .hbm, ⟨6, _⟩ => ⟨S1024x4608, .f32⟩
  | .hbm, ⟨7, _⟩ => ⟨S8192x4608, .f32⟩
  | .hbm, ⟨8, _⟩ => ⟨S8192x4608, .f32⟩
  | .hbm, ⟨9, _⟩ => ⟨S8192x1024, .f32⟩
  | .hbm, ⟨10, _⟩ => ⟨S8192x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InGradW.lean ====
abbrev S8192x4608 : Shape := ⟨2, ![8192, 4608]⟩
abbrev S8192x1024 : Shape := ⟨2, ![8192, 1024]⟩
abbrev S4608x1024 : Shape := ⟨2, ![4608, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S4608x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradWRefIdeal.lean ====
abbrev S8192x4608 : Shape := ⟨2, ![8192, 4608]⟩
abbrev S8192x1024 : Shape := ⟨2, ![8192, 1024]⟩
abbrev S_ : Shape := ⟨0, ![]⟩
abbrev S4608x1024 : Shape := ⟨2, ![4608, 1024]⟩
abbrev S1024x4608 : Shape := ⟨2, ![1024, 4608]⟩

abbrev nBuf : Space → Nat
  | .hbm => 11
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S_, .f32⟩
  | .hbm, ⟨3, _⟩ => ⟨S4608x1024, .f32⟩
  | .hbm, ⟨4, _⟩ => ⟨S8192x1024, .f32⟩
  | .hbm, ⟨5, _⟩ => ⟨S1024x4608, .f32⟩
  | .hbm, ⟨6, _⟩ => ⟨S8192x4608, .f32⟩
  | .hbm, ⟨7, _⟩ => ⟨S8192x4608, .f32⟩
  | .hbm, ⟨8, _⟩ => ⟨S4608x1024, .f32⟩
  | .hbm, ⟨9, _⟩ => ⟨S1024x4608, .f32⟩
  | .hbm, ⟨10, _⟩ => ⟨S4608x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixRefIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixGradIn.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradInRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixGradW.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixGradWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Branch.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvGradIn.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvGradInRefIdeal.lean ====
abbrev S8192x1024 : Shape := ⟨2, ![8192, 1024]⟩
abbrev S1024x512 : Shape := ⟨2, ![1024, 512]⟩
abbrev S_ : Shape := ⟨0, ![]⟩
abbrev S8192x512 : Shape := ⟨2, ![8192, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S_, .f32⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnGradIn.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnGradInRefIdeal.lean ====
abbrev S8192x1024 : Shape := ⟨2, ![8192, 1024]⟩
abbrev S1024x512 : Shape := ⟨2, ![1024, 512]⟩
abbrev S_ : Shape := ⟨0, ![]⟩
abbrev S8192x512 : Shape := ⟨2, ![8192, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S_, .f32⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x512, .f32⟩
  | .hbm, ⟨9, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchGradW.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradWRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateProj.lean ====
abbrev S8192x1024 : Shape := ⟨2, ![8192, 1024]⟩
abbrev S128x1024 : Shape := ⟨2, ![128, 1024]⟩
abbrev S1x128 : Shape := ⟨2, ![1, 128]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S1x128, .f32⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateProjRefIdeal.lean ====
abbrev S8192x1024 : Shape := ⟨2, ![8192, 1024]⟩
abbrev S128x1024 : Shape := ⟨2, ![128, 1024]⟩
abbrev S1x128 : Shape := ⟨2, ![1, 128]⟩
abbrev S1024x128 : Shape := ⟨2, ![1024, 128]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S1x128, .f32⟩
  | .hbm, ⟨3, _⟩ => ⟨S8192x1024, .f32⟩
  | .hbm, ⟨4, _⟩ => ⟨S128x1024, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateGradIn.lean ====
abbrev S8192x128 : Shape := ⟨2, ![8192, 128]⟩
abbrev S128x1024 : Shape := ⟨2, ![128, 1024]⟩
abbrev S8192x1024 : Shape := ⟨2, ![8192, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateGradInRefIdeal.lean ====
abbrev S8192x128 : Shape := ⟨2, ![8192, 128]⟩
abbrev S128x1024 : Shape := ⟨2, ![128, 1024]⟩
abbrev S_ : Shape := ⟨0, ![]⟩
abbrev S8192x1024 : Shape := ⟨2, ![8192, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S_, .f32⟩
  | .hbm, ⟨3, _⟩ => ⟨S8192x1024, .f32⟩
  | .hbm, ⟨4, _⟩ => ⟨S128x1024, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateGradW.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateGradWRefIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Merge.lean ====
abbrev S8192x4608 : Shape := ⟨2, ![8192, 4608]⟩
abbrev S8192x1024 : Shape := ⟨2, ![8192, 1024]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x4608, .f32⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S8192x4608 : Shape := ⟨2, ![8192, 4608]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeGrad.lean ====
abbrev S8192x1024 : Shape := ⟨2, ![8192, 1024]⟩
abbrev S8192x4608 : Shape := ⟨2, ![8192, 4608]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeGradRefIdeal.lean ====
abbrev S8192x1024 : Shape := ⟨2, ![8192, 1024]⟩
abbrev S8192x4608 : Shape := ⟨2, ![8192, 4608]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== BiasGrad.lean ====
abbrev S8192x4608 : Shape := ⟨2, ![8192, 4608]⟩
abbrev S1x4608 : Shape := ⟨2, ![1, 4608]⟩
abbrev S512x1536 : Shape := ⟨2, ![512, 1536]⟩
abbrev S1x1536 : Shape := ⟨2, ![1, 1536]⟩
abbrev S1536 : Shape := ⟨1, ![1536]⟩

abbrev nBuf : Space → Nat
  | .hbm => 2
  | .vmem => 4
  | .smem => 0
  | _ => 0

abbrev bufTy : (tb : Table) → Fin (tcTables nBuf tb) → BufTy
  | .hbm, ⟨0, _⟩ => ⟨S8192x4608, .bf16⟩
  | .hbm, ⟨1, _⟩ => ⟨S1x4608, .f32⟩
  | .local _ .vmem, ⟨0, _⟩ => ⟨S512x1536, .bf16⟩
  | .local _ .vmem, ⟨1, _⟩ => ⟨S512x1536, .bf16⟩
  | .local _ .vmem, ⟨2, _⟩ => ⟨S1x1536, .f32⟩
  | .local _ .vmem, ⟨3, _⟩ => ⟨S1x1536, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== BiasGradRefIdeal.lean ====
abbrev S8192x4608 : Shape := ⟨2, ![8192, 4608]⟩
abbrev S_ : Shape := ⟨0, ![]⟩
abbrev S1x4608 : Shape := ⟨2, ![1, 4608]⟩
abbrev S4608 : Shape := ⟨1, ![4608]⟩

abbrev nBuf : Space → Nat
  | .hbm => 11
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S_, .f32⟩
  | .hbm, ⟨2, _⟩ => ⟨S1x4608, .f32⟩
  | .hbm, ⟨3, _⟩ => ⟨S_, .f32⟩
  | .hbm, ⟨4, _⟩ => ⟨S8192x4608, .f32⟩
  | .hbm, ⟨5, _⟩ => ⟨S8192x4608, .f32⟩
  | .hbm, ⟨6, _⟩ => ⟨S8192x4608, .f32⟩
  | .hbm, ⟨7, _⟩ => ⟨S8192x4608, .f32⟩
  | .hbm, ⟨8, _⟩ => ⟨S_, .f32⟩
  | .hbm, ⟨9, _⟩ => ⟨S4608, .f32⟩
  | .hbm, ⟨10, _⟩ => ⟨S1x4608, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm.lean ====
abbrev S8192x1024 : Shape := ⟨2, ![8192, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8192x1024 : Shape := ⟨2, ![8192, 1024]⟩
abbrev S4x1x1024 : Shape := ⟨3, ![4, 1, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== NormGrad.lean ====
abbrev S8192x1024 : Shape := ⟨2, ![8192, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S8192x1024, .f32⟩
  | .hbm, ⟨4, _⟩ => ⟨S8192x1024, .f32⟩
  | .hbm, ⟨5, _⟩ => ⟨S4x1x1024, .f32⟩
  | .hbm, ⟨6, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormGradRefIdeal.lean ====
abbrev S8192x1024 : Shape := ⟨2, ![8192, 1024]⟩
abbrev S4x1x1024 : Shape := ⟨3, ![4, 1, 1024]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S8192x1024, .f32⟩
  | .hbm, ⟨4, _⟩ => ⟨S_, .f32⟩
  | .hbm, ⟨5, _⟩ => ⟨S4x1x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S4x2048x1024, .f32⟩
  | .hbm, ⟨54, _⟩ => ⟨S4x2048x1024, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S_, .f32⟩
  | .hbm, ⟨60, _⟩ => ⟨S4x2048, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== ResGrad.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S4x1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ResGradRefIdeal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩
abbrev S4x1024 : Shape := ⟨2, ![4, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x1024, .f32⟩
  | .hbm, ⟨4, _⟩ => ⟨S1x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x1x1024, .f32⟩
  | .hbm, ⟨15, _⟩ => ⟨S4x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1024, .f32⟩
  | .hbm, ⟨70, _⟩ => ⟨S4x2048x1024, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S_, .f32⟩
  | .hbm, ⟨76, _⟩ => ⟨S4x2048, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S_, .f32⟩
  | .hbm, ⟨84, _⟩ => ⟨S4x2048, .f32⟩
  | .hbm, ⟨85, _⟩ => ⟨S4x2048x1, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S_, .f32⟩
  | .hbm, ⟨90, _⟩ => ⟨S4x2048, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S_, .f32⟩
  | .hbm, ⟨97, _⟩ => ⟨S4x1024, .f32⟩
  | .hbm, ⟨98, _⟩ => ⟨S4x1x1024, .f32⟩
  | .hbm, ⟨99, _⟩ => ⟨S_, .f32⟩
  | .hbm, ⟨100, _⟩ => ⟨S4x2048x1024, .f32⟩
  | .hbm, ⟨101, _⟩ => ⟨S4x2048x1024, .f32⟩
  | .hbm, ⟨102, _⟩ => ⟨S_, .f32⟩
  | .hbm, ⟨103, _⟩ => ⟨S1x1024, .f32⟩
  | .hbm, ⟨104, _⟩ => ⟨S_, .f32⟩
  | .hbm, ⟨105, _⟩ => ⟨S4x2048x1024, .f32⟩
  | .hbm, ⟨106, _⟩ => ⟨S1x1x1024, .f32⟩
  | .hbm, ⟨107, _⟩ => ⟨S4x2048x1024, .f32⟩
  | .hbm, ⟨108, _⟩ => ⟨S4x2048x1024, .f32⟩
  | .hbm, ⟨109, _⟩ => ⟨S_, .f32⟩
  | .hbm, ⟨110, _⟩ => ⟨S1024, .f32⟩
  | .hbm, ⟨111, _⟩ => ⟨S1x1x1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S8192x1024, .f32⟩
  | .hbm, ⟨116, _⟩ => ⟨S8192x1024, .f32⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_18 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_cst_21 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_22 : Ref sig .tc := ⟨.hbm, 109, rfl⟩
abbrev main_v81 : Ref sig .tc := ⟨.hbm, 110, rfl⟩
abbrev main_v82 : Ref sig .tc := ⟨.hbm, 111, rfl⟩
abbrev main_cst_23 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== ResModGrad.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S4x1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S4x1x1024, .f32⟩
  | .hbm, ⟨13, _⟩ => ⟨S1x1024, .f32⟩
  | .hbm, ⟨14, _⟩ => ⟨S4x1x1024, .f32⟩
  | .hbm, ⟨15, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ResModGradRefIdeal.lean ====
abbrev S8192x1024 : Shape := ⟨2, ![8192, 1024]⟩
abbrev S4x1x1024 : Shape := ⟨3, ![4, 1, 1024]⟩
abbrev S1x1024 : Shape := ⟨2, ![1, 1024]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S4x1024 : Shape := ⟨2, ![4, 1024]⟩
abbrev S1x1x1024 : Shape := ⟨3, ![1, 1, 1024]⟩
abbrev S1024 : Shape := ⟨1, ![1024]⟩

abbrev nBuf : Space → Nat
  | .hbm => 195
  | .vmem => 0
  | .smem => 0
  | _ => 0

abbrev hbmTy0_0 (i : Nat) : BufTy := match i % 128 with
  | 0 => ⟨S8192x1024, .f32⟩
  | 1 => ⟨S8192x1024, .f32⟩
  | 2 => ⟨S4x1x1024, .f32⟩
  | 3 => ⟨S8192x1024, .f32⟩
  | 4 => ⟨S8192x1024, .f32⟩
  | 5 => ⟨S8192x1024, .f32⟩
  | 6 => ⟨S4x1x1024, .f32⟩
  | 7 => ⟨S1x1024, .f32⟩
  | 8 => ⟨S_, .f32⟩
  | 9 => ⟨S4x1x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S4x2048x1024, .f32⟩
  | 18 => ⟨S4x2048x1024, .f32⟩
  | 19 => ⟨S4x2048x1024, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048x1, .f32⟩
  | 28 => ⟨S4x2048x1, .f32⟩
  | 29 => ⟨S4x2048x1, .f32⟩
  | 30 => ⟨S4x2048x1, .f32⟩
  | 31 => ⟨S_, .f32⟩
  | 32 => ⟨S4x2048x1, .f32⟩
  | 33 => ⟨S4x2048x1, .f32⟩
  | 34 => ⟨S4x2048x1024, .f32⟩
  | 35 => ⟨S4x2048x1024, .f32⟩
  | 36 => ⟨S_, .f32⟩
  | 37 => ⟨S4x1x1024, .f32⟩
  | 38 => ⟨S4x1x1024, .f32⟩
  | 39 => ⟨S4x2048x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S_, .f32⟩
  | 45 => ⟨S4x1024, .f32⟩
  | 46 => ⟨S4x1x1024, .f32⟩
  | 47 => ⟨S4x2048x1024, .f32⟩
  | 48 => ⟨S_, .f32⟩
  | 49 => ⟨S4x1024, .f32⟩
  | 50 => ⟨S4x1x1024, .f32⟩
  | 51 => ⟨S4x2048x1024, .f32⟩
  | 52 => ⟨S4x2048x1024, .f32⟩
  | 53 => ⟨S4x2048x1024, .f32⟩
  | 54 => ⟨S_, .f32⟩
  | 55 => ⟨S4x2048, .f32⟩
  | 56 => ⟨S4x2048x1, .f32⟩
  | 57 => ⟨S4x2048x1024, .f32⟩
  | 58 => ⟨S4x2048x1024, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048, .f32⟩
  | 65 => ⟨S4x2048x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S_, .f32⟩
  | 72 => ⟨S4x2048, .f32⟩
  | 73 => ⟨S4x2048x1, .f32⟩
  | 74 => ⟨S_, .f32⟩
  | 75 => ⟨S4x2048x1, .f32⟩
  | 76 => ⟨S4x2048x1, .f32⟩
  | 77 => ⟨S_, .f32⟩
  | 78 => ⟨S4x2048, .f32⟩
  | 79 => ⟨S4x2048x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S4x2048x1024, .f32⟩
  | 85 => ⟨S_, .f32⟩
  | 86 => ⟨S1x1024, .f32⟩
  | 87 => ⟨S_, .f32⟩
  | 88 => ⟨S4x2048x1024, .f32⟩
  | 89 => ⟨S4x2048x1024, .f32⟩
  | 90 => ⟨S_, .f32⟩
  | 91 => ⟨S4x1x1024, .f32⟩
  | 92 => ⟨S4x1x1024, .f32⟩
  | 93 => ⟨S4x2048x1024, .f32⟩
  | 94 => ⟨S4x2048x1024, .f32⟩
  | 95 => ⟨S4x2048x1024, .f32⟩
  | 96 => ⟨S_, .f32⟩
  | 97 => ⟨S4x2048, .f32⟩
  | 98 => ⟨S4x2048x1, .f32⟩
  | 99 => ⟨S_, .f32⟩
  | 100 => ⟨S4x2048x1, .f32⟩
  | 101 => ⟨S4x2048x1, .f32⟩
  | 102 => ⟨S4x2048x1024, .f32⟩
  | 103 => ⟨S4x2048x1024, .f32⟩
  | 104 => ⟨S4x2048x1024, .f32⟩
  | 105 => ⟨S_, .f32⟩
  | 106 => ⟨S4x2048, .f32⟩
  | 107 => ⟨S4x2048x1, .f32⟩
  | 108 => ⟨S_, .f32⟩
  | 109 => ⟨S4x2048x1, .f32⟩
  | 110 => ⟨S4x2048x1, .f32⟩
  | 111 => ⟨S_, .f32⟩
  | 112 => ⟨S4x2048x1, .f32⟩
  | 113 => ⟨S4x2048x1, .f32⟩
  | 114 => ⟨S4x2048x1, .f32⟩
  | 115 => ⟨S4x2048x1, .f32⟩
  | 116 => ⟨S_, .f32⟩
  | 117 => ⟨S4x2048x1, .f32⟩
  | 118 => ⟨S4x2048x1, .f32⟩
  | 119 => ⟨S4x2048x1024, .f32⟩
  | 120 => ⟨S4x2048x1024, .f32⟩
  | 121 => ⟨S1x1x1024, .f32⟩
  | 122 => ⟨S4x2048x1024, .f32⟩
  | 123 => ⟨S4x2048x1024, .f32⟩
  | 124 => ⟨S1x1x1024, .f32⟩
  | 125 => ⟨S4x2048x1024, .f32⟩
  | 126 => ⟨S4x2048x1024, .f32⟩
  | 127 => ⟨S_, .f32⟩
  | _ => ⟨S8192x1024, .f32⟩

abbrev hbmTy0_1 (i : Nat) : BufTy := match i % 128 with
  | 0 => ⟨S1024, .f32⟩
  | 1 => ⟨S1x1x1024, .f32⟩
  | 2 => ⟨S_, .f32⟩
  | 3 => ⟨S1024, .f32⟩
  | 4 => ⟨S1x1024, .f32⟩
  | 5 => ⟨S4x2048x1024, .f32⟩
  | 6 => ⟨S_, .f32⟩
  | 7 => ⟨S1024, .f32⟩
  | 8 => ⟨S1x1x1024, .f32⟩
  | 9 => ⟨S4x2048x1024, .f32⟩
  | 10 => ⟨S4x2048x1024, .f32⟩
  | 11 => ⟨S_, .f32⟩
  | 12 => ⟨S1024, .f32⟩
  | 13 => ⟨S1x1024, .f32⟩
  | 14 => ⟨S4x2048x1024, .f32⟩
  | 15 => ⟨S_, .f32⟩
  | 16 => ⟨S4x2048, .f32⟩
  | 17 => ⟨S4x2048x1, .f32⟩
  | 18 => ⟨S4x2048x1024, .f32⟩
  | 19 => ⟨S4x2048x1024, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048, .f32⟩
  | 40 => ⟨S4x2048x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S_, .f32⟩
  | 46 => ⟨S4x1024, .f32⟩
  | 47 => ⟨S4x1x1024, .f32⟩
  | 48 => ⟨S_, .f32⟩
  | 49 => ⟨S4x2048x1024, .f32⟩
  | 50 => ⟨S4x2048x1024, .f32⟩
  | 51 => ⟨S_, .f32⟩
  | 52 => ⟨S1x1024, .f32⟩
  | 53 => ⟨S_, .f32⟩
  | 54 => ⟨S4x2048x1024, .f32⟩
  | 55 => ⟨S1x1x1024, .f32⟩
  | 56 => ⟨S4x2048x1024, .f32⟩
  | 57 => ⟨S4x2048x1024, .f32⟩
  | 58 => ⟨S_, .f32⟩
  | 59 => ⟨S1024, .f32⟩
  | 60 => ⟨S1x1x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_cst_22 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_24 : Ref sig .tc := ⟨.hbm, 127, rfl⟩
abbrev main_v94 : Ref sig .tc := ⟨.hbm, 128, rfl⟩
abbrev main_v95 : Ref sig .tc := ⟨.hbm, 129, rfl⟩
abbrev main_cst_25 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_27 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_28 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_29 : Ref sig .tc := ⟨.hbm, 149, rfl⟩
abbrev main_v111 : Ref sig .tc := ⟨.hbm, 150, rfl⟩
abbrev main_v112 : Ref sig .tc := ⟨.hbm, 151, rfl⟩
abbrev main_cst_30 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_31 : Ref sig .tc := ⟨.hbm, 160, rfl⟩
abbrev main_v120 : Ref sig .tc := ⟨.hbm, 161, rfl⟩
abbrev main_v121 : Ref sig .tc := ⟨.hbm, 162, rfl⟩
abbrev main_cst_32 : Ref sig .tc := ⟨.hbm, 163, rfl⟩
abbrev main_v122 : Ref sig .tc := ⟨.hbm, 164, rfl⟩
abbrev main_v123 : Ref sig .tc := ⟨.hbm, 165, rfl⟩
abbrev main_cst_33 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_34 : Ref sig .tc := ⟨.hbm, 173, rfl⟩
abbrev main_v130 : Ref sig .tc := ⟨.hbm, 174, rfl⟩
abbrev main_v131 : Ref sig .tc := ⟨.hbm, 175, rfl⟩
abbrev main_cst_35 : Ref sig .tc := ⟨.hbm, 176, rfl⟩
abbrev main_v132 : Ref sig .tc := ⟨.hbm, 177, rfl⟩
abbrev main_v133 : Ref sig .tc := ⟨.hbm, 178, rfl⟩
abbrev main_cst_36 : Ref sig .tc := ⟨.hbm, 179, rfl⟩
abbrev main_v134 : Ref sig .tc := ⟨.hbm, 180, rfl⟩
abbrev main_cst_37 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_38 : Ref sig .tc := ⟨.hbm, 186, rfl⟩
abbrev main_v139 : Ref sig .tc := ⟨.hbm, 187, rfl⟩
abbrev main_v140 : Ref sig .tc := ⟨.hbm, 188, rfl⟩
abbrev main_cst_39 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]
-- ==== Res.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResRefIdeal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== ResMod.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResModRefIdeal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S8192x1024, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x1x1024, .f32⟩
  | .hbm, ⟨69, _⟩ => ⟨S4x1x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S8192x1024, .f32⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== GateBiasGrad.lean ====
abbrev S8192x128 : Shape := ⟨2, ![8192, 128]⟩
abbrev S1x128 : Shape := ⟨2, ![1, 128]⟩
abbrev S512x128 : Shape := ⟨2, ![512, 128]⟩
abbrev S128 : Shape := ⟨1, ![128]⟩

abbrev nBuf : Space → Nat
  | .hbm => 2
  | .vmem => 3
  | .smem => 0
  | _ => 0

abbrev bufTy : (tb : Table) → Fin (tcTables nBuf tb) → BufTy
  | .hbm, ⟨0, _⟩ => ⟨S8192x128, .bf16⟩
  | .hbm, ⟨1, _⟩ => ⟨S1x128, .f32⟩
  | .local _ .vmem, ⟨0, _⟩ => ⟨S512x128, .bf16⟩
  | .local _ .vmem, ⟨1, _⟩ => ⟨S512x128, .bf16⟩
  | .local _ .vmem, ⟨2, _⟩ => ⟨S1x128, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== GateBiasGradRefIdeal.lean ====
abbrev S8192x128 : Shape := ⟨2, ![8192, 128]⟩
abbrev S_ : Shape := ⟨0, ![]⟩
abbrev S1x128 : Shape := ⟨2, ![1, 128]⟩
abbrev S128 : Shape := ⟨1, ![128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S_, .f32⟩
  | .hbm, ⟨2, _⟩ => ⟨S1x128, .f32⟩
  | .hbm, ⟨3, _⟩ => ⟨S_, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S128, .f32⟩
  | .hbm, ⟨10, _⟩ => ⟨S1x128, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Tile.lean ====
/-
  What one trip of the key-and-value loop computes, as functions of the blocks it loads: a 512 by 256 tile of the
  scores' gradient, the accumulators it is added to, and the loop over the query blocks after the diagonal one. Written
  over any float values.
-/
module

public import proofs.«01_k».proof.Proof.Gen.KernelIdeal.Skeleton
public import Idealize.ShloMosaic.Lib.VecWindow

@[expose] public section

noncomputable section

namespace Cert.Proof.Attn

open Cert.KernelIdeal Cert.KernelIdeal.Gen
open Idealize.ShloMosaic Idealize.ShloMosaic.TcCoe

variable {F : FTy → Type} [FloatOps F]

/-- The six accumulators of a row block, per head: the key gradient, the value gradient and the row sums folded to 128
    lanes. -/
abbrev Acc (F : FTy → Type) : Type :=
  FVec F S256x128 .f32 × FVec F S256x128 .f32 × FVec F S256x128 .f32 × FVec F S256x128 .f32 × FVec F S256x128 .f32 × FVec F S256x128 .f32

/-- The iotas the body binds before its loops. -/
abbrev iotaL : IVec S1x128 32 := iota .tc S1x128 32 [1] iota_S1x128_d1_w32
abbrev iotaR : IVec S128x1 32 := iota .tc S128x1 32 [0] iota_S128x1_d0_w32
abbrev iotaTR : IVec S256x512 32 := iota .tc S256x512 32 [0] iota_S256x512_d0_w32
abbrev iotaTC : IVec S256x512 32 := iota .tc S256x512 32 [1] iota_S256x512_d1_w32

/-- The contents the key-and-value loop only reads: the output gradient, the log-sum-exp rows, and the prepared
    operands of both heads. -/
structure Prep (F : FTy → Type) where
  dob : S2048x128.Idx → Elt F .bf16
  lse : S1x1x8x2048.Idx → Elt F .f32
  ka : S2x2048x128.Idx → Elt F .bf16
  qa : S2x2048x128.Idx → Elt F .bf16
  vz : S2x2048x128.Idx → Elt F .bf16
  kt : S128x2048.Idx → Elt F .bf16
  dd : S8x2048.Idx → Elt F .f32

/-! ## A tile past the diagonal -/

/-- One tile on its blocks: the accumulators after it and the block of the transposed query gradient after it. -/
def tile (dob : Vec F S512x128 .bf16) (qa0 : Vec F S1x512x128 .bf16) (ka0 : Vec F S1x256x128 .bf16)
    (ls0 : Vec F S1x1x1x512 .f32) (vz0 : Vec F S1x256x128 .bf16) (dd0 : Vec F S1x512 .f32) (kt : Vec F S128x256 .bf16)
    (qa1 : Vec F S1x512x128 .bf16) (ka1 : Vec F S1x256x128 .bf16) (ls1 : Vec F S1x1x1x512 .f32)
    (vz1 : Vec F S1x256x128 .bf16) (dd1 : Vec F S1x512 .f32) (a : Acc F) (dq : Vec F S128x512 .f32) :
    Acc F × FVec F S128x512 .f32 :=
  ((k0_pay41 a.1 dob qa0 ka0 ls0 vz0 dd0, k0_pay40 a.2.1 dob qa0 ka0 ls0,
    k0_pay45 (k0_pay38 dob qa0 ka0 ls0 vz0 dd0) (k0_pay43 a.2.2.1 dob qa0 ka0 ls0 vz0 dd0) (k0_pay44 dob qa0 ka0 ls0 vz0 dd0),
    k0_pay51 a.2.2.2.1 (k0_pay35 dob) qa1 ka1 ls1 vz1 dd1, k0_pay50 a.2.2.2.2.1 (k0_pay35 dob) qa1 ka1 ls1,
    k0_pay95 a.2.2.2.2.2 (k0_pay48 (k0_pay35 dob) qa1 ka1 ls1 vz1 dd1)),
   k0_pay96 (k0_pay52 iotaR (k0_pay35 dob) (k0_pay42 dob qa0 ka0 ls0 vz0 dd0 kt) qa1 ka1 ls1 vz1 dd1 kt) dq)

/-- The tile of trip `n` of row block `j`, on the whole contents. -/
def tileAt (P : Prep F) (j : Fin k0_t2_loop.trips) (n : Fin (k0_t3_loop j).trips) (a : Acc F) (D : S128x2048.Idx → Elt F .f32) :
    Acc F × FVec F S128x512 .f32 :=
  tile (VecWindow.window P.dob (k0_off20 j n) S512x128.size (k0_off20_inb j n))
    (VecWindow.window P.qa (k0_off21 j n) S1x512x128.size (k0_off21_inb j n))
    (VecWindow.window P.ka (k0_off22 j) S1x256x128.size (k0_off22_inb j))
    (VecWindow.window P.lse (k0_off23 j n) S1x1x1x512.size (k0_off23_inb j n))
    (VecWindow.window P.vz (k0_off22 j) S1x256x128.size (k0_off22_inb j))
    (VecWindow.window P.dd (k0_off24 j n) S1x512.size (k0_off24_inb j n))
    (VecWindow.window P.kt (k0_off25 j) S128x256.size (k0_off25_inb j))
    (VecWindow.window P.qa (k0_off26 j n) S1x512x128.size (k0_off26_inb j n))
    (VecWindow.window P.ka (k0_off27 j) S1x256x128.size (k0_off27_inb j))
    (VecWindow.window P.lse (k0_off28 j n) S1x1x1x512.size (k0_off28_inb j n))
    (VecWindow.window P.vz (k0_off27 j) S1x256x128.size (k0_off27_inb j))
    (VecWindow.window P.dd (k0_off29 j n) S1x512.size (k0_off29_inb j n))
    a (VecWindow.window D (k0_off30 j n) S128x512.size (k0_off30_inb j n))

/-- The accumulators and the transposed query gradient before trip `n` of row block `j`. -/
def st3 (P : Prep F) (j : Fin k0_t2_loop.trips) (a : Acc F) (D : S128x2048.Idx → Elt F .f32) : ℕ → Acc F × (S128x2048.Idx → Elt F .f32)
  | 0 => (a, D)
  | n + 1 => if h : n < (k0_t3_loop j).trips then
      ((tileAt P j ⟨n, h⟩ (st3 P j a D n).1 (st3 P j a D n).2).1,
       VecWindow.put (st3 P j a D n).2 (k0_off30 j ⟨n, h⟩) S128x512.size (tileAt P j ⟨n, h⟩ (st3 P j a D n).1 (st3 P j a D n).2).2)
    else st3 P j a D n

theorem st3_zero (P : Prep F) (j : Fin k0_t2_loop.trips) (a : Acc F) (D : S128x2048.Idx → Elt F .f32) : st3 P j a D 0 = (a, D) := rfl

theorem st3_succ (P : Prep F) (j : Fin k0_t2_loop.trips) (a : Acc F) (D : S128x2048.Idx → Elt F .f32) (n : Fin (k0_t3_loop j).trips) :
    st3 P j a D (n.val + 1) = ((tileAt P j n (st3 P j a D n.val).1 (st3 P j a D n.val).2).1,
      VecWindow.put (st3 P j a D n.val).2 (k0_off30 j n) S128x512.size (tileAt P j n (st3 P j a D n.val).1 (st3 P j a D n.val).2).2) := by
  rw [st3, dif_pos n.isLt]

/-! ## The diagonal tile -/

/-- The row block's first row, its query block, and that block's first column, as the words the body computes. -/
def w8 (j : Fin k0_t2_loop.trips) : BitVec 32 := Scalar.muli (Scf.iv 0#32 1#32 j) 256#32
def w25 (j : Fin k0_t2_loop.trips) : BitVec 32 :=
  Scalar.select (Scalar.andi
      (Scalar.cmpi .ne (Scalar.subi (Scalar.extui (Scalar.cmpi .sgt (Scf.iv 0#32 1#32 j) 0#32)) (Scalar.extui (Scalar.cmpi .slt (Scf.iv 0#32 1#32 j) 0#32)))
        (Scalar.subi (Scalar.extui (Scalar.cmpi .sgt 2#32 0#32)) (Scalar.extui (Scalar.cmpi .slt 2#32 0#32))))
      (Scalar.cmpi .ne (Scalar.remsi (Scf.iv 0#32 1#32 j) 2#32) 0#32))
    (Scalar.subi (Scalar.divsi (Scf.iv 0#32 1#32 j) 2#32) 1#32) (Scalar.divsi (Scf.iv 0#32 1#32 j) 2#32)
def w30 (j : Fin k0_t2_loop.trips) : BitVec 32 := Scalar.muli (w25 j) 512#32

/-- The masked tile on its blocks: the accumulators it starts, and the block of the transposed query gradient after it. -/
def diag (r c : BitVec 32) (dob : Vec F S512x128 .bf16) (qa0 : Vec F S1x512x128 .bf16) (ka0 : Vec F S1x256x128 .bf16)
    (ls0 : Vec F S1x1x1x512 .f32) (vz0 : Vec F S1x256x128 .bf16) (dd0 : Vec F S1x512 .f32) (kt : Vec F S128x256 .bf16)
    (qa1 : Vec F S1x512x128 .bf16) (ka1 : Vec F S1x256x128 .bf16) (ls1 : Vec F S1x1x1x512 .f32)
    (vz1 : Vec F S1x256x128 .bf16) (dd1 : Vec F S1x512 .f32) (dq : Vec F S128x512 .f32) : Acc F × FVec F S128x512 .f32 :=
  ((k0_pay81 iotaTR iotaTC r k0_pay71 c (k0_pay73 dob) (k0_pay74 qa0) (k0_pay75 qa0 ka0) (k0_pay76 ls0) vz0 dd0,
    k0_pay80 iotaTR iotaTC r k0_pay71 c (k0_pay73 dob) (k0_pay75 qa0 ka0) (k0_pay76 ls0),
    k0_pay83 iotaTR iotaTC r k0_pay71 c (k0_pay73 dob) (k0_pay75 qa0 ka0) (k0_pay76 ls0) vz0 dd0,
    k0_pay90 iotaTR iotaTC r k0_pay72 c (k0_pay73 dob) (k0_pay84 qa1) (k0_pay85 qa1 ka1) ls1 vz1 dd1,
    k0_pay89 iotaTR iotaTC r k0_pay72 c (k0_pay73 dob) (k0_pay85 qa1 ka1) ls1,
    k0_pay92 iotaTR iotaTC r k0_pay72 c (k0_pay73 dob) (k0_pay85 qa1 ka1) ls1 vz1 dd1),
   k0_pay94 (k0_pay91 iotaR iotaTR iotaTC r c (k0_pay73 dob)
      (k0_pay82 iotaTR iotaTC r c (k0_pay73 dob) (k0_pay75 qa0 ka0) (k0_pay76 ls0) vz0 dd0 kt) (k0_pay85 qa1 ka1) ls1 vz1 dd1 kt)
    dq k0_pay93)

/-- The diagonal tile of row block `j`, on the whole contents. -/
def diagAt (P : Prep F) (j : Fin k0_t2_loop.trips) (D : S128x2048.Idx → Elt F .f32) : Acc F × FVec F S128x512 .f32 :=
  diag (w8 j) (w30 j) (VecWindow.window P.dob (k0_off9 j) S512x128.size (k0_off9_inb j))
    (VecWindow.window P.qa (k0_off10 j) S1x512x128.size (k0_off10_inb j))
    (VecWindow.window P.ka (k0_off11 j) S1x256x128.size (k0_off11_inb j))
    (VecWindow.window P.lse (k0_off12 j) S1x1x1x512.size (k0_off12_inb j))
    (VecWindow.window P.vz (k0_off11 j) S1x256x128.size (k0_off11_inb j))
    (VecWindow.window P.dd (k0_off13 j) S1x512.size (k0_off13_inb j))
    (VecWindow.window P.kt (k0_off14 j) S128x256.size (k0_off14_inb j))
    (VecWindow.window P.qa (k0_off15 j) S1x512x128.size (k0_off15_inb j))
    (VecWindow.window P.ka (k0_off16 j) S1x256x128.size (k0_off16_inb j))
    (VecWindow.window P.lse (k0_off17 j) S1x1x1x512.size (k0_off17_inb j))
    (VecWindow.window P.vz (k0_off16 j) S1x256x128.size (k0_off16_inb j))
    (VecWindow.window P.dd (k0_off18 j) S1x512.size (k0_off18_inb j))
    (VecWindow.window D (k0_off19 j) S128x512.size (k0_off19_inb j))

/-! ## A row block -/

/-- The accumulators and the transposed query gradient after row block `j`, from the gradient before it. -/
def rowEnd (P : Prep F) (j : Fin k0_t2_loop.trips) (D : S128x2048.Idx → Elt F .f32) : Acc F × (S128x2048.Idx → Elt F .f32) :=
  st3 P j (diagAt P j D).1 (VecWindow.put D (k0_off19 j) S128x512.size (diagAt P j D).2) (k0_t3_loop j).trips

/-- The three blocks the row block stores, from its accumulators. -/
def outK (a : Acc F) : FVec F S256x128 .bf16 := k0_pay1 (k0_pay101 a.1 a.2.2.2.1)
def outV (a : Acc F) : FVec F S256x128 .bf16 := k0_pay2 (k0_pay102 a.2.1 a.2.2.2.2.1)
def outC (a : Acc F) : FVec F S1x256x128 .f32 := k0_pay3 (k0_pay99 iotaL a.2.2.1) (k0_pay103 iotaL) (k0_pay104 a.2.2.2.2.2) k0_pay105

/-- The contents the loop writes: the transposed query gradient, the key and value gradients, the bias gradient. -/
structure Res (F : FTy → Type) where
  D : S128x2048.Idx → Elt F .f32
  dk : S2048x128.Idx → Elt F .bf16
  dv : S2048x128.Idx → Elt F .bf16
  dc : S1x2048x128.Idx → Elt F .f32

/-- They before row block `n`, started from `R`. -/
def st2 (P : Prep F) (R : Res F) : ℕ → Res F
  | 0 => R
  | n + 1 => if h : n < k0_t2_loop.trips then
      { D := (rowEnd P ⟨n, h⟩ (st2 P R n).D).2
        dk := VecWindow.put (st2 P R n).dk (k0_off42 ⟨n, h⟩) S256x128.size (outK (rowEnd P ⟨n, h⟩ (st2 P R n).D).1)
        dv := VecWindow.put (st2 P R n).dv (k0_off42 ⟨n, h⟩) S256x128.size (outV (rowEnd P ⟨n, h⟩ (st2 P R n).D).1)
        dc := VecWindow.put (st2 P R n).dc (k0_off43 ⟨n, h⟩) S1x256x128.size (outC (rowEnd P ⟨n, h⟩ (st2 P R n).D).1) }
    else st2 P R n

theorem st2_succ (P : Prep F) (R : Res F) (n : Fin k0_t2_loop.trips) : st2 P R (n.val + 1) =
    { D := (rowEnd P n (st2 P R n.val).D).2
      dk := VecWindow.put (st2 P R n.val).dk (k0_off42 n) S256x128.size (outK (rowEnd P n (st2 P R n.val).D).1)
      dv := VecWindow.put (st2 P R n.val).dv (k0_off42 n) S256x128.size (outV (rowEnd P n (st2 P R n.val).D).1)
      dc := VecWindow.put (st2 P R n.val).dc (k0_off43 n) S1x256x128.size (outC (rowEnd P n (st2 P R n.val).D).1) } := by
  rw [st2, dif_pos n.isLt]

end Cert.Proof.Attn

end
-- ==== Proof.Loop3.lean ====
/-
  The two nested loops of the backward pass by their invariants: the loop over the query blocks past the diagonal one
  keeps the accumulators and the transposed query gradient at the state of `Tile.lean`, and the loop over the row blocks
  keeps that gradient and the three results.
-/
module

public import proofs.«01_k».proof.Proof.Tile
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x1x8x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S1x2048x128 .f32) (harg12 : arg12.IsWhole)
  (arg13 : Memref sig .tc .vmem S2x2048x128 .bf16) (harg13 : arg13.IsWhole)
  (arg14 : Memref sig .tc .vmem S2x2048x128 .bf16) (harg14 : arg14.IsWhole)
  (arg15 : Memref sig .tc .vmem S2x2048x128 .bf16) (harg15 : arg15.IsWhole)
  (arg16 : Memref sig .tc .vmem S128x2048 .bf16) (harg16 : arg16.IsWhole)
  (arg17 : Memref sig .tc .vmem S8x2048 .f32) (harg17 : arg17.IsWhole)
  (arg18 : Memref sig .tc .vmem S128x2048 .f32) (harg18 : arg18.IsWhole)

/-- The read-only contents of the row-block loop, held. -/
abbrev prepHeld (c : Dev nD) (arg7 : Memref sig .tc .vmem S2048x128 .bf16) (arg8 : Memref sig .tc .vmem S1x1x8x2048 .f32)
    (arg13 arg14 arg15 : Memref sig .tc .vmem S2x2048x128 .bf16) (arg16 : Memref sig .tc .vmem S128x2048 .bf16)
    (arg17 : Memref sig .tc .vmem S8x2048 .f32) (P : Prep F) : sProp 𝕄G :=
  iprop((arg7.view.loc (c : Thread nD τ) ↦[arg7.view.set]{fullShare} arg7.view.rep P.dob) ∗ (arg8.view.loc (c : Thread nD τ) ↦[arg8.view.set]{fullShare} arg8.view.rep P.lse) ∗ (arg13.view.loc (c : Thread nD τ) ↦[arg13.view.set]{fullShare} arg13.view.rep P.ka) ∗ (arg14.view.loc (c : Thread nD τ) ↦[arg14.view.set]{fullShare} arg14.view.rep P.qa) ∗ (arg15.view.loc (c : Thread nD τ) ↦[arg15.view.set]{fullShare} arg15.view.rep P.vz) ∗ (arg16.view.loc (c : Thread nD τ) ↦[arg16.view.set]{fullShare} arg16.view.rep P.kt) ∗ (arg17.view.loc (c : Thread nD τ) ↦[arg17.view.set]{fullShare} arg17.view.rep P.dd))

/-- What a load at a static size reads of a buffer at known contents. -/
abbrev ld {s : Shape} {e : EltTy} (m : Memref sig .tc .vmem s e) (x : s.Idx → Elt F e) (off size : Fin s.rank → ℕ)
    (inb : ∀ a, off a + size a ≤ s.size a) : (Rect.unit off size inb).shape.Idx → Elt F e :=
  m.view.readAt (Elt F) (Rect.unit off size inb).toLoadRect (m.view.rep x)

theorem ld_eq {s : Shape} {e : EltTy} (m : Memref sig .tc .vmem s e) (x : s.Idx → Elt F e) (off size : Fin s.rank → ℕ)
    (inb : ∀ a, off a + size a ≤ s.size a) : ld m x off size inb = VecWindow.window x off size inb :=
  View.readAt_rep_unit m.view x inb rfl inb

/-- One tile's region: from the prepared contents and a transposed query gradient to the next. -/
theorem trip3 (v8 v28 v30 : BitVec 32) (v65 v67 v78 v110 v112 : FVec F S256x128 .f32) (v123 : FVec F S128x512 .f32)
    (v131 : FVec F S256x128 .f32) (v133 : Vec F S128x512 .f32) (v134 : FVec F S128x512 .f32) (P : Prep F)
    (j : Fin k0_t2_loop.trips) (n : Fin (k0_t3_loop j).trips) (E : Set ℕ) (a : Acc F) (D : S128x2048.Idx → Elt F .f32) :
    iprop(prepHeld c arg7 arg8 arg13 arg14 arg15 arg16 arg17 P ∗ (arg18.view.loc (c : Thread nD τ) ↦[arg18.view.set]{fullShare} arg18.view.rep D))
    ⊢ wp frame (wpE (defs₀ (F := F)) Variants.none (c : Thread nD τ) none) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 iotaL iotaR j v8 v28 v30 v65 v67 v78 v110 v112 v123 v131 v133 v134 n a)
        (fun y => iprop(⌜y = (tileAt P j n a D).1⌝ ∗ prepHeld c arg7 arg8 arg13 arg14 arg15 arg16 arg17 P
          ∗ (arg18.view.loc (c : Thread nD τ) ↦[arg18.view.set]{fullShare} arg18.view.rep (VecWindow.put D (k0_off30 j n) S128x512.size (tileAt P j n a D).2)))) := by
  unfold k0_t3_body
  iintro ⟨⟨H7, H8, H13, H14, H15, H16, H17⟩, H18⟩
  sl_exec
  sl_step
  have e : tileAt P j n a D = tile
      (ld arg7 P.dob (k0_off20 j n) S512x128.size (k0_off20_inb j n))
      (ld arg14 P.qa (k0_off21 j n) S1x512x128.size (k0_off21_inb j n))
      (ld arg13 P.ka (k0_off22 j) S1x256x128.size (k0_off22_inb j))
      (ld arg8 P.lse (k0_off23 j n) S1x1x1x512.size (k0_off23_inb j n))
      (ld arg15 P.vz (k0_off22 j) S1x256x128.size (k0_off22_inb j))
      (ld arg17 P.dd (k0_off24 j n) S1x512.size (k0_off24_inb j n))
      (ld arg16 P.kt (k0_off25 j) S128x256.size (k0_off25_inb j))
      (ld arg14 P.qa (k0_off26 j n) S1x512x128.size (k0_off26_inb j n))
      (ld arg13 P.ka (k0_off27 j) S1x256x128.size (k0_off27_inb j))
      (ld arg8 P.lse (k0_off28 j n) S1x1x1x512.size (k0_off28_inb j n))
      (ld arg15 P.vz (k0_off27 j) S1x256x128.size (k0_off27_inb j))
      (ld arg17 P.dd (k0_off29 j n) S1x512.size (k0_off29_inb j n))
      a (ld arg18 D (k0_off30 j n) S128x512.size (k0_off30_inb j n)) := by
    simp only [ld_eq]; rfl
  rw [e]
  isplitr
  · ipureintro; rfl
  isplitl [H7 H8 H13 H14 H15 H16 H17]
  · isplitl [H7]; · iexact H7
    isplitl [H8]; · iexact H8
    isplitl [H13]; · iexact H13
    isplitl [H14]; · iexact H14
    isplitl [H15]; · iexact H15
    isplitl [H16]; · iexact H16
    iexact H17
  iapply (pointsTo_rep_of_read (c : Thread nD τ) arg18 _ fullShare _ ?_) $$ H18
  exact View.read_writes_rep_unit (Val := Elt F) arg18.view D (k0_off30_inb j n) _ rfl

end Cert.Proof.Attn

end
-- ==== Proof.Loop2.lean ====
/-
  The two nested loops of the backward pass by their invariants: the loop over the query blocks past the diagonal one
  keeps the accumulators and the transposed query gradient at the state of `Tile.lean`, and the loop over the row blocks
  keeps that gradient and the three results.
-/
module

public import proofs.«01_k».proof.Proof.Loop3

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x1x8x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S1x2048x128 .f32) (harg12 : arg12.IsWhole)
  (arg13 : Memref sig .tc .vmem S2x2048x128 .bf16) (harg13 : arg13.IsWhole)
  (arg14 : Memref sig .tc .vmem S2x2048x128 .bf16) (harg14 : arg14.IsWhole)
  (arg15 : Memref sig .tc .vmem S2x2048x128 .bf16) (harg15 : arg15.IsWhole)
  (arg16 : Memref sig .tc .vmem S128x2048 .bf16) (harg16 : arg16.IsWhole)
  (arg17 : Memref sig .tc .vmem S8x2048 .f32) (harg17 : arg17.IsWhole)
  (arg18 : Memref sig .tc .vmem S128x2048 .f32) (harg18 : arg18.IsWhole)

/-- The prepared contents named one by one. -/
abbrev mkPrep (dob : S2048x128.Idx → Elt F .bf16) (lse : S1x1x8x2048.Idx → Elt F .f32) (ka qa vz : S2x2048x128.Idx → Elt F .bf16)
    (kt : S128x2048.Idx → Elt F .bf16) (dd : S8x2048.Idx → Elt F .f32) : Prep F := ⟨dob, lse, ka, qa, vz, kt, dd⟩

/-- A buffer's contents along a loop: those found before its first trip, then representatives of the state. -/
def con {s : Shape} {e : EltTy} (m : Memref sig .tc .vmem s e) (G : BufTy.Contents (Elt F) m.view.ty) (X : ℕ → s.Idx → Elt F e) :
    ℕ → BufTy.Contents (Elt F) m.view.ty
  | 0 => G
  | n + 1 => m.view.rep (X (n + 1))

theorem read_con {s : Shape} {e : EltTy} (m : Memref sig .tc .vmem s e) (G : BufTy.Contents (Elt F) m.view.ty) (X : ℕ → s.Idx → Elt F e)
    (h : X 0 = m.view.read (Elt F) G) (n : ℕ) : m.view.read (Elt F) (con m G X n) = X n := by
  cases n with
  | zero => exact h.symm
  | succ n => exact View.read_rep _ _

/-- The loop over the query blocks past the diagonal one: before trip `n` the accumulators and the transposed query
    gradient are the state's. -/
@[sl_loop] def loop3 (E : Set ℕ) (v8 v28 v30 : BitVec 32) (v65 v67 v78 v110 v112 : FVec F S256x128 .f32) (v123 : FVec F S128x512 .f32)
    (v131 : FVec F S256x128 .f32) (v133 : Vec F S128x512 .f32) (v134 : FVec F S128x512 .f32)
    (dob : S2048x128.Idx → Elt F .bf16) (lse : S1x1x8x2048.Idx → Elt F .f32) (ka qa vz : S2x2048x128.Idx → Elt F .bf16)
    (kt : S128x2048.Idx → Elt F .bf16) (dd : S8x2048.Idx → Elt F .f32)
    (j : Fin k0_t2_loop.trips) (a : Acc F) (G : BufTy.Contents (Elt F) arg18.view.ty) :
    Idealize.ShloMosaic.LoopInv (M := 𝕄G) Idealize.ShloMosaic.frame (wpE (defs₀ (F := F)) Variants.none (c : Thread nD τ) none) E
      (k0_t3_loop j).lb (k0_t3_loop j).ub (k0_t3_loop j).st (k0_t3_ok j) a
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 iotaL iotaR j v8 v28 v30 v65 v67 v78 v110 v112 v123 v131 v133 v134) where
  inv n acc := iprop((arg7.view.loc (c : Thread nD τ) ↦[arg7.view.set]{fullShare} arg7.view.rep dob) ∗ (arg8.view.loc (c : Thread nD τ) ↦[arg8.view.set]{fullShare} arg8.view.rep lse) ∗ (arg13.view.loc (c : Thread nD τ) ↦[arg13.view.set]{fullShare} arg13.view.rep ka) ∗ (arg14.view.loc (c : Thread nD τ) ↦[arg14.view.set]{fullShare} arg14.view.rep qa) ∗ (arg15.view.loc (c : Thread nD τ) ↦[arg15.view.set]{fullShare} arg15.view.rep vz) ∗ (arg16.view.loc (c : Thread nD τ) ↦[arg16.view.set]{fullShare} arg16.view.rep kt) ∗ (arg17.view.loc (c : Thread nD τ) ↦[arg17.view.set]{fullShare} arg17.view.rep dd)
    ∗ (∃ f, (arg18.view.loc (c : Thread nD τ) ↦[arg18.view.set]{fullShare} f) ∗ ⌜f = con arg18 G (fun n => (st3 (mkPrep dob lse ka qa vz kt dd) j a (arg18.view.read (Elt F) G) n).2) n⌝)
    ∗ ⌜acc = (st3 (mkPrep dob lse ka qa vz kt dd) j a (arg18.view.read (Elt F) G) n).1⌝)
  step n acc := by
    iintro ⟨H7, H8, H13, H14, H15, H16, H17, ⟨%f, H18, %hf⟩, %hacc⟩
    subst hacc hf
    iapply (wp_wand_r Idealize.ShloMosaic.frame (wpE (defs₀ (F := F)) Variants.none (c : Thread nD τ) none) E)
    isplitl [H7 H8 H13 H14 H15 H16 H17 H18]
    · iapply (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v8 v28 v30 v65 v67 v78 v110 v112 v123 v131 v133 v134 (mkPrep dob lse ka qa vz kt dd) j n E
        (st3 (mkPrep dob lse ka qa vz kt dd) j a (arg18.view.read (Elt F) G) n).1
        (st3 (mkPrep dob lse ka qa vz kt dd) j a (arg18.view.read (Elt F) G) n).2)
      isplitl [H7 H8 H13 H14 H15 H16 H17]
      · isplitl [H7]; · iexact H7
        isplitl [H8]; · iexact H8
        isplitl [H13]; · iexact H13
        isplitl [H14]; · iexact H14
        isplitl [H15]; · iexact H15
        isplitl [H16]; · iexact H16
        iexact H17
      iapply (pointsTo_rep_of_read (c : Thread nD τ) arg18 _ fullShare _ (read_con arg18 G _ rfl n)) $$ H18
    · iintro %y ⟨%hy, ⟨H7, H8, H13, H14, H15, H16, H17⟩, H18⟩
      isplitl [H7]; · iexact H7
      isplitl [H8]; · iexact H8
      isplitl [H13]; · iexact H13
      isplitl [H14]; · iexact H14
      isplitl [H15]; · iexact H15
      isplitl [H16]; · iexact H16
      isplitl [H17]; · iexact H17
      isplitl [H18]
      · iexists _; isplitl [H18]; · iexact H18
        ipureintro
        show _ = arg18.view.rep (st3 (mkPrep dob lse ka qa vz kt dd) j a (arg18.view.read (Elt F) G) (n.val + 1)).2
        rw [st3_succ]
      ipureintro; rw [st3_succ]; exact hy

/-- No trip is left to the remainder loop. -/
theorem trips4 (j : Fin k0_t2_loop.trips) : (k0_t4_loop j).trips = 0 := by revert j; decide +kernel

/-- The diagonal tile on what the loads read. -/
abbrev diagLd (P : Prep F) (j : Fin k0_t2_loop.trips) (D : S128x2048.Idx → Elt F .f32) : Acc F × FVec F S128x512 .f32 :=
  diag (w8 j) (w30 j) (ld arg7 P.dob (k0_off9 j) S512x128.size (k0_off9_inb j))
    (ld arg14 P.qa (k0_off10 j) S1x512x128.size (k0_off10_inb j))
    (ld arg13 P.ka (k0_off11 j) S1x256x128.size (k0_off11_inb j))
    (ld arg8 P.lse (k0_off12 j) S1x1x1x512.size (k0_off12_inb j))
    (ld arg15 P.vz (k0_off11 j) S1x256x128.size (k0_off11_inb j))
    (ld arg17 P.dd (k0_off13 j) S1x512.size (k0_off13_inb j))
    (ld arg16 P.kt (k0_off14 j) S128x256.size (k0_off14_inb j))
    (ld arg14 P.qa (k0_off15 j) S1x512x128.size (k0_off15_inb j))
    (ld arg13 P.ka (k0_off16 j) S1x256x128.size (k0_off16_inb j))
    (ld arg8 P.lse (k0_off17 j) S1x1x1x512.size (k0_off17_inb j))
    (ld arg15 P.vz (k0_off16 j) S1x256x128.size (k0_off16_inb j))
    (ld arg17 P.dd (k0_off18 j) S1x512.size (k0_off18_inb j))
    (ld arg18 D (k0_off19 j) S128x512.size (k0_off19_inb j))

theorem diagAt_ld (P : Prep F) (j : Fin k0_t2_loop.trips) (D : S128x2048.Idx → Elt F .f32) :
    diagAt P j D = diagLd arg7 arg8 arg13 arg14 arg15 arg16 arg17 arg18 P j D := by
  unfold diagLd; simp only [ld_eq]; rfl

/-- A row block's end on what the run left. -/
theorem rowEnd_ld (P : Prep F) (j : Fin k0_t2_loop.trips) (D : S128x2048.Idx → Elt F .f32) :
    rowEnd P j D = st3 P j (diagLd arg7 arg8 arg13 arg14 arg15 arg16 arg17 arg18 P j D).1
      (arg18.view.read (Elt F) (arg18.view.writes (Elt F) (arg18.view.rep D)
        [⟨Rect.unit (k0_off19 j) S128x512.size (k0_off19_inb j), (diagLd arg7 arg8 arg13 arg14 arg15 arg16 arg17 arg18 P j D).2⟩]))
      (k0_t3_loop j).trips := by
  have e := View.read_writes_rep_unit (Val := Elt F) arg18.view D (k0_off19_inb j)
    (diagLd arg7 arg8 arg13 arg14 arg15 arg16 arg17 arg18 P j D).2 rfl
  unfold rowEnd
  rw [diagAt_ld arg7 arg8 arg13 arg14 arg15 arg16 arg17 arg18, ← e]

attribute [local irreducible] Scf.trips VecWindow.put View.readAt View.rep View.read k0_pay1 k0_pay101 k0_pay102 k0_pay103 k0_pay104 k0_pay105 k0_pay2 k0_pay3 k0_pay35 k0_pay38 k0_pay40 k0_pay41 k0_pay42 k0_pay43 k0_pay44 k0_pay45 k0_pay48 k0_pay50 k0_pay51 k0_pay52 k0_pay71 k0_pay72 k0_pay73 k0_pay74 k0_pay75 k0_pay76 k0_pay80 k0_pay81 k0_pay82 k0_pay83 k0_pay84 k0_pay85 k0_pay89 k0_pay90 k0_pay91 k0_pay92 k0_pay94 k0_pay95 k0_pay96 k0_pay99

/-- One row block's region. -/
theorem trip2 (P : Prep F) (R : Res F) (j : Fin k0_t2_loop.trips) (E : Set ℕ) :
    iprop(prepHeld c arg7 arg8 arg13 arg14 arg15 arg16 arg17 P ∗ (arg18.view.loc (c : Thread nD τ) ↦[arg18.view.set]{fullShare} arg18.view.rep R.D)
      ∗ (arg10.view.loc (c : Thread nD τ) ↦[arg10.view.set]{fullShare} arg10.view.rep R.dk) ∗ (arg11.view.loc (c : Thread nD τ) ↦[arg11.view.set]{fullShare} arg11.view.rep R.dv) ∗ (arg12.view.loc (c : Thread nD τ) ↦[arg12.view.set]{fullShare} arg12.view.rep R.dc))
    ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 iotaL iotaR iotaTR iotaTC j ⟨⟩)
        (fun _ => iprop(prepHeld c arg7 arg8 arg13 arg14 arg15 arg16 arg17 P
          ∗ (arg18.view.loc (c : Thread nD τ) ↦[arg18.view.set]{fullShare} arg18.view.rep (rowEnd P j R.D).2)
          ∗ (arg10.view.loc (c : Thread nD τ) ↦[arg10.view.set]{fullShare} arg10.view.rep (VecWindow.put R.dk (k0_off42 j) S256x128.size (outK (rowEnd P j R.D).1)))
          ∗ (arg11.view.loc (c : Thread nD τ) ↦[arg11.view.set]{fullShare} arg11.view.rep (VecWindow.put R.dv (k0_off42 j) S256x128.size (outV (rowEnd P j R.D).1)))
          ∗ (arg12.view.loc (c : Thread nD τ) ↦[arg12.view.set]{fullShare} arg12.view.rep (VecWindow.put R.dc (k0_off43 j) S1x256x128.size (outC (rowEnd P j R.D).1))))) := by
  have htr : (k0_t4_loop j).trips = 0 := trips4 j
  unfold k0_t2_body
  iintro ⟨⟨H7, H8, H13, H14, H15, H16, H17⟩, H18, H10, H11, H12⟩
  sl_exec
  sl_step
  isplitl [H7 H8 H13 H14 H15 H16 H17]
  · isplitl [H7]; · iexact H7
    isplitl [H8]; · iexact H8
    isplitl [H13]; · iexact H13
    isplitl [H14]; · iexact H14
    isplitl [H15]; · iexact H15
    isplitl [H16]; · iexact H16
    iexact H17
  rw [rowEnd_ld arg7 arg8 arg13 arg14 arg15 arg16 arg17 arg18]
  isplitl [H18]
  · iapply (pointsTo_rep_of_read (c : Thread nD τ) arg18 _ fullShare _ ?_) $$ H18
    refine (read_con arg18 _ _ ?_ _).trans ?_
    · rw [st3_zero]
    · rfl
  isplitl [H10]
  · iapply (pointsTo_rep_of_read (c : Thread nD τ) arg10 _ fullShare _ ?_) $$ H10
    exact View.read_writes_rep_unit (Val := Elt F) arg10.view R.dk (k0_off42_inb j) _ rfl
  isplitl [H11]
  · iapply (pointsTo_rep_of_read (c : Thread nD τ) arg11 _ fullShare _ ?_) $$ H11
    exact View.read_writes_rep_unit (Val := Elt F) arg11.view R.dv (k0_off42_inb j) _ rfl
  · iapply (pointsTo_rep_of_read (c : Thread nD τ) arg12 _ fullShare _ ?_) $$ H12
    exact View.read_writes_rep_unit (Val := Elt F) arg12.view R.dc (k0_off43_inb j) _ rfl

end Cert.Proof.Attn

end
-- ==== Proof.Rows.lean ====
/-
  What the preparing loop and the finishing loop leave, as functions of the blocks they load: the rows of both heads'
  operands, the row sums of the output gradient against the output, and the query gradient transposed back. Written over
  any float values.
-/
module

public import proofs.«01_k».proof.Proof.Tile

@[expose] public section

noncomputable section

namespace Cert.Proof.Attn

open Cert.KernelIdeal Cert.KernelIdeal.Gen
open Idealize.ShloMosaic Idealize.ShloMosaic.TcCoe

variable {F : FTy → Type} [FloatOps F]

/-- The seven blocks a grid point reads. -/
structure Ins (F : FTy → Type) where
  q : S2048x128.Idx → Elt F .f32
  k : S2048x128.Idx → Elt F .f32
  v : S2048x128.Idx → Elt F .f32
  cum : S1x2048x128.Idx → Elt F .f32
  o : S2048x128.Idx → Elt F .f32
  dob : S2048x128.Idx → Elt F .bf16
  lse : S1x1x8x2048.Idx → Elt F .f32

/-- The rows one trip prepares. -/
def ka0 (k : Vec F S256x128 .f32) (c : Vec F S1x256x1 .f32) : FVec F S1x256x128 .bf16 :=
  k0_pay15 k iotaL k0_pay8 (k0_pay10 c) (k0_pay11 c) k0_pay12 (k0_pay13 c) k0_pay14
def ka1 (k : Vec F S256x128 .f32) (c : Vec F S1x256x1 .f32) : FVec F S1x256x128 .bf16 :=
  k0_pay27 k (k0_pay23 c) iotaL k0_pay24 (k0_pay25 c) (k0_pay26 c)
def qa0 (q : Vec F S256x128 .f32) : FVec F S1x256x128 .bf16 := k0_pay19 k0_pay16 (k0_pay17 q) k0_pay18
def qa1 (q : Vec F S256x128 .f32) : FVec F S1x256x128 .bf16 := k0_pay30 q iotaL k0_pay28 k0_pay29 3#32
def vz0 (v : Vec F S256x128 .f32) : FVec F S1x256x128 .bf16 := k0_pay20 v k0_pay6
def vz1 (v : Vec F S256x128 .f32) : FVec F S1x256x128 .bf16 := k0_pay31 v k0_pay22
def dd0 (d : Vec F S256x128 .bf16) (o : Vec F S256x128 .f32) : FVec F S1x256 .f32 := k0_pay21 (k0_pay5 d o)
def dd1 (d : Vec F S256x128 .bf16) (o : Vec F S256x128 .f32) : FVec F S1x256 .f32 := k0_pay32 (k0_pay5 d o)

/-- The contents the preparing loop writes. -/
structure Scr (F : FTy → Type) where
  ka : S2x2048x128.Idx → Elt F .bf16
  qa : S2x2048x128.Idx → Elt F .bf16
  vz : S2x2048x128.Idx → Elt F .bf16
  kt : S128x2048.Idx → Elt F .bf16
  dd : S8x2048.Idx → Elt F .f32
  D : S128x2048.Idx → Elt F .f32

/-- A block of 256 rows, and of the two columns of the cumulated decay. -/
abbrev rowsF (x : S2048x128.Idx → Elt F .f32) (n : Fin k0_t1_loop.trips) : Vec F S256x128 .f32 :=
  VecWindow.window x (k0_off1 n) S256x128.size (k0_off1_inb n)
abbrev rowsB (x : S2048x128.Idx → Elt F .bf16) (n : Fin k0_t1_loop.trips) : Vec F S256x128 .bf16 :=
  VecWindow.window x (k0_off1 n) S256x128.size (k0_off1_inb n)
abbrev cum0 (x : S1x2048x128.Idx → Elt F .f32) (n : Fin k0_t1_loop.trips) : Vec F S1x256x1 .f32 :=
  VecWindow.window x (k0_off2 n) S1x256x1.size (k0_off2_inb n)
abbrev cum1 (x : S1x2048x128.Idx → Elt F .f32) (n : Fin k0_t1_loop.trips) : Vec F S1x256x1 .f32 :=
  VecWindow.window x (k0_off5 n) S1x256x1.size (k0_off5_inb n)

/-- One trip of the preparing loop. -/
def prepStep (X : Ins F) (n : Fin k0_t1_loop.trips) (S : Scr F) : Scr F where
  ka := VecWindow.put (VecWindow.put S.ka (k0_off3 n) S1x256x128.size (ka0 (rowsF X.k n) (cum0 X.cum n))) (k0_off6 n) S1x256x128.size (ka1 (rowsF X.k n) (cum1 X.cum n))
  qa := VecWindow.put (VecWindow.put S.qa (k0_off3 n) S1x256x128.size (qa0 (rowsF X.q n))) (k0_off6 n) S1x256x128.size (qa1 (rowsF X.q n))
  vz := VecWindow.put (VecWindow.put S.vz (k0_off3 n) S1x256x128.size (vz0 (rowsF X.v n))) (k0_off6 n) S1x256x128.size (vz1 (rowsF X.v n))
  kt := VecWindow.put S.kt (k0_off8 n) S128x256.size (k0_pay33 (rowsF X.k n))
  dd := VecWindow.put (VecWindow.put S.dd (k0_off4 n) S1x256.size (dd0 (rowsB X.dob n) (rowsF X.o n))) (k0_off7 n) S1x256.size (dd1 (rowsB X.dob n) (rowsF X.o n))
  D := VecWindow.put S.D (k0_off8 n) S128x256.size k0_pay34

/-- The contents before trip `n` of the preparing loop. -/
def st1 (X : Ins F) (S : Scr F) : ℕ → Scr F
  | 0 => S
  | n + 1 => if h : n < k0_t1_loop.trips then prepStep X ⟨n, h⟩ (st1 X S n) else st1 X S n

theorem st1_succ (X : Ins F) (S : Scr F) (n : Fin k0_t1_loop.trips) : st1 X S (n.val + 1) = prepStep X n (st1 X S n.val) := by
  rw [st1, dif_pos n.isLt]

/-- The query gradient before trip `n` of the finishing loop. -/
def st5 (D : S128x2048.Idx → Elt F .f32) (q : S2048x128.Idx → Elt F .bf16) : ℕ → S2048x128.Idx → Elt F .bf16
  | 0 => q
  | n + 1 => if h : n < k0_t5_loop.trips then
      VecWindow.put (st5 D q n) (k0_off45 ⟨n, h⟩) S256x128.size (k0_pay4 (VecWindow.window D (k0_off44 ⟨n, h⟩) S128x256.size (k0_off44_inb ⟨n, h⟩)))
    else st5 D q n

theorem st5_succ (D : S128x2048.Idx → Elt F .f32) (q : S2048x128.Idx → Elt F .bf16) (n : Fin k0_t5_loop.trips) :
    st5 D q (n.val + 1) = VecWindow.put (st5 D q n.val) (k0_off45 n) S256x128.size
      (k0_pay4 (VecWindow.window D (k0_off44 n) S128x256.size (k0_off44_inb n))) := by
  rw [st5, dif_pos n.isLt]

end Cert.Proof.Attn

end
-- ==== Proof.Run1.lean ====
/-
  The preparing loop and the finishing loop, trip by trip: what a trip leaves in the buffers is what `Rows.lean` says.
-/
module

public import proofs.«01_k».proof.Proof.Rows
public import proofs.«01_k».proof.Proof.Loop3

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x1x8x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S1x2048x128 .f32) (harg12 : arg12.IsWhole)
  (arg13 : Memref sig .tc .vmem S2x2048x128 .bf16) (harg13 : arg13.IsWhole)
  (arg14 : Memref sig .tc .vmem S2x2048x128 .bf16) (harg14 : arg14.IsWhole)
  (arg15 : Memref sig .tc .vmem S2x2048x128 .bf16) (harg15 : arg15.IsWhole)
  (arg16 : Memref sig .tc .vmem S128x2048 .bf16) (harg16 : arg16.IsWhole)
  (arg17 : Memref sig .tc .vmem S8x2048 .f32) (harg17 : arg17.IsWhole)
  (arg18 : Memref sig .tc .vmem S128x2048 .f32) (harg18 : arg18.IsWhole)

/-- The blocks the preparing loop reads, held. -/
abbrev insHeld (c : Dev nD) (arg2 : Memref sig .tc .vmem S2048x128 .f32) (arg3 : Memref sig .tc .vmem S2048x128 .f32) (arg4 : Memref sig .tc .vmem S2048x128 .f32) (arg5 : Memref sig .tc .vmem S1x2048x128 .f32) (arg6 : Memref sig .tc .vmem S2048x128 .f32) (arg7 : Memref sig .tc .vmem S2048x128 .bf16) (X : Ins F) : sProp 𝕄G :=
  iprop((arg2.view.loc (c : Thread nD τ) ↦[arg2.view.set]{fullShare} arg2.view.rep X.q) ∗ (arg3.view.loc (c : Thread nD τ) ↦[arg3.view.set]{fullShare} arg3.view.rep X.k) ∗ (arg4.view.loc (c : Thread nD τ) ↦[arg4.view.set]{fullShare} arg4.view.rep X.v) ∗ (arg5.view.loc (c : Thread nD τ) ↦[arg5.view.set]{fullShare} arg5.view.rep X.cum) ∗ (arg6.view.loc (c : Thread nD τ) ↦[arg6.view.set]{fullShare} arg6.view.rep X.o) ∗ (arg7.view.loc (c : Thread nD τ) ↦[arg7.view.set]{fullShare} arg7.view.rep X.dob))

/-- The buffers it writes, held. -/
abbrev scrHeld (c : Dev nD) (arg13 : Memref sig .tc .vmem S2x2048x128 .bf16) (arg14 : Memref sig .tc .vmem S2x2048x128 .bf16) (arg15 : Memref sig .tc .vmem S2x2048x128 .bf16) (arg16 : Memref sig .tc .vmem S128x2048 .bf16) (arg17 : Memref sig .tc .vmem S8x2048 .f32) (arg18 : Memref sig .tc .vmem S128x2048 .f32) (S : Scr F) : sProp 𝕄G :=
  iprop((arg13.view.loc (c : Thread nD τ) ↦[arg13.view.set]{fullShare} arg13.view.rep S.ka) ∗ (arg14.view.loc (c : Thread nD τ) ↦[arg14.view.set]{fullShare} arg14.view.rep S.qa) ∗ (arg15.view.loc (c : Thread nD τ) ↦[arg15.view.set]{fullShare} arg15.view.rep S.vz) ∗ (arg16.view.loc (c : Thread nD τ) ↦[arg16.view.set]{fullShare} arg16.view.rep S.kt) ∗ (arg17.view.loc (c : Thread nD τ) ↦[arg17.view.set]{fullShare} arg17.view.rep S.dd) ∗ (arg18.view.loc (c : Thread nD τ) ↦[arg18.view.set]{fullShare} arg18.view.rep S.D))

/-- The trip of the preparing loop on what its loads read. -/
theorem prepStep_ld (X : Ins F) (n : Fin k0_t1_loop.trips) (S : Scr F) : prepStep X n S =
    { ka := VecWindow.put (VecWindow.put S.ka (k0_off3 n) S1x256x128.size (ka0 (ld arg3 X.k (k0_off1 n) S256x128.size (k0_off1_inb n)) (ld arg5 X.cum (k0_off2 n) S1x256x1.size (k0_off2_inb n)))) (k0_off6 n) S1x256x128.size (ka1 (ld arg3 X.k (k0_off1 n) S256x128.size (k0_off1_inb n)) (ld arg5 X.cum (k0_off5 n) S1x256x1.size (k0_off5_inb n)))
      qa := VecWindow.put (VecWindow.put S.qa (k0_off3 n) S1x256x128.size (qa0 (ld arg2 X.q (k0_off1 n) S256x128.size (k0_off1_inb n)))) (k0_off6 n) S1x256x128.size (qa1 (ld arg2 X.q (k0_off1 n) S256x128.size (k0_off1_inb n)))
      vz := VecWindow.put (VecWindow.put S.vz (k0_off3 n) S1x256x128.size (vz0 (ld arg4 X.v (k0_off1 n) S256x128.size (k0_off1_inb n)))) (k0_off6 n) S1x256x128.size (vz1 (ld arg4 X.v (k0_off1 n) S256x128.size (k0_off1_inb n)))
      kt := VecWindow.put S.kt (k0_off8 n) S128x256.size (k0_pay33 (ld arg3 X.k (k0_off1 n) S256x128.size (k0_off1_inb n)))
      dd := VecWindow.put (VecWindow.put S.dd (k0_off4 n) S1x256.size (dd0 (ld arg7 X.dob (k0_off1 n) S256x128.size (k0_off1_inb n)) (ld arg6 X.o (k0_off1 n) S256x128.size (k0_off1_inb n)))) (k0_off7 n) S1x256.size (dd1 (ld arg7 X.dob (k0_off1 n) S256x128.size (k0_off1_inb n)) (ld arg6 X.o (k0_off1 n) S256x128.size (k0_off1_inb n)))
      D := VecWindow.put S.D (k0_off8 n) S128x256.size k0_pay34 } := by
  simp only [ld_eq]; rfl

attribute [local irreducible] Scf.trips VecWindow.put View.readAt View.rep View.read k0_pay4 k0_pay5 k0_pay6 k0_pay8 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34

/-- One trip of the preparing loop. -/
theorem trip1 (X : Ins F) (S : Scr F) (n : Fin k0_t1_loop.trips) (E : Set ℕ) :
    iprop(insHeld c arg2 arg3 arg4 arg5 arg6 arg7 X ∗ scrHeld c arg13 arg14 arg15 arg16 arg17 arg18 S)
    ⊢ wp Idealize.ShloMosaic.frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n ⟨⟩)
        (fun _ => iprop(insHeld c arg2 arg3 arg4 arg5 arg6 arg7 X ∗ scrHeld c arg13 arg14 arg15 arg16 arg17 arg18 (prepStep X n S))) := by
  unfold k0_t1_body
  iintro ⟨⟨H2, H3, H4, H5, H6, H7⟩, H13, H14, H15, H16, H17, H18⟩
  sl_exec
  sl_step
  rw [prepStep_ld arg2 arg3 arg4 arg5 arg6 arg7]
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H13]
  · iapply (pointsTo_rep_of_read (c : Thread nD τ) arg13 _ fullShare _ ?_) $$ H13
    exact (View.read_writes_cons_put (Val := Elt F) arg13.view _ (k0_off6_inb n) _ _ rfl).trans (congrArg (fun z => VecWindow.put z (k0_off6 n) _ _) (View.read_writes_rep_unit (Val := Elt F) arg13.view S.ka (k0_off3_inb n) _ rfl))
  isplitl [H14]
  · iapply (pointsTo_rep_of_read (c : Thread nD τ) arg14 _ fullShare _ ?_) $$ H14
    exact (View.read_writes_cons_put (Val := Elt F) arg14.view _ (k0_off6_inb n) _ _ rfl).trans (congrArg (fun z => VecWindow.put z (k0_off6 n) _ _) (View.read_writes_rep_unit (Val := Elt F) arg14.view S.qa (k0_off3_inb n) _ rfl))
  isplitl [H15]
  · iapply (pointsTo_rep_of_read (c : Thread nD τ) arg15 _ fullShare _ ?_) $$ H15
    exact (View.read_writes_cons_put (Val := Elt F) arg15.view _ (k0_off6_inb n) _ _ rfl).trans (congrArg (fun z => VecWindow.put z (k0_off6 n) _ _) (View.read_writes_rep_unit (Val := Elt F) arg15.view S.vz (k0_off3_inb n) _ rfl))
  isplitl [H16]
  · iapply (pointsTo_rep_of_read (c : Thread nD τ) arg16 _ fullShare _ ?_) $$ H16
    exact View.read_writes_rep_unit (Val := Elt F) arg16.view S.kt (k0_off8_inb n) _ rfl
  isplitl [H17]
  · iapply (pointsTo_rep_of_read (c : Thread nD τ) arg17 _ fullShare _ ?_) $$ H17
    exact (View.read_writes_cons_put (Val := Elt F) arg17.view _ (k0_off7_inb n) _ _ rfl).trans (congrArg (fun z => VecWindow.put z (k0_off7 n) _ _) (View.read_writes_rep_unit (Val := Elt F) arg17.view S.dd (k0_off4_inb n) _ rfl))
  · iapply (pointsTo_rep_of_read (c : Thread nD τ) arg18 _ fullShare _ ?_) $$ H18
    exact View.read_writes_rep_unit (Val := Elt F) arg18.view S.D (k0_off8_inb n) _ rfl

/-- One trip of the finishing loop. -/
theorem trip5 (D : S128x2048.Idx → Elt F .f32) (q : S2048x128.Idx → Elt F .bf16) (n : Fin k0_t5_loop.trips) (E : Set ℕ) :
    (iprop((arg18.view.loc (c : Thread nD τ) ↦[arg18.view.set]{fullShare} arg18.view.rep D) ∗ (arg9.view.loc (c : Thread nD τ) ↦[arg9.view.set]{fullShare} arg9.view.rep q)) : sProp 𝕄G)
    ⊢ wp Idealize.ShloMosaic.frame (wpE (defs₀ (F := F)) Variants.none (c : Thread nD τ) none) E
        (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n ⟨⟩)
        (fun _ => iprop((arg18.view.loc (c : Thread nD τ) ↦[arg18.view.set]{fullShare} arg18.view.rep D) ∗ (arg9.view.loc (c : Thread nD τ) ↦[arg9.view.set]{fullShare} arg9.view.rep (VecWindow.put q (k0_off45 n) S256x128.size (k0_pay4 (VecWindow.window D (k0_off44 n) S128x256.size (k0_off44_inb n))))))) := by
  unfold k0_t5_body
  iintro ⟨H18, H9⟩
  sl_exec
  sl_step
  rw [← ld_eq arg18]
  isplitl [H18]; · iexact H18
  iapply (pointsTo_rep_of_read (c : Thread nD τ) arg9 _ fullShare _ ?_) $$ H9
  exact View.read_writes_rep_unit (Val := Elt F) arg9.view q (k0_off45_inb n) _ rfl

end Cert.Proof.Attn

end
-- ==== Proof.Body.lean ====
/-
  The kernel's body: from the seven blocks to the four it writes, through the three loops of `Loop2.lean` and `Run1.lean`.
-/
module

public import proofs.«01_k».proof.Proof.Loop2
public import proofs.«01_k».proof.Proof.Run1

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x1x8x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S1x2048x128 .f32) (harg12 : arg12.IsWhole)
  (arg13 : Memref sig .tc .vmem S2x2048x128 .bf16) (harg13 : arg13.IsWhole)
  (arg14 : Memref sig .tc .vmem S2x2048x128 .bf16) (harg14 : arg14.IsWhole)
  (arg15 : Memref sig .tc .vmem S2x2048x128 .bf16) (harg15 : arg15.IsWhole)
  (arg16 : Memref sig .tc .vmem S128x2048 .bf16) (harg16 : arg16.IsWhole)
  (arg17 : Memref sig .tc .vmem S8x2048 .f32) (harg17 : arg17.IsWhole)
  (arg18 : Memref sig .tc .vmem S128x2048 .f32) (harg18 : arg18.IsWhole)

/-- What the row-block loop reads, from the blocks and what the preparing loop left. -/
def prepOf (X : Ins F) (S : Scr F) : Prep F := ⟨X.dob, X.lse, S.ka, S.qa, S.vz, S.kt, S.dd⟩

/-- What it finds in the buffers it writes. -/
def resOf (S : Scr F) (dk dv : S2048x128.Idx → Elt F .bf16) (dc : S1x2048x128.Idx → Elt F .f32) : Res F := ⟨S.D, dk, dv, dc⟩

/-- The preparing loop's end, and the row-block loop's. -/
def endPrep (X : Ins F) (S : Scr F) : Scr F := st1 X S k0_t1_loop.trips
def endRows (X : Ins F) (S : Scr F) (dk dv : S2048x128.Idx → Elt F .bf16) (dc : S1x2048x128.Idx → Elt F .f32) : Res F :=
  st2 (prepOf X (endPrep X S)) (resOf (endPrep X S) dk dv dc) k0_t2_loop.trips

/-- The body's run. -/
theorem body_run (X : Ins F) (S : Scr F) (dq dk dv : S2048x128.Idx → Elt F .bf16) (dc : S1x2048x128.Idx → Elt F .f32) (E : Set ℕ) (K : PUnit → sProp 𝕄G) :
    iprop(insHeld c arg2 arg3 arg4 arg5 arg6 arg7 X ∗ (arg8.view.loc (c : Thread nD τ) ↦[arg8.view.set]{fullShare} arg8.view.rep X.lse) ∗ scrHeld c arg13 arg14 arg15 arg16 arg17 arg18 S
      ∗ (arg9.view.loc (c : Thread nD τ) ↦[arg9.view.set]{fullShare} arg9.view.rep dq) ∗ (arg10.view.loc (c : Thread nD τ) ↦[arg10.view.set]{fullShare} arg10.view.rep dk) ∗ (arg11.view.loc (c : Thread nD τ) ↦[arg11.view.set]{fullShare} arg11.view.rep dv) ∗ (arg12.view.loc (c : Thread nD τ) ↦[arg12.view.set]{fullShare} arg12.view.rep dc)
      ∗ ((insHeld c arg2 arg3 arg4 arg5 arg6 arg7 X ∗ (arg8.view.loc (c : Thread nD τ) ↦[arg8.view.set]{fullShare} arg8.view.rep X.lse) ∗ (∃ S', scrHeld c arg13 arg14 arg15 arg16 arg17 arg18 S')
        ∗ (arg9.view.loc (c : Thread nD τ) ↦[arg9.view.set]{fullShare} arg9.view.rep (st5 (endRows X S dk dv dc).D dq k0_t5_loop.trips)) ∗ (arg10.view.loc (c : Thread nD τ) ↦[arg10.view.set]{fullShare} arg10.view.rep (endRows X S dk dv dc).dk) ∗ (arg11.view.loc (c : Thread nD τ) ↦[arg11.view.set]{fullShare} arg11.view.rep (endRows X S dk dv dc).dv) ∗ (arg12.view.loc (c : Thread nD τ) ↦[arg12.view.set]{fullShare} arg12.view.rep (endRows X S dk dv dc).dc)) -∗ K ⟨⟩))
    ⊢ wp Idealize.ShloMosaic.frame (wpE (defs₀ (F := F)) Variants.none (c : Thread nD τ) none) E
        (cc0_attn_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold cc0_attn_bwd_skel
  iintro ⟨⟨H2, H3, H4, H5, H6, H7⟩, H8, ⟨H13, H14, H15, H16, H17, H18⟩, H9, H10, H11, H12, Hk⟩
  iapply (Scf.wp_for_bind Idealize.ShloMosaic.frame (wpE (defs₀ (F := F)) Variants.none (c : Thread nD τ) none) E k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
    (fun n _ => iprop(insHeld c arg2 arg3 arg4 arg5 arg6 arg7 X ∗ scrHeld c arg13 arg14 arg15 arg16 arg17 arg18 (st1 X S n)))
    (fun n _ => by
      have e := trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X (st1 X S n.val) n E
      rw [← st1_succ] at e
      exact e)) $$ [H2 H3 H4 H5 H6 H7 H13 H14 H15 H16 H17 H18]
  · isplitl [H2 H3 H4 H5 H6 H7]
    · isplitl [H2]; · iexact H2
      isplitl [H3]; · iexact H3
      isplitl [H4]; · iexact H4
      isplitl [H5]; · iexact H5
      isplitl [H6]; · iexact H6
      iexact H7
    isplitl [H13]; · iexact H13
    isplitl [H14]; · iexact H14
    isplitl [H15]; · iexact H15
    isplitl [H16]; · iexact H16
    isplitl [H17]; · iexact H17
    iexact H18
  iintro %_ ⟨⟨H2, H3, H4, H5, H6, H7⟩, H13, H14, H15, H16, H17, H18⟩
  iapply (Scf.wp_for_bind Idealize.ShloMosaic.frame (wpE (defs₀ (F := F)) Variants.none (c : Thread nD τ) none) E k0_t2_loop.lb k0_t2_loop.ub k0_t2_loop.st k0_t2_ok ⟨⟩
    (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 iotaL iotaR iotaTR iotaTC)
    (fun n _ => iprop(prepHeld c arg7 arg8 arg13 arg14 arg15 arg16 arg17 (prepOf X (endPrep X S))
      ∗ (arg18.view.loc (c : Thread nD τ) ↦[arg18.view.set]{fullShare} arg18.view.rep (st2 (prepOf X (endPrep X S)) (resOf (endPrep X S) dk dv dc) n).D) ∗ (arg10.view.loc (c : Thread nD τ) ↦[arg10.view.set]{fullShare} arg10.view.rep (st2 (prepOf X (endPrep X S)) (resOf (endPrep X S) dk dv dc) n).dk)
      ∗ (arg11.view.loc (c : Thread nD τ) ↦[arg11.view.set]{fullShare} arg11.view.rep (st2 (prepOf X (endPrep X S)) (resOf (endPrep X S) dk dv dc) n).dv) ∗ (arg12.view.loc (c : Thread nD τ) ↦[arg12.view.set]{fullShare} arg12.view.rep (st2 (prepOf X (endPrep X S)) (resOf (endPrep X S) dk dv dc) n).dc)))
    (fun n _ => by
      have e := trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (prepOf X (endPrep X S)) (st2 (prepOf X (endPrep X S)) (resOf (endPrep X S) dk dv dc) n.val) n E
      have h := st2_succ (prepOf X (endPrep X S)) (resOf (endPrep X S) dk dv dc) n
      rw [h]
      exact e)) $$ [H7 H8 H13 H14 H15 H16 H17 H18 H10 H11 H12]
  · isplitl [H7 H8 H13 H14 H15 H16 H17]
    · isplitl [H7]; · iexact H7
      isplitl [H8]; · iexact H8
      isplitl [H13]; · iexact H13
      isplitl [H14]; · iexact H14
      isplitl [H15]; · iexact H15
      isplitl [H16]; · iexact H16
      iexact H17
    isplitl [H18]; · iexact H18
    isplitl [H10]; · iexact H10
    isplitl [H11]; · iexact H11
    iexact H12
  iintro %_ ⟨⟨H7, H8, H13, H14, H15, H16, H17⟩, H18, H10, H11, H12⟩
  iapply (Scf.wp_for_bind Idealize.ShloMosaic.frame (wpE (defs₀ (F := F)) Variants.none (c : Thread nD τ) none) E k0_t5_loop.lb k0_t5_loop.ub k0_t5_loop.st k0_t5_ok ⟨⟩
    (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
    (fun n _ => iprop((arg18.view.loc (c : Thread nD τ) ↦[arg18.view.set]{fullShare} arg18.view.rep (endRows X S dk dv dc).D) ∗ (arg9.view.loc (c : Thread nD τ) ↦[arg9.view.set]{fullShare} arg9.view.rep (st5 (endRows X S dk dv dc).D dq n))))
    (fun n _ => by
      have e := trip5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (endRows X S dk dv dc).D (st5 (endRows X S dk dv dc).D dq n.val) n E
      rw [← st5_succ] at e
      exact e)) $$ [H18 H9]
  · isplitl [H18]; · iexact H18
    iexact H9
  iintro %_ ⟨H18, H9⟩
  sl_step
  iapply Hk
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8]; · iexact H8
  isplitl [H13 H14 H15 H16 H17 H18]
  · iexists (⟨_, _, _, _, _, _⟩ : Scr F)
    isplitl [H13]; · iexact H13
    isplitl [H14]; · iexact H14
    isplitl [H15]; · iexact H15
    isplitl [H16]; · iexact H16
    isplitl [H17]; · iexact H17
    iexact H18
  isplitl [H9]; · iexact H9
  isplitl [H10]; · iexact H10
  isplitl [H11]; · iexact H11
  iexact H12

end Cert.Proof.Attn

end
-- ==== Proof.Closed.lean ====
/-
  The loops' results in closed form: after its trips every cell of a buffer holds what the trip that owns its rows put
  there, whatever the buffer held before. Written over any float values.
-/
module

public import proofs.«01_k».proof.Proof.Rows
public import Idealize.ShloMosaic.Lib.Pointwise.Index

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-! ## A put inside and outside its window -/

theorem put_hit {α : Type} {s : Shape} (x : s.Idx → α) (off size : Fin s.rank → ℕ) (w : ((a : Fin s.rank) → Fin (size a)) → α)
    (y : s.Idx) (h : ∀ a, off a ≤ (y a).val ∧ (y a).val < off a + size a) (z : (a : Fin s.rank) → Fin (size a))
    (hz : ∀ a, (z a).val = (y a).val - off a) : VecWindow.put x off size w y = w z := by
  unfold VecWindow.put
  rw [dif_pos h]
  exact congrArg w (funext fun a => Fin.ext (by rw [hz]; rfl))

theorem put_miss {α : Type} {s : Shape} (x : s.Idx → α) (off size : Fin s.rank → ℕ) (w : ((a : Fin s.rank) → Fin (size a)) → α)
    (y : s.Idx) (a : Fin s.rank) (h : (y a).val < off a ∨ off a + size a ≤ (y a).val) : VecWindow.put x off size w y = x y := by
  unfold VecWindow.put
  rw [dif_neg]
  intro hh
  have := hh a
  omega

/-- Cells written block by block of 256 hold what the block's trip put there. -/
theorem cover {α Y : Type} {T : ℕ} (f : ℕ → Y → α) (g : Fin T → Y → α) (row : Y → ℕ)
    (hin : ∀ (n : Fin T) y, row y / 256 = n.val → f (n.val + 1) y = g n y)
    (hout : ∀ (n : Fin T) y, row y / 256 ≠ n.val → f (n.val + 1) y = f n.val y) :
    ∀ n, n ≤ T → ∀ y, row y / 256 < n → ∀ h : row y / 256 < T, f n y = g ⟨row y / 256, h⟩ y := by
  intro n
  induction n with
  | zero => intro _ y h; omega
  | succ n ih =>
    intro hn y hy h
    by_cases e : row y / 256 = n
    · rw [hin ⟨n, by omega⟩ y e]
      exact congrArg (fun k => g k y) (Fin.ext e.symm)
    · rw [hout ⟨n, by omega⟩ y e]
      exact ih (by omega) y (by omega) h

theorem trips1 : k0_t1_loop.trips = 8 := by decide +kernel
theorem trips2 : k0_t2_loop.trips = 8 := by decide +kernel
theorem trips5 : k0_t5_loop.trips = 8 := by decide +kernel

/-- The trip that owns a row, in each loop, and the row's place in its block. -/
def blk1 (r : Fin 2048) : Fin k0_t1_loop.trips := ⟨r.val / 256, by rw [trips1]; omega⟩
def blk2 (r : Fin 2048) : Fin k0_t2_loop.trips := ⟨r.val / 256, by rw [trips2]; omega⟩
def blk5 (r : Fin 2048) : Fin k0_t5_loop.trips := ⟨r.val / 256, by rw [trips5]; omega⟩
def inBlk (r : Fin 2048) : Fin 256 := ⟨r.val % 256, by omega⟩

/-! ## The preparing loop -/

def KA (X : Ins F) : S2x2048x128.Idx → Elt F .bf16 := fun y =>
  if (y 0).val = 0 then ka0 (rowsF X.k (blk1 (y 1))) (cum0 X.cum (blk1 (y 1))) (ix3 0 (inBlk (y 1)) (y 2))
  else ka1 (rowsF X.k (blk1 (y 1))) (cum1 X.cum (blk1 (y 1))) (ix3 0 (inBlk (y 1)) (y 2))
def QA (X : Ins F) : S2x2048x128.Idx → Elt F .bf16 := fun y =>
  if (y 0).val = 0 then qa0 (rowsF X.q (blk1 (y 1))) (ix3 0 (inBlk (y 1)) (y 2))
  else qa1 (rowsF X.q (blk1 (y 1))) (ix3 0 (inBlk (y 1)) (y 2))
def VZ (X : Ins F) : S2x2048x128.Idx → Elt F .bf16 := fun y =>
  if (y 0).val = 0 then vz0 (rowsF X.v (blk1 (y 1))) (ix3 0 (inBlk (y 1)) (y 2))
  else vz1 (rowsF X.v (blk1 (y 1))) (ix3 0 (inBlk (y 1)) (y 2))
def KT (X : Ins F) : S128x2048.Idx → Elt F .bf16 := fun y => k0_pay33 (rowsF X.k (blk1 (y 1))) (ix2 (y 0) (inBlk (y 1)))
def DD (X : Ins F) : S8x2048.Idx → Elt F .f32 := fun y =>
  if (y 0).val = 0 then dd0 (rowsB X.dob (blk1 (y 1))) (rowsF X.o (blk1 (y 1))) (ix2 0 (inBlk (y 1)))
  else dd1 (rowsB X.dob (blk1 (y 1))) (rowsF X.o (blk1 (y 1))) (ix2 0 (inBlk (y 1)))
def D0 : S128x2048.Idx → Elt F .f32 := fun y => k0_pay34 (ix2 (y 0) (inBlk (y 1)))

/-- Two puts of one trip into a two-head buffer. -/
theorem two_heads {α : Type} (f : ℕ → S2x2048x128.Idx → α) (w0 w1 : Fin k0_t1_loop.trips → S1x256x128.Idx → α)
    (hf : ∀ n : Fin k0_t1_loop.trips, f (n.val + 1) =
      VecWindow.put (VecWindow.put (f n.val) (k0_off3 n) S1x256x128.size (w0 n)) (k0_off6 n) S1x256x128.size (w1 n)) :
    f k0_t1_loop.trips = fun y => if (y 0).val = 0 then w0 (blk1 (y 1)) (ix3 0 (inBlk (y 1)) (y 2)) else w1 (blk1 (y 1)) (ix3 0 (inBlk (y 1)) (y 2)) := by
  funext y
  have hlt : (y 1).val / 256 < k0_t1_loop.trips := (blk1 (y 1)).isLt
  refine cover f (fun n y => if (y 0).val = 0 then w0 n (ix3 0 (inBlk (y 1)) (y 2)) else w1 n (ix3 0 (inBlk (y 1)) (y 2)))
    (fun y => (y 1).val) ?_ ?_ _ le_rfl y hlt hlt
  · intro n y e
    rw [hf]
    have y0 := (y 0).isLt
    have y1 := (y 1).isLt
    have y2 := (y 2).isLt
    by_cases h0 : (y 0).val = 0
    · dsimp only
      rw [if_pos h0, put_miss _ _ _ _ y (0 : Fin 3) (by rw [k0_off6_eq]; left; simpa using h0)]
      refine put_hit _ _ _ _ y ?_ _ ?_
      · rw [k0_off3_eq]
        intro a
        match a with
        | ⟨0, _⟩ => show 0 ≤ (y 0).val ∧ (y 0).val < 0 + 1; omega
        | ⟨1, _⟩ => show 256 * n.val ≤ (y 1).val ∧ (y 1).val < 256 * n.val + 256; omega
        | ⟨2, _⟩ => show 0 ≤ (y 2).val ∧ (y 2).val < 0 + 128; exact ⟨Nat.zero_le _, by simpa using y2⟩
      · rw [k0_off3_eq]
        intro a
        match a with
        | ⟨0, _⟩ => show 0 = (y 0).val - 0; omega
        | ⟨1, _⟩ => show (y 1).val % 256 = (y 1).val - 256 * n.val; omega
        | ⟨2, _⟩ => show (y 2).val = (y 2).val - 0; omega
    · dsimp only
      rw [if_neg h0]
      have h1 : (y 0).val = 1 := by have : (y 0).val < 2 := y0; omega
      refine put_hit _ _ _ _ y ?_ _ ?_
      · rw [k0_off6_eq]
        intro a
        match a with
        | ⟨0, _⟩ => show 1 ≤ (y 0).val ∧ (y 0).val < 1 + 1; omega
        | ⟨1, _⟩ => show 256 * n.val ≤ (y 1).val ∧ (y 1).val < 256 * n.val + 256; omega
        | ⟨2, _⟩ => show 0 ≤ (y 2).val ∧ (y 2).val < 0 + 128; exact ⟨Nat.zero_le _, by simpa using y2⟩
      · rw [k0_off6_eq]
        intro a
        match a with
        | ⟨0, _⟩ => show 0 = (y 0).val - 1; omega
        | ⟨1, _⟩ => show (y 1).val % 256 = (y 1).val - 256 * n.val; omega
        | ⟨2, _⟩ => show (y 2).val = (y 2).val - 0; omega
  · intro n y e
    rw [hf, put_miss _ _ _ _ y (1 : Fin 3), put_miss _ _ _ _ y (1 : Fin 3)]
    · rw [k0_off3_eq]; show (y 1).val < 256 * n.val ∨ 256 * n.val + 256 ≤ (y 1).val; dsimp only at e; omega
    · rw [k0_off6_eq]; show (y 1).val < 256 * n.val ∨ 256 * n.val + 256 ≤ (y 1).val; dsimp only at e; omega

/-- One put of one trip into a buffer of columns. -/
theorem one_cols {α : Type} {T : ℕ} (hT : T = 8) (f : ℕ → S128x2048.Idx → α) (off : Fin T → Fin 2 → ℕ) (hoff : ∀ n, off n = ![0, 256 * n.val])
    (w : Fin T → S128x256.Idx → α) (hf : ∀ n : Fin T, f (n.val + 1) = VecWindow.put (f n.val) (off n) S128x256.size (w n)) (y : S128x2048.Idx)
    (hlt : (y 1).val / 256 < T) : f T y = w ⟨(y 1).val / 256, hlt⟩ (ix2 (y 0) (inBlk (y 1))) := by
  refine cover f (fun n y => w n (ix2 (y 0) (inBlk (y 1)))) (fun y => (y 1).val) ?_ ?_ _ le_rfl y hlt hlt
  · intro n y e
    rw [hf]
    have y0 : (y 0).val < 128 := (y 0).isLt
    refine put_hit _ _ _ _ y ?_ _ ?_
    · rw [hoff]
      intro a
      match a with
      | ⟨0, _⟩ => show 0 ≤ (y 0).val ∧ (y 0).val < 0 + 128; omega
      | ⟨1, _⟩ => show 256 * n.val ≤ (y 1).val ∧ (y 1).val < 256 * n.val + 256; dsimp only at e; omega
    · rw [hoff]
      intro a
      match a with
      | ⟨0, _⟩ => show (y 0).val = (y 0).val - 0; omega
      | ⟨1, _⟩ => show (y 1).val % 256 = (y 1).val - 256 * n.val; dsimp only at e; omega
  · intro n y e
    rw [hf, put_miss _ _ _ _ y (1 : Fin 2)]
    rw [hoff]; show (y 1).val < 256 * n.val ∨ 256 * n.val + 256 ≤ (y 1).val; dsimp only at e; omega

/-- One put of one trip into a buffer of rows. -/
theorem one_rows {α : Type} {T : ℕ} (hT : T = 8) (f : ℕ → S2048x128.Idx → α) (off : Fin T → Fin 2 → ℕ) (hoff : ∀ n, off n = ![256 * n.val, 0])
    (w : Fin T → S256x128.Idx → α) (hf : ∀ n : Fin T, f (n.val + 1) = VecWindow.put (f n.val) (off n) S256x128.size (w n)) (y : S2048x128.Idx)
    (hlt : (y 0).val / 256 < T) : f T y = w ⟨(y 0).val / 256, hlt⟩ (ix2 (inBlk (y 0)) (y 1)) := by
  refine cover f (fun n y => w n (ix2 (inBlk (y 0)) (y 1))) (fun y => (y 0).val) ?_ ?_ _ le_rfl y hlt hlt
  · intro n y e
    rw [hf]
    have y0 : (y 1).val < 128 := (y 1).isLt
    refine put_hit _ _ _ _ y ?_ _ ?_
    · rw [hoff]
      intro a
      match a with
      | ⟨0, _⟩ => show 256 * n.val ≤ (y 0).val ∧ (y 0).val < 256 * n.val + 256; dsimp only at e; omega
      | ⟨1, _⟩ => show 0 ≤ (y 1).val ∧ (y 1).val < 0 + 128; omega
    · rw [hoff]
      intro a
      match a with
      | ⟨0, _⟩ => show (y 0).val % 256 = (y 0).val - 256 * n.val; dsimp only at e; omega
      | ⟨1, _⟩ => show (y 1).val = (y 1).val - 0; omega
  · intro n y e
    rw [hf, put_miss _ _ _ _ y (0 : Fin 2)]
    rw [hoff]; show (y 0).val < 256 * n.val ∨ 256 * n.val + 256 ≤ (y 0).val; dsimp only at e; omega

/-- One put of one trip into a one-member buffer of rows. -/
theorem one_rows3 {α : Type} {T : ℕ} (hT : T = 8) (f : ℕ → S1x2048x128.Idx → α) (off : Fin T → Fin 3 → ℕ) (hoff : ∀ n, off n = ![0, 256 * n.val, 0])
    (w : Fin T → S1x256x128.Idx → α) (hf : ∀ n : Fin T, f (n.val + 1) = VecWindow.put (f n.val) (off n) S1x256x128.size (w n)) (y : S1x2048x128.Idx)
    (hlt : (y 1).val / 256 < T) : f T y = w ⟨(y 1).val / 256, hlt⟩ (ix3 0 (inBlk (y 1)) (y 2)) := by
  refine cover f (fun n y => w n (ix3 0 (inBlk (y 1)) (y 2))) (fun y => (y 1).val) ?_ ?_ _ le_rfl y hlt hlt
  · intro n y e
    rw [hf]
    have y0 : (y 0).val < 1 := (y 0).isLt
    have y2 : (y 2).val < 128 := (y 2).isLt
    refine put_hit _ _ _ _ y ?_ _ ?_
    · rw [hoff]
      intro a
      match a with
      | ⟨0, _⟩ => show 0 ≤ (y 0).val ∧ (y 0).val < 0 + 1; omega
      | ⟨1, _⟩ => show 256 * n.val ≤ (y 1).val ∧ (y 1).val < 256 * n.val + 256; dsimp only at e; omega
      | ⟨2, _⟩ => show 0 ≤ (y 2).val ∧ (y 2).val < 0 + 128; omega
    · rw [hoff]
      intro a
      match a with
      | ⟨0, _⟩ => show 0 = (y 0).val - 0; omega
      | ⟨1, _⟩ => show (y 1).val % 256 = (y 1).val - 256 * n.val; dsimp only at e; omega
      | ⟨2, _⟩ => show (y 2).val = (y 2).val - 0; omega
  · intro n y e
    rw [hf, put_miss _ _ _ _ y (1 : Fin 3)]
    rw [hoff]; show (y 1).val < 256 * n.val ∨ 256 * n.val + 256 ≤ (y 1).val; dsimp only at e; omega

theorem st1_ka (X : Ins F) (S : Scr F) : (st1 X S k0_t1_loop.trips).ka = KA X :=
  two_heads (fun n => (st1 X S n).ka) (fun n => ka0 (rowsF X.k n) (cum0 X.cum n)) (fun n => ka1 (rowsF X.k n) (cum1 X.cum n))
    fun n => by dsimp only; rw [st1_succ]; rfl
theorem st1_qa (X : Ins F) (S : Scr F) : (st1 X S k0_t1_loop.trips).qa = QA X :=
  two_heads (fun n => (st1 X S n).qa) (fun n => qa0 (rowsF X.q n)) (fun n => qa1 (rowsF X.q n))
    fun n => by dsimp only; rw [st1_succ]; rfl
theorem st1_vz (X : Ins F) (S : Scr F) : (st1 X S k0_t1_loop.trips).vz = VZ X :=
  two_heads (fun n => (st1 X S n).vz) (fun n => vz0 (rowsF X.v n)) (fun n => vz1 (rowsF X.v n))
    fun n => by dsimp only; rw [st1_succ]; rfl
theorem st1_kt (X : Ins F) (S : Scr F) : (st1 X S k0_t1_loop.trips).kt = KT X := by
  funext y
  exact one_cols trips1 (fun n => (st1 X S n).kt) k0_off8 k0_off8_eq (fun n => k0_pay33 (rowsF X.k n))
    (fun n => by dsimp only; rw [st1_succ]; rfl) y (blk1 (y 1)).isLt
theorem st1_D (X : Ins F) (S : Scr F) : (st1 X S k0_t1_loop.trips).D = D0 := by
  funext y
  exact one_cols trips1 (fun n => (st1 X S n).D) k0_off8 k0_off8_eq (fun n => k0_pay34)
    (fun n => by dsimp only; rw [st1_succ]; rfl) y (blk1 (y 1)).isLt

/-- Only the first two rows of the row sums are written. -/
theorem st1_dd (X : Ins F) (S : Scr F) (y : S8x2048.Idx) (hy : (y 0).val < 2) : (st1 X S k0_t1_loop.trips).dd y = DD X y := by
  have hlt : (y 1).val / 256 < k0_t1_loop.trips := (blk1 (y 1)).isLt
  refine cover (Y := {y : S8x2048.Idx // (y 0).val < 2}) (fun n y => (st1 X S n).dd y.1)
    (fun n y => if (y.1 0).val = 0 then dd0 (rowsB X.dob n) (rowsF X.o n) (ix2 0 (inBlk (y.1 1))) else dd1 (rowsB X.dob n) (rowsF X.o n) (ix2 0 (inBlk (y.1 1))))
    (fun y => (y.1 1).val) ?_ ?_ _ le_rfl ⟨y, hy⟩ hlt hlt
  · rintro n ⟨y, hy⟩ e
    have hs : (st1 X S (n.val + 1)).dd = VecWindow.put (VecWindow.put (st1 X S n.val).dd (k0_off4 n) S1x256.size (dd0 (rowsB X.dob n) (rowsF X.o n)))
      (k0_off7 n) S1x256.size (dd1 (rowsB X.dob n) (rowsF X.o n)) := by rw [st1_succ]; rfl
    dsimp only at e ⊢
    rw [hs]
    by_cases h0 : (y 0).val = 0
    · rw [if_pos h0, put_miss _ _ _ _ y (0 : Fin 2) (by rw [k0_off7_eq]; left; simpa using h0)]
      refine put_hit _ _ _ _ y ?_ _ ?_
      · rw [k0_off4_eq]
        intro a
        match a with
        | ⟨0, _⟩ => show 0 ≤ (y 0).val ∧ (y 0).val < 0 + 1; omega
        | ⟨1, _⟩ => show 256 * n.val ≤ (y 1).val ∧ (y 1).val < 256 * n.val + 256; omega
      · rw [k0_off4_eq]
        intro a
        match a with
        | ⟨0, _⟩ => show 0 = (y 0).val - 0; omega
        | ⟨1, _⟩ => show (y 1).val % 256 = (y 1).val - 256 * n.val; omega
    · rw [if_neg h0]
      refine put_hit _ _ _ _ y ?_ _ ?_
      · rw [k0_off7_eq]
        intro a
        match a with
        | ⟨0, _⟩ => show 1 ≤ (y 0).val ∧ (y 0).val < 1 + 1; omega
        | ⟨1, _⟩ => show 256 * n.val ≤ (y 1).val ∧ (y 1).val < 256 * n.val + 256; omega
      · rw [k0_off7_eq]
        intro a
        match a with
        | ⟨0, _⟩ => show 0 = (y 0).val - 1; omega
        | ⟨1, _⟩ => show (y 1).val % 256 = (y 1).val - 256 * n.val; omega
  · rintro n ⟨y, hy⟩ e
    have hs : (st1 X S (n.val + 1)).dd = VecWindow.put (VecWindow.put (st1 X S n.val).dd (k0_off4 n) S1x256.size (dd0 (rowsB X.dob n) (rowsF X.o n)))
      (k0_off7 n) S1x256.size (dd1 (rowsB X.dob n) (rowsF X.o n)) := by rw [st1_succ]; rfl
    dsimp only at e ⊢
    rw [hs, put_miss _ _ _ _ y (1 : Fin 2), put_miss _ _ _ _ y (1 : Fin 2)]
    · rw [k0_off4_eq]; show (y 1).val < 256 * n.val ∨ 256 * n.val + 256 ≤ (y 1).val; omega
    · rw [k0_off7_eq]; show (y 1).val < 256 * n.val ∨ 256 * n.val + 256 ≤ (y 1).val; omega

/-! ## The row-block loop -/

/-- The prepared contents, in closed form. -/
def prep (X : Ins F) : Prep F := ⟨X.dob, X.lse, KA X, QA X, VZ X, KT X, DD X⟩

/-- The transposed query gradient before row block `n`. -/
def stD (P : Prep F) (D : S128x2048.Idx → Elt F .f32) : ℕ → S128x2048.Idx → Elt F .f32
  | 0 => D
  | n + 1 => if h : n < k0_t2_loop.trips then (rowEnd P ⟨n, h⟩ (stD P D n)).2 else stD P D n

theorem stD_succ (P : Prep F) (D : S128x2048.Idx → Elt F .f32) (n : Fin k0_t2_loop.trips) : stD P D (n.val + 1) = (rowEnd P n (stD P D n.val)).2 := by
  rw [stD, dif_pos n.isLt]

theorem st2_D (P : Prep F) (R : Res F) (n : ℕ) : (st2 P R n).D = stD P R.D n := by
  induction n with
  | zero => rfl
  | succ n ih =>
    unfold st2 stD
    by_cases h : n < k0_t2_loop.trips
    · rw [dif_pos h, dif_pos h, ← ih]
    · rw [dif_neg h, dif_neg h, ih]

theorem st2_dk (P : Prep F) (R : Res F) (y : S2048x128.Idx) : (st2 P R k0_t2_loop.trips).dk y =
    outK (rowEnd P (blk2 (y 0)) (stD P R.D ((y 0).val / 256))).1 (ix2 (inBlk (y 0)) (y 1)) :=
  one_rows trips2 (fun n => (st2 P R n).dk) k0_off42 k0_off42_eq (fun n => outK (rowEnd P n (stD P R.D n.val)).1)
    (fun n => by dsimp only; rw [st2_succ, st2_D]) y (blk2 (y 0)).isLt
theorem st2_dv (P : Prep F) (R : Res F) (y : S2048x128.Idx) : (st2 P R k0_t2_loop.trips).dv y =
    outV (rowEnd P (blk2 (y 0)) (stD P R.D ((y 0).val / 256))).1 (ix2 (inBlk (y 0)) (y 1)) :=
  one_rows trips2 (fun n => (st2 P R n).dv) k0_off42 k0_off42_eq (fun n => outV (rowEnd P n (stD P R.D n.val)).1)
    (fun n => by dsimp only; rw [st2_succ, st2_D]) y (blk2 (y 0)).isLt
theorem st2_dc (P : Prep F) (R : Res F) (y : S1x2048x128.Idx) : (st2 P R k0_t2_loop.trips).dc y =
    outC (rowEnd P (blk2 (y 1)) (stD P R.D ((y 1).val / 256))).1 (ix3 0 (inBlk (y 1)) (y 2)) :=
  one_rows3 trips2 (fun n => (st2 P R n).dc) k0_off43 k0_off43_eq (fun n => outC (rowEnd P n (stD P R.D n.val)).1)
    (fun n => by dsimp only; rw [st2_succ, st2_D]) y (blk2 (y 1)).isLt

/-! ## Only two rows of the row sums are read -/

theorem off13_0 : ∀ j : Fin k0_t2_loop.trips, k0_off13 j 0 = 0 := by decide +kernel
theorem off18_0 : ∀ j : Fin k0_t2_loop.trips, k0_off18 j 0 = 1 := by decide +kernel
theorem off24_0 : ∀ (j : Fin k0_t2_loop.trips) (n : Fin (k0_t3_loop j).trips), k0_off24 j n 0 = 0 := by decide +kernel
theorem off29_0 : ∀ (j : Fin k0_t2_loop.trips) (n : Fin (k0_t3_loop j).trips), k0_off29 j n 0 = 1 := by decide +kernel

/-- Contents that agree on the first two rows have the same windows there. -/
theorem window_dd {α : Type} (x x' : S8x2048.Idx → α) (h : ∀ y : S8x2048.Idx, (y 0).val < 2 → x y = x' y) (off : Fin 2 → ℕ)
    (hoff : off 0 < 2) (inb : ∀ a, off a + S1x512.size a ≤ S8x2048.size a) :
    VecWindow.window x off S1x512.size inb = VecWindow.window x' off S1x512.size inb := by
  funext z
  refine h _ ?_
  show off 0 + 1 * (z 0).val < 2
  have : (z 0).val < 1 := (z 0).isLt
  omega

/-- The contents of two preparations that differ past the first two rows of the row sums only. -/
structure Same (P P' : Prep F) : Prop where
  dob : P.dob = P'.dob
  lse : P.lse = P'.lse
  ka : P.ka = P'.ka
  qa : P.qa = P'.qa
  vz : P.vz = P'.vz
  kt : P.kt = P'.kt
  dd : ∀ y : S8x2048.Idx, (y 0).val < 2 → P.dd y = P'.dd y

theorem tileAt_same {P P' : Prep F} (h : Same P P') (j : Fin k0_t2_loop.trips) (n : Fin (k0_t3_loop j).trips) (a : Acc F)
    (D : S128x2048.Idx → Elt F .f32) : tileAt P j n a D = tileAt P' j n a D := by
  unfold tileAt
  rw [h.dob, h.lse, h.ka, h.qa, h.vz, h.kt, window_dd P.dd P'.dd h.dd (k0_off24 j n) (by rw [off24_0]; omega),
    window_dd P.dd P'.dd h.dd (k0_off29 j n) (by rw [off29_0]; omega)]

theorem diagAt_same {P P' : Prep F} (h : Same P P') (j : Fin k0_t2_loop.trips) (D : S128x2048.Idx → Elt F .f32) :
    diagAt P j D = diagAt P' j D := by
  unfold diagAt
  rw [h.dob, h.lse, h.ka, h.qa, h.vz, h.kt, window_dd P.dd P'.dd h.dd (k0_off13 j) (by rw [off13_0]; omega),
    window_dd P.dd P'.dd h.dd (k0_off18 j) (by rw [off18_0]; omega)]

theorem st3_same {P P' : Prep F} (h : Same P P') (j : Fin k0_t2_loop.trips) (a : Acc F) (D : S128x2048.Idx → Elt F .f32) (n : ℕ) :
    st3 P j a D n = st3 P' j a D n := by
  induction n with
  | zero => rfl
  | succ n ih =>
    unfold st3
    rw [ih]
    by_cases hn : n < (k0_t3_loop j).trips
    · rw [dif_pos hn, dif_pos hn, tileAt_same h]
    · rw [dif_neg hn, dif_neg hn]

theorem rowEnd_same {P P' : Prep F} (h : Same P P') (j : Fin k0_t2_loop.trips) (D : S128x2048.Idx → Elt F .f32) :
    rowEnd P j D = rowEnd P' j D := by
  unfold rowEnd; rw [diagAt_same h, st3_same h]

theorem stD_same {P P' : Prep F} (h : Same P P') (D : S128x2048.Idx → Elt F .f32) (n : ℕ) : stD P D n = stD P' D n := by
  induction n with
  | zero => rfl
  | succ n ih =>
    unfold stD
    rw [ih]
    by_cases hn : n < k0_t2_loop.trips
    · rw [dif_pos hn, dif_pos hn, rowEnd_same h]
    · rw [dif_neg hn, dif_neg hn]

/-! ## The four results, from the seven blocks -/

/-- The transposed query gradient before row block `n`, and the accumulators row block `j` ends with. -/
def dqT (X : Ins F) (n : ℕ) : S128x2048.Idx → Elt F .f32 := stD (prep X) D0 n
def accs (X : Ins F) (j : Fin k0_t2_loop.trips) : Acc F := (rowEnd (prep X) j (dqT X j.val)).1

def resQ (X : Ins F) : S2048x128.Idx → Elt F .bf16 := fun y =>
  k0_pay4 (VecWindow.window (dqT X k0_t2_loop.trips) (k0_off44 (blk5 (y 0))) S128x256.size (k0_off44_inb (blk5 (y 0)))) (ix2 (inBlk (y 0)) (y 1))
def resK (X : Ins F) : S2048x128.Idx → Elt F .bf16 := fun y => outK (accs X (blk2 (y 0))) (ix2 (inBlk (y 0)) (y 1))
def resV (X : Ins F) : S2048x128.Idx → Elt F .bf16 := fun y => outV (accs X (blk2 (y 0))) (ix2 (inBlk (y 0)) (y 1))
def resC (X : Ins F) : S1x2048x128.Idx → Elt F .f32 := fun y => outC (accs X (blk2 (y 1))) (ix3 0 (inBlk (y 1)) (y 2))

theorem st5_q (D : S128x2048.Idx → Elt F .f32) (q : S2048x128.Idx → Elt F .bf16) (y : S2048x128.Idx) : st5 D q k0_t5_loop.trips y =
    k0_pay4 (VecWindow.window D (k0_off44 (blk5 (y 0))) S128x256.size (k0_off44_inb (blk5 (y 0)))) (ix2 (inBlk (y 0)) (y 1)) :=
  one_rows trips5 (fun n => st5 D q n) k0_off45 k0_off45_eq
    (fun n => k0_pay4 (VecWindow.window D (k0_off44 n) S128x256.size (k0_off44_inb n)))
    (fun n => by dsimp only; rw [st5_succ]) y (blk5 (y 0)).isLt

end Cert.Proof.Attn

end
-- ==== Proof.FrameRun.lean ====
/-
  The launch: the body's run at every grid point, the pipeline's proof data, the run of the whole program and its frame,
  over any float values.
-/
module

public import proofs.«01_k».proof.Proof.Body
public import proofs.«01_k».proof.Proof.Closed
public import proofs.«01_k».proof.Proof.Gen.KernelIdeal.Frame
public import Idealize.ShloMosaic.Lib.Claim
public import Idealize.ShloMosaic.Lib.Pipeline.TableIdle

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-! ## The body's four results do not depend on what its buffers held -/

theorem prep_same (X : Ins F) (S : Scr F) : Same (prepOf X (endPrep X S)) (prep X) :=
  ⟨rfl, rfl, st1_ka X S, st1_qa X S, st1_vz X S, st1_kt X S, st1_dd X S⟩

theorem dqT_eq (X : Ins F) (S : Scr F) (n : ℕ) : stD (prepOf X (endPrep X S)) (endPrep X S).D n = dqT X n := by
  rw [stD_same (prep_same X S), show (endPrep X S).D = D0 from st1_D X S]; rfl

theorem endRows_D (X : Ins F) (S : Scr F) (dk dv : S2048x128.Idx → Elt F .bf16) (dc : S1x2048x128.Idx → Elt F .f32) :
    (endRows X S dk dv dc).D = dqT X k0_t2_loop.trips := by
  rw [endRows, st2_D]; exact dqT_eq X S _

theorem out_dq (X : Ins F) (S : Scr F) (dq dk dv : S2048x128.Idx → Elt F .bf16) (dc : S1x2048x128.Idx → Elt F .f32) :
    st5 (endRows X S dk dv dc).D dq k0_t5_loop.trips = resQ X := by
  rw [endRows_D]; funext y; exact st5_q _ _ y
theorem out_dk (X : Ins F) (S : Scr F) (dk dv : S2048x128.Idx → Elt F .bf16) (dc : S1x2048x128.Idx → Elt F .f32) :
    (endRows X S dk dv dc).dk = resK X := by
  funext y
  refine (st2_dk _ _ y).trans ?_
  rw [rowEnd_same (prep_same X S), show stD _ (resOf (endPrep X S) dk dv dc).D _ = dqT X ((y 0).val / 256) from dqT_eq X S _]; rfl
theorem out_dv (X : Ins F) (S : Scr F) (dk dv : S2048x128.Idx → Elt F .bf16) (dc : S1x2048x128.Idx → Elt F .f32) :
    (endRows X S dk dv dc).dv = resV X := by
  funext y
  refine (st2_dv _ _ y).trans ?_
  rw [rowEnd_same (prep_same X S), show stD _ (resOf (endPrep X S) dk dv dc).D _ = dqT X ((y 0).val / 256) from dqT_eq X S _]; rfl
theorem out_dc (X : Ins F) (S : Scr F) (dk dv : S2048x128.Idx → Elt F .bf16) (dc : S1x2048x128.Idx → Elt F .f32) :
    (endRows X S dk dv dc).dc = resC X := by
  funext y
  refine (st2_dc _ _ y).trans ?_
  rw [rowEnd_same (prep_same X S), show stD _ (resOf (endPrep X S) dk dv dc).D _ = dqT X ((y 1).val / 256) from dqT_eq X S _]; rfl

/-! ## The body's triple -/

/-- The scratch buffers, each at some contents. -/
def scratch (c : Dev nD) (arg13 : Memref sig .tc .vmem S2x2048x128 .bf16) (arg14 : Memref sig .tc .vmem S2x2048x128 .bf16) (arg15 : Memref sig .tc .vmem S2x2048x128 .bf16) (arg16 : Memref sig .tc .vmem S128x2048 .bf16) (arg17 : Memref sig .tc .vmem S8x2048 .f32) (arg18 : Memref sig .tc .vmem S128x2048 .f32) : sProp 𝕄G :=
  iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

theorem sound_kernel (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x1x8x2048 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S1x2048x128 .f32) (harg12 : arg12.IsWhole)
  (arg13 : Memref sig .tc .vmem S2x2048x128 .bf16) (harg13 : arg13.IsWhole)
  (arg14 : Memref sig .tc .vmem S2x2048x128 .bf16) (harg14 : arg14.IsWhole)
  (arg15 : Memref sig .tc .vmem S2x2048x128 .bf16) (harg15 : arg15.IsWhole)
  (arg16 : Memref sig .tc .vmem S128x2048 .bf16) (harg16 : arg16.IsWhole)
  (arg17 : Memref sig .tc .vmem S8x2048 .f32) (harg17 : arg17.IsWhole)
  (arg18 : Memref sig .tc .vmem S128x2048 .f32) (harg18 : arg18.IsWhole)
  (X : Ins F) (E : Set ℕ) (K : PUnit → sProp 𝕄G) :
    iprop(owns (c : Thread nD τ) arg2 fullShare X.q ∗ owns (c : Thread nD τ) arg3 fullShare X.k ∗ owns (c : Thread nD τ) arg4 fullShare X.v ∗ owns (c : Thread nD τ) arg5 fullShare X.cum ∗ owns (c : Thread nD τ) arg6 fullShare X.o ∗ owns (c : Thread nD τ) arg7 fullShare X.dob ∗ owns (c : Thread nD τ) arg8 fullShare X.lse ∗ scratch c arg13 arg14 arg15 arg16 arg17 arg18
      ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare X.q ∗ owns (c : Thread nD τ) arg3 fullShare X.k ∗ owns (c : Thread nD τ) arg4 fullShare X.v ∗ owns (c : Thread nD τ) arg5 fullShare X.cum ∗ owns (c : Thread nD τ) arg6 fullShare X.o ∗ owns (c : Thread nD τ) arg7 fullShare X.dob ∗ owns (c : Thread nD τ) arg8 fullShare X.lse ∗ scratch c arg13 arg14 arg15 arg16 arg17 arg18
        ∗ owns (c : Thread nD τ) arg9 fullShare (resQ X) ∗ owns (c : Thread nD τ) arg10 fullShare (resK X) ∗ owns (c : Thread nD τ) arg11 fullShare (resV X) ∗ owns (c : Thread nD τ) arg12 fullShare (resC X)) -∗ K ⟨⟩))
    ⊢ wp Idealize.ShloMosaic.frame (wpE (defs₀ (F := F)) Variants.none (c : Thread nD τ) none) E
        (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_bwd_eq_skeleton]
  unfold scratch
  simp only [owns_eq_rep]
  iintro ⟨H2, H3, H4, H5, H6, H7, H8, ⟨⟨%d13, H13⟩, ⟨%d14, H14⟩, ⟨%d15, H15⟩, ⟨%d16, H16⟩, ⟨%d17, H17⟩, ⟨%d18, H18⟩⟩, ⟨%d9, H9⟩, ⟨%d10, H10⟩, ⟨%d11, H11⟩, ⟨%d12, H12⟩, Hk⟩
  iapply (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X ⟨d13, d14, d15, d16, d17, d18⟩ d9 d10 d11 d12 E K)
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8]; · iexact H8
  isplitl [H13 H14 H15 H16 H17 H18]
  · isplitl [H13]; · iexact H13
    isplitl [H14]; · iexact H14
    isplitl [H15]; · iexact H15
    isplitl [H16]; · iexact H16
    isplitl [H17]; · iexact H17
    iexact H18
  isplitl [H9]; · iexact H9
  isplitl [H10]; · iexact H10
  isplitl [H11]; · iexact H11
  isplitl [H12]; · iexact H12
  rw [out_dq, out_dk, out_dv, out_dc]
  iintro ⟨⟨H2, H3, H4, H5, H6, H7⟩, H8, ⟨%S', H13, H14, H15, H16, H17, H18⟩, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13 H14 H15 H16 H17 H18]
  · isplitl [H13]; · iexists _; iexact H13
    isplitl [H14]; · iexists _; iexact H14
    isplitl [H15]; · iexists _; iexact H15
    isplitl [H16]; · iexists _; iexact H16
    isplitl [H17]; · iexists _; iexact H17
    iexists _; iexact H18
  isplitl [H9]; · iexact H9
  isplitl [H10]; · iexact H10
  isplitl [H11]; · iexact H11
  iexact H12

/-! ## The pipeline's proof data -/

variable (m : (ℓ : Loc nD τ sig) → Buf (Elt F) ℓ) (ρ : Dev nD → PrngReg)

/-- The seven blocks the body reads at point `t`. -/
def insAt (c : Dev nD) (t : Fin cfg0.N) : Ins F :=
  ⟨iblk m c 0 t, iblk m c 1 t, iblk m c 2 t, iblk m c 3 t, iblk m c 4 t, iblk m c 5 t, iblk m c 6 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resQ (insAt m c t)
    | ⟨8, _⟩ => resK (insAt m c t)
    | ⟨9, _⟩ => resV (insAt m c t)
    | ⟨10, _⟩ => resC (insAt m c t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = resQ (insAt m c t) := by dsimp only [dats]
theorem after0_8 (c : Dev nD) (t : Fin cfg0.N) : (dats m 0 c).after 8 t = resK (insAt m c t) := by dsimp only [dats]
theorem after0_9 (c : Dev nD) (t : Fin cfg0.N) : (dats m 0 c).after 9 t = resV (insAt m c t) := by dsimp only [dats]
theorem after0_10 (c : Dev nD) (t : Fin cfg0.N) : (dats m 0 c).after 10 t = resC (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- The invariant is the scratch buffers at some contents, and the generator register. -/
theorem phi_eq (c : Dev nD) : (Pipeline.ΦA (U := UR sig nD τ) (Val := Elt F) spec0 c : sProp 𝕄G)
    = iprop(scratch c (Memref.whole cc0_scratch0) (Memref.whole cc0_scratch1) (Memref.whole cc0_scratch2) (Memref.whole cc0_scratch3) (Memref.whole cc0_scratch4) (Memref.whole cc0_scratch5) ∗ ∃ r, prngReg c r) := by
  unfold Pipeline.ΦA scratch
  rw [scopedRest0_eq]
  simp only [owns_whole]
  rfl

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, phi_eq]
  unfold insAt
  generalize iblk m c 0 t = x0
  generalize iblk m c 1 t = x1
  generalize iblk m c 2 t = x2
  generalize iblk m c 3 t = x3
  generalize iblk m c 4 t = x4
  generalize iblk m c 5 t = x5
  generalize iblk m c 6 t = x6
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _ _ _ _ _ _ _ _ _ _ _ _ _ ⟨x0, x1, x2, x3, x4, x5, x6⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  isplitl [H7]; · iexists _; iexact H7
  isplitl [H8]; · iexists _; iexact H8
  isplitl [H9]; · iexists _; iexact H9
  isplitl [H10]; · iexists _; iexact H10
  iintro ⟨H0, H1, H2, H3, H4, H5, H6, Hs, H7, H8, H9, H10⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run: every array at what the proof data gives, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Attn

end
-- ==== Proof.Same.lean ====
/-
  The two printed programs have the same text: the kernel's body, its table of bodies and its main function, at the
  device's floats. So the run stated for the idealized program is the kernel's.
-/
module

public import proofs.«01_k».proof.Defs
public import proofs.«01_k».proof.Proof.Gen.Kernel
public import proofs.«01_k».proof.Proof.Gen.KernelIdeal

@[expose] public section

set_option maxHeartbeats 2000000
set_option maxRecDepth 10000

noncomputable section

namespace Cert.Proof.Attn

open Idealize.ShloMosaic Idealize.ShloMosaic.TcCoe
open Idealize.SL.Sem

/-- The kernel's function. -/
theorem body_same : @Cert.Kernel.cc0_attn_bwd Bits _ Cert.Kernel.Gen.facts = @Cert.KernelIdeal.cc0_attn_bwd Bits _ Cert.KernelIdeal.Gen.facts := by rfl

/-- The table of bodies, at the one label it has. -/
theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) =>
    show @Cert.Kernel.cc0_attn_bwd Bits _ Cert.Kernel.Gen.facts _ _ _ _ _ _ _ _ _ _ _ _ _ _ _ _ _ _ _ _ _ _ _ _ _ _ _ _ _ _ _ _ _ _ _ = _
    rw [body_same]; rfl

/-- The whole table, the pipeline's labels included. -/
theorem defs_same : @Cert.Kernel.defs Bits _ Cert.Kernel.Gen.facts = @Cert.KernelIdeal.defs Bits _ Cert.KernelIdeal.Gen.facts := by
  unfold Cert.Kernel.defs Cert.KernelIdeal.defs
  rw [table_same]
  rfl

/-- The main function. -/
theorem main_same : @Cert.Kernel.main Bits _ Cert.Kernel.Gen.facts = @Cert.KernelIdeal.main Bits _ Cert.KernelIdeal.Gen.facts := by rfl

/-- A run under one table is a run under an equal one. -/
theorem run_same {nD : ℕ} {τ : Topo} {sig : RefSig} {Val : EltTy → Type} {Λ : Labels} {D D' : Defs nD τ sig Val Λ}
    {M M' : Dev nD → Prog (TpuEff nD τ sig Val Λ .tc) PUnit} (hD : D = D') (hM : M = M') (s : MemSt nD τ sig Val) (Q : PUnit × MemSt nD τ sig Val → Prop)
    (h : θ_run D' (onTc (τ := τ) M') s Q) : θ_run D (onTc (τ := τ) M) s Q := by
  subst hD; subst hM; exact h

end Cert.Proof.Attn

end
-- ==== Proof.TileVal.lean ====
/-
  The tiles read at an entry, over the extended reals: the weights, the scores' gradient, and what each tile adds.
-/
module

public import proofs.«01_k».proof.Proof.Closed
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe
open scoped BigOperators

/-- The scale, one eighth. -/
abbrev sc : EReal := Ideal.ofBits .f32 0x3E000000#32

/-- A tile's weight and its scores' gradient at a key row and a query row of the tile. -/
def pB (qa : Vec Ideal S1x512x128 .bf16) (ka : Vec Ideal S1x256x128 .bf16) (ls : Vec Ideal S1x1x1x512 .f32) (k : Fin 256) (q : Fin 512) : EReal :=
  Ideal.exp ((∑ l : Fin 128, ka (ix3 0 k l) * qa (ix3 0 q l)) - ls (ix4 0 0 0 q))
def dsB (dob : Vec Ideal S512x128 .bf16) (vz : Vec Ideal S1x256x128 .bf16) (dd : Vec Ideal S1x512 .f32) (k : Fin 256) (q : Fin 512) : EReal :=
  (∑ l : Fin 128, vz (ix3 0 k l) * dob (ix2 q l)) - dd (ix2 0 q)
/-- The masked weight. -/
def pM (r c : BitVec 32) (qa : Vec Ideal S1x512x128 .bf16) (ka : Vec Ideal S1x256x128 .bf16) (ls : Vec Ideal S1x1x1x512 .f32) (k : Fin 256) (q : Fin 512) : EReal :=
  Scalar.select (IntOp.cmpi .sle (IntOp.addi (BitVec.ofNat 32 k.val) (Scalar.subi r c)) (BitVec.ofNat 32 q.val)) (pB qa ka ls k q) 0

/-- The lanes of the second head. -/
theorem sel_hi (α : Type) : ∀ (l : Fin 128) (a b : α), Scalar.select (IntOp.andi (IntOp.cmpi .sge (BitVec.ofNat 32 l.val) 64#32) (IntOp.cmpi .slt (BitVec.ofNat 32 l.val) 128#32)) a b
    = if 64 ≤ l.val then a else b := by
  intro l a b
  have h : IntOp.andi (IntOp.cmpi .sge (BitVec.ofNat 32 l.val) 64#32) (IntOp.cmpi .slt (BitVec.ofNat 32 l.val) 128#32) = if 64 ≤ l.val then 1#1 else 0#1 := by
    revert l; decide +kernel
  rw [h]
  by_cases e : 64 ≤ l.val
  · rw [if_pos e, if_pos e]; rfl
  · rw [if_neg e, if_neg e]; rfl

section Blocks
variable (dob : Vec Ideal S512x128 .bf16) (qa0 : Vec Ideal S1x512x128 .bf16) (ka0 : Vec Ideal S1x256x128 .bf16) (ls0 : Vec Ideal S1x1x1x512 .f32)
    (vz0 : Vec Ideal S1x256x128 .bf16) (dd0 : Vec Ideal S1x512 .f32) (kt : Vec Ideal S128x256 .bf16) (qa1 : Vec Ideal S1x512x128 .bf16)
    (ka1 : Vec Ideal S1x256x128 .bf16) (ls1 : Vec Ideal S1x1x1x512 .f32) (vz1 : Vec Ideal S1x256x128 .bf16) (dd1 : Vec Ideal S1x512 .f32)

theorem pay37_at (k : Fin 256) (q : Fin 512) : k0_pay37 qa0 ka0 ls0 (ix2 k q) = pB qa0 ka0 ls0 k q := by
  pointwise [k0_pay37, k0_pay36, pB, dot_S256x128_S512x128_S256x512_1_1_0_0_n_n]
theorem pay47_at (k : Fin 256) (q : Fin 512) : k0_pay47 qa0 ka0 ls0 (ix2 k q) = pB qa0 ka0 ls0 k q := by
  pointwise [k0_pay47, k0_pay46, pB, dot_S256x128_S512x128_S256x512_1_1_0_0_n_n]
theorem pay38_at (k : Fin 256) (q : Fin 512) : k0_pay38 dob qa0 ka0 ls0 vz0 dd0 (ix2 k q) = pB qa0 ka0 ls0 k q * dsB dob vz0 dd0 k q := by
  pointwise [k0_pay38, pay37_at, k0_pay35, dsB, dot_S256x128_S512x128_S256x512_1_1_0_0_n_n]
theorem pay48_at (k : Fin 256) (q : Fin 512) : k0_pay48 dob qa0 ka0 ls0 vz0 dd0 (ix2 k q) = pB qa0 ka0 ls0 k q * dsB dob vz0 dd0 k q := by
  pointwise [k0_pay48, pay47_at, k0_pay35, dsB, dot_S256x128_S512x128_S256x512_1_1_0_0_n_n]
theorem pay77_at (r c : BitVec 32) (k : Fin 256) (q : Fin 512) :
    k0_pay77 iotaTR iotaTC r c (k0_pay75 qa0 ka0) (k0_pay76 ls0) (ix2 k q) = pM r c qa0 ka0 ls0 k q := by
  pointwise [k0_pay77, k0_pay75, k0_pay74, k0_pay76, iotaTR, iotaTC, pM, pB, dot_S256x128_S512x128_S256x512_1_1_0_0_n_n]
theorem pay86_at (r c : BitVec 32) (k : Fin 256) (q : Fin 512) :
    k0_pay86 iotaTR iotaTC r c (k0_pay85 qa0 ka0) ls0 (ix2 k q) = pM r c qa0 ka0 ls0 k q := by
  pointwise [k0_pay86, k0_pay85, k0_pay84, iotaTR, iotaTC, pM, pB, dot_S256x128_S512x128_S256x512_1_1_0_0_n_n]
theorem pay78_at (r c : BitVec 32) (k : Fin 256) (q : Fin 512) :
    k0_pay78 iotaTR iotaTC r c dob (k0_pay75 qa0 ka0) (k0_pay76 ls0) vz0 dd0 (ix2 k q) = pM r c qa0 ka0 ls0 k q * dsB dob vz0 dd0 k q := by
  pointwise [k0_pay78, pay77_at, k0_pay73, dsB, dot_S256x128_S512x128_S256x512_1_1_0_0_n_n]
theorem pay87_at (r c : BitVec 32) (k : Fin 256) (q : Fin 512) :
    k0_pay87 iotaTR iotaTC r c dob (k0_pay85 qa0 ka0) ls0 vz0 dd0 (ix2 k q) = pM r c qa0 ka0 ls0 k q * dsB dob vz0 dd0 k q := by
  pointwise [k0_pay87, pay86_at, k0_pay73, dsB, dot_S256x128_S512x128_S256x512_1_1_0_0_n_n]

theorem tile_dk0 (a : Acc Ideal) (dq : Vec Ideal S128x512 .f32) (k : Fin 256) (l : Fin 128) : (tile dob qa0 ka0 ls0 vz0 dd0 kt qa1 ka1 ls1 vz1 dd1 a dq).1.1 (ix2 k l)
    = a.1 (ix2 k l) + ∑ q : Fin 512, pB qa0 ka0 ls0 k q * dsB dob vz0 dd0 k q * qa0 (ix3 0 q l) := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_dv0 (a : Acc Ideal) (dq : Vec Ideal S128x512 .f32) (k : Fin 256) (l : Fin 128) : (tile dob qa0 ka0 ls0 vz0 dd0 kt qa1 ka1 ls1 vz1 dd1 a dq).1.2.1 (ix2 k l)
    = a.2.1 (ix2 k l) + ∑ q : Fin 512, pB qa0 ka0 ls0 k q * dob (ix2 q l) := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_ds0 (a : Acc Ideal) (dq : Vec Ideal S128x512 .f32) (k : Fin 256) (l : Fin 128) : (tile dob qa0 ka0 ls0 vz0 dd0 kt qa1 ka1 ls1 vz1 dd1 a dq).1.2.2.1 (ix2 k l)
    = a.2.2.1 (ix2 k l) + pB qa0 ka0 ls0 k ⟨l.val, by omega⟩ * dsB dob vz0 dd0 k ⟨l.val, by omega⟩ + pB qa0 ka0 ls0 k ⟨128 + l.val, by omega⟩ * dsB dob vz0 dd0 k ⟨128 + l.val, by omega⟩
      + pB qa0 ka0 ls0 k ⟨256 + l.val, by omega⟩ * dsB dob vz0 dd0 k ⟨256 + l.val, by omega⟩ + pB qa0 ka0 ls0 k ⟨384 + l.val, by omega⟩ * dsB dob vz0 dd0 k ⟨384 + l.val, by omega⟩ := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_dk1 (a : Acc Ideal) (dq : Vec Ideal S128x512 .f32) (k : Fin 256) (l : Fin 128) : (tile dob qa0 ka0 ls0 vz0 dd0 kt qa1 ka1 ls1 vz1 dd1 a dq).1.2.2.2.1 (ix2 k l)
    = a.2.2.2.1 (ix2 k l) + ∑ q : Fin 512, pB qa1 ka1 ls1 k q * dsB dob vz1 dd1 k q * qa1 (ix3 0 q l) := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_dv1 (a : Acc Ideal) (dq : Vec Ideal S128x512 .f32) (k : Fin 256) (l : Fin 128) : (tile dob qa0 ka0 ls0 vz0 dd0 kt qa1 ka1 ls1 vz1 dd1 a dq).1.2.2.2.2.1 (ix2 k l)
    = a.2.2.2.2.1 (ix2 k l) + ∑ q : Fin 512, pB qa1 ka1 ls1 k q * dob (ix2 q l) := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_ds1 (a : Acc Ideal) (dq : Vec Ideal S128x512 .f32) (k : Fin 256) (l : Fin 128) : (tile dob qa0 ka0 ls0 vz0 dd0 kt qa1 ka1 ls1 vz1 dd1 a dq).1.2.2.2.2.2 (ix2 k l)
    = a.2.2.2.2.2 (ix2 k l) + pB qa1 ka1 ls1 k ⟨l.val, by omega⟩ * dsB dob vz1 dd1 k ⟨l.val, by omega⟩ + pB qa1 ka1 ls1 k ⟨128 + l.val, by omega⟩ * dsB dob vz1 dd1 k ⟨128 + l.val, by omega⟩
      + pB qa1 ka1 ls1 k ⟨256 + l.val, by omega⟩ * dsB dob vz1 dd1 k ⟨256 + l.val, by omega⟩ + pB qa1 ka1 ls1 k ⟨384 + l.val, by omega⟩ * dsB dob vz1 dd1 k ⟨384 + l.val, by omega⟩ := by
  pointwise [pay37_at, pay38_at, pay47_at, pay48_at, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem tile_dq (a : Acc Ideal) (dq : Vec Ideal S128x512 .f32) (l : Fin 128) (q : Fin 512) : (tile dob qa0 ka0 ls0 vz0 dd0 kt qa1 ka1 ls1 vz1 dd1 a dq).2 (ix2 l q)
    = dq (ix2 l q) + (if 64 ≤ l.val then ∑ k : Fin 256, kt (ix2 l k) * (pB qa1 ka1 ls1 k q * dsB dob vz1 dd1 k q) else ∑ k : Fin 256, kt (ix2 l k) * (pB qa0 ka0 ls0 k q * dsB dob vz0 dd0 k q)) * sc := by
  pointwise [pay37_at, pay38_at, pay47_at, pay48_at, sel_hi, tile, k0_pay41, k0_pay40, k0_pay39, k0_pay45, k0_pay43, k0_pay44, k0_pay51, k0_pay50, k0_pay49, k0_pay95, k0_pay96, k0_pay52, k0_pay42, k0_pay46, k0_pay36, k0_pay35, iotaR, dot_S256x512_S512x128_S256x128_1_0_0_1_n_n, dot_S128x256_S256x512_S128x512_1_0_0_1_n_n]
theorem diag_dk0 (r c : BitVec 32) (dq : Vec Ideal S128x512 .f32) (k : Fin 256) (l : Fin 128) : (diag r c dob qa0 ka0 ls0 vz0 dd0 kt qa1 ka1 ls1 vz1 dd1 dq).1.1 (ix2 k l)
    = ∑ q : Fin 512, pM r c qa0 ka0 ls0 k q * dsB dob vz0 dd0 k q * qa0 (ix3 0 q l) := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_dv0 (r c : BitVec 32) (dq : Vec Ideal S128x512 .f32) (k : Fin 256) (l : Fin 128) : (diag r c dob qa0 ka0 ls0 vz0 dd0 kt qa1 ka1 ls1 vz1 dd1 dq).1.2.1 (ix2 k l)
    = ∑ q : Fin 512, pM r c qa0 ka0 ls0 k q * dob (ix2 q l) := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_ds0 (r c : BitVec 32) (dq : Vec Ideal S128x512 .f32) (k : Fin 256) (l : Fin 128) : (diag r c dob qa0 ka0 ls0 vz0 dd0 kt qa1 ka1 ls1 vz1 dd1 dq).1.2.2.1 (ix2 k l)
    = pM r c qa0 ka0 ls0 k ⟨l.val, by omega⟩ * dsB dob vz0 dd0 k ⟨l.val, by omega⟩ + pM r c qa0 ka0 ls0 k ⟨128 + l.val, by omega⟩ * dsB dob vz0 dd0 k ⟨128 + l.val, by omega⟩
      + pM r c qa0 ka0 ls0 k ⟨256 + l.val, by omega⟩ * dsB dob vz0 dd0 k ⟨256 + l.val, by omega⟩ + pM r c qa0 ka0 ls0 k ⟨384 + l.val, by omega⟩ * dsB dob vz0 dd0 k ⟨384 + l.val, by omega⟩ := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_dk1 (r c : BitVec 32) (dq : Vec Ideal S128x512 .f32) (k : Fin 256) (l : Fin 128) : (diag r c dob qa0 ka0 ls0 vz0 dd0 kt qa1 ka1 ls1 vz1 dd1 dq).1.2.2.2.1 (ix2 k l)
    = ∑ q : Fin 512, pM r c qa1 ka1 ls1 k q * dsB dob vz1 dd1 k q * qa1 (ix3 0 q l) := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_dv1 (r c : BitVec 32) (dq : Vec Ideal S128x512 .f32) (k : Fin 256) (l : Fin 128) : (diag r c dob qa0 ka0 ls0 vz0 dd0 kt qa1 ka1 ls1 vz1 dd1 dq).1.2.2.2.2.1 (ix2 k l)
    = ∑ q : Fin 512, pM r c qa1 ka1 ls1 k q * dob (ix2 q l) := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_ds1 (r c : BitVec 32) (dq : Vec Ideal S128x512 .f32) (k : Fin 256) (l : Fin 128) : (diag r c dob qa0 ka0 ls0 vz0 dd0 kt qa1 ka1 ls1 vz1 dd1 dq).1.2.2.2.2.2 (ix2 k l)
    = pM r c qa1 ka1 ls1 k ⟨l.val, by omega⟩ * dsB dob vz1 dd1 k ⟨l.val, by omega⟩ + pM r c qa1 ka1 ls1 k ⟨128 + l.val, by omega⟩ * dsB dob vz1 dd1 k ⟨128 + l.val, by omega⟩
      + pM r c qa1 ka1 ls1 k ⟨256 + l.val, by omega⟩ * dsB dob vz1 dd1 k ⟨256 + l.val, by omega⟩ + pM r c qa1 ka1 ls1 k ⟨384 + l.val, by omega⟩ * dsB dob vz1 dd1 k ⟨384 + l.val, by omega⟩ := by
  pointwise [pay77_at, pay78_at, pay86_at, pay87_at, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]
theorem diag_dq (r c : BitVec 32) (dq : Vec Ideal S128x512 .f32) (l : Fin 128) (q : Fin 512) : (diag r c dob qa0 ka0 ls0 vz0 dd0 kt qa1 ka1 ls1 vz1 dd1 dq).2 (ix2 l q)
    = dq (ix2 l q) + (if 64 ≤ l.val then ∑ k : Fin 256, kt (ix2 l k) * (pM r c qa1 ka1 ls1 k q * dsB dob vz1 dd1 k q) else ∑ k : Fin 256, kt (ix2 l k) * (pM r c qa0 ka0 ls0 k q * dsB dob vz0 dd0 k q)) * sc := by
  pointwise [pay77_at, pay78_at, pay86_at, pay87_at, sel_hi, diag, k0_pay81, k0_pay80, k0_pay79, k0_pay83, k0_pay90, k0_pay89, k0_pay88, k0_pay92, k0_pay94, k0_pay93, k0_pay91, k0_pay82, k0_pay84, k0_pay74, k0_pay73, k0_pay71, k0_pay72, iotaR, dot_S256x512_S512x128_S256x128_1_0_0_1_n_n, dot_S128x256_S256x512_S128x512_1_0_0_1_n_n]

end Blocks

end Cert.Proof.Attn

end
-- ==== Proof.RowVal.lean ====
/-
  A row block of keys over the extended reals: after its tiles the accumulators are sums over the query rows, and the
  transposed query gradient has gained the block's product.
-/
module

public import proofs.«01_k».proof.Proof.TileVal
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe
open scoped BigOperators

/-! ## Sums over a prefix -/

def ext (f : Fin 2048 → EReal) (n : ℕ) : EReal := if h : n < 2048 then f ⟨n, h⟩ else 0
def pre (f : Fin 2048 → EReal) (n : ℕ) : EReal := ∑ x ∈ Finset.range n, ext f x
/-- The sums lane by lane, of 128 lanes. -/
def lan (f : Fin 2048 → EReal) (n l : ℕ) : EReal := ∑ m ∈ Finset.range n, ext f (128 * m + l)

def krow (j : ℕ) (k : Fin 256) : Fin 2048 := ⟨(256 * j + k.val) % 2048, by omega⟩
def qrow (i : ℕ) (q : Fin 512) : Fin 2048 := ⟨(512 * i + q.val) % 2048, by omega⟩

theorem pre_succ (f : Fin 2048 → EReal) (i : ℕ) (hi : i < 4) : pre f (512 * (i + 1)) = pre f (512 * i) + ∑ q : Fin 512, f (qrow i q) := by
  unfold pre
  rw [show 512 * (i + 1) = 512 * i + 512 by ring, Finset.sum_range_add, Finset.sum_range (n := 512)]
  refine congrArg (_ + ·) (Finset.sum_congr rfl fun q _ => ?_)
  unfold ext
  rw [dif_pos (by omega)]
  exact congrArg f (Fin.ext (by show 512 * i + q.val = (512 * i + q.val) % 2048; omega))

theorem pre_zero (f : Fin 2048 → EReal) (n : ℕ) (h : ∀ x : Fin 2048, x.val < n → f x = 0) : pre f n = 0 := by
  refine Finset.sum_eq_zero fun x hx => ?_
  unfold ext
  split
  · exact h _ (Finset.mem_range.mp hx)
  · rfl

theorem pre_all (f : Fin 2048 → EReal) : pre f 2048 = ∑ x, f x := by
  unfold pre
  rw [Finset.sum_range]
  refine Finset.sum_congr rfl fun x _ => ?_
  unfold ext
  rw [dif_pos x.isLt]

theorem lan_succ (f : Fin 2048 → EReal) (i : ℕ) (hi : i < 4) (l : Fin 128) :
    lan f (4 * (i + 1)) l.val = lan f (4 * i) l.val + f (qrow i ⟨l.val, by omega⟩) + f (qrow i ⟨128 + l.val, by omega⟩)
      + f (qrow i ⟨256 + l.val, by omega⟩) + f (qrow i ⟨384 + l.val, by omega⟩) := by
  unfold lan
  rw [show 4 * (i + 1) = 4 * i + 1 + 1 + 1 + 1 by ring]
  rw [Finset.sum_range_succ, Finset.sum_range_succ, Finset.sum_range_succ, Finset.sum_range_succ]
  have e : ∀ (m c : ℕ) (hc : c + l.val < 512), 128 * m = 512 * i + c → ext f (128 * m + l.val) = f (qrow i ⟨c + l.val, hc⟩) := by
    intro m c hc hm
    unfold ext
    rw [dif_pos (by omega)]
    exact congrArg f (Fin.ext (by show 128 * m + l.val = (512 * i + (c + l.val)) % 2048; omega))
  rw [e (4 * i) 0 (by omega) (by ring), e (4 * i + 1) 128 (by omega) (by ring), e (4 * i + 1 + 1) 256 (by omega) (by ring),
    e (4 * i + 1 + 1 + 1) 384 (by omega) (by ring)]
  have e0 : (⟨0 + l.val, by omega⟩ : Fin 512) = ⟨l.val, by omega⟩ := Fin.ext (Nat.zero_add _)
  rw [e0]

theorem lan_zero (f : Fin 2048 → EReal) (i l : ℕ) (hl : l < 128) (h : ∀ x : Fin 2048, x.val < 512 * i → f x = 0) : lan f (4 * i) l = 0 := by
  refine Finset.sum_eq_zero fun m hm => ?_
  have := Finset.mem_range.mp hm
  unfold ext
  split
  · exact h _ (show 128 * m + l < _ by omega)
  · rfl

theorem lan_all (f : Fin 2048 → EReal) : ∑ l : Fin 128, lan f 16 l.val = ∑ x, f x := by
  unfold lan
  rw [Finset.sum_comm, ← pre_all]
  unfold pre
  have e : ∀ n, ∑ m ∈ Finset.range n, ∑ l : Fin 128, ext f (128 * m + l.val) = ∑ x ∈ Finset.range (128 * n), ext f x := by
    intro n
    induction n with
    | zero => rfl
    | succ n ih => rw [Finset.sum_range_succ, ih, show 128 * (n + 1) = 128 * n + 128 by ring, Finset.sum_range_add, Finset.sum_range (n := 128)]
  exact e 16

/-! ## The weights and the scores' gradient of a head -/

abbrev h8 (h : Fin 2) : Fin 8 := ⟨h.val, by omega⟩
def pw (P : Prep Ideal) (h : Fin 2) (k q : Fin 2048) : EReal :=
  Ideal.exp ((∑ l : Fin 128, P.ka (ix3 h k l) * P.qa (ix3 h q l)) - P.lse (ix4 0 0 (h8 h) q))
def gP (P : Prep Ideal) (h : Fin 2) (k q : Fin 2048) : EReal := if k.val ≤ q.val then pw P h k q else 0
def sD (P : Prep Ideal) (h : Fin 2) (k q : Fin 2048) : EReal :=
  (∑ l : Fin 128, P.vz (ix3 h k l) * P.dob (ix2 q l)) - P.dd (ix2 (h8 h) q)
def gS (P : Prep Ideal) (h : Fin 2) (k q : Fin 2048) : EReal := gP P h k q * sD P h k q
/-- What row block `j` adds to the transposed query gradient. -/
def gC (P : Prep Ideal) (j : ℕ) (l : Fin 128) (q : Fin 2048) : EReal :=
  (if 64 ≤ l.val then ∑ k : Fin 256, P.kt (ix2 l (krow j k)) * gS P 1 (krow j k) q
    else ∑ k : Fin 256, P.kt (ix2 l (krow j k)) * gS P 0 (krow j k) q) * sc

theorem gP_zero (P : Prep Ideal) (h : Fin 2) (k q : Fin 2048) (e : q.val < k.val) : gP P h k q = 0 := by
  unfold gP; rw [if_neg (by omega)]
theorem gS_zero (P : Prep Ideal) (h : Fin 2) (k q : Fin 2048) (e : q.val < k.val) : gS P h k q = 0 := by
  unfold gS; rw [gP_zero P h k q e, zero_mul]
theorem gC_zero (P : Prep Ideal) (j : ℕ) (hj : j < 8) (l : Fin 128) (q : Fin 2048) (e : q.val < 256 * j) : gC P j l q = 0 := by
  unfold gC
  have z : ∀ (h : Fin 2) (k : Fin 256), P.kt (ix2 l (krow j k)) * gS P h (krow j k) q = 0 := fun h k => by
    rw [gS_zero P h _ q (by show q.val < (256 * j + k.val) % 2048; omega), mul_zero]
  rw [Finset.sum_eq_zero (fun k _ => z 1 k), Finset.sum_eq_zero (fun k _ => z 0 k), ite_self, zero_mul]

/-! ## Windows -/

theorem win {α : Type} {s : Shape} (x : s.Idx → α) (off size : Fin s.rank → ℕ) (inb : ∀ a, off a + size a ≤ s.size a)
    (y : (Rect.unit off size inb).shape.Idx) (z : s.Idx) (h : ∀ a, (z a).val = off a + (y a).val) : VecWindow.window x off size inb y = x z := by
  unfold VecWindow.window
  refine congrArg x (funext fun a => Fin.ext ?_)
  rw [h]
  show off a + 1 * (y a).val = _
  rw [one_mul]

theorem win_q (x : S2x2048x128.Idx → EReal) (h : Fin 2) (i : ℕ) (hi : i < 4) (off : Fin 3 → ℕ) (e : off = ![h.val, 512 * i, 0])
    (inb : ∀ a, off a + S1x512x128.size a ≤ S2x2048x128.size a) (q : Fin 512) (l : Fin 128) :
    VecWindow.window x off S1x512x128.size inb (ix3 0 q l) = x (ix3 h (qrow i q) l) := by
  refine win _ _ _ _ _ _ ?_
  subst e
  intro a
  match a with
  | ⟨0, _⟩ => show h.val = h.val + 0; omega
  | ⟨1, _⟩ => show (512 * i + q.val) % 2048 = 512 * i + q.val; omega
  | ⟨2, _⟩ => show l.val = 0 + l.val; omega
theorem win_k (x : S2x2048x128.Idx → EReal) (h : Fin 2) (j : ℕ) (hj : j < 8) (off : Fin 3 → ℕ) (e : off = ![h.val, 256 * j, 0])
    (inb : ∀ a, off a + S1x256x128.size a ≤ S2x2048x128.size a) (k : Fin 256) (l : Fin 128) :
    VecWindow.window x off S1x256x128.size inb (ix3 0 k l) = x (ix3 h (krow j k) l) := by
  refine win _ _ _ _ _ _ ?_
  subst e
  intro a
  match a with
  | ⟨0, _⟩ => show h.val = h.val + 0; omega
  | ⟨1, _⟩ => show (256 * j + k.val) % 2048 = 256 * j + k.val; omega
  | ⟨2, _⟩ => show l.val = 0 + l.val; omega
theorem win_l (x : S1x1x8x2048.Idx → EReal) (h : Fin 2) (i : ℕ) (hi : i < 4) (off : Fin 4 → ℕ) (e : off = ![0, 0, h.val, 512 * i])
    (inb : ∀ a, off a + S1x1x1x512.size a ≤ S1x1x8x2048.size a) (q : Fin 512) :
    VecWindow.window x off S1x1x1x512.size inb (ix4 0 0 0 q) = x (ix4 0 0 (h8 h) (qrow i q)) := by
  refine win _ _ _ _ _ _ ?_
  subst e
  intro a
  match a with
  | ⟨0, _⟩ => rfl
  | ⟨1, _⟩ => rfl
  | ⟨2, _⟩ => show h.val = h.val + 0; omega
  | ⟨3, _⟩ => show (512 * i + q.val) % 2048 = 512 * i + q.val; omega
theorem win_d (x : S8x2048.Idx → EReal) (h : Fin 2) (i : ℕ) (hi : i < 4) (off : Fin 2 → ℕ) (e : off = ![h.val, 512 * i])
    (inb : ∀ a, off a + S1x512.size a ≤ S8x2048.size a) (q : Fin 512) :
    VecWindow.window x off S1x512.size inb (ix2 0 q) = x (ix2 (h8 h) (qrow i q)) := by
  refine win _ _ _ _ _ _ ?_
  subst e
  intro a
  match a with
  | ⟨0, _⟩ => show h.val = h.val + 0; omega
  | ⟨1, _⟩ => show (512 * i + q.val) % 2048 = 512 * i + q.val; omega
theorem win_o (x : S2048x128.Idx → EReal) (i : ℕ) (hi : i < 4) (off : Fin 2 → ℕ) (e : off = ![512 * i, 0])
    (inb : ∀ a, off a + S512x128.size a ≤ S2048x128.size a) (q : Fin 512) (l : Fin 128) :
    VecWindow.window x off S512x128.size inb (ix2 q l) = x (ix2 (qrow i q) l) := by
  refine win _ _ _ _ _ _ ?_
  subst e
  intro a
  match a with
  | ⟨0, _⟩ => show (512 * i + q.val) % 2048 = 512 * i + q.val; omega
  | ⟨1, _⟩ => show l.val = 0 + l.val; omega
theorem win_t (x : S128x2048.Idx → EReal) (i : ℕ) (hi : i < 4) (off : Fin 2 → ℕ) (e : off = ![0, 512 * i])
    (inb : ∀ a, off a + S128x512.size a ≤ S128x2048.size a) (q : Fin 512) (l : Fin 128) :
    VecWindow.window x off S128x512.size inb (ix2 l q) = x (ix2 l (qrow i q)) := by
  refine win _ _ _ _ _ _ ?_
  subst e
  intro a
  match a with
  | ⟨0, _⟩ => show l.val = 0 + l.val; omega
  | ⟨1, _⟩ => show (512 * i + q.val) % 2048 = 512 * i + q.val; omega
theorem win_kt (x : S128x2048.Idx → EReal) (j : ℕ) (hj : j < 8) (off : Fin 2 → ℕ) (e : off = ![0, 256 * j])
    (inb : ∀ a, off a + S128x256.size a ≤ S128x2048.size a) (k : Fin 256) (l : Fin 128) :
    VecWindow.window x off S128x256.size inb (ix2 l k) = x (ix2 l (krow j k)) := by
  refine win _ _ _ _ _ _ ?_
  subst e
  intro a
  match a with
  | ⟨0, _⟩ => show l.val = 0 + l.val; omega
  | ⟨1, _⟩ => show (256 * j + k.val) % 2048 = 256 * j + k.val; omega

theorem pB_win (P : Prep Ideal) (h : Fin 2) (j i : ℕ) (hj : j < 8) (hi : i < 4) (oq ok : Fin 3 → ℕ) (ol : Fin 4 → ℕ)
    (eq : oq = ![h.val, 512 * i, 0]) (ek : ok = ![h.val, 256 * j, 0]) (el : ol = ![0, 0, h.val, 512 * i])
    (bq : ∀ a, oq a + S1x512x128.size a ≤ S2x2048x128.size a) (bk : ∀ a, ok a + S1x256x128.size a ≤ S2x2048x128.size a)
    (bl : ∀ a, ol a + S1x1x1x512.size a ≤ S1x1x8x2048.size a) (k : Fin 256) (q : Fin 512) :
    pB (VecWindow.window P.qa oq S1x512x128.size bq) (VecWindow.window P.ka ok S1x256x128.size bk) (VecWindow.window P.lse ol S1x1x1x512.size bl) k q
      = pw P h (krow j k) (qrow i q) := by
  unfold pB pw
  rw [win_l P.lse h i hi ol el bl q]
  refine congrArg (fun z => Ideal.exp (z - _)) (Finset.sum_congr rfl fun l _ => ?_)
  rw [win_q P.qa h i hi oq eq bq q l, win_k P.ka h j hj ok ek bk k l]

theorem dsB_win (P : Prep Ideal) (h : Fin 2) (j i : ℕ) (hj : j < 8) (hi : i < 4) (oo : Fin 2 → ℕ) (ok : Fin 3 → ℕ) (od : Fin 2 → ℕ)
    (eo : oo = ![512 * i, 0]) (ek : ok = ![h.val, 256 * j, 0]) (ed : od = ![h.val, 512 * i])
    (bo : ∀ a, oo a + S512x128.size a ≤ S2048x128.size a) (bk : ∀ a, ok a + S1x256x128.size a ≤ S2x2048x128.size a)
    (bd : ∀ a, od a + S1x512.size a ≤ S8x2048.size a) (k : Fin 256) (q : Fin 512) :
    dsB (VecWindow.window P.dob oo S512x128.size bo) (VecWindow.window P.vz ok S1x256x128.size bk) (VecWindow.window P.dd od S1x512.size bd) k q
      = sD P h (krow j k) (qrow i q) := by
  unfold dsB sD
  rw [win_d P.dd h i hi od ed bd q]
  refine congrArg (fun z => z - _) (Finset.sum_congr rfl fun l _ => ?_)
  rw [win_o P.dob i hi oo eo bo q l, win_k P.vz h j hj ok ek bk k l]

/-! ## The offsets in closed form -/

theorem oeq9 : ∀ j : Fin k0_t2_loop.trips, k0_off9 j = ![512 * (j.val / 2), 0] := by decide +kernel
theorem oeq10 : ∀ j : Fin k0_t2_loop.trips, k0_off10 j = ![0, 512 * (j.val / 2), 0] := by decide +kernel
theorem oeq12 : ∀ j : Fin k0_t2_loop.trips, k0_off12 j = ![0, 0, 0, 512 * (j.val / 2)] := by decide +kernel
theorem oeq13 : ∀ j : Fin k0_t2_loop.trips, k0_off13 j = ![0, 512 * (j.val / 2)] := by decide +kernel
theorem oeq15 : ∀ j : Fin k0_t2_loop.trips, k0_off15 j = ![1, 512 * (j.val / 2), 0] := by decide +kernel
theorem oeq17 : ∀ j : Fin k0_t2_loop.trips, k0_off17 j = ![0, 0, 1, 512 * (j.val / 2)] := by decide +kernel
theorem oeq18 : ∀ j : Fin k0_t2_loop.trips, k0_off18 j = ![1, 512 * (j.val / 2)] := by decide +kernel
theorem oeq19 : ∀ j : Fin k0_t2_loop.trips, k0_off19 j = ![0, 512 * (j.val / 2)] := by decide +kernel
theorem oeq20 : ∀ (j : Fin k0_t2_loop.trips) (n : Fin (k0_t3_loop j).trips), k0_off20 j n = ![512 * (j.val / 2 + 1 + n.val), 0] := by decide +kernel
theorem oeq21 : ∀ (j : Fin k0_t2_loop.trips) (n : Fin (k0_t3_loop j).trips), k0_off21 j n = ![0, 512 * (j.val / 2 + 1 + n.val), 0] := by decide +kernel
theorem oeq23 : ∀ (j : Fin k0_t2_loop.trips) (n : Fin (k0_t3_loop j).trips), k0_off23 j n = ![0, 0, 0, 512 * (j.val / 2 + 1 + n.val)] := by decide +kernel
theorem oeq24 : ∀ (j : Fin k0_t2_loop.trips) (n : Fin (k0_t3_loop j).trips), k0_off24 j n = ![0, 512 * (j.val / 2 + 1 + n.val)] := by decide +kernel
theorem oeq26 : ∀ (j : Fin k0_t2_loop.trips) (n : Fin (k0_t3_loop j).trips), k0_off26 j n = ![1, 512 * (j.val / 2 + 1 + n.val), 0] := by decide +kernel
theorem oeq28 : ∀ (j : Fin k0_t2_loop.trips) (n : Fin (k0_t3_loop j).trips), k0_off28 j n = ![0, 0, 1, 512 * (j.val / 2 + 1 + n.val)] := by decide +kernel
theorem oeq29 : ∀ (j : Fin k0_t2_loop.trips) (n : Fin (k0_t3_loop j).trips), k0_off29 j n = ![1, 512 * (j.val / 2 + 1 + n.val)] := by decide +kernel
theorem oeq30 : ∀ (j : Fin k0_t2_loop.trips) (n : Fin (k0_t3_loop j).trips), k0_off30 j n = ![0, 512 * (j.val / 2 + 1 + n.val)] := by decide +kernel
theorem trips3 : ∀ j : Fin k0_t2_loop.trips, j.val / 2 + 1 + (k0_t3_loop j).trips = 4 := by decide +kernel
theorem wdiff : ∀ j : Fin k0_t2_loop.trips, Scalar.subi (w8 j) (w30 j) = BitVec.ofNat 32 (256 * (j.val % 2)) := by decide +kernel
theorem jlt (j : Fin k0_t2_loop.trips) : j.val < 8 := lt_of_lt_of_eq j.isLt trips2

/-- The mask compares the key's row and the query's row. -/
theorem mask_word (j : Fin k0_t2_loop.trips) (k : Fin 256) (q : Fin 512) (a b : EReal) :
    Scalar.select (IntOp.cmpi .sle (IntOp.addi (BitVec.ofNat 32 k.val) (Scalar.subi (w8 j) (w30 j))) (BitVec.ofNat 32 q.val)) a b
      = if (krow j.val k).val ≤ (qrow (j.val / 2) q).val then a else b := by
  have hj := jlt j
  rw [wdiff]
  have e : IntOp.addi (BitVec.ofNat 32 k.val) (BitVec.ofNat 32 (256 * (j.val % 2))) = BitVec.ofNat 32 (k.val + 256 * (j.val % 2)) := by
    show BitVec.ofNat 32 k.val + BitVec.ofNat 32 _ = _
    exact (BitVec.ofNat_add _ _).symm
  rw [e, WordCmp.cmpi_sle_ofNat (by show _ < 2 ^ 31; omega) (by show _ < 2 ^ 31; omega)]
  have e2 : (krow j.val k).val ≤ (qrow (j.val / 2) q).val ↔ k.val + 256 * (j.val % 2) ≤ q.val := by
    show (256 * j.val + k.val) % 2048 ≤ (512 * (j.val / 2) + q.val) % 2048 ↔ _
    omega
  by_cases h : k.val + 256 * (j.val % 2) ≤ q.val
  · rw [if_pos (e2.mpr h), decide_eq_true h]; rfl
  · rw [if_neg (fun h' => h (e2.mp h')), decide_eq_false h]; rfl

/-! ## The tiles on the prepared contents -/

theorem tile_p0 (P : Prep Ideal) (j : Fin k0_t2_loop.trips) (n : Fin (k0_t3_loop j).trips) (k : Fin 256) (q : Fin 512) : pB (VecWindow.window P.qa (k0_off21 j n) S1x512x128.size (k0_off21_inb j n)) (VecWindow.window P.ka (k0_off22 j) S1x256x128.size (k0_off22_inb j)) (VecWindow.window P.lse (k0_off23 j n) S1x1x1x512.size (k0_off23_inb j n)) k q = gP P 0 (krow j.val k) (qrow (j.val / 2 + 1 + n.val) q) := by
  have hj := jlt j; have h4 := trips3 j; have hn := n.isLt;
  rw [pB_win P 0 j.val (j.val / 2 + 1 + n.val) hj (by omega) _ _ _ (oeq21 j n) (k0_off22_eq j) (oeq23 j n) _ _ _ k q]
  unfold gP
  rw [if_pos (by show (256 * j.val + k.val) % 2048 ≤ (512 * (j.val / 2 + 1 + n.val) + q.val) % 2048; omega)]
theorem tile_s0 (P : Prep Ideal) (j : Fin k0_t2_loop.trips) (n : Fin (k0_t3_loop j).trips) (k : Fin 256) (q : Fin 512) : pB (VecWindow.window P.qa (k0_off21 j n) S1x512x128.size (k0_off21_inb j n)) (VecWindow.window P.ka (k0_off22 j) S1x256x128.size (k0_off22_inb j)) (VecWindow.window P.lse (k0_off23 j n) S1x1x1x512.size (k0_off23_inb j n)) k q * dsB (VecWindow.window P.dob (k0_off20 j n) S512x128.size (k0_off20_inb j n)) (VecWindow.window P.vz (k0_off22 j) S1x256x128.size (k0_off22_inb j)) (VecWindow.window P.dd (k0_off24 j n) S1x512.size (k0_off24_inb j n)) k q = gS P 0 (krow j.val k) (qrow (j.val / 2 + 1 + n.val) q) := by
  have hj := jlt j; have h4 := trips3 j; have hn := n.isLt;
  rw [tile_p0, dsB_win P 0 j.val (j.val / 2 + 1 + n.val) hj (by omega) _ _ _ (oeq20 j n) (k0_off22_eq j) (oeq24 j n) _ _ _ k q]
  rfl
theorem tileAt_dk0 (P : Prep Ideal) (j : Fin k0_t2_loop.trips) (n : Fin (k0_t3_loop j).trips) (a : Acc Ideal) (D : S128x2048.Idx → EReal) (k : Fin 256) (l : Fin 128) : (tileAt P j n a D).1.1 (ix2 k l)
    = a.1 (ix2 k l) + ∑ q : Fin 512, gS P 0 (krow j.val k) (qrow (j.val / 2 + 1 + n.val) q) * P.qa (ix3 0 (qrow (j.val / 2 + 1 + n.val) q) l) := by
  have hj := jlt j; have h4 := trips3 j; have hn := n.isLt;
  unfold tileAt
  rw [tile_dk0]
  refine congrArg (a.1 (ix2 k l) + ·) (Finset.sum_congr rfl fun q _ => ?_)
  rw [tile_s0 P j n k q, win_q P.qa 0 (j.val / 2 + 1 + n.val) (by omega) _ (oeq21 j n) _ q l]
theorem tileAt_dv0 (P : Prep Ideal) (j : Fin k0_t2_loop.trips) (n : Fin (k0_t3_loop j).trips) (a : Acc Ideal) (D : S128x2048.Idx → EReal) (k : Fin 256) (l : Fin 128) : (tileAt P j n a D).1.2.1 (ix2 k l)
    = a.2.1 (ix2 k l) + ∑ q : Fin 512, gP P 0 (krow j.val k) (qrow (j.val / 2 + 1 + n.val) q) * P.dob (ix2 (qrow (j.val / 2 + 1 + n.val) q) l) := by
  have hj := jlt j; have h4 := trips3 j; have hn := n.isLt;
  unfold tileAt
  rw [tile_dv0]
  refine congrArg (a.2.1 (ix2 k l) + ·) (Finset.sum_congr rfl fun q _ => ?_)
  rw [tile_p0 P j n k q, win_o P.dob (j.val / 2 + 1 + n.val) (by omega) _ (oeq20 j n) _ q l]
theorem tileAt_ds0 (P : Prep Ideal) (j : Fin k0_t2_loop.trips) (n : Fin (k0_t3_loop j).trips) (a : Acc Ideal) (D : S128x2048.Idx → EReal) (k : Fin 256) (l : Fin 128) : (tileAt P j n a D).1.2.2.1 (ix2 k l)
    = a.2.2.1 (ix2 k l) + gS P 0 (krow j.val k) (qrow (j.val / 2 + 1 + n.val) ⟨l.val, by omega⟩) + gS P 0 (krow j.val k) (qrow (j.val / 2 + 1 + n.val) ⟨128 + l.val, by omega⟩)
      + gS P 0 (krow j.val k) (qrow (j.val / 2 + 1 + n.val) ⟨256 + l.val, by omega⟩) + gS P 0 (krow j.val k) (qrow (j.val / 2 + 1 + n.val) ⟨384 + l.val, by omega⟩) := by
  have hj := jlt j; have h4 := trips3 j; have hn := n.isLt;
  unfold tileAt
  rw [tile_ds0, tile_s0 P j n, tile_s0 P j n, tile_s0 P j n, tile_s0 P j n]
theorem tile_p1 (P : Prep Ideal) (j : Fin k0_t2_loop.trips) (n : Fin (k0_t3_loop j).trips) (k : Fin 256) (q : Fin 512) : pB (VecWindow.window P.qa (k0_off26 j n) S1x512x128.size (k0_off26_inb j n)) (VecWindow.window P.ka (k0_off27 j) S1x256x128.size (k0_off27_inb j)) (VecWindow.window P.lse (k0_off28 j n) S1x1x1x512.size (k0_off28_inb j n)) k q = gP P 1 (krow j.val k) (qrow (j.val / 2 + 1 + n.val) q) := by
  have hj := jlt j; have h4 := trips3 j; have hn := n.isLt;
  rw [pB_win P 1 j.val (j.val / 2 + 1 + n.val) hj (by omega) _ _ _ (oeq26 j n) (k0_off27_eq j) (oeq28 j n) _ _ _ k q]
  unfold gP
  rw [if_pos (by show (256 * j.val + k.val) % 2048 ≤ (512 * (j.val / 2 + 1 + n.val) + q.val) % 2048; omega)]
theorem tile_s1 (P : Prep Ideal) (j : Fin k0_t2_loop.trips) (n : Fin (k0_t3_loop j).trips) (k : Fin 256) (q : Fin 512) : pB (VecWindow.window P.qa (k0_off26 j n) S1x512x128.size (k0_off26_inb j n)) (VecWindow.window P.ka (k0_off27 j) S1x256x128.size (k0_off27_inb j)) (VecWindow.window P.lse (k0_off28 j n) S1x1x1x512.size (k0_off28_inb j n)) k q * dsB (VecWindow.window P.dob (k0_off20 j n) S512x128.size (k0_off20_inb j n)) (VecWindow.window P.vz (k0_off27 j) S1x256x128.size (k0_off27_inb j)) (VecWindow.window P.dd (k0_off29 j n) S1x512.size (k0_off29_inb j n)) k q = gS P 1 (krow j.val k) (qrow (j.val / 2 + 1 + n.val) q) := by
  have hj := jlt j; have h4 := trips3 j; have hn := n.isLt;
  rw [tile_p1, dsB_win P 1 j.val (j.val / 2 + 1 + n.val) hj (by omega) _ _ _ (oeq20 j n) (k0_off27_eq j) (oeq29 j n) _ _ _ k q]
  rfl
theorem tileAt_dk1 (P : Prep Ideal) (j : Fin k0_t2_loop.trips) (n : Fin (k0_t3_loop j).trips) (a : Acc Ideal) (D : S128x2048.Idx → EReal) (k : Fin 256) (l : Fin 128) : (tileAt P j n a D).1.2.2.2.1 (ix2 k l)
    = a.2.2.2.1 (ix2 k l) + ∑ q : Fin 512, gS P 1 (krow j.val k) (qrow (j.val / 2 + 1 + n.val) q) * P.qa (ix3 1 (qrow (j.val / 2 + 1 + n.val) q) l) := by
  have hj := jlt j; have h4 := trips3 j; have hn := n.isLt;
  unfold tileAt
  rw [tile_dk1]
  refine congrArg (a.2.2.2.1 (ix2 k l) + ·) (Finset.sum_congr rfl fun q _ => ?_)
  rw [tile_s1 P j n k q, win_q P.qa 1 (j.val / 2 + 1 + n.val) (by omega) _ (oeq26 j n) _ q l]
theorem tileAt_dv1 (P : Prep Ideal) (j : Fin k0_t2_loop.trips) (n : Fin (k0_t3_loop j).trips) (a : Acc Ideal) (D : S128x2048.Idx → EReal) (k : Fin 256) (l : Fin 128) : (tileAt P j n a D).1.2.2.2.2.1 (ix2 k l)
    = a.2.2.2.2.1 (ix2 k l) + ∑ q : Fin 512, gP P 1 (krow j.val k) (qrow (j.val / 2 + 1 + n.val) q) * P.dob (ix2 (qrow (j.val / 2 + 1 + n.val) q) l) := by
  have hj := jlt j; have h4 := trips3 j; have hn := n.isLt;
  unfold tileAt
  rw [tile_dv1]
  refine congrArg (a.2.2.2.2.1 (ix2 k l) + ·) (Finset.sum_congr rfl fun q _ => ?_)
  rw [tile_p1 P j n k q, win_o P.dob (j.val / 2 + 1 + n.val) (by omega) _ (oeq20 j n) _ q l]
theorem tileAt_ds1 (P : Prep Ideal) (j : Fin k0_t2_loop.trips) (n : Fin (k0_t3_loop j).trips) (a : Acc Ideal) (D : S128x2048.Idx → EReal) (k : Fin 256) (l : Fin 128) : (tileAt P j n a D).1.2.2.2.2.2 (ix2 k l)
    = a.2.2.2.2.2 (ix2 k l) + gS P 1 (krow j.val k) (qrow (j.val / 2 + 1 + n.val) ⟨l.val, by omega⟩) + gS P 1 (krow j.val k) (qrow (j.val / 2 + 1 + n.val) ⟨128 + l.val, by omega⟩)
      + gS P 1 (krow j.val k) (qrow (j.val / 2 + 1 + n.val) ⟨256 + l.val, by omega⟩) + gS P 1 (krow j.val k) (qrow (j.val / 2 + 1 + n.val) ⟨384 + l.val, by omega⟩) := by
  have hj := jlt j; have h4 := trips3 j; have hn := n.isLt;
  unfold tileAt
  rw [tile_ds1, tile_s1 P j n, tile_s1 P j n, tile_s1 P j n, tile_s1 P j n]
theorem tileAt_dq (P : Prep Ideal) (j : Fin k0_t2_loop.trips) (n : Fin (k0_t3_loop j).trips) (a : Acc Ideal) (D : S128x2048.Idx → EReal) (l : Fin 128) (q : Fin 512) : (tileAt P j n a D).2 (ix2 l q) = D (ix2 l (qrow (j.val / 2 + 1 + n.val) q)) + gC P j.val l (qrow (j.val / 2 + 1 + n.val) q) := by
  have hj := jlt j; have h4 := trips3 j; have hn := n.isLt;
  unfold tileAt gC
  rw [tile_dq, win_t D (j.val / 2 + 1 + n.val) (by omega) _ (oeq30 j n) _ q l]
  refine congrArg (fun z => _ + z * _) (congrArg₂ (fun x y => if 64 ≤ l.val then x else y) (Finset.sum_congr rfl fun k _ => ?_) (Finset.sum_congr rfl fun k _ => ?_))
  · rw [tile_s1 P j n k q, win_kt P.kt j.val hj _ (k0_off25_eq j) _ k l]
  · rw [tile_s0 P j n k q, win_kt P.kt j.val hj _ (k0_off25_eq j) _ k l]
theorem diag_p0 (P : Prep Ideal) (j : Fin k0_t2_loop.trips) (k : Fin 256) (q : Fin 512) : pM (w8 j) (w30 j) (VecWindow.window P.qa (k0_off10 j) S1x512x128.size (k0_off10_inb j)) (VecWindow.window P.ka (k0_off11 j) S1x256x128.size (k0_off11_inb j)) (VecWindow.window P.lse (k0_off12 j) S1x1x1x512.size (k0_off12_inb j)) k q = gP P 0 (krow j.val k) (qrow (j.val / 2) q) := by
  have hj := jlt j; have h4 := trips3 j;
  unfold pM
  rw [mask_word, pB_win P 0 j.val (j.val / 2) hj (by omega) _ _ _ (oeq10 j) (k0_off11_eq j) (oeq12 j) _ _ _ k q]
  rfl
theorem diag_s0 (P : Prep Ideal) (j : Fin k0_t2_loop.trips) (k : Fin 256) (q : Fin 512) : pM (w8 j) (w30 j) (VecWindow.window P.qa (k0_off10 j) S1x512x128.size (k0_off10_inb j)) (VecWindow.window P.ka (k0_off11 j) S1x256x128.size (k0_off11_inb j)) (VecWindow.window P.lse (k0_off12 j) S1x1x1x512.size (k0_off12_inb j)) k q * dsB (VecWindow.window P.dob (k0_off9 j) S512x128.size (k0_off9_inb j)) (VecWindow.window P.vz (k0_off11 j) S1x256x128.size (k0_off11_inb j)) (VecWindow.window P.dd (k0_off13 j) S1x512.size (k0_off13_inb j)) k q = gS P 0 (krow j.val k) (qrow (j.val / 2) q) := by
  have hj := jlt j; have h4 := trips3 j;
  rw [diag_p0, dsB_win P 0 j.val (j.val / 2) hj (by omega) _ _ _ (oeq9 j) (k0_off11_eq j) (oeq13 j) _ _ _ k q]
  rfl
theorem diagAt_dk0 (P : Prep Ideal) (j : Fin k0_t2_loop.trips) (D : S128x2048.Idx → EReal) (k : Fin 256) (l : Fin 128) : (diagAt P j D).1.1 (ix2 k l)
    = ∑ q : Fin 512, gS P 0 (krow j.val k) (qrow (j.val / 2) q) * P.qa (ix3 0 (qrow (j.val / 2) q) l) := by
  have hj := jlt j; have h4 := trips3 j;
  unfold diagAt
  rw [diag_dk0]
  refine Finset.sum_congr rfl fun q _ => ?_
  rw [diag_s0 P j k q, win_q P.qa 0 (j.val / 2) (by omega) _ (oeq10 j) _ q l]
theorem diagAt_dv0 (P : Prep Ideal) (j : Fin k0_t2_loop.trips) (D : S128x2048.Idx → EReal) (k : Fin 256) (l : Fin 128) : (diagAt P j D).1.2.1 (ix2 k l)
    = ∑ q : Fin 512, gP P 0 (krow j.val k) (qrow (j.val / 2) q) * P.dob (ix2 (qrow (j.val / 2) q) l) := by
  have hj := jlt j; have h4 := trips3 j;
  unfold diagAt
  rw [diag_dv0]
  refine Finset.sum_congr rfl fun q _ => ?_
  rw [diag_p0 P j k q, win_o P.dob (j.val / 2) (by omega) _ (oeq9 j) _ q l]
theorem diagAt_ds0 (P : Prep Ideal) (j : Fin k0_t2_loop.trips) (D : S128x2048.Idx → EReal) (k : Fin 256) (l : Fin 128) : (diagAt P j D).1.2.2.1 (ix2 k l)
    = gS P 0 (krow j.val k) (qrow (j.val / 2) ⟨l.val, by omega⟩) + gS P 0 (krow j.val k) (qrow (j.val / 2) ⟨128 + l.val, by omega⟩)
      + gS P 0 (krow j.val k) (qrow (j.val / 2) ⟨256 + l.val, by omega⟩) + gS P 0 (krow j.val k) (qrow (j.val / 2) ⟨384 + l.val, by omega⟩) := by
  have hj := jlt j; have h4 := trips3 j;
  unfold diagAt
  rw [diag_ds0, diag_s0 P j, diag_s0 P j, diag_s0 P j, diag_s0 P j]
theorem diag_p1 (P : Prep Ideal) (j : Fin k0_t2_loop.trips) (k : Fin 256) (q : Fin 512) : pM (w8 j) (w30 j) (VecWindow.window P.qa (k0_off15 j) S1x512x128.size (k0_off15_inb j)) (VecWindow.window P.ka (k0_off16 j) S1x256x128.size (k0_off16_inb j)) (VecWindow.window P.lse (k0_off17 j) S1x1x1x512.size (k0_off17_inb j)) k q = gP P 1 (krow j.val k) (qrow (j.val / 2) q) := by
  have hj := jlt j; have h4 := trips3 j;
  unfold pM
  rw [mask_word, pB_win P 1 j.val (j.val / 2) hj (by omega) _ _ _ (oeq15 j) (k0_off16_eq j) (oeq17 j) _ _ _ k q]
  rfl
theorem diag_s1 (P : Prep Ideal) (j : Fin k0_t2_loop.trips) (k : Fin 256) (q : Fin 512) : pM (w8 j) (w30 j) (VecWindow.window P.qa (k0_off15 j) S1x512x128.size (k0_off15_inb j)) (VecWindow.window P.ka (k0_off16 j) S1x256x128.size (k0_off16_inb j)) (VecWindow.window P.lse (k0_off17 j) S1x1x1x512.size (k0_off17_inb j)) k q * dsB (VecWindow.window P.dob (k0_off9 j) S512x128.size (k0_off9_inb j)) (VecWindow.window P.vz (k0_off16 j) S1x256x128.size (k0_off16_inb j)) (VecWindow.window P.dd (k0_off18 j) S1x512.size (k0_off18_inb j)) k q = gS P 1 (krow j.val k) (qrow (j.val / 2) q) := by
  have hj := jlt j; have h4 := trips3 j;
  rw [diag_p1, dsB_win P 1 j.val (j.val / 2) hj (by omega) _ _ _ (oeq9 j) (k0_off16_eq j) (oeq18 j) _ _ _ k q]
  rfl
theorem diagAt_dk1 (P : Prep Ideal) (j : Fin k0_t2_loop.trips) (D : S128x2048.Idx → EReal) (k : Fin 256) (l : Fin 128) : (diagAt P j D).1.2.2.2.1 (ix2 k l)
    = ∑ q : Fin 512, gS P 1 (krow j.val k) (qrow (j.val / 2) q) * P.qa (ix3 1 (qrow (j.val / 2) q) l) := by
  have hj := jlt j; have h4 := trips3 j;
  unfold diagAt
  rw [diag_dk1]
  refine Finset.sum_congr rfl fun q _ => ?_
  rw [diag_s1 P j k q, win_q P.qa 1 (j.val / 2) (by omega) _ (oeq15 j) _ q l]
theorem diagAt_dv1 (P : Prep Ideal) (j : Fin k0_t2_loop.trips) (D : S128x2048.Idx → EReal) (k : Fin 256) (l : Fin 128) : (diagAt P j D).1.2.2.2.2.1 (ix2 k l)
    = ∑ q : Fin 512, gP P 1 (krow j.val k) (qrow (j.val / 2) q) * P.dob (ix2 (qrow (j.val / 2) q) l) := by
  have hj := jlt j; have h4 := trips3 j;
  unfold diagAt
  rw [diag_dv1]
  refine Finset.sum_congr rfl fun q _ => ?_
  rw [diag_p1 P j k q, win_o P.dob (j.val / 2) (by omega) _ (oeq9 j) _ q l]
theorem diagAt_ds1 (P : Prep Ideal) (j : Fin k0_t2_loop.trips) (D : S128x2048.Idx → EReal) (k : Fin 256) (l : Fin 128) : (diagAt P j D).1.2.2.2.2.2 (ix2 k l)
    = gS P 1 (krow j.val k) (qrow (j.val / 2) ⟨l.val, by omega⟩) + gS P 1 (krow j.val k) (qrow (j.val / 2) ⟨128 + l.val, by omega⟩)
      + gS P 1 (krow j.val k) (qrow (j.val / 2) ⟨256 + l.val, by omega⟩) + gS P 1 (krow j.val k) (qrow (j.val / 2) ⟨384 + l.val, by omega⟩) := by
  have hj := jlt j; have h4 := trips3 j;
  unfold diagAt
  rw [diag_ds1, diag_s1 P j, diag_s1 P j, diag_s1 P j, diag_s1 P j]
theorem diagAt_dq (P : Prep Ideal) (j : Fin k0_t2_loop.trips) (D : S128x2048.Idx → EReal) (l : Fin 128) (q : Fin 512) : (diagAt P j D).2 (ix2 l q) = D (ix2 l (qrow (j.val / 2) q)) + gC P j.val l (qrow (j.val / 2) q) := by
  have hj := jlt j; have h4 := trips3 j;
  unfold diagAt gC
  rw [diag_dq, win_t D (j.val / 2) (by omega) _ (oeq19 j) _ q l]
  refine congrArg (fun z => _ + z * _) (congrArg₂ (fun x y => if 64 ≤ l.val then x else y) (Finset.sum_congr rfl fun k _ => ?_) (Finset.sum_congr rfl fun k _ => ?_))
  · rw [diag_s1 P j k q, win_kt P.kt j.val hj _ (k0_off14_eq j) _ k l]
  · rw [diag_s0 P j k q, win_kt P.kt j.val hj _ (k0_off14_eq j) _ k l]

/-! ## The row block -/

/-- The accumulators hold the sums over the first `i` query blocks. -/
structure Sums (P : Prep Ideal) (j : Fin k0_t2_loop.trips) (a : Acc Ideal) (i : ℕ) : Prop where
  dk0 : ∀ (k : Fin 256) (l : Fin 128), a.1 (ix2 k l) = pre (fun q => gS P 0 (krow j.val k) q * P.qa (ix3 0 q l)) (512 * i)
  dv0 : ∀ (k : Fin 256) (l : Fin 128), a.2.1 (ix2 k l) = pre (fun q => gP P 0 (krow j.val k) q * P.dob (ix2 q l)) (512 * i)
  ds0 : ∀ (k : Fin 256) (l : Fin 128), a.2.2.1 (ix2 k l) = lan (fun q => gS P 0 (krow j.val k) q) (4 * i) l.val
  dk1 : ∀ (k : Fin 256) (l : Fin 128), a.2.2.2.1 (ix2 k l) = pre (fun q => gS P 1 (krow j.val k) q * P.qa (ix3 1 q l)) (512 * i)
  dv1 : ∀ (k : Fin 256) (l : Fin 128), a.2.2.2.2.1 (ix2 k l) = pre (fun q => gP P 1 (krow j.val k) q * P.dob (ix2 q l)) (512 * i)
  ds1 : ∀ (k : Fin 256) (l : Fin 128), a.2.2.2.2.2 (ix2 k l) = lan (fun q => gS P 1 (krow j.val k) q) (4 * i) l.val

theorem diag_sums (P : Prep Ideal) (j : Fin k0_t2_loop.trips) (D : S128x2048.Idx → EReal) : Sums P j (diagAt P j D).1 (j.val / 2 + 1) := by
  have hj := jlt j
  have hz : ∀ (h : Fin 2) (k : Fin 256) (x : Fin 2048), x.val < 512 * (j.val / 2) → gP P h (krow j.val k) x = 0 := fun h k x hx =>
    gP_zero P h _ x (by show x.val < (256 * j.val + k.val) % 2048; omega)
  have hs : ∀ (h : Fin 2) (k : Fin 256) (x : Fin 2048), x.val < 512 * (j.val / 2) → gS P h (krow j.val k) x = 0 := fun h k x hx =>
    gS_zero P h _ x (by show x.val < (256 * j.val + k.val) % 2048; omega)
  constructor
  · intro k l; rw [diagAt_dk0, pre_succ _ _ (by omega), pre_zero _ _ (fun x hx => by rw [hs 0 k x hx, zero_mul]), zero_add]
  · intro k l; rw [diagAt_dv0, pre_succ _ _ (by omega), pre_zero _ _ (fun x hx => by rw [hz 0 k x hx, zero_mul]), zero_add]
  · intro k l; rw [diagAt_ds0, lan_succ _ _ (by omega) l, lan_zero _ _ _ l.isLt (fun x hx => hs 0 k x hx), zero_add]
  · intro k l; rw [diagAt_dk1, pre_succ _ _ (by omega), pre_zero _ _ (fun x hx => by rw [hs 1 k x hx, zero_mul]), zero_add]
  · intro k l; rw [diagAt_dv1, pre_succ _ _ (by omega), pre_zero _ _ (fun x hx => by rw [hz 1 k x hx, zero_mul]), zero_add]
  · intro k l; rw [diagAt_ds1, lan_succ _ _ (by omega) l, lan_zero _ _ _ l.isLt (fun x hx => hs 1 k x hx), zero_add]

theorem tile_sums (P : Prep Ideal) (j : Fin k0_t2_loop.trips) (n : Fin (k0_t3_loop j).trips) (a : Acc Ideal) (D : S128x2048.Idx → EReal)
    (h : Sums P j a (j.val / 2 + 1 + n.val)) : Sums P j (tileAt P j n a D).1 (j.val / 2 + 1 + n.val + 1) := by
  have h4 := trips3 j
  have hn := n.isLt
  constructor
  · intro k l; rw [tileAt_dk0, pre_succ _ _ (by omega), h.dk0]
  · intro k l; rw [tileAt_dv0, pre_succ _ _ (by omega), h.dv0]
  · intro k l; rw [tileAt_ds0, lan_succ _ _ (by omega) l, h.ds0]
  · intro k l; rw [tileAt_dk1, pre_succ _ _ (by omega), h.dk1]
  · intro k l; rw [tileAt_dv1, pre_succ _ _ (by omega), h.dv1]
  · intro k l; rw [tileAt_ds1, lan_succ _ _ (by omega) l, h.ds1]

theorem put_t (P : Prep Ideal) (j i : ℕ) (hi : i < 4) (D0 D : S128x2048.Idx → EReal) (w : S128x512.Idx → EReal) (off : Fin 2 → ℕ)
    (e : off = ![0, 512 * i]) (g : Fin 128 → Fin 2048 → EReal)
    (hD : ∀ l q, D (ix2 l q) = if q.val < 512 * i then D0 (ix2 l q) + g l q else D0 (ix2 l q))
    (hw : ∀ l q, w (ix2 l q) = D (ix2 l (qrow i q)) + g l (qrow i q)) (l : Fin 128) (q : Fin 2048) :
    VecWindow.put D off S128x512.size w (ix2 l q) = if q.val < 512 * (i + 1) then D0 (ix2 l q) + g l q else D0 (ix2 l q) := by
  subst e
  by_cases h : 512 * i ≤ q.val ∧ q.val < 512 * i + 512
  · rw [put_hit _ _ _ _ (ix2 l q) ?_ (ix2 l (⟨q.val - 512 * i, by omega⟩ : Fin 512) : S128x512.Idx) ?_, hw, if_pos (by omega)]
    · have eq : qrow i (⟨q.val - 512 * i, by omega⟩ : Fin 512) = q := Fin.ext (by show (512 * i + (q.val - 512 * i)) % 2048 = q.val; omega)
      rw [eq, hD, if_neg (by omega)]
    · intro a
      match a with
      | ⟨0, _⟩ => show 0 ≤ l.val ∧ l.val < 0 + 128; omega
      | ⟨1, _⟩ => exact h
    · intro a
      match a with
      | ⟨0, _⟩ => show l.val = l.val - 0; omega
      | ⟨1, _⟩ => rfl
  · rw [put_miss _ _ _ _ (ix2 l q) (1 : Fin 2) (by show q.val < 512 * i ∨ 512 * i + 512 ≤ q.val; omega), hD]
    by_cases h2 : q.val < 512 * i
    · rw [if_pos h2, if_pos (by omega)]
    · rw [if_neg h2, if_neg (by omega)]

theorem st3_val (P : Prep Ideal) (j : Fin k0_t2_loop.trips) (D : S128x2048.Idx → EReal) (n : ℕ) (hn : n ≤ (k0_t3_loop j).trips) :
    Sums P j (st3 P j (diagAt P j D).1 (VecWindow.put D (k0_off19 j) S128x512.size (diagAt P j D).2) n).1 (j.val / 2 + 1 + n)
    ∧ ∀ l q, (st3 P j (diagAt P j D).1 (VecWindow.put D (k0_off19 j) S128x512.size (diagAt P j D).2) n).2 (ix2 l q)
      = if q.val < 512 * (j.val / 2 + 1 + n) then D (ix2 l q) + gC P j.val l q else D (ix2 l q) := by
  have hj := jlt j
  have h4 := trips3 j
  induction n with
  | zero =>
    refine ⟨diag_sums P j D, fun l q => ?_⟩
    refine put_t P j.val (j.val / 2) (by omega) D D _ _ (oeq19 j) (gC P j.val) ?_ (fun l q => diagAt_dq P j D l q) l q
    intro l q
    by_cases h : q.val < 512 * (j.val / 2)
    · rw [if_pos h, gC_zero P j.val hj l q (by omega), add_zero]
    · rw [if_neg h]
  | succ n ih =>
    obtain ⟨h1, h2⟩ := ih (by omega)
    have e : st3 P j (diagAt P j D).1 (VecWindow.put D (k0_off19 j) S128x512.size (diagAt P j D).2) (n + 1) = _ :=
      st3_succ P j (diagAt P j D).1 (VecWindow.put D (k0_off19 j) S128x512.size (diagAt P j D).2) ⟨n, by omega⟩
    rw [e]
    refine ⟨tile_sums P j ⟨n, by omega⟩ _ (st3 P j (diagAt P j D).1 (VecWindow.put D (k0_off19 j) S128x512.size (diagAt P j D).2) n).2 h1, fun l q => ?_⟩
    exact put_t P j.val (j.val / 2 + 1 + n) (by omega) D _ _ _ (oeq30 j ⟨n, by omega⟩) (gC P j.val) h2
      (fun l q => tileAt_dq P j ⟨n, by omega⟩ _ _ l q) l q

theorem rowEnd_val (P : Prep Ideal) (j : Fin k0_t2_loop.trips) (D : S128x2048.Idx → EReal) :
    Sums P j (rowEnd P j D).1 4 ∧ ∀ l q, (rowEnd P j D).2 (ix2 l q) = D (ix2 l q) + gC P j.val l q := by
  have h := st3_val P j D (k0_t3_loop j).trips le_rfl
  rw [trips3 j] at h
  refine ⟨h.1, fun l q => ?_⟩
  have e := h.2 l q
  rw [if_pos (by omega)] at e
  exact e

theorem stD_val (P : Prep Ideal) (D : S128x2048.Idx → EReal) (n : ℕ) (hn : n ≤ 8) (l : Fin 128) (q : Fin 2048) :
    stD P D n (ix2 l q) = D (ix2 l q) + ∑ j ∈ Finset.range n, gC P j l q := by
  induction n with
  | zero => simp [stD]
  | succ n ih =>
    have e : stD P D (n + 1) = _ := stD_succ P D ⟨n, by rw [trips2]; omega⟩
    rw [e, (rowEnd_val P _ _).2, ih (by omega), Finset.sum_range_succ, add_assoc]

end Cert.Proof.Attn

end
-- ==== Proof.PrepVal.lean ====
/-
  The prepared contents over the extended reals, and their products when the kernel's operands are real numbers.
-/
module

public import proofs.«01_k».proof.Proof.RowVal

@[expose] public section

set_option maxRecDepth 16384

noncomputable section

namespace Cert.Proof.Attn

open Cert.KernelIdeal Cert.KernelIdeal.Gen
open Idealize.ShloMosaic Idealize.ShloMosaic.TcCoe
open scoped BigOperators

/-! ## Lanes -/

theorem sel_lo (α : Type) (l : Fin 128) (a b : α) : Scalar.select (IntOp.andi (IntOp.cmpi .sge (BitVec.ofNat 32 l.val) 0#32) (IntOp.cmpi .slt (BitVec.ofNat 32 l.val) 64#32)) a b
    = if l.val < 64 then a else b := by
  have h : IntOp.andi (IntOp.cmpi .sge (BitVec.ofNat 32 l.val) 0#32) (IntOp.cmpi .slt (BitVec.ofNat 32 l.val) 64#32) = if l.val < 64 then 1#1 else 0#1 := by
    revert l; decide +kernel
  rw [h]
  by_cases e : l.val < 64
  · rw [if_pos e, if_pos e]; rfl
  · rw [if_neg e, if_neg e]; rfl

theorem sel_one (α : Type) (l : Fin 128) (c : Fin 128) (a b : α) : Scalar.select (IntOp.cmpi .eq (BitVec.ofNat 32 l.val) (BitVec.ofNat 32 c.val)) a b
    = if l.val = c.val then a else b := by
  have h : IntOp.cmpi .eq (BitVec.ofNat 32 l.val) (BitVec.ofNat 32 c.val) = if l.val = c.val then 1#1 else 0#1 := by
    revert l c; decide +kernel
  rw [h]
  by_cases e : l.val = c.val
  · rw [if_pos e, if_pos e]; rfl
  · rw [if_neg e, if_neg e]; rfl

theorem flag0 : ∀ l : Fin 128, (BitVec.setWidth 32 (IntOp.andi (IntOp.cmpi .sge (BitVec.ofNat 32 l.val) 64#32) (IntOp.cmpi .slt (BitVec.ofNat 32 l.val) 67#32))).toInt
    = if 64 ≤ l.val ∧ l.val < 67 then 1 else 0 := by decide +kernel
theorem flag1 : ∀ l : Fin 128, (BitVec.setWidth 32 (IntOp.andi (IntOp.cmpi .sge (BitVec.ofNat 32 l.val) 0#32) (IntOp.cmpi .slt (BitVec.ofNat 32 l.val) 3#32))).toInt
    = if l.val < 3 then 1 else 0 := by decide +kernel

section Rows
variable (k q v : Vec Ideal S256x128 .f32) (c : Vec Ideal S1x256x1 .f32) (r : Fin 256) (l : Fin 128)

theorem ka0_at : ka0 k c (ix3 0 r l) = if l.val < 64 then k (ix2 r l) else if l.val = 64 then 0 - c (ix3 0 r 0)
    else if l.val = 65 then 0 - (c (ix3 0 r 0) - c (ix3 0 r 0))
    else if l.val = 66 then 0 - (c (ix3 0 r 0) - c (ix3 0 r 0) - (c (ix3 0 r 0) - c (ix3 0 r 0))) else 0 := by
  have e64 := fun (a b : EReal) => sel_one EReal l 64 a b
  have e65 := fun (a b : EReal) => sel_one EReal l 65 a b
  have e66 := fun (a b : EReal) => sel_one EReal l 66 a b
  pointwise [ka0, k0_pay15, k0_pay8, k0_pay10, k0_pay11, k0_pay12, k0_pay13, k0_pay14, k0_pay7, k0_pay9, iotaL]
  rw [sel_lo]
  refine congrArg₂ (fun x y => if l.val < 64 then x else y) rfl ((e64 _ _).trans ?_)
  refine congrArg₂ (fun x y => if l.val = 64 then x else y) rfl ((e65 _ _).trans ?_)
  exact congrArg₂ (fun x y => if l.val = 65 then x else y) rfl (e66 _ _)
theorem ka1_at : ka1 k c (ix3 0 r l) = if 64 ≤ l.val then k (ix2 r l) else if l.val = 0 then 0 - c (ix3 0 r 0)
    else if l.val = 1 then 0 - (c (ix3 0 r 0) - c (ix3 0 r 0))
    else if l.val = 2 then 0 - (c (ix3 0 r 0) - c (ix3 0 r 0) - (c (ix3 0 r 0) - c (ix3 0 r 0))) else 0 := by
  have e64 := fun (a b : EReal) => sel_one EReal l 0 a b
  have e65 := fun (a b : EReal) => sel_one EReal l 1 a b
  have e66 := fun (a b : EReal) => sel_one EReal l 2 a b
  pointwise [ka1, k0_pay27, k0_pay23, k0_pay24, k0_pay25, k0_pay26, iotaL]
  rw [sel_hi]
  refine congrArg₂ (fun x y => if 64 ≤ l.val then x else y) rfl ((e64 _ _).trans ?_)
  refine congrArg₂ (fun x y => if l.val = 0 then x else y) rfl ((e65 _ _).trans ?_)
  exact congrArg₂ (fun x y => if l.val = 1 then x else y) rfl (e66 _ _)
theorem qa0_at : qa0 q (ix3 0 r l) = if l.val < 64 then q (ix2 r l) * sc else if 64 ≤ l.val ∧ l.val < 67 then 1 else 0 := by
  pointwise [qa0, k0_pay19, k0_pay16, k0_pay17, k0_pay18, iotaL]
  rw [sel_lo]
  refine congrArg₂ (fun x y => if l.val < 64 then x else y) rfl ?_
  refine (congrArg (fun z : ℤ => ((z : ℝ) : EReal)) (flag0 l)).trans ?_
  split <;> norm_num
theorem qa1_at : qa1 q (ix3 0 r l) = if 64 ≤ l.val then q (ix2 r l) * sc else if l.val < 3 then 1 else 0 := by
  pointwise [qa1, k0_pay30, k0_pay28, k0_pay29, iotaL]
  rw [sel_hi]
  refine congrArg₂ (fun x y => if 64 ≤ l.val then x else y) rfl ?_
  refine (congrArg (fun z : ℤ => ((z : ℝ) : EReal)) (flag1 l)).trans ?_
  split <;> norm_num
theorem vz0_at : vz0 v (ix3 0 r l) = if l.val < 64 then v (ix2 r l) else 0 := by
  pointwise [vz0, k0_pay20, k0_pay6, iotaL, sel_lo]
theorem vz1_at : vz1 v (ix3 0 r l) = if 64 ≤ l.val then v (ix2 r l) else 0 := by
  pointwise [vz1, k0_pay31, k0_pay22, iotaL, sel_hi]
theorem dd0_at (d : Vec Ideal S256x128 .bf16) : dd0 d q (ix2 0 r) = ∑ x : Fin 64, d (ix2 r ⟨x.val, by omega⟩) * q (ix2 r ⟨x.val, by omega⟩) := by
  pointwise [dd0, k0_pay21, k0_pay5, iotaL]
theorem dd1_at (d : Vec Ideal S256x128 .bf16) : dd1 d q (ix2 0 r) = ∑ x : Fin 64, d (ix2 r ⟨64 + x.val, by omega⟩) * q (ix2 r ⟨64 + x.val, by omega⟩) := by
  pointwise [dd1, k0_pay32, k0_pay5, iotaL]
theorem kt_at : k0_pay33 k (ix2 l r) = k (ix2 r l) := by
  pointwise [k0_pay33]
theorem z34_at : k0_pay34 (F := Ideal) (ix2 l r) = 0 := by
  pointwise [k0_pay34]
theorem p4_at (x : Vec Ideal S128x256 .f32) : k0_pay4 x (ix2 r l) = x (ix2 l r) := by
  pointwise [k0_pay4]
theorem outK_at (a : Acc Ideal) : outK a (ix2 r l) = if 64 ≤ l.val then a.2.2.2.1 (ix2 r l) else a.1 (ix2 r l) := by
  pointwise [outK, k0_pay1, k0_pay101, k0_pay100, iotaL, sel_hi]
theorem outV_at (a : Acc Ideal) : outV a (ix2 r l) = if 64 ≤ l.val then a.2.2.2.2.1 (ix2 r l) else a.2.1 (ix2 r l) := by
  pointwise [outV, k0_pay2, k0_pay102, k0_pay100, iotaL, sel_hi]
theorem outC_at (a : Acc Ideal) : outC a (ix3 0 r l) = (if l.val = 0 then 0 - ∑ x : Fin 128, a.2.2.1 (ix2 r x) else 0)
    + (if l.val = 1 then 0 - ∑ x : Fin 128, a.2.2.2.2.2 (ix2 r x) else 0) := by
  have e0 := fun (a b : EReal) => sel_one EReal l 0 a b
  have e1 := fun (a b : EReal) => sel_one EReal l 1 a b
  pointwise [outC, k0_pay3, k0_pay99, k0_pay103, k0_pay104, k0_pay105, iotaL]
  exact congrArg₂ (· + ·) (e0 _ _) (e1 _ _)

end Rows

/-! ## The whole contents -/

theorem row_eq (r : Fin 2048) : 256 * (blk1 r).val + (inBlk r).val = r.val := by
  show 256 * (r.val / 256) + r.val % 256 = r.val; omega

theorem win_rows (x : S2048x128.Idx → EReal) (r : Fin 2048) (l : Fin 128) (off : Fin 2 → ℕ) (e : off = ![256 * (blk1 r).val, 0])
    (inb : ∀ a, off a + S256x128.size a ≤ S2048x128.size a) : VecWindow.window x off S256x128.size inb (ix2 (inBlk r) l) = x (ix2 r l) := by
  refine win _ _ _ _ _ _ ?_
  subst e
  have h := row_eq r
  intro a
  match a with
  | ⟨0, _⟩ => exact h.symm
  | ⟨1, _⟩ => show l.val = 0 + l.val; omega
theorem win_cum (x : S1x2048x128.Idx → EReal) (r : Fin 2048) (c : Fin 128) (off : Fin 3 → ℕ) (e : off = ![0, 256 * (blk1 r).val, c.val])
    (inb : ∀ a, off a + S1x256x1.size a ≤ S1x2048x128.size a) : VecWindow.window x off S1x256x1.size inb (ix3 0 (inBlk r) 0) = x (ix3 0 r c) := by
  refine win _ _ _ _ _ _ ?_
  subst e
  have h := row_eq r
  intro a
  match a with
  | ⟨0, _⟩ => rfl
  | ⟨1, _⟩ => exact h.symm
  | ⟨2, _⟩ => rfl
theorem rowsF_at (x : S2048x128.Idx → EReal) (r : Fin 2048) (l : Fin 128) : rowsF (F := Ideal) x (blk1 r) (ix2 (inBlk r) l) = x (ix2 r l) :=
  win_rows x r l _ (k0_off1_eq _) _
theorem cum0_at (x : S1x2048x128.Idx → EReal) (r : Fin 2048) : cum0 (F := Ideal) x (blk1 r) (ix3 0 (inBlk r) 0) = x (ix3 0 r 0) :=
  win_cum x r 0 _ (k0_off2_eq _) _
theorem cum1_at (x : S1x2048x128.Idx → EReal) (r : Fin 2048) : cum1 (F := Ideal) x (blk1 r) (ix3 0 (inBlk r) 0) = x (ix3 0 r 1) :=
  win_cum x r 1 _ (k0_off5_eq _) _

section Whole
variable (X : Ins Ideal) (r : Fin 2048) (l : Fin 128)

theorem KA0_at : KA X (ix3 0 r l) = if l.val < 64 then X.k (ix2 r l) else if l.val = 64 then 0 - X.cum (ix3 0 r 0)
    else if l.val = 65 then 0 - (X.cum (ix3 0 r 0) - X.cum (ix3 0 r 0))
    else if l.val = 66 then 0 - (X.cum (ix3 0 r 0) - X.cum (ix3 0 r 0) - (X.cum (ix3 0 r 0) - X.cum (ix3 0 r 0))) else 0 := by
  have e : KA X (ix3 0 r l) = ka0 (rowsF X.k (blk1 r)) (cum0 X.cum (blk1 r)) (ix3 0 (inBlk r) l) := rfl
  rw [e, ka0_at, rowsF_at, cum0_at]
theorem KA1_at : KA X (ix3 1 r l) = if 64 ≤ l.val then X.k (ix2 r l) else if l.val = 0 then 0 - X.cum (ix3 0 r 1)
    else if l.val = 1 then 0 - (X.cum (ix3 0 r 1) - X.cum (ix3 0 r 1))
    else if l.val = 2 then 0 - (X.cum (ix3 0 r 1) - X.cum (ix3 0 r 1) - (X.cum (ix3 0 r 1) - X.cum (ix3 0 r 1))) else 0 := by
  have e : KA X (ix3 1 r l) = ka1 (rowsF X.k (blk1 r)) (cum1 X.cum (blk1 r)) (ix3 0 (inBlk r) l) := rfl
  rw [e, ka1_at, rowsF_at, cum1_at]
theorem QA0_at : QA X (ix3 0 r l) = if l.val < 64 then X.q (ix2 r l) * sc else if 64 ≤ l.val ∧ l.val < 67 then 1 else 0 := by
  have e : QA X (ix3 0 r l) = qa0 (rowsF X.q (blk1 r)) (ix3 0 (inBlk r) l) := rfl
  rw [e, qa0_at, rowsF_at]
theorem QA1_at : QA X (ix3 1 r l) = if 64 ≤ l.val then X.q (ix2 r l) * sc else if l.val < 3 then 1 else 0 := by
  have e : QA X (ix3 1 r l) = qa1 (rowsF X.q (blk1 r)) (ix3 0 (inBlk r) l) := rfl
  rw [e, qa1_at, rowsF_at]
theorem VZ0_at : VZ X (ix3 0 r l) = if l.val < 64 then X.v (ix2 r l) else 0 := by
  have e : VZ X (ix3 0 r l) = vz0 (rowsF X.v (blk1 r)) (ix3 0 (inBlk r) l) := rfl
  rw [e, vz0_at, rowsF_at]
theorem VZ1_at : VZ X (ix3 1 r l) = if 64 ≤ l.val then X.v (ix2 r l) else 0 := by
  have e : VZ X (ix3 1 r l) = vz1 (rowsF X.v (blk1 r)) (ix3 0 (inBlk r) l) := rfl
  rw [e, vz1_at, rowsF_at]
theorem DD0_at : DD X (ix2 0 r) = ∑ x : Fin 64, X.dob (ix2 r ⟨x.val, by omega⟩) * X.o (ix2 r ⟨x.val, by omega⟩) := by
  have e : DD X (ix2 0 r) = dd0 (rowsB X.dob (blk1 r)) (rowsF X.o (blk1 r)) (ix2 0 (inBlk r)) := rfl
  rw [e, dd0_at]
  exact Finset.sum_congr rfl fun x _ => congrArg₂ (· * ·) (rowsF_at X.dob r _) (rowsF_at X.o r _)
theorem DD1_at : DD X (ix2 1 r) = ∑ x : Fin 64, X.dob (ix2 r ⟨64 + x.val, by omega⟩) * X.o (ix2 r ⟨64 + x.val, by omega⟩) := by
  have e : DD X (ix2 1 r) = dd1 (rowsB X.dob (blk1 r)) (rowsF X.o (blk1 r)) (ix2 0 (inBlk r)) := rfl
  rw [e, dd1_at]
  exact Finset.sum_congr rfl fun x _ => congrArg₂ (· * ·) (rowsF_at X.dob r _) (rowsF_at X.o r _)
theorem KT_at : KT X (ix2 l r) = X.k (ix2 r l) := by
  have e : KT X (ix2 l r) = k0_pay33 (rowsF X.k (blk1 r)) (ix2 l (inBlk r)) := rfl
  rw [e, kt_at, rowsF_at]
theorem D0_at : D0 (F := Ideal) (ix2 l r) = 0 := z34_at _ _

end Whole

end Cert.Proof.Attn

end
-- ==== Proof.OutVal.lean ====
/-
  What the kernel stores, when its operands are real numbers: the attention's gradients as sums of real numbers.
-/
module

public import proofs.«01_k».proof.Proof.PrepVal

@[expose] public section

set_option maxRecDepth 16384

noncomputable section

namespace Cert.Proof.Attn

open Cert.KernelIdeal Cert.KernelIdeal.Gen
open Idealize.ShloMosaic Idealize.ShloMosaic.TcCoe
open scoped BigOperators

/-! ## The stored blocks as sums -/

theorem krow_row (r : Fin 2048) : krow (blk2 r).val (inBlk r) = r :=
  Fin.ext (by show (256 * (r.val / 256) + r.val % 256) % 2048 = r.val; omega)

section Stored
variable (X : Ins Ideal) (r : Fin 2048) (l : Fin 128)

theorem accs_sums (j : Fin k0_t2_loop.trips) : Sums (prep X) j (accs X j) 4 := (rowEnd_val _ _ _).1

theorem resK_at : resK X (ix2 r l) = if 64 ≤ l.val then ∑ q, gS (prep X) 1 r q * QA X (ix3 1 q l) else ∑ q, gS (prep X) 0 r q * QA X (ix3 0 q l) := by
  have e : resK X (ix2 r l) = outK (accs X (blk2 r)) (ix2 (inBlk r) l) := rfl
  have s := accs_sums X (blk2 r)
  rw [e, outK_at, s.dk0, s.dk1, krow_row, show 512 * 4 = 2048 from rfl, pre_all, pre_all]
  rfl
theorem resV_at : resV X (ix2 r l) = if 64 ≤ l.val then ∑ q, gP (prep X) 1 r q * X.dob (ix2 q l) else ∑ q, gP (prep X) 0 r q * X.dob (ix2 q l) := by
  have e : resV X (ix2 r l) = outV (accs X (blk2 r)) (ix2 (inBlk r) l) := rfl
  have s := accs_sums X (blk2 r)
  rw [e, outV_at, s.dv0, s.dv1, krow_row, show 512 * 4 = 2048 from rfl, pre_all, pre_all]
  rfl
theorem resC_at : resC X (ix3 0 r l) = (if l.val = 0 then 0 - ∑ q, gS (prep X) 0 r q else 0) + (if l.val = 1 then 0 - ∑ q, gS (prep X) 1 r q else 0) := by
  have e : resC X (ix3 0 r l) = outC (accs X (blk2 r)) (ix3 0 (inBlk r) l) := rfl
  have s := accs_sums X (blk2 r)
  rw [e, outC_at, Finset.sum_congr rfl (fun x _ => s.ds0 (inBlk r) x), Finset.sum_congr rfl (fun x _ => s.ds1 (inBlk r) x), krow_row,
    show 4 * 4 = 16 from rfl, lan_all, lan_all]

theorem win_q5 (x : S128x2048.Idx → EReal) (off : Fin 2 → ℕ) (e : off = ![0, 256 * (blk5 r).val])
    (inb : ∀ a, off a + S128x256.size a ≤ S128x2048.size a) : VecWindow.window x off S128x256.size inb (ix2 l (inBlk r)) = x (ix2 l r) := by
  refine win _ _ _ _ _ _ ?_
  subst e
  intro a
  match a with
  | ⟨0, _⟩ => show l.val = 0 + l.val; omega
  | ⟨1, _⟩ => show r.val = 256 * (r.val / 256) + r.val % 256; omega
theorem resQ_at : resQ X (ix2 r l) = ∑ j ∈ Finset.range 8, gC (prep X) j l r := by
  have e : resQ X (ix2 r l) = k0_pay4 (VecWindow.window (dqT X k0_t2_loop.trips) (k0_off44 (blk5 r)) S128x256.size (k0_off44_inb (blk5 r))) (ix2 (inBlk r) l) := rfl
  rw [e, p4_at, win_q5 r l _ _ (k0_off44_eq _)]
  unfold dqT
  rw [show k0_t2_loop.trips = 8 from trips2, stD_val _ _ _ le_rfl, D0_at, zero_add]

end Stored

/-! ## Real operands -/

/-- A head's own lanes. -/
def ol (h : Fin 2) (d : Fin 64) : Fin 128 := ⟨64 * h.val + d.val, by omega⟩

structure RIn where
  q : Fin 2048 → Fin 128 → ℝ
  k : Fin 2048 → Fin 128 → ℝ
  v : Fin 2048 → Fin 128 → ℝ
  cum : Fin 2048 → Fin 2 → ℝ
  o : Fin 2048 → Fin 128 → ℝ
  dob : Fin 2048 → Fin 128 → ℝ
  lse : Fin 2 → Fin 2048 → ℝ

structure IsR (X : Ins Ideal) (R : RIn) : Prop where
  q : ∀ r l, X.q (ix2 r l) = (R.q r l : EReal)
  k : ∀ r l, X.k (ix2 r l) = (R.k r l : EReal)
  v : ∀ r l, X.v (ix2 r l) = (R.v r l : EReal)
  cum0 : ∀ r, X.cum (ix3 0 r 0) = (R.cum r 0 : EReal)
  cum1 : ∀ r, X.cum (ix3 0 r 1) = (R.cum r 1 : EReal)
  o : ∀ r l, X.o (ix2 r l) = (R.o r l : EReal)
  dob : ∀ r l, X.dob (ix2 r l) = (R.dob r l : EReal)
  lse : ∀ h r, X.lse (ix4 0 0 (h8 h) r) = (R.lse h r : EReal)

/-- The score less the query's share of the decay, and the gradients of one head. -/
def sR (R : RIn) (h : Fin 2) (k q : Fin 2048) : ℝ := (∑ d : Fin 64, R.k k (ol h d) * (R.q q (ol h d) * (1 / 8))) - R.cum k h
def gpR (R : RIn) (h : Fin 2) (k q : Fin 2048) : ℝ := if k.val ≤ q.val then Real.exp (sR R h k q - R.lse h q) else 0
def gsR (R : RIn) (h : Fin 2) (k q : Fin 2048) : ℝ :=
  gpR R h k q * ((∑ d : Fin 64, R.v k (ol h d) * R.dob q (ol h d)) - ∑ d : Fin 64, R.dob q (ol h d) * R.o q (ol h d))
def dqR (R : RIn) (h : Fin 2) (d : Fin 64) (r : Fin 2048) : ℝ := (∑ k, R.k k (ol h d) * gsR R h k r) * (1 / 8)
def dkR (R : RIn) (h : Fin 2) (d : Fin 64) (r : Fin 2048) : ℝ := ∑ q, gsR R h r q * (R.q q (ol h d) * (1 / 8))
def dvR (R : RIn) (h : Fin 2) (d : Fin 64) (r : Fin 2048) : ℝ := ∑ q, gpR R h r q * R.dob q (ol h d)
def dcR (R : RIn) (h : Fin 2) (r : Fin 2048) : ℝ := -∑ q, gsR R h r q

theorem csum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sc_eq : sc = ((1 / 8 : ℝ) : EReal) := by
  simp [sc, Ideal.ofBits, Ideal.ieee, -EReal.coe_mul]; norm_num

theorem sum128 (f : Fin 128 → EReal) : ∑ l, f l = ∑ d, f (ol 0 d) + ∑ d, f (ol 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · show d.val = 64 * 0 + d.val; omega
  · show 64 + d.val = 64 * 1 + d.val; omega

theorem ol0 (d : Fin 64) : (ol 0 d).val = d.val := by show 64 * 0 + d.val = _; omega
theorem ol1 (d : Fin 64) : (ol 1 d).val = 64 + d.val := by show 64 * 1 + d.val = _; omega

section Real
variable {X : Ins Ideal} {R : RIn} (H : IsR X R)
include H

theorem QA_own (h : Fin 2) (q : Fin 2048) (d : Fin 64) : QA X (ix3 h q (ol h d)) = ((R.q q (ol h d) * (1 / 8) : ℝ) : EReal) := by
  match h with
  | 0 => rw [QA0_at, if_pos (by rw [ol0]; omega), H.q, sc_eq, EReal.coe_mul]
  | 1 => rw [QA1_at, if_pos (by rw [ol1]; omega), H.q, sc_eq, EReal.coe_mul]
theorem KA_own (h : Fin 2) (q : Fin 2048) (d : Fin 64) : KA X (ix3 h q (ol h d)) = ((R.k q (ol h d) : ℝ) : EReal) := by
  match h with
  | 0 => rw [KA0_at, if_pos (by rw [ol0]; omega), H.k]
  | 1 => rw [KA1_at, if_pos (by rw [ol1]; omega), H.k]
theorem VZ_own (h : Fin 2) (q : Fin 2048) (d : Fin 64) : VZ X (ix3 h q (ol h d)) = ((R.v q (ol h d) : ℝ) : EReal) := by
  match h with
  | 0 => rw [VZ0_at, if_pos (by rw [ol0]; omega), H.v]
  | 1 => rw [VZ1_at, if_pos (by rw [ol1]; omega), H.v]

omit H in
theorem bias (c : ℝ) (d : Fin 64) (w : EReal) (hw : d.val < 3 → w = 1) : (if d.val = 0 then 0 - (c : EReal) else if d.val = 1 then 0 - ((c : EReal) - c)
    else if d.val = 2 then 0 - ((c : EReal) - c - ((c : EReal) - c)) else 0) * w = if d = 0 then ((-c : ℝ) : EReal) else 0 := by
  have z : (c : EReal) - c = 0 := by rw [← EReal.coe_sub, sub_self, EReal.coe_zero]
  rw [z]
  by_cases h0 : d.val = 0
  · rw [if_pos h0, if_pos (Fin.ext h0), hw (by omega), mul_one, zero_sub, EReal.coe_neg]
  · rw [if_neg h0, if_neg (fun e => h0 (congrArg Fin.val e))]
    simp

theorem score (h : Fin 2) (k q : Fin 2048) : ∑ l : Fin 128, KA X (ix3 h k l) * QA X (ix3 h q l) = ((sR R h k q : ℝ) : EReal) := by
  have own : ∑ d : Fin 64, KA X (ix3 h k (ol h d)) * QA X (ix3 h q (ol h d)) = ((∑ d : Fin 64, R.k k (ol h d) * (R.q q (ol h d) * (1 / 8)) : ℝ) : EReal) := by
    rw [csum]
    exact Finset.sum_congr rfl fun d _ => by rw [KA_own H, QA_own H, ← EReal.coe_mul]
  rw [sum128]
  unfold sR
  match h with
  | 0 =>
    have b : ∑ d : Fin 64, KA X (ix3 0 k (ol 1 d)) * QA X (ix3 0 q (ol 1 d)) = ((-R.cum k 0 : ℝ) : EReal) := by
      rw [Finset.sum_congr rfl (fun d _ => ?_), Finset.sum_ite_eq' Finset.univ (0 : Fin 64) (fun _ => ((-R.cum k 0 : ℝ) : EReal)), if_pos (Finset.mem_univ _)]
      rw [← bias (R.cum k 0) d (QA X (ix3 0 q (ol 1 d))) (fun hd => by
        rw [QA0_at, if_neg (by rw [ol1]; omega), if_pos (by rw [ol1]; omega)]), KA0_at, if_neg (by rw [ol1]; omega), H.cum0, ol1]
      have e : ∀ c : ℕ, (64 + d.val = 64 + c) = (d.val = c) := fun c => propext ⟨fun h => by omega, fun h => by omega⟩
      have e0 := e 0; have e1 := e 1; have e2 := e 2
      norm_num only at e0 e1 e2
      simp only [e0, e1, e2]
    rw [own, b, ← EReal.coe_add, ← sub_eq_add_neg]
  | 1 =>
    have b : ∑ d : Fin 64, KA X (ix3 1 k (ol 0 d)) * QA X (ix3 1 q (ol 0 d)) = ((-R.cum k 1 : ℝ) : EReal) := by
      rw [Finset.sum_congr rfl (fun d _ => ?_), Finset.sum_ite_eq' Finset.univ (0 : Fin 64) (fun _ => ((-R.cum k 1 : ℝ) : EReal)), if_pos (Finset.mem_univ _)]
      rw [← bias (R.cum k 1) d (QA X (ix3 1 q (ol 0 d))) (fun hd => by
        rw [QA1_at, if_neg (by rw [ol0]; omega), if_pos (by rw [ol0]; omega)]), KA1_at, if_neg (by rw [ol0]; omega), H.cum1, ol0]
    rw [own, b, add_comm, ← EReal.coe_add, ← sub_eq_add_neg]

theorem dprod (h : Fin 2) (k q : Fin 2048) : ∑ l : Fin 128, VZ X (ix3 h k l) * X.dob (ix2 q l) = ((∑ d : Fin 64, R.v k (ol h d) * R.dob q (ol h d) : ℝ) : EReal) := by
  have own : ∑ d : Fin 64, VZ X (ix3 h k (ol h d)) * X.dob (ix2 q (ol h d)) = ((∑ d : Fin 64, R.v k (ol h d) * R.dob q (ol h d) : ℝ) : EReal) := by
    rw [csum]
    exact Finset.sum_congr rfl fun d _ => by rw [VZ_own H, H.dob, ← EReal.coe_mul]
  rw [sum128]
  match h with
  | 0 =>
    have z : ∑ d : Fin 64, VZ X (ix3 0 k (ol 1 d)) * X.dob (ix2 q (ol 1 d)) = 0 :=
      Finset.sum_eq_zero (fun d _ => by rw [VZ0_at, if_neg (by rw [ol1]; omega), zero_mul])
    rw [own, z, add_zero]
  | 1 =>
    have z : ∑ d : Fin 64, VZ X (ix3 1 k (ol 0 d)) * X.dob (ix2 q (ol 0 d)) = 0 :=
      Finset.sum_eq_zero (fun d _ => by rw [VZ1_at, if_neg (by rw [ol0]; omega), zero_mul])
    rw [own, z, zero_add]

theorem ddsum (h : Fin 2) (q : Fin 2048) : DD X (ix2 (h8 h) q) = ((∑ d : Fin 64, R.dob q (ol h d) * R.o q (ol h d) : ℝ) : EReal) := by
  rw [csum]
  match h with
  | 0 =>
    refine (DD0_at X q).trans (Finset.sum_congr rfl fun d _ => ?_)
    rw [EReal.coe_mul, ← H.dob, ← H.o]
    have e : ol 0 d = ⟨d.val, by omega⟩ := Fin.ext (ol0 d)
    rw [e]
  | 1 =>
    refine (DD1_at X q).trans (Finset.sum_congr rfl fun d _ => ?_)
    rw [EReal.coe_mul, ← H.dob, ← H.o]
    have e : ol 1 d = ⟨64 + d.val, by omega⟩ := Fin.ext (ol1 d)
    rw [e]

theorem gP_real (h : Fin 2) (k q : Fin 2048) : gP (prep X) h k q = ((gpR R h k q : ℝ) : EReal) := by
  unfold gP gpR pw
  by_cases e : k.val ≤ q.val
  · rw [if_pos e, if_pos e]
    have s : ∑ l : Fin 128, (prep X).ka (ix3 h k l) * (prep X).qa (ix3 h q l) = ((sR R h k q : ℝ) : EReal) := score H h k q
    have t : (prep X).lse (ix4 0 0 (h8 h) q) = (R.lse h q : EReal) := H.lse h q
    rw [s, t, ← EReal.coe_sub, Ideal.exp_coe]
  · rw [if_neg e, if_neg e, EReal.coe_zero]

theorem gS_real (h : Fin 2) (k q : Fin 2048) : gS (prep X) h k q = ((gsR R h k q : ℝ) : EReal) := by
  unfold gS gsR sD
  have s : ∑ l : Fin 128, (prep X).vz (ix3 h k l) * (prep X).dob (ix2 q l) = _ := dprod H h k q
  have t : (prep X).dd (ix2 (h8 h) q) = _ := ddsum H h q
  rw [gP_real H, s, t, ← EReal.coe_sub, ← EReal.coe_mul]

theorem resK_real (h : Fin 2) (d : Fin 64) (r : Fin 2048) : resK X (ix2 r (ol h d)) = ((dkR R h d r : ℝ) : EReal) := by
  have e : ∑ q, gS (prep X) h r q * QA X (ix3 h q (ol h d)) = ((dkR R h d r : ℝ) : EReal) := by
    unfold dkR
    rw [csum]
    exact Finset.sum_congr rfl fun q _ => by rw [gS_real H, QA_own H, ← EReal.coe_mul]
  rw [resK_at]
  match h with
  | 0 => rw [if_neg (by rw [ol0]; omega)]; exact e
  | 1 => rw [if_pos (by rw [ol1]; omega)]; exact e

theorem resV_real (h : Fin 2) (d : Fin 64) (r : Fin 2048) : resV X (ix2 r (ol h d)) = ((dvR R h d r : ℝ) : EReal) := by
  have e : ∑ q, gP (prep X) h r q * X.dob (ix2 q (ol h d)) = ((dvR R h d r : ℝ) : EReal) := by
    unfold dvR
    rw [csum]
    exact Finset.sum_congr rfl fun q _ => by rw [gP_real H, H.dob, ← EReal.coe_mul]
  rw [resV_at]
  match h with
  | 0 => rw [if_neg (by rw [ol0]; omega)]; exact e
  | 1 => rw [if_pos (by rw [ol1]; omega)]; exact e

theorem resC_real (r : Fin 2048) (l : Fin 128) : resC X (ix3 0 r l) = if h : l.val < 2 then ((dcR R ⟨l.val, h⟩ r : ℝ) : EReal) else 0 := by
  have e : ∀ h : Fin 2, 0 - ∑ q, gS (prep X) h r q = ((dcR R h r : ℝ) : EReal) := by
    intro h
    unfold dcR
    rw [EReal.coe_neg, csum, zero_sub, Finset.sum_congr rfl (fun q _ => gS_real H h r q)]
  rw [resC_at, e, e]
  by_cases h0 : l.val = 0
  · have : (⟨l.val, by omega⟩ : Fin 2) = 0 := Fin.ext h0
    rw [if_pos h0, if_neg (by omega), dif_pos (by omega), add_zero, this]
  · by_cases h1 : l.val = 1
    · have : (⟨l.val, by omega⟩ : Fin 2) = 1 := Fin.ext h1
      rw [if_neg h0, if_pos h1, dif_pos (by omega), zero_add, this]
    · rw [if_neg h0, if_neg h1, dif_neg (by omega), add_zero]

omit H in
theorem blocks (f : Fin 2048 → ℝ) : ∑ j ∈ Finset.range 8, ∑ k : Fin 256, f (krow j k) = ∑ x, f x := by
  have e : ∀ n, n ≤ 8 → ∑ j ∈ Finset.range n, ∑ k : Fin 256, f (krow j k) = ∑ x ∈ Finset.range (256 * n), (if h : x < 2048 then f ⟨x, h⟩ else 0) := by
    intro n
    induction n with
    | zero => intro _; rfl
    | succ n ih =>
      intro hn
      rw [Finset.sum_range_succ, ih (by omega), show 256 * (n + 1) = 256 * n + 256 by ring, Finset.sum_range_add, Finset.sum_range (n := 256)]
      refine congrArg (_ + ·) (Finset.sum_congr rfl fun k _ => ?_)
      rw [dif_pos (by omega)]
      exact congrArg f (Fin.ext (by show (256 * n + k.val) % 2048 = 256 * n + k.val; omega))
  rw [e 8 le_rfl, show 256 * 8 = 2048 from rfl, Finset.sum_range]
  exact Finset.sum_congr rfl fun x _ => by rw [dif_pos x.isLt]

theorem resQ_real (h : Fin 2) (d : Fin 64) (r : Fin 2048) : resQ X (ix2 r (ol h d)) = ((dqR R h d r : ℝ) : EReal) := by
  have e : ∀ j, gC (prep X) j (ol h d) r = (((∑ k : Fin 256, R.k (krow j k) (ol h d) * gsR R h (krow j k) r) * (1 / 8) : ℝ) : EReal) := by
    intro j
    unfold gC
    have t : ∀ h' : Fin 2, ∑ k : Fin 256, (prep X).kt (ix2 (ol h d) (krow j k)) * gS (prep X) h' (krow j k) r
        = ((∑ k : Fin 256, R.k (krow j k) (ol h d) * gsR R h' (krow j k) r : ℝ) : EReal) := by
      intro h'
      rw [csum]
      refine Finset.sum_congr rfl fun k _ => ?_
      have u : (prep X).kt (ix2 (ol h d) (krow j k)) = _ := KT_at X (krow j k) (ol h d)
      rw [u, H.k, gS_real H, ← EReal.coe_mul]
    rw [t, t, sc_eq]
    match h with
    | 0 => rw [if_neg (by rw [ol0]; omega), ← EReal.coe_mul]
    | 1 => rw [if_pos (by rw [ol1]; omega), ← EReal.coe_mul]
  rw [resQ_at, Finset.sum_congr rfl (fun j _ => e j), ← csum, ← Finset.sum_mul, blocks (fun k => R.k k (ol h d) * gsR R h k r)]
  rfl

end Real

end Cert.Proof.Attn

end
-- ==== Proof.Fwd.lean ====
/-
  The attention of real operands: scores, softmax, the saved row sums and output, and the four gradients.
-/
module

public import proofs.«01_k».proof.Proof.OutVal
public import Idealize.ShloMosaic.Lib.WordCmp

@[expose] public section

noncomputable section

namespace Cert.Proof.Attn

open Idealize.ShloMosaic
open scoped BigOperators

abbrev tk (b : Fin 4) (s : Fin 2048) : Fin 8192 := ⟨b.val * 2048 + s.val, by omega⟩
abbrev oc (h : Fin 8) (d : Fin 64) : Fin 512 := ⟨h.val * 64 + d.val, by omega⟩
abbrev qc (h : Fin 8) (d : Fin 64) : Fin 4608 := ⟨1024 + (h.val * 64 + d.val), by omega⟩
abbrev kc (h : Fin 8) (d : Fin 64) : Fin 4608 := ⟨1536 + (h.val * 64 + d.val), by omega⟩
abbrev vc (h : Fin 8) (d : Fin 64) : Fin 4608 := ⟨2048 + (h.val * 64 + d.val), by omega⟩

/-! ## Places -/

def rb (r : Fin 8192) : Fin 4 := ⟨r.val / 2048, by omega⟩
def rs (r : Fin 8192) : Fin 2048 := ⟨r.val % 2048, by omega⟩
def lh (l : Fin 512) : Fin 8 := ⟨l.val / 64, by omega⟩
def lo (l : Fin 512) : Fin 64 := ⟨l.val % 64, by omega⟩
/-- Head `z` of pair `g`. -/
abbrev hh (g : Fin 4) (z : Fin 2) : Fin 8 := ⟨g.val * 2 + z.val, by omega⟩
abbrev z2 (z : Fin 2) : Fin 128 := ⟨z.val, by omega⟩
theorem rb_tk (b : Fin 4) (s : Fin 2048) : rb (tk b s) = b := Fin.ext (by show (b.val * 2048 + s.val) / 2048 = b.val; omega)
theorem rs_tk (b : Fin 4) (s : Fin 2048) : rs (tk b s) = s := Fin.ext (by show (b.val * 2048 + s.val) % 2048 = s.val; omega)
theorem lh_oc (h : Fin 8) (d : Fin 64) : lh (oc h d) = h := Fin.ext (by show (h.val * 64 + d.val) / 64 = h.val; omega)
theorem lo_oc (h : Fin 8) (d : Fin 64) : lo (oc h d) = d := Fin.ext (by show (h.val * 64 + d.val) % 64 = d.val; omega)
theorem tk_rb (r : Fin 8192) : tk (rb r) (rs r) = r := Fin.ext (by show r.val / 2048 * 2048 + r.val % 2048 = r.val; omega)
theorem oc_lh (l : Fin 512) : oc (lh l) (lo l) = l := Fin.ext (by show l.val / 64 * 64 + l.val % 64 = l.val; omega)

theorem cmp_mask (i j : Fin 2048) : IntOp.cmpi CmpIPredicate.sge (BitVec.ofNat 32 i.val) (BitVec.ofNat 32 j.val) = if j.val ≤ i.val then 1#1 else 0#1 := by
  refine (WordCmp.cmpi_sge_ofNat (by omega) (by omega)).trans ?_
  by_cases e : j.val ≤ i.val
  · rw [if_pos e, decide_eq_true e]; rfl
  · rw [if_neg e, decide_eq_false e]; rfl
theorem ninf_eq : Ideal.ofBits FTy.f32 4286578688#32 = (⊥ : EReal) := by
  simp [Ideal.ofBits, Ideal.ieee]
theorem sel1 {α : Type} (a b : α) : Scalar.select 1#1 a b = a := rfl
theorem sel0 {α : Type} (a b : α) : Scalar.select 0#1 a b = b := rfl

/-- The three arguments' real entries. -/
structure Args where
  A : Fin 8192 → Fin 4608 → ℝ
  C : Fin 4 → Fin 2048 → Fin 8 → ℝ
  D : Fin 8192 → Fin 512 → ℝ

variable (G : Args) (b : Fin 4) (h : Fin 8)

def Args.S (i j : Fin 2048) : ℝ := (∑ d : Fin 64, (G.A (tk b i) (qc h d) * (1/8)) * G.A (tk b j) (kc h d)) + G.C b i h - G.C b j h

/-- A masked score: nothing above the diagonal. -/
def Args.Sm (i j : Fin 2048) : EReal := if j.val ≤ i.val then ((G.S b h i j : ℝ) : EReal) else ⊥

def Args.M (i : Fin 2048) : ℝ := (Finset.univ.fold max (⊥ : EReal) (fun j => G.Sm b h i j)).toReal

def Args.E (i j : Fin 2048) : ℝ := if j.val ≤ i.val then Real.exp (G.S b h i j - G.M b h i) else 0
def Args.L (i : Fin 2048) : ℝ := ∑ j, G.E b h i j
def Args.P (i j : Fin 2048) : ℝ := G.E b h i j * (1 / G.L b h i)
def Args.O (i : Fin 2048) (d : Fin 64) : ℝ := ∑ j, G.P b h i j * G.A (tk b j) (vc h d)
def Args.W (i : Fin 2048) : ℝ := G.M b h i + Real.log (G.L b h i) - G.C b i h
def Args.dP (i j : Fin 2048) : ℝ := ∑ d : Fin 64, G.D (tk b i) (oc h d) * G.A (tk b j) (vc h d)
def Args.X (i : Fin 2048) : ℝ := ∑ j, G.dP b h i j * (1 / (G.L b h i * G.L b h i)) * G.E b h i j
def Args.dS (i j : Fin 2048) : ℝ := if j.val ≤ i.val then (G.dP b h i j * (1 / G.L b h i) + -G.X b h i) * G.E b h i j else 0
def Args.dQ (i : Fin 2048) (d : Fin 64) : ℝ := (∑ j, G.dS b h i j * G.A (tk b j) (kc h d)) * (1/8)
def Args.dK (j : Fin 2048) (d : Fin 64) : ℝ := ∑ i, G.dS b h i j * (G.A (tk b i) (qc h d) * (1/8))
def Args.dV (j : Fin 2048) (d : Fin 64) : ℝ := ∑ i, G.D (tk b i) (oc h d) * G.P b h i j
def Args.dC (j : Fin 2048) : ℝ := (∑ i, -G.dS b h i j) + ∑ i, G.dS b h j i

theorem Args.M_spec (i : Fin 2048) : Finset.univ.fold max (⊥ : EReal) (fun j => G.Sm b h i j) = ((G.M b h i : ℝ) : EReal) := by
  have hi : ((G.S b h i i : ℝ) : EReal) ≤ Finset.univ.fold max (⊥ : EReal) (fun j => G.Sm b h i j) := by
    refine Finset.le_fold_max _ |>.mpr (Or.inr ⟨i, Finset.mem_univ _, ?_⟩)
    rw [Args.Sm, if_pos le_rfl]
  have ht : Finset.univ.fold max (⊥ : EReal) (fun j => G.Sm b h i j) < ⊤ := by
    refine Finset.fold_max_lt _ |>.mpr ⟨bot_lt_top, fun j _ => ?_⟩
    rw [Args.Sm]
    split
    · exact EReal.coe_lt_top _
    · exact bot_lt_top
  refine (EReal.coe_toReal ht.ne ?_).symm
  intro e
  rw [e] at hi
  exact absurd (lt_of_lt_of_le (EReal.bot_lt_coe _) hi) (lt_irrefl _)

theorem Args.E_nonneg (i j : Fin 2048) : 0 ≤ G.E b h i j := by
  rw [Args.E]; split
  · exact (Real.exp_pos _).le
  · exact le_rfl

theorem Args.L_pos (i : Fin 2048) : 0 < G.L b h i := by
  refine Finset.sum_pos' (fun j _ => G.E_nonneg b h i j) ⟨i, Finset.mem_univ _, ?_⟩
  rw [Args.E, if_pos le_rfl]; exact Real.exp_pos _

theorem Args.P_sum (i : Fin 2048) : ∑ j, G.P b h i j = 1 := by
  simp only [Args.P]
  rw [← Finset.sum_mul]
  exact mul_one_div_cancel (G.L_pos b h i).ne'

/-- A weight is the exponential of its score less the saved row sum. -/
theorem Args.P_exp (i j : Fin 2048) (t : ℝ) (ht : t = G.S b h i j - G.C b i h) :
    (if j.val ≤ i.val then Real.exp (t - G.W b h i) else 0) = G.P b h i j := by
  rw [Args.P, Args.E]
  split
  · have e : t - G.W b h i = (G.S b h i j - G.M b h i) - Real.log (G.L b h i) := by rw [ht, Args.W]; ring
    rw [e, Real.exp_sub, Real.exp_log (G.L_pos b h i)]
    rw [div_eq_mul_one_div]
  · rw [zero_mul]

theorem Args.dd_eq (i : Fin 2048) : ∑ d : Fin 64, G.D (tk b i) (oc h d) * G.O b h i d = ∑ j, G.P b h i j * G.dP b h i j := by
  simp only [Args.O, Args.dP, Finset.mul_sum]
  rw [Finset.sum_comm]
  refine Finset.sum_congr rfl fun j _ => Finset.sum_congr rfl fun d _ => ?_
  ring

theorem Args.dS_eq (i j : Fin 2048) : G.dS b h i j = G.P b h i j * (G.dP b h i j - ∑ k, G.P b h i k * G.dP b h i k) := by
  have hx : G.X b h i = (1 / G.L b h i) * ∑ k, G.P b h i k * G.dP b h i k := by
    rw [Args.X, Finset.mul_sum]
    refine Finset.sum_congr rfl fun k _ => ?_
    rw [Args.P]
    have := (G.L_pos b h i).ne'
    field_simp
  rw [Args.dS, hx]
  split
  · rw [Args.P]; ring
  · rename_i e
    rw [Args.P, Args.E, if_neg e]; ring

theorem Args.dS_sum (i : Fin 2048) : ∑ j, G.dS b h i j = 0 := by
  simp only [Args.dS_eq, mul_sub, Finset.sum_sub_distrib]
  rw [← Finset.sum_mul, G.P_sum, one_mul, sub_self]

end Cert.Proof.Attn

end
-- ==== Proof.HostVal.lean ====
/-
  The arrays the host hands the kernel, read at an index.
-/
module

public import proofs.«01_k».proof.Proof.Fwd
public import proofs.«01_k».proof.Proof.FrameRun
public import Idealize.ShloMosaic.Lib.Claim
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.StableHlo
open scoped BigOperators

def maskT : Vec Ideal S4x8x2048x2048 .i1 := broadcastInDim S4x8x2048x2048 ![0, 1, 2, 3] bcast_S1x1x2048x2048_S4x8x2048x2048_0_1_2_3 (broadcastInDim S1x1x2048x2048 ![2, 3] bcast_S2048x2048_S1x1x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
def qT (a0 : FVec Ideal S8192x4608 .f32) : FVec Ideal S4x8x2048x64 .f32 := mulf (transpose S4x8x2048x64 [0, 2, 1, 3] (shapeCast S4x2048x8x64 (extractStridedSlice S8192x512 ![0, 1024] a0 slices_S8192x4608_S8192x512_0_1024) shapeCasts_S8192x512_S4x2048x8x64) transposes_S4x2048x8x64_S4x8x2048x64_0_2_1_3) (broadcastInDim S4x8x2048x64 ![] bcast_S_S4x8x2048x64 (constant S_ .f32 0x3E000000#32))
def kT (a0 : FVec Ideal S8192x4608 .f32) : FVec Ideal S4x8x2048x64 .f32 := (transpose S4x8x2048x64 [0, 2, 1, 3] (shapeCast S4x2048x8x64 (extractStridedSlice S8192x512 ![0, 1536] a0 slices_S8192x4608_S8192x512_0_1536) shapeCasts_S8192x512_S4x2048x8x64) transposes_S4x2048x8x64_S4x8x2048x64_0_2_1_3)
def vT (a0 : FVec Ideal S8192x4608 .f32) : FVec Ideal S4x8x2048x64 .f32 := (transpose S4x8x2048x64 [0, 2, 1, 3] (shapeCast S4x2048x8x64 (extractStridedSlice S8192x512 ![0, 2048] a0 slices_S8192x4608_S8192x512_0_2048) shapeCasts_S8192x512_S4x2048x8x64) transposes_S4x2048x8x64_S4x8x2048x64_0_2_1_3)
def dotT (x y : FVec Ideal S4x8x2048x64 .f32) : FVec Ideal S4x8x2048x2048 .f32 := Host.dotGeneral dot_S4x8x2048x64_S4x8x2048x64_S4x8x2048x2048_3_3_2_2_01_01 none x y
def rowT (x : FVec Ideal S4x8x2048 .f32) : FVec Ideal S4x8x2048x2048 .f32 := broadcastInDim S4x8x2048x2048 ![0, 1, 2, 3] bcast_S4x8x2048x1_S4x8x2048x2048_0_1_2_3 (broadcastInDim S4x8x2048x1 ![0, 1, 2] bcast_S4x8x2048_S4x8x2048x1_0_1_2 x)
def colT (x : FVec Ideal S4x8x2048 .f32) : FVec Ideal S4x8x2048x2048 .f32 := broadcastInDim S4x8x2048x2048 ![0, 1, 2, 3] bcast_S4x8x1x2048_S4x8x2048x2048_0_1_2_3 (broadcastInDim S4x8x1x2048 ![0, 1, 3] bcast_S4x8x2048_S4x8x1x2048_0_1_3 x)
def cT (a1 : FVec Ideal S4x2048x8 .f32) : FVec Ideal S4x8x2048 .f32 := transpose S4x8x2048 [0, 2, 1] a1 transposes_S4x2048x8_S4x8x2048_0_2_1
def sT (x : FVec Ideal S4x8x2048x2048 .f32) (c : FVec Ideal S4x8x2048 .f32) : FVec Ideal S4x8x2048x2048 .f32 := select maskT (subf (addf x (rowT c)) (colT c)) (broadcastInDim S4x8x2048x2048 ![] bcast_S_S4x8x2048x2048 (id (constant S_ .f32 0xFF800000#32)))
def mT (x : FVec Ideal S4x8x2048x2048 .f32) : FVec Ideal S4x8x2048 .f32 := Host.reduce FloatOps.maximumf x (constant S_ .f32 0xFF800000#32) reducesTo_S4x8x2048x2048_S4x8x2048_d3 h_S_
def eT (x : FVec Ideal S4x8x2048x2048 .f32) (y : FVec Ideal S4x8x2048 .f32) : FVec Ideal S4x8x2048x2048 .f32 := Host.exp (subf x (rowT y))
def lT (x : FVec Ideal S4x8x2048x2048 .f32) : FVec Ideal S4x8x2048 .f32 := Host.reduceAdd x (constant S_ .f32 0x00000000#32) reducesTo_S4x8x2048x2048_S4x8x2048_d3 h_S_
def pT (x : FVec Ideal S4x8x2048x2048 .f32) (y : FVec Ideal S4x8x2048 .f32) : FVec Ideal S4x8x2048x2048 .f32 := Host.divf x (rowT y)

section
variable (b : Fin 4) (h : Fin 8) (i j : Fin 2048) (d : Fin 64)
theorem cT_at (a1 : FVec Ideal S4x2048x8 .f32) : @Eq EReal (cT a1 (ix3 b h i)) (a1 (ix3 b i h)) := by pointwise [cT]
theorem maskT_at : maskT (ix4 b h i j) = if j.val ≤ i.val then 1#1 else 0#1 := by
  pointwise [maskT]
  exact cmp_mask i j
theorem qT_at (a0 : FVec Ideal S8192x4608 .f32) : @Eq EReal (qT a0 (ix4 b h i d)) ((a0 (ix2 (tk b i) (qc h d)) : EReal) * Ideal.ofBits FTy.f32 1040187392#32) := by
  pointwise [qT]
theorem kT_at (a0 : FVec Ideal S8192x4608 .f32) : @Eq EReal (kT a0 (ix4 b h i d)) (a0 (ix2 (tk b i) (kc h d))) := by
  pointwise [kT]
theorem vT_at (a0 : FVec Ideal S8192x4608 .f32) : @Eq EReal (vT a0 (ix4 b h i d)) (a0 (ix2 (tk b i) (vc h d))) := by
  pointwise [vT]
theorem dotT_at (x y : FVec Ideal S4x8x2048x64 .f32) : @Eq EReal (dotT x y (ix4 b h i j)) (∑ d : Fin 64, (x (ix4 b h i d) : EReal) * y (ix4 b h j d)) := by
  pointwise [dotT, dot_S4x8x2048x64_S4x8x2048x64_S4x8x2048x2048_3_3_2_2_01_01]
theorem rowT_at (x : FVec Ideal S4x8x2048 .f32) : @Eq EReal (rowT x (ix4 b h i j)) (x (ix3 b h i)) := by pointwise [rowT]
theorem colT_at (x : FVec Ideal S4x8x2048 .f32) : @Eq EReal (colT x (ix4 b h i j)) (x (ix3 b h j)) := by pointwise [colT]
theorem mT_at (x : FVec Ideal S4x8x2048x2048 .f32) : @Eq EReal (mT x (ix3 b h i)) (Finset.fold max (Ideal.ofBits FTy.f32 4286578688#32) (fun j => (x (ix4 b h i j) : EReal)) Finset.univ) := by pointwise [mT]
theorem lT_at (x : FVec Ideal S4x8x2048x2048 .f32) : @Eq EReal (lT x (ix3 b h i)) (∑ j : Fin 2048, (x (ix4 b h i j) : EReal)) := by pointwise [lT]
theorem eT_at (x : FVec Ideal S4x8x2048x2048 .f32) (y : FVec Ideal S4x8x2048 .f32) : @Eq EReal (eT x y (ix4 b h i j)) (Ideal.exp ((x (ix4 b h i j) : EReal) - y (ix3 b h i))) := by pointwise [eT, rowT]
theorem pT_at (x : FVec Ideal S4x8x2048x2048 .f32) (y : FVec Ideal S4x8x2048 .f32) : @Eq EReal (pT x y (ix4 b h i j)) (Ideal.div (x (ix4 b h i j)) (y (ix3 b h i))) := by pointwise [pT, rowT]
theorem sT_at (x : FVec Ideal S4x8x2048x2048 .f32) (c : FVec Ideal S4x8x2048 .f32) : @Eq EReal (sT x c (ix4 b h i j)) (Scalar.select (maskT (ix4 b h i j)) ((x (ix4 b h i j) : EReal) + c (ix3 b h i) - c (ix3 b h j)) (Ideal.ofBits FTy.f32 4286578688#32)) := by
  pointwise [sT, rowT, colT]
  rfl
end

/-! ## Over real arguments -/

section Real
variable {G : Args} {a0 : FVec Ideal S8192x4608 .f32} {a1 : FVec Ideal S4x2048x8 .f32}
  (h0 : ∀ r l, a0 (ix2 r l) = ((G.A r l : ℝ) : EReal)) (h1 : ∀ b i h, a1 (ix3 b i h) = ((G.C b i h : ℝ) : EReal))
  (b : Fin 4) (h : Fin 8) (i j : Fin 2048) (d : Fin 64)

def sA (a0 : FVec Ideal S8192x4608 .f32) (a1 : FVec Ideal S4x2048x8 .f32) : FVec Ideal S4x8x2048x2048 .f32 := sT (dotT (qT a0) (kT a0)) (cT a1)
def eA (a0 : FVec Ideal S8192x4608 .f32) (a1 : FVec Ideal S4x2048x8 .f32) : FVec Ideal S4x8x2048x2048 .f32 := eT (sA a0 a1) (mT (sA a0 a1))
def pA (a0 : FVec Ideal S8192x4608 .f32) (a1 : FVec Ideal S4x2048x8 .f32) : FVec Ideal S4x8x2048x2048 .f32 := pT (eA a0 a1) (lT (eA a0 a1))

include h0 in
theorem qT_real : qT a0 (ix4 b h i d) = ((G.A (tk b i) (qc h d) * (1/8) : ℝ) : EReal) := by
  refine (qT_at b h i d a0).trans ?_
  rw [h0]
  exact (congrArg (_ * ·) sc_eq).trans (EReal.coe_mul _ _).symm
include h0 in
theorem kT_real : kT a0 (ix4 b h i d) = ((G.A (tk b i) (kc h d) : ℝ) : EReal) := (kT_at b h i d a0).trans (h0 _ _)
include h0 in
theorem vT_real : vT a0 (ix4 b h i d) = ((G.A (tk b i) (vc h d) : ℝ) : EReal) := (vT_at b h i d a0).trans (h0 _ _)
include h1 in
theorem cT_real : cT a1 (ix3 b h i) = ((G.C b i h : ℝ) : EReal) := (cT_at b h i a1).trans (h1 _ _ _)

theorem dotT_real {x y : FVec Ideal S4x8x2048x64 .f32} {f g : Fin 2048 → Fin 64 → ℝ} (hx : ∀ i d, x (ix4 b h i d) = ((f i d : ℝ) : EReal)) (hy : ∀ i d, y (ix4 b h i d) = ((g i d : ℝ) : EReal)) :
    dotT x y (ix4 b h i j) = ((∑ d, f i d * g j d : ℝ) : EReal) := by
  refine (dotT_at b h i j x y).trans ?_
  rw [csum]
  refine Finset.sum_congr rfl fun d _ => ?_
  rw [hx, hy, EReal.coe_mul]

include h0 h1 in
theorem sA_real : sA a0 a1 (ix4 b h i j) = G.Sm b h i j := by
  refine (sT_at b h i j _ _).trans ?_
  rw [maskT_at, ninf_eq, dotT_real b h i j (fun i d => qT_real h0 b h i d) (fun i d => kT_real h0 b h i d), cT_real h1 b h i, cT_real h1 b h j, Args.Sm]
  split
  · rw [sel1, Args.S, EReal.coe_sub, EReal.coe_add]
  · rw [sel0]

include h0 h1 in
theorem mA_real : mT (sA a0 a1) (ix3 b h i) = ((G.M b h i : ℝ) : EReal) := by
  refine (mT_at b h i _).trans ?_
  rw [ninf_eq, ← G.M_spec]
  exact Finset.fold_congr fun j _ => sA_real h0 h1 b h i j

theorem exp_real (z : EReal) (hz : z = G.Sm b h i j) (y : EReal) (hy : y = ((G.M b h i : ℝ) : EReal)) : Ideal.exp (z - y) = ((G.E b h i j : ℝ) : EReal) := by
  rw [hz, hy, Args.Sm, Args.E]
  split
  · rw [← EReal.coe_sub, Ideal.exp_coe]
  · rw [EReal.bot_sub, Ideal.exp_bot]; rfl

include h0 h1 in
theorem eA_real : eA a0 a1 (ix4 b h i j) = ((G.E b h i j : ℝ) : EReal) :=
  (eT_at b h i j _ _).trans (exp_real b h i j _ (sA_real h0 h1 b h i j) _ (mA_real h0 h1 b h i))

include h0 h1 in
theorem lA_real : lT (eA a0 a1) (ix3 b h i) = ((G.L b h i : ℝ) : EReal) := by
  refine (lT_at b h i _).trans ?_
  rw [Args.L, csum]
  exact Finset.sum_congr rfl fun j _ => eA_real h0 h1 b h i j

include h0 h1 in
theorem pA_real : pA a0 a1 (ix4 b h i j) = ((G.P b h i j : ℝ) : EReal) := by
  refine (pT_at b h i j _ _).trans ?_
  rw [eA_real h0 h1, lA_real h0 h1, Ideal.div_coe (G.L_pos b h i).ne', Args.P, EReal.coe_mul]
end Real

/-! ## The arrays the kernel is handed -/

def oT (p : FVec Ideal S4x8x2048x2048 .f32) (v : FVec Ideal S4x8x2048x64 .f32) : FVec Ideal S8192x512 .f32 := shapeCast S8192x512 (transpose S4x2048x8x64 [0, 2, 1, 3] (Host.dotGeneral dot_S4x8x2048x2048_S4x8x2048x64_S4x8x2048x64_3_2_2_3_01_01 none p v) transposes_S4x8x2048x64_S4x2048x8x64_0_2_1_3) shapeCasts_S4x2048x8x64_S8192x512
def wT (x y c : FVec Ideal S4x8x2048 .f32) : FVec Ideal S4x4x8x2048 .f32 := pad S4x4x8x2048 ![0, 0, 0, 0] ![0, 0, 6, 0] ![0, 0, 0, 0] (shapeCast S4x4x2x2048 (subf (addf x (Host.log y)) c) shapeCasts_S4x8x2048_S4x4x2x2048) (sitofp FTy.f32 (constantI S_ 32 0#32)) pads_S4x4x2x2048_S4x4x8x2048_000_000_060_000 h_S_
def gT (a1 : FVec Ideal S4x2048x8 .f32) : FVec Ideal S4x8192x128 .f32 := pad S4x8192x128 ![0, 0, 0] ![0, 0, 126] ![0, 0, 0] (transpose S4x8192x2 [1, 0, 2] (shapeCast S8192x4x2 a1 shapeCasts_S4x2048x8_S8192x4x2) transposes_S8192x4x2_S4x8192x2_1_0_2) (sitofp FTy.f32 (constantI S_ 32 0#32)) pads_S4x8192x2_S4x8192x128_000_000_01260 h_S_

section
variable (b : Fin 4) (g : Fin 4) (s : Fin 2048) (z : Fin 2)
theorem oT_at (p : FVec Ideal S4x8x2048x2048 .f32) (v : FVec Ideal S4x8x2048x64 .f32) (r : Fin 8192) (l : Fin 512) : @Eq EReal (oT p v (ix2 r l)) (∑ x, (p (ix4 (rb r) (lh l) (rs r) x) : EReal) * v (ix4 (rb r) (lh l) x (lo l))) := by
  pointwise [oT, dot_S4x8x2048x2048_S4x8x2048x64_S4x8x2048x64_3_2_2_3_01_01]
  rfl
theorem wT_at (x y c : FVec Ideal S4x8x2048 .f32) : @Eq EReal (wT x y c (ix4 b g (h8 z) s)) ((x (ix3 b (hh g z) s) : EReal) + Ideal.log (y (ix3 b (hh g z) s)) - c (ix3 b (hh g z) s)) := by
  pointwise [wT]
theorem gT_at (a1 : FVec Ideal S4x2048x8 .f32) : @Eq EReal (gT a1 (ix3 g (tk b s) (z2 z))) (a1 (ix3 b s (hh g z)) : EReal) := by
  pointwise [gT]
  exact dif_pos (by omega)

section Real
variable {G : Args} {a0 : FVec Ideal S8192x4608 .f32} {a1 : FVec Ideal S4x2048x8 .f32}
  (h0 : ∀ r l, a0 (ix2 r l) = ((G.A r l : ℝ) : EReal)) (h1 : ∀ b i h, a1 (ix3 b i h) = ((G.C b i h : ℝ) : EReal))
include h0 h1 in
theorem oT_real (h : Fin 8) (d : Fin 64) : oT (pA a0 a1) (vT a0) (ix2 (tk b s) (oc h d)) = ((G.O b h s d : ℝ) : EReal) := by
  refine (oT_at _ _ _ _).trans ?_
  rw [rb_tk, rs_tk, lh_oc, lo_oc, Args.O, csum]
  refine Finset.sum_congr rfl fun x _ => ?_
  rw [pA_real h0 h1, vT_real h0, EReal.coe_mul]
include h0 h1 in
theorem wT_real : wT (mT (sA a0 a1)) (lT (eA a0 a1)) (cT a1) (ix4 b g (h8 z) s) = ((G.W b (hh g z) s : ℝ) : EReal) := by
  refine (wT_at _ _ _ _ _ _ _).trans ?_
  rw [mA_real h0 h1, lA_real h0 h1, cT_real h1, Ideal.log_coe, if_neg (not_le.mpr (G.L_pos b (hh g z) s)), Args.W, EReal.coe_sub, EReal.coe_add]
include h1 in
theorem gT_real : gT a1 (ix3 g (tk b s) (z2 z)) = ((G.C b s (hh g z) : ℝ) : EReal) := (gT_at b g s z a1).trans (h1 _ _ _)
end Real
end

variable (m : (ℓ : Loc nD τ sig) → Buf (Elt Ideal) ℓ) (c : Dev nD)

theorem V39 : V m c main_v39 = oT (pA (m ((c : Thread nD τ).loc main_arg0)) (m ((c : Thread nD τ).loc main_arg1))) (vT (m ((c : Thread nD τ).loc main_arg0))) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  rfl
theorem V45 : V m c main_v45 = wT (mT (sA (m ((c : Thread nD τ).loc main_arg0)) (m ((c : Thread nD τ).loc main_arg1)))) (lT (eA (m ((c : Thread nD τ).loc main_arg0)) (m ((c : Thread nD τ).loc main_arg1)))) (cT (m ((c : Thread nD τ).loc main_arg1))) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  rfl
theorem V48 : V m c main_v48 = gT (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  rfl
theorem V49 : V m c main_v49 = (m ((c : Thread nD τ).loc main_arg2)) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  rfl

end Cert.Proof.Attn

end
-- ==== Proof.BlockVal.lean ====
/-
  The blocks a grid point reads, as entries of the arrays.
-/
module

public import proofs.«01_k».proof.Proof.HostVal
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.ShloMosaic.StableHlo
open scoped BigOperators

variable (m : (ℓ : Loc nD τ sig) → Buf (Elt Ideal) ℓ) (c : Dev nD) (t : Fin cfg0.N)

/-- The batch row and the head pair of a grid point. -/
def tb (t : Fin cfg0.N) : Fin 4 := ⟨t.val / 4, by have h : t.val < 16 := t.isLt; omega⟩
def tg (t : Fin cfg0.N) : Fin 4 := ⟨t.val % 4, by omega⟩

theorem idx0 : ∀ t : Fin cfg0.N, win0_0.index t = ![(tb t).val, 8 + (tg t).val] := (by decide +kernel : ∀ t : Fin grid0.N, _)
theorem idx1 : ∀ t : Fin cfg0.N, win0_1.index t = ![(tb t).val, 12 + (tg t).val] := (by decide +kernel : ∀ t : Fin grid0.N, _)
theorem idx2 : ∀ t : Fin cfg0.N, win0_2.index t = ![(tb t).val, 16 + (tg t).val] := (by decide +kernel : ∀ t : Fin grid0.N, _)
theorem idx3 : ∀ t : Fin cfg0.N, win0_3.index t = ![(tg t).val, (tb t).val, 0] := (by decide +kernel : ∀ t : Fin grid0.N, _)
theorem idx4 : ∀ t : Fin cfg0.N, win0_4.index t = ![(tb t).val, (tg t).val] := (by decide +kernel : ∀ t : Fin grid0.N, _)
theorem idx5 : ∀ t : Fin cfg0.N, win0_5.index t = ![(tb t).val, (tg t).val] := (by decide +kernel : ∀ t : Fin grid0.N, _)
theorem idx6 : ∀ t : Fin cfg0.N, win0_6.index t = ![(tb t).val, (tg t).val, 0, 0] := (by decide +kernel : ∀ t : Fin grid0.N, _)
theorem idx7 : ∀ t : Fin cfg0.N, win0_7.index t = ![(tb t).val, (tg t).val] := (by decide +kernel : ∀ t : Fin grid0.N, _)
theorem idx8 : ∀ t : Fin cfg0.N, win0_8.index t = ![(tb t).val, (tg t).val] := (by decide +kernel : ∀ t : Fin grid0.N, _)
theorem idx9 : ∀ t : Fin cfg0.N, win0_9.index t = ![(tb t).val, (tg t).val] := (by decide +kernel : ∀ t : Fin grid0.N, _)
theorem idx10 : ∀ t : Fin cfg0.N, win0_10.index t = ![(tg t).val, (tb t).val, 0] := (by decide +kernel : ∀ t : Fin grid0.N, _)

theorem blk_q (r : Fin 2048) (l : Fin 128) (e : Fin 8) : @Eq EReal ((insAt m c t).q (ix2 r l)) ((m ((c : Thread nD τ).loc main_arg0)) (ix2 (tk (tb t) r) (⟨(8 + (tg t).val) * 128 + l.val, by have := (tg t).isLt; omega⟩))) := by
  refine Eq.trans ?_ (congrFun (V_main_arg0 m c) (ix2 (tk (tb t) r) (⟨(8 + (tg t).val) * 128 + l.val, by have := (tg t).isLt; omega⟩)))
  show iblk m c 0 t (ix2 r l) = V m c main_arg0 (ix2 (tk (tb t) r) (⟨(8 + (tg t).val) * 128 + l.val, by have := (tg t).isLt; omega⟩))
  blk_simp [iblk]
  refine congrArg _ ?_
  blk_ext [idx0 t]

theorem blk_k (r : Fin 2048) (l : Fin 128) (e : Fin 8) : @Eq EReal ((insAt m c t).k (ix2 r l)) ((m ((c : Thread nD τ).loc main_arg0)) (ix2 (tk (tb t) r) (⟨(12 + (tg t).val) * 128 + l.val, by have := (tg t).isLt; omega⟩))) := by
  refine Eq.trans ?_ (congrFun (V_main_arg0 m c) (ix2 (tk (tb t) r) (⟨(12 + (tg t).val) * 128 + l.val, by have := (tg t).isLt; omega⟩)))
  show iblk m c 1 t (ix2 r l) = V m c main_arg0 (ix2 (tk (tb t) r) (⟨(12 + (tg t).val) * 128 + l.val, by have := (tg t).isLt; omega⟩))
  blk_simp [iblk]
  refine congrArg _ ?_
  blk_ext [idx1 t]

theorem blk_v (r : Fin 2048) (l : Fin 128) (e : Fin 8) : @Eq EReal ((insAt m c t).v (ix2 r l)) ((m ((c : Thread nD τ).loc main_arg0)) (ix2 (tk (tb t) r) (⟨(16 + (tg t).val) * 128 + l.val, by have := (tg t).isLt; omega⟩))) := by
  refine Eq.trans ?_ (congrFun (V_main_arg0 m c) (ix2 (tk (tb t) r) (⟨(16 + (tg t).val) * 128 + l.val, by have := (tg t).isLt; omega⟩)))
  show iblk m c 2 t (ix2 r l) = V m c main_arg0 (ix2 (tk (tb t) r) (⟨(16 + (tg t).val) * 128 + l.val, by have := (tg t).isLt; omega⟩))
  blk_simp [iblk]
  refine congrArg _ ?_
  blk_ext [idx2 t]

theorem blk_cum (r : Fin 2048) (l : Fin 128) (e : Fin 8) : @Eq EReal ((insAt m c t).cum (ix3 0 r l)) ((gT (m ((c : Thread nD τ).loc main_arg1))) (ix3 (tg t) (tk (tb t) r) l)) := by
  refine Eq.trans ?_ (congrFun (V48 m c) (ix3 (tg t) (tk (tb t) r) l))
  show iblk m c 3 t (ix3 0 r l) = V m c main_v48 (ix3 (tg t) (tk (tb t) r) l)
  blk_simp [iblk]
  refine congrArg _ ?_
  blk_ext [idx3 t]

theorem blk_o (r : Fin 2048) (l : Fin 128) (e : Fin 8) : @Eq EReal ((insAt m c t).o (ix2 r l)) ((oT (pA (m ((c : Thread nD τ).loc main_arg0)) (m ((c : Thread nD τ).loc main_arg1))) (vT (m ((c : Thread nD τ).loc main_arg0)))) (ix2 (tk (tb t) r) (⟨(tg t).val * 128 + l.val, by have := (tg t).isLt; omega⟩))) := by
  refine Eq.trans ?_ (congrFun (V39 m c) (ix2 (tk (tb t) r) (⟨(tg t).val * 128 + l.val, by have := (tg t).isLt; omega⟩)))
  show iblk m c 4 t (ix2 r l) = V m c main_v39 (ix2 (tk (tb t) r) (⟨(tg t).val * 128 + l.val, by have := (tg t).isLt; omega⟩))
  blk_simp [iblk]
  refine congrArg _ ?_
  blk_ext [idx4 t]

theorem blk_dob (r : Fin 2048) (l : Fin 128) (e : Fin 8) : @Eq EReal ((insAt m c t).dob (ix2 r l)) ((m ((c : Thread nD τ).loc main_arg2)) (ix2 (tk (tb t) r) (⟨(tg t).val * 128 + l.val, by have := (tg t).isLt; omega⟩))) := by
  refine Eq.trans ?_ (congrFun (V49 m c) (ix2 (tk (tb t) r) (⟨(tg t).val * 128 + l.val, by have := (tg t).isLt; omega⟩)))
  show iblk m c 5 t (ix2 r l) = V m c main_v49 (ix2 (tk (tb t) r) (⟨(tg t).val * 128 + l.val, by have := (tg t).isLt; omega⟩))
  blk_simp [iblk]
  refine congrArg _ ?_
  blk_ext [idx5 t]

theorem blk_lse (r : Fin 2048) (l : Fin 128) (e : Fin 8) : @Eq EReal ((insAt m c t).lse (ix4 0 0 e r)) ((wT (mT (sA (m ((c : Thread nD τ).loc main_arg0)) (m ((c : Thread nD τ).loc main_arg1)))) (lT (eA (m ((c : Thread nD τ).loc main_arg0)) (m ((c : Thread nD τ).loc main_arg1)))) (cT (m ((c : Thread nD τ).loc main_arg1)))) (ix4 (tb t) (tg t) e r)) := by
  refine Eq.trans ?_ (congrFun (V45 m c) (ix4 (tb t) (tg t) e r))
  show iblk m c 6 t (ix4 0 0 e r) = V m c main_v45 (ix4 (tb t) (tg t) e r)
  blk_simp [iblk]
  refine congrArg _ ?_
  blk_ext [idx6 t]

end Cert.Proof.Attn

end
-- ==== Proof.KernVal.lean ====
/-
  The kernel's result arrays over real arguments.
-/
module

public import proofs.«01_k».proof.Proof.BlockVal

@[expose] public section

set_option maxRecDepth 16384

noncomputable section

namespace Cert.Proof.Attn

open Cert.KernelIdeal Cert.KernelIdeal.Gen
open Idealize.ShloMosaic Idealize.ShloMosaic.TcCoe Idealize.ShloMosaic.StableHlo
open scoped BigOperators

/-- Lane `l` of pair `g`: its head and its place in it. -/
def lz (g : Fin 4) (l : Fin 128) : Fin 8 := ⟨g.val * 2 + l.val / 64, by omega⟩
def lw (l : Fin 128) : Fin 64 := ⟨l.val % 64, by omega⟩
theorem lz_ol (g : Fin 4) (z : Fin 2) (d : Fin 64) : lz g (ol z d) = hh g z := Fin.ext (by show g.val * 2 + (64 * z.val + d.val) / 64 = g.val * 2 + z.val; omega)
theorem lw_ol (z : Fin 2) (d : Fin 64) : lw (ol z d) = d := Fin.ext (by show (64 * z.val + d.val) % 64 = d.val; omega)

/-- The real operands of a grid point. -/
def rin (G : Args) (b g : Fin 4) : RIn where
  q r l := G.A (tk b r) (qc (lz g l) (lw l))
  k r l := G.A (tk b r) (kc (lz g l) (lw l))
  v r l := G.A (tk b r) (vc (lz g l) (lw l))
  cum r z := G.C b r (hh g z)
  o r l := G.O b (lz g l) r (lw l)
  dob r l := G.D (tk b r) (oc (lz g l) (lw l))
  lse z r := G.W b (hh g z) r

section Alg
variable (G : Args) (b g : Fin 4) (z : Fin 2) (d : Fin 64) (r k q : Fin 2048)

theorem gpR_eq : gpR (rin G b g) z k q = G.P b (hh g z) q k := by
  refine Eq.trans ?_ (G.P_exp b (hh g z) q k (sR (rin G b g) z k q) ?_)
  · rfl
  · simp only [sR, rin, lz_ol, lw_ol, Args.S]
    have e : ∑ x : Fin 64, G.A (tk b k) (kc (hh g z) x) * (G.A (tk b q) (qc (hh g z) x) * (1/8))
        = ∑ x : Fin 64, (G.A (tk b q) (qc (hh g z) x) * (1/8)) * G.A (tk b k) (kc (hh g z) x) :=
      Finset.sum_congr rfl fun x _ => mul_comm _ _
    rw [e]; ring

theorem gsR_eq : gsR (rin G b g) z k q = G.dS b (hh g z) q k := by
  rw [gsR, gpR_eq, G.dS_eq, ← G.dd_eq]
  simp only [rin, lz_ol, lw_ol, Args.dP]
  have e : ∑ x : Fin 64, G.A (tk b k) (vc (hh g z) x) * G.D (tk b q) (oc (hh g z) x)
      = ∑ x : Fin 64, G.D (tk b q) (oc (hh g z) x) * G.A (tk b k) (vc (hh g z) x) :=
    Finset.sum_congr rfl fun x _ => mul_comm _ _
  rw [e]

theorem dqR_eq : dqR (rin G b g) z d r = G.dQ b (hh g z) r d := by
  rw [dqR, Args.dQ]
  refine congrArg (· * _) (Finset.sum_congr rfl fun x _ => ?_)
  rw [gsR_eq, mul_comm]
  simp only [rin, lz_ol, lw_ol]

theorem dkR_eq : dkR (rin G b g) z d r = G.dK b (hh g z) r d := by
  rw [dkR, Args.dK]
  refine Finset.sum_congr rfl fun x _ => ?_
  rw [gsR_eq]
  simp only [rin, lz_ol, lw_ol]

theorem dvR_eq : dvR (rin G b g) z d r = G.dV b (hh g z) r d := by
  rw [dvR, Args.dV]
  refine Finset.sum_congr rfl fun x _ => ?_
  rw [gpR_eq, mul_comm]
  simp only [rin, lz_ol, lw_ol]

theorem dcR_eq : dcR (rin G b g) z r = G.dC b (hh g z) r := by
  rw [dcR, Args.dC, G.dS_sum, add_zero, Finset.sum_neg_distrib]
  exact congrArg _ (Finset.sum_congr rfl fun x _ => gsR_eq G b g z r x)
end Alg

/-! ## The blocks are real -/

variable (m : (ℓ : Loc nD τ sig) → Buf (Elt Ideal) ℓ) (c : Dev nD)

/-- The device's arguments have the real entries `G`. -/
structure IsArgs (G : Args) : Prop where
  a0 : ∀ r l, @Eq EReal (m ((c : Thread nD τ).loc main_arg0) (ix2 r l)) ((G.A r l : ℝ) : EReal)
  a1 : ∀ b i h, @Eq EReal (m ((c : Thread nD τ).loc main_arg1) (ix3 b i h)) ((G.C b i h : ℝ) : EReal)
  a2 : ∀ r l, @Eq EReal (m ((c : Thread nD τ).loc main_arg2) (ix2 r l)) ((G.D r l : ℝ) : EReal)

variable {m c} {G : Args} (hG : IsArgs m c G) (t : Fin cfg0.N)

theorem fin_congr {n : ℕ} {a b : ℕ} {ha : a < n} {hb : b < n} (e : a = b) : (⟨a, ha⟩ : Fin n) = ⟨b, hb⟩ := Fin.ext e

include hG in
theorem isR : IsR (insAt m c t) (rin G (tb t) (tg t)) where
  q r l := by
    refine (blk_q m c t r l 0).trans ((hG.a0 _ _).trans ?_)
    exact congrArg (fun x => ((G.A (tk (tb t) r) x : ℝ) : EReal)) (fin_congr (by show _ = 1024 + ((_ * 2 + _ / 64) * 64 + _ % 64); omega))
  k r l := by
    refine (blk_k m c t r l 0).trans ((hG.a0 _ _).trans ?_)
    exact congrArg (fun x => ((G.A (tk (tb t) r) x : ℝ) : EReal)) (fin_congr (by show _ = 1536 + ((_ * 2 + _ / 64) * 64 + _ % 64); omega))
  v r l := by
    refine (blk_v m c t r l 0).trans ((hG.a0 _ _).trans ?_)
    exact congrArg (fun x => ((G.A (tk (tb t) r) x : ℝ) : EReal)) (fin_congr (by show _ = 2048 + ((_ * 2 + _ / 64) * 64 + _ % 64); omega))
  cum0 r := (blk_cum m c t r 0 0).trans (gT_real (tb t) (tg t) r 0 hG.a1)
  cum1 r := (blk_cum m c t r 1 0).trans (gT_real (tb t) (tg t) r 1 hG.a1)
  o r l := by
    refine (blk_o m c t r l 0).trans (Eq.trans ?_ (oT_real (tb t) r hG.a0 hG.a1 (lz (tg t) l) (lw l)))
    exact congrArg (fun x => oT _ _ (ix2 (tk (tb t) r) x)) (fin_congr (by show _ = (_ * 2 + _ / 64) * 64 + _ % 64; omega))
  dob r l := by
    refine (blk_dob m c t r l 0).trans ((hG.a2 _ _).trans ?_)
    exact congrArg (fun x => ((G.D (tk (tb t) r) x : ℝ) : EReal)) (fin_congr (by show _ = (_ * 2 + _ / 64) * 64 + _ % 64; omega))
  lse z r := (blk_lse m c t r 0 (h8 z)).trans (wT_real (tb t) (tg t) r z hG.a0 hG.a1)

/-! ## The result arrays -/

def arrOfQ (G : Args) : S8192x512.Idx → EReal := fun i => ((G.dQ (rb (i 0)) (lh (i 1)) (rs (i 0)) (lo (i 1)) : ℝ) : EReal)
def arrOfK (G : Args) : S8192x512.Idx → EReal := fun i => ((G.dK (rb (i 0)) (lh (i 1)) (rs (i 0)) (lo (i 1)) : ℝ) : EReal)
def arrOfV (G : Args) : S8192x512.Idx → EReal := fun i => ((G.dV (rb (i 0)) (lh (i 1)) (rs (i 0)) (lo (i 1)) : ℝ) : EReal)
def arrOfC (G : Args) : S4x8192x128.Idx → EReal := fun i => if h : (i 2).val < 2 then ((G.dC (rb (i 1)) (hh (i 0) ⟨(i 2).val, h⟩) (rs (i 1)) : ℝ) : EReal) else 0

theorem lane_eq (l : Fin 128) : ol ⟨l.val / 64, by omega⟩ (lw l) = l := Fin.ext (by show 64 * (l.val / 64) + l.val % 64 = l.val; omega)

include hG in
theorem resQ_place (r : Fin 2048) (l : Fin 128) (i : S8192x512.Idx) (e0 : (i 0).val = (tb t).val * 2048 + r.val) (e1 : (i 1).val = (tg t).val * 128 + l.val) :
    @Eq EReal (resQ (insAt m c t) (ix2 r l)) (arrOfQ G i) := by
  have h := resQ_real (isR hG t) ⟨l.val / 64, by omega⟩ (lw l) r
  rw [lane_eq] at h
  refine h.trans ?_
  rw [dqR_eq, arrOfQ]
  have e2 : rb (i 0) = tb t := Fin.ext (by show (i 0).val / 2048 = _; omega)
  have e3 : rs (i 0) = r := Fin.ext (by show (i 0).val % 2048 = _; omega)
  have e4 : lh (i 1) = hh (tg t) ⟨l.val / 64, by omega⟩ := Fin.ext (by show (i 1).val / 64 = (tg t).val * 2 + l.val / 64; omega)
  have e5 : lo (i 1) = lw l := Fin.ext (by show (i 1).val % 64 = l.val % 64; omega)
  rw [e2, e3, e4, e5]

include hG in
theorem arrQ : (dats m 0 c).arrAt 7 cfg0.N = arrOfQ G := by
  refine (dats m 0 c).arrAt_eq_of_covers 7 _ (by decide +kernel) fun t hf y => ?_
  blk_simp
  rw [after0_7]
  have hy : (y : (⟨2, ![2048, 128]⟩ : Shape).Idx) = ix2 (y 0) (y 1) := eq_ix2 (n0 := 2048) (n1 := 128) y
  refine Eq.trans ?_ (resQ_place hG t (y 0) (y 1) _ ?_ ?_)
  · rw [hy]; rfl
  · blk_simp [idx7 t]
  · blk_simp [idx7 t]

include hG in
theorem resK_place (r : Fin 2048) (l : Fin 128) (i : S8192x512.Idx) (e0 : (i 0).val = (tb t).val * 2048 + r.val) (e1 : (i 1).val = (tg t).val * 128 + l.val) :
    @Eq EReal (resK (insAt m c t) (ix2 r l)) (arrOfK G i) := by
  have h := resK_real (isR hG t) ⟨l.val / 64, by omega⟩ (lw l) r
  rw [lane_eq] at h
  refine h.trans ?_
  rw [dkR_eq, arrOfK]
  have e2 : rb (i 0) = tb t := Fin.ext (by show (i 0).val / 2048 = _; omega)
  have e3 : rs (i 0) = r := Fin.ext (by show (i 0).val % 2048 = _; omega)
  have e4 : lh (i 1) = hh (tg t) ⟨l.val / 64, by omega⟩ := Fin.ext (by show (i 1).val / 64 = (tg t).val * 2 + l.val / 64; omega)
  have e5 : lo (i 1) = lw l := Fin.ext (by show (i 1).val % 64 = l.val % 64; omega)
  rw [e2, e3, e4, e5]

include hG in
theorem arrK : (dats m 0 c).arrAt 8 cfg0.N = arrOfK G := by
  refine (dats m 0 c).arrAt_eq_of_covers 8 _ (by decide +kernel) fun t hf y => ?_
  blk_simp
  rw [after0_8]
  have hy : (y : (⟨2, ![2048, 128]⟩ : Shape).Idx) = ix2 (y 0) (y 1) := eq_ix2 (n0 := 2048) (n1 := 128) y
  refine Eq.trans ?_ (resK_place hG t (y 0) (y 1) _ ?_ ?_)
  · rw [hy]; rfl
  · blk_simp [idx8 t]
  · blk_simp [idx8 t]

include hG in
theorem resV_place (r : Fin 2048) (l : Fin 128) (i : S8192x512.Idx) (e0 : (i 0).val = (tb t).val * 2048 + r.val) (e1 : (i 1).val = (tg t).val * 128 + l.val) :
    @Eq EReal (resV (insAt m c t) (ix2 r l)) (arrOfV G i) := by
  have h := resV_real (isR hG t) ⟨l.val / 64, by omega⟩ (lw l) r
  rw [lane_eq] at h
  refine h.trans ?_
  rw [dvR_eq, arrOfV]
  have e2 : rb (i 0) = tb t := Fin.ext (by show (i 0).val / 2048 = _; omega)
  have e3 : rs (i 0) = r := Fin.ext (by show (i 0).val % 2048 = _; omega)
  have e4 : lh (i 1) = hh (tg t) ⟨l.val / 64, by omega⟩ := Fin.ext (by show (i 1).val / 64 = (tg t).val * 2 + l.val / 64; omega)
  have e5 : lo (i 1) = lw l := Fin.ext (by show (i 1).val % 64 = l.val % 64; omega)
  rw [e2, e3, e4, e5]

include hG in
theorem arrV : (dats m 0 c).arrAt 9 cfg0.N = arrOfV G := by
  refine (dats m 0 c).arrAt_eq_of_covers 9 _ (by decide +kernel) fun t hf y => ?_
  blk_simp
  rw [after0_9]
  have hy : (y : (⟨2, ![2048, 128]⟩ : Shape).Idx) = ix2 (y 0) (y 1) := eq_ix2 (n0 := 2048) (n1 := 128) y
  refine Eq.trans ?_ (resV_place hG t (y 0) (y 1) _ ?_ ?_)
  · rw [hy]; rfl
  · blk_simp [idx9 t]
  · blk_simp [idx9 t]

include hG in
theorem resC_place (r : Fin 2048) (l : Fin 128) (i : S4x8192x128.Idx) (e0 : (i 0).val = (tg t).val) (e1 : (i 1).val = (tb t).val * 2048 + r.val) (e2 : (i 2).val = l.val) :
    @Eq EReal (resC (insAt m c t) (ix3 0 r l)) (arrOfC G i) := by
  refine (resC_real (isR hG t) r l).trans ?_
  have f0 : i 0 = tg t := Fin.ext e0
  have f2 : rb (i 1) = tb t := Fin.ext (by show (i 1).val / 2048 = _; omega)
  have f3 : rs (i 1) = r := Fin.ext (by show (i 1).val % 2048 = _; omega)
  have f1 : i 2 = l := Fin.ext e2
  rw [arrOfC, f0, f1, f2, f3]
  by_cases h : l.val < 2
  · rw [dif_pos h, dif_pos h, dcR_eq]
  · rw [dif_neg h, dif_neg h]

include hG in
theorem arrC : (dats m 0 c).arrAt 10 cfg0.N = arrOfC G := by
  refine (dats m 0 c).arrAt_eq_of_covers 10 _ (by decide +kernel) fun t hf y => ?_
  blk_simp
  rw [after0_10]
  have hy : (y : (⟨3, ![1, 2048, 128]⟩ : Shape).Idx) = ix3 0 (y 1) (y 2) := (eq_ix3 (n0 := 1) (n1 := 2048) (n2 := 128) y).trans (congrArg (fun a => ix3 a (y 1) (y 2)) (Subsingleton.elim (α := Fin 1) _ _))
  refine Eq.trans ?_ (resC_place hG t (y 1) (y 2) _ ?_ ?_ ?_)
  · rw [hy]; rfl
  · blk_simp [idx10 t]
  · blk_simp [idx10 t]
  · blk_simp [idx10 t]

end Cert.Proof.Attn

end
-- ==== Proof.Pre.lean ====
/-
  The precondition: every entry of every argument is a real.
-/
module

public import proofs.«01_k».proof.Proof.KernVal
public import proofs.«01_k».proof.Defs
public import Idealize.ShloMosaic.Lib.ReduceAll

@[expose] public section

set_option maxRecDepth 16384

noncomputable section

namespace Cert.Proof.Attn

open Cert.KernelIdeal Cert.KernelIdeal.Gen
open Idealize.ShloMosaic Idealize.ShloMosaic.TcCoe Idealize.ShloMosaic.StableHlo
open scoped BigOperators

/-- The side conditions of the precondition's own text. -/
instance preFacts : Cert.Pre_finite.Facts where
  bcast_S_S8192x4608 := by decide
  reducesTo_S8192x4608_S_d0_1 := by decide
  h_S_ := by decide
  bcast_S_S4x2048x8 := by decide
  reducesTo_S4x2048x8_S_d0_1_2 := by decide
  bcast_S_S8192x512 := by decide
  reducesTo_S8192x512_S_d0_1 := by decide

theorem pinf_eq : Ideal.ofBits FTy.f32 0x7F800000#32 = (⊤ : EReal) := by
  simp [Ideal.ofBits, Ideal.ieee]

theorem and_one (a b : BitVec 1) (h : IntOp.andi a b = 1#1) : a = 1#1 ∧ b = 1#1 := by
  revert a b; decide

/-- An extended real above minus infinity and below plus infinity is a real. -/
theorem real_of (x : EReal) (h : IntOp.andi (Ideal.cmp .ogt x (Ideal.ofBits FTy.f32 0xFF800000#32)) (Ideal.cmp .olt x (Ideal.ofBits FTy.f32 0x7F800000#32)) = 1#1) : x = ((x.toReal : ℝ) : EReal) := by
  obtain ⟨h1, h2⟩ := and_one _ _ h
  rw [ninf_eq] at h1
  rw [pinf_eq] at h2
  have h3 := (Ideal.cmp_ogt_eq_one _ _).1 h1
  have h4 := (Ideal.cmp_olt_eq_one _ _).1 h2
  exact (EReal.coe_toReal (ne_of_lt h4) (ne_of_gt h3)).symm

instance : Subsingleton Cert.Pre_finite.S_.Idx := ⟨fun a b => funext fun i => i.elim0⟩

/-- What the precondition says: every entry of every argument is a real. -/
theorem pre_real (a0 : FVec Ideal S8192x4608 .f32) (a1 : FVec Ideal S4x2048x8 .f32) (a2 : FVec Ideal S8192x512 .f32)
    (h : @Cert.Pre_finite.fn preFacts Ideal _ a0 a1 a2 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal)) := by
  have e := congrFun h (fun i => i.elim0)
  dsimp only [Cert.Pre_finite.fn, Cert.Pre_finite.fn_part1] at e
  obtain ⟨e12, e2⟩ := and_one _ _ e
  obtain ⟨e0, e1⟩ := and_one _ _ e12
  exact ⟨fun i => real_of _ (Host.reduce_andi_all _ _ _ _ _ e0 i), fun i => real_of _ (Host.reduce_andi_all _ _ _ _ _ e1 i), fun i => real_of _ (Host.reduce_andi_all _ _ _ _ _ e2 i)⟩

theorem args_of (m : (ℓ : Loc nD τ sig) → Buf (Elt Ideal) ℓ) (h : Cert.Pre_KernelIdeal_finite (hPre_finite := preFacts) m) (c : Dev nD) : ∃ G, IsArgs m c G := by
  obtain ⟨h0, h1, h2⟩ := pre_real _ _ _ (h c)
  exact ⟨⟨fun r l => EReal.toReal (m ((c : Thread nD τ).loc main_arg0) (ix2 r l)), fun b i h => EReal.toReal (m ((c : Thread nD τ).loc main_arg1) (ix3 b i h)), fun r l => EReal.toReal (m ((c : Thread nD τ).loc main_arg2) (ix2 r l))⟩,
    fun _ _ => h0 _, fun _ _ _ => h1 _, fun _ _ => h2 _⟩

end Cert.Proof.Attn

end
-- ==== Proof.RefStage.lean ====
/-
  The reference's stages.
-/
module

public import proofs.«01_k».proof.Proof.Fwd
public import proofs.«01_k».proof.Proof.Gen.ReferenceIdeal.Run
public import Idealize.ShloMosaic.Lib.Claim

@[expose] public section

set_option maxRecDepth 16384

noncomputable section

namespace Cert.Proof.Attn.Ref

open Cert.ReferenceIdeal Cert.ReferenceIdeal.Gen
open Idealize.ShloMosaic Idealize.ShloMosaic.TcCoe Idealize.ShloMosaic.StableHlo
open scoped BigOperators

def maskT : Vec Ideal S4x8x2048x2048 .i1 := broadcastInDim S4x8x2048x2048 ![0, 1, 2, 3] bcast_S1x1x2048x2048_S4x8x2048x2048_0_1_2_3 (broadcastInDim S1x1x2048x2048 ![2, 3] bcast_S2048x2048_S1x1x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
def qT (a0 : FVec Ideal S8192x4608 .f32) : FVec Ideal S4x8x2048x64 .f32 := mulf (transpose S4x8x2048x64 [0, 2, 1, 3] (shapeCast S4x2048x8x64 (extractStridedSlice S8192x512 ![0, 1024] a0 slices_S8192x4608_S8192x512_0_1024) shapeCasts_S8192x512_S4x2048x8x64) transposes_S4x2048x8x64_S4x8x2048x64_0_2_1_3) (broadcastInDim S4x8x2048x64 ![] bcast_S_S4x8x2048x64 (constant S_ .f32 0x3E000000#32))
def kT (a0 : FVec Ideal S8192x4608 .f32) : FVec Ideal S4x8x2048x64 .f32 := (transpose S4x8x2048x64 [0, 2, 1, 3] (shapeCast S4x2048x8x64 (extractStridedSlice S8192x512 ![0, 1536] a0 slices_S8192x4608_S8192x512_0_1536) shapeCasts_S8192x512_S4x2048x8x64) transposes_S4x2048x8x64_S4x8x2048x64_0_2_1_3)
def vT (a0 : FVec Ideal S8192x4608 .f32) : FVec Ideal S4x8x2048x64 .f32 := (transpose S4x8x2048x64 [0, 2, 1, 3] (shapeCast S4x2048x8x64 (extractStridedSlice S8192x512 ![0, 2048] a0 slices_S8192x4608_S8192x512_0_2048) shapeCasts_S8192x512_S4x2048x8x64) transposes_S4x2048x8x64_S4x8x2048x64_0_2_1_3)
def dotT (x y : FVec Ideal S4x8x2048x64 .f32) : FVec Ideal S4x8x2048x2048 .f32 := Host.dotGeneral dot_S4x8x2048x64_S4x8x2048x64_S4x8x2048x2048_3_3_2_2_01_01 none x y
def rowT (x : FVec Ideal S4x8x2048 .f32) : FVec Ideal S4x8x2048x2048 .f32 := broadcastInDim S4x8x2048x2048 ![0, 1, 2, 3] bcast_S4x8x2048x1_S4x8x2048x2048_0_1_2_3 (broadcastInDim S4x8x2048x1 ![0, 1, 2] bcast_S4x8x2048_S4x8x2048x1_0_1_2 x)
def colT (x : FVec Ideal S4x8x2048 .f32) : FVec Ideal S4x8x2048x2048 .f32 := broadcastInDim S4x8x2048x2048 ![0, 1, 2, 3] bcast_S4x8x1x2048_S4x8x2048x2048_0_1_2_3 (broadcastInDim S4x8x1x2048 ![0, 1, 3] bcast_S4x8x2048_S4x8x1x2048_0_1_3 x)
def cT (a1 : FVec Ideal S4x2048x8 .f32) : FVec Ideal S4x8x2048 .f32 := transpose S4x8x2048 [0, 2, 1] a1 transposes_S4x2048x8_S4x8x2048_0_2_1
def sT (x : FVec Ideal S4x8x2048x2048 .f32) (c : FVec Ideal S4x8x2048 .f32) : FVec Ideal S4x8x2048x2048 .f32 := select maskT (subf (addf x (rowT c)) (colT c)) (broadcastInDim S4x8x2048x2048 ![] bcast_S_S4x8x2048x2048 (id (constant S_ .f32 0xFF800000#32)))
def mT (x : FVec Ideal S4x8x2048x2048 .f32) : FVec Ideal S4x8x2048 .f32 := Host.reduce FloatOps.maximumf x (constant S_ .f32 0xFF800000#32) reducesTo_S4x8x2048x2048_S4x8x2048_d3 h_S_
def eT (x : FVec Ideal S4x8x2048x2048 .f32) (y : FVec Ideal S4x8x2048 .f32) : FVec Ideal S4x8x2048x2048 .f32 := Host.exp (subf x (rowT y))
def lT (x : FVec Ideal S4x8x2048x2048 .f32) : FVec Ideal S4x8x2048 .f32 := Host.reduceAdd x (constant S_ .f32 0x00000000#32) reducesTo_S4x8x2048x2048_S4x8x2048_d3 h_S_
def pT (x : FVec Ideal S4x8x2048x2048 .f32) (y : FVec Ideal S4x8x2048 .f32) : FVec Ideal S4x8x2048x2048 .f32 := Host.divf x (rowT y)

section
variable (b : Fin 4) (h : Fin 8) (i j : Fin 2048) (d : Fin 64)
theorem cT_at (a1 : FVec Ideal S4x2048x8 .f32) : @Eq EReal (cT a1 (ix3 b h i)) (a1 (ix3 b i h)) := by pointwise [cT]
theorem maskT_at : maskT (ix4 b h i j) = if j.val ≤ i.val then 1#1 else 0#1 := by
  pointwise [maskT]
  exact cmp_mask i j
theorem qT_at (a0 : FVec Ideal S8192x4608 .f32) : @Eq EReal (qT a0 (ix4 b h i d)) ((a0 (ix2 (tk b i) (qc h d)) : EReal) * Ideal.ofBits FTy.f32 1040187392#32) := by
  pointwise [qT]
theorem kT_at (a0 : FVec Ideal S8192x4608 .f32) : @Eq EReal (kT a0 (ix4 b h i d)) (a0 (ix2 (tk b i) (kc h d))) := by
  pointwise [kT]
theorem vT_at (a0 : FVec Ideal S8192x4608 .f32) : @Eq EReal (vT a0 (ix4 b h i d)) (a0 (ix2 (tk b i) (vc h d))) := by
  pointwise [vT]
theorem dotT_at (x y : FVec Ideal S4x8x2048x64 .f32) : @Eq EReal (dotT x y (ix4 b h i j)) (∑ d : Fin 64, (x (ix4 b h i d) : EReal) * y (ix4 b h j d)) := by
  pointwise [dotT, dot_S4x8x2048x64_S4x8x2048x64_S4x8x2048x2048_3_3_2_2_01_01]
theorem rowT_at (x : FVec Ideal S4x8x2048 .f32) : @Eq EReal (rowT x (ix4 b h i j)) (x (ix3 b h i)) := by pointwise [rowT]
theorem colT_at (x : FVec Ideal S4x8x2048 .f32) : @Eq EReal (colT x (ix4 b h i j)) (x (ix3 b h j)) := by pointwise [colT]
theorem mT_at (x : FVec Ideal S4x8x2048x2048 .f32) : @Eq EReal (mT x (ix3 b h i)) (Finset.fold max (Ideal.ofBits FTy.f32 4286578688#32) (fun j => (x (ix4 b h i j) : EReal)) Finset.univ) := by pointwise [mT]
theorem lT_at (x : FVec Ideal S4x8x2048x2048 .f32) : @Eq EReal (lT x (ix3 b h i)) (∑ j : Fin 2048, (x (ix4 b h i j) : EReal)) := by pointwise [lT]
theorem eT_at (x : FVec Ideal S4x8x2048x2048 .f32) (y : FVec Ideal S4x8x2048 .f32) : @Eq EReal (eT x y (ix4 b h i j)) (Ideal.exp ((x (ix4 b h i j) : EReal) - y (ix3 b h i))) := by pointwise [eT, rowT]
theorem pT_at (x : FVec Ideal S4x8x2048x2048 .f32) (y : FVec Ideal S4x8x2048 .f32) : @Eq EReal (pT x y (ix4 b h i j)) (Ideal.div (x (ix4 b h i j)) (y (ix3 b h i))) := by pointwise [pT, rowT]
theorem sT_at (x : FVec Ideal S4x8x2048x2048 .f32) (c : FVec Ideal S4x8x2048 .f32) : @Eq EReal (sT x c (ix4 b h i j)) (Scalar.select (maskT (ix4 b h i j)) ((x (ix4 b h i j) : EReal) + c (ix3 b h i) - c (ix3 b h j)) (Ideal.ofBits FTy.f32 4286578688#32)) := by
  pointwise [sT, rowT, colT]
  rfl
end

/-! ## Over real arguments -/

section Real
variable {G : Args} {a0 : FVec Ideal S8192x4608 .f32} {a1 : FVec Ideal S4x2048x8 .f32}
  (h0 : ∀ r l, a0 (ix2 r l) = ((G.A r l : ℝ) : EReal)) (h1 : ∀ b i h, a1 (ix3 b i h) = ((G.C b i h : ℝ) : EReal))
  (b : Fin 4) (h : Fin 8) (i j : Fin 2048) (d : Fin 64)

def sA (a0 : FVec Ideal S8192x4608 .f32) (a1 : FVec Ideal S4x2048x8 .f32) : FVec Ideal S4x8x2048x2048 .f32 := sT (dotT (qT a0) (kT a0)) (cT a1)
def eA (a0 : FVec Ideal S8192x4608 .f32) (a1 : FVec Ideal S4x2048x8 .f32) : FVec Ideal S4x8x2048x2048 .f32 := eT (sA a0 a1) (mT (sA a0 a1))
def pA (a0 : FVec Ideal S8192x4608 .f32) (a1 : FVec Ideal S4x2048x8 .f32) : FVec Ideal S4x8x2048x2048 .f32 := pT (eA a0 a1) (lT (eA a0 a1))

include h0 in
theorem qT_real : qT a0 (ix4 b h i d) = ((G.A (tk b i) (qc h d) * (1/8) : ℝ) : EReal) := by
  refine (qT_at b h i d a0).trans ?_
  rw [h0]
  exact (congrArg (_ * ·) sc_eq).trans (EReal.coe_mul _ _).symm
include h0 in
theorem kT_real : kT a0 (ix4 b h i d) = ((G.A (tk b i) (kc h d) : ℝ) : EReal) := (kT_at b h i d a0).trans (h0 _ _)
include h0 in
theorem vT_real : vT a0 (ix4 b h i d) = ((G.A (tk b i) (vc h d) : ℝ) : EReal) := (vT_at b h i d a0).trans (h0 _ _)
include h1 in
theorem cT_real : cT a1 (ix3 b h i) = ((G.C b i h : ℝ) : EReal) := (cT_at b h i a1).trans (h1 _ _ _)

theorem dotT_real {x y : FVec Ideal S4x8x2048x64 .f32} {f g : Fin 2048 → Fin 64 → ℝ} (hx : ∀ i d, x (ix4 b h i d) = ((f i d : ℝ) : EReal)) (hy : ∀ i d, y (ix4 b h i d) = ((g i d : ℝ) : EReal)) :
    dotT x y (ix4 b h i j) = ((∑ d, f i d * g j d : ℝ) : EReal) := by
  refine (dotT_at b h i j x y).trans ?_
  rw [csum]
  refine Finset.sum_congr rfl fun d _ => ?_
  rw [hx, hy, EReal.coe_mul]

include h0 h1 in
theorem sA_real : sA a0 a1 (ix4 b h i j) = G.Sm b h i j := by
  refine (sT_at b h i j _ _).trans ?_
  rw [maskT_at, ninf_eq, dotT_real b h i j (fun i d => qT_real h0 b h i d) (fun i d => kT_real h0 b h i d), cT_real h1 b h i, cT_real h1 b h j, Args.Sm]
  split
  · rw [sel1, Args.S, EReal.coe_sub, EReal.coe_add]
  · rw [sel0]

include h0 h1 in
theorem mA_real : mT (sA a0 a1) (ix3 b h i) = ((G.M b h i : ℝ) : EReal) := by
  refine (mT_at b h i _).trans ?_
  rw [ninf_eq, ← G.M_spec]
  exact Finset.fold_congr fun j _ => sA_real h0 h1 b h i j

theorem exp_real (z : EReal) (hz : z = G.Sm b h i j) (y : EReal) (hy : y = ((G.M b h i : ℝ) : EReal)) : Ideal.exp (z - y) = ((G.E b h i j : ℝ) : EReal) := by
  rw [hz, hy, Args.Sm, Args.E]
  split
  · rw [← EReal.coe_sub, Ideal.exp_coe]
  · rw [EReal.bot_sub, Ideal.exp_bot]; rfl

include h0 h1 in
theorem eA_real : eA a0 a1 (ix4 b h i j) = ((G.E b h i j : ℝ) : EReal) :=
  (eT_at b h i j _ _).trans (exp_real b h i j _ (sA_real h0 h1 b h i j) _ (mA_real h0 h1 b h i))

include h0 h1 in
theorem lA_real : lT (eA a0 a1) (ix3 b h i) = ((G.L b h i : ℝ) : EReal) := by
  refine (lT_at b h i _).trans ?_
  rw [Args.L, csum]
  exact Finset.sum_congr rfl fun j _ => eA_real h0 h1 b h i j

include h0 h1 in
theorem pA_real : pA a0 a1 (ix4 b h i j) = ((G.P b h i j : ℝ) : EReal) := by
  refine (pT_at b h i j _ _).trans ?_
  rw [eA_real h0 h1, lA_real h0 h1, Ideal.div_coe (G.L_pos b h i).ne', Args.P, EReal.coe_mul]
end Real

/-! ## The reference's own stages -/

def mR (y : FVec Ideal S4x8x2048 .f32) : FVec Ideal S4x8x2048 .f32 := maximumf (broadcastInDim S4x8x2048 ![] bcast_S_S4x8x2048 (constant S_ .f32 0xFF800000#32)) y
def eR (a0 : FVec Ideal S8192x4608 .f32) (a1 : FVec Ideal S4x2048x8 .f32) : FVec Ideal S4x8x2048x2048 .f32 := eT (sA a0 a1) (mR (mT (sA a0 a1)))
def lC (x : FVec Ideal S4x8x2048 .f32) : FVec Ideal S4x8x2048x1 .f32 := broadcastInDim S4x8x2048x1 ![0, 1, 2] bcast_S4x8x2048_S4x8x2048x1_0_1_2 x
def lB (x : FVec Ideal S4x8x2048x1 .f32) : FVec Ideal S4x8x2048x2048 .f32 := broadcastInDim S4x8x2048x2048 ![0, 1, 2, 3] bcast_S4x8x2048x1_S4x8x2048x2048_0_1_2_3 x
def iR (l : FVec Ideal S4x8x2048 .f32) : FVec Ideal S4x8x2048x1 .f32 := Host.divf (broadcastInDim S4x8x2048x1 ![] bcast_S_S4x8x2048x1 (constant S_ .f32 0x3F800000#32)) (mulf (lC l) (lC l))
def dT (a2 : FVec Ideal S8192x512 .f32) : FVec Ideal S4x8x2048x64 .f32 := transpose S4x8x2048x64 [0, 2, 1, 3] (shapeCast S4x2048x8x64 a2 shapeCasts_S8192x512_S4x2048x8x64) transposes_S4x2048x8x64_S4x8x2048x64_0_2_1_3
def xR (dp e : FVec Ideal S4x8x2048x2048 .f32) (l : FVec Ideal S4x8x2048 .f32) : FVec Ideal S4x8x2048 .f32 := Host.reduceAdd (Host.negf (shapeCast S4x8x2048x1 (Host.reduceAdd (mulf (mulf dp (lB (iR l))) e) (constant S_ .f32 0x00000000#32) reducesTo_S4x8x2048x2048_S4x8x2048_d3 h_S_) shapeCasts_S4x8x2048_S4x8x2048x1)) (constant S_ .f32 0x00000000#32) reducesTo_S4x8x2048x1_S4x8x2048_d3 h_S_
def sR (dp e : FVec Ideal S4x8x2048x2048 .f32) (l x : FVec Ideal S4x8x2048 .f32) : FVec Ideal S4x8x2048x2048 .f32 := select maskT (mulf (addf (Host.divf dp (lB (lC l))) (broadcastInDim S4x8x2048x2048 ![0, 1, 2] bcast_S4x8x2048_S4x8x2048x2048_0_1_2 x)) e) (broadcastInDim S4x8x2048x2048 ![] bcast_S_S4x8x2048x2048 (constant S_ .f32 0x00000000#32))
def flat (x : FVec Ideal S4x8x2048x64 .f32) : FVec Ideal S8192x512 .f32 := shapeCast S8192x512 (transpose S4x2048x8x64 [0, 2, 1, 3] x transposes_S4x8x2048x64_S4x2048x8x64_0_2_1_3) shapeCasts_S4x2048x8x64_S8192x512
def vR (d : FVec Ideal S4x8x2048x64 .f32) (p : FVec Ideal S4x8x2048x2048 .f32) : FVec Ideal S8192x512 .f32 := flat (transpose S4x8x2048x64 [0, 1, 3, 2] (Host.dotGeneral dot_S4x8x2048x64_S4x8x2048x2048_S4x8x64x2048_2_2_3_3_01_01 none d p) transposes_S4x8x64x2048_S4x8x2048x64_0_1_3_2)
def kR (s : FVec Ideal S4x8x2048x2048 .f32) (q : FVec Ideal S4x8x2048x64 .f32) : FVec Ideal S8192x512 .f32 := flat (Host.dotGeneral dot_S4x8x2048x2048_S4x8x2048x64_S4x8x2048x64_2_2_3_3_01_01 none s q)
def qR (s : FVec Ideal S4x8x2048x2048 .f32) (k : FVec Ideal S4x8x2048x64 .f32) : FVec Ideal S8192x512 .f32 := flat (mulf (Host.dotGeneral dot_S4x8x2048x2048_S4x8x2048x64_S4x8x2048x64_3_2_2_3_01_01 none s k) (broadcastInDim S4x8x2048x64 ![] bcast_S_S4x8x2048x64 (constant S_ .f32 0x3E000000#32)))
def c0R (s : FVec Ideal S4x8x2048x2048 .f32) : FVec Ideal S4x8x2048 .f32 := Host.reduceAdd (shapeCast S4x8x1x2048 (Host.reduceAdd (Host.negf s) (constant S_ .f32 0x00000000#32) reducesTo_S4x8x2048x2048_S4x8x2048_d2 h_S_) shapeCasts_S4x8x2048_S4x8x1x2048) (constant S_ .f32 0x00000000#32) reducesTo_S4x8x1x2048_S4x8x2048_d2 h_S_
def c1R (s : FVec Ideal S4x8x2048x2048 .f32) : FVec Ideal S4x8x2048 .f32 := Host.reduceAdd (shapeCast S4x8x2048x1 (Host.reduceAdd s (constant S_ .f32 0x00000000#32) reducesTo_S4x8x2048x2048_S4x8x2048_d3 h_S_) shapeCasts_S4x8x2048_S4x8x2048x1) (constant S_ .f32 0x00000000#32) reducesTo_S4x8x2048x1_S4x8x2048_d3 h_S_
def cR (s : FVec Ideal S4x8x2048x2048 .f32) : FVec Ideal S4x8192x128 .f32 := pad S4x8192x128 ![0, 0, 0] ![0, 0, 126] ![0, 0, 0] (transpose S4x8192x2 [1, 0, 2] (shapeCast S8192x4x2 (transpose S4x2048x8 [0, 2, 1] (addf (c0R s) (c1R s)) transposes_S4x8x2048_S4x2048x8_0_2_1) shapeCasts_S4x2048x8_S8192x4x2) transposes_S8192x4x2_S4x8192x2_1_0_2) (sitofp .f32 (constantI S_ 32 0#32)) pads_S4x8192x2_S4x8192x128_000_000_01260 h_S_

def dpA (a0 : FVec Ideal S8192x4608 .f32) (a2 : FVec Ideal S8192x512 .f32) : FVec Ideal S4x8x2048x2048 .f32 := dotT (dT a2) (vT a0)
def lR (a0 : FVec Ideal S8192x4608 .f32) (a1 : FVec Ideal S4x2048x8 .f32) : FVec Ideal S4x8x2048 .f32 := lT (eR a0 a1)
def dsA (a0 : FVec Ideal S8192x4608 .f32) (a1 : FVec Ideal S4x2048x8 .f32) (a2 : FVec Ideal S8192x512 .f32) : FVec Ideal S4x8x2048x2048 .f32 :=
  sR (dpA a0 a2) (eR a0 a1) (lR a0 a1) (xR (dpA a0 a2) (eR a0 a1) (lR a0 a1))

end Cert.Proof.Attn.Ref

end
-- ==== Proof.RefVal.lean ====
/-
  The reference's results, read at an index.
-/
module

public import proofs.«01_k».proof.Proof.RefStage

@[expose] public section

set_option maxRecDepth 16384

noncomputable section

namespace Cert.Proof.Attn.Ref

open Cert.ReferenceIdeal Cert.ReferenceIdeal.Gen
open Idealize.ShloMosaic Idealize.ShloMosaic.TcCoe Idealize.ShloMosaic.StableHlo
open scoped BigOperators

theorem sum1 (f : Fin 1 → EReal) : ∑ x, f x = f 0 := Fin.sum_univ_one f

theorem sit0 : @Eq EReal (FloatOps.sitofp (F := Ideal) FTy.f32 0#32) 0 := by
  show (((0#32 : BitVec 32).toInt : ℝ) : EReal) = 0
  norm_num

section
variable (b : Fin 4) (h : Fin 8) (i j : Fin 2048) (d : Fin 64) (r : Fin 8192) (l : Fin 512)
theorem mR_at (y : FVec Ideal S4x8x2048 .f32) : @Eq EReal (mR y (ix3 b h i)) (max (Ideal.ofBits FTy.f32 4286578688#32) (y (ix3 b h i) : EReal)) := by pointwise [mR]
theorem dT_at (a2 : FVec Ideal S8192x512 .f32) (z : EReal) (hz : (a2 (ix2 (tk b i) (oc h d)) : EReal) = z) : @Eq EReal (dT a2 (ix4 b h i d)) z := by
  pointwise [dT]
  exact hz
theorem xR_at (dp e : FVec Ideal S4x8x2048x2048 .f32) (l : FVec Ideal S4x8x2048 .f32) : @Eq EReal (xR dp e l (ix3 b h i)) (-∑ j, (dp (ix4 b h i j) : EReal) * Ideal.div 1 ((l (ix3 b h i) : EReal) * l (ix3 b h i)) * e (ix4 b h i j)) := by
  pointwise [xR, lB, iR, lC]
  exact sum1 _
theorem sR_at (dp e : FVec Ideal S4x8x2048x2048 .f32) (l x : FVec Ideal S4x8x2048 .f32) : @Eq EReal (sR dp e l x (ix4 b h i j)) (Scalar.select (maskT (ix4 b h i j)) ((Ideal.div (dp (ix4 b h i j)) (l (ix3 b h i)) + x (ix3 b h i)) * e (ix4 b h i j)) (0 : EReal)) := by
  pointwise [sR, lB, lC]
theorem vR_at (w : FVec Ideal S4x8x2048x64 .f32) (p : FVec Ideal S4x8x2048x2048 .f32) : @Eq EReal (vR w p (ix2 r l)) (∑ x, (w (ix4 (rb r) (lh l) x (lo l)) : EReal) * p (ix4 (rb r) (lh l) x (rs r))) := by
  pointwise [vR, flat, dot_S4x8x2048x64_S4x8x2048x2048_S4x8x64x2048_2_2_3_3_01_01]
  rfl
theorem kR_at (s : FVec Ideal S4x8x2048x2048 .f32) (q : FVec Ideal S4x8x2048x64 .f32) : @Eq EReal (kR s q (ix2 r l)) (∑ x, (s (ix4 (rb r) (lh l) x (rs r)) : EReal) * q (ix4 (rb r) (lh l) x (lo l))) := by
  pointwise [kR, flat, dot_S4x8x2048x2048_S4x8x2048x64_S4x8x2048x64_2_2_3_3_01_01]
  rfl
theorem qR_at (s : FVec Ideal S4x8x2048x2048 .f32) (k : FVec Ideal S4x8x2048x64 .f32) : @Eq EReal (qR s k (ix2 r l)) ((∑ x, (s (ix4 (rb r) (lh l) (rs r) x) : EReal) * k (ix4 (rb r) (lh l) x (lo l))) * Ideal.ofBits FTy.f32 1040187392#32) := by
  pointwise [qR, flat, dot_S4x8x2048x2048_S4x8x2048x64_S4x8x2048x64_3_2_2_3_01_01]
  rfl
theorem c0R_at (s : FVec Ideal S4x8x2048x2048 .f32) : @Eq EReal (c0R s (ix3 b h i)) (∑ x, -(s (ix4 b h x i) : EReal)) := by
  pointwise [c0R]
  exact sum1 _
theorem c1R_at (s : FVec Ideal S4x8x2048x2048 .f32) : @Eq EReal (c1R s (ix3 b h i)) (∑ x, (s (ix4 b h i x) : EReal)) := by
  pointwise [c1R]
  exact sum1 _
theorem cR_at (s : FVec Ideal S4x8x2048x2048 .f32) (g : Fin 4) (e : Fin 128) : @Eq EReal (cR s (ix3 g r e)) (if h : e.val < 2 then (c0R s (ix3 (rb r) (hh g ⟨e.val, h⟩) (rs r)) : EReal) + c1R s (ix3 (rb r) (hh g ⟨e.val, h⟩) (rs r)) else 0) := by
  pointwise [cR]
  by_cases he : e.val < 2
  · rw [dif_pos he, dif_pos he]
    rfl
  · rw [dif_neg he, dif_neg he]
    exact sit0
end

/-! ## Over real arguments -/

section Real2
variable {G : Args} {a0 : FVec Ideal S8192x4608 .f32} {a1 : FVec Ideal S4x2048x8 .f32} {a2 : FVec Ideal S8192x512 .f32}
  (h0 : ∀ r l, a0 (ix2 r l) = ((G.A r l : ℝ) : EReal)) (h1 : ∀ b i h, a1 (ix3 b i h) = ((G.C b i h : ℝ) : EReal)) (h2 : ∀ r l, a2 (ix2 r l) = ((G.D r l : ℝ) : EReal))
  (b : Fin 4) (h : Fin 8) (i j : Fin 2048) (d : Fin 64)

include h0 h1 in
theorem mR_real : mR (mT (sA a0 a1)) (ix3 b h i) = ((G.M b h i : ℝ) : EReal) := by
  refine (mR_at b h i _).trans ?_
  rw [ninf_eq, mA_real h0 h1 b h i, max_eq_right bot_le]
include h0 h1 in
theorem eR_real : eR a0 a1 (ix4 b h i j) = ((G.E b h i j : ℝ) : EReal) :=
  (eT_at b h i j _ _).trans (exp_real b h i j _ (sA_real h0 h1 b h i j) _ (mR_real h0 h1 b h i))
include h0 h1 in
theorem lR_real : lR a0 a1 (ix3 b h i) = ((G.L b h i : ℝ) : EReal) := by
  refine (lT_at b h i _).trans ?_
  rw [Args.L, csum]
  exact Finset.sum_congr rfl fun j _ => eR_real h0 h1 b h i j
include h0 h1 in
theorem pR_real : pT (eR a0 a1) (lR a0 a1) (ix4 b h i j) = ((G.P b h i j : ℝ) : EReal) := by
  refine (pT_at b h i j _ _).trans ?_
  rw [eR_real h0 h1, lR_real h0 h1, Ideal.div_coe (G.L_pos b h i).ne', Args.P, EReal.coe_mul]
include h2 in
theorem dT_real : dT a2 (ix4 b h i d) = ((G.D (tk b i) (oc h d) : ℝ) : EReal) := dT_at b h i d a2 _ (h2 _ _)
include h0 h2 in
theorem dpA_real : dpA a0 a2 (ix4 b h i j) = ((G.dP b h i j : ℝ) : EReal) :=
  dotT_real b h i j (fun i d => dT_real h2 b h i d) (fun i d => vT_real h0 b h i d)
include h0 h1 h2 in
theorem xR_real : xR (dpA a0 a2) (eR a0 a1) (lR a0 a1) (ix3 b h i) = ((-G.X b h i : ℝ) : EReal) := by
  refine (xR_at b h i _ _ _).trans ?_
  rw [EReal.coe_neg, Args.X, csum]
  refine congrArg _ (Finset.sum_congr rfl fun j _ => ?_)
  have hl := (G.L_pos b h i).ne'
  rw [dpA_real h0 h2, eR_real h0 h1, lR_real h0 h1, ← EReal.coe_mul, Ideal.div_coe (mul_ne_zero hl hl), one_mul, EReal.coe_mul, EReal.coe_mul]
include h0 h1 h2 in
theorem dsA_real : dsA a0 a1 a2 (ix4 b h i j) = ((G.dS b h i j : ℝ) : EReal) := by
  refine (sR_at b h i j _ _ _ _).trans ?_
  have hl := (G.L_pos b h i).ne'
  rw [maskT_at, dpA_real h0 h2, eR_real h0 h1, lR_real h0 h1, xR_real h0 h1 h2, Ideal.div_coe hl, Args.dS]
  split
  · rw [sel1, EReal.coe_mul, EReal.coe_add, EReal.coe_mul]
  · rw [sel0]; rfl
include h0 h1 h2 in
theorem qR_real (r : Fin 8192) (l : Fin 512) : qR (dsA a0 a1 a2) (kT a0) (ix2 r l) = ((G.dQ (rb r) (lh l) (rs r) (lo l) : ℝ) : EReal) := by
  refine (qR_at r l _ _).trans ?_
  rw [Args.dQ, EReal.coe_mul, csum]
  refine congrArg₂ (· * ·) (Finset.sum_congr rfl fun x _ => ?_) sc_eq
  rw [dsA_real h0 h1 h2, kT_real h0, EReal.coe_mul]
include h0 h1 h2 in
theorem kR_real (r : Fin 8192) (l : Fin 512) : kR (dsA a0 a1 a2) (qT a0) (ix2 r l) = ((G.dK (rb r) (lh l) (rs r) (lo l) : ℝ) : EReal) := by
  refine (kR_at r l _ _).trans ?_
  rw [Args.dK, csum]
  refine Finset.sum_congr rfl fun x _ => ?_
  rw [dsA_real h0 h1 h2, qT_real h0]
  exact (EReal.coe_mul _ _).symm
include h0 h1 h2 in
theorem vR_real (r : Fin 8192) (l : Fin 512) : vR (dT a2) (pT (eR a0 a1) (lR a0 a1)) (ix2 r l) = ((G.dV (rb r) (lh l) (rs r) (lo l) : ℝ) : EReal) := by
  refine (vR_at r l _ _).trans ?_
  rw [Args.dV, csum]
  refine Finset.sum_congr rfl fun x _ => ?_
  rw [dT_real h2, pR_real h0 h1, EReal.coe_mul]
include h0 h1 h2 in
theorem cR_real (g : Fin 4) (r : Fin 8192) (e : Fin 128) : cR (dsA a0 a1 a2) (ix3 g r e) = if h : e.val < 2 then ((G.dC (rb r) (hh g ⟨e.val, h⟩) (rs r) : ℝ) : EReal) else 0 := by
  refine (cR_at r _ g e).trans ?_
  by_cases he : e.val < 2
  · rw [dif_pos he, dif_pos he, c0R_at, c1R_at, Args.dC, EReal.coe_add, csum, csum]
    refine congrArg₂ (· + ·) (Finset.sum_congr rfl fun x _ => ?_) (Finset.sum_congr rfl fun x _ => ?_)
    · rw [dsA_real h0 h1 h2, EReal.coe_neg]
    · rw [dsA_real h0 h1 h2]
  · rw [dif_neg he, dif_neg he]
end Real2

section Run
variable (m : (ℓ : Loc nD τ sig) → Buf (Elt Ideal) ℓ) (c : Dev nD)

theorem out0_eq : Value.res_out0 m c = qR (dsA (m ((c : Thread nD τ).loc main_arg0)) (m ((c : Thread nD τ).loc main_arg1)) (m ((c : Thread nD τ).loc main_arg2))) (kT (m ((c : Thread nD τ).loc main_arg0))) := by
  unfold Value.res_out0 Value.res_main_v99
  rfl
theorem out1_eq : Value.res_out1 m c = kR (dsA (m ((c : Thread nD τ).loc main_arg0)) (m ((c : Thread nD τ).loc main_arg1)) (m ((c : Thread nD τ).loc main_arg2))) (qT (m ((c : Thread nD τ).loc main_arg0))) := by
  unfold Value.res_out1 Value.res_main_v100
  rfl
theorem out2_eq : Value.res_out2 m c = vR (dT (m ((c : Thread nD τ).loc main_arg2))) (pT (eR (m ((c : Thread nD τ).loc main_arg0)) (m ((c : Thread nD τ).loc main_arg1))) (lR (m ((c : Thread nD τ).loc main_arg0)) (m ((c : Thread nD τ).loc main_arg1)))) := by
  unfold Value.res_out2 Value.res_main_v101
  rfl
theorem out3_eq : Value.res_out3 m c = cR (dsA (m ((c : Thread nD τ).loc main_arg0)) (m ((c : Thread nD τ).loc main_arg1)) (m ((c : Thread nD τ).loc main_arg2))) := by
  unfold Value.res_out3 Value.res_main_v98
  rfl
end Run

end Cert.Proof.Attn.Ref

end
-- ==== Proof.Values.lean ====
/-
  The value claim: the kernel's results are the reference's.
-/
module

public import proofs.«01_k».proof.Proof.Pre
public import proofs.«01_k».proof.Proof.RefVal
public import proofs.«01_k».proof.Proof.Gen.ReferenceIdeal.Run

@[expose] public section

set_option maxRecDepth 16384

noncomputable section

namespace Cert.Proof.Attn

open Cert.KernelIdeal Cert.KernelIdeal.Gen
open Idealize.ShloMosaic Idealize.ShloMosaic.TcCoe Idealize.ShloMosaic.StableHlo
open scoped BigOperators

open Idealize.SL.Sem

section Kern
variable (m : (ℓ : Loc nD τ sig) → Buf (Elt Ideal) ℓ) (ρ : Dev nD → PrngReg) (G : Dev nD → Args) (hG : ∀ c, IsArgs m c (G c))
include hG

/-- The kernel runs to the four arrays, its arguments unchanged. -/
theorem kern_run : θ_run defs (onTc (τ := τ) (main (F := Ideal))) ⟨m, fun _ => 0, ρ⟩ (fun r => ∀ c : Dev nD,
      r.2.mem ((c.tc : Thread nD τ).loc main_v50_0) = arrOfQ (G c)
      ∧ r.2.mem ((c.tc : Thread nD τ).loc main_v50_1) = arrOfK (G c)
      ∧ r.2.mem ((c.tc : Thread nD τ).loc main_v50_2) = arrOfV (G c)
      ∧ r.2.mem ((c.tc : Thread nD τ).loc main_v50_3) = arrOfC (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 7).trans (arrQ (hG c)), ((h.1 c).1 8).trans (arrK (hG c)), ((h.1 c).1 9).trans (arrV (hG c)), ((h.1 c).1 10).trans (arrC (hG c)), h.2 c⟩)
    (θ_run_and (run_main m ρ) (unchanged m ρ))
end Kern

section Ref
variable (m : (ℓ : Loc nD τ sig) → Buf (Elt Ideal) ℓ) (m' : (ℓ : Loc Cert.ReferenceIdeal.nD Cert.ReferenceIdeal.τ Cert.ReferenceIdeal.sig) → Buf (Elt Ideal) ℓ)
  (c : Dev nD) (G : Args) (hG : IsArgs m c G)
  (e0 : m' ((c.tc : Thread Cert.ReferenceIdeal.nD Cert.ReferenceIdeal.τ).loc Cert.ReferenceIdeal.main_arg0) = m ((c.tc : Thread nD τ).loc main_arg0))
  (e1 : m' ((c.tc : Thread Cert.ReferenceIdeal.nD Cert.ReferenceIdeal.τ).loc Cert.ReferenceIdeal.main_arg1) = m ((c.tc : Thread nD τ).loc main_arg1))
  (e2 : m' ((c.tc : Thread Cert.ReferenceIdeal.nD Cert.ReferenceIdeal.τ).loc Cert.ReferenceIdeal.main_arg2) = m ((c.tc : Thread nD τ).loc main_arg2))
include hG e0 e1 e2

theorem refQ : Cert.ReferenceIdeal.Value.res_main_v99 m' c = arrOfQ G := by
  refine (Ref.out0_eq m' c).trans ?_
  rw [e0, e1, e2]
  refine funext fun i => ?_
  rw [eq_ix2 (n0 := 8192) (n1 := 512) i]
  exact Ref.qR_real hG.a0 hG.a1 hG.a2 (i 0) (i 1)

theorem refK : Cert.ReferenceIdeal.Value.res_main_v100 m' c = arrOfK G := by
  refine (Ref.out1_eq m' c).trans ?_
  rw [e0, e1, e2]
  refine funext fun i => ?_
  rw [eq_ix2 (n0 := 8192) (n1 := 512) i]
  exact Ref.kR_real hG.a0 hG.a1 hG.a2 (i 0) (i 1)

theorem refV : Cert.ReferenceIdeal.Value.res_main_v101 m' c = arrOfV G := by
  refine (Ref.out2_eq m' c).trans ?_
  rw [e0, e1, e2]
  refine funext fun i => ?_
  rw [eq_ix2 (n0 := 8192) (n1 := 512) i]
  exact Ref.vR_real hG.a0 hG.a1 hG.a2 (i 0) (i 1)

theorem refC : Cert.ReferenceIdeal.Value.res_main_v98 m' c = arrOfC G := by
  refine (Ref.out3_eq m' c).trans ?_
  rw [e0, e1, e2]
  refine funext fun i => ?_
  rw [eq_ix3 (n0 := 4) (n1 := 8192) (n2 := 128) i]
  exact Ref.cR_real hG.a0 hG.a1 hG.a2 (i 0) (i 1) (i 2)
end Ref

/-- The value claim: on real arguments the kernel's four results are the reference's. -/
theorem values : Cert.algebraic_KernelIdeal_ReferenceIdeal_pre_finite (hKernelIdeal := Cert.KernelIdeal.Gen.facts) (hReferenceIdeal := Cert.ReferenceIdeal.Gen.facts) (hPre_finite := preFacts) := by
  intro m g m' g' hp ha
  choose G hG using args_of m hp
  refine ⟨fun c => arrOfQ (G c), fun c => arrOfK (G c), fun c => arrOfV (G c), fun c => arrOfC (G c), kern_run m g G hG, ?_⟩
  refine (θ_run Cert.ReferenceIdeal.defs _ _).mono (fun r h c => ?_) (Cert.ReferenceIdeal.Value.run (F := Ideal) m' g')
  obtain ⟨h0, h1, h2, h3, h4⟩ := h c
  obtain ⟨e0, e1, e2⟩ := ha c
  exact ⟨h0.trans (refQ m m' c (G c) (hG c) e0 e1 e2), h1.trans (refK m m' c (G c) (hG c) e0 e1 e2), h2.trans (refV m m' c (G c) (hG c) e0 e1 e2), h3.trans (refC m m' c (G c) (hG c) e0 e1 e2), h4⟩

end Cert.Proof.Attn

end
-- ==== Proof.Prod.lean ====
/-
  What the products' value proofs share: an array read at natural-number indices, and a sum over a contraction cut into tiles.
-/
module

public import Idealize.ShloMosaic.Lib.Pipeline.ValueKit
public import Idealize.ShloMosaic.Lib.Tactic
public import Idealize.ShloMosaic.Lib.Quiescent
public import Idealize.ShloMosaic.Lib.StableHlo.Run

@[expose] public section

noncomputable section

namespace Cert.Proof.Prod

open Idealize.ShloMosaic
open scoped BigOperators

/-- A matrix at row `i`, column `j`, zero outside. -/
def at2 {a b : ℕ} (A : (⟨2, ![a, b]⟩ : Shape).Idx → EReal) (i j : ℕ) : EReal :=
  if h : i < a ∧ j < b then A (ix2 ⟨i, h.1⟩ ⟨j, h.2⟩) else 0

theorem at2_ix2 {a b : ℕ} (A : (⟨2, ![a, b]⟩ : Shape).Idx → EReal) (i : Fin a) (j : Fin b) : at2 A i.val j.val = A (ix2 i j) :=
  dif_pos ⟨i.isLt, j.isLt⟩

theorem at2_idx {a b : ℕ} (A : (⟨2, ![a, b]⟩ : Shape).Idx → EReal) (x : (⟨2, ![a, b]⟩ : Shape).Idx) {i j : ℕ}
    (hi : (x 0).val = i) (hj : (x 1).val = j) : A x = at2 A i j := by
  subst hi hj
  exact (congrArg A (eq_ix2 (n0 := a) (n1 := b) x)).trans (at2_ix2 A (x 0) (x 1)).symm

/-- Two matrices side by side along the columns: the first `w` from `A`, the others from `B`. -/
def side (A B : ℕ → ℕ → EReal) (w i k : ℕ) : EReal := if k < w then A i k else B i (k - w)

theorem side_lt (A B : ℕ → ℕ → EReal) {w k : ℕ} (i : ℕ) (h : k < w) : side A B w i k = A i k := if_pos h
theorem side_add (A B : ℕ → ℕ → EReal) (w i k : ℕ) : side A B w i (w + k) = B i k := by
  rw [side, if_neg (by omega), Nat.add_sub_cancel_left]

theorem side_dite {a w n : ℕ} (A B : (⟨2, ![a, w]⟩ : Shape).Idx → EReal) (r : Fin a) (k : ℕ) (h : k < w + n) (hn : n = w) :
    (if h : k < w then A (ix2 r ⟨k, h⟩) else B (ix2 r ⟨k - w, by omega⟩)) = side (at2 A) (at2 B) w r.val k := by
  by_cases h' : k < w
  · rw [dif_pos h', side_lt _ _ _ h']
    exact (at2_ix2 A r ⟨k, h'⟩).symm
  · rw [dif_neg h', side, if_neg h']
    exact (at2_ix2 B r ⟨k - w, by omega⟩).symm

/-- The sum over a contraction cut into tiles of `b`. -/
theorem sum_tiles (f : ℕ → EReal) (b : ℕ) : ∀ n : ℕ, ∑ s ∈ Finset.range n, ∑ k : Fin b, f (b * s + k.val) = ∑ k ∈ Finset.range (b * n), f k
  | 0 => by simp
  | n + 1 => by
    rw [Finset.sum_range_succ, sum_tiles f b n, Nat.mul_succ, Finset.sum_range_add, Finset.sum_range (fun k => f (b * n + k))]

/-- Entry `(i, j)` of a product whose left operand's row `i` meets the right's row `j`. -/
def prod (K : ℕ) (A B : ℕ → ℕ → EReal) (i j : ℕ) : EReal := ∑ k ∈ Finset.range K, A i k * B j k

theorem prod_fin (K : ℕ) (A B : ℕ → ℕ → EReal) (i j : ℕ) : ∑ k : Fin K, A i k.val * B j k.val = prod K A B i j :=
  (Finset.sum_range fun k => A i k * B j k).symm

theorem prod_tiles (n b : ℕ) (A B : ℕ → ℕ → EReal) (i j : ℕ) :
    ∑ s ∈ Finset.range n, ∑ k : Fin b, A i (b * s + k.val) * B j (b * s + k.val) = prod (b * n) A B i j :=
  sum_tiles (fun k => A i k * B j k) b n

theorem prod_nt {K a b : ℕ} (A : (⟨2, ![a, K]⟩ : Shape).Idx → EReal) (B : (⟨2, ![b, K]⟩ : Shape).Idx → EReal) (i : Fin a) (j : Fin b) :
    ∑ k : Fin K, A (ix2 i k) * B (ix2 j k) = prod K (at2 A) (at2 B) i.val j.val :=
  (Finset.sum_congr rfl fun k _ => congrArg₂ (· * ·) (at2_ix2 A i k).symm (at2_ix2 B j k).symm).trans (prod_fin K (at2 A) (at2 B) i.val j.val)

theorem prod_tn {K a b : ℕ} (A : (⟨2, ![K, a]⟩ : Shape).Idx → EReal) (B : (⟨2, ![K, b]⟩ : Shape).Idx → EReal) (i : Fin a) (j : Fin b) :
    ∑ k : Fin K, A (ix2 k i) * B (ix2 k j) = prod K (fun i k => at2 A k i) (fun j k => at2 B k j) i.val j.val :=
  (Finset.sum_congr rfl fun k _ => congrArg₂ (· * ·) (at2_ix2 A k i).symm (at2_ix2 B k j).symm).trans (prod_fin K (fun i k => at2 A k i) (fun j k => at2 B k j) i.val j.val)

theorem prod_nn {K a b : ℕ} (A : (⟨2, ![a, K]⟩ : Shape).Idx → EReal) (B : (⟨2, ![K, b]⟩ : Shape).Idx → EReal) (i : Fin a) (j : Fin b) :
    ∑ k : Fin K, A (ix2 i k) * B (ix2 k j) = prod K (at2 A) (fun j k => at2 B k j) i.val j.val :=
  (Finset.sum_congr rfl fun k _ => congrArg₂ (· * ·) (at2_ix2 A i k).symm (at2_ix2 B k j).symm).trans (prod_fin K (at2 A) (fun j k => at2 B k j) i.val j.val)

/-- The same with the factors in the other order. -/
theorem prod_tn_comm {K a b : ℕ} (A : (⟨2, ![K, a]⟩ : Shape).Idx → EReal) (B : (⟨2, ![K, b]⟩ : Shape).Idx → EReal) (i : Fin a) (j : Fin b) :
    ∑ k : Fin K, B (ix2 k j) * A (ix2 k i) = prod K (fun i k => at2 A k i) (fun j k => at2 B k j) i.val j.val :=
  (Finset.sum_congr rfl fun k _ => mul_comm _ _).trans (prod_tn A B i j)

/-- An accumulator that the first of every `J` points sets to a tile's sum and the others add a tile's sum to: after the last of
    the `J` it holds the product's entry. Point `t` is at tile `t % J` of the contraction, for the rows from `row (t / J)`. -/
theorem fold_prod {N a b J : ℕ} (tk : ℕ) (f : (n : ℕ) → n < N → (⟨2, ![a, b]⟩ : Shape).Idx → EReal) (A B : ℕ → ℕ → EReal) (row : ℕ → ℕ)
    (h0 : ∀ t : Fin N, t.val % J = 0 → ∀ (r : Fin a) (l : Fin b), f t.val t.isLt (ix2 r l)
      = ∑ k : Fin tk, A (row (t.val / J) + r.val) (tk * (t.val % J) + k.val) * B l.val (tk * (t.val % J) + k.val))
    (hs : ∀ t : Fin N, ¬t.val % J = 0 → ∀ (r : Fin a) (l : Fin b), f t.val t.isLt (ix2 r l)
      = f (t.val - 1) (Nat.lt_of_le_of_lt (Nat.sub_le _ _) t.isLt) (ix2 r l)
        + ∑ k : Fin tk, A (row (t.val / J) + r.val) (tk * (t.val % J) + k.val) * B l.val (tk * (t.val % J) + k.val))
    (t : Fin N) (ht : t.val % J + 1 = J) (r : Fin a) (l : Fin b) :
    f t.val t.isLt (ix2 r l) = prod (tk * J) A B (row (t.val / J) + r.val) l.val := by
  have e := Pipeline.eq_sum_of_reset_step_apply_divmod f J (fun _ => (0 : EReal))
    (fun q s i => ∑ k : Fin tk, A (row q + (i 0).val) (tk * s + k.val) * B (i 1).val (tk * s + k.val))
    (fun t h i => by rw [eq_ix2 (n0 := a) (n1 := b) i, zero_add]; exact h0 t h (i 0) (i 1))
    (fun t h i => by rw [eq_ix2 (n0 := a) (n1 := b) i]; exact hs t h (i 0) (i 1)) t (ix2 r l)
  rw [ht, zero_add] at e
  exact e.trans (prod_tiles J tk A B _ _)

/-- The matrix of entries `f`. -/
def mat {a b : ℕ} (f : ℕ → ℕ → EReal) : (⟨2, ![a, b]⟩ : Shape).Idx → EReal := fun x => f (x 0).val (x 1).val

end Cert.Proof.Prod

end
-- ==== Proof.UpGradInVal.lean ====
/-
  The up product's gradient in the operand: the kernel accumulates it over four tiles of the contraction, the first two against
  one half of the cotangent and the last two against the other; the reference sums once over the two halves side by side.
-/
module

public import proofs.«01_k».proof.Proof.Prod
public import proofs.«01_k».proof.Proof.Gen.UpGradIn.Frame
public import proofs.«01_k».proof.Proof.Gen.UpGradInIdeal.Value
public import proofs.«01_k».proof.Proof.Gen.UpGradInRefIdeal.Run
public import proofs.«01_k».proof.Defs

@[expose] public section

set_option maxRecDepth 16384

noncomputable section

namespace Cert.Proof.UpGradIn

open Cert.UpGradInIdeal Cert.UpGradInIdeal.Gen Cert.Proof.Prod
open Idealize.ShloMosaic Idealize.ShloMosaic.TcCoe Idealize.ShloMosaic.StableHlo
open Idealize.SL.Sem
open scoped BigOperators

theorem idx0 : ∀ t : Fin cfg0.N, t.val % 4 ≤ 1 → win0_0.index t = ![t.val / 4, t.val % 4] := (by decide +kernel : ∀ t : Fin grid0.N, _)
theorem idx1 : ∀ t : Fin cfg0.N, 2 ≤ t.val % 4 → win0_1.index t = ![t.val / 4, t.val % 4 - 2] := (by decide +kernel : ∀ t : Fin grid0.N, _)
theorem idx2 : ∀ t : Fin cfg0.N, win0_2.index t = ![t.val % 4, 0] := (by decide +kernel : ∀ t : Fin grid0.N, _)
theorem idx3 : ∀ t : Fin cfg0.N, win0_3.index t = ![t.val / 4, 0] := (by decide +kernel : ∀ t : Fin grid0.N, _)

/-- The two halves of the cotangent side by side. -/
abbrev lhs (A B : S8192x2816.Idx → EReal) : ℕ → ℕ → EReal := side (at2 A) (at2 B) 2816
/-- The weight, its contracted index last. -/
abbrev rhs (W : S5632x1024.Idx → EReal) : ℕ → ℕ → EReal := fun j k => at2 W k j
/-- The product. -/
def res (W : S5632x1024.Idx → EReal) (A B : S8192x2816.Idx → EReal) : S8192x1024.Idx → EReal := mat (prod (1408 * 4) (lhs A B) (rhs W))

variable (m : (ℓ : Loc nD τ sig) → Buf (Elt Ideal) ℓ) (c : Dev nD)

abbrev aW : S5632x1024.Idx → EReal := m ((c : Thread nD τ).loc main_arg0)
abbrev aA : S8192x2816.Idx → EReal := m ((c : Thread nD τ).loc main_arg1)
abbrev aB : S8192x2816.Idx → EReal := m ((c : Thread nD τ).loc main_arg2)

theorem blk0 (t : Fin cfg0.N) (h : t.val % 4 ≤ 1) (r : Fin 1024) (k : Fin 1408) :
    @Eq EReal (iblk m c 0 t (ix2 r k)) (lhs (aA m c) (aB m c) (t.val / 4 * 1024 + r.val) (1408 * (t.val % 4) + k.val)) := by
  rw [lhs, side_lt _ _ _ (by omega)]
  refine at2_idx (aA m c) _ ?_ ?_ <;> blk_simp [idx0 t h]
  omega

theorem blk1 (t : Fin cfg0.N) (h : 2 ≤ t.val % 4) (r : Fin 1024) (k : Fin 1408) :
    @Eq EReal (iblk m c 1 t (ix2 r k)) (lhs (aA m c) (aB m c) (t.val / 4 * 1024 + r.val) (1408 * (t.val % 4) + k.val)) := by
  rw [lhs, show 1408 * (t.val % 4) + k.val = 2816 + ((t.val % 4 - 2) * 1408 + k.val) by omega, side_add]
  refine at2_idx (aB m c) _ ?_ ?_ <;> blk_simp [idx1 t h]

theorem blk2 (t : Fin cfg0.N) (k : Fin 1408) (l : Fin 1024) :
    @Eq EReal (iblk m c 2 t (ix2 k l)) (rhs (aW m c) l.val (1408 * (t.val % 4) + k.val)) := by
  refine at2_idx (aW m c) _ ?_ ?_ <;> blk_simp [idx2 t]
  omega

/-- What tile `s` of the contraction adds to entry `i` of row block `b`. -/
def term (b s : ℕ) (i : S1024x1024.Idx) : EReal :=
  ∑ k : Fin 1408, lhs (aA m c) (aB m c) (b * 1024 + (i 0).val) (1408 * s + k.val) * rhs (aW m c) (i 1).val (1408 * s + k.val)

theorem first_at (x : Vec Ideal S1024x1408 .bf16) (y : Vec Ideal S1408x1024 .bf16) (r l : Fin 1024) (f g : Fin 1408 → EReal)
    (hx : ∀ k, @Eq EReal (x (ix2 r k)) (f k)) (hy : ∀ k, @Eq EReal (y (ix2 k l)) (g k)) :
    @Eq EReal (k0_pay5 x y (ix2 r l)) (∑ k : Fin 1408, f k * g k) := by
  simp only [← hx, ← hy]
  pointwise [k0_pay5, k0_pay4]

theorem next_at (x : Vec Ideal S1024x1408 .bf16) (y : Vec Ideal S1408x1024 .bf16) (a : Vec Ideal S1024x1024 .f32) (r l : Fin 1024) (f g : Fin 1408 → EReal)
    (hx : ∀ k, @Eq EReal (x (ix2 r k)) (f k)) (hy : ∀ k, @Eq EReal (y (ix2 k l)) (g k)) :
    @Eq EReal (k0_pay6 x y a (ix2 r l)) (a (ix2 r l) + ∑ k : Fin 1408, f k * g k) := by
  simp only [← hx, ← hy]
  pointwise [k0_pay6, k0_pay4]

theorem acc_first (t : Fin cfg0.N) (h : t.val % 4 = 0) (i : S1024x1024.Idx) :
    @Eq EReal ((outsAt0 m c t.val t.isLt).2 i) (0 + term m c (t.val / 4) (t.val % 4) i) := by
  rw [outsAt0_A m c t (by omega) h (by omega) (by omega) (by omega), zero_add]
  rw [eq_ix2 (n0 := 1024) (n1 := 1024) i]
  frame_out
  exact first_at _ _ (i 0) (i 1) _ _ (blk0 m c t (by omega) (i 0)) fun k => blk2 m c t k (i 1)

theorem acc_next (t : Fin cfg0.N) (h : ¬t.val % 4 = 0) (i : S1024x1024.Idx) :
    @Eq EReal ((outsAt0 m c t.val t.isLt).2 i) ((outsAt0 m c (t.val - 1) (Nat.lt_of_le_of_lt (Nat.sub_le _ _) t.isLt)).2 i + term m c (t.val / 4) (t.val % 4) i) := by
  rw [eq_ix2 (n0 := 1024) (n1 := 1024) i]
  by_cases h1 : t.val % 4 ≤ 1
  · rw [outsAt0_B m c t h1 h (by omega) (by omega) (by omega)]
    frame_out
    exact (next_at _ _ _ (i 0) (i 1) _ _ (blk0 m c t h1 (i 0)) fun k => blk2 m c t k (i 1)).trans (congrArg (· + _) (congrFun ((Memref.isWhole_whole _).read_unread _) _))
  · by_cases h3 : t.val % 4 = 3
    · rw [outsAt0_D m c t h1 (by omega) h3 h (by omega)]
      frame_out
      exact (next_at _ _ _ (i 0) (i 1) _ _ (blk1 m c t (by omega) (i 0)) fun k => blk2 m c t k (i 1)).trans (congrArg (· + _) (congrFun ((Memref.isWhole_whole _).read_unread _) _))
    · rw [outsAt0_C m c t h1 (by omega) h3 h (by omega)]
      frame_out
      exact (next_at _ _ _ (i 0) (i 1) _ _ (blk1 m c t (by omega) (i 0)) fun k => blk2 m c t k (i 1)).trans (congrArg (· + _) (congrFun ((Memref.isWhole_whole _).read_unread _) _))

/-- The last tile's point leaves in the output's buffer what it leaves in the accumulator. -/
theorem out_acc (t : Fin cfg0.N) (h : t.val % 4 = 3) : (outsAt0 m c t.val t.isLt).1 = (outsAt0 m c t.val t.isLt).2 := by
  rw [outsAt0_D m c t (by omega) (by omega) h (by omega) (by omega)]
  frame_out

theorem out_at (t : Fin cfg0.N) (h : t.val % 4 = 3) (r l : Fin 1024) :
    @Eq EReal ((outsAt0 m c t.val t.isLt).1 (ix2 r l)) (prod (1408 * 4) (lhs (aA m c) (aB m c)) (rhs (aW m c)) (t.val / 4 * 1024 + r.val) l.val) := by
  rw [out_acc m c t h]
  refine (Pipeline.eq_sum_of_reset_step_apply_divmod (fun n h => (outsAt0 m c n h).2) 4 (fun _ => (0 : EReal)) (term m c) (acc_first m c) (acc_next m c) t (ix2 r l)).trans ?_
  rw [h, zero_add]
  exact prod_tiles 4 1408 (lhs (aA m c) (aB m c)) (rhs (aW m c)) _ _

theorem arr : (dats m 0 c).arrAt 3 cfg0.N = res (aW m c) (aA m c) (aB m c) := by
  refine (dats m 0 c).arrAt_eq_of_covers 3 _ (by decide +kernel) fun t hf y => ?_
  have h := (flush0_3 t).mp hf
  blk_simp
  rw [after0_3]
  have hy : (y : (⟨2, ![1024, 1024]⟩ : Shape).Idx) = ix2 (y 0) (y 1) := eq_ix2 (n0 := 1024) (n1 := 1024) y
  refine Eq.trans ?_ ((out_at m c t h (y 0) (y 1)).trans ?_)
  · rw [hy]; rfl
  · refine congrArg₂ (prod (1408 * 4) _ _) ?_ ?_ <;> blk_simp [idx3 t]

section
open Cert.UpGradInRefIdeal
theorem cat_at (A B : FVec Ideal Cert.UpGradInRefIdeal.S8192x2816 .bf16) (r : Fin 8192) (k : Fin 5632) :
    @Eq EReal (concatenate Cert.UpGradInRefIdeal.S8192x5632 1 [⟨Cert.UpGradInRefIdeal.S8192x2816, A⟩, ⟨Cert.UpGradInRefIdeal.S8192x2816, B⟩] Facts₀.concatenates_S8192x2816_S8192x2816_S8192x5632_d1 (ix2 r k)) (lhs A B r.val k.val) := by
  pointwise
  exact side_dite A B r k.val k.isLt rfl

theorem ref (W : FVec Ideal Cert.UpGradInRefIdeal.S5632x1024 .bf16) (A B : FVec Ideal Cert.UpGradInRefIdeal.S8192x2816 .bf16) :
    (Host.dotGeneral dot_S8192x5632_S1024x5632_S8192x1024_1_1_0_0_n_n none (extf .f32 (concatenate Cert.UpGradInRefIdeal.S8192x5632 1 [⟨Cert.UpGradInRefIdeal.S8192x2816, A⟩, ⟨Cert.UpGradInRefIdeal.S8192x2816, B⟩] Facts₀.concatenates_S8192x2816_S8192x2816_S8192x5632_d1) Facts₀.bitsLt_bf16_f32)
      (transpose Cert.UpGradInRefIdeal.S1024x5632 [1, 0] (extf .f32 W Facts₀.bitsLt_bf16_f32) Facts₀.transposes_S5632x1024_S1024x5632_1_0)) = res W A B := by
  refine funext fun i => ?_
  rw [eq_ix2 (n0 := 8192) (n1 := 1024) i]
  refine Eq.trans ?_ (prod_fin 5632 (lhs A B) (rhs W) (i 0).val (i 1).val)
  generalize i 0 = r
  generalize i 1 = l
  have e := cat_at A B r
  generalize concatenate Cert.UpGradInRefIdeal.S8192x5632 1 [⟨Cert.UpGradInRefIdeal.S8192x2816, A⟩, ⟨Cert.UpGradInRefIdeal.S8192x2816, B⟩] Facts₀.concatenates_S8192x2816_S8192x2816_S8192x5632_d1 = C at e ⊢
  refine Eq.trans ?_ (Finset.sum_congr rfl fun k _ => congrArg₂ (· * ·) (e k) (at2_ix2 W k l).symm)
  pointwise
end

theorem values : Cert.algebraic_UpGradInIdeal_UpGradInRefIdeal (hUpGradInIdeal := Cert.UpGradInIdeal.Gen.facts) (hUpGradInRefIdeal := Cert.UpGradInRefIdeal.Gen.facts) := by
  intro m g m' g' _ ha
  refine ⟨fun c => res (aW m c) (aA m c) (aB m c),
    (θ_run defs _ _).mono (fun r h c => ⟨(h c).1.trans ((Cert.UpGradInIdeal.Value.final3 m c).symm.trans (arr m c)), (h c).2⟩) (Cert.UpGradInIdeal.Value.run (F := Ideal) m g), ?_⟩
  refine (θ_run Cert.UpGradInRefIdeal.defs _ _).mono (fun r h c => ⟨(h c).1.trans ?_, (h c).2⟩) (Cert.UpGradInRefIdeal.Value.run (F := Ideal) m' g')
  obtain ⟨e0, e1, e2⟩ := ha c
  exact (ref _ _ _).trans (congr (congrArg₂ res e0 e1) e2)

theorem frame_ref : Cert.quiescent_UpGradInRefIdeal (hUpGradInRefIdeal := Cert.UpGradInRefIdeal.Gen.facts) := fun m ρ _ =>
  (θ_run Cert.UpGradInRefIdeal.defs _ _).mono (fun r h => ⟨fun c => (h c).2, sem_eq_zero_of_no_sems (by decide) r.2⟩)
    (Cert.UpGradInRefIdeal.Value.run (F := Ideal) m ρ)

end Cert.Proof.UpGradIn

end
-- ==== Proof.UpGradWVal.lean ====
/-
  The up product's gradient in the weight: the kernel accumulates each tile over eight tiles of tokens, the tiles of the first
  half of the rows against one half of the cotangent and the others against the other; the reference sums once over the tokens.
-/
module

public import proofs.«01_k».proof.Proof.Prod
public import proofs.«01_k».proof.Proof.Gen.UpGradW.Frame
public import proofs.«01_k».proof.Proof.Gen.UpGradWIdeal.Value
public import proofs.«01_k».proof.Proof.Gen.UpGradWRefIdeal.Run
public import proofs.«01_k».proof.Defs

@[expose] public section

set_option maxRecDepth 16384

noncomputable section

namespace Cert.Proof.UpGradW

open Cert.UpGradWIdeal Cert.UpGradWIdeal.Gen Cert.Proof.Prod
open Idealize.ShloMosaic Idealize.ShloMosaic.TcCoe Idealize.ShloMosaic.StableHlo
open Idealize.SL.Sem
open scoped BigOperators

theorem idx0 : ∀ t : Fin cfg0.N, t.val < 16 → win0_0.index t = ![t.val % 8, t.val / 8] := (by decide +kernel : ∀ t : Fin grid0.N, _)
theorem idx1 : ∀ t : Fin cfg0.N, 16 ≤ t.val → win0_1.index t = ![t.val % 8, t.val / 8 - 2] := (by decide +kernel : ∀ t : Fin grid0.N, _)
theorem idx2 : ∀ t : Fin cfg0.N, win0_2.index t = ![t.val % 8, 0] := (by decide +kernel : ∀ t : Fin grid0.N, _)
theorem idx3 : ∀ t : Fin cfg0.N, win0_3.index t = ![t.val / 8, 0] := (by decide +kernel : ∀ t : Fin grid0.N, _)

/-- The two halves of the cotangent side by side, the token last. -/
abbrev lhs (A B : S8192x2816.Idx → EReal) : ℕ → ℕ → EReal := fun i k => side (at2 A) (at2 B) 2816 k i
/-- The operand, the token last. -/
abbrev rhs (U : S8192x1024.Idx → EReal) : ℕ → ℕ → EReal := fun j k => at2 U k j
/-- The product. -/
def res (U : S8192x1024.Idx → EReal) (A B : S8192x2816.Idx → EReal) : S5632x1024.Idx → EReal := mat (prod (1024 * 8) (lhs A B) (rhs U))

variable (m : (ℓ : Loc nD τ sig) → Buf (Elt Ideal) ℓ) (c : Dev nD)

abbrev aU : S8192x1024.Idx → EReal := m ((c : Thread nD τ).loc main_arg0)
abbrev aA : S8192x2816.Idx → EReal := m ((c : Thread nD τ).loc main_arg1)
abbrev aB : S8192x2816.Idx → EReal := m ((c : Thread nD τ).loc main_arg2)

theorem blk0 (t : Fin cfg0.N) (h : t.val < 16) (r : Fin 1408) (k : Fin 1024) :
    @Eq EReal (iblk m c 0 t (ix2 k r)) (lhs (aA m c) (aB m c) (t.val / 8 * 1408 + r.val) (1024 * (t.val % 8) + k.val)) := by
  show _ = side _ _ _ _ _
  rw [side_lt _ _ _ (by omega)]
  refine at2_idx (aA m c) _ ?_ ?_ <;> blk_simp [idx0 t h]
  omega

theorem blk1 (t : Fin cfg0.N) (h : 16 ≤ t.val) (r : Fin 1408) (k : Fin 1024) :
    @Eq EReal (iblk m c 1 t (ix2 k r)) (lhs (aA m c) (aB m c) (t.val / 8 * 1408 + r.val) (1024 * (t.val % 8) + k.val)) := by
  show _ = side _ _ _ _ _
  rw [show t.val / 8 * 1408 + r.val = 2816 + ((t.val / 8 - 2) * 1408 + r.val) by omega, side_add]
  refine at2_idx (aB m c) _ ?_ ?_ <;> blk_simp [idx1 t h]
  omega

theorem blk2 (t : Fin cfg0.N) (k : Fin 1024) (l : Fin 1024) :
    @Eq EReal (iblk m c 2 t (ix2 k l)) (rhs (aU m c) l.val (1024 * (t.val % 8) + k.val)) := by
  refine at2_idx (aU m c) _ ?_ ?_ <;> blk_simp [idx2 t]
  omega

/-- What tile `s` of the tokens adds to entry `i` of row block `b`. -/
def term (b s : ℕ) (i : S1408x1024.Idx) : EReal :=
  ∑ k : Fin 1024, lhs (aA m c) (aB m c) (b * 1408 + (i 0).val) (1024 * s + k.val) * rhs (aU m c) (i 1).val (1024 * s + k.val)

theorem first_at (x : Vec Ideal S1024x1408 .bf16) (y : Vec Ideal S1024x1024 .bf16) (r : Fin 1408) (l : Fin 1024) (f g : Fin 1024 → EReal)
    (hx : ∀ k, @Eq EReal (x (ix2 k r)) (f k)) (hy : ∀ k, @Eq EReal (y (ix2 k l)) (g k)) :
    @Eq EReal (k0_pay5 x y (ix2 r l)) (∑ k : Fin 1024, f k * g k) := by
  simp only [← hx, ← hy]
  pointwise [k0_pay5, k0_pay4]

theorem next_at (x : Vec Ideal S1024x1408 .bf16) (y : Vec Ideal S1024x1024 .bf16) (a : Vec Ideal S1408x1024 .f32) (r : Fin 1408) (l : Fin 1024) (f g : Fin 1024 → EReal)
    (hx : ∀ k, @Eq EReal (x (ix2 k r)) (f k)) (hy : ∀ k, @Eq EReal (y (ix2 k l)) (g k)) :
    @Eq EReal (k0_pay6 x y a (ix2 r l)) (a (ix2 r l) + ∑ k : Fin 1024, f k * g k) := by
  simp only [← hx, ← hy]
  pointwise [k0_pay6, k0_pay4]

theorem acc_first (t : Fin cfg0.N) (h : t.val % 8 = 0) (i : S1408x1024.Idx) :
    @Eq EReal ((outsAt0 m c t.val t.isLt).2 i) (0 + term m c (t.val / 8) (t.val % 8) i) := by
  rw [zero_add, eq_ix2 (n0 := 1408) (n1 := 1024) i]
  by_cases h1 : t.val < 16
  · rw [outsAt0_A m c t h1 h (by omega) (by omega) (by omega)]
    frame_out
    exact first_at _ _ (i 0) (i 1) _ _ (blk0 m c t h1 (i 0)) fun k => blk2 m c t k (i 1)
  · rw [outsAt0_D m c t h1 (by omega) (by omega) h (by omega)]
    frame_out
    exact first_at _ _ (i 0) (i 1) _ _ (blk1 m c t (by omega) (i 0)) fun k => blk2 m c t k (i 1)

theorem acc_next (t : Fin cfg0.N) (h : ¬t.val % 8 = 0) (i : S1408x1024.Idx) :
    @Eq EReal ((outsAt0 m c t.val t.isLt).2 i) ((outsAt0 m c (t.val - 1) (Nat.lt_of_le_of_lt (Nat.sub_le _ _) t.isLt)).2 i + term m c (t.val / 8) (t.val % 8) i) := by
  rw [eq_ix2 (n0 := 1408) (n1 := 1024) i]
  by_cases h1 : t.val < 16
  · have e (a) := next_at (iblk m c 0 t) (iblk m c 2 t) a (i 0) (i 1) _ _ (blk0 m c t h1 (i 0)) fun k => blk2 m c t k (i 1)
    by_cases h3 : t.val % 8 = 7
    · rw [outsAt0_C m c t h1 h (by omega) (by omega) h3]
      frame_out
      exact (e _).trans (congrArg (· + _) (congrFun ((Memref.isWhole_whole _).read_unread _) _))
    · rw [outsAt0_B m c t h1 h (by omega) (by omega) h3]
      frame_out
      exact (e _).trans (congrArg (· + _) (congrFun ((Memref.isWhole_whole _).read_unread _) _))
  · have e (a) := next_at (iblk m c 1 t) (iblk m c 2 t) a (i 0) (i 1) _ _ (blk1 m c t (by omega) (i 0)) fun k => blk2 m c t k (i 1)
    by_cases h3 : t.val % 8 = 7
    · rw [outsAt0_F m c t h1 (by omega) h3 h (by omega)]
      frame_out
      exact (e _).trans (congrArg (· + _) (congrFun ((Memref.isWhole_whole _).read_unread _) _))
    · rw [outsAt0_E m c t h1 (by omega) h3 h (by omega)]
      frame_out
      exact (e _).trans (congrArg (· + _) (congrFun ((Memref.isWhole_whole _).read_unread _) _))

/-- The last tile's point leaves in the output's buffer what it leaves in the accumulator. -/
theorem out_acc (t : Fin cfg0.N) (h : t.val % 8 = 7) : (outsAt0 m c t.val t.isLt).1 = (outsAt0 m c t.val t.isLt).2 := by
  by_cases h1 : t.val < 16
  · rw [outsAt0_C m c t h1 (by omega) (by omega) (by omega) h]
    frame_out
  · rw [outsAt0_F m c t h1 (by omega) h (by omega) (by omega)]
    frame_out

theorem out_at (t : Fin cfg0.N) (h : t.val % 8 = 7) (r : Fin 1408) (l : Fin 1024) :
    @Eq EReal ((outsAt0 m c t.val t.isLt).1 (ix2 r l)) (prod (1024 * 8) (lhs (aA m c) (aB m c)) (rhs (aU m c)) (t.val / 8 * 1408 + r.val) l.val) := by
  rw [out_acc m c t h]
  refine (Pipeline.eq_sum_of_reset_step_apply_divmod (fun n h => (outsAt0 m c n h).2) 8 (fun _ => (0 : EReal)) (term m c) (acc_first m c) (acc_next m c) t (ix2 r l)).trans ?_
  rw [h, zero_add]
  exact prod_tiles 8 1024 (lhs (aA m c) (aB m c)) (rhs (aU m c)) _ _

theorem arr : (dats m 0 c).arrAt 3 cfg0.N = res (aU m c) (aA m c) (aB m c) := by
  refine (dats m 0 c).arrAt_eq_of_covers 3 _ (by decide +kernel) fun t hf y => ?_
  have h := (flush0_3 t).mp hf
  blk_simp
  rw [after0_3]
  have hy : (y : (⟨2, ![1408, 1024]⟩ : Shape).Idx) = ix2 (y 0) (y 1) := eq_ix2 (n0 := 1408) (n1 := 1024) y
  refine Eq.trans ?_ ((out_at m c t h (y 0) (y 1)).trans ?_)
  · rw [hy]; rfl
  · refine congrArg₂ (prod (1024 * 8) _ _) ?_ ?_ <;> blk_simp [idx3 t]

section
open Cert.UpGradWRefIdeal
abbrev cat (A B : FVec Ideal Cert.UpGradWRefIdeal.S8192x2816 .bf16) : FVec Ideal Cert.UpGradWRefIdeal.S8192x5632 .bf16 :=
  concatenate Cert.UpGradWRefIdeal.S8192x5632 1 [⟨Cert.UpGradWRefIdeal.S8192x2816, A⟩, ⟨Cert.UpGradWRefIdeal.S8192x2816, B⟩] Facts₀.concatenates_S8192x2816_S8192x2816_S8192x5632_d1

theorem cat_at (A B : FVec Ideal Cert.UpGradWRefIdeal.S8192x2816 .bf16) (k : Fin 8192) (r : Fin 5632) :
    @Eq EReal (cat A B (ix2 k r)) (lhs A B r.val k.val) := by
  pointwise
  exact side_dite A B k r.val r.isLt rfl

theorem ref (U : FVec Ideal Cert.UpGradWRefIdeal.S8192x1024 .bf16) (A B : FVec Ideal Cert.UpGradWRefIdeal.S8192x2816 .bf16) :
    transpose Cert.UpGradWRefIdeal.S5632x1024 [1, 0] (transpose Cert.UpGradWRefIdeal.S1024x5632 [1, 0] (Host.dotGeneral dot_S8192x5632_S8192x1024_S5632x1024_0_0_1_1_n_n none (extf .f32 (cat A B) Facts₀.bitsLt_bf16_f32)
      (extf .f32 U Facts₀.bitsLt_bf16_f32)) Facts₀.transposes_S5632x1024_S1024x5632_1_0) Facts₀.transposes_S1024x5632_S5632x1024_1_0 = res U A B := by
  refine funext fun i => ?_
  rw [eq_ix2 (n0 := 5632) (n1 := 1024) i]
  refine Eq.trans ?_ (prod_fin 8192 (lhs A B) (rhs U) (i 0).val (i 1).val)
  generalize i 0 = r
  generalize i 1 = l
  have e := fun k => cat_at A B k r
  generalize cat A B = C at e ⊢
  refine Eq.trans ?_ (Finset.sum_congr rfl fun k _ => congrArg₂ (· * ·) (e k) (at2_ix2 U k l).symm)
  pointwise
end

theorem values : Cert.algebraic_UpGradWIdeal_UpGradWRefIdeal (hUpGradWIdeal := Cert.UpGradWIdeal.Gen.facts) (hUpGradWRefIdeal := Cert.UpGradWRefIdeal.Gen.facts) := by
  intro m g m' g' _ ha
  refine ⟨fun c => res (aU m c) (aA m c) (aB m c),
    (θ_run defs _ _).mono (fun r h c => ⟨(h c).1.trans ((Cert.UpGradWIdeal.Value.final3 m c).symm.trans (arr m c)), (h c).2⟩) (Cert.UpGradWIdeal.Value.run (F := Ideal) m g), ?_⟩
  refine (θ_run Cert.UpGradWRefIdeal.defs _ _).mono (fun r h c => ⟨(h c).1.trans ?_, (h c).2⟩) (Cert.UpGradWRefIdeal.Value.run (F := Ideal) m' g')
  obtain ⟨e0, e1, e2⟩ := ha c
  exact (ref _ _ _).trans (congr (congrArg₂ res e0 e1) e2)

theorem frame_ref : Cert.quiescent_UpGradWRefIdeal (hUpGradWRefIdeal := Cert.UpGradWRefIdeal.Gen.facts) := fun m ρ _ =>
  (θ_run Cert.UpGradWRefIdeal.defs _ _).mono (fun r h => ⟨fun c => (h c).2, sem_eq_zero_of_no_sems (by decide) r.2⟩)
    (Cert.UpGradWRefIdeal.Value.run (F := Ideal) m ρ)

end Cert.Proof.UpGradW

end
-- ==== Proof.UpVal.lean ====
/-
  The gated MLP's up product: the kernel's result and the reference's are one sum.
-/
module

public import proofs.«01_k».proof.Proof.Prod
public import proofs.«01_k».proof.Proof.Gen.Up.Frame
public import proofs.«01_k».proof.Proof.Gen.UpIdeal.Value
public import proofs.«01_k».proof.Proof.Gen.UpRefIdeal.Run
public import proofs.«01_k».proof.Defs

@[expose] public section

set_option maxRecDepth 16384

noncomputable section

namespace Cert.Proof.Up

open Cert.UpIdeal Cert.UpIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

variable (m : (ℓ : Loc nD τ sig) → Buf (Elt Ideal) ℓ) (c : Dev nD)

theorem blk0 (t : Fin cfg0.N) (r k : Fin 1024) : @Eq EReal (iblk m c 0 t (ix2 r k)) (at2 (m ((c : Thread nD τ).loc main_arg0)) (t.val / 4 * 1024 + r.val) k.val) := by
  refine at2_idx (m ((c : Thread nD τ).loc main_arg0)) _ ?_ ?_ <;> blk_simp [idx0 t]

theorem blk1 (t : Fin cfg0.N) (r : Fin 1408) (k : Fin 1024) : @Eq EReal (iblk m c 1 t (ix2 r k)) (at2 (m ((c : Thread nD τ).loc main_arg1)) (t.val % 4 * 1408 + r.val) k.val) := by
  refine at2_idx (m ((c : Thread nD τ).loc main_arg1)) _ ?_ ?_ <;> blk_simp [idx1 t]

theorem out_at (t : Fin cfg0.N) (r : Fin 1024) (l : Fin 1408) :
    @Eq EReal (out0_2 (iblk m c 0 t) (iblk m c 1 t) (ix2 r l))
      (prod 1024 (at2 (m ((c : Thread nD τ).loc main_arg0))) (at2 (m ((c : Thread nD τ).loc main_arg1))) (t.val / 4 * 1024 + r.val) (t.val % 4 * 1408 + l.val)) := by
  rw [← prod_fin]
  simp only [← blk0 m c t r, ← blk1 m c t l]
  generalize iblk m c 0 t = x
  generalize iblk m c 1 t = y
  unfold out0_2
  frame_out
  pointwise [k0_pay1]

/-- The product: entry `(i, j)` is row `i` of the operand against row `j` of the transposed weight. -/
def res (A : S8192x1024.Idx → EReal) (B : S5632x1024.Idx → EReal) : S8192x5632.Idx → EReal := mat (prod 1024 (at2 A) (at2 B))

theorem arr : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  have hy : (y : (⟨2, ![1024, 1408]⟩ : Shape).Idx) = ix2 (y 0) (y 1) := eq_ix2 (n0 := 1024) (n1 := 1408) y
  refine Eq.trans ?_ ((out_at m c t (y 0) (y 1)).trans ?_)
  · rw [hy]; rfl
  · refine congrArg₂ (prod 1024 _ _) ?_ ?_ <;> blk_simp [idx2 t]

section
open Cert.UpRefIdeal
theorem ref (A : FVec Ideal Cert.UpRefIdeal.S8192x1024 .bf16) (B : FVec Ideal Cert.UpRefIdeal.S5632x1024 .bf16) :
    (Host.dotGeneral dot_S8192x1024_S1024x5632_S8192x5632_1_0_0_1_n_n none (extf .f32 A Facts₀.bitsLt_bf16_f32) (transpose Cert.UpRefIdeal.S1024x5632 [1, 0] (extf .f32 B Facts₀.bitsLt_bf16_f32) Facts₀.transposes_S5632x1024_S1024x5632_1_0)) = res A B := by
  refine funext fun i => ?_
  rw [eq_ix2 (n0 := 8192) (n1 := 5632) i]
  generalize i 0 = r
  generalize i 1 = l
  refine Eq.trans ?_ (prod_nt A B r l)
  pointwise
end

theorem values : Cert.algebraic_UpIdeal_UpRefIdeal (hUpIdeal := Cert.UpIdeal.Gen.facts) (hUpRefIdeal := Cert.UpRefIdeal.Gen.facts) := by
  intro m g m' g' _ ha
  refine ⟨fun c => res (m ((c : Thread nD τ).loc main_arg0)) (m ((c : Thread nD τ).loc main_arg1)),
    (θ_run defs _ _).mono (fun r h c => ⟨(h c).1.trans (arr m c), (h c).2⟩) (Cert.UpIdeal.Value.run_blocks (F := Ideal) m g), ?_⟩
  refine (θ_run Cert.UpRefIdeal.defs _ _).mono (fun r h c => ⟨(h c).1.trans ?_, (h c).2⟩) (Cert.UpRefIdeal.Value.run (F := Ideal) m' g')
  obtain ⟨e0, e1⟩ := ha c
  exact (ref _ _).trans (congrArg₂ res e0 e1)

theorem frame_ref : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

end Cert.Proof.Up

end
-- ==== Proof.DownVal.lean ====
/-
  The down product: the kernel accumulates each tile over two halves of the contracted index, the reference sums once.
-/
module

public import proofs.«01_k».proof.Proof.Prod
public import proofs.«01_k».proof.Proof.Gen.Down.Frame
public import proofs.«01_k».proof.Proof.Gen.DownIdeal.Value
public import proofs.«01_k».proof.Proof.Gen.DownRefIdeal.Run
public import proofs.«01_k».proof.Defs

@[expose] public section

set_option maxRecDepth 16384

noncomputable section

namespace Cert.Proof.Down

open Cert.DownIdeal Cert.DownIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

/-- The weight, the contracted index last. -/
abbrev rhs (B : S2816x1024.Idx → EReal) : ℕ → ℕ → EReal := fun j k => at2 B k j
/-- The product: entry `(i, j)` is row `i` of the operand against column `j` of the weight. -/
def res (A : S8192x2816.Idx → EReal) (B : S2816x1024.Idx → EReal) : S8192x1024.Idx → EReal := mat (prod (1408 * 2) (at2 A) (rhs B))

variable (m : (ℓ : Loc nD τ sig) → Buf (Elt Ideal) ℓ) (c : Dev nD)

abbrev aA : S8192x2816.Idx → EReal := m ((c : Thread nD τ).loc main_arg0)
abbrev aB : S2816x1024.Idx → EReal := m ((c : Thread nD τ).loc main_arg1)

theorem blk0 (t : Fin cfg0.N) (r : Fin 1024) (k : Fin 1408) :
    @Eq EReal (iblk m c 0 t (ix2 r k)) (at2 (aA m c) (t.val / 2 * 1024 + r.val) (1408 * (t.val % 2) + k.val)) := by
  refine at2_idx (aA m c) _ ?_ ?_ <;> blk_simp [idx0 t]
  omega

theorem blk1 (t : Fin cfg0.N) (k : Fin 1408) (l : Fin 1024) :
    @Eq EReal (iblk m c 1 t (ix2 k l)) (rhs (aB m c) l.val (1408 * (t.val % 2) + k.val)) := by
  refine at2_idx (aB m c) _ ?_ ?_ <;> blk_simp [idx1 t]
  omega

theorem first_at (x : Vec Ideal S1024x1408 .bf16) (y : Vec Ideal S1408x1024 .bf16) (r l : Fin 1024) (f g : Fin 1408 → EReal)
    (hx : ∀ k, @Eq EReal (x (ix2 r k)) (f k)) (hy : ∀ k, @Eq EReal (y (ix2 k l)) (g k)) :
    @Eq EReal (k0_pay2 x y (ix2 r l)) (∑ k : Fin 1408, f k * g k) := by
  simp only [← hx, ← hy]
  pointwise [k0_pay2, k0_pay1]

theorem next_at (x : Vec Ideal S1024x1408 .bf16) (y : Vec Ideal S1408x1024 .bf16) (a : Vec Ideal S1024x1024 .f32) (r l : Fin 1024) (f g : Fin 1408 → EReal)
    (hx : ∀ k, @Eq EReal (x (ix2 r k)) (f k)) (hy : ∀ k, @Eq EReal (y (ix2 k l)) (g k)) :
    @Eq EReal (k0_pay3 x y a (ix2 r l)) (a (ix2 r l) + ∑ k : Fin 1408, f k * g k) := by
  simp only [← hx, ← hy]
  pointwise [k0_pay3, k0_pay1]

theorem out_at (t : Fin cfg0.N) (h : t.val % 2 = 1) (r l : Fin 1024) :
    @Eq EReal ((outsAt0 m c t.val t.isLt).1 (ix2 r l)) (prod (1408 * 2) (at2 (aA m c)) (rhs (aB m c)) (t.val / 2 * 1024 + r.val) l.val) := by
  have e : (outsAt0 m c t.val t.isLt).1 = (outsAt0 m c t.val t.isLt).2 := by
    rw [outsAt0_B m c t (by omega) h h]
    frame_out
  rw [e]
  refine fold_prod 1408 (fun n h => (outsAt0 m c n h).2) (at2 (aA m c)) (rhs (aB m c)) (· * 1024) (fun t h r l => ?_) (fun t h r l => ?_) t (by omega) r l
  · rw [outsAt0_A m c t h (by omega) (by omega)]
    frame_out
    exact first_at _ _ r l _ _ (blk0 m c t r) fun k => blk1 m c t k l
  · rw [outsAt0_B m c t h (by omega) (by omega)]
    frame_out
    exact (next_at _ _ _ r l _ _ (blk0 m c t r) fun k => blk1 m c t k l).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![1024, 1024]⟩ : Shape).Idx) = ix2 (y 0) (y 1) := eq_ix2 (n0 := 1024) (n1 := 1024) y
  refine Eq.trans ?_ ((out_at m c t h (y 0) (y 1)).trans ?_)
  · rw [hy]; rfl
  · refine congrArg₂ (prod (1408 * 2) _ _) ?_ ?_ <;> blk_simp [idx2 t]

theorem values : Cert.algebraic_DownIdeal_DownRefIdeal (hDownIdeal := Cert.DownIdeal.Gen.facts) (hDownRefIdeal := Cert.DownRefIdeal.Gen.facts) := by
  intro m g m' g' _ ha
  refine ⟨fun c => res (aA m c) (aB m c),
    (θ_run defs _ _).mono (fun r h c => ⟨(h c).1.trans ((Cert.DownIdeal.Value.final2 m c).symm.trans (arr m c)), (h c).2⟩) (Cert.DownIdeal.Value.run (F := Ideal) m g), ?_⟩
  refine (θ_run Cert.DownRefIdeal.defs _ _).mono (fun r h c => ⟨(h c).1.trans ?_, (h c).2⟩) (Cert.DownRefIdeal.Value.run (F := Ideal) m' g')
  obtain ⟨e0, e1⟩ := ha c
  refine Eq.trans ?_ (congrArg₂ res e0 e1)
  refine funext fun i => ?_
  rw [eq_ix2 (n0 := 8192) (n1 := 1024) i]
  refine Eq.trans ?_ (prod_nn _ _ (i 0) (i 1))
  pointwise

theorem frame_ref : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

end Cert.Proof.Down

end
-- ==== Proof.DownGradInVal.lean ====
/-
  The down product's gradient in its operand: the kernel's result and the reference's are one sum.
-/
module

public import proofs.«01_k».proof.Proof.Prod
public import proofs.«01_k».proof.Proof.Gen.DownGradIn.Frame
public import proofs.«01_k».proof.Proof.Gen.DownGradInIdeal.Value
public import proofs.«01_k».proof.Proof.Gen.DownGradInRefIdeal.Run
public import proofs.«01_k».proof.Defs

@[expose] public section

set_option maxRecDepth 16384

noncomputable section

namespace Cert.Proof.DownGradIn

open Cert.DownGradInIdeal Cert.DownGradInIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The product: entry `(i, j)` is row `i` of the cotangent against row `j` of the weight. -/
def res (A : S8192x1024.Idx → EReal) (B : S2816x1024.Idx → EReal) : S8192x2816.Idx → EReal := mat (prod 1024 (at2 A) (at2 B))

variable (m : (ℓ : Loc nD τ sig) → Buf (Elt Ideal) ℓ) (c : Dev nD)

abbrev aA : S8192x1024.Idx → EReal := m ((c : Thread nD τ).loc main_arg0)
abbrev aB : S2816x1024.Idx → EReal := m ((c : Thread nD τ).loc main_arg1)

theorem blk0 (t : Fin cfg0.N) (r k : Fin 1024) : @Eq EReal (iblk m c 0 t (ix2 r k)) (at2 (aA m c) (t.val / 2 * 1024 + r.val) k.val) := by
  refine at2_idx (aA m c) _ ?_ ?_ <;> blk_simp [idx0 t]

theorem blk1 (t : Fin cfg0.N) (l : Fin 1408) (k : Fin 1024) : @Eq EReal (iblk m c 1 t (ix2 l k)) (at2 (aB m c) (t.val % 2 * 1408 + l.val) k.val) := by
  refine at2_idx (aB m c) _ ?_ ?_ <;> blk_simp [idx1 t]

theorem out_at (t : Fin cfg0.N) (r : Fin 1024) (l : Fin 1408) :
    @Eq EReal (out0_2 (iblk m c 0 t) (iblk m c 1 t) (ix2 r l)) (prod 1024 (at2 (aA m c)) (at2 (aB m c)) (t.val / 2 * 1024 + r.val) (t.val % 2 * 1408 + l.val)) := by
  rw [← prod_fin]
  simp only [← blk0 m c t r, ← blk1 m c t l]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 1408]⟩ : Shape).Idx) = ix2 (y 0) (y 1) := eq_ix2 (n0 := 1024) (n1 := 1408) y
  refine Eq.trans ?_ ((out_at m c t (y 0) (y 1)).trans ?_)
  · rw [hy]; rfl
  · refine congrArg₂ (prod 1024 _ _) ?_ ?_ <;> blk_simp [idx2 t]

theorem values : Cert.algebraic_DownGradInIdeal_DownGradInRefIdeal (hDownGradInIdeal := Cert.DownGradInIdeal.Gen.facts) (hDownGradInRefIdeal := Cert.DownGradInRefIdeal.Gen.facts) := by
  intro m g m' g' _ ha
  refine ⟨fun c => res (aA m c) (aB m c),
    (θ_run defs _ _).mono (fun r h c => ⟨(h c).1.trans (arr m c), (h c).2⟩) (Cert.DownGradInIdeal.Value.run_blocks (F := Ideal) m g), ?_⟩
  refine (θ_run Cert.DownGradInRefIdeal.defs _ _).mono (fun r h c => ⟨(h c).1.trans ?_, (h c).2⟩) (Cert.DownGradInRefIdeal.Value.run (F := Ideal) m' g')
  obtain ⟨e0, e1⟩ := ha c
  refine Eq.trans ?_ (congrArg₂ res e0 e1)
  refine funext fun i => ?_
  rw [eq_ix2 (n0 := 8192) (n1 := 2816) i]
  refine Eq.trans ?_ (prod_nt _ _ (i 0) (i 1))
  pointwise

theorem frame_ref : Cert.quiescent_DownGradInRefIdeal (hDownGradInRefIdeal := Cert.DownGradInRefIdeal.Gen.facts) := fun m ρ _ =>
  (θ_run Cert.DownGradInRefIdeal.defs _ _).mono (fun r h => ⟨fun c => (h c).2, sem_eq_zero_of_no_sems (by decide) r.2⟩)
    (Cert.DownGradInRefIdeal.Value.run (F := Ideal) m ρ)

end Cert.Proof.DownGradIn

end
-- ==== Proof.DownGradWVal.lean ====
/-
  The down product's gradient in its weight: the kernel accumulates each tile over eight tiles of tokens, the reference sums once over the tokens.
-/
module

public import proofs.«01_k».proof.Proof.Prod
public import proofs.«01_k».proof.Proof.Gen.DownGradW.Frame
public import proofs.«01_k».proof.Proof.Gen.DownGradWIdeal.Value
public import proofs.«01_k».proof.Proof.Gen.DownGradWRefIdeal.Run
public import proofs.«01_k».proof.Defs

@[expose] public section

set_option maxRecDepth 16384

noncomputable section

namespace Cert.Proof.DownGradW

open Cert.DownGradWIdeal Cert.DownGradWIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

/-- The cotangent or the operand on the left, the token last. -/
abbrev lhs (A : S8192x2816.Idx → EReal) : ℕ → ℕ → EReal := fun i k => at2 A k i
/-- The one on the right, the token last. -/
abbrev rhs (B : S8192x1024.Idx → EReal) : ℕ → ℕ → EReal := fun j k => at2 B k j
/-- The product: entry `(i, j)` is column `i` of the one against column `j` of the other. -/
def res (A : S8192x2816.Idx → EReal) (B : S8192x1024.Idx → EReal) : S2816x1024.Idx → EReal := mat (prod (1024 * 8) (lhs A) (rhs B))

variable (m : (ℓ : Loc nD τ sig) → Buf (Elt Ideal) ℓ) (c : Dev nD)

abbrev aA : S8192x2816.Idx → EReal := m ((c : Thread nD τ).loc main_arg0)
abbrev aB : S8192x1024.Idx → EReal := m ((c : Thread nD τ).loc main_arg1)

theorem blk0 (t : Fin cfg0.N) (r : Fin 1408) (k : Fin 1024) :
    @Eq EReal (iblk m c 0 t (ix2 k r)) (lhs (aA m c) (t.val / 8 * 1408 + r.val) (1024 * (t.val % 8) + k.val)) := by
  refine at2_idx (aA m c) _ ?_ ?_ <;> blk_simp [idx0 t]
  omega

theorem blk1 (t : Fin cfg0.N) (k : Fin 1024) (l : Fin 1024) :
    @Eq EReal (iblk m c 1 t (ix2 k l)) (rhs (aB m c) l.val (1024 * (t.val % 8) + k.val)) := by
  refine at2_idx (aB m c) _ ?_ ?_ <;> blk_simp [idx1 t]
  omega

theorem first_at (x : Vec Ideal S1024x1408 .bf16) (y : Vec Ideal S1024x1024 .bf16) (r : Fin 1408) (l : Fin 1024) (f g : Fin 1024 → EReal)
    (hx : ∀ k, @Eq EReal (x (ix2 k r)) (f k)) (hy : ∀ k, @Eq EReal (y (ix2 k l)) (g k)) :
    @Eq EReal (k0_pay2 x y (ix2 r l)) (∑ k : Fin 1024, f k * g k) := by
  simp only [← hx, ← hy]
  pointwise [k0_pay2, k0_pay1]

theorem next_at (x : Vec Ideal S1024x1408 .bf16) (y : Vec Ideal S1024x1024 .bf16) (a : Vec Ideal S1408x1024 .f32) (r : Fin 1408) (l : Fin 1024) (f g : Fin 1024 → EReal)
    (hx : ∀ k, @Eq EReal (x (ix2 k r)) (f k)) (hy : ∀ k, @Eq EReal (y (ix2 k l)) (g k)) :
    @Eq EReal (k0_pay3 x y a (ix2 r l)) (a (ix2 r l) + ∑ k : Fin 1024, f k * g k) := by
  simp only [← hx, ← hy]
  pointwise [k0_pay3, k0_pay1]

theorem out_at (t : Fin cfg0.N) (h : t.val % 8 = 7) (r : Fin 1408) (l : Fin 1024) :
    @Eq EReal ((outsAt0 m c t.val t.isLt).1 (ix2 r l)) (prod (1024 * 8) (lhs (aA m c)) (rhs (aB m c)) (t.val / 8 * 1408 + r.val) l.val) := by
  have e : (outsAt0 m c t.val t.isLt).1 = (outsAt0 m c t.val t.isLt).2 := by
    rw [outsAt0_C m c t (by omega) (by omega) h]
    frame_out
  rw [e]
  refine fold_prod 1024 (fun n h => (outsAt0 m c n h).2) (lhs (aA m c)) (rhs (aB m c)) (· * 1408) (fun t h r l => ?_) (fun t h r l => ?_) t (by omega) r l
  · rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 8 = 7
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![1408, 1024]⟩ : Shape).Idx) = ix2 (y 0) (y 1) := eq_ix2 (n0 := 1408) (n1 := 1024) y
  refine Eq.trans ?_ ((out_at m c t h (y 0) (y 1)).trans ?_)
  · rw [hy]; rfl
  · refine congrArg₂ (prod (1024 * 8) _ _) ?_ ?_ <;> blk_simp [idx2 t]

theorem values : Cert.algebraic_DownGradWIdeal_DownGradWRefIdeal (hDownGradWIdeal := Cert.DownGradWIdeal.Gen.facts) (hDownGradWRefIdeal := Cert.DownGradWRefIdeal.Gen.facts) := by
  intro m g m' g' _ ha
  refine ⟨fun c => res (aA m c) (aB m c),
    (θ_run defs _ _).mono (fun r h c => ⟨(h c).1.trans ((Cert.DownGradWIdeal.Value.final2 m c).symm.trans (arr m c)), (h c).2⟩) (Cert.DownGradWIdeal.Value.run (F := Ideal) m g), ?_⟩
  refine (θ_run Cert.DownGradWRefIdeal.defs _ _).mono (fun r h c => ⟨(h c).1.trans ?_, (h c).2⟩) (Cert.DownGradWRefIdeal.Value.run (F := Ideal) m' g')
  obtain ⟨e0, e1⟩ := ha c
  refine Eq.trans ?_ (congrArg₂ res e0 e1)
  refine funext fun i => ?_
  rw [eq_ix2 (n0 := 2816) (n1 := 1024) i]
  refine Eq.trans ?_ (prod_tn_comm _ _ (i 0) (i 1))
  pointwise

theorem frame_ref : Cert.quiescent_DownGradWRefIdeal (hDownGradWRefIdeal := Cert.DownGradWRefIdeal.Gen.facts) := fun m ρ _ =>
  (θ_run Cert.DownGradWRefIdeal.defs _ _).mono (fun r h => ⟨fun c => (h c).2, sem_eq_zero_of_no_sems (by decide) r.2⟩)
    (Cert.DownGradWRefIdeal.Value.run (F := Ideal) m ρ)

end Cert.Proof.DownGradW

end
-- ==== Proof.InProjVal.lean ====
/-
  The input projection: the kernel's result and the reference's are one sum and a bias.
-/
module

public import proofs.«01_k».proof.Proof.Prod
public import proofs.«01_k».proof.Proof.Gen.InProj.Frame
public import proofs.«01_k».proof.Proof.Gen.InProjIdeal.Value
public import proofs.«01_k».proof.Proof.Gen.InProjRefIdeal.Run
public import proofs.«01_k».proof.Defs

@[expose] public section

set_option maxRecDepth 16384

noncomputable section

namespace Cert.Proof.InProj

open Cert.InProjIdeal Cert.InProjIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 3, 0] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![0, t.val % 3] := (by decide +kernel : ∀ t : Fin grid0.N, _)
theorem idx3 : ∀ t : Fin cfg0.N, win0_3.index t = ![t.val / 3, t.val % 3] := (by decide +kernel : ∀ t : Fin grid0.N, _)

/-- Entry `(i, j)`: row `i` of the operand against row `j` of the transposed weight, and the bias's entry `j`. -/
abbrev entry (A : S8192x1024.Idx → EReal) (B : S4608x1024.Idx → EReal) (z : S1x4608.Idx → EReal) (i j : ℕ) : EReal :=
  prod 1024 (at2 A) (at2 B) i j + at2 z 0 j
/-- The projection. -/
def res (A : S8192x1024.Idx → EReal) (B : S4608x1024.Idx → EReal) (z : S1x4608.Idx → EReal) : S8192x4608.Idx → EReal := mat (entry A B z)

variable (m : (ℓ : Loc nD τ sig) → Buf (Elt Ideal) ℓ) (c : Dev nD)

abbrev aA : S8192x1024.Idx → EReal := m ((c : Thread nD τ).loc main_arg0)
abbrev aB : S4608x1024.Idx → EReal := m ((c : Thread nD τ).loc main_arg1)
abbrev aZ : S1x4608.Idx → EReal := m ((c : Thread nD τ).loc main_arg2)

theorem blk0 (t : Fin cfg0.N) (r k : Fin 1024) : @Eq EReal (iblk m c 0 t (ix2 r k)) (at2 (aA m c) (t.val / 3 * 1024 + r.val) k.val) := by
  refine at2_idx (aA m c) _ ?_ ?_ <;> blk_simp [idx0 t]

theorem blk1 (t : Fin cfg0.N) (l : Fin 1536) (k : Fin 1024) : @Eq EReal (iblk m c 1 t (ix2 l k)) (at2 (aB m c) (t.val % 3 * 1536 + l.val) k.val) := by
  refine at2_idx (aB m c) _ ?_ ?_ <;> blk_simp [idx1 t]

theorem blk2 (t : Fin cfg0.N) (l : Fin 1536) : @Eq EReal (iblk m c 2 t (ix2 0 l)) (at2 (aZ m c) 0 (t.val % 3 * 1536 + l.val)) := by
  refine at2_idx (aZ m c) _ ?_ ?_ <;> blk_simp [idx2 t]
  rfl

theorem out_at (t : Fin cfg0.N) (r : Fin 1024) (l : Fin 1536) :
    @Eq EReal (out0_3 (iblk m c 0 t) (iblk m c 1 t) (iblk m c 2 t) (ix2 r l))
      (entry (aA m c) (aB m c) (aZ m c) (t.val / 3 * 1024 + r.val) (t.val % 3 * 1536 + l.val)) := by
  show _ = prod _ _ _ _ _ + _
  rw [← prod_fin]
  simp only [← blk0 m c t r, ← blk1 m c t l, ← blk2 m c t l]
  generalize iblk m c 0 t = x
  generalize iblk m c 1 t = y
  generalize iblk m c 2 t = z
  unfold out0_3
  frame_out
  pointwise [k0_pay1]

theorem arr : (dats m 0 c).arrAt 3 cfg0.N = res (aA m c) (aB m c) (aZ m c) := by
  refine (dats m 0 c).arrAt_eq_of_covers 3 _ (by decide +kernel) fun t hf y => ?_
  blk_simp
  rw [after0_3]
  have hy : (y : (⟨2, ![1024, 1536]⟩ : Shape).Idx) = ix2 (y 0) (y 1) := eq_ix2 (n0 := 1024) (n1 := 1536) y
  refine Eq.trans ?_ ((out_at m c t (y 0) (y 1)).trans ?_)
  · rw [hy]; rfl
  · refine congrArg₂ (entry _ _ _) ?_ ?_ <;> blk_simp [idx3 t]

theorem values : Cert.algebraic_InProjIdeal_InProjRefIdeal (hInProjIdeal := Cert.InProjIdeal.Gen.facts) (hInProjRefIdeal := Cert.InProjRefIdeal.Gen.facts) := by
  intro m g m' g' _ ha
  refine ⟨fun c => res (aA m c) (aB m c) (aZ m c),
    (θ_run defs _ _).mono (fun r h c => ⟨(h c).1.trans (arr m c), (h c).2⟩) (Cert.InProjIdeal.Value.run_blocks (F := Ideal) m g), ?_⟩
  refine (θ_run Cert.InProjRefIdeal.defs _ _).mono (fun r h c => ⟨(h c).1.trans ?_, (h c).2⟩) (Cert.InProjRefIdeal.Value.run (F := Ideal) m' g')
  obtain ⟨e0, e1, e2⟩ := ha c
  refine Eq.trans ?_ (congr (congrArg₂ res e0 e1) e2)
  refine funext fun i => ?_
  rw [eq_ix2 (n0 := 8192) (n1 := 4608) i]
  refine Eq.trans ?_ (congrArg₂ (· + ·) (prod_nt _ _ (i 0) (i 1)) (at2_ix2 _ 0 (i 1)).symm)
  pointwise

theorem frame_ref : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run (F := Ideal) m ρ)

end Cert.Proof.InProj

end
-- ==== Proof.InGradVal.lean ====
/-
  The input projection's gradient in its operand: the kernel accumulates each tile over three tiles of the contracted index and adds the other gradient; the reference sums once and adds it.
-/
module

public import proofs.«01_k».proof.Proof.Prod
public import proofs.«01_k».proof.Proof.Gen.InGrad.Frame
public import proofs.«01_k».proof.Proof.Gen.InGradIdeal.Value
public import proofs.«01_k».proof.Proof.Gen.InGradRefIdeal.Run
public import proofs.«01_k».proof.Defs

@[expose] public section

set_option maxRecDepth 16384

noncomputable section

namespace Cert.Proof.InGrad

open Cert.InGradIdeal Cert.InGradIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 3, t.val % 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0] := (by decide +kernel : ∀ t : Fin grid0.N, _)
theorem idx3 : ∀ t : Fin cfg0.N, win0_3.index t = ![t.val / 3, 0] := (by decide +kernel : ∀ t : Fin grid0.N, _)

/-- The weight, the contracted index last. -/
abbrev rhs (B : S4608x1024.Idx → EReal) : ℕ → ℕ → EReal := fun j k => at2 B k j
/-- Entry `(i, j)`: row `i` of the cotangent against column `j` of the transposed weight, and the added gradient's entry. -/
abbrev entry (A : S8192x4608.Idx → EReal) (B : S4608x1024.Idx → EReal) (z : S8192x1024.Idx → EReal) (i j : ℕ) : EReal :=
  prod (1536 * 3) (at2 A) (rhs B) i j + at2 z i j
/-- The product with the gradient added. -/
def res (A : S8192x4608.Idx → EReal) (B : S4608x1024.Idx → EReal) (z : S8192x1024.Idx → EReal) : S8192x1024.Idx → EReal := mat (entry A B z)

variable (m : (ℓ : Loc nD τ sig) → Buf (Elt Ideal) ℓ) (c : Dev nD)

abbrev aA : S8192x4608.Idx → EReal := m ((c : Thread nD τ).loc main_arg0)
abbrev aB : S4608x1024.Idx → EReal := m ((c : Thread nD τ).loc main_arg1)
abbrev aZ : S8192x1024.Idx → EReal := m ((c : Thread nD τ).loc main_arg2)

theorem blk0 (t : Fin cfg0.N) (r : Fin 1024) (k : Fin 1536) :
    @Eq EReal (iblk m c 0 t (ix2 r k)) (at2 (aA m c) (t.val / 3 * 1024 + r.val) (1536 * (t.val % 3) + k.val)) := by
  refine at2_idx (aA m c) _ ?_ ?_ <;> blk_simp [idx0 t]
  omega

theorem blk1 (t : Fin cfg0.N) (k : Fin 1536) (l : Fin 1024) :
    @Eq EReal (iblk m c 1 t (ix2 k l)) (rhs (aB m c) l.val (1536 * (t.val % 3) + k.val)) := by
  refine at2_idx (aB m c) _ ?_ ?_ <;> blk_simp [idx1 t]
  omega

theorem blk2 (t : Fin cfg0.N) (r l : Fin 1024) :
    @Eq EReal (iblk m c 2 t (ix2 r l)) (at2 (aZ m c) (t.val / 3 * 1024 + r.val) l.val) := by
  refine at2_idx (aZ m c) _ ?_ ?_ <;> blk_simp [idx2 t]

theorem first_at (x : Vec Ideal S1024x1536 .bf16) (y : Vec Ideal S1536x1024 .bf16) (r l : Fin 1024) (f g : Fin 1536 → EReal)
    (hx : ∀ k, @Eq EReal (x (ix2 r k)) (f k)) (hy : ∀ k, @Eq EReal (y (ix2 k l)) (g k)) :
    @Eq EReal (k0_pay2 x y (ix2 r l)) (∑ k : Fin 1536, f k * g k) := by
  simp only [← hx, ← hy]
  pointwise [k0_pay2, k0_pay1]

theorem next_at (x : Vec Ideal S1024x1536 .bf16) (y : Vec Ideal S1536x1024 .bf16) (a : Vec Ideal S1024x1024 .f32) (r l : Fin 1024) (f g : Fin 1536 → EReal)
    (hx : ∀ k, @Eq EReal (x (ix2 r k)) (f k)) (hy : ∀ k, @Eq EReal (y (ix2 k l)) (g k)) :
    @Eq EReal (k0_pay3 x y a (ix2 r l)) (a (ix2 r l) + ∑ k : Fin 1536, f k * g k) := by
  simp only [← hx, ← hy]
  pointwise [k0_pay3, k0_pay1]

theorem acc_at (t : Fin cfg0.N) (h : t.val % 3 = 2) (r l : Fin 1024) :
    @Eq EReal ((outsAt0 m c t.val t.isLt).2 (ix2 r l)) (prod (1536 * 3) (at2 (aA m c)) (rhs (aB m c)) (t.val / 3 * 1024 + r.val) l.val) := by
  refine fold_prod 1536 (fun n h => (outsAt0 m c n h).2) (at2 (aA m c)) (rhs (aB m c)) (· * 1024) (fun t h r l => ?_) (fun t h r l => ?_) t (by omega) r l
  · rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 3 = 2
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

/-- The last tile's point leaves in the output's buffer the accumulator and the added gradient. -/
theorem out_at (t : Fin cfg0.N) (h : t.val % 3 = 2) (r l : Fin 1024) :
    @Eq EReal ((outsAt0 m c t.val t.isLt).1 (ix2 r l)) (entry (aA m c) (aB m c) (aZ m c) (t.val / 3 * 1024 + r.val) l.val) := by
  refine Eq.trans ?_ (congrArg₂ (· + ·) (acc_at m c t h r l) (blk2 m c t r l))
  rw [outsAt0_C m c t (by omega) (by omega) h]
  frame_out
  rfl

theorem arr : (dats m 0 c).arrAt 3 cfg0.N = res (aA m c) (aB m c) (aZ m c) := by
  refine (dats m 0 c).arrAt_eq_of_covers 3 _ (by decide +kernel) fun t hf y => ?_
  have h := (flush0_3 t).mp hf
  blk_simp
  rw [after0_3]
  have hy : (y : (⟨2, ![1024, 1024]⟩ : Shape).Idx) = ix2 (y 0) (y 1) := eq_ix2 (n0 := 1024) (n1 := 1024) y
  refine Eq.trans ?_ ((out_at m c t h (y 0) (y 1)).trans ?_)
  · rw [hy]; rfl
  · refine congrArg₂ (entry _ _ _) ?_ ?_ <;> blk_simp [idx3 t]

theorem values : Cert.algebraic_InGradIdeal_InGradRefIdeal (hInGradIdeal := Cert.InGradIdeal.Gen.facts) (hInGradRefIdeal := Cert.InGradRefIdeal.Gen.facts) := by
  intro m g m' g' _ ha
  refine ⟨fun c => res (aA m c) (aB m c) (aZ m c),
    (θ_run defs _ _).mono (fun r h c => ⟨(h c).1.trans ((Cert.InGradIdeal.Value.final3 m c).symm.trans (arr m c)), (h c).2⟩) (Cert.InGradIdeal.Value.run (F := Ideal) m g), ?_⟩
  refine (θ_run Cert.InGradRefIdeal.defs _ _).mono (fun r h c => ⟨(h c).1.trans ?_, (h c).2⟩) (Cert.InGradRefIdeal.Value.run (F := Ideal) m' g')
  obtain ⟨e0, e1, e2⟩ := ha c
  refine Eq.trans ?_ (congr (congrArg₂ res e0 e1) e2)
  refine funext fun i => ?_
  rw [eq_ix2 (n0 := 8192) (n1 := 1024) i]
  refine Eq.trans ?_ ((add_comm _ _).trans (congrArg₂ (· + ·) (prod_nn _ _ (i 0) (i 1)) (at2_ix2 _ (i 0) (i 1)).symm))
  pointwise

theorem frame_ref : Cert.quiescent_InGradRefIdeal (hInGradRefIdeal := Cert.InGradRefIdeal.Gen.facts) := fun m ρ _ =>
  (θ_run Cert.InGradRefIdeal.defs _ _).mono (fun r h => ⟨fun c => (h c).2, sem_eq_zero_of_no_sems (by decide) r.2⟩)
    (Cert.InGradRefIdeal.Value.run (F := Ideal) m ρ)

end Cert.Proof.InGrad

end
-- ==== Proof.InGradWVal.lean ====
/-
  The input projection's gradient in its weight: the kernel accumulates each tile over eight tiles of tokens, the reference sums once over the tokens.
-/
module

public import proofs.«01_k».proof.Proof.Prod
public import proofs.«01_k».proof.Proof.Gen.InGradW.Frame
public import proofs.«01_k».proof.Proof.Gen.InGradWIdeal.Value
public import proofs.«01_k».proof.Proof.Gen.InGradWRefIdeal.Run
public import proofs.«01_k».proof.Defs

@[expose] public section

set_option maxRecDepth 16384

noncomputable section

namespace Cert.Proof.InGradW

open Cert.InGradWIdeal Cert.InGradWIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

/-- The cotangent or the operand on the left, the token last. -/
abbrev lhs (A : S8192x4608.Idx → EReal) : ℕ → ℕ → EReal := fun i k => at2 A k i
/-- The one on the right, the token last. -/
abbrev rhs (B : S8192x1024.Idx → EReal) : ℕ → ℕ → EReal := fun j k => at2 B k j
/-- The product: entry `(i, j)` is column `i` of the one against column `j` of the other. -/
def res (A : S8192x4608.Idx → EReal) (B : S8192x1024.Idx → EReal) : S4608x1024.Idx → EReal := mat (prod (1024 * 8) (lhs A) (rhs B))

variable (m : (ℓ : Loc nD τ sig) → Buf (Elt Ideal) ℓ) (c : Dev nD)

abbrev aA : S8192x4608.Idx → EReal := m ((c : Thread nD τ).loc main_arg0)
abbrev aB : S8192x1024.Idx → EReal := m ((c : Thread nD τ).loc main_arg1)

theorem blk0 (t : Fin cfg0.N) (r : Fin 1536) (k : Fin 1024) :
    @Eq EReal (iblk m c 0 t (ix2 k r)) (lhs (aA m c) (t.val / 8 * 1536 + r.val) (1024 * (t.val % 8) + k.val)) := by
  refine at2_idx (aA m c) _ ?_ ?_ <;> blk_simp [idx0 t]
  omega

theorem blk1 (t : Fin cfg0.N) (k : Fin 1024) (l : Fin 1024) :
    @Eq EReal (iblk m c 1 t (ix2 k l)) (rhs (aB m c) l.val (1024 * (t.val % 8) + k.val)) := by
  refine at2_idx (aB m c) _ ?_ ?_ <;> blk_simp [idx1 t]
  omega

theorem first_at (x : Vec Ideal S1024x1536 .bf16) (y : Vec Ideal S1024x1024 .bf16) (r : Fin 1536) (l : Fin 1024) (f g : Fin 1024 → EReal)
    (hx : ∀ k, @Eq EReal (x (ix2 k r)) (f k)) (hy : ∀ k, @Eq EReal (y (ix2 k l)) (g k)) :
    @Eq EReal (k0_pay2 x y (ix2 r l)) (∑ k : Fin 1024, f k * g k) := by
  simp only [← hx, ← hy]
  pointwise [k0_pay2, k0_pay1]

theorem next_at (x : Vec Ideal S1024x1536 .bf16) (y : Vec Ideal S1024x1024 .bf16) (a : Vec Ideal S1536x1024 .f32) (r : Fin 1536) (l : Fin 1024) (f g : Fin 1024 → EReal)
    (hx : ∀ k, @Eq EReal (x (ix2 k r)) (f k)) (hy : ∀ k, @Eq EReal (y (ix2 k l)) (g k)) :
    @Eq EReal (k0_pay3 x y a (ix2 r l)) (a (ix2 r l) + ∑ k : Fin 1024, f k * g k) := by
  simp only [← hx, ← hy]
  pointwise [k0_pay3, k0_pay1]

theorem out_at (t : Fin cfg0.N) (h : t.val % 8 = 7) (r : Fin 1536) (l : Fin 1024) :
    @Eq EReal ((outsAt0 m c t.val t.isLt).1 (ix2 r l)) (prod (1024 * 8) (lhs (aA m c)) (rhs (aB m c)) (t.val / 8 * 1536 + r.val) l.val) := by
  have e : (outsAt0 m c t.val t.isLt).1 = (outsAt0 m c t.val t.isLt).2 := by
    rw [outsAt0_C m c t (by omega) (by omega) h]
    frame_out
  rw [e]
  refine fold_prod 1024 (fun n h => (outsAt0 m c n h).2) (lhs (aA m c)) (rhs (aB m c)) (· * 1536) (fun t h r l => ?_) (fun t h r l => ?_) t (by omega) r l
  · rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 8 = 7
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![1536, 1024]⟩ : Shape).Idx) = ix2 (y 0) (y 1) := eq_ix2 (n0 := 1536) (n1 := 1024) y
  refine Eq.trans ?_ ((out_at m c t h (y 0) (y 1)).trans ?_)
  · rw [hy]; rfl
  · refine congrArg₂ (prod (1024 * 8) _ _) ?_ ?_ <;> blk_simp [idx2 t]

theorem values : Cert.algebraic_InGradWIdeal_InGradWRefIdeal (hInGradWIdeal := Cert.InGradWIdeal.Gen.facts) (hInGradWRefIdeal := Cert.InGradWRefIdeal.Gen.facts) := by
  intro m g m' g' _ ha
  refine ⟨fun c => res (aA m c) (aB m c),
    (θ_run defs _ _).mono (fun r h c => ⟨(h c).1.trans ((Cert.InGradWIdeal.Value.final2 m c).symm.trans (arr m c)), (h c).2⟩) (Cert.InGradWIdeal.Value.run (F := Ideal) m g), ?_⟩
  refine (θ_run Cert.InGradWRefIdeal.defs _ _).mono (fun r h c => ⟨(h c).1.trans ?_, (h c).2⟩) (Cert.InGradWRefIdeal.Value.run (F := Ideal) m' g')
  obtain ⟨e0, e1⟩ := ha c
  refine Eq.trans ?_ (congrArg₂ res e0 e1)
  refine funext fun i => ?_
  rw [eq_ix2 (n0 := 4608) (n1 := 1024) i]
  refine Eq.trans ?_ (prod_tn _ _ (i 0) (i 1))
  pointwise

theorem frame_ref : Cert.quiescent_InGradWRefIdeal (hInGradWRefIdeal := Cert.InGradWRefIdeal.Gen.facts) := fun m ρ _ =>
  (θ_run Cert.InGradWRefIdeal.defs _ _).mono (fun r h => ⟨fun c => (h c).2, sem_eq_zero_of_no_sems (by decide) r.2⟩)
    (Cert.InGradWRefIdeal.Value.run (F := Ideal) m ρ)

end Cert.Proof.InGradW

end
-- ==== Proof.MixVal.lean ====
/-
  The mix product: the kernel's result and the reference's are one sum and a bias.
-/
module

public import proofs.«01_k».proof.Proof.Prod
public import proofs.«01_k».proof.Proof.Gen.Mix.Frame
public import proofs.«01_k».proof.Proof.Gen.MixIdeal.Value
public import proofs.«01_k».proof.Proof.Gen.MixRefIdeal.Run
public import proofs.«01_k».proof.Defs

@[expose] public section

set_option maxRecDepth 16384

noncomputable section

namespace Cert.Proof.Mix

open Cert.MixIdeal Cert.MixIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The weight, the contracted index last. -/
abbrev rhs (B : S1024x1024.Idx → EReal) : ℕ → ℕ → EReal := fun j k => at2 B k j
/-- Entry `(i, j)`: row `i` of the operand against column `j` of the weight, and the bias's entry `j`. -/
abbrev entry (A : S8192x1024.Idx → EReal) (B : S1024x1024.Idx → EReal) (z : S1x1024.Idx → EReal) (i j : ℕ) : EReal :=
  prod 1024 (at2 A) (rhs B) i j + at2 z 0 j
/-- The product with its bias. -/
def res (A : S8192x1024.Idx → EReal) (B : S1024x1024.Idx → EReal) (z : S1x1024.Idx → EReal) : S8192x1024.Idx → EReal := mat (entry A B z)

variable (m : (ℓ : Loc nD τ sig) → Buf (Elt Ideal) ℓ) (c : Dev nD)

abbrev aA : S8192x1024.Idx → EReal := m ((c : Thread nD τ).loc main_arg0)
abbrev aB : S1024x1024.Idx → EReal := m ((c : Thread nD τ).loc main_arg1)
abbrev aZ : S1x1024.Idx → EReal := m ((c : Thread nD τ).loc main_arg2)

theorem blk0 (t : Fin cfg0.N) (r k : Fin 1024) : @Eq EReal (iblk m c 0 t (ix2 r k)) (at2 (aA m c) (t.val * 1024 + r.val) k.val) := by
  refine at2_idx (aA m c) _ ?_ ?_ <;> blk_simp [idx0 t]

theorem blk1 (t : Fin cfg0.N) (k l : Fin 1024) : @Eq EReal (iblk m c 1 t (ix2 k l)) (rhs (aB m c) l.val k.val) := by
  refine at2_idx (aB m c) _ ?_ ?_ <;> blk_simp [idx1 t]

theorem blk2 (t : Fin cfg0.N) (l : Fin 1024) : @Eq EReal (iblk m c 2 t (ix2 0 l)) (at2 (aZ m c) 0 l.val) := by
  refine at2_idx (aZ m c) _ ?_ ?_ <;> blk_simp [idx2 t]
  rfl

theorem out_at (t : Fin cfg0.N) (r l : Fin 1024) :
    @Eq EReal (out0_3 (iblk m c 0 t) (iblk m c 1 t) (iblk m c 2 t) (ix2 r l))
      (entry (aA m c) (aB m c) (aZ m c) (t.val * 1024 + r.val) l.val) := by
  show _ = prod _ _ _ _ _ + _
  rw [← prod_fin]
  simp only [← blk0 m c t r, fun k => (blk1 m c t k l).symm, ← blk2 m c t l]
  generalize iblk m c 0 t = x
  generalize iblk m c 1 t = y
  generalize iblk m c 2 t = z
  unfold out0_3
  frame_out
  pointwise [k0_pay1]

theorem arr : (dats m 0 c).arrAt 3 cfg0.N = res (aA m c) (aB m c) (aZ m c) := by
  refine (dats m 0 c).arrAt_eq_of_covers 3 _ (by decide +kernel) fun t hf y => ?_
  blk_simp
  rw [after0_3]
  have hy : (y : (⟨2, ![1024, 1024]⟩ : Shape).Idx) = ix2 (y 0) (y 1) := eq_ix2 (n0 := 1024) (n1 := 1024) y
  refine Eq.trans ?_ ((out_at m c t (y 0) (y 1)).trans ?_)
  · rw [hy]; rfl
  · refine congrArg₂ (entry _ _ _) ?_ ?_ <;> blk_simp [idx3 t]

theorem values : Cert.algebraic_MixIdeal_MixRefIdeal (hMixIdeal := Cert.MixIdeal.Gen.facts) (hMixRefIdeal := Cert.MixRefIdeal.Gen.facts) := by
  intro m g m' g' _ ha
  refine ⟨fun c => res (aA m c) (aB m c) (aZ m c),
    (θ_run defs _ _).mono (fun r h c => ⟨(h c).1.trans (arr m c), (h c).2⟩) (Cert.MixIdeal.Value.run_blocks (F := Ideal) m g), ?_⟩
  refine (θ_run Cert.MixRefIdeal.defs _ _).mono (fun r h c => ⟨(h c).1.trans ?_, (h c).2⟩) (Cert.MixRefIdeal.Value.run (F := Ideal) m' g')
  obtain ⟨e0, e1, e2⟩ := ha c
  refine Eq.trans ?_ (congr (congrArg₂ res e0 e1) e2)
  refine funext fun i => ?_
  rw [eq_ix2 (n0 := 8192) (n1 := 1024) i]
  refine Eq.trans ?_ (congrArg₂ (· + ·) (prod_nn _ _ (i 0) (i 1)) (at2_ix2 _ 0 (i 1)).symm)
  pointwise

theorem frame_ref : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run (F := Ideal) m ρ)

end Cert.Proof.Mix

end
-- ==== Proof.MixGradInVal.lean ====
/-
  The mix product's gradient in its operand: the kernel's result and the reference's are one sum.
-/
module

public import proofs.«01_k».proof.Proof.Prod
public import proofs.«01_k».proof.Proof.Gen.MixGradIn.Frame
public import proofs.«01_k».proof.Proof.Gen.MixGradInIdeal.Value
public import proofs.«01_k».proof.Proof.Gen.MixGradInRefIdeal.Run
public import proofs.«01_k».proof.Defs

@[expose] public section

set_option maxRecDepth 16384

noncomputable section

namespace Cert.Proof.MixGradIn

open Cert.MixGradInIdeal Cert.MixGradInIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product: entry `(i, j)` is row `i` of the cotangent against row `j` of the weight. -/
def res (A : S8192x1024.Idx → EReal) (B : S1024x1024.Idx → EReal) : S8192x1024.Idx → EReal := mat (prod 1024 (at2 A) (at2 B))

variable (m : (ℓ : Loc nD τ sig) → Buf (Elt Ideal) ℓ) (c : Dev nD)

abbrev aA : S8192x1024.Idx → EReal := m ((c : Thread nD τ).loc main_arg0)
abbrev aB : S1024x1024.Idx → EReal := m ((c : Thread nD τ).loc main_arg1)

theorem blk0 (t : Fin cfg0.N) (r k : Fin 1024) : @Eq EReal (iblk m c 0 t (ix2 r k)) (at2 (aA m c) (t.val * 1024 + r.val) k.val) := by
  refine at2_idx (aA m c) _ ?_ ?_ <;> blk_simp [idx0 t]

theorem blk1 (t : Fin cfg0.N) (l k : Fin 1024) : @Eq EReal (iblk m c 1 t (ix2 l k)) (at2 (aB m c) l.val k.val) := by
  refine at2_idx (aB m c) _ ?_ ?_ <;> blk_simp [idx1 t]

theorem out_at (t : Fin cfg0.N) (r l : Fin 1024) :
    @Eq EReal (out0_2 (iblk m c 0 t) (iblk m c 1 t) (ix2 r l)) (prod 1024 (at2 (aA m c)) (at2 (aB m c)) (t.val * 1024 + r.val) l.val) := by
  rw [← prod_fin]
  simp only [← blk0 m c t r, ← blk1 m c t l]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 1024]⟩ : Shape).Idx) = ix2 (y 0) (y 1) := eq_ix2 (n0 := 1024) (n1 := 1024) y
  refine Eq.trans ?_ ((out_at m c t (y 0) (y 1)).trans ?_)
  · rw [hy]; rfl
  · refine congrArg₂ (prod 1024 _ _) ?_ ?_ <;> blk_simp [idx2 t]

theorem values : Cert.algebraic_MixGradInIdeal_MixGradInRefIdeal (hMixGradInIdeal := Cert.MixGradInIdeal.Gen.facts) (hMixGradInRefIdeal := Cert.MixGradInRefIdeal.Gen.facts) := by
  intro m g m' g' _ ha
  refine ⟨fun c => res (aA m c) (aB m c),
    (θ_run defs _ _).mono (fun r h c => ⟨(h c).1.trans (arr m c), (h c).2⟩) (Cert.MixGradInIdeal.Value.run_blocks (F := Ideal) m g), ?_⟩
  refine (θ_run Cert.MixGradInRefIdeal.defs _ _).mono (fun r h c => ⟨(h c).1.trans ?_, (h c).2⟩) (Cert.MixGradInRefIdeal.Value.run (F := Ideal) m' g')
  obtain ⟨e0, e1⟩ := ha c
  refine Eq.trans ?_ (congrArg₂ res e0 e1)
  refine funext fun i => ?_
  rw [eq_ix2 (n0 := 8192) (n1 := 1024) i]
  refine Eq.trans ?_ (prod_nt _ _ (i 0) (i 1))
  pointwise

theorem frame_ref : Cert.quiescent_MixGradInRefIdeal (hMixGradInRefIdeal := Cert.MixGradInRefIdeal.Gen.facts) := fun m ρ _ =>
  (θ_run Cert.MixGradInRefIdeal.defs _ _).mono (fun r h => ⟨fun c => (h c).2, sem_eq_zero_of_no_sems (by decide) r.2⟩)
    (Cert.MixGradInRefIdeal.Value.run (F := Ideal) m ρ)

end Cert.Proof.MixGradIn

end
-- ==== Proof.MixGradWVal.lean ====
/-
  The mix product's gradient in its weight: the kernel accumulates each tile over eight tiles of tokens, the reference sums once over the tokens.
-/
module

public import proofs.«01_k».proof.Proof.Prod
public import proofs.«01_k».proof.Proof.Gen.MixGradW.Frame
public import proofs.«01_k».proof.Proof.Gen.MixGradWIdeal.Value
public import proofs.«01_k».proof.Proof.Gen.MixGradWRefIdeal.Run
public import proofs.«01_k».proof.Defs

@[expose] public section

set_option maxRecDepth 16384

noncomputable section

namespace Cert.Proof.MixGradW

open Cert.MixGradWIdeal Cert.MixGradWIdeal.Gen Cert.Proof.Prod
open Idealize.ShloMosaic Idealize.ShloMosaic.TcCoe Idealize.ShloMosaic.StableHlo
open Idealize.SL.Sem
open scoped BigOperators

theorem lt8 (t : Fin cfg0.N) : t.val < 8 := t.isLt.trans_eq (by decide +kernel)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The cotangent or the operand on the left, the token last. -/
abbrev lhs (A : S8192x1024.Idx → EReal) : ℕ → ℕ → EReal := fun i k => at2 A k i
/-- The one on the right, the token last. -/
abbrev rhs (B : S8192x1024.Idx → EReal) : ℕ → ℕ → EReal := fun j k => at2 B k j
/-- The product: entry `(i, j)` is column `i` of the one against column `j` of the other. -/
def res (A : S8192x1024.Idx → EReal) (B : S8192x1024.Idx → EReal) : S1024x1024.Idx → EReal := mat (prod (1024 * 8) (lhs A) (rhs B))

variable (m : (ℓ : Loc nD τ sig) → Buf (Elt Ideal) ℓ) (c : Dev nD)

abbrev aA : S8192x1024.Idx → EReal := m ((c : Thread nD τ).loc main_arg0)
abbrev aB : S8192x1024.Idx → EReal := m ((c : Thread nD τ).loc main_arg1)

theorem blk0 (t : Fin cfg0.N) (r : Fin 1024) (k : Fin 1024) :
    @Eq EReal (iblk m c 0 t (ix2 k r)) (lhs (aA m c) (t.val / 8 * 1024 + r.val) (1024 * (t.val % 8) + k.val)) := by
  refine at2_idx (aA m c) _ ?_ ?_ <;> blk_simp [idx0 t] <;> have := lt8 t <;> omega

theorem blk1 (t : Fin cfg0.N) (k : Fin 1024) (l : Fin 1024) :
    @Eq EReal (iblk m c 1 t (ix2 k l)) (rhs (aB m c) l.val (1024 * (t.val % 8) + k.val)) := by
  refine at2_idx (aB m c) _ ?_ ?_ <;> blk_simp [idx1 t] <;> have := lt8 t <;> omega

theorem first_at (x : Vec Ideal S1024x1024 .bf16) (y : Vec Ideal S1024x1024 .bf16) (r : Fin 1024) (l : Fin 1024) (f g : Fin 1024 → EReal)
    (hx : ∀ k, @Eq EReal (x (ix2 k r)) (f k)) (hy : ∀ k, @Eq EReal (y (ix2 k l)) (g k)) :
    @Eq EReal (k0_pay2 x y (ix2 r l)) (∑ k : Fin 1024, f k * g k) := by
  simp only [← hx, ← hy]
  pointwise [k0_pay2, k0_pay1]

theorem next_at (x : Vec Ideal S1024x1024 .bf16) (y : Vec Ideal S1024x1024 .bf16) (a : Vec Ideal S1024x1024 .f32) (r : Fin 1024) (l : Fin 1024) (f g : Fin 1024 → EReal)
    (hx : ∀ k, @Eq EReal (x (ix2 k r)) (f k)) (hy : ∀ k, @Eq EReal (y (ix2 k l)) (g k)) :
    @Eq EReal (k0_pay3 x y a (ix2 r l)) (a (ix2 r l) + ∑ k : Fin 1024, f k * g k) := by
  simp only [← hx, ← hy]
  pointwise [k0_pay3, k0_pay1]

theorem out_at (t : Fin cfg0.N) (h : t.val % 8 = 7) (r : Fin 1024) (l : Fin 1024) :
    @Eq EReal ((outsAt0 m c t.val t.isLt).1 (ix2 r l)) (prod (1024 * 8) (lhs (aA m c)) (rhs (aB m c)) (t.val / 8 * 1024 + r.val) l.val) := by
  have e : (outsAt0 m c t.val t.isLt).1 = (outsAt0 m c t.val t.isLt).2 := by
    rw [outsAt0_C m c t (by omega) (by omega) h]
    frame_out
  rw [e]
  refine fold_prod 1024 (fun n h => (outsAt0 m c n h).2) (lhs (aA m c)) (rhs (aB m c)) (· * 1024) (fun t h r l => ?_) (fun t h r l => ?_) t (by omega) r l
  · have := lt8 t
    rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 8 = 7
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![1024, 1024]⟩ : Shape).Idx) = ix2 (y 0) (y 1) := eq_ix2 (n0 := 1024) (n1 := 1024) y
  refine Eq.trans ?_ ((out_at m c t h (y 0) (y 1)).trans ?_)
  · rw [hy]; rfl
  · refine congrArg₂ (prod (1024 * 8) _ _) ?_ ?_ <;> blk_simp [idx2 t]
    have := lt8 t
    omega

theorem values : Cert.algebraic_MixGradWIdeal_MixGradWRefIdeal (hMixGradWIdeal := Cert.MixGradWIdeal.Gen.facts) (hMixGradWRefIdeal := Cert.MixGradWRefIdeal.Gen.facts) := by
  intro m g m' g' _ ha
  refine ⟨fun c => res (aA m c) (aB m c),
    (θ_run defs _ _).mono (fun r h c => ⟨(h c).1.trans ((Cert.MixGradWIdeal.Value.final2 m c).symm.trans (arr m c)), (h c).2⟩) (Cert.MixGradWIdeal.Value.run (F := Ideal) m g), ?_⟩
  refine (θ_run Cert.MixGradWRefIdeal.defs _ _).mono (fun r h c => ⟨(h c).1.trans ?_, (h c).2⟩) (Cert.MixGradWRefIdeal.Value.run (F := Ideal) m' g')
  obtain ⟨e0, e1⟩ := ha c
  refine Eq.trans ?_ (congrArg₂ res e0 e1)
  refine funext fun i => ?_
  rw [eq_ix2 (n0 := 1024) (n1 := 1024) i]
  refine Eq.trans ?_ (prod_tn_comm _ _ (i 0) (i 1))
  pointwise

theorem frame_ref : Cert.quiescent_MixGradWRefIdeal (hMixGradWRefIdeal := Cert.MixGradWRefIdeal.Gen.facts) := fun m ρ _ =>
  (θ_run Cert.MixGradWRefIdeal.defs _ _).mono (fun r h => ⟨fun c => (h c).2, sem_eq_zero_of_no_sems (by decide) r.2⟩)
    (Cert.MixGradWRefIdeal.Value.run (F := Ideal) m ρ)

end Cert.Proof.MixGradW

end
-- ==== Proof.BranchVal.lean ====
/-
  A branch's projection: the kernel's result and the reference's are one sum.
-/
module

public import proofs.«01_k».proof.Proof.Prod
public import proofs.«01_k».proof.Proof.Gen.Branch.Frame
public import proofs.«01_k».proof.Proof.Gen.BranchIdeal.Value
public import proofs.«01_k».proof.Proof.Gen.BranchRefIdeal.Run
public import proofs.«01_k».proof.Defs

@[expose] public section

set_option maxRecDepth 16384

noncomputable section

namespace Cert.Proof.Branch

open Cert.BranchIdeal Cert.BranchIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product: entry `(i, j)` is row `i` of the operand against row `j` of the transposed weight. -/
def res (A : S8192x512.Idx → EReal) (B : S1024x512.Idx → EReal) : S8192x1024.Idx → EReal := mat (prod 512 (at2 A) (at2 B))

variable (m : (ℓ : Loc nD τ sig) → Buf (Elt Ideal) ℓ) (c : Dev nD)

abbrev aA : S8192x512.Idx → EReal := m ((c : Thread nD τ).loc main_arg0)
abbrev aB : S1024x512.Idx → EReal := m ((c : Thread nD τ).loc main_arg1)

theorem blk0 (t : Fin cfg0.N) (r : Fin 1024) (k : Fin 512) : @Eq EReal (iblk m c 0 t (ix2 r k)) (at2 (aA m c) (t.val * 1024 + r.val) k.val) := by
  refine at2_idx (aA m c) _ ?_ ?_ <;> blk_simp [idx0 t]

theorem blk1 (t : Fin cfg0.N) (l : Fin 1024) (k : Fin 512) : @Eq EReal (iblk m c 1 t (ix2 l k)) (at2 (aB m c) l.val k.val) := by
  refine at2_idx (aB m c) _ ?_ ?_ <;> blk_simp [idx1 t]

theorem out_at (t : Fin cfg0.N) (r l : Fin 1024) :
    @Eq EReal (out0_2 (iblk m c 0 t) (iblk m c 1 t) (ix2 r l)) (prod 512 (at2 (aA m c)) (at2 (aB m c)) (t.val * 1024 + r.val) l.val) := by
  rw [← prod_fin]
  simp only [← blk0 m c t r, ← blk1 m c t l]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 1024]⟩ : Shape).Idx) = ix2 (y 0) (y 1) := eq_ix2 (n0 := 1024) (n1 := 1024) y
  refine Eq.trans ?_ ((out_at m c t (y 0) (y 1)).trans ?_)
  · rw [hy]; rfl
  · refine congrArg₂ (prod 512 _ _) ?_ ?_ <;> blk_simp [idx2 t]

theorem values : Cert.algebraic_BranchIdeal_BranchRefIdeal (hBranchIdeal := Cert.BranchIdeal.Gen.facts) (hBranchRefIdeal := Cert.BranchRefIdeal.Gen.facts) := by
  intro m g m' g' _ ha
  refine ⟨fun c => res (aA m c) (aB m c),
    (θ_run defs _ _).mono (fun r h c => ⟨(h c).1.trans (arr m c), (h c).2⟩) (Cert.BranchIdeal.Value.run_blocks (F := Ideal) m g), ?_⟩
  refine (θ_run Cert.BranchRefIdeal.defs _ _).mono (fun r h c => ⟨(h c).1.trans ?_, (h c).2⟩) (Cert.BranchRefIdeal.Value.run (F := Ideal) m' g')
  obtain ⟨e0, e1⟩ := ha c
  refine Eq.trans ?_ (congrArg₂ res e0 e1)
  refine funext fun i => ?_
  rw [eq_ix2 (n0 := 8192) (n1 := 1024) i]
  refine Eq.trans ?_ (prod_nt _ _ (i 0) (i 1))
  pointwise

theorem frame_ref : Cert.quiescent_BranchRefIdeal (hBranchRefIdeal := Cert.BranchRefIdeal.Gen.facts) := fun m ρ _ =>
  (θ_run Cert.BranchRefIdeal.defs _ _).mono (fun r h => ⟨fun c => (h c).2, sem_eq_zero_of_no_sems (by decide) r.2⟩)
    (Cert.BranchRefIdeal.Value.run (F := Ideal) m ρ)

end Cert.Proof.Branch

end
-- ==== Proof.ConvGradInVal.lean ====
/-
  The convolution branch's projection, its gradient in its operand: the kernel's result and the reference's are one sum.
-/
module

public import proofs.«01_k».proof.Proof.Prod
public import proofs.«01_k».proof.Proof.Gen.ConvGradIn.Frame
public import proofs.«01_k».proof.Proof.Gen.ConvGradInIdeal.Value
public import proofs.«01_k».proof.Proof.Gen.ConvGradInRefIdeal.Run
public import proofs.«01_k».proof.Defs

@[expose] public section

set_option maxRecDepth 16384

noncomputable section

namespace Cert.Proof.ConvGradIn

open Cert.ConvGradInIdeal Cert.ConvGradInIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The transposed weight, the contracted index last. -/
abbrev rhs (B : S1024x512.Idx → EReal) : ℕ → ℕ → EReal := fun j k => at2 B k j
/-- The product: entry `(i, j)` is row `i` of the cotangent against column `j` of the transposed weight. -/
def res (A : S8192x1024.Idx → EReal) (B : S1024x512.Idx → EReal) : S8192x512.Idx → EReal := mat (prod 1024 (at2 A) (rhs B))

variable (m : (ℓ : Loc nD τ sig) → Buf (Elt Ideal) ℓ) (c : Dev nD)

abbrev aA : S8192x1024.Idx → EReal := m ((c : Thread nD τ).loc main_arg0)
abbrev aB : S1024x512.Idx → EReal := m ((c : Thread nD τ).loc main_arg1)

theorem blk0 (t : Fin cfg0.N) (r k : Fin 1024) : @Eq EReal (iblk m c 0 t (ix2 r k)) (at2 (aA m c) (t.val * 1024 + r.val) k.val) := by
  refine at2_idx (aA m c) _ ?_ ?_ <;> blk_simp [idx0 t]

theorem blk1 (t : Fin cfg0.N) (k : Fin 1024) (l : Fin 512) : @Eq EReal (iblk m c 1 t (ix2 k l)) (rhs (aB m c) l.val k.val) := by
  refine at2_idx (aB m c) _ ?_ ?_ <;> blk_simp [idx1 t]

theorem out_at (t : Fin cfg0.N) (r : Fin 1024) (l : Fin 512) :
    @Eq EReal (out0_2 (iblk m c 0 t) (iblk m c 1 t) (ix2 r l)) (prod 1024 (at2 (aA m c)) (rhs (aB m c)) (t.val * 1024 + r.val) l.val) := by
  rw [← prod_fin]
  simp only [← blk0 m c t r, fun k => (blk1 m c t k l).symm]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 512]⟩ : Shape).Idx) = ix2 (y 0) (y 1) := eq_ix2 (n0 := 1024) (n1 := 512) y
  refine Eq.trans ?_ ((out_at m c t (y 0) (y 1)).trans ?_)
  · rw [hy]; rfl
  · refine congrArg₂ (prod 1024 _ _) ?_ ?_ <;> blk_simp [idx2 t]

theorem values : Cert.algebraic_ConvGradInIdeal_ConvGradInRefIdeal (hConvGradInIdeal := Cert.ConvGradInIdeal.Gen.facts) (hConvGradInRefIdeal := Cert.ConvGradInRefIdeal.Gen.facts) := by
  intro m g m' g' _ ha
  refine ⟨fun c => res (aA m c) (aB m c),
    (θ_run defs _ _).mono (fun r h c => ⟨(h c).1.trans (arr m c), (h c).2⟩) (Cert.ConvGradInIdeal.Value.run_blocks (F := Ideal) m g), ?_⟩
  refine (θ_run Cert.ConvGradInRefIdeal.defs _ _).mono (fun r h c => ⟨(h c).1.trans ?_, (h c).2⟩) (Cert.ConvGradInRefIdeal.Value.run (F := Ideal) m' g')
  obtain ⟨e0, e1⟩ := ha c
  refine Eq.trans ?_ (congrArg₂ res e0 e1)
  refine funext fun i => ?_
  rw [eq_ix2 (n0 := 8192) (n1 := 512) i]
  refine Eq.trans ?_ (prod_nn _ _ (i 0) (i 1))
  pointwise

theorem frame_ref : Cert.quiescent_ConvGradInRefIdeal (hConvGradInRefIdeal := Cert.ConvGradInRefIdeal.Gen.facts) := fun m ρ _ =>
  (θ_run Cert.ConvGradInRefIdeal.defs _ _).mono (fun r h => ⟨fun c => (h c).2, sem_eq_zero_of_no_sems (by decide) r.2⟩)
    (Cert.ConvGradInRefIdeal.Value.run (F := Ideal) m ρ)

end Cert.Proof.ConvGradIn

end
-- ==== Proof.AttnGradInVal.lean ====
/-
  The attention branch's projection, its gradient in its operand: the kernel's result and the reference's are one sum.
-/
module

public import proofs.«01_k».proof.Proof.Prod
public import proofs.«01_k».proof.Proof.Gen.AttnGradIn.Frame
public import proofs.«01_k».proof.Proof.Gen.AttnGradInIdeal.Value
public import proofs.«01_k».proof.Proof.Gen.AttnGradInRefIdeal.Run
public import proofs.«01_k».proof.Defs

@[expose] public section

set_option maxRecDepth 16384

noncomputable section

namespace Cert.Proof.AttnGradIn

open Cert.AttnGradInIdeal Cert.AttnGradInIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The transposed weight, the contracted index last. -/
abbrev rhs (B : S1024x512.Idx → EReal) : ℕ → ℕ → EReal := fun j k => at2 B k j
/-- The product: entry `(i, j)` is row `i` of the cotangent against column `j` of the transposed weight. -/
def res (A : S8192x1024.Idx → EReal) (B : S1024x512.Idx → EReal) : S8192x512.Idx → EReal := mat (prod 1024 (at2 A) (rhs B))

variable (m : (ℓ : Loc nD τ sig) → Buf (Elt Ideal) ℓ) (c : Dev nD)

abbrev aA : S8192x1024.Idx → EReal := m ((c : Thread nD τ).loc main_arg0)
abbrev aB : S1024x512.Idx → EReal := m ((c : Thread nD τ).loc main_arg1)

theorem blk0 (t : Fin cfg0.N) (r k : Fin 1024) : @Eq EReal (iblk m c 0 t (ix2 r k)) (at2 (aA m c) (t.val * 1024 + r.val) k.val) := by
  refine at2_idx (aA m c) _ ?_ ?_ <;> blk_simp [idx0 t]

theorem blk1 (t : Fin cfg0.N) (k : Fin 1024) (l : Fin 512) : @Eq EReal (iblk m c 1 t (ix2 k l)) (rhs (aB m c) l.val k.val) := by
  refine at2_idx (aB m c) _ ?_ ?_ <;> blk_simp [idx1 t]

theorem out_at (t : Fin cfg0.N) (r : Fin 1024) (l : Fin 512) :
    @Eq EReal (out0_2 (iblk m c 0 t) (iblk m c 1 t) (ix2 r l)) (prod 1024 (at2 (aA m c)) (rhs (aB m c)) (t.val * 1024 + r.val) l.val) := by
  rw [← prod_fin]
  simp only [← blk0 m c t r, fun k => (blk1 m c t k l).symm]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 512]⟩ : Shape).Idx) = ix2 (y 0) (y 1) := eq_ix2 (n0 := 1024) (n1 := 512) y
  refine Eq.trans ?_ ((out_at m c t (y 0) (y 1)).trans ?_)
  · rw [hy]; rfl
  · refine congrArg₂ (prod 1024 _ _) ?_ ?_ <;> blk_simp [idx2 t]

theorem values : Cert.algebraic_AttnGradInIdeal_AttnGradInRefIdeal (hAttnGradInIdeal := Cert.AttnGradInIdeal.Gen.facts) (hAttnGradInRefIdeal := Cert.AttnGradInRefIdeal.Gen.facts) := by
  intro m g m' g' _ ha
  refine ⟨fun c => res (aA m c) (aB m c),
    (θ_run defs _ _).mono (fun r h c => ⟨(h c).1.trans (arr m c), (h c).2⟩) (Cert.AttnGradInIdeal.Value.run_blocks (F := Ideal) m g), ?_⟩
  refine (θ_run Cert.AttnGradInRefIdeal.defs _ _).mono (fun r h c => ⟨(h c).1.trans ?_, (h c).2⟩) (Cert.AttnGradInRefIdeal.Value.run (F := Ideal) m' g')
  obtain ⟨e0, e1⟩ := ha c
  refine Eq.trans ?_ (congrArg₂ res e0 e1)
  refine funext fun i => ?_
  rw [eq_ix2 (n0 := 8192) (n1 := 512) i]
  refine Eq.trans ?_ (prod_nn _ _ (i 0) (i 1))
  pointwise

theorem frame_ref : Cert.quiescent_AttnGradInRefIdeal (hAttnGradInRefIdeal := Cert.AttnGradInRefIdeal.Gen.facts) := fun m ρ _ =>
  (θ_run Cert.AttnGradInRefIdeal.defs _ _).mono (fun r h => ⟨fun c => (h c).2, sem_eq_zero_of_no_sems (by decide) r.2⟩)
    (Cert.AttnGradInRefIdeal.Value.run (F := Ideal) m ρ)

end Cert.Proof.AttnGradIn

end
-- ==== Proof.BranchGradWVal.lean ====
/-
  A branch projection's gradient in its weight: the kernel accumulates each tile over eight tiles of tokens, the reference sums once over the tokens.
-/
module

public import proofs.«01_k».proof.Proof.Prod
public import proofs.«01_k».proof.Proof.Gen.BranchGradW.Frame
public import proofs.«01_k».proof.Proof.Gen.BranchGradWIdeal.Value
public import proofs.«01_k».proof.Proof.Gen.BranchGradWRefIdeal.Run
public import proofs.«01_k».proof.Defs

@[expose] public section

set_option maxRecDepth 16384

noncomputable section

namespace Cert.Proof.BranchGradW

open Cert.BranchGradWIdeal Cert.BranchGradWIdeal.Gen Cert.Proof.Prod
open Idealize.ShloMosaic Idealize.ShloMosaic.TcCoe Idealize.ShloMosaic.StableHlo
open Idealize.SL.Sem
open scoped BigOperators

theorem lt8 (t : Fin cfg0.N) : t.val < 8 := t.isLt.trans_eq (by decide +kernel)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The cotangent or the operand on the left, the token last. -/
abbrev lhs (A : S8192x1024.Idx → EReal) : ℕ → ℕ → EReal := fun i k => at2 A k i
/-- The one on the right, the token last. -/
abbrev rhs (B : S8192x512.Idx → EReal) : ℕ → ℕ → EReal := fun j k => at2 B k j
/-- The product: entry `(i, j)` is column `i` of the one against column `j` of the other. -/
def res (A : S8192x1024.Idx → EReal) (B : S8192x512.Idx → EReal) : S1024x512.Idx → EReal := mat (prod (1024 * 8) (lhs A) (rhs B))

variable (m : (ℓ : Loc nD τ sig) → Buf (Elt Ideal) ℓ) (c : Dev nD)

abbrev aA : S8192x1024.Idx → EReal := m ((c : Thread nD τ).loc main_arg0)
abbrev aB : S8192x512.Idx → EReal := m ((c : Thread nD τ).loc main_arg1)

theorem blk0 (t : Fin cfg0.N) (r : Fin 1024) (k : Fin 1024) :
    @Eq EReal (iblk m c 0 t (ix2 k r)) (lhs (aA m c) (t.val / 8 * 1024 + r.val) (1024 * (t.val % 8) + k.val)) := by
  refine at2_idx (aA m c) _ ?_ ?_ <;> blk_simp [idx0 t] <;> have := lt8 t <;> omega

theorem blk1 (t : Fin cfg0.N) (k : Fin 1024) (l : Fin 512) :
    @Eq EReal (iblk m c 1 t (ix2 k l)) (rhs (aB m c) l.val (1024 * (t.val % 8) + k.val)) := by
  refine at2_idx (aB m c) _ ?_ ?_ <;> blk_simp [idx1 t] <;> have := lt8 t <;> omega

theorem first_at (x : Vec Ideal S1024x1024 .bf16) (y : Vec Ideal S1024x512 .bf16) (r : Fin 1024) (l : Fin 512) (f g : Fin 1024 → EReal)
    (hx : ∀ k, @Eq EReal (x (ix2 k r)) (f k)) (hy : ∀ k, @Eq EReal (y (ix2 k l)) (g k)) :
    @Eq EReal (k0_pay2 x y (ix2 r l)) (∑ k : Fin 1024, f k * g k) := by
  simp only [← hx, ← hy]
  pointwise [k0_pay2, k0_pay1]

theorem next_at (x : Vec Ideal S1024x1024 .bf16) (y : Vec Ideal S1024x512 .bf16) (a : Vec Ideal S1024x512 .f32) (r : Fin 1024) (l : Fin 512) (f g : Fin 1024 → EReal)
    (hx : ∀ k, @Eq EReal (x (ix2 k r)) (f k)) (hy : ∀ k, @Eq EReal (y (ix2 k l)) (g k)) :
    @Eq EReal (k0_pay3 x y a (ix2 r l)) (a (ix2 r l) + ∑ k : Fin 1024, f k * g k) := by
  simp only [← hx, ← hy]
  pointwise [k0_pay3, k0_pay1]

theorem out_at (t : Fin cfg0.N) (h : t.val % 8 = 7) (r : Fin 1024) (l : Fin 512) :
    @Eq EReal ((outsAt0 m c t.val t.isLt).1 (ix2 r l)) (prod (1024 * 8) (lhs (aA m c)) (rhs (aB m c)) (t.val / 8 * 1024 + r.val) l.val) := by
  have e : (outsAt0 m c t.val t.isLt).1 = (outsAt0 m c t.val t.isLt).2 := by
    rw [outsAt0_C m c t (by omega) (by omega) h]
    frame_out
  rw [e]
  refine fold_prod 1024 (fun n h => (outsAt0 m c n h).2) (lhs (aA m c)) (rhs (aB m c)) (· * 1024) (fun t h r l => ?_) (fun t h r l => ?_) t (by omega) r l
  · have := lt8 t
    rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 8 = 7
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![1024, 512]⟩ : Shape).Idx) = ix2 (y 0) (y 1) := eq_ix2 (n0 := 1024) (n1 := 512) y
  refine Eq.trans ?_ ((out_at m c t h (y 0) (y 1)).trans ?_)
  · rw [hy]; rfl
  · refine congrArg₂ (prod (1024 * 8) _ _) ?_ ?_ <;> blk_simp [idx2 t]
    have := lt8 t
    omega

theorem values : Cert.algebraic_BranchGradWIdeal_BranchGradWRefIdeal (hBranchGradWIdeal := Cert.BranchGradWIdeal.Gen.facts) (hBranchGradWRefIdeal := Cert.BranchGradWRefIdeal.Gen.facts) := by
  intro m g m' g' _ ha
  refine ⟨fun c => res (aA m c) (aB m c),
    (θ_run defs _ _).mono (fun r h c => ⟨(h c).1.trans ((Cert.BranchGradWIdeal.Value.final2 m c).symm.trans (arr m c)), (h c).2⟩) (Cert.BranchGradWIdeal.Value.run (F := Ideal) m g), ?_⟩
  refine (θ_run Cert.BranchGradWRefIdeal.defs _ _).mono (fun r h c => ⟨(h c).1.trans ?_, (h c).2⟩) (Cert.BranchGradWRefIdeal.Value.run (F := Ideal) m' g')
  obtain ⟨e0, e1⟩ := ha c
  refine Eq.trans ?_ (congrArg₂ res e0 e1)
  refine funext fun i => ?_
  rw [eq_ix2 (n0 := 1024) (n1 := 512) i]
  refine Eq.trans ?_ (prod_tn _ _ (i 0) (i 1))
  pointwise

theorem frame_ref : Cert.quiescent_BranchGradWRefIdeal (hBranchGradWRefIdeal := Cert.BranchGradWRefIdeal.Gen.facts) := fun m ρ _ =>
  (θ_run Cert.BranchGradWRefIdeal.defs _ _).mono (fun r h => ⟨fun c => (h c).2, sem_eq_zero_of_no_sems (by decide) r.2⟩)
    (Cert.BranchGradWRefIdeal.Value.run (F := Ideal) m ρ)

end Cert.Proof.BranchGradW

end
-- ==== Proof.Gate.lean ====
/-
  The sigmoid over the extended reals, as the merge's kernels and their references take it.
-/
module

public import proofs.«01_k».proof.Proof.Prod

@[expose] public section

noncomputable section

namespace Cert.Proof.Prod

open Idealize.ShloMosaic

/-- The sigmoid. -/
def gate (x : EReal) : EReal := Ideal.div 1 (1 + Ideal.exp (-x))

/-- The kernel takes the negation as a difference from zero. -/
theorem gate_sub (x : EReal) : Ideal.div 1 (1 + Ideal.exp (0 - x)) = gate x := by
  rw [gate, sub_eq_add_neg, zero_add]

end Cert.Proof.Prod

end
-- ==== Proof.GateProjVal.lean ====
/-
  The gates' projection, a product with the transposed weight and a bias, against the reference's own lines.
-/
module

public import proofs.«01_k».proof.Proof.Gate
public import proofs.«01_k».proof.Proof.Gen.GateProj.Frame
public import proofs.«01_k».proof.Proof.Gen.GateProjIdeal.Value
public import proofs.«01_k».proof.Proof.Gen.GateProjRefIdeal.Run
public import proofs.«01_k».proof.Defs

@[expose] public section

set_option maxRecDepth 16384

noncomputable section

namespace Cert.Proof.GateProj

open Cert.GateProjIdeal Cert.GateProjIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Entry `(i, j)`: row `i` of the operand against row `j` of the transposed weight, and the bias's entry `j`. -/
abbrev entry (A : S8192x1024.Idx → EReal) (B : S128x1024.Idx → EReal) (z : S1x128.Idx → EReal) (i j : ℕ) : EReal :=
  prod 1024 (at2 A) (at2 B) i j + at2 z 0 j
/-- The projection. -/
def res (A : S8192x1024.Idx → EReal) (B : S128x1024.Idx → EReal) (z : S1x128.Idx → EReal) : S8192x128.Idx → EReal := mat (entry A B z)

variable (m : (ℓ : Loc nD τ sig) → Buf (Elt Ideal) ℓ) (c : Dev nD)

abbrev aA : S8192x1024.Idx → EReal := m ((c : Thread nD τ).loc main_arg0)
abbrev aB : S128x1024.Idx → EReal := m ((c : Thread nD τ).loc main_arg1)
abbrev aZ : S1x128.Idx → EReal := m ((c : Thread nD τ).loc main_arg2)

theorem blk0 (t : Fin cfg0.N) (r k : Fin 1024) : @Eq EReal (iblk m c 0 t (ix2 r k)) (at2 (aA m c) (t.val * 1024 + r.val) k.val) := by
  refine at2_idx (aA m c) _ ?_ ?_ <;> blk_simp [idx0 t]

theorem blk1 (t : Fin cfg0.N) (l : Fin 128) (k : Fin 1024) : @Eq EReal (iblk m c 1 t (ix2 l k)) (at2 (aB m c) l.val k.val) := by
  refine at2_idx (aB m c) _ ?_ ?_ <;> blk_simp [idx1 t]

theorem blk2 (t : Fin cfg0.N) (l : Fin 128) : @Eq EReal (iblk m c 2 t (ix2 0 l)) (at2 (aZ m c) 0 l.val) := by
  refine at2_idx (aZ m c) _ ?_ ?_ <;> blk_simp [idx2 t]
  rfl

theorem out_at (t : Fin cfg0.N) (r : Fin 1024) (l : Fin 128) :
    @Eq EReal (out0_3 (iblk m c 0 t) (iblk m c 1 t) (iblk m c 2 t) (ix2 r l))
      (entry (aA m c) (aB m c) (aZ m c) (t.val * 1024 + r.val) l.val) := by
  show _ = prod _ _ _ _ _ + _
  rw [← prod_fin]
  simp only [← blk0 m c t r, ← blk1 m c t l, ← blk2 m c t l]
  generalize iblk m c 0 t = x
  generalize iblk m c 1 t = y
  generalize iblk m c 2 t = z
  unfold out0_3
  frame_out
  pointwise [k0_pay1]

theorem arr : (dats m 0 c).arrAt 3 cfg0.N = res (aA m c) (aB m c) (aZ m c) := by
  refine (dats m 0 c).arrAt_eq_of_covers 3 _ (by decide +kernel) fun t hf y => ?_
  blk_simp
  rw [after0_3]
  have hy : (y : (⟨2, ![1024, 128]⟩ : Shape).Idx) = ix2 (y 0) (y 1) := eq_ix2 (n0 := 1024) (n1 := 128) y
  refine Eq.trans ?_ ((out_at m c t (y 0) (y 1)).trans ?_)
  · rw [hy]; rfl
  · refine congrArg₂ (entry _ _ _) ?_ ?_ <;> blk_simp [idx3 t]

theorem values : Cert.algebraic_GateProjIdeal_GateProjRefIdeal (hGateProjIdeal := Cert.GateProjIdeal.Gen.facts) (hGateProjRefIdeal := Cert.GateProjRefIdeal.Gen.facts) := by
  intro m g m' g' _ ha
  refine ⟨fun c => res (aA m c) (aB m c) (aZ m c),
    (θ_run defs _ _).mono (fun r h c => ⟨(h c).1.trans (arr m c), (h c).2⟩) (Cert.GateProjIdeal.Value.run_blocks (F := Ideal) m g), ?_⟩
  refine (θ_run Cert.GateProjRefIdeal.defs _ _).mono (fun r h c => ⟨(h c).1.trans ?_, (h c).2⟩) (Cert.GateProjRefIdeal.Value.run (F := Ideal) m' g')
  obtain ⟨e0, e1, e2⟩ := ha c
  refine Eq.trans ?_ (congr (congrArg₂ res e0 e1) e2)
  refine funext fun i => ?_
  rw [eq_ix2 (n0 := 8192) (n1 := 128) i]
  refine Eq.trans ?_ (congrArg₂ (· + ·) (prod_nt _ _ (i 0) (i 1)) (at2_ix2 _ 0 (i 1)).symm)
  pointwise

theorem frame_ref : Cert.quiescent_GateProjRefIdeal (hGateProjRefIdeal := Cert.GateProjRefIdeal.Gen.facts) := fun m ρ _ =>
  (θ_run Cert.GateProjRefIdeal.defs _ _).mono (fun r h => ⟨fun c => (h c).2, sem_eq_zero_of_no_sems (by decide) r.2⟩)
    (Cert.GateProjRefIdeal.Value.run (F := Ideal) m ρ)

end Cert.Proof.GateProj

end
-- ==== Proof.GateGradInVal.lean ====
/-
  The gates' projection's gradient in its operand against the reference's own lines.
-/
module

public import proofs.«01_k».proof.Proof.Gate
public import proofs.«01_k».proof.Proof.Gen.GateGradIn.Frame
public import proofs.«01_k».proof.Proof.Gen.GateGradInIdeal.Value
public import proofs.«01_k».proof.Proof.Gen.GateGradInRefIdeal.Run
public import proofs.«01_k».proof.Defs

@[expose] public section

set_option maxRecDepth 16384

noncomputable section

namespace Cert.Proof.GateGradIn

open Cert.GateGradInIdeal Cert.GateGradInIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The transposed weight, the contracted index last. -/
abbrev rhs (B : S128x1024.Idx → EReal) : ℕ → ℕ → EReal := fun j k => at2 B k j
/-- The product: entry `(i, j)` is row `i` of the cotangent against column `j` of the transposed weight. -/
def res (A : S8192x128.Idx → EReal) (B : S128x1024.Idx → EReal) : S8192x1024.Idx → EReal := mat (prod 128 (at2 A) (rhs B))

variable (m : (ℓ : Loc nD τ sig) → Buf (Elt Ideal) ℓ) (c : Dev nD)

abbrev aA : S8192x128.Idx → EReal := m ((c : Thread nD τ).loc main_arg0)
abbrev aB : S128x1024.Idx → EReal := m ((c : Thread nD τ).loc main_arg1)

theorem blk0 (t : Fin cfg0.N) (r : Fin 1024) (k : Fin 128) : @Eq EReal (iblk m c 0 t (ix2 r k)) (at2 (aA m c) (t.val * 1024 + r.val) k.val) := by
  refine at2_idx (aA m c) _ ?_ ?_ <;> blk_simp [idx0 t]

theorem blk1 (t : Fin cfg0.N) (k : Fin 128) (l : Fin 1024) : @Eq EReal (iblk m c 1 t (ix2 k l)) (rhs (aB m c) l.val k.val) := by
  refine at2_idx (aB m c) _ ?_ ?_ <;> blk_simp [idx1 t]

theorem out_at (t : Fin cfg0.N) (r : Fin 1024) (l : Fin 1024) :
    @Eq EReal (out0_2 (iblk m c 0 t) (iblk m c 1 t) (ix2 r l)) (prod 128 (at2 (aA m c)) (rhs (aB m c)) (t.val * 1024 + r.val) l.val) := by
  rw [← prod_fin]
  simp only [← blk0 m c t r, fun k => (blk1 m c t k l).symm]
  generalize iblk m c 0 t = x
  generalize iblk m c 1 t = y
  unfold out0_2
  frame_out
  pointwise [k0_pay1]

theorem arr : (dats m 0 c).arrAt 2 cfg0.N = res (aA m c) (aB m c) := by
  refine (dats m 0 c).arrAt_eq_of_covers 2 _ (by decide +kernel) fun t hf y => ?_
  blk_simp
  rw [after0_2]
  have hy : (y : (⟨2, ![1024, 1024]⟩ : Shape).Idx) = ix2 (y 0) (y 1) := eq_ix2 (n0 := 1024) (n1 := 1024) y
  refine Eq.trans ?_ ((out_at m c t (y 0) (y 1)).trans ?_)
  · rw [hy]; rfl
  · refine congrArg₂ (prod 128 _ _) ?_ ?_ <;> blk_simp [idx2 t]

theorem values : Cert.algebraic_GateGradInIdeal_GateGradInRefIdeal (hGateGradInIdeal := Cert.GateGradInIdeal.Gen.facts) (hGateGradInRefIdeal := Cert.GateGradInRefIdeal.Gen.facts) := by
  intro m g m' g' _ ha
  refine ⟨fun c => res (aA m c) (aB m c),
    (θ_run defs _ _).mono (fun r h c => ⟨(h c).1.trans (arr m c), (h c).2⟩) (Cert.GateGradInIdeal.Value.run_blocks (F := Ideal) m g), ?_⟩
  refine (θ_run Cert.GateGradInRefIdeal.defs _ _).mono (fun r h c => ⟨(h c).1.trans ?_, (h c).2⟩) (Cert.GateGradInRefIdeal.Value.run (F := Ideal) m' g')
  obtain ⟨e0, e1⟩ := ha c
  refine Eq.trans ?_ (congrArg₂ res e0 e1)
  refine funext fun i => ?_
  rw [eq_ix2 (n0 := 8192) (n1 := 1024) i]
  refine Eq.trans ?_ (prod_nn _ _ (i 0) (i 1))
  pointwise

theorem frame_ref : Cert.quiescent_GateGradInRefIdeal (hGateGradInRefIdeal := Cert.GateGradInRefIdeal.Gen.facts) := fun m ρ _ =>
  (θ_run Cert.GateGradInRefIdeal.defs _ _).mono (fun r h => ⟨fun c => (h c).2, sem_eq_zero_of_no_sems (by decide) r.2⟩)
    (Cert.GateGradInRefIdeal.Value.run (F := Ideal) m ρ)

end Cert.Proof.GateGradIn

end
-- ==== Proof.GateGradWVal.lean ====
/-
  The gates' projection's gradient in its weight: the kernel accumulates over eight tiles of tokens, the reference sums once over the tokens.
-/
module

public import proofs.«01_k».proof.Proof.Gate
public import proofs.«01_k».proof.Proof.Gen.GateGradW.Frame
public import proofs.«01_k».proof.Proof.Gen.GateGradWIdeal.Value
public import proofs.«01_k».proof.Proof.Gen.GateGradWRefIdeal.Run
public import proofs.«01_k».proof.Defs

@[expose] public section

set_option maxRecDepth 16384

noncomputable section

namespace Cert.Proof.GateGradW

open Cert.GateGradWIdeal Cert.GateGradWIdeal.Gen Cert.Proof.Prod
open Idealize.ShloMosaic Idealize.ShloMosaic.TcCoe Idealize.ShloMosaic.StableHlo
open Idealize.SL.Sem
open scoped BigOperators

theorem lt8 (t : Fin cfg0.N) : t.val < 8 := t.isLt.trans_eq (by decide +kernel)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The cotangent or the operand on the left, the token last. -/
abbrev lhs (A : S8192x128.Idx → EReal) : ℕ → ℕ → EReal := fun i k => at2 A k i
/-- The one on the right, the token last. -/
abbrev rhs (B : S8192x1024.Idx → EReal) : ℕ → ℕ → EReal := fun j k => at2 B k j
/-- The product: entry `(i, j)` is column `i` of the one against column `j` of the other. -/
def res (A : S8192x128.Idx → EReal) (B : S8192x1024.Idx → EReal) : S128x1024.Idx → EReal := mat (prod (1024 * 8) (lhs A) (rhs B))

variable (m : (ℓ : Loc nD τ sig) → Buf (Elt Ideal) ℓ) (c : Dev nD)

abbrev aA : S8192x128.Idx → EReal := m ((c : Thread nD τ).loc main_arg0)
abbrev aB : S8192x1024.Idx → EReal := m ((c : Thread nD τ).loc main_arg1)

theorem blk0 (t : Fin cfg0.N) (r : Fin 128) (k : Fin 1024) :
    @Eq EReal (iblk m c 0 t (ix2 k r)) (lhs (aA m c) (t.val / 8 * 128 + r.val) (1024 * (t.val % 8) + k.val)) := by
  refine at2_idx (aA m c) _ ?_ ?_ <;> blk_simp [idx0 t] <;> have := lt8 t <;> omega

theorem blk1 (t : Fin cfg0.N) (k : Fin 1024) (l : Fin 1024) :
    @Eq EReal (iblk m c 1 t (ix2 k l)) (rhs (aB m c) l.val (1024 * (t.val % 8) + k.val)) := by
  refine at2_idx (aB m c) _ ?_ ?_ <;> blk_simp [idx1 t] <;> have := lt8 t <;> omega

theorem first_at (x : Vec Ideal S1024x128 .bf16) (y : Vec Ideal S1024x1024 .bf16) (r : Fin 128) (l : Fin 1024) (f g : Fin 1024 → EReal)
    (hx : ∀ k, @Eq EReal (x (ix2 k r)) (f k)) (hy : ∀ k, @Eq EReal (y (ix2 k l)) (g k)) :
    @Eq EReal (k0_pay2 x y (ix2 r l)) (∑ k : Fin 1024, f k * g k) := by
  simp only [← hx, ← hy]
  pointwise [k0_pay2, k0_pay1]

theorem next_at (x : Vec Ideal S1024x128 .bf16) (y : Vec Ideal S1024x1024 .bf16) (a : Vec Ideal S128x1024 .f32) (r : Fin 128) (l : Fin 1024) (f g : Fin 1024 → EReal)
    (hx : ∀ k, @Eq EReal (x (ix2 k r)) (f k)) (hy : ∀ k, @Eq EReal (y (ix2 k l)) (g k)) :
    @Eq EReal (k0_pay3 x y a (ix2 r l)) (a (ix2 r l) + ∑ k : Fin 1024, f k * g k) := by
  simp only [← hx, ← hy]
  pointwise [k0_pay3, k0_pay1]

theorem out_at (t : Fin cfg0.N) (h : t.val % 8 = 7) (r : Fin 128) (l : Fin 1024) :
    @Eq EReal ((outsAt0 m c t.val t.isLt).1 (ix2 r l)) (prod (1024 * 8) (lhs (aA m c)) (rhs (aB m c)) (t.val / 8 * 128 + r.val) l.val) := by
  have e : (outsAt0 m c t.val t.isLt).1 = (outsAt0 m c t.val t.isLt).2 := by
    rw [outsAt0_C m c t (by omega) (by omega) h]
    frame_out
  rw [e]
  refine fold_prod 1024 (fun n h => (outsAt0 m c n h).2) (lhs (aA m c)) (rhs (aB m c)) (· * 128) (fun t h r l => ?_) (fun t h r l => ?_) t (by omega) r l
  · have := lt8 t
    rw [outsAt0_A m c t h (by omega) (by omega)]
    frame_out
    exact first_at _ _ r l _ _ (blk0 m c t r) fun k => blk1 m c t k l
  · have e (x) := (next_at _ _ x r l _ _ (blk0 m c t r) fun k => blk1 m c t k l)
    by_cases h3 : t.val % 8 = 7
    · rw [outsAt0_C m c t h (by omega) h3]
      frame_out
      exact (e _).trans (congrArg (· + _) (congrFun ((Memref.isWhole_whole _).read_unread _) _))
    · rw [outsAt0_B m c t h (by omega) h3]
      frame_out
      exact (e _).trans (congrArg (· + _) (congrFun ((Memref.isWhole_whole _).read_unread _) _))

theorem arr : (dats m 0 c).arrAt 2 cfg0.N = res (aA m c) (aB m c) := by
  refine (dats m 0 c).arrAt_eq_of_covers 2 _ (by decide +kernel) fun t hf y => ?_
  have h := (flush0_2 t).mp hf
  blk_simp
  rw [after0_2]
  have hy : (y : (⟨2, ![128, 1024]⟩ : Shape).Idx) = ix2 (y 0) (y 1) := eq_ix2 (n0 := 128) (n1 := 1024) y
  refine Eq.trans ?_ ((out_at m c t h (y 0) (y 1)).trans ?_)
  · rw [hy]; rfl
  · refine congrArg₂ (prod (1024 * 8) _ _) ?_ ?_ <;> blk_simp [idx2 t]
    have := lt8 t
    omega

theorem values : Cert.algebraic_GateGradWIdeal_GateGradWRefIdeal (hGateGradWIdeal := Cert.GateGradWIdeal.Gen.facts) (hGateGradWRefIdeal := Cert.GateGradWRefIdeal.Gen.facts) := by
  intro m g m' g' _ ha
  refine ⟨fun c => res (aA m c) (aB m c),
    (θ_run defs _ _).mono (fun r h c => ⟨(h c).1.trans ((Cert.GateGradWIdeal.Value.final2 m c).symm.trans (arr m c)), (h c).2⟩) (Cert.GateGradWIdeal.Value.run (F := Ideal) m g), ?_⟩
  refine (θ_run Cert.GateGradWRefIdeal.defs _ _).mono (fun r h c => ⟨(h c).1.trans ?_, (h c).2⟩) (Cert.GateGradWRefIdeal.Value.run (F := Ideal) m' g')
  obtain ⟨e0, e1⟩ := ha c
  refine Eq.trans ?_ (congrArg₂ res e0 e1)
  refine funext fun i => ?_
  rw [eq_ix2 (n0 := 128) (n1 := 1024) i]
  refine Eq.trans ?_ (prod_tn _ _ (i 0) (i 1))
  pointwise

theorem frame_ref : Cert.quiescent_GateGradWRefIdeal (hGateGradWRefIdeal := Cert.GateGradWRefIdeal.Gen.facts) := fun m ρ _ =>
  (θ_run Cert.GateGradWRefIdeal.defs _ _).mono (fun r h => ⟨fun c => (h c).2, sem_eq_zero_of_no_sems (by decide) r.2⟩)
    (Cert.GateGradWRefIdeal.Value.run (F := Ideal) m ρ)

end Cert.Proof.GateGradW

end
-- ==== Proof.MergeVal.lean ====
/-
  The merge of the two branches by their sigmoid gates, tile by tile.
-/
module

public import proofs.«01_k».proof.Proof.Gate
public import proofs.«01_k».proof.Proof.Gen.Merge.Frame
public import proofs.«01_k».proof.Proof.Gen.MergeIdeal.Value
public import proofs.«01_k».proof.Proof.Gen.MergeRefIdeal.Run
public import proofs.«01_k».proof.Defs

@[expose] public section

set_option maxRecDepth 16384

noncomputable section

namespace Cert.Proof.Merge

open Cert.MergeIdeal Cert.MergeIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 2, 5 + t.val % 2] := (by decide +kernel : ∀ t : Fin grid0.N, _)
theorem idx1 : ∀ t : Fin cfg0.N, win0_1.index t = ![t.val / 2, 7 + t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)

/-- Entry `(i, j)`: each branch's entry times the sigmoid of its gate's, the gates' columns being the last two thousand and forty eight of `Z`. -/
abbrev entry (Z : S8192x4608.Idx → EReal) (A B : S8192x1024.Idx → EReal) (i j : ℕ) : EReal :=
  gate (at2 Z i (2560 + j)) * at2 A i j + gate (at2 Z i (3584 + j)) * at2 B i j
/-- The merged branches. -/
def res (Z : S8192x4608.Idx → EReal) (A B : S8192x1024.Idx → EReal) : S8192x1024.Idx → EReal := mat (entry Z A B)

variable (m : (ℓ : Loc nD τ sig) → Buf (Elt Ideal) ℓ) (c : Dev nD)

abbrev aZ : S8192x4608.Idx → EReal := m ((c : Thread nD τ).loc main_arg0)
abbrev aA : S8192x1024.Idx → EReal := m ((c : Thread nD τ).loc main_arg1)
abbrev aB : S8192x1024.Idx → EReal := m ((c : Thread nD τ).loc main_arg2)

theorem blk0 (t : Fin cfg0.N) (r l : Fin 512) : @Eq EReal (iblk m c 0 t (ix2 r l)) (at2 (aZ m c) (t.val / 2 * 512 + r.val) (2560 + (t.val % 2 * 512 + l.val))) := by
  refine at2_idx (aZ m c) _ ?_ ?_ <;> blk_simp [idx0 t]
  omega

theorem blk1 (t : Fin cfg0.N) (r l : Fin 512) : @Eq EReal (iblk m c 1 t (ix2 r l)) (at2 (aZ m c) (t.val / 2 * 512 + r.val) (3584 + (t.val % 2 * 512 + l.val))) := by
  refine at2_idx (aZ m c) _ ?_ ?_ <;> blk_simp [idx1 t]
  omega

theorem blk2 (t : Fin cfg0.N) (r l : Fin 512) : @Eq EReal (iblk m c 2 t (ix2 r l)) (at2 (aA m c) (t.val / 2 * 512 + r.val) (t.val % 2 * 512 + l.val)) := by
  refine at2_idx (aA m c) _ ?_ ?_ <;> blk_simp [idx2 t]

theorem blk3 (t : Fin cfg0.N) (r l : Fin 512) : @Eq EReal (iblk m c 3 t (ix2 r l)) (at2 (aB m c) (t.val / 2 * 512 + r.val) (t.val % 2 * 512 + l.val)) := by
  refine at2_idx (aB m c) _ ?_ ?_ <;> blk_simp [idx3 t]

theorem out_at (t : Fin cfg0.N) (r l : Fin 512) :
    @Eq EReal (out0_4 (iblk m c 0 t) (iblk m c 1 t) (iblk m c 2 t) (iblk m c 3 t) (ix2 r l))
      (entry (aZ m c) (aA m c) (aB m c) (t.val / 2 * 512 + r.val) (t.val % 2 * 512 + l.val)) := by
  show _ = gate _ * _ + gate _ * _
  rw [← blk0 m c t r l, ← blk1 m c t r l, ← blk2 m c t r l, ← blk3 m c t r l]
  generalize iblk m c 0 t = x
  generalize iblk m c 1 t = y
  generalize iblk m c 2 t = z
  generalize iblk m c 3 t = w
  unfold out0_4
  frame_out
  pointwise [k0_pay1]
  rw [gate_sub, gate_sub]

theorem arr : (dats m 0 c).arrAt 4 cfg0.N = res (aZ m c) (aA m c) (aB m c) := by
  refine (dats m 0 c).arrAt_eq_of_covers 4 _ (by decide +kernel) fun t hf y => ?_
  blk_simp
  rw [after0_4]
  have hy : (y : (⟨2, ![512, 512]⟩ : Shape).Idx) = ix2 (y 0) (y 1) := eq_ix2 (n0 := 512) (n1 := 512) y
  refine Eq.trans ?_ ((out_at m c t (y 0) (y 1)).trans ?_)
  · rw [hy]; rfl
  · refine congrArg₂ (entry _ _ _) ?_ ?_ <;> blk_simp [idx4 t]

theorem values : Cert.algebraic_MergeIdeal_MergeRefIdeal (hMergeIdeal := Cert.MergeIdeal.Gen.facts) (hMergeRefIdeal := Cert.MergeRefIdeal.Gen.facts) := by
  intro m g m' g' _ ha
  refine ⟨fun c => res (aZ m c) (aA m c) (aB m c),
    (θ_run defs _ _).mono (fun r h c => ⟨(h c).1.trans (arr m c), (h c).2⟩) (Cert.MergeIdeal.Value.run_blocks (F := Ideal) m g), ?_⟩
  refine (θ_run Cert.MergeRefIdeal.defs _ _).mono (fun r h c => ⟨(h c).1.trans ?_, (h c).2⟩) (Cert.MergeRefIdeal.Value.run (F := Ideal) m' g')
  obtain ⟨e0, e1, e2⟩ := ha c
  refine Eq.trans ?_ (congr (congrArg₂ res e0 e1) e2)
  refine funext fun i => ?_
  rw [eq_ix2 (n0 := 8192) (n1 := 1024) i]
  show _ = gate _ * _ + gate _ * _
  pointwise
  exact congrArg₂ (· + ·)
    (congrArg₂ (· * ·) (congrArg gate (at2_idx (m' (c.tc.loc Cert.MergeRefIdeal.main_arg0)) _ rfl rfl)) (at2_idx (m' (c.tc.loc Cert.MergeRefIdeal.main_arg1)) i rfl rfl))
    (congrArg₂ (· * ·) (congrArg gate (at2_idx (m' (c.tc.loc Cert.MergeRefIdeal.main_arg0)) _ rfl rfl)) (at2_idx (m' (c.tc.loc Cert.MergeRefIdeal.main_arg2)) i rfl rfl))

theorem frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

end Cert.Proof.Merge

end
-- ==== Proof.MergeGradVal.lean ====
/-
  The merge's gradients in the two branches and in the two gates, tile by tile.
-/
module

public import proofs.«01_k».proof.Proof.Gate
public import proofs.«01_k».proof.Proof.Gen.MergeGrad.Frame
public import proofs.«01_k».proof.Proof.Gen.MergeGradIdeal.Value
public import proofs.«01_k».proof.Proof.Gen.MergeGradRefIdeal.Run
public import proofs.«01_k».proof.Defs

@[expose] public section

set_option maxRecDepth 16384

noncomputable section

namespace Cert.Proof.MergeGrad

open Cert.MergeGradIdeal Cert.MergeGradIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val / 2, t.val % 2] := (by decide +kernel : ∀ t : Fin grid0.N, _)
theorem idx1 : ∀ t : Fin cfg0.N, win0_1.index t = ![t.val / 2, 5 + t.val % 2] := (by decide +kernel : ∀ t : Fin grid0.N, _)
theorem idx2 : ∀ t : Fin cfg0.N, win0_2.index t = ![t.val / 2, 7 + t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)
theorem idx6 : ∀ t : Fin cfg0.N, win0_6.index t = ![t.val / 2, t.val % 2] := (by decide +kernel : ∀ t : Fin grid0.N, _)
theorem idx7 : ∀ t : Fin cfg0.N, win0_7.index t = ![t.val / 2, t.val % 2] := (by decide +kernel : ∀ t : Fin grid0.N, _)
theorem idx8 : ∀ t : Fin cfg0.N, win0_8.index t = ![t.val / 2, t.val % 2] := (by decide +kernel : ∀ t : Fin grid0.N, _)

/-- A branch's gradient: the cotangent's entry times the sigmoid of the branch's gate, whose columns start at `o`. -/
abbrev dy (o : ℕ) (D : S8192x1024.Idx → EReal) (Z : S8192x4608.Idx → EReal) (i j : ℕ) : EReal := at2 D i j * gate (at2 Z i (o + j))
/-- A gate's gradient: the cotangent's entry times the branch's, times the sigmoid's derivative. -/
abbrev dz (o : ℕ) (D : S8192x1024.Idx → EReal) (Z : S8192x4608.Idx → EReal) (Y : S8192x1024.Idx → EReal) (i j : ℕ) : EReal :=
  at2 D i j * at2 Y i j * gate (at2 Z i (o + j)) * (1 - gate (at2 Z i (o + j)))
/-- The gate's gradient as an array. -/
def gates (o : ℕ) (D : S8192x1024.Idx → EReal) (Z : S8192x4608.Idx → EReal) (Y : S8192x1024.Idx → EReal) : S8192x1024.Idx → EReal := mat (dz o D Z Y)

variable (m : (ℓ : Loc nD τ sig) → Buf (Elt Ideal) ℓ) (c : Dev nD)

abbrev aD : S8192x1024.Idx → EReal := m ((c : Thread nD τ).loc main_arg0)
abbrev aZ : S8192x4608.Idx → EReal := m ((c : Thread nD τ).loc main_arg1)
abbrev aA : S8192x1024.Idx → EReal := m ((c : Thread nD τ).loc main_arg2)
abbrev aB : S8192x1024.Idx → EReal := m ((c : Thread nD τ).loc main_arg3)

theorem blk0 (t : Fin cfg0.N) (r l : Fin 512) : @Eq EReal (iblk m c 0 t (ix2 r l)) (at2 (aD m c) (t.val / 2 * 512 + r.val) (t.val % 2 * 512 + l.val)) := by
  refine at2_idx (aD m c) _ ?_ ?_ <;> blk_simp [idx0 t]

theorem blk1 (t : Fin cfg0.N) (r l : Fin 512) : @Eq EReal (iblk m c 1 t (ix2 r l)) (at2 (aZ m c) (t.val / 2 * 512 + r.val) (2560 + (t.val % 2 * 512 + l.val))) := by
  refine at2_idx (aZ m c) _ ?_ ?_ <;> blk_simp [idx1 t]
  omega

theorem blk2 (t : Fin cfg0.N) (r l : Fin 512) : @Eq EReal (iblk m c 2 t (ix2 r l)) (at2 (aZ m c) (t.val / 2 * 512 + r.val) (3584 + (t.val % 2 * 512 + l.val))) := by
  refine at2_idx (aZ m c) _ ?_ ?_ <;> blk_simp [idx2 t]
  omega

theorem blk3 (t : Fin cfg0.N) (r l : Fin 512) : @Eq EReal (iblk m c 3 t (ix2 r l)) (at2 (aA m c) (t.val / 2 * 512 + r.val) (t.val % 2 * 512 + l.val)) := by
  refine at2_idx (aA m c) _ ?_ ?_ <;> blk_simp [idx3 t]

theorem blk4 (t : Fin cfg0.N) (r l : Fin 512) : @Eq EReal (iblk m c 4 t (ix2 r l)) (at2 (aB m c) (t.val / 2 * 512 + r.val) (t.val % 2 * 512 + l.val)) := by
  refine at2_idx (aB m c) _ ?_ ?_ <;> blk_simp [idx4 t]

theorem out5_at (t : Fin cfg0.N) (r l : Fin 512) :
    @Eq EReal (out0_5 (iblk m c 0 t) (iblk m c 1 t) (iblk m c 2 t) (iblk m c 3 t) (iblk m c 4 t) (ix2 r l))
      (dy 2560 (aD m c) (aZ m c) (t.val / 2 * 512 + r.val) (t.val % 2 * 512 + l.val)) := by
  show _ = _ * gate _
  rw [← blk0 m c t r l, ← blk1 m c t r l]
  generalize iblk m c 0 t = x0
  generalize iblk m c 1 t = x1
  generalize iblk m c 2 t = x2
  generalize iblk m c 3 t = x3
  generalize iblk m c 4 t = x4
  unfold out0_5
  frame_out
  pointwise [k0_pay4, k0_pay2]
  rw [gate_sub]

theorem arr5 : (dats m 0 c).arrAt 5 cfg0.N = (mat (dy 2560 (aD m c) (aZ m c)) : S8192x1024.Idx → EReal) := by
  refine (dats m 0 c).arrAt_eq_of_covers 5 _ (by decide +kernel) fun t hf y => ?_
  blk_simp
  rw [after0_5]
  have hy : (y : (⟨2, ![512, 512]⟩ : Shape).Idx) = ix2 (y 0) (y 1) := eq_ix2 (n0 := 512) (n1 := 512) y
  refine Eq.trans ?_ ((out5_at m c t (y 0) (y 1)).trans ?_)
  · rw [hy]; rfl
  · refine congrArg₂ (dy 2560 _ _) ?_ ?_ <;> blk_simp [idx5 t]

theorem out6_at (t : Fin cfg0.N) (r l : Fin 512) :
    @Eq EReal (out0_6 (iblk m c 0 t) (iblk m c 1 t) (iblk m c 2 t) (iblk m c 3 t) (iblk m c 4 t) (ix2 r l))
      (dy 3584 (aD m c) (aZ m c) (t.val / 2 * 512 + r.val) (t.val % 2 * 512 + l.val)) := by
  show _ = _ * gate _
  rw [← blk0 m c t r l, ← blk2 m c t r l]
  generalize iblk m c 0 t = x0
  generalize iblk m c 1 t = x1
  generalize iblk m c 2 t = x2
  generalize iblk m c 3 t = x3
  generalize iblk m c 4 t = x4
  unfold out0_6
  frame_out
  pointwise [k0_pay5, k0_pay3]
  rw [gate_sub]

theorem arr6 : (dats m 0 c).arrAt 6 cfg0.N = (mat (dy 3584 (aD m c) (aZ m c)) : S8192x1024.Idx → EReal) := by
  refine (dats m 0 c).arrAt_eq_of_covers 6 _ (by decide +kernel) fun t hf y => ?_
  blk_simp
  rw [after0_6]
  have hy : (y : (⟨2, ![512, 512]⟩ : Shape).Idx) = ix2 (y 0) (y 1) := eq_ix2 (n0 := 512) (n1 := 512) y
  refine Eq.trans ?_ ((out6_at m c t (y 0) (y 1)).trans ?_)
  · rw [hy]; rfl
  · refine congrArg₂ (dy 3584 _ _) ?_ ?_ <;> blk_simp [idx6 t]

theorem out7_at (t : Fin cfg0.N) (r l : Fin 512) :
    @Eq EReal (out0_7 (iblk m c 0 t) (iblk m c 1 t) (iblk m c 2 t) (iblk m c 3 t) (iblk m c 4 t) (ix2 r l))
      (dz 2560 (aD m c) (aZ m c) (aA m c) (t.val / 2 * 512 + r.val) (t.val % 2 * 512 + l.val)) := by
  show _ = _ * _ * gate _ * (1 - gate _)
  rw [← blk0 m c t r l, ← blk1 m c t r l, ← blk3 m c t r l]
  generalize iblk m c 0 t = x0
  generalize iblk m c 1 t = x1
  generalize iblk m c 2 t = x2
  generalize iblk m c 3 t = x3
  generalize iblk m c 4 t = x4
  unfold out0_7
  frame_out
  pointwise [k0_pay6, k0_pay2]
  rw [gate_sub]

theorem arr7 : (dats m 0 c).arrAt 7 cfg0.N = gates 2560 (aD m c) (aZ m c) (aA m c) := by
  refine (dats m 0 c).arrAt_eq_of_covers 7 _ (by decide +kernel) fun t hf y => ?_
  blk_simp
  rw [after0_7]
  have hy : (y : (⟨2, ![512, 512]⟩ : Shape).Idx) = ix2 (y 0) (y 1) := eq_ix2 (n0 := 512) (n1 := 512) y
  refine Eq.trans ?_ ((out7_at m c t (y 0) (y 1)).trans ?_)
  · rw [hy]; rfl
  · refine congrArg₂ (dz 2560 _ _ _) ?_ ?_ <;> blk_simp [idx7 t]

theorem out8_at (t : Fin cfg0.N) (r l : Fin 512) :
    @Eq EReal (out0_8 (iblk m c 0 t) (iblk m c 1 t) (iblk m c 2 t) (iblk m c 3 t) (iblk m c 4 t) (ix2 r l))
      (dz 3584 (aD m c) (aZ m c) (aB m c) (t.val / 2 * 512 + r.val) (t.val % 2 * 512 + l.val)) := by
  show _ = _ * _ * gate _ * (1 - gate _)
  rw [← blk0 m c t r l, ← blk2 m c t r l, ← blk4 m c t r l]
  generalize iblk m c 0 t = x0
  generalize iblk m c 1 t = x1
  generalize iblk m c 2 t = x2
  generalize iblk m c 3 t = x3
  generalize iblk m c 4 t = x4
  unfold out0_8
  frame_out
  pointwise [k0_pay1, k0_pay3]
  rw [gate_sub]

theorem arr8 : (dats m 0 c).arrAt 8 cfg0.N = gates 3584 (aD m c) (aZ m c) (aB m c) := by
  refine (dats m 0 c).arrAt_eq_of_covers 8 _ (by decide +kernel) fun t hf y => ?_
  blk_simp
  rw [after0_8]
  have hy : (y : (⟨2, ![512, 512]⟩ : Shape).Idx) = ix2 (y 0) (y 1) := eq_ix2 (n0 := 512) (n1 := 512) y
  refine Eq.trans ?_ ((out8_at m c t (y 0) (y 1)).trans ?_)
  · rw [hy]; rfl
  · refine congrArg₂ (dz 3584 _ _ _) ?_ ?_ <;> blk_simp [idx8 t]

theorem values : Cert.algebraic_MergeGradIdeal_MergeGradRefIdeal (hMergeGradIdeal := Cert.MergeGradIdeal.Gen.facts) (hMergeGradRefIdeal := Cert.MergeGradRefIdeal.Gen.facts) := by
  intro m g m' g' _ ha
  refine ⟨fun c => (mat (dy 2560 (aD m c) (aZ m c)) : S8192x1024.Idx → EReal), fun c => (mat (dy 3584 (aD m c) (aZ m c)) : S8192x1024.Idx → EReal), fun c => gates 2560 (aD m c) (aZ m c) (aA m c), fun c => gates 3584 (aD m c) (aZ m c) (aB m c),
    (θ_run defs _ _).mono (fun r h c => ⟨(h c).1.trans (arr5 m c), (h c).2.1.trans (arr6 m c), (h c).2.2.1.trans (arr7 m c), (h c).2.2.2.1.trans (arr8 m c), (h c).2.2.2.2⟩) (Cert.MergeGradIdeal.Value.run_blocks (F := Ideal) m g), ?_⟩
  refine (θ_run Cert.MergeGradRefIdeal.defs _ _).mono (fun r h c => ⟨(h c).1.trans ?_, (h c).2.1.trans ?_, (h c).2.2.1.trans ?_, (h c).2.2.2.1.trans ?_, (h c).2.2.2.2⟩) (Cert.MergeGradRefIdeal.Value.run (F := Ideal) m' g')
  all_goals obtain ⟨e0, e1, e2, e3⟩ := ha c
  · refine Eq.trans ?_ (congrArg₂ (fun D Z => mat (dy 2560 D Z)) e0 e1)
    refine funext fun i => ?_
    rw [eq_ix2 (n0 := 8192) (n1 := 1024) i]
    show _ = _ * gate _
    pointwise
    exact (mul_comm _ _).trans (congrArg₂ (· * ·) (at2_idx (m' (c.tc.loc Cert.MergeGradRefIdeal.main_arg0)) i rfl rfl) (congrArg gate (at2_idx (m' (c.tc.loc Cert.MergeGradRefIdeal.main_arg1)) _ rfl rfl)))
  · refine Eq.trans ?_ (congrArg₂ (fun D Z => mat (dy 3584 D Z)) e0 e1)
    refine funext fun i => ?_
    rw [eq_ix2 (n0 := 8192) (n1 := 1024) i]
    show _ = _ * gate _
    pointwise
    exact (mul_comm _ _).trans (congrArg₂ (· * ·) (at2_idx (m' (c.tc.loc Cert.MergeGradRefIdeal.main_arg0)) i rfl rfl) (congrArg gate (at2_idx (m' (c.tc.loc Cert.MergeGradRefIdeal.main_arg1)) _ rfl rfl)))
  · refine Eq.trans ?_ (congr (congrArg₂ (gates 2560) e0 e1) e2)
    refine funext fun i => ?_
    rw [eq_ix2 (n0 := 8192) (n1 := 1024) i]
    show _ = _ * _ * gate _ * (1 - gate _)
    pointwise
    refine (mul_assoc _ _ _).symm.trans ?_
    exact congrArg₂ (· * ·)
      (congrArg₂ (· * ·) (congrArg₂ (· * ·) (at2_idx (m' (c.tc.loc Cert.MergeGradRefIdeal.main_arg0)) i rfl rfl) (at2_idx (m' (c.tc.loc Cert.MergeGradRefIdeal.main_arg2)) i rfl rfl)) (congrArg gate (at2_idx (m' (c.tc.loc Cert.MergeGradRefIdeal.main_arg1)) _ rfl rfl)))
      (congrArg (1 - ·) (congrArg gate (at2_idx (m' (c.tc.loc Cert.MergeGradRefIdeal.main_arg1)) _ rfl rfl)))
  · refine Eq.trans ?_ (congr (congrArg₂ (gates 3584) e0 e1) e3)
    refine funext fun i => ?_
    rw [eq_ix2 (n0 := 8192) (n1 := 1024) i]
    show _ = _ * _ * gate _ * (1 - gate _)
    pointwise
    refine (mul_assoc _ _ _).symm.trans ?_
    exact congrArg₂ (· * ·)
      (congrArg₂ (· * ·) (congrArg₂ (· * ·) (at2_idx (m' (c.tc.loc Cert.MergeGradRefIdeal.main_arg0)) i rfl rfl) (at2_idx (m' (c.tc.loc Cert.MergeGradRefIdeal.main_arg3)) i rfl rfl)) (congrArg gate (at2_idx (m' (c.tc.loc Cert.MergeGradRefIdeal.main_arg1)) _ rfl rfl)))
      (congrArg (1 - ·) (congrArg gate (at2_idx (m' (c.tc.loc Cert.MergeGradRefIdeal.main_arg1)) _ rfl rfl)))

theorem frame_ref : Cert.quiescent_MergeGradRefIdeal (hMergeGradRefIdeal := Cert.MergeGradRefIdeal.Gen.facts) := fun m ρ _ =>
  (θ_run Cert.MergeGradRefIdeal.defs _ _).mono (fun r h => ⟨fun c => (h c).2.2.2.2, sem_eq_zero_of_no_sems (by decide) r.2⟩)
    (Cert.MergeGradRefIdeal.Value.run (F := Ideal) m ρ)

end Cert.Proof.MergeGrad

end
-- ==== Proof.BiasGradVal.lean ====
/-
  The input projection's gradient in its bias: the kernel accumulates the columns' sums over sixteen tiles of tokens, the reference sums once over the tokens.
-/
module

public import proofs.«01_k».proof.Proof.Gate
public import proofs.«01_k».proof.Proof.Gen.BiasGrad.Frame
public import proofs.«01_k».proof.Proof.Gen.BiasGradIdeal.Value
public import proofs.«01_k».proof.Proof.Gen.BiasGradRefIdeal.Run
public import proofs.«01_k».proof.Defs

@[expose] public section

set_option maxRecDepth 16384

noncomputable section

namespace Cert.Proof.BiasGrad

open Cert.BiasGradIdeal Cert.BiasGradIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val % 16, t.val / 16] := (by decide +kernel : ∀ t : Fin grid0.N, _)
theorem idx1 : ∀ t : Fin cfg0.N, win0_1.index t = ![0, t.val / 16] := (by decide +kernel : ∀ t : Fin grid0.N, _)

/-- Entry `j` is the sum of column `j` over the tokens. -/
def res (A : S8192x4608.Idx → EReal) : S1x4608.Idx → EReal := mat fun _ j => ∑ k ∈ Finset.range (512 * 16), at2 A k j

variable (m : (ℓ : Loc nD τ sig) → Buf (Elt Ideal) ℓ) (c : Dev nD)

abbrev aA : S8192x4608.Idx → EReal := m ((c : Thread nD τ).loc main_arg0)

theorem blk0 (t : Fin cfg0.N) (k : Fin 512) (l : Fin 1536) :
    @Eq EReal (iblk m c 0 t (ix2 k l)) (at2 (aA m c) (512 * (t.val % 16) + k.val) (t.val / 16 * 1536 + l.val)) := by
  refine at2_idx (aA m c) _ ?_ ?_ <;> blk_simp [idx0 t]
  omega

theorem next_at (a : Vec Ideal S1x1536 .f32) (x : Vec Ideal S512x1536 .bf16) (r : Fin 1) (l : Fin 1536) (f : Fin 512 → EReal)
    (hx : ∀ k, @Eq EReal (x (ix2 k l)) (f k)) : @Eq EReal (k0_pay2 a x (ix2 r l)) (a (ix2 r l) + ∑ k : Fin 512, f k) := by
  simp only [← hx]
  pointwise [k0_pay2]

theorem first_at (x : Vec Ideal S512x1536 .bf16) (r : Fin 1) (l : Fin 1536) (f : Fin 512 → EReal)
    (hx : ∀ k, @Eq EReal (x (ix2 k l)) (f k)) : @Eq EReal (k0_pay2 (k0_pay1 (F := Ideal)) x (ix2 r l)) (0 + ∑ k : Fin 512, f k) := by
  refine (next_at _ x r l f hx).trans (congrArg (· + _) ?_)
  pointwise [k0_pay1]

theorem out_at (t : Fin cfg0.N) (h : t.val % 16 + 1 = 16) (r : Fin 1) (l : Fin 1536) :
    @Eq EReal (outsAt0 m c t.val t.isLt (ix2 r l)) (∑ k ∈ Finset.range (512 * 16), at2 (aA m c) k (t.val / 16 * 1536 + l.val)) := by
  have e := Pipeline.eq_sum_of_reset_step_apply_divmod (fun n h => (outsAt0 m c n h : S1x1536.Idx → EReal)) 16 (fun _ => (0 : EReal))
    (fun q s i => ∑ k : Fin 512, at2 (aA m c) (512 * s + k.val) (q * 1536 + (i 1).val))
    (fun t h i => ?_) (fun t h i => ?_) t (ix2 r l)
  · rw [h, zero_add] at e
    exact e.trans (sum_tiles (fun k => at2 (aA m c) k (t.val / 16 * 1536 + l.val)) 512 16)
  · rw [eq_ix2 (n0 := 1) (n1 := 1536) i]
    refine (congrFun (outsAt0_A m c t h) _).trans ?_
    rw [Value.out_A_1_eq]
    exact first_at _ (i 0) (i 1) _ fun k => blk0 m c t k (i 1)
  · rw [eq_ix2 (n0 := 1) (n1 := 1536) i]
    refine (congrFun (outsAt0_B m c t h) _).trans ?_
    rw [Value.out_B_1_eq]
    exact next_at _ _ (i 0) (i 1) _ fun k => blk0 m c t k (i 1)

theorem arr : (dats m 0 c).arrAt 1 cfg0.N = res (aA m c) := by
  refine (dats m 0 c).arrAt_eq_of_covers 1 _ (by decide +kernel) fun t hf y => ?_
  have h := (flush0_1 t).mp hf
  blk_simp
  rw [after0_1]
  have hy : (y : (⟨2, ![1, 1536]⟩ : Shape).Idx) = ix2 (y 0) (y 1) := eq_ix2 (n0 := 1) (n1 := 1536) y
  refine Eq.trans ?_ ((out_at m c t (by omega) (y 0) (y 1)).trans ?_)
  · rw [hy]; rfl
  · refine congrArg (fun j => ∑ k ∈ Finset.range (512 * 16), at2 (aA m c) k j) ?_
    blk_simp [idx1 t]

theorem values : Cert.algebraic_BiasGradIdeal_BiasGradRefIdeal (hBiasGradIdeal := Cert.BiasGradIdeal.Gen.facts) (hBiasGradRefIdeal := Cert.BiasGradRefIdeal.Gen.facts) := by
  intro m g m' g' _ ha
  refine ⟨fun c => res (aA m c),
    (θ_run defs _ _).mono (fun r h c => ⟨(h c).1.trans (arr m c), (h c).2⟩) (Cert.BiasGradIdeal.Value.run_blocks (F := Ideal) m g), ?_⟩
  refine (θ_run Cert.BiasGradRefIdeal.defs _ _).mono (fun r h c => ⟨(h c).1.trans ?_, (h c).2⟩) (Cert.BiasGradRefIdeal.Value.run (F := Ideal) m' g')
  refine Eq.trans ?_ (congrArg res (ha c))
  refine funext fun i => ?_
  rw [eq_ix2 (n0 := 1) (n1 := 4608) i]
  refine Eq.trans ?_ ((Finset.sum_congr rfl fun k _ => (at2_ix2 (m' (c.tc.loc Cert.BiasGradRefIdeal.main_arg0)) k (i 1)).symm).trans (Finset.sum_range (n := 8192) fun k => at2 (m' (c.tc.loc Cert.BiasGradRefIdeal.main_arg0)) k (i 1).val).symm)
  pointwise

theorem frame_ref : Cert.quiescent_BiasGradRefIdeal (hBiasGradRefIdeal := Cert.BiasGradRefIdeal.Gen.facts) := fun m ρ _ =>
  (θ_run Cert.BiasGradRefIdeal.defs _ _).mono (fun r h => ⟨fun c => (h c).2, sem_eq_zero_of_no_sems (by decide) r.2⟩)
    (Cert.BiasGradRefIdeal.Value.run (F := Ideal) m ρ)

end Cert.Proof.BiasGrad

end
-- ==== Proof.LnRow.lean ====
/-
  The normalisation of a row of one thousand and twenty four extended reals.
-/
module

public import proofs.«01_k».proof.Proof.Gate

@[expose] public section

noncomputable section

namespace Cert.Proof.Ln

open Idealize.ShloMosaic
open scoped BigOperators

/-- A row's mean. -/
def avg (f : ℕ → EReal) : EReal := Ideal.div (∑ k : Fin 1024, f k.val) (Ideal.ofBits FTy.f32 0x44800000#32)
/-- A row less its mean. -/
def cen (f : ℕ → EReal) (j : ℕ) : EReal := f j - avg f
/-- A row's variance, the small constant added. -/
def var (f : ℕ → EReal) : EReal := avg (fun k => cen f k * cen f k) + Ideal.ofBits FTy.f32 0x3727C5AC#32
/-- The reciprocal of the row's standard deviation. -/
def rst (f : ℕ → EReal) : EReal := Ideal.rsqrt (var f)
/-- The normalised row. -/
def hat (f : ℕ → EReal) (j : ℕ) : EReal := cen f j * rst f

/-- An array over the batches at batch `b`, column `j`, zero outside. -/
def atB (A : (⟨3, ![4, 1, 1024]⟩ : Shape).Idx → EReal) (b j : ℕ) : EReal :=
  if h : b < 4 ∧ j < 1024 then A (ix3 ⟨b, h.1⟩ 0 ⟨j, h.2⟩) else 0

theorem atB_ix3 (A : (⟨3, ![4, 1, 1024]⟩ : Shape).Idx → EReal) (b : Fin 4) (u : Fin 1) (j : Fin 1024) : atB A b.val j.val = A (ix3 b u j) := by
  rw [Subsingleton.elim u 0]
  exact dif_pos ⟨b.isLt, j.isLt⟩

theorem atB_idx (A : (⟨3, ![4, 1, 1024]⟩ : Shape).Idx → EReal) (x : (⟨3, ![4, 1, 1024]⟩ : Shape).Idx) {b j : ℕ}
    (hb : (x 0).val = b) (hj : (x 2).val = j) : A x = atB A b j := by
  subst hb hj
  exact (congrArg A (eq_ix3 (n0 := 4) (n1 := 1) (n2 := 1024) x)).trans (atB_ix3 A (x 0) (x 1) (x 2)).symm

end Cert.Proof.Ln

end
-- ==== Proof.LnStage.lean ====
/-
  The reference's normalisation, stage by stage.
-/
module

public import proofs.«01_k».proof.Proof.LnRow
public import proofs.«01_k».proof.Proof.Gen.NormRefIdeal.Run

@[expose] public section

set_option maxRecDepth 16384

noncomputable section

namespace Cert.Proof.Ln.Ref

open Cert.NormRefIdeal Cert.NormRefIdeal.Gen Cert.Proof.Prod
open Idealize.ShloMosaic Idealize.ShloMosaic.TcCoe Idealize.ShloMosaic.StableHlo
open scoped BigOperators

/-- The tokens by batch. -/
def tok (X : FVec Ideal S8192x1024 .f32) : FVec Ideal S4x2048x1024 .f32 := shapeCast _ X shapeCasts_S8192x1024_S4x2048x1024
/-- A number along a token's row. -/
def along (y : FVec Ideal S4x2048x1 .f32) : FVec Ideal S4x2048x1024 .f32 := broadcastInDim S4x2048x1024 ![0, 1, 2] bcast_S4x2048x1_S4x2048x1024_0_1_2 y
/-- A batch's row along its tokens. -/
def over (y : FVec Ideal S4x1x1024 .f32) : FVec Ideal S4x2048x1024 .f32 := broadcastInDim S4x2048x1024 ![0, 1, 2] bcast_S4x1x1024_S4x2048x1024_0_1_2 y
/-- The sums of the rows. -/
def sumT (x : FVec Ideal S4x2048x1024 .f32) : FVec Ideal S4x2048 .f32 := Host.reduceAdd x (constant S_ .f32 0x00000000#32) reducesTo_S4x2048x1024_S4x2048_d2 h_S_
def avgT (x : FVec Ideal S4x2048x1024 .f32) : FVec Ideal S4x2048x1 .f32 :=
  Host.divf (broadcastInDim S4x2048x1 ![0, 1] bcast_S4x2048_S4x2048x1_0_1 (sumT x)) (broadcastInDim S4x2048x1 ![] bcast_S_S4x2048x1 (constant S_ .f32 0x44800000#32))
def cenT (x : FVec Ideal S4x2048x1024 .f32) : FVec Ideal S4x2048x1024 .f32 := subf x (along (avgT x))
def varT (x : FVec Ideal S4x2048x1024 .f32) : FVec Ideal S4x2048x1 .f32 :=
  addf (avgT (mulf (cenT x) (cenT x))) (broadcastInDim S4x2048x1 ![] bcast_S_S4x2048x1 (constant S_ .f32 0x3727C5AC#32))
def rstT (x : FVec Ideal S4x2048x1024 .f32) : FVec Ideal S4x2048x1 .f32 := Host.rsqrt (varT x)
def hatT (x : FVec Ideal S4x2048x1024 .f32) : FVec Ideal S4x2048x1024 .f32 := mulf (cenT x) (along (rstT x))
/-- One and the scale. -/
def oneT (C : FVec Ideal S4x1x1024 .f32) : FVec Ideal S4x1x1024 .f32 := addf (broadcastInDim S4x1x1024 ![] bcast_S_S4x1x1024 (constant S_ .f32 0x3F800000#32)) C

variable {x : FVec Ideal S4x2048x1024 .f32} (b : Fin 4) (s : Fin 2048) (j : Fin 1024) {f : ℕ → EReal}

theorem sumT_at (hx : ∀ k : Fin 1024, @Eq EReal (x (ix3 b s k)) (f k.val)) : @Eq EReal (sumT x (ix2 b s)) (∑ k : Fin 1024, f k.val) := by
  simp only [← hx]
  pointwise [sumT]
theorem avgT_at (hx : ∀ k : Fin 1024, @Eq EReal (x (ix3 b s k)) (f k.val)) : @Eq EReal (avgT x (ix3 b s 0)) (avg f) := by
  unfold avg
  rw [← sumT_at b s hx]
  pointwise [avgT]
theorem cenT_at (hx : ∀ k : Fin 1024, @Eq EReal (x (ix3 b s k)) (f k.val)) : @Eq EReal (cenT x (ix3 b s j)) (cen f j.val) := by
  unfold cen
  rw [← avgT_at b s hx, ← hx j]
  pointwise [cenT, along]
theorem varT_at (hx : ∀ k : Fin 1024, @Eq EReal (x (ix3 b s k)) (f k.val)) : @Eq EReal (varT x (ix3 b s 0)) (var f) := by
  unfold var
  rw [← avgT_at (x := mulf (cenT x) (cenT x)) b s fun k => congrArg₂ (· * ·) (cenT_at b s k hx) (cenT_at b s k hx)]
  pointwise [varT]
theorem rstT_at (hx : ∀ k : Fin 1024, @Eq EReal (x (ix3 b s k)) (f k.val)) : @Eq EReal (rstT x (ix3 b s 0)) (rst f) := by
  unfold rst
  rw [← varT_at b s hx]
  pointwise [rstT]
theorem hatT_at (hx : ∀ k : Fin 1024, @Eq EReal (x (ix3 b s k)) (f k.val)) : @Eq EReal (hatT x (ix3 b s j)) (hat f j.val) := by
  unfold hat
  rw [← rstT_at b s hx, ← cenT_at b s j hx]
  pointwise [hatT, along]
theorem over_at (y : FVec Ideal S4x1x1024 .f32) : @Eq EReal (over y (ix3 b s j)) (y (ix3 b 0 j)) := by pointwise [over]
theorem oneT_at (C : FVec Ideal S4x1x1024 .f32) : @Eq EReal (oneT C (ix3 b 0 j)) (1 + atB C b.val j.val) := by
  rw [atB_ix3 C b 0 j]
  pointwise [oneT]
theorem tok_at (X : FVec Ideal S8192x1024 .f32) : @Eq EReal (tok X (ix3 b s j)) (at2 X (b.val * 2048 + s.val) j.val) := by
  refine Eq.trans ?_ (at2_ix2 X (⟨b.val * 2048 + s.val, by omega⟩ : Fin 8192) j).symm
  pointwise [tok]

end Cert.Proof.Ln.Ref

end
-- ==== Proof.NormVal.lean ====
/-
  The modulated normalisation of the tokens, tile by tile: the same operations on both sides, row by row.
-/
module

public import proofs.«01_k».proof.Proof.LnStage
public import proofs.«01_k».proof.Proof.Gen.Norm.Frame
public import proofs.«01_k».proof.Proof.Gen.NormIdeal.Value
public import proofs.«01_k».proof.Proof.Gen.NormRefIdeal.Run
public import proofs.«01_k».proof.Defs

@[expose] public section

set_option maxRecDepth 16384

noncomputable section

namespace Cert.Proof.Norm

open Cert.NormIdeal Cert.NormIdeal.Gen Cert.Proof.Prod
open Idealize.ShloMosaic Idealize.ShloMosaic.TcCoe Idealize.ShloMosaic.StableHlo
open Idealize.SL.Sem
open scoped BigOperators

open Cert.Proof.Ln

theorem idx0 : ∀ t : Fin cfg0.N, win0_0.index t = ![t.val, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val, 0] := (by decide +kernel : ∀ t : Fin grid0.N, _)

/-- Entry `(i, j)`: the normalised row times one and its batch's scale, and its batch's shift. -/
abbrev entry (X : S8192x1024.Idx → EReal) (sh sc : S4x1x1024.Idx → EReal) (i j : ℕ) : EReal :=
  hat (at2 X i) j * (1 + atB sc (i / 2048) j) + atB sh (i / 2048) j
/-- The normalised and modulated tokens. -/
def res (X : S8192x1024.Idx → EReal) (sh sc : S4x1x1024.Idx → EReal) : S8192x1024.Idx → EReal := mat (entry X sh sc)

variable (m : (ℓ : Loc nD τ sig) → Buf (Elt Ideal) ℓ) (c : Dev nD)

abbrev aX : S8192x1024.Idx → EReal := m ((c : Thread nD τ).loc main_arg0)
abbrev aH : S4x1x1024.Idx → EReal := m ((c : Thread nD τ).loc main_arg1)
abbrev aC : S4x1x1024.Idx → EReal := m ((c : Thread nD τ).loc main_arg2)

theorem blk0 (t : Fin cfg0.N) (r : Fin 512) (l : Fin 1024) : @Eq EReal (iblk m c 0 t (ix2 r l)) (at2 (aX m c) (t.val * 512 + r.val) l.val) := by
  refine at2_idx (aX m c) _ ?_ ?_ <;> blk_simp [idx0 t]

theorem blk1 (t : Fin cfg0.N) (l : Fin 1024) : @Eq EReal (iblk m c 1 t (ix3 0 0 l)) (atB (aH m c) (t.val / 4) l.val) := by
  refine atB_idx (aH m c) _ ?_ ?_ <;> blk_simp [idx1 t]
  rfl

theorem blk2 (t : Fin cfg0.N) (l : Fin 1024) : @Eq EReal (iblk m c 2 t (ix3 0 0 l)) (atB (aC m c) (t.val / 4) l.val) := by
  refine atB_idx (aC m c) _ ?_ ?_ <;> blk_simp [idx2 t]
  rfl

theorem pay_at (x : Vec Ideal S512x1024 .f32) (u v : Vec Ideal S1x1x1024 .f32) (r : Fin 512) (l : Fin 1024) (f : ℕ → EReal) (hx : ∀ k, @Eq EReal (x (ix2 r k)) (f k.val)) :
    @Eq EReal (k0_pay1 x u v (ix2 r l)) (hat f l.val * (1 + u (ix3 0 0 l)) + v (ix3 0 0 l)) := by
  unfold hat rst var cen avg
  simp only [← hx]
  pointwise [k0_pay1]

theorem out_at (t : Fin cfg0.N) (r : Fin 512) (l : Fin 1024) :
    @Eq EReal (out0_3 (iblk m c 0 t) (iblk m c 1 t) (iblk m c 2 t) (ix2 r l)) (entry (aX m c) (aH m c) (aC m c) (t.val * 512 + r.val) l.val) := by
  have ht : (t.val * 512 + r.val) / 2048 = t.val / 4 := by omega
  show _ = hat _ _ * (1 + atB _ _ _) + atB _ _ _
  rw [ht, ← blk1 m c t l, ← blk2 m c t l]
  have h0 := blk0 m c t r
  revert h0
  generalize iblk m c 0 t = x
  generalize iblk m c 1 t = y
  generalize iblk m c 2 t = z
  intro h0
  unfold out0_3
  frame_out
  exact pay_at x z y r l _ h0

theorem arr : (dats m 0 c).arrAt 3 cfg0.N = res (aX m c) (aH m c) (aC m c) := by
  refine (dats m 0 c).arrAt_eq_of_covers 3 _ (by decide +kernel) fun t hf y => ?_
  blk_simp
  rw [after0_3]
  have hy : (y : (⟨2, ![512, 1024]⟩ : Shape).Idx) = ix2 (y 0) (y 1) := eq_ix2 (n0 := 512) (n1 := 1024) y
  refine Eq.trans ?_ ((out_at m c t (y 0) (y 1)).trans ?_)
  · rw [hy]; rfl
  · refine congrArg₂ (entry _ _ _) ?_ ?_ <;> blk_simp [idx3 t]

/-- The reference's result, by its stages. -/
def outT (X : FVec Ideal S8192x1024 .f32) (H C : FVec Ideal S4x1x1024 .f32) : FVec Ideal S8192x1024 .bf16 :=
  truncf .bf16 (shapeCast _ (addf (mulf (Ref.hatT (Ref.tok X)) (Ref.over (Ref.oneT C))) (Ref.over H)) Cert.NormRefIdeal.Gen.shapeCasts_S4x2048x1024_S8192x1024) Cert.NormRefIdeal.Gen.bitsLt_bf16_f32

theorem outT_at (X : FVec Ideal S8192x1024 .f32) (H C : FVec Ideal S4x1x1024 .f32) (i : Fin 8192) (j : Fin 1024) :
    @Eq EReal (outT X H C (ix2 i j)) (entry X H C i.val j.val) := by
  have hb : i.val / 2048 < 4 := by omega
  have hi : i.val / 2048 * 2048 + i.val % 2048 = i.val := by omega
  have e1 := Ref.hatT_at (x := Ref.tok X) (⟨i.val / 2048, hb⟩ : Fin 4) (⟨i.val % 2048, by omega⟩ : Fin 2048) j fun k => Ref.tok_at _ _ k X
  have e2 := (Ref.over_at (⟨i.val / 2048, hb⟩ : Fin 4) (⟨i.val % 2048, by omega⟩ : Fin 2048) j (Ref.oneT C)).trans (Ref.oneT_at _ j C)
  have e3 := (Ref.over_at (⟨i.val / 2048, hb⟩ : Fin 4) (⟨i.val % 2048, by omega⟩ : Fin 2048) j H).trans (atB_ix3 H (⟨i.val / 2048, hb⟩ : Fin 4) 0 j).symm
  dsimp only at e1 e2 e3
  rw [hi] at e1
  show _ = hat _ _ * (1 + atB _ _ _) + atB _ _ _
  rw [← e1, ← e2, ← e3]
  pointwise [outT]

theorem values : Cert.algebraic_NormIdeal_NormRefIdeal (hNormIdeal := Cert.NormIdeal.Gen.facts) (hNormRefIdeal := Cert.NormRefIdeal.Gen.facts) := by
  intro m g m' g' _ ha
  refine ⟨fun c => res (aX m c) (aH m c) (aC m c),
    (θ_run defs _ _).mono (fun r h c => ⟨(h c).1.trans (arr m c), (h c).2⟩) (Cert.NormIdeal.Value.run_blocks (F := Ideal) m g), ?_⟩
  refine (θ_run Cert.NormRefIdeal.defs _ _).mono (fun r h c => ⟨(h c).1.trans ?_, (h c).2⟩) (Cert.NormRefIdeal.Value.run (F := Ideal) m' g')
  obtain ⟨e0, e1, e2⟩ := ha c
  refine Eq.trans ?_ (congr (congrArg₂ res e0 e1) e2)
  refine funext fun i => ?_
  rw [eq_ix2 (n0 := 8192) (n1 := 1024) i]
  exact outT_at _ _ _ (i 0) (i 1)

theorem frame_ref : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

end Cert.Proof.Norm

end
-- ==== Proof.LnOut.lean ====
/-
  What a tile of the normalisation's gradient leaves in each result's block.
-/
module

public import proofs.«01_k».proof.Proof.LnRow
public import proofs.«01_k».proof.Proof.Gen.NormGradIdeal.Value

@[expose] public section

set_option maxRecDepth 16384

noncomputable section

namespace Cert.Proof.Ln

open Cert.NormGradIdeal Cert.NormGradIdeal.Gen Cert.Proof.Prod
open Idealize.ShloMosaic Idealize.ShloMosaic.TcCoe
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl

theorem one_idx (y : (⟨3, ![1, 1, 1024]⟩ : Shape).Idx) : y = ix3 0 0 (y 2) := by
  have h0 : @Eq (Fin 1) (y 0) 0 := Subsingleton.elim (α := Fin 1) _ _
  have h1 : @Eq (Fin 1) (y 1) 0 := Subsingleton.elim (α := Fin 1) _ _
  exact (eq_ix3 (n0 := 1) (n1 := 1) (n2 := 1024) y).trans (congrArg₂ (fun a b => ix3 a b (y 2)) h0 h1)

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole)
  (x0 x1 : Vec Ideal S512x1024 .f32) (x2 : Vec Ideal S1x1x1024 .f32) (x3 : Vec Ideal S512x1024 .f32) (xo5 xo6 : Vec Ideal S1x1x1024 .f32)

theorem outA4_eq (hc0 : cond0_0 i) : out0_A_4 (F := Ideal) c i arg1 harg1 arg2 harg2 arg3 harg3 arg4 harg4 arg5 harg5 arg6 harg6 arg7 harg7 hc0 x0 x1 x2 x3 = k0_pay9 x0 (k0_pay4 x1) (k0_pay5 x1) x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero z2]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]

theorem outA5_eq (hc0 : cond0_0 i) : out0_A_5 (F := Ideal) c i arg1 harg1 arg2 harg2 arg3 harg3 arg4 harg4 arg5 harg5 arg6 harg6 arg7 harg7 hc0 x0 x1 x2 x3 = k0_pay7 (k0_pay6 x0 x1 (k0_pay1 (F := Ideal))) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]

theorem outA6_eq (hc0 : cond0_0 i) : out0_A_6 (F := Ideal) c i arg1 harg1 arg2 harg2 arg3 harg3 arg4 harg4 arg5 harg5 arg6 harg6 arg7 harg7 hc0 x0 x1 x2 x3 = k0_pay8 x0 (k0_pay2 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]

theorem outB4_eq (hc0 : ¬cond0_0 i) : out0_B_4 (F := Ideal) c i arg1 harg1 arg2 harg2 arg3 harg3 arg4 harg4 arg5 harg5 arg6 harg6 arg7 harg7 hc0 x0 x1 x2 x3 xo5 xo6 = k0_pay9 x0 (k0_pay4 x1) (k0_pay5 x1) x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero z2]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]

theorem outB5_eq (hc0 : ¬cond0_0 i) : out0_B_5 (F := Ideal) c i arg1 harg1 arg2 harg2 arg3 harg3 arg4 harg4 arg5 harg5 arg6 harg6 arg7 harg7 hc0 x0 x1 x2 x3 xo5 xo6 = k0_pay7 (k0_pay6 x0 x1 xo5) := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero z3]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]

theorem outB6_eq (hc0 : ¬cond0_0 i) : out0_B_6 (F := Ideal) c i arg1 harg1 arg2 harg2 arg3 harg3 arg4 harg4 arg5 harg5 arg6 harg6 arg7 harg7 hc0 x0 x1 x2 x3 xo5 xo6 = k0_pay8 x0 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero z3]
  simp only [View.readAt_eq_ld, harg1.read_unread, harg2.read_unread, harg3.read_unread, harg4.read_unread, harg6.read_unread, harg7.read_unread, View.ld_unit_zero (S := S1x1x1024) z3, View.ld_unit_zero (S := S512x1024) z2, shapeCast_self]
end

/-- A row's gradient, as the kernel writes it. -/
def kdx (f d : ℕ → EReal) (j : ℕ) : EReal := rst f * (d j - avg d - hat f j * avg (fun k => d k * hat f k))

section
variable (x y : Vec Ideal S512x1024 .f32) (u a : Vec Ideal S1x1x1024 .f32) (w : Vec Ideal S512x1024 .f32) (r : Fin 512) (l : Fin 1024)

theorem pay4_at (f : ℕ → EReal) (hy : ∀ k : Fin 1024, @Eq EReal (y (ix2 r k)) (f k.val)) : @Eq EReal (k0_pay4 y (ix2 r 0)) (rst f) := by
  unfold rst var cen avg
  simp only [← hy]
  pointwise [k0_pay4, k0_pay3]

theorem pay5_at (f : ℕ → EReal) (hy : ∀ k : Fin 1024, @Eq EReal (y (ix2 r k)) (f k.val)) : @Eq EReal (k0_pay5 y (ix2 r l)) (hat f l.val) := by
  unfold hat
  rw [← pay4_at y r f hy]
  unfold cen avg
  simp only [← hy]
  pointwise [k0_pay5, k0_pay3]

theorem pay9_at (f g : ℕ → EReal) (hy : ∀ k : Fin 1024, @Eq EReal (y (ix2 r k)) (f k.val)) (hx : ∀ k : Fin 1024, @Eq EReal ((x (ix2 r k) : EReal) * (1 + u (ix3 0 0 k))) (g k.val)) :
    @Eq EReal (k0_pay9 x (k0_pay4 y) (k0_pay5 y) u w (ix2 r l)) (kdx f g l.val + w (ix2 r l)) := by
  unfold kdx
  rw [← pay4_at y r f hy]
  unfold avg
  simp only [← hx, ← fun k => pay5_at y r k f hy]
  generalize k0_pay4 y = p
  generalize k0_pay5 y = q
  pointwise [k0_pay9]

theorem pay76_at (h : Fin 512 → EReal) (hx : ∀ k : Fin 512, @Eq EReal ((x (ix2 k l) : EReal) * k0_pay5 y (ix2 k l)) (h k)) :
    @Eq EReal (k0_pay7 (k0_pay6 x y a) (ix3 0 0 l)) (a (ix3 0 0 l) + ∑ k : Fin 512, h k) := by
  simp only [← hx]
  unfold k0_pay6
  dsimp only
  generalize k0_pay5 y = q
  pointwise [k0_pay7]

theorem pay8_at (h : Fin 512 → EReal) (hx : ∀ k : Fin 512, @Eq EReal (x (ix2 k l)) (h k)) :
    @Eq EReal (k0_pay8 x a (ix3 0 0 l)) (a (ix3 0 0 l) + ∑ k : Fin 512, h k) := by
  simp only [← hx]
  pointwise [k0_pay8]

theorem pay1_at : @Eq EReal (k0_pay1 (F := Ideal) (ix3 0 0 l)) 0 := by pointwise [k0_pay1]
theorem pay2_at : @Eq EReal (k0_pay2 (F := Ideal) (ix3 0 0 l)) 0 := by pointwise [k0_pay2]
end

end Cert.Proof.Ln

end
-- ==== Proof.LnReal.lean ====
/-
  The gradient of a normalised row: over reals, the kernel's formula is the one got by differentiating the mean, the variance and the quotient in turn.
-/
module

public import proofs.«01_k».proof.Proof.LnOut
public import proofs.«01_k».proof.Proof.OutVal

@[expose] public section

noncomputable section

namespace Cert.Proof.Ln

open Idealize.ShloMosaic
open scoped BigOperators

/-- The gradient in the variance, spread over the row. -/
def wgt (f d : ℕ → EReal) : EReal :=
  Ideal.div ((∑ k : Fin 1024, cen f k.val * d k.val) * (Ideal.ofBits FTy.f32 0xBF000000#32 * Ideal.div (rst f) (var f))) (Ideal.ofBits FTy.f32 0x44800000#32)
/-- The gradient in the row less its mean. -/
def rdc (f d : ℕ → EReal) (j : ℕ) : EReal := d j * rst f + cen f j * wgt f d + wgt f d * cen f j
/-- A row's gradient, as the reference's derivative writes it. -/
def rdx (f d : ℕ → EReal) (j : ℕ) : EReal := rdc f d j + Ideal.div (∑ k : Fin 1024, -rdc f d k.val) (Ideal.ofBits FTy.f32 0x44800000#32)

theorem n_eq : Ideal.ofBits FTy.f32 0x44800000#32 = ((1024 : ℝ) : EReal) := by
  simp [Ideal.ofBits, Ideal.ieee, -EReal.coe_mul]; norm_num

theorem half_eq : Ideal.ofBits FTy.f32 0xBF000000#32 = ((-(1 / 2) : ℝ) : EReal) := by
  simp [Ideal.ofBits, Ideal.ieee, -EReal.coe_mul, -EReal.coe_neg]; norm_num

/-- The small constant is a positive real. -/
theorem eps_eq : ∃ e : ℝ, 0 < e ∧ Ideal.ofBits FTy.f32 0x3727C5AC#32 = (e : EReal) := by
  refine ⟨10995116 / 2 ^ 40, by norm_num, ?_⟩
  simp [Ideal.ofBits, Ideal.ieee, -EReal.coe_mul]; norm_num

theorem csum' (f : Fin 1024 → ℝ) : (∑ k, ((f k : ℝ) : EReal)) = ((∑ k, f k : ℝ) : EReal) := (Cert.Proof.Attn.csum _ _).symm

theorem div_n (r : ℝ) : Ideal.div (r : EReal) (Ideal.ofBits FTy.f32 0x44800000#32) = ((r * (1 / 1024) : ℝ) : EReal) := by
  rw [n_eq, Ideal.div_coe (by norm_num), ← EReal.coe_mul]

section
variable (f : ℕ → EReal) (x : ℕ → ℝ) (hf : ∀ k, f k = ((x k : ℝ) : EReal))
include hf

theorem avg_real : avg f = (((∑ k : Fin 1024, x k.val) * (1 / 1024) : ℝ) : EReal) := by
  unfold avg
  simp only [hf]
  rw [csum', div_n]

/-- Over a row of reals the row less its mean is a row of reals that sums to zero, and the variance and the deviation's reciprocal are positive reals. -/
theorem row_real : ∃ (c : ℕ → ℝ) (v r : ℝ), (∀ k, cen f k = ((c k : ℝ) : EReal)) ∧ var f = ((v : ℝ) : EReal) ∧ rst f = ((r : ℝ) : EReal) ∧ 0 < v ∧ r * r = 1 / v ∧ ∑ k : Fin 1024, c k.val = 0 := by
  obtain ⟨e, he, hee⟩ := eps_eq
  have hc : ∀ k, cen f k = ((x k - (∑ k : Fin 1024, x k.val) * (1 / 1024) : ℝ) : EReal) := fun k => by
    unfold cen
    rw [avg_real f x hf, hf, ← EReal.coe_sub]
  generalize hcc : (fun k => x k - (∑ k : Fin 1024, x k.val) * (1 / 1024)) = c
  have hc' : ∀ k, cen f k = ((c k : ℝ) : EReal) := fun k => by rw [hc, ← hcc]
  have hv : var f = (((∑ k : Fin 1024, c k.val * c k.val) * (1 / 1024) + e : ℝ) : EReal) := by
    unfold var
    rw [avg_real (fun k => cen f k * cen f k) (fun k => c k * c k) (fun k => by rw [hc', ← EReal.coe_mul]), hee, ← EReal.coe_add]
  have hs : 0 ≤ ∑ k : Fin 1024, c k.val * c k.val := Finset.sum_nonneg fun k _ => mul_self_nonneg _
  generalize hvv : (∑ k : Fin 1024, c k.val * c k.val) * (1 / 1024) + e = v at hv
  have hpos : 0 < v := by rw [← hvv]; positivity
  refine ⟨c, v, (Real.sqrt v)⁻¹, hc', hv, ?_, hpos, ?_, ?_⟩
  · unfold rst
    rw [hv, Ideal.rsqrt_coe, if_neg (not_lt.mpr hpos.le), if_neg hpos.ne']
  · rw [← mul_inv, Real.mul_self_sqrt hpos.le, one_div]
  · rw [← hcc]
    simp only [Finset.sum_sub_distrib, Finset.sum_const, Finset.card_univ, Fintype.card_fin, nsmul_eq_mul]
    push_cast
    ring

theorem kdx_eq (d : ℕ → EReal) (y : ℕ → ℝ) (hd : ∀ k, d k = ((y k : ℝ) : EReal)) (j : ℕ) : kdx f d j = rdx f d j := by
  obtain ⟨c, v, r, hc, hv, hr, hpos, hrr, h0⟩ := row_real f x hf
  have hh : ∀ k, hat f k = ((c k * r : ℝ) : EReal) := fun k => by unfold hat; rw [hc, hr, ← EReal.coe_mul]
  have hk : kdx f d j = ((r * (y j - (∑ k : Fin 1024, y k.val) * (1 / 1024) - c j * r * ((∑ k : Fin 1024, y k.val * (c k.val * r)) * (1 / 1024))) : ℝ) : EReal) := by
    unfold kdx
    rw [avg_real d y hd, avg_real (fun k => d k * hat f k) (fun k => y k * (c k * r)) (fun k => by rw [hd, hh, ← EReal.coe_mul]), hr, hh, hd,
      ← EReal.coe_mul, ← EReal.coe_sub, ← EReal.coe_sub, ← EReal.coe_mul]
  have hw : wgt f d = ((((∑ k : Fin 1024, c k.val * y k.val) * (-(1 / 2) * (r * (1 / v)))) * (1 / 1024) : ℝ) : EReal) := by
    unfold wgt
    simp only [hc, hd, ← EReal.coe_mul]
    rw [csum', hr, hv, Ideal.div_coe hpos.ne', half_eq, ← EReal.coe_mul, ← EReal.coe_mul, ← EReal.coe_mul, div_n]
  generalize hww : ((∑ k : Fin 1024, c k.val * y k.val) * (-(1 / 2) * (r * (1 / v)))) * (1 / 1024) = w at hw
  have he : ∀ k, rdc f d k = ((y k * r + c k * w + w * c k : ℝ) : EReal) := fun k => by
    unfold rdc
    rw [hd, hr, hc, hw, ← EReal.coe_mul, ← EReal.coe_mul, ← EReal.coe_mul, ← EReal.coe_add, ← EReal.coe_add]
  rw [hk]
  unfold rdx
  simp only [he, ← EReal.coe_neg]
  rw [csum', div_n, ← EReal.coe_add]
  refine congrArg _ ?_
  have s1 : ∑ k : Fin 1024, y k.val * (c k.val * r) = (∑ k : Fin 1024, c k.val * y k.val) * r := by
    rw [Finset.sum_mul]
    exact Finset.sum_congr rfl fun k _ => by ring
  have s2 : ∑ k : Fin 1024, -(y k.val * r + c k.val * w + w * c k.val) = -((∑ k : Fin 1024, y k.val) * r) := by
    rw [Finset.sum_neg_distrib, Finset.sum_add_distrib, Finset.sum_add_distrib, ← Finset.sum_mul, ← Finset.sum_mul, ← Finset.mul_sum, h0]
    ring
  rw [s1, s2, ← hww, ← hrr]
  ring
end

end Cert.Proof.Ln

end
-- ==== Proof.NormGradVal.lean ====
/-
  The normalisation's gradient: a row of reals has the same gradient on both sides, and the scale's and the shift's are sums over a batch's tokens, in four tiles or at once.
-/
module

public import proofs.«01_k».proof.Proof.LnReal
public import proofs.«01_k».proof.Proof.LnStage
public import Idealize.ShloMosaic.Lib.ReduceAll
public import proofs.«01_k».proof.Proof.Pre
public import proofs.«01_k».proof.Proof.Gen.NormGrad.Frame
public import proofs.«01_k».proof.Proof.Gen.NormGradIdeal.Value
public import proofs.«01_k».proof.Proof.Gen.NormGradRefIdeal.Run
public import proofs.«01_k».proof.Defs

@[expose] public section

set_option maxRecDepth 16384

noncomputable section

namespace Cert.Proof.NormGrad

open Cert.NormGradIdeal Cert.NormGradIdeal.Gen Cert.Proof.Prod
open Idealize.ShloMosaic Idealize.ShloMosaic.TcCoe Idealize.ShloMosaic.StableHlo
open Idealize.SL.Sem
open scoped BigOperators

open Cert.Proof.Ln

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![t.val / 4, 0, 0] := (by decide +kernel : ∀ t : Fin grid0.N, _)

/-- The gradient in the normalised row `i`. -/
abbrev dh (D : S8192x1024.Idx → EReal) (C : S4x1x1024.Idx → EReal) (i k : ℕ) : EReal := at2 D i k * (1 + atB C (i / 2048) k)
/-- Entry `(i, j)` of the gradient in the tokens, and the residual's. -/
abbrev entX (D X : S8192x1024.Idx → EReal) (C : S4x1x1024.Idx → EReal) (R : S8192x1024.Idx → EReal) (i j : ℕ) : EReal := kdx (at2 X i) (dh D C i) j + at2 R i j
/-- Entry `(b, j)` of the gradient in the scale. -/
abbrev entS (D X : S8192x1024.Idx → EReal) (b j : ℕ) : EReal := ∑ k ∈ Finset.range (512 * 4), at2 D (b * 2048 + k) j * hat (at2 X (b * 2048 + k)) j
/-- Entry `(b, j)` of the gradient in the shift. -/
abbrev entH (D : S8192x1024.Idx → EReal) (b j : ℕ) : EReal := ∑ k ∈ Finset.range (512 * 4), at2 D (b * 2048 + k) j
def resX (D X : S8192x1024.Idx → EReal) (C : S4x1x1024.Idx → EReal) (R : S8192x1024.Idx → EReal) : S8192x1024.Idx → EReal := mat (entX D X C R)
def resS (D X : S8192x1024.Idx → EReal) : S4x1x1024.Idx → EReal := fun y => entS D X (y 0).val (y 2).val
def resH (D : S8192x1024.Idx → EReal) : S4x1x1024.Idx → EReal := fun y => entH D (y 0).val (y 2).val

section Kern
variable (m : (ℓ : Loc nD τ sig) → Buf (Elt Ideal) ℓ) (c : Dev nD)

abbrev aD : S8192x1024.Idx → EReal := m ((c : Thread nD τ).loc main_arg0)
abbrev aX : S8192x1024.Idx → EReal := m ((c : Thread nD τ).loc main_arg1)
abbrev aC : S4x1x1024.Idx → EReal := m ((c : Thread nD τ).loc main_arg2)
abbrev aR : S8192x1024.Idx → EReal := m ((c : Thread nD τ).loc main_arg3)

theorem blk0 (t : Fin cfg0.N) (r : Fin 512) (l : Fin 1024) : @Eq EReal (iblk m c 0 t (ix2 r l)) (at2 (aD m c) (t.val * 512 + r.val) l.val) := by
  refine at2_idx (aD m c) _ ?_ ?_ <;> blk_simp [idx0 t]

theorem blk1 (t : Fin cfg0.N) (r : Fin 512) (l : Fin 1024) : @Eq EReal (iblk m c 1 t (ix2 r l)) (at2 (aX m c) (t.val * 512 + r.val) l.val) := by
  refine at2_idx (aX m c) _ ?_ ?_ <;> blk_simp [idx1 t]

theorem blk2 (t : Fin cfg0.N) (l : Fin 1024) : @Eq EReal (iblk m c 2 t (ix3 0 0 l)) (atB (aC m c) (t.val / 4) l.val) := by
  refine atB_idx (aC m c) _ ?_ ?_ <;> blk_simp [idx2 t]
  rfl

theorem blk3 (t : Fin cfg0.N) (r : Fin 512) (l : Fin 1024) : @Eq EReal (iblk m c 3 t (ix2 r l)) (at2 (aR m c) (t.val * 512 + r.val) l.val) := by
  refine at2_idx (aR m c) _ ?_ ?_ <;> blk_simp [idx3 t]

theorem out4_at (t : Fin cfg0.N) (r : Fin 512) (l : Fin 1024) :
    @Eq EReal ((outsAt0 m c t.val t.isLt).1 (ix2 r l)) (entX (aD m c) (aX m c) (aC m c) (aR m c) (t.val * 512 + r.val) l.val) := by
  have ht : (t.val * 512 + r.val) / 2048 = t.val / 4 := by omega
  have e := pay9_at (iblk m c 0 t) (iblk m c 1 t) (iblk m c 2 t) (iblk m c 3 t) r l (at2 (aX m c) (t.val * 512 + r.val)) (dh (aD m c) (aC m c) (t.val * 512 + r.val))
    (fun k => blk1 m c t r k) (fun k => congrArg₂ (· * ·) (blk0 m c t r k) (congrArg (1 + ·) ((blk2 m c t k).trans (by rw [ht]))))
  rw [blk3 m c t r l] at e
  refine Eq.trans ?_ e
  by_cases h : t.val % 4 = 0
  · rw [outsAt0_A m c t h]
    dsimp only
    rw [outA4_eq]
  · rw [outsAt0_B m c t h]
    dsimp only
    rw [outB4_eq]

theorem hat_at (t : Fin cfg0.N) (k : Fin 512) (l : Fin 1024) :
    @Eq EReal (@HMul.hMul EReal EReal EReal _ (iblk m c 0 t (ix2 k l)) (k0_pay5 (F := Ideal) (iblk m c 1 t) (ix2 k l))) (at2 (aD m c) (t.val * 512 + k.val) l.val * hat (at2 (aX m c) (t.val * 512 + k.val)) l.val) :=
  congrArg₂ (· * ·) (blk0 m c t k l) (pay5_at _ k l _ fun j => blk1 m c t k j)

theorem row_eq (t k : ℕ) : t * 512 + k = t / 4 * 2048 + (512 * (t % 4) + k) := by omega

theorem out5_at (t : Fin cfg0.N) (h : t.val % 4 + 1 = 4) (l : Fin 1024) :
    @Eq EReal ((outsAt0 m c t.val t.isLt).2.1 (ix3 0 0 l)) (entS (aD m c) (aX m c) (t.val / 4) l.val) := by
  have e := Pipeline.eq_sum_of_reset_step_apply_divmod (fun n h (j : Fin 1024) => ((outsAt0 m c n h).2.1 (ix3 0 0 j) : EReal)) 4 (fun _ => (0 : EReal))
    (fun q s j => ∑ k : Fin 512, at2 (aD m c) (q * 2048 + (512 * s + k.val)) j.val * hat (at2 (aX m c) (q * 2048 + (512 * s + k.val))) j.val)
    (fun t h i => ?_) (fun t h i => ?_) t l
  · rw [h, zero_add] at e
    exact e.trans (sum_tiles (fun k => at2 (aD m c) (t.val / 4 * 2048 + k) l.val * hat (at2 (aX m c) (t.val / 4 * 2048 + k)) l.val) 512 4)
  · rw [outsAt0_A m c t h]
    dsimp only
    rw [outA5_eq]
    refine (pay76_at _ _ _ i _ fun k => hat_at m c t k i).trans ?_
    rw [pay1_at]
    simp only [row_eq]
  · rw [outsAt0_B m c t h]
    dsimp only
    rw [outB5_eq]
    refine (pay76_at _ _ _ i _ fun k => hat_at m c t k i).trans ?_
    simp only [row_eq]

theorem out6_at (t : Fin cfg0.N) (h : t.val % 4 + 1 = 4) (l : Fin 1024) :
    @Eq EReal ((outsAt0 m c t.val t.isLt).2.2 (ix3 0 0 l)) (entH (aD m c) (t.val / 4) l.val) := by
  have e := Pipeline.eq_sum_of_reset_step_apply_divmod (fun n h (j : Fin 1024) => ((outsAt0 m c n h).2.2 (ix3 0 0 j) : EReal)) 4 (fun _ => (0 : EReal))
    (fun q s j => ∑ k : Fin 512, at2 (aD m c) (q * 2048 + (512 * s + k.val)) j.val)
    (fun t h i => ?_) (fun t h i => ?_) t l
  · rw [h, zero_add] at e
    exact e.trans (sum_tiles (fun k => at2 (aD m c) (t.val / 4 * 2048 + k) l.val) 512 4)
  · rw [outsAt0_A m c t h]
    dsimp only
    rw [outA6_eq]
    refine (pay8_at _ _ i _ fun k => blk0 m c t k i).trans ?_
    rw [pay2_at]
    simp only [row_eq]
  · rw [outsAt0_B m c t h]
    dsimp only
    rw [outB6_eq]
    refine (pay8_at _ _ i _ fun k => blk0 m c t k i).trans ?_
    simp only [row_eq]

theorem arr4 : (dats m 0 c).arrAt 4 cfg0.N = resX (aD m c) (aX m c) (aC m c) (aR m c) := by
  refine (dats m 0 c).arrAt_eq_of_covers 4 _ (by decide +kernel) fun t hf y => ?_
  blk_simp
  rw [after0_4]
  have hy : (y : (⟨2, ![512, 1024]⟩ : Shape).Idx) = ix2 (y 0) (y 1) := eq_ix2 (n0 := 512) (n1 := 1024) y
  refine Eq.trans ?_ ((out4_at m c t (y 0) (y 1)).trans ?_)
  · rw [hy]; rfl
  · refine congrArg₂ (entX _ _ _ _) ?_ ?_ <;> blk_simp [idx4 t]

theorem arr5 : (dats m 0 c).arrAt 5 cfg0.N = resS (aD m c) (aX m c) := by
  refine (dats m 0 c).arrAt_eq_of_covers 5 _ (by decide +kernel) fun t hf y => ?_
  have h := (flush0_5 t).mp hf
  blk_simp
  rw [after0_5]
  have hy : (y : (⟨3, ![1, 1, 1024]⟩ : Shape).Idx) = ix3 0 0 (y 2) := one_idx y
  refine Eq.trans ?_ ((out5_at m c t (by omega) (y 2)).trans ?_)
  · rw [hy]; rfl
  · refine congrArg₂ (entS _ _) ?_ ?_ <;> blk_simp [idx5 t]

theorem arr6 : (dats m 0 c).arrAt 6 cfg0.N = resH (aD m c) := by
  refine (dats m 0 c).arrAt_eq_of_covers 6 _ (by decide +kernel) fun t hf y => ?_
  have h := (flush0_6 t).mp hf
  blk_simp
  rw [after0_6]
  have hy : (y : (⟨3, ![1, 1, 1024]⟩ : Shape).Idx) = ix3 0 0 (y 2) := one_idx y
  refine Eq.trans ?_ ((out6_at m c t (by omega) (y 2)).trans ?_)
  · rw [hy]; rfl
  · refine congrArg₂ (entH _) ?_ ?_ <;> blk_simp [idx6 t]
end Kern

/-! ## The precondition -/

/-- The side conditions of the precondition's own text. -/
instance preFacts : Cert.Pre_finite_norm.Facts where
  bcast_S_S8192x1024 := by decide
  reducesTo_S8192x1024_S_d0_1 := by decide
  h_S_ := by decide
  bcast_S_S4x1x1024 := by decide
  reducesTo_S4x1x1024_S_d0_1_2 := by decide

instance : Subsingleton Cert.Pre_finite_norm.S_.Idx := ⟨fun a b => funext fun i => i.elim0⟩

/-- What the precondition says: every entry of the gradient, of the tokens and of the scale is a real. -/
theorem pre_real (D X : FVec Ideal S8192x1024 .f32) (C : FVec Ideal S4x1x1024 .f32) (R : FVec Ideal S8192x1024 .f32)
    (h : @Cert.Pre_finite_norm.fn preFacts Ideal _ D X C R = fun _ => 1#1) :
    (∀ i, D i = ((EReal.toReal (D i) : ℝ) : EReal)) ∧ (∀ i, X i = ((EReal.toReal (X i) : ℝ) : EReal)) ∧ (∀ i, C i = ((EReal.toReal (C i) : ℝ) : EReal)) := by
  have e := congrFun h (fun i => i.elim0)
  dsimp only [Cert.Pre_finite_norm.fn, Cert.Pre_finite_norm.fn_part1] at e
  obtain ⟨e12, e2⟩ := Attn.and_one _ _ e
  obtain ⟨e0, e1⟩ := Attn.and_one _ _ e12
  exact ⟨fun i => Attn.real_of _ (Host.reduce_andi_all _ _ _ _ _ e0 i), fun i => Attn.real_of _ (Host.reduce_andi_all _ _ _ _ _ e1 i), fun i => Attn.real_of _ (Host.reduce_andi_all _ _ _ _ _ e2 i)⟩

theorem at2_real {a b : ℕ} (A : (⟨2, ![a, b]⟩ : Shape).Idx → EReal) (h : ∀ i, A i = ((EReal.toReal (A i) : ℝ) : EReal)) (i j : ℕ) : at2 A i j = ((EReal.toReal (at2 A i j) : ℝ) : EReal) := by
  unfold at2
  split
  · exact h _
  · simp

theorem atB_real (A : (⟨3, ![4, 1, 1024]⟩ : Shape).Idx → EReal) (h : ∀ i, A i = ((EReal.toReal (A i) : ℝ) : EReal)) (i j : ℕ) : atB A i j = ((EReal.toReal (atB A i j) : ℝ) : EReal) := by
  unfold atB
  split
  · exact h _
  · simp

/-- Entry `(i, j)` of the gradient in the tokens, as the reference writes it. -/
abbrev entR (D X : Cert.NormGradIdeal.S8192x1024.Idx → EReal) (C : Cert.NormGradIdeal.S4x1x1024.Idx → EReal) (R : Cert.NormGradIdeal.S8192x1024.Idx → EReal) (i j : ℕ) : EReal := rdx (at2 X i) (dh D C i) j + at2 R i j
def resR (D X : Cert.NormGradIdeal.S8192x1024.Idx → EReal) (C : Cert.NormGradIdeal.S4x1x1024.Idx → EReal) (R : Cert.NormGradIdeal.S8192x1024.Idx → EReal) : Cert.NormGradIdeal.S8192x1024.Idx → EReal := mat (entR D X C R)

theorem resR_eq (D X : Cert.NormGradIdeal.S8192x1024.Idx → EReal) (C : Cert.NormGradIdeal.S4x1x1024.Idx → EReal) (R : Cert.NormGradIdeal.S8192x1024.Idx → EReal)
    (hD : ∀ i, D i = ((EReal.toReal (D i) : ℝ) : EReal)) (hX : ∀ i, X i = ((EReal.toReal (X i) : ℝ) : EReal)) (hC : ∀ i, C i = ((EReal.toReal (C i) : ℝ) : EReal)) :
    resR D X C R = resX D X C R := by
  unfold resR resX
  refine congrArg mat (funext fun i => funext fun j => ?_)
  refine congrArg (· + at2 R i j) (kdx_eq _ _ (fun k => at2_real X hX i k) _ (fun k => EReal.toReal (at2 D i k) * (1 + EReal.toReal (atB C (i / 2048) k))) (fun k => ?_) j).symm
  rw [EReal.coe_mul, EReal.coe_add, ← at2_real D hD, ← atB_real C hC]
  rfl

/-! ## The reference -/

section Ref
open Cert.NormGradRefIdeal Cert.NormGradRefIdeal.Gen

/-- A number over a token's row. -/
def al (y : FVec Ideal S4x2048 .f32) : FVec Ideal S4x2048x1024 .f32 := broadcastInDim S4x2048x1024 ![0, 1] bcast_S4x2048_S4x2048x1024_0_1 y
def sum1 (y : FVec Ideal S4x2048x1 .f32) : FVec Ideal S4x2048 .f32 := Host.reduceAdd y (constant S_ .f32 0x00000000#32) reducesTo_S4x2048x1_S4x2048_d2 h_S_
def over1024 (y : FVec Ideal S4x2048x1 .f32) : FVec Ideal S4x2048x1 .f32 := Host.divf y (broadcastInDim S4x2048x1 ![] bcast_S_S4x2048x1 (constant S_ .f32 0x44800000#32))
def col (y : FVec Ideal S4x2048 .f32) : FVec Ideal S4x2048x1 .f32 := shapeCast _ y shapeCasts_S4x2048_S4x2048x1
/-- The gradient in the variance, spread over the row. -/
def wgtT (x d : FVec Ideal S4x2048x1024 .f32) : FVec Ideal S4x2048 .f32 :=
  sum1 (over1024 (mulf (col (Ref.sumT (mulf (Ref.cenT x) d))) (mulf (broadcastInDim S4x2048x1 ![] bcast_S_S4x2048x1 (constant S_ .f32 0xBF000000#32)) (Host.divf (Ref.rstT x) (Ref.varT x)))))
def rdcT (x d : FVec Ideal S4x2048x1024 .f32) : FVec Ideal S4x2048x1024 .f32 :=
  addf (addf (mulf d (Ref.along (Ref.rstT x))) (mulf (Ref.cenT x) (al (wgtT x d)))) (mulf (al (wgtT x d)) (Ref.cenT x))
def rdxT (x d : FVec Ideal S4x2048x1024 .f32) : FVec Ideal S4x2048x1024 .f32 :=
  addf (rdcT x d) (al (sum1 (over1024 (col (Ref.sumT (Host.negf (rdcT x d)))))))
def dhT (D : FVec Ideal Cert.NormGradRefIdeal.S8192x1024 .f32) (C : FVec Ideal Cert.NormGradRefIdeal.S4x1x1024 .f32) : FVec Ideal S4x2048x1024 .f32 := mulf (Ref.tok D) (Ref.over (Ref.oneT C))
def outX (D X : FVec Ideal Cert.NormGradRefIdeal.S8192x1024 .f32) (C : FVec Ideal Cert.NormGradRefIdeal.S4x1x1024 .f32) (R : FVec Ideal Cert.NormGradRefIdeal.S8192x1024 .f32) : FVec Ideal Cert.NormGradRefIdeal.S8192x1024 .f32 :=
  addf (shapeCast _ (rdxT (Ref.tok X) (dhT D C)) shapeCasts_S4x2048x1024_S8192x1024) R
/-- The sums over a batch's tokens. -/
def tokens (x : FVec Ideal S4x2048x1024 .f32) : FVec Ideal Cert.NormGradRefIdeal.S4x1x1024 .f32 :=
  shapeCast _ (Host.reduceAdd x (constant S_ .f32 0x00000000#32) reducesTo_S4x2048x1024_S4x1024_d1 h_S_) shapeCasts_S4x1024_S4x1x1024

section
variable (b : Fin 4) (s : Fin 2048) (j : Fin 1024) {x d : FVec Ideal S4x2048x1024 .f32} {f g : ℕ → EReal}
  (hx : ∀ k : Fin 1024, @Eq EReal (x (ix3 b s k)) (f k.val)) (hd : ∀ k : Fin 1024, @Eq EReal (d (ix3 b s k)) (g k.val))
include hx hd

theorem wgtT_at : @Eq EReal (wgtT x d (ix2 b s)) (wgt f g) := by
  unfold wgt
  rw [← Ref.rstT_at b s hx, ← Ref.varT_at b s hx, ← Ref.sumT_at (x := mulf (Ref.cenT x) d) b s (f := fun k => cen f k * g k) fun k => congrArg₂ (· * ·) (Ref.cenT_at b s k hx) (hd k)]
  generalize hp : Ref.sumT (mulf (Ref.cenT x) d) = p
  generalize hq : Ref.rstT x = q
  generalize hv : Ref.varT x = v
  unfold wgtT sum1 over1024 col
  rw [hp, hq, hv]
  pointwise
  exact Fin.sum_univ_one _

theorem rdcT_at : @Eq EReal (rdcT x d (ix3 b s j)) (rdc f g j.val) := by
  unfold rdc
  rw [← wgtT_at b s hx hd, ← Ref.rstT_at b s hx, ← hd j, ← Ref.cenT_at b s j hx]
  pointwise [rdcT, al, Ref.along]

theorem rdxT_at : @Eq EReal (rdxT x d (ix3 b s j)) (rdx f g j.val) := by
  unfold rdx
  rw [← rdcT_at b s j hx hd, ← Ref.sumT_at (x := Host.negf (rdcT x d)) b s (f := fun k => -rdc f g k) fun k => (congrArg (- ·) (rdcT_at b s k hx hd))]
  generalize hp : Ref.sumT (Host.negf (rdcT x d)) = p
  generalize hq : rdcT x d = q
  unfold rdxT al sum1 over1024 col
  rw [hp, hq]
  pointwise
  exact congrArg (q (ix3 b s j) + ·) (Fin.sum_univ_one _)
end

theorem tokens_at (b : Fin 4) (u : Fin 1) (j : Fin 1024) (x : FVec Ideal S4x2048x1024 .f32) (h : ℕ → EReal) (hx : ∀ s : Fin 2048, @Eq EReal (x (ix3 b s j)) (h s.val)) :
    @Eq EReal (tokens x (ix3 b u j)) (∑ k ∈ Finset.range (512 * 4), h k) := by
  refine Eq.trans ?_ (Finset.sum_range (n := 2048) h).symm
  simp only [← hx]
  rw [Subsingleton.elim u 0]
  pointwise [tokens]

theorem outX_at (D X : FVec Ideal Cert.NormGradRefIdeal.S8192x1024 .f32) (C : FVec Ideal Cert.NormGradRefIdeal.S4x1x1024 .f32) (R : FVec Ideal Cert.NormGradRefIdeal.S8192x1024 .f32) (i : Fin 8192) (j : Fin 1024) :
    @Eq EReal (outX D X C R (ix2 i j)) (entR D X C R i.val j.val) := by
  have hb : i.val / 2048 < 4 := by omega
  have hi : i.val / 2048 * 2048 + i.val % 2048 = i.val := by omega
  have e := rdxT_at (⟨i.val / 2048, hb⟩ : Fin 4) (⟨i.val % 2048, by omega⟩ : Fin 2048) j (x := Ref.tok X) (d := dhT D C) (g := fun k => at2 D (i.val / 2048 * 2048 + i.val % 2048) k * (1 + atB C (i.val / 2048) k))
    (fun k => Ref.tok_at _ _ k X) (fun k => congrArg₂ (· * ·) (Ref.tok_at _ _ k D) ((Ref.over_at _ _ k (Ref.oneT C)).trans (Ref.oneT_at _ k C)))
  dsimp only at e
  rw [hi] at e
  show _ = rdx _ _ _ + at2 _ _ _
  rw [← e, at2_ix2 R i j]
  pointwise [outX]
end Ref

theorem values : Cert.algebraic_NormGradIdeal_NormGradRefIdeal_pre_finite_norm (hNormGradIdeal := Cert.NormGradIdeal.Gen.facts) (hNormGradRefIdeal := Cert.NormGradRefIdeal.Gen.facts) (hPre_finite_norm := preFacts) := by
  intro m g m' g' hp ha
  refine ⟨fun c => resX (aD m c) (aX m c) (aC m c) (aR m c), fun c => resS (aD m c) (aX m c), fun c => resH (aD m c),
    (θ_run defs _ _).mono (fun r h c => ⟨(h c).1.trans (arr4 m c), (h c).2.1.trans (arr5 m c), (h c).2.2.1.trans (arr6 m c), (h c).2.2.2⟩) (Cert.NormGradIdeal.Value.run_blocks (F := Ideal) m g), ?_⟩
  refine (θ_run Cert.NormGradRefIdeal.defs _ _).mono (fun r h c => ⟨(h c).1.trans ?_, (h c).2.1.trans ?_, (h c).2.2.1.trans ?_, (h c).2.2.2⟩) (Cert.NormGradRefIdeal.Value.run (F := Ideal) m' g')
  all_goals obtain ⟨e0, e1, e2, e3⟩ := ha c
  · obtain ⟨hD, hX, hC⟩ := pre_real _ _ _ _ (hp c)
    refine Eq.trans ?_ ((congr (congr (congrArg₂ resR e0 e1) e2) e3).trans (resR_eq _ _ _ _ hD hX hC))
    refine Eq.trans (b := outX (m' (c.tc.loc Cert.NormGradRefIdeal.main_arg0)) (m' (c.tc.loc Cert.NormGradRefIdeal.main_arg1)) (m' (c.tc.loc Cert.NormGradRefIdeal.main_arg2)) (m' (c.tc.loc Cert.NormGradRefIdeal.main_arg3))) rfl ?_
    refine funext fun i => ?_
    rw [eq_ix2 (n0 := 8192) (n1 := 1024) i]
    exact outX_at _ _ _ _ (i 0) (i 1)
  · refine Eq.trans ?_ (congrArg₂ resS e0 e1)
    refine Eq.trans (b := tokens (mulf (Ref.hatT (Ref.tok (m' (c.tc.loc Cert.NormGradRefIdeal.main_arg1)))) (Ref.tok (m' (c.tc.loc Cert.NormGradRefIdeal.main_arg0))))) rfl ?_
    refine funext fun i => ?_
    rw [eq_ix3 (n0 := 4) (n1 := 1) (n2 := 1024) i]
    exact tokens_at (i 0) (i 1) (i 2) _ (fun k => at2 (m' (c.tc.loc Cert.NormGradRefIdeal.main_arg0)) ((i 0).val * 2048 + k) (i 2).val * hat (at2 (m' (c.tc.loc Cert.NormGradRefIdeal.main_arg1)) ((i 0).val * 2048 + k)) (i 2).val)
      fun s => (mul_comm _ _).trans (congrArg₂ (· * ·) (Ref.tok_at (i 0) s (i 2) _) (Ref.hatT_at (x := Ref.tok _) (i 0) s (i 2) fun k => Ref.tok_at (i 0) s k _))
  · refine Eq.trans ?_ (congrArg resH e0)
    refine Eq.trans (b := tokens (Ref.tok (m' (c.tc.loc Cert.NormGradRefIdeal.main_arg0)))) rfl ?_
    refine funext fun i => ?_
    rw [eq_ix3 (n0 := 4) (n1 := 1) (n2 := 1024) i]
    exact tokens_at (i 0) (i 1) (i 2) _ (fun k => at2 (m' (c.tc.loc Cert.NormGradRefIdeal.main_arg0)) ((i 0).val * 2048 + k) (i 2).val) fun s => Ref.tok_at (i 0) s (i 2) _

theorem frame_pre : Cert.quiescent_NormGradIdeal_pre_finite_norm (hNormGradIdeal := Cert.NormGradIdeal.Gen.facts) (hPre_finite_norm := preFacts) := fun m ρ _ => Cert.NormGradIdeal.Gen.frame m ρ

theorem frame_ref : Cert.quiescent_NormGradRefIdeal (hNormGradRefIdeal := Cert.NormGradRefIdeal.Gen.facts) := fun m ρ _ =>
  (θ_run Cert.NormGradRefIdeal.defs _ _).mono (fun r h => ⟨fun c => (h c).2.2.2, sem_eq_zero_of_no_sems (by decide) r.2⟩)
    (Cert.NormGradRefIdeal.Value.run (F := Ideal) m ρ)

theorem frame_ref_pre : Cert.quiescent_NormGradRefIdeal_pre_finite_norm (hNormGradRefIdeal := Cert.NormGradRefIdeal.Gen.facts) (hPre_finite_norm := preFacts) := fun m ρ _ =>
  frame_ref m ρ trivial

end Cert.Proof.NormGrad

end
-- ==== Proof.LnSum.lean ====
/-
  The norm after a residual sum and its gradient: the rows, the results, and the reference's arrays stage by stage.
-/
module

public import proofs.«01_k».proof.Proof.NormGradVal
public import proofs.«01_k».proof.Proof.Gen.ResGradRefIdeal

@[expose] public section

set_option maxRecDepth 16384

noncomputable section

namespace Cert.Proof.Rs

open Cert.Proof.Prod Cert.Proof.Ln
open Idealize.ShloMosaic Idealize.ShloMosaic.TcCoe Idealize.ShloMosaic.StableHlo
open scoped BigOperators

abbrev Mat : Type := (⟨2, ![8192, 1024]⟩ : Shape).Idx → EReal
abbrev Bat : Type := (⟨3, ![4, 1, 1024]⟩ : Shape).Idx → EReal
abbrev Row : Type := (⟨2, ![1, 1024]⟩ : Shape).Idx → EReal

/-- The residual's factor. -/
def c2 : EReal := Ideal.ofBits FTy.f32 0x3FB504F3#32
/-- Row `i` of the residual sum. -/
def rowR (X B : Mat) (G : Bat) (i k : ℕ) : EReal := c2 * at2 X i k + (1 + atB G (i / 2048) k) * at2 B i k
/-- The gradient in the residual sum, as the kernel writes it and as the reference does. -/
def drK (X B : Mat) (G : Bat) (g : Row) (dy : ℕ → ℕ → EReal) (i j : ℕ) : EReal := kdx (rowR X B G i) (fun k => dy i k * at2 g 0 k) j
def drR (X B : Mat) (G : Bat) (g : Row) (dy : ℕ → ℕ → EReal) (i j : ℕ) : EReal := rdx (rowR X B G i) (fun k => dy i k * at2 g 0 k) j

/-- The six results, of the gradient in the residual sum. -/
def res0 (dr : ℕ → ℕ → EReal) : Mat := mat fun i j => c2 * dr i j
def res1 (G : Bat) (dr : ℕ → ℕ → EReal) : Mat := mat fun i j => (1 + atB G (i / 2048) j) * dr i j
abbrev ent2 (X B : Mat) (G : Bat) (dy : ℕ → ℕ → EReal) (j : ℕ) : EReal := ∑ k ∈ Finset.range (512 * 16), dy k j * hat (rowR X B G k) j
def res2 (X B : Mat) (G : Bat) (dy : ℕ → ℕ → EReal) : Row := mat fun _ j => ent2 X B G dy j
abbrev ent3 (dy : ℕ → ℕ → EReal) (j : ℕ) : EReal := ∑ k ∈ Finset.range (512 * 16), dy k j
def res3 (dy : ℕ → ℕ → EReal) : Row := mat fun _ j => ent3 dy j
abbrev ent4 (B : Mat) (dr : ℕ → ℕ → EReal) (b j : ℕ) : EReal := ∑ k ∈ Finset.range (512 * 4), dr (b * 2048 + k) j * at2 B (b * 2048 + k) j
def res4 (B : Mat) (dr : ℕ → ℕ → EReal) : Bat := fun y => ent4 B dr (y 0).val (y 2).val
abbrev ent5 (G : Bat) (dr : ℕ → ℕ → EReal) (j : ℕ) : EReal := ∑ k ∈ Finset.range (512 * 16), (1 + atB G (k / 2048) j) * dr k j
def res5 (G : Bat) (dr : ℕ → ℕ → EReal) : Row := mat fun _ j => ent5 G dr j

/-- The norm of the residual sum, weighted and shifted. -/
def yR (X B : Mat) (G : Bat) (g b : Row) (i j : ℕ) : EReal := hat (rowR X B G i) j * at2 g 0 j + at2 b 0 j

def IsReal {ι : Type} (A : ι → EReal) : Prop := ∀ i, A i = ((EReal.toReal (A i) : ℝ) : EReal)

theorem c2_real : c2 = ((EReal.toReal c2 : ℝ) : EReal) := by
  have h : ∃ e : ℝ, c2 = (e : EReal) := by
    refine ⟨11863283 / 2 ^ 23, ?_⟩
    unfold c2
    simp [Ideal.ofBits, Ideal.ieee, -EReal.coe_mul]; norm_num
  obtain ⟨e, h⟩ := h
  rw [h, EReal.toReal_coe]

theorem drR_eq (X B : Mat) (G : Bat) (g : Row) (dy : ℕ → ℕ → EReal) (hX : IsReal X) (hB : IsReal B) (hG : IsReal G) (hg : IsReal g)
    (hy : ∀ i k, dy i k = ((EReal.toReal (dy i k) : ℝ) : EReal)) : drR X B G g dy = drK X B G g dy := by
  funext i j
  unfold drR drK
  refine (kdx_eq _ (fun k => EReal.toReal c2 * EReal.toReal (at2 X i k) + (1 + EReal.toReal (atB G (i / 2048) k)) * EReal.toReal (at2 B i k)) (fun k => ?_) _ (fun k => EReal.toReal (dy i k) * EReal.toReal (at2 g 0 k)) (fun k => ?_) j).symm
  · rw [EReal.coe_add, EReal.coe_mul, EReal.coe_mul, EReal.coe_add, ← c2_real, ← NormGrad.at2_real X hX, ← NormGrad.at2_real B hB, ← NormGrad.atB_real G hG]
    rfl
  · rw [EReal.coe_mul, ← hy, ← NormGrad.at2_real g hg]

/-! ## The reference -/

section Ref
open Cert.ResGradRefIdeal Cert.ResGradRefIdeal.Gen

def twoT (x : FVec Ideal S4x2048x1024 .f32) : FVec Ideal S4x2048x1024 .f32 := mulf (broadcastInDim S4x2048x1024 ![] bcast_S_S4x2048x1024 (constant S_ .f32 0x3FB504F3#32)) x
/-- The residual sum. -/
def resT (X B : FVec Ideal S8192x1024 .f32) (G : FVec Ideal S4x1x1024 .f32) : FVec Ideal S4x2048x1024 .f32 := addf (twoT (Ref.tok X)) (mulf (Ref.over (Ref.oneT G)) (Ref.tok B))
/-- A weight's row along all tokens. -/
def allT (g : FVec Ideal S1x1024 .f32) : FVec Ideal S4x2048x1024 .f32 :=
  broadcastInDim S4x2048x1024 ![0, 1, 2] bcast_S1x1x1024_S4x2048x1024_0_1_2 (broadcastInDim S1x1x1024 ![1, 2] bcast_S1x1024_S1x1x1024_1_2 g)
def drT (X B : FVec Ideal S8192x1024 .f32) (G : FVec Ideal S4x1x1024 .f32) (g : FVec Ideal S1x1024 .f32) (d : FVec Ideal S4x2048x1024 .f32) : FVec Ideal S4x2048x1024 .f32 :=
  NormGrad.rdxT (resT X B G) (mulf d (allT g))
def flat (x : FVec Ideal S4x2048x1024 .f32) : FVec Ideal S8192x1024 .f32 := shapeCast _ x shapeCasts_S4x2048x1024_S8192x1024
/-- The sums over all tokens. -/
def colsT (x : FVec Ideal S4x2048x1024 .f32) : FVec Ideal S1x1024 .f32 :=
  broadcastInDim S1x1024 ![1] bcast_S1024_S1x1024_1 (Host.reduceAdd (shapeCast S1x1x1024 (Host.reduceAdd x (constant S_ .f32 0x00000000#32) reducesTo_S4x2048x1024_S1024_d0_1 h_S_) shapeCasts_S1024_S1x1x1024) (constant S_ .f32 0x00000000#32) reducesTo_S1x1x1024_S1024_d0_1 h_S_)

theorem sum_batches (f : ℕ → EReal) : ∑ b : Fin 4, ∑ s : Fin 2048, f (b.val * 2048 + s.val) = ∑ k ∈ Finset.range (512 * 16), f k := by
  refine Eq.trans ?_ (sum_tiles f 2048 4)
  refine Eq.trans ?_ (Finset.sum_range (n := 4) fun b => ∑ s : Fin 2048, f (2048 * b + s.val)).symm
  simp only [mul_comm]

variable (b : Fin 4) (s : Fin 2048) (j : Fin 1024)

theorem resT_at (X B : FVec Ideal S8192x1024 .f32) (G : FVec Ideal S4x1x1024 .f32) : @Eq EReal (resT X B G (ix3 b s j)) (rowR X B G (b.val * 2048 + s.val) j.val) := by
  have hb : (b.val * 2048 + s.val) / 2048 = b.val := by omega
  unfold rowR c2
  rw [hb, ← Ref.tok_at b s j X, ← Ref.tok_at b s j B, ← Ref.oneT_at b j G, ← Ref.over_at b s j (Ref.oneT G)]
  pointwise [resT, twoT]

theorem allT_at (g : FVec Ideal S1x1024 .f32) : @Eq EReal (allT g (ix3 b s j)) (at2 g 0 j.val) := by
  refine Eq.trans ?_ (at2_ix2 g (0 : Fin 1) j).symm
  pointwise [allT]

theorem drT_at (X B : FVec Ideal S8192x1024 .f32) (G : FVec Ideal S4x1x1024 .f32) (g : FVec Ideal S1x1024 .f32) (d : FVec Ideal S4x2048x1024 .f32) (dy : ℕ → ℕ → EReal)
    (hd : ∀ b s j, @Eq EReal (d (ix3 b s j)) (dy (b.val * 2048 + s.val) j.val)) : @Eq EReal (drT X B G g d (ix3 b s j)) (drR X B G g dy (b.val * 2048 + s.val) j.val) :=
  NormGrad.rdxT_at b s j (fun k => resT_at b s k X B G) (fun k => congrArg₂ (· * ·) (hd b s k) (allT_at b s k g))

theorem flat_at (x : FVec Ideal S4x2048x1024 .f32) (f : ℕ → ℕ → EReal) (hx : ∀ b s j, @Eq EReal (x (ix3 b s j)) (f (b.val * 2048 + s.val) j.val)) (i : Fin 8192) :
    @Eq EReal (flat x (ix2 i j)) (f i.val j.val) := by
  have e := hx (⟨i.val / 2048, by omega⟩ : Fin 4) (⟨i.val % 2048, by omega⟩ : Fin 2048) j
  have hi : i.val / 2048 * 2048 + i.val % 2048 = i.val := by omega
  dsimp only at e
  rw [hi] at e
  rw [← e]
  pointwise [flat]

/-- A sum over the two leading axes is the double sum. -/
theorem two_axes {n0 n1 n2 : ℕ} {t : Shape} (h : (⟨3, ![n0, n1, n2]⟩ : Shape).ReducesTo [0, 1] t) (v : (⟨3, ![n0, n1, n2]⟩ : Shape).Idx → EReal) (a : EReal) (y : t.Idx) (j : Fin n2)
    (ht : 0 < t.rank) (hj : (y ⟨0, ht⟩).val = j.val) : Ideal.hostReduceAdd h v a y = a + ∑ x : Fin n0, ∑ z : Fin n1, v (ix3 x z j) := by
  refine congrArg (a + ·) ?_
  refine (Finset.sum_filter_eq_sum_of_fiber _ (fun p : Fin n0 × Fin n1 => ix3 p.1 p.2 j) (fun p q e => Prod.ext (congrFun e 0) (congrFun e 1)) (fun i => ?_) v).trans (Fintype.sum_prod_type _)
  have hr : t.rank = 1 := h.1
  constructor
  · intro e
    refine ⟨(i 0, i 1), funext fun k => Fin.ext ?_⟩
    match k with
    | ⟨0, _⟩ => rfl
    | ⟨1, _⟩ => rfl
    | ⟨2, _⟩ => exact hj.symm.trans (congrArg Fin.val (congrFun e ⟨0, ht⟩)).symm
  · rintro ⟨p, rfl⟩
    funext k
    apply Fin.ext
    match k with
    | ⟨0, _⟩ => exact hj.symm
    | ⟨_ + 1, hk⟩ => exact absurd hk (by omega)

theorem colsT_at (x : FVec Ideal S4x2048x1024 .f32) (f : ℕ → ℕ → EReal) (hx : ∀ b s j, @Eq EReal (x (ix3 b s j)) (f (b.val * 2048 + s.val) j.val)) (u : Fin 1) :
    @Eq EReal (colsT x (ix2 u j)) (∑ k ∈ Finset.range (512 * 16), f k j.val) := by
  rw [← sum_batches fun k => f k j.val]
  simp only [← hx]
  have e1 : ∀ j : Fin 1024, @Eq EReal (Host.reduceAdd (F := Ideal) x (constant S_ .f32 0x00000000#32) Cert.ResGradRefIdeal.Gen.reducesTo_S4x2048x1024_S1024_d0_1 Cert.ResGradRefIdeal.Gen.h_S_ (ix1 j)) (∑ b : Fin 4, ∑ s : Fin 2048, x (ix3 b s j)) := by
    intro j
    refine (two_axes Cert.ResGradRefIdeal.Gen.reducesTo_S4x2048x1024_S1024_d0_1 x _ (ix1 j) j Nat.one_pos rfl).trans ?_
    refine Eq.trans (congrArg (· + _) ?_) (zero_add _)
    pointwise
  rw [← e1 j]
  unfold colsT
  generalize Host.reduceAdd (F := Ideal) x (constant S_ .f32 0x00000000#32) Cert.ResGradRefIdeal.Gen.reducesTo_S4x2048x1024_S1024_d0_1 Cert.ResGradRefIdeal.Gen.h_S_ = z
  have e2 := two_axes Cert.ResGradRefIdeal.Gen.reducesTo_S1x1x1024_S1024_d0_1 (shapeCast (α := EReal) S1x1x1024 z Cert.ResGradRefIdeal.Gen.shapeCasts_S1024_S1x1x1024) (constant (F := Ideal) S_ .f32 0x00000000#32 (Shape.Idx.first Cert.ResGradRefIdeal.Gen.h_S_)) (ix1 j) j Nat.one_pos rfl
  refine Eq.trans ?_ (e2.trans ?_)
  · pointwise
  · rw [Fin.sum_univ_one, Fin.sum_univ_one]
    pointwise

def yT (X B : FVec Ideal S8192x1024 .f32) (G : FVec Ideal S4x1x1024 .f32) (g h : FVec Ideal S1x1024 .f32) : FVec Ideal S4x2048x1024 .f32 :=
  addf (mulf (Ref.hatT (resT X B G)) (allT g)) (allT h)

theorem yT_at (X B : FVec Ideal S8192x1024 .f32) (G : FVec Ideal S4x1x1024 .f32) (g h : FVec Ideal S1x1024 .f32) : @Eq EReal (yT X B G g h (ix3 b s j)) (yR X B G g h (b.val * 2048 + s.val) j.val) := by
  unfold yR
  rw [← Ref.hatT_at (x := resT X B G) b s j fun k => resT_at b s k X B G, ← allT_at b s j g, ← allT_at b s j h]
  pointwise [yT]
end Ref

end Cert.Proof.Rs

end
-- ==== Proof.ResOut.lean ====
/-
  What a tile of the gradient of the norm after a residual sum leaves in each result's block.
-/
module

public import proofs.«01_k».proof.Proof.LnSum
public import proofs.«01_k».proof.Proof.LnOut
public import proofs.«01_k».proof.Proof.Gen.ResGradIdeal.Value

@[expose] public section

set_option maxRecDepth 16384

noncomputable section

namespace Cert.Proof.Rs

open Cert.ResGradIdeal Cert.ResGradIdeal.Gen Cert.Proof.Prod Cert.Proof.Ln
open Idealize.ShloMosaic Idealize.ShloMosaic.TcCoe
open scoped BigOperators

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S1x1024 .f32) (harg11 : arg11.IsWhole)
  (x0 x1 x2 : Vec Ideal S512x1024 .f32) (x3 : Vec Ideal S1x1x1024 .f32) (x4 : Vec Ideal S1x1024 .f32) (xo7 xo8 : Vec Ideal S1x1024 .f32) (xo9 : Vec Ideal S1x1x1024 .f32) (xo10 : Vec Ideal S1x1024 .f32)

theorem outA5_eq (hc0 : cond0_0 i) (hc1 : cond0_1 i) : out0_A_5 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay2 (k0_pay13 (k0_pay12 x2 x3 x1)) (k0_pay18 x0 x4) (k0_pay19 x0 (k0_pay12 x2 x3 x1) x4) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outA6_eq (hc0 : cond0_0 i) (hc1 : cond0_1 i) : out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay4 (k0_pay11 x3) (k0_pay13 (k0_pay12 x2 x3 x1)) (k0_pay18 x0 x4) (k0_pay19 x0 (k0_pay12 x2 x3 x1) x4) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outA7_eq (hc0 : cond0_0 i) (hc1 : cond0_1 i) : out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay15 x0 (k0_pay12 x2 x3 x1) (k0_pay7 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outA8_eq (hc0 : cond0_0 i) (hc1 : cond0_1 i) : out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay16 x0 (k0_pay8 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outA9_eq (hc0 : cond0_0 i) (hc1 : cond0_1 i) : out0_A_9 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay6 x2 (k0_pay13 (k0_pay12 x2 x3 x1)) (k0_pay18 x0 x4) (k0_pay19 x0 (k0_pay12 x2 x3 x1) x4) (k0_pay10 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outA10_eq (hc0 : cond0_0 i) (hc1 : cond0_1 i) : out0_A_10 (F := Ideal) c i arg1 harg1 arg2 harg2 arg3 harg3 arg4 harg4 arg5 harg5 arg6 harg6 arg7 harg7 arg8 harg8 arg9 harg9 arg10 harg10 arg11 harg11 hc0 hc1 x0 x1 x2 x3 x4 = k0_pay5 (k0_pay11 x3) (k0_pay13 (k0_pay12 x2 x3 x1)) (k0_pay18 x0 x4) (k0_pay19 x0 (k0_pay12 x2 x3 x1) x4) (k0_pay9 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB5_eq (hc0 : ¬cond0_0 i) (hc1 : ¬cond0_1 i) : out0_B_5 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay2 (k0_pay13 (k0_pay12 x2 x3 x1)) (k0_pay18 x0 x4) (k0_pay19 x0 (k0_pay12 x2 x3 x1) x4) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB6_eq (hc0 : ¬cond0_0 i) (hc1 : ¬cond0_1 i) : out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay4 (k0_pay11 x3) (k0_pay13 (k0_pay12 x2 x3 x1)) (k0_pay18 x0 x4) (k0_pay19 x0 (k0_pay12 x2 x3 x1) x4) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB7_eq (hc0 : ¬cond0_0 i) (hc1 : ¬cond0_1 i) : out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay15 x0 (k0_pay12 x2 x3 x1) xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB8_eq (hc0 : ¬cond0_0 i) (hc1 : ¬cond0_1 i) : out0_B_8 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay16 x0 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB9_eq (hc0 : ¬cond0_0 i) (hc1 : ¬cond0_1 i) : out0_B_9 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay6 x2 (k0_pay13 (k0_pay12 x2 x3 x1)) (k0_pay18 x0 x4) (k0_pay19 x0 (k0_pay12 x2 x3 x1) x4) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outB10_eq (hc0 : ¬cond0_0 i) (hc1 : ¬cond0_1 i) : out0_B_10 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10 = k0_pay5 (k0_pay11 x3) (k0_pay13 (k0_pay12 x2 x3 x1)) (k0_pay18 x0 x4) (k0_pay19 x0 (k0_pay12 x2 x3 x1) x4) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 xo7 xo8 xo9 xo10)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC5_eq (hc0 : ¬cond0_0 i) (hc1 : cond0_1 i) : out0_C_5 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay2 (k0_pay13 (k0_pay12 x2 x3 x1)) (k0_pay18 x0 x4) (k0_pay19 x0 (k0_pay12 x2 x3 x1) x4) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC6_eq (hc0 : ¬cond0_0 i) (hc1 : cond0_1 i) : out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay4 (k0_pay11 x3) (k0_pay13 (k0_pay12 x2 x3 x1)) (k0_pay18 x0 x4) (k0_pay19 x0 (k0_pay12 x2 x3 x1) x4) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC7_eq (hc0 : ¬cond0_0 i) (hc1 : cond0_1 i) : out0_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay15 x0 (k0_pay12 x2 x3 x1) xo7 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC8_eq (hc0 : ¬cond0_0 i) (hc1 : cond0_1 i) : out0_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay16 x0 xo8 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC9_eq (hc0 : ¬cond0_0 i) (hc1 : cond0_1 i) : out0_C_9 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay6 x2 (k0_pay13 (k0_pay12 x2 x3 x1)) (k0_pay18 x0 x4) (k0_pay19 x0 (k0_pay12 x2 x3 x1) x4) (k0_pay10 (F := Ideal)) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

theorem outC10_eq (hc0 : ¬cond0_0 i) (hc1 : cond0_1 i) : out0_C_10 (F := Ideal) c i arg1 harg1 arg2 harg2 arg3 harg3 arg4 harg4 arg5 harg5 arg6 harg6 arg7 harg7 arg8 harg8 arg9 harg9 arg10 harg10 arg11 harg11 hc0 hc1 x0 x1 x2 x3 x4 xo7 xo8 xo10 = k0_pay5 (k0_pay11 x3) (k0_pay13 (k0_pay12 x2 x3 x1)) (k0_pay18 x0 x4) (k0_pay19 x0 (k0_pay12 x2 x3 x1) x4) xo10 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 hc0 hc1 x0 x1 x2 x3 x4 xo7 xo8 xo10)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1x1024) z3, View.ld_unit_zero (S := S512x1024) z2, View.ld_unit_zero (S := S1x1024) z2, shapeCast_self]

end

section
variable (x X B : Vec Ideal S512x1024 .f32) (y : FVec Ideal S512x1024 .f32) (G : Vec Ideal S1x1x1024 .f32) (g : Vec Ideal S1x1024 .f32) (p : FVec Ideal S512x1 .f32) (s w : FVec Ideal S512x1024 .f32) (u : FVec Ideal S1x1024 .f32) (a : Vec Ideal S1x1024 .f32) (a3 : Vec Ideal S1x1x1024 .f32) (r : Fin 512) (l : Fin 1024) (f d : ℕ → EReal)

theorem cen_at (hf : ∀ k : Fin 1024, @Eq EReal (c2 * (X (ix2 r k) : EReal) + (1 + (G (ix3 0 0 k) : EReal)) * (B (ix2 r k) : EReal)) (f k.val)) :
    @Eq EReal (k0_pay12 (F := Ideal) B G X (ix2 r l)) (cen f l.val) := by
  unfold cen avg
  simp only [← hf]
  unfold c2
  pointwise [k0_pay12, k0_pay11]

theorem rst_at (hy : ∀ k : Fin 1024, @Eq EReal (y (ix2 r k)) (cen f k.val)) : @Eq EReal (k0_pay13 (F := Ideal) y (ix2 r 0)) (rst f) := by
  unfold rst var avg
  simp only [← hy]
  pointwise [k0_pay13]

theorem hat_at (hy : ∀ k : Fin 1024, @Eq EReal (y (ix2 r k)) (cen f k.val)) : @Eq EReal (k0_pay14 (F := Ideal) y (ix2 r l)) (hat f l.val) := by
  unfold hat
  rw [← rst_at y r f hy, ← hy l]
  unfold k0_pay14
  try dsimp only
  generalize k0_pay13 (F := Ideal) y = q
  pointwise

theorem d_at (hd : ∀ k : Fin 1024, @Eq EReal ((x (ix2 r k) : EReal) * (g (ix2 0 k) : EReal)) (d k.val)) :
    @Eq EReal (k0_pay18 (F := Ideal) x g (ix2 r l)) (d l.val - avg d) := by
  unfold avg
  simp only [← hd]
  pointwise [k0_pay18, k0_pay17]

theorem m_at (hy : ∀ k : Fin 1024, @Eq EReal (y (ix2 r k)) (cen f k.val)) (hd : ∀ k : Fin 1024, @Eq EReal ((x (ix2 r k) : EReal) * (g (ix2 0 k) : EReal)) (d k.val)) :
    @Eq EReal (k0_pay19 (F := Ideal) x y g (ix2 r l)) (hat f l.val * avg (fun k => d k * hat f k)) := by
  unfold avg
  simp only [← hd, ← fun k => hat_at y r k f hy]
  unfold k0_pay19
  try dsimp only
  generalize k0_pay14 (F := Ideal) y = q
  pointwise [k0_pay17]

theorem pay1_at : @Eq EReal (k0_pay1 (F := Ideal) p s w (ix2 r l)) ((p (ix2 r 0) : EReal) * ((s (ix2 r l) : EReal) - (w (ix2 r l) : EReal))) := by
  pointwise [k0_pay1]

/-- The gradient in the residual sum, of a tile. -/
theorem dr_at (hf : ∀ k : Fin 1024, @Eq EReal (c2 * (X (ix2 r k) : EReal) + (1 + (G (ix3 0 0 k) : EReal)) * (B (ix2 r k) : EReal)) (f k.val))
    (hd : ∀ k : Fin 1024, @Eq EReal ((x (ix2 r k) : EReal) * (g (ix2 0 k) : EReal)) (d k.val)) :
    @Eq EReal (k0_pay1 (F := Ideal) (k0_pay13 (F := Ideal) (k0_pay12 (F := Ideal) B G X)) (k0_pay18 (F := Ideal) x g) (k0_pay19 (F := Ideal) x (k0_pay12 (F := Ideal) B G X) g) (ix2 r l)) (kdx f d l.val) := by
  have hy := fun k => cen_at X B G r k f hf
  unfold kdx
  rw [← rst_at _ r f hy, ← d_at x g r l d hd, ← m_at x _ g r l f d hy hd]
  exact pay1_at _ _ _ r l

theorem pay2_at : @Eq EReal (k0_pay2 (F := Ideal) p s w (ix2 r l)) (c2 * (k0_pay1 (F := Ideal) p s w (ix2 r l) : EReal)) := by
  unfold k0_pay2
  try dsimp only
  generalize k0_pay1 (F := Ideal) p s w = q
  unfold c2
  pointwise

theorem pay3_at : @Eq EReal (k0_pay3 (F := Ideal) u p s w (ix2 r l)) ((u (ix2 0 l) : EReal) * (k0_pay1 (F := Ideal) p s w (ix2 r l) : EReal)) := by
  unfold k0_pay3
  try dsimp only
  generalize k0_pay1 (F := Ideal) p s w = q
  pointwise

theorem pay4_at : @Eq EReal (k0_pay4 (F := Ideal) u p s w (ix2 r l)) (k0_pay3 (F := Ideal) u p s w (ix2 r l)) := by
  unfold k0_pay4
  try dsimp only
  generalize k0_pay3 (F := Ideal) u p s w = q
  pointwise

theorem pay11_at : @Eq EReal (k0_pay11 (F := Ideal) G (ix2 0 l)) (1 + (G (ix3 0 0 l) : EReal)) := by pointwise [k0_pay11]

variable (h : Fin 512 → EReal)

theorem pay15_at (hx : ∀ k : Fin 512, @Eq EReal ((x (ix2 k l) : EReal) * (k0_pay14 (F := Ideal) y (ix2 k l) : EReal)) (h k)) :
    @Eq EReal (k0_pay15 (F := Ideal) x y a (ix2 0 l)) (a (ix2 0 l) + ∑ k : Fin 512, h k) := by
  simp only [← hx]
  unfold k0_pay15
  try dsimp only
  generalize k0_pay14 (F := Ideal) y = q
  pointwise

theorem pay16_at (hx : ∀ k : Fin 512, @Eq EReal (x (ix2 k l)) (h k)) : @Eq EReal (k0_pay16 (F := Ideal) x a (ix2 0 l)) (a (ix2 0 l) + ∑ k : Fin 512, h k) := by
  simp only [← hx]
  pointwise [k0_pay16]

theorem pay6_at (hx : ∀ k : Fin 512, @Eq EReal ((k0_pay1 (F := Ideal) p s w (ix2 k l) : EReal) * (B (ix2 k l) : EReal)) (h k)) :
    @Eq EReal (k0_pay6 (F := Ideal) B p s w a3 (ix3 0 0 l)) (a3 (ix3 0 0 l) + ∑ k : Fin 512, h k) := by
  simp only [← hx]
  unfold k0_pay6
  try dsimp only
  generalize k0_pay1 (F := Ideal) p s w = q
  pointwise

theorem pay5_at (hx : ∀ k : Fin 512, @Eq EReal (k0_pay3 (F := Ideal) u p s w (ix2 k l)) (h k)) :
    @Eq EReal (k0_pay5 (F := Ideal) u p s w a (ix2 0 l)) (a (ix2 0 l) + ∑ k : Fin 512, h k) := by
  simp only [← hx]
  unfold k0_pay5
  try dsimp only
  generalize k0_pay3 (F := Ideal) u p s w = q
  pointwise

theorem pay7_at : @Eq EReal (k0_pay7 (F := Ideal) (ix2 0 l)) 0 := by pointwise [k0_pay7]
theorem pay8_at : @Eq EReal (k0_pay8 (F := Ideal) (ix2 0 l)) 0 := by pointwise [k0_pay8]
theorem pay9_at : @Eq EReal (k0_pay9 (F := Ideal) (ix2 0 l)) 0 := by pointwise [k0_pay9]
theorem pay10_at : @Eq EReal (k0_pay10 (F := Ideal) (ix3 0 0 l)) 0 := by pointwise [k0_pay10]
end

end Cert.Proof.Rs

end
-- ==== Proof.ResGradVal.lean ====
/-
  The gradient of a residual sum and its norm: six results, three of them sums over all tokens.
-/
module

public import proofs.«01_k».proof.Proof.ResOut
public import proofs.«01_k».proof.Proof.LnReal
public import Idealize.ShloMosaic.Lib.ReduceAll
public import proofs.«01_k».proof.Proof.Pre
public import proofs.«01_k».proof.Proof.Gen.ResGrad.Frame
public import proofs.«01_k».proof.Proof.Gen.ResGradIdeal.Value
public import proofs.«01_k».proof.Proof.Gen.ResGradRefIdeal.Run
public import proofs.«01_k».proof.Defs

@[expose] public section

set_option maxRecDepth 16384

noncomputable section

namespace Cert.Proof.ResGrad

open Cert.ResGradIdeal Cert.ResGradIdeal.Gen Cert.Proof.Prod
open Idealize.ShloMosaic Idealize.ShloMosaic.TcCoe Idealize.ShloMosaic.StableHlo
open Idealize.SL.Sem
open scoped BigOperators

open Cert.Proof.Ln Cert.Proof.Rs

theorem row_idx (y : (⟨2, ![1, 1024]⟩ : Shape).Idx) : y = ix2 0 (y 1) := (eq_ix2 (n0 := 1) (n1 := 1024) y).trans (congrArg (fun a => ix2 a (y 1)) (Subsingleton.elim (α := Fin 1) _ _))
theorem row_eq (t k : ℕ) : t * 512 + k = t / 4 * 2048 + (512 * (t % 4) + k) := by omega
theorem row_eq16 (t k : ℕ) : t * 512 + k = t / 16 * 8192 + (512 * (t % 16) + k) := by omega
theorem tile_zero (t : Fin cfg0.N) : t.val / 16 = 0 := by
  have h : t.val < 16 := lt_of_lt_of_eq t.isLt N_0
  omega

section Kern
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 4, 0, 0] := (by decide +kernel : ∀ t : Fin grid0.N, _)
theorem idx10 : ∀ t : Fin cfg0.N, win0_10.index t = ![0, 0] := (by decide +kernel : ∀ t : Fin grid0.N, _)

variable (m : (ℓ : Loc nD τ sig) → Buf (Elt Ideal) ℓ) (c : Dev nD)

abbrev aD : S8192x1024.Idx → EReal := m ((c : Thread nD τ).loc main_arg0)
abbrev aX : S8192x1024.Idx → EReal := m ((c : Thread nD τ).loc main_arg1)
abbrev aB : S8192x1024.Idx → EReal := m ((c : Thread nD τ).loc main_arg2)
abbrev aG : S4x1x1024.Idx → EReal := m ((c : Thread nD τ).loc main_arg3)
abbrev aW : S1x1024.Idx → EReal := m ((c : Thread nD τ).loc main_arg4)

theorem blk0 (t : Fin cfg0.N) (r : Fin 512) (l : Fin 1024) : @Eq EReal (iblk m c 0 t (ix2 r l)) (at2 (aD m c) (t.val * 512 + r.val) l.val) := by
  refine at2_idx (aD m c) _ ?_ ?_ <;> blk_simp [idx0 t]

theorem blk1 (t : Fin cfg0.N) (r : Fin 512) (l : Fin 1024) : @Eq EReal (iblk m c 1 t (ix2 r l)) (at2 (aX m c) (t.val * 512 + r.val) l.val) := by
  refine at2_idx (aX m c) _ ?_ ?_ <;> blk_simp [idx1 t]

theorem blk2 (t : Fin cfg0.N) (r : Fin 512) (l : Fin 1024) : @Eq EReal (iblk m c 2 t (ix2 r l)) (at2 (aB m c) (t.val * 512 + r.val) l.val) := by
  refine at2_idx (aB m c) _ ?_ ?_ <;> blk_simp [idx2 t]

theorem blk3 (t : Fin cfg0.N) (l : Fin 1024) : @Eq EReal (iblk m c 3 t (ix3 0 0 l)) (atB (aG m c) (t.val / 4) l.val) := by
  refine atB_idx (aG m c) _ ?_ ?_ <;> blk_simp [idx3 t]
  rfl

theorem blk4 (t : Fin cfg0.N) (l : Fin 1024) : @Eq EReal (iblk m c 4 t (ix2 0 l)) (at2 (aW m c) 0 l.val) := by
  refine at2_idx (aW m c) _ ?_ ?_ <;> blk_simp [idx4 t]
  rfl

/-- The gradient in the residual sum, as the kernel writes it. -/
abbrev dr : ℕ → ℕ → EReal := drK (aX m c) (aB m c) (aG m c) (aW m c) (at2 (aD m c))

theorem row_at (t : Fin cfg0.N) (r : Fin 512) (k : Fin 1024) :
    @Eq EReal (c2 * @id EReal (iblk m c 1 t (ix2 r k)) + (1 + @id EReal (iblk m c 3 t (ix3 0 0 k))) * @id EReal (iblk m c 2 t (ix2 r k))) (rowR (aX m c) (aB m c) (aG m c) (t.val * 512 + r.val) k.val) := by
  have ht : (t.val * 512 + r.val) / 2048 = t.val / 4 := by omega
  unfold rowR
  rw [ht]
  exact congrArg₂ (· + ·) (congrArg (c2 * ·) (blk1 m c t r k)) (congrArg₂ (· * ·) (congrArg (1 + ·) (blk3 m c t k)) (blk2 m c t r k))

theorem dr_blk (t : Fin cfg0.N) (r : Fin 512) (l : Fin 1024) : @Eq EReal (k0_pay1 (F := Ideal) (k0_pay13 (F := Ideal) (k0_pay12 (F := Ideal) (iblk m c 2 t) (iblk m c 3 t) (iblk m c 1 t))) (k0_pay18 (F := Ideal) (iblk m c 0 t) (iblk m c 4 t)) (k0_pay19 (F := Ideal) (iblk m c 0 t) (k0_pay12 (F := Ideal) (iblk m c 2 t) (iblk m c 3 t) (iblk m c 1 t)) (iblk m c 4 t)) (ix2 r l)) (dr m c (t.val * 512 + r.val) l.val) :=
  Rs.dr_at (iblk m c 0 t) (iblk m c 1 t) (iblk m c 2 t) (iblk m c 3 t) (iblk m c 4 t) r l (rowR (aX m c) (aB m c) (aG m c) (t.val * 512 + r.val)) (fun k => at2 (aD m c) (t.val * 512 + r.val) k * at2 (aW m c) 0 k)
    (fun k => row_at m c t r k) fun k => congrArg₂ (· * ·) (blk0 m c t r k) (blk4 m c t k)

theorem gate_blk (t : Fin cfg0.N) (r : Fin 512) (l : Fin 1024) : @Eq EReal (k0_pay11 (F := Ideal) (iblk m c 3 t) (ix2 0 l)) (1 + atB (aG m c) ((t.val * 512 + r.val) / 2048) l.val) := by
  have ht : (t.val * 512 + r.val) / 2048 = t.val / 4 := by omega
  rw [ht]
  exact (Rs.pay11_at _ l).trans (congrArg (1 + ·) (blk3 m c t l))

theorem dbr_blk (t : Fin cfg0.N) (r : Fin 512) (l : Fin 1024) : @Eq EReal (k0_pay3 (F := Ideal) (k0_pay11 (F := Ideal) (iblk m c 3 t)) (k0_pay13 (F := Ideal) (k0_pay12 (F := Ideal) (iblk m c 2 t) (iblk m c 3 t) (iblk m c 1 t))) (k0_pay18 (F := Ideal) (iblk m c 0 t) (iblk m c 4 t)) (k0_pay19 (F := Ideal) (iblk m c 0 t) (k0_pay12 (F := Ideal) (iblk m c 2 t) (iblk m c 3 t) (iblk m c 1 t)) (iblk m c 4 t)) (ix2 r l)) ((1 + atB (aG m c) ((t.val * 512 + r.val) / 2048) l.val) * dr m c (t.val * 512 + r.val) l.val) :=
  (Rs.pay3_at _ _ _ _ r l).trans (congrArg₂ (· * ·) (gate_blk m c t r l) (dr_blk m c t r l))

theorem hat_blk (t : Fin cfg0.N) (k : Fin 512) (l : Fin 1024) :
    @Eq EReal (@HMul.hMul EReal EReal EReal _ (iblk m c 0 t (ix2 k l)) (k0_pay14 (F := Ideal) (k0_pay12 (F := Ideal) (iblk m c 2 t) (iblk m c 3 t) (iblk m c 1 t)) (ix2 k l))) (at2 (aD m c) (t.val * 512 + k.val) l.val * hat (rowR (aX m c) (aB m c) (aG m c) (t.val * 512 + k.val)) l.val) :=
  congrArg₂ (· * ·) (blk0 m c t k l) (Rs.hat_at _ k l _ fun j => Rs.cen_at _ _ _ k j _ fun j => row_at m c t k j)

theorem dgt_blk (t : Fin cfg0.N) (k : Fin 512) (l : Fin 1024) :
    @Eq EReal (@HMul.hMul EReal EReal EReal _ (k0_pay1 (F := Ideal) (k0_pay13 (F := Ideal) (k0_pay12 (F := Ideal) (iblk m c 2 t) (iblk m c 3 t) (iblk m c 1 t))) (k0_pay18 (F := Ideal) (iblk m c 0 t) (iblk m c 4 t)) (k0_pay19 (F := Ideal) (iblk m c 0 t) (k0_pay12 (F := Ideal) (iblk m c 2 t) (iblk m c 3 t) (iblk m c 1 t)) (iblk m c 4 t)) (ix2 k l)) (iblk m c 2 t (ix2 k l))) (dr m c (t.val * 512 + k.val) l.val * at2 (aB m c) (t.val * 512 + k.val) l.val) :=
  congrArg₂ (· * ·) (dr_blk m c t k l) (blk2 m c t k l)

/-- Entry `(i, j)` of the gradient in the carried stream, and in the branch. -/
abbrev ent0 (i j : ℕ) : EReal := c2 * dr m c i j
abbrev ent1 (i j : ℕ) : EReal := (1 + atB (aG m c) (i / 2048) j) * dr m c i j

theorem out5_at (t : Fin cfg0.N) (r : Fin 512) (l : Fin 1024) : @Eq EReal ((outsAt0 m c t.val t.isLt).1 (ix2 r l)) (ent0 m c (t.val * 512 + r.val) l.val) := by
  refine Eq.trans ?_ ((Rs.pay2_at _ _ _ r l).trans (congrArg (c2 * ·) (dr_blk m c t r l)))
  by_cases h0 : t.val % 16 = 0
  · rw [outsAt0_A m c t h0 (by omega)]
    dsimp only
    rw [Rs.outA5_eq]
  · by_cases h1 : t.val % 4 = 0
    · rw [outsAt0_C m c t h0 h1]
      dsimp only
      rw [Rs.outC5_eq]
    · rw [outsAt0_B m c t h0 h1]
      dsimp only
      rw [Rs.outB5_eq]

theorem out6_at (t : Fin cfg0.N) (r : Fin 512) (l : Fin 1024) : @Eq EReal ((outsAt0 m c t.val t.isLt).2.1 (ix2 r l)) (ent1 m c (t.val * 512 + r.val) l.val) := by
  refine Eq.trans ?_ ((Rs.pay4_at _ _ _ _ r l).trans (dbr_blk m c t r l))
  by_cases h0 : t.val % 16 = 0
  · rw [outsAt0_A m c t h0 (by omega)]
    dsimp only
    rw [Rs.outA6_eq]
  · by_cases h1 : t.val % 4 = 0
    · rw [outsAt0_C m c t h0 h1]
      dsimp only
      rw [Rs.outC6_eq]
    · rw [outsAt0_B m c t h0 h1]
      dsimp only
      rw [Rs.outB6_eq]

theorem out7_at (t : Fin cfg0.N) (h : t.val % 16 + 1 = 16) (l : Fin 1024) :
    @Eq EReal ((outsAt0 m c t.val t.isLt).2.2.1 (ix2 0 l)) (ent2 (aX m c) (aB m c) (aG m c) (at2 (aD m c)) l.val) := by
  have hq : t.val / 16 = 0 := tile_zero t
  have e := Pipeline.eq_sum_of_reset_step_apply_divmod (fun n h (j : Fin 1024) => ((outsAt0 m c n h).2.2.1 (ix2 0 j) : EReal)) 16 (fun _ => (0 : EReal))
    (fun q s j => ∑ k : Fin 512, at2 (aD m c) (q * 8192 + (512 * s + k.val)) j.val * hat (rowR (aX m c) (aB m c) (aG m c) (q * 8192 + (512 * s + k.val))) j.val)
    (fun t h i => ?_) (fun t h i => ?_) t l
  · rw [h, zero_add, hq] at e
    simp only [Nat.zero_mul, Nat.zero_add] at e
    exact e.trans (sum_tiles (fun k => at2 (aD m c) k l.val * hat (rowR (aX m c) (aB m c) (aG m c) k) l.val) 512 16)
  · rw [outsAt0_A m c t h (by omega)]
    dsimp only
    rw [Rs.outA7_eq]
    refine (Rs.pay15_at _ _ _ i _ fun k => hat_blk m c t k i).trans ?_
    rw [Rs.pay7_at]
    simp only [row_eq16]
  · by_cases h1 : t.val % 4 = 0
    · rw [outsAt0_C m c t h h1]
      dsimp only
      rw [Rs.outC7_eq]
      refine (Rs.pay15_at _ _ _ i _ fun k => hat_blk m c t k i).trans ?_
      simp only [row_eq16]
    · rw [outsAt0_B m c t h h1]
      dsimp only
      rw [Rs.outB7_eq]
      refine (Rs.pay15_at _ _ _ i _ fun k => hat_blk m c t k i).trans ?_
      simp only [row_eq16]

theorem out8_at (t : Fin cfg0.N) (h : t.val % 16 + 1 = 16) (l : Fin 1024) :
    @Eq EReal ((outsAt0 m c t.val t.isLt).2.2.2.1 (ix2 0 l)) (ent3 (at2 (aD m c)) l.val) := by
  have hq : t.val / 16 = 0 := tile_zero t
  have e := Pipeline.eq_sum_of_reset_step_apply_divmod (fun n h (j : Fin 1024) => ((outsAt0 m c n h).2.2.2.1 (ix2 0 j) : EReal)) 16 (fun _ => (0 : EReal))
    (fun q s j => ∑ k : Fin 512, at2 (aD m c) (q * 8192 + (512 * s + k.val)) j.val)
    (fun t h i => ?_) (fun t h i => ?_) t l
  · rw [h, zero_add, hq] at e
    simp only [Nat.zero_mul, Nat.zero_add] at e
    exact e.trans (sum_tiles (fun k => at2 (aD m c) k l.val) 512 16)
  · rw [outsAt0_A m c t h (by omega)]
    dsimp only
    rw [Rs.outA8_eq]
    refine (Rs.pay16_at _ _ i _ fun k => blk0 m c t k i).trans ?_
    rw [Rs.pay8_at]
    simp only [row_eq16]
  · by_cases h1 : t.val % 4 = 0
    · rw [outsAt0_C m c t h h1]
      dsimp only
      rw [Rs.outC8_eq]
      refine (Rs.pay16_at _ _ i _ fun k => blk0 m c t k i).trans ?_
      simp only [row_eq16]
    · rw [outsAt0_B m c t h h1]
      dsimp only
      rw [Rs.outB8_eq]
      refine (Rs.pay16_at _ _ i _ fun k => blk0 m c t k i).trans ?_
      simp only [row_eq16]

theorem out10_at (t : Fin cfg0.N) (h : t.val % 16 + 1 = 16) (l : Fin 1024) :
    @Eq EReal ((outsAt0 m c t.val t.isLt).2.2.2.2.2 (ix2 0 l)) (ent5 (aG m c) (dr m c) l.val) := by
  have hq : t.val / 16 = 0 := tile_zero t
  have e := Pipeline.eq_sum_of_reset_step_apply_divmod (fun n h (j : Fin 1024) => ((outsAt0 m c n h).2.2.2.2.2 (ix2 0 j) : EReal)) 16 (fun _ => (0 : EReal))
    (fun q s j => ∑ k : Fin 512, (1 + atB (aG m c) ((q * 8192 + (512 * s + k.val)) / 2048) j.val) * dr m c (q * 8192 + (512 * s + k.val)) j.val)
    (fun t h i => ?_) (fun t h i => ?_) t l
  · rw [h, zero_add, hq] at e
    simp only [Nat.zero_mul, Nat.zero_add] at e
    exact e.trans (sum_tiles (fun k => (1 + atB (aG m c) (k / 2048) l.val) * dr m c k l.val) 512 16)
  · rw [outsAt0_A m c t h (by omega)]
    dsimp only
    rw [Rs.outA10_eq]
    refine (Rs.pay5_at _ _ _ _ _ i _ fun k => dbr_blk m c t k i).trans ?_
    rw [Rs.pay9_at]
    simp only [row_eq16]
  · by_cases h1 : t.val % 4 = 0
    · rw [outsAt0_C m c t h h1]
      dsimp only
      rw [Rs.outC10_eq]
      refine (Rs.pay5_at _ _ _ _ _ i _ fun k => dbr_blk m c t k i).trans ?_
      simp only [row_eq16]
    · rw [outsAt0_B m c t h h1]
      dsimp only
      rw [Rs.outB10_eq]
      refine (Rs.pay5_at _ _ _ _ _ i _ fun k => dbr_blk m c t k i).trans ?_
      simp only [row_eq16]

theorem out9_at (t : Fin cfg0.N) (h : t.val % 4 + 1 = 4) (l : Fin 1024) :
    @Eq EReal ((outsAt0 m c t.val t.isLt).2.2.2.2.1 (ix3 0 0 l)) (ent4 (aB m c) (dr m c) (t.val / 4) l.val) := by
  have e := Pipeline.eq_sum_of_reset_step_apply_divmod (fun n h (j : Fin 1024) => ((outsAt0 m c n h).2.2.2.2.1 (ix3 0 0 j) : EReal)) 4 (fun _ => (0 : EReal))
    (fun q s j => ∑ k : Fin 512, dr m c (q * 2048 + (512 * s + k.val)) j.val * at2 (aB m c) (q * 2048 + (512 * s + k.val)) j.val)
    (fun t h i => ?_) (fun t h i => ?_) t l
  · rw [h, zero_add] at e
    exact e.trans (sum_tiles (fun k => dr m c (t.val / 4 * 2048 + k) l.val * at2 (aB m c) (t.val / 4 * 2048 + k) l.val) 512 4)
  · by_cases h0 : t.val % 16 = 0
    · rw [outsAt0_A m c t h0 h]
      dsimp only
      rw [Rs.outA9_eq]
      refine (Rs.pay6_at _ _ _ _ _ i _ fun k => dgt_blk m c t k i).trans ?_
      rw [Rs.pay10_at]
      simp only [row_eq]
    · rw [outsAt0_C m c t h0 h]
      dsimp only
      rw [Rs.outC9_eq]
      refine (Rs.pay6_at _ _ _ _ _ i _ fun k => dgt_blk m c t k i).trans ?_
      rw [Rs.pay10_at]
      simp only [row_eq]
  · rw [outsAt0_B m c t (by omega) h]
    dsimp only
    rw [Rs.outB9_eq]
    refine (Rs.pay6_at _ _ _ _ _ i _ fun k => dgt_blk m c t k i).trans ?_
    simp only [row_eq]

theorem arr5 : (dats m 0 c).arrAt 5 cfg0.N = res0 (dr m c) := by
  refine (dats m 0 c).arrAt_eq_of_covers 5 _ (by decide +kernel) fun t hf y => ?_
  blk_simp
  rw [after0_5]
  have hy : (y : (⟨2, ![512, 1024]⟩ : Shape).Idx) = ix2 (y 0) (y 1) := eq_ix2 (n0 := 512) (n1 := 1024) y
  refine Eq.trans ?_ ((out5_at m c t (y 0) (y 1)).trans ?_)
  · rw [hy]; rfl
  · refine congrArg₂ (ent0 m c) ?_ ?_ <;> blk_simp [idx5 t]

theorem arr6 : (dats m 0 c).arrAt 6 cfg0.N = res1 (aG m c) (dr m c) := by
  refine (dats m 0 c).arrAt_eq_of_covers 6 _ (by decide +kernel) fun t hf y => ?_
  blk_simp
  rw [after0_6]
  have hy : (y : (⟨2, ![512, 1024]⟩ : Shape).Idx) = ix2 (y 0) (y 1) := eq_ix2 (n0 := 512) (n1 := 1024) y
  refine Eq.trans ?_ ((out6_at m c t (y 0) (y 1)).trans ?_)
  · rw [hy]; rfl
  · refine congrArg₂ (ent1 m c) ?_ ?_ <;> blk_simp [idx6 t]

theorem arr7 : (dats m 0 c).arrAt 7 cfg0.N = res2 (aX m c) (aB m c) (aG m c) (at2 (aD m c)) := by
  refine (dats m 0 c).arrAt_eq_of_covers 7 _ (by decide +kernel) fun t hf y => ?_
  have h := (flush0_7 t).mp hf
  blk_simp
  rw [after0_7]
  have hy : (y : (⟨2, ![1, 1024]⟩ : Shape).Idx) = ix2 0 (y 1) := row_idx y
  refine Eq.trans ?_ ((out7_at m c t (by omega) (y 1)).trans ?_)
  · rw [hy]; rfl
  · refine congrArg (ent2 (aX m c) (aB m c) (aG m c) (at2 (aD m c))) ?_
    blk_simp [idx7 t]
    try rfl

theorem arr8 : (dats m 0 c).arrAt 8 cfg0.N = res3 (at2 (aD m c)) := by
  refine (dats m 0 c).arrAt_eq_of_covers 8 _ (by decide +kernel) fun t hf y => ?_
  have h := (flush0_8 t).mp hf
  blk_simp
  rw [after0_8]
  have hy : (y : (⟨2, ![1, 1024]⟩ : Shape).Idx) = ix2 0 (y 1) := row_idx y
  refine Eq.trans ?_ ((out8_at m c t (by omega) (y 1)).trans ?_)
  · rw [hy]; rfl
  · refine congrArg (ent3 (at2 (aD m c))) ?_
    blk_simp [idx8 t]
    try rfl

theorem arr10 : (dats m 0 c).arrAt 10 cfg0.N = res5 (aG m c) (dr m c) := by
  refine (dats m 0 c).arrAt_eq_of_covers 10 _ (by decide +kernel) fun t hf y => ?_
  have h := (flush0_10 t).mp hf
  blk_simp
  rw [after0_10]
  have hy : (y : (⟨2, ![1, 1024]⟩ : Shape).Idx) = ix2 0 (y 1) := row_idx y
  refine Eq.trans ?_ ((out10_at m c t (by omega) (y 1)).trans ?_)
  · rw [hy]; rfl
  · refine congrArg (ent5 (aG m c) (dr m c)) ?_
    blk_simp [idx10 t]
    try rfl

theorem arr9 : (dats m 0 c).arrAt 9 cfg0.N = res4 (aB m c) (dr m c) := by
  refine (dats m 0 c).arrAt_eq_of_covers 9 _ (by decide +kernel) fun t hf y => ?_
  have h := (flush0_9 t).mp hf
  blk_simp
  rw [after0_9]
  have hy : (y : (⟨3, ![1, 1, 1024]⟩ : Shape).Idx) = ix3 0 0 (y 2) := one_idx y
  refine Eq.trans ?_ ((out9_at m c t (by omega) (y 2)).trans ?_)
  · rw [hy]; rfl
  · refine congrArg₂ (ent4 (aB m c) (dr m c)) ?_ ?_ <;> blk_simp [idx9 t]
end Kern

/-! ## The precondition -/

/-- The side conditions of the precondition's own text. -/
instance preFacts : Cert.Pre_finite_res.Facts where
  bcast_S_S8192x1024 := by decide
  reducesTo_S8192x1024_S_d0_1 := by decide
  h_S_ := by decide
  bcast_S_S4x1x1024 := by decide
  reducesTo_S4x1x1024_S_d0_1_2 := by decide
  bcast_S_S1x1024 := by decide
  reducesTo_S1x1024_S_d0_1 := by decide

instance : Subsingleton Cert.Pre_finite_res.S_.Idx := ⟨fun a b => funext fun i => i.elim0⟩

/-- What the precondition says: every entry of the five arguments is a real. -/
theorem pre_real (D X B : FVec Ideal S8192x1024 .f32) (G : FVec Ideal S4x1x1024 .f32) (W : FVec Ideal S1x1024 .f32)
    (h : @Cert.Pre_finite_res.fn preFacts Ideal _ D X B G W = fun _ => 1#1) : IsReal D ∧ IsReal X ∧ IsReal B ∧ IsReal G ∧ IsReal W := by
  have e := congrFun h (fun i => i.elim0)
  dsimp only [Cert.Pre_finite_res.fn, Cert.Pre_finite_res.fn_part1, Cert.Pre_finite_res.fn_part2] at e
  obtain ⟨e, e4⟩ := Attn.and_one _ _ e
  obtain ⟨e, e3⟩ := Attn.and_one _ _ e
  obtain ⟨e, e2⟩ := Attn.and_one _ _ e
  obtain ⟨e0, e1⟩ := Attn.and_one _ _ e
  exact ⟨fun i => Attn.real_of _ (Host.reduce_andi_all _ _ _ _ _ e0 i), fun i => Attn.real_of _ (Host.reduce_andi_all _ _ _ _ _ e1 i), fun i => Attn.real_of _ (Host.reduce_andi_all _ _ _ _ _ e2 i), fun i => Attn.real_of _ (Host.reduce_andi_all _ _ _ _ _ e3 i), fun i => Attn.real_of _ (Host.reduce_andi_all _ _ _ _ _ e4 i)⟩

/-! ## The reference -/

section Ref
open Cert.ResGradRefIdeal Cert.ResGradRefIdeal.Gen

theorem twoT_at (x : FVec Ideal Cert.ResGradRefIdeal.S4x2048x1024 .f32) (f : ℕ → ℕ → EReal) (hx : ∀ b s j, @Eq EReal (x (ix3 b s j)) (f (b.val * 2048 + s.val) j.val)) (b : Fin 4) (s : Fin 2048) (j : Fin 1024) :
    @Eq EReal (twoT x (ix3 b s j)) (c2 * f (b.val * 2048 + s.val) j.val) := by
  rw [← hx]
  unfold c2
  pointwise [twoT]

theorem gateT_at (G : FVec Ideal Cert.ResGradRefIdeal.S4x1x1024 .f32) (x : FVec Ideal Cert.ResGradRefIdeal.S4x2048x1024 .f32) (f : ℕ → ℕ → EReal) (hx : ∀ b s j, @Eq EReal (x (ix3 b s j)) (f (b.val * 2048 + s.val) j.val)) (b : Fin 4) (s : Fin 2048) (j : Fin 1024) :
    @Eq EReal (mulf (Ref.over (Ref.oneT G)) x (ix3 b s j)) ((1 + atB G ((b.val * 2048 + s.val) / 2048) j.val) * f (b.val * 2048 + s.val) j.val) := by
  have hb : (b.val * 2048 + s.val) / 2048 = b.val := by omega
  rw [hb]
  exact congrArg₂ (· * ·) ((Ref.over_at b s j (Ref.oneT G)).trans (Ref.oneT_at b j G)) (hx b s j)
end Ref

theorem values : Cert.algebraic_ResGradIdeal_ResGradRefIdeal_pre_finite_res (hResGradIdeal := Cert.ResGradIdeal.Gen.facts) (hResGradRefIdeal := Cert.ResGradRefIdeal.Gen.facts) (hPre_finite_res := preFacts) := by
  intro m g m' g' hp ha
  refine ⟨fun c => res0 (dr m c), fun c => res1 (aG m c) (dr m c), fun c => res2 (aX m c) (aB m c) (aG m c) (at2 (aD m c)), fun c => res3 (at2 (aD m c)), fun c => res4 (aB m c) (dr m c), fun c => res5 (aG m c) (dr m c),
    (θ_run defs _ _).mono (fun r h c => ⟨(h c).1.trans (arr5 m c), (h c).2.1.trans (arr6 m c), (h c).2.2.1.trans (arr7 m c), (h c).2.2.2.1.trans (arr8 m c), (h c).2.2.2.2.1.trans (arr9 m c), (h c).2.2.2.2.2.1.trans (arr10 m c), (h c).2.2.2.2.2.2⟩) (Cert.ResGradIdeal.Value.run_blocks (F := Ideal) m g), ?_⟩
  refine (θ_run Cert.ResGradRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ResGradRefIdeal.Value.run (F := Ideal) m' g')
  all_goals
    obtain ⟨e0, e1, e2, e3, e4⟩ := ha c
    obtain ⟨hD, hX, hB, hG, hW⟩ := pre_real _ _ _ _ _ (hp c)
    have ey : at2 (m' (c.tc.loc Cert.ResGradRefIdeal.main_arg0)) = at2 (aD m c) := congrArg at2 e0
    have e : drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0))) = dr m c :=
      (congr (congr (congr (congrArg₂ drR e1 e2) e3) e4) ey).trans (drR_eq _ _ _ _ _ hX hB hG hW fun i k => NormGrad.at2_real _ hD i k)
  · refine Eq.trans ?_ (congrArg res0 e)
    refine Eq.trans (b := flat (twoT (drT (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (Ref.tok (m' (c.tc.loc Cert.ResGradRefIdeal.main_arg0)))))) rfl ?_
    refine funext fun i => ?_
    rw [eq_ix2 (n0 := 8192) (n1 := 1024) i]
    exact flat_at (i 1) _ (fun i j => c2 * drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0))) i j) (fun b s j => twoT_at _ (drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0)))) (fun b s j => drT_at b s j _ _ _ _ _ _ fun b s j => Ref.tok_at b s j _) b s j) (i 0)
  · refine Eq.trans ?_ (congrArg₂ res1 e3 e)
    refine Eq.trans (b := flat (mulf (Ref.over (Ref.oneT (m' (c.tc.loc Cert.ResGradRefIdeal.main_arg3)))) (drT (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (Ref.tok (m' (c.tc.loc Cert.ResGradRefIdeal.main_arg0)))))) rfl ?_
    refine funext fun i => ?_
    rw [eq_ix2 (n0 := 8192) (n1 := 1024) i]
    exact flat_at (i 1) _ (fun i j => (1 + atB (m' (c.tc.loc Cert.ResGradRefIdeal.main_arg3)) (i / 2048) j) * drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0))) i j) (fun b s j => gateT_at _ _ (drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0)))) (fun b s j => drT_at b s j _ _ _ _ _ _ fun b s j => Ref.tok_at b s j _) b s j) (i 0)
  · refine Eq.trans ?_ (congr (congr (congrArg₂ res2 e1 e2) e3) ey)
    refine Eq.trans (b := colsT (mulf (Ref.hatT (resT (m' (c.tc.loc Cert.ResGradRefIdeal.main_arg1)) (m' (c.tc.loc Cert.ResGradRefIdeal.main_arg2)) (m' (c.tc.loc Cert.ResGradRefIdeal.main_arg3)))) (Ref.tok (m' (c.tc.loc Cert.ResGradRefIdeal.main_arg0))))) rfl ?_
    refine funext fun i => ?_
    rw [eq_ix2 (n0 := 1) (n1 := 1024) i]
    exact colsT_at (i 1) _ (fun k j => at2 (m' (c.tc.loc Cert.ResGradRefIdeal.main_arg0)) k j * hat (rowR (m' (c.tc.loc Cert.ResGradRefIdeal.main_arg1)) (m' (c.tc.loc Cert.ResGradRefIdeal.main_arg2)) (m' (c.tc.loc Cert.ResGradRefIdeal.main_arg3)) k) j) (fun b s j => (mul_comm _ _).trans (congrArg₂ (· * ·) (Ref.tok_at b s j _) (Ref.hatT_at (x := resT _ _ _) b s j fun k => resT_at b s k _ _ _))) (i 0)
  · refine Eq.trans ?_ (congrArg res3 ey)
    refine Eq.trans (b := colsT (Ref.tok (m' (c.tc.loc Cert.ResGradRefIdeal.main_arg0)))) rfl ?_
    refine funext fun i => ?_
    rw [eq_ix2 (n0 := 1) (n1 := 1024) i]
    exact colsT_at (i 1) _ (at2 (m' (c.tc.loc Cert.ResGradRefIdeal.main_arg0))) (fun b s j => Ref.tok_at b s j _) (i 0)
  · refine Eq.trans ?_ (congrArg₂ res4 e2 e)
    refine Eq.trans (b := NormGrad.tokens (mulf (drT (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (Ref.tok (m' (c.tc.loc Cert.ResGradRefIdeal.main_arg0)))) (Ref.tok (m' (c.tc.loc Cert.ResGradRefIdeal.main_arg2))))) rfl ?_
    refine funext fun i => ?_
    rw [eq_ix3 (n0 := 4) (n1 := 1) (n2 := 1024) i]
    exact NormGrad.tokens_at (i 0) (i 1) (i 2) _ (fun k => drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0))) ((i 0).val * 2048 + k) (i 2).val * at2 (m' (c.tc.loc Cert.ResGradRefIdeal.main_arg2)) ((i 0).val * 2048 + k) (i 2).val)
      fun s => congrArg₂ (· * ·) (drT_at (i 0) s (i 2) _ _ _ _ _ _ fun b s j => Ref.tok_at b s j _) (Ref.tok_at (i 0) s (i 2) _)
  · refine Eq.trans ?_ (congrArg₂ res5 e3 e)
    refine Eq.trans (b := colsT (mulf (Ref.over (Ref.oneT (m' (c.tc.loc Cert.ResGradRefIdeal.main_arg3)))) (drT (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (Ref.tok (m' (c.tc.loc Cert.ResGradRefIdeal.main_arg0)))))) rfl ?_
    refine funext fun i => ?_
    rw [eq_ix2 (n0 := 1) (n1 := 1024) i]
    exact colsT_at (i 1) _ (fun i j => (1 + atB (m' (c.tc.loc Cert.ResGradRefIdeal.main_arg3)) (i / 2048) j) * drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0))) i j) (fun b s j => gateT_at _ _ (drR (m' (c.tc.loc Cert.ResGradRefIdeal.main_arg1)) (m' (c.tc.loc Cert.ResGradRefIdeal.main_arg2)) (m' (c.tc.loc Cert.ResGradRefIdeal.main_arg3)) (m' (c.tc.loc Cert.ResGradRefIdeal.main_arg4)) (at2 (m' (c.tc.loc Cert.ResGradRefIdeal.main_arg0)))) (fun b s j => drT_at b s j _ _ _ _ _ _ fun b s j => Ref.tok_at b s j _) b s j) (i 0)

theorem frame_pre : Cert.quiescent_ResGradIdeal_pre_finite_res (hResGradIdeal := Cert.ResGradIdeal.Gen.facts) (hPre_finite_res := preFacts) := fun m ρ _ => Cert.ResGradIdeal.Gen.frame m ρ

theorem frame_ref : Cert.quiescent_ResGradRefIdeal (hResGradRefIdeal := Cert.ResGradRefIdeal.Gen.facts) := fun m ρ _ =>
  (θ_run Cert.ResGradRefIdeal.defs _ _).mono (fun r h => ⟨fun c => (h c).2.2.2.2.2.2, sem_eq_zero_of_no_sems (by decide) r.2⟩)
    (Cert.ResGradRefIdeal.Value.run (F := Ideal) m ρ)

theorem frame_ref_pre : Cert.quiescent_ResGradRefIdeal_pre_finite_res (hResGradRefIdeal := Cert.ResGradRefIdeal.Gen.facts) (hPre_finite_res := preFacts) := fun m ρ _ =>
  frame_ref m ρ trivial

end Cert.Proof.ResGrad

end
-- ==== Proof.ModOut.lean ====
/-
  What a tile of the gradient of a residual norm and of the modulated norm after it leaves in each result's block.
-/
module

public import proofs.«01_k».proof.Proof.LnSum
public import proofs.«01_k».proof.Proof.LnOut
public import proofs.«01_k».proof.Proof.LnReal
public import proofs.«01_k».proof.Proof.Gen.ResModGradIdeal.Value

@[expose] public section

set_option maxRecDepth 16384

noncomputable section

namespace Cert.Proof.Md

open Cert.ResModGradIdeal Cert.ResModGradIdeal.Gen Cert.Proof.Prod Cert.Proof.Ln Cert.Proof.Rs
open Idealize.ShloMosaic Idealize.ShloMosaic.TcCoe
open scoped BigOperators

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1x1024 .f32) (harg15 : arg15.IsWhole) (arg16 : Memref sig .tc .vmem S1x1x1024 .f32) (harg16 : arg16.IsWhole)
  (x0 : Vec Ideal S512x1024 .f32) (x1 : Vec Ideal S512x1024 .f32) (x2 : Vec Ideal S1x1x1024 .f32) (x3 : Vec Ideal S512x1024 .f32) (x4 : Vec Ideal S512x1024 .f32) (x5 : Vec Ideal S512x1024 .f32) (x6 : Vec Ideal S1x1x1024 .f32) (x7 : Vec Ideal S1x1024 .f32) (xo10 : Vec Ideal S1x1024 .f32) (xo11 : Vec Ideal S1x1024 .f32) (xo12 : Vec Ideal S1x1x1024 .f32) (xo13 : Vec Ideal S1x1024 .f32) (xo14 : Vec Ideal S1x1x1024 .f32) (xo15 : Vec Ideal S1x1x1024 .f32)

theorem outA8_eq (hc0 : cond0_0 i) (hc1 : cond0_1 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay22 (k0_pay14 (k0_pay13 x0 (k0_pay9 x1) (k0_pay10 x1) x2) x3) (k0_pay17 x5 x6 x4) (k0_pay18 x5 x6 x4) x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA9_eq (hc0 : cond0_0 i) (hc1 : cond0_1 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay24 (k0_pay14 (k0_pay13 x0 (k0_pay9 x1) (k0_pay10 x1) x2) x3) (k0_pay15 x6) (k0_pay17 x5 x6 x4) (k0_pay18 x5 x6 x4) x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA10_eq (hc0 : cond0_0 i) (hc1 : cond0_1 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay19 (k0_pay13 x0 (k0_pay9 x1) (k0_pay10 x1) x2) x3 x5 x6 x4 (k0_pay2 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA11_eq (hc0 : cond0_0 i) (hc1 : cond0_1 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay20 (k0_pay14 (k0_pay13 x0 (k0_pay9 x1) (k0_pay10 x1) x2) x3) (k0_pay3 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA12_eq (hc0 : cond0_0 i) (hc1 : cond0_1 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay1 x5 (k0_pay21 (k0_pay14 (k0_pay13 x0 (k0_pay9 x1) (k0_pay10 x1) x2) x3) (k0_pay17 x5 x6 x4) (k0_pay18 x5 x6 x4) x7) (k0_pay5 (F := Ideal)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA13_eq (hc0 : cond0_0 i) (hc1 : cond0_1 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay25 (k0_pay14 (k0_pay13 x0 (k0_pay9 x1) (k0_pay10 x1) x2) x3) (k0_pay15 x6) (k0_pay17 x5 x6 x4) (k0_pay18 x5 x6 x4) x7 (k0_pay4 (F := Ideal)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1024) z2, View.readCov_unit_zero (S := S1x1024) _ z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA14_eq (hc0 : cond0_0 i) (hc1 : cond0_1 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay11 x0 (k0_pay10 x1) (k0_pay6 (F := Ideal)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outA15_eq (hc0 : cond0_0 i) (hc1 : cond0_1 i) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay12 x0 (k0_pay7 (F := Ideal)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB8_eq (hc0 : ¬cond0_0 i) (hc1 : ¬cond0_1 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay22 (k0_pay14 (k0_pay13 x0 (k0_pay9 x1) (k0_pay10 x1) x2) x3) (k0_pay17 x5 x6 x4) (k0_pay18 x5 x6 x4) x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB9_eq (hc0 : ¬cond0_0 i) (hc1 : ¬cond0_1 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay24 (k0_pay14 (k0_pay13 x0 (k0_pay9 x1) (k0_pay10 x1) x2) x3) (k0_pay15 x6) (k0_pay17 x5 x6 x4) (k0_pay18 x5 x6 x4) x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB10_eq (hc0 : ¬cond0_0 i) (hc1 : ¬cond0_1 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay19 (k0_pay13 x0 (k0_pay9 x1) (k0_pay10 x1) x2) x3 x5 x6 x4 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB11_eq (hc0 : ¬cond0_0 i) (hc1 : ¬cond0_1 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay20 (k0_pay14 (k0_pay13 x0 (k0_pay9 x1) (k0_pay10 x1) x2) x3) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB12_eq (hc0 : ¬cond0_0 i) (hc1 : ¬cond0_1 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay1 x5 (k0_pay21 (k0_pay14 (k0_pay13 x0 (k0_pay9 x1) (k0_pay10 x1) x2) x3) (k0_pay17 x5 x6 x4) (k0_pay18 x5 x6 x4) x7) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB13_eq (hc0 : ¬cond0_0 i) (hc1 : ¬cond0_1 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay25 (k0_pay14 (k0_pay13 x0 (k0_pay9 x1) (k0_pay10 x1) x2) x3) (k0_pay15 x6) (k0_pay17 x5 x6 x4) (k0_pay18 x5 x6 x4) x7 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB14_eq (hc0 : ¬cond0_0 i) (hc1 : ¬cond0_1 i) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay11 x0 (k0_pay10 x1) xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outB15_eq (hc0 : ¬cond0_0 i) (hc1 : ¬cond0_1 i) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15 = k0_pay12 x0 xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo12 xo13 xo14 xo15)]
  unfold kernelRun0_B
  dsimp only
  try sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC8_eq (hc0 : ¬cond0_0 i) (hc1 : cond0_1 i) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay22 (k0_pay14 (k0_pay13 x0 (k0_pay9 x1) (k0_pay10 x1) x2) x3) (k0_pay17 x5 x6 x4) (k0_pay18 x5 x6 x4) x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC9_eq (hc0 : ¬cond0_0 i) (hc1 : cond0_1 i) : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay24 (k0_pay14 (k0_pay13 x0 (k0_pay9 x1) (k0_pay10 x1) x2) x3) (k0_pay15 x6) (k0_pay17 x5 x6 x4) (k0_pay18 x5 x6 x4) x7 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC10_eq (hc0 : ¬cond0_0 i) (hc1 : cond0_1 i) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay19 (k0_pay13 x0 (k0_pay9 x1) (k0_pay10 x1) x2) x3 x5 x6 x4 xo10 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC11_eq (hc0 : ¬cond0_0 i) (hc1 : cond0_1 i) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay20 (k0_pay14 (k0_pay13 x0 (k0_pay9 x1) (k0_pay10 x1) x2) x3) xo11 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC12_eq (hc0 : ¬cond0_0 i) (hc1 : cond0_1 i) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay1 x5 (k0_pay21 (k0_pay14 (k0_pay13 x0 (k0_pay9 x1) (k0_pay10 x1) x2) x3) (k0_pay17 x5 x6 x4) (k0_pay18 x5 x6 x4) x7) (k0_pay5 (F := Ideal)) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC13_eq (hc0 : ¬cond0_0 i) (hc1 : cond0_1 i) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay25 (k0_pay14 (k0_pay13 x0 (k0_pay9 x1) (k0_pay10 x1) x2) x3) (k0_pay15 x6) (k0_pay17 x5 x6 x4) (k0_pay18 x5 x6 x4) x7 xo13 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC14_eq (hc0 : ¬cond0_0 i) (hc1 : cond0_1 i) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay11 x0 (k0_pay10 x1) (k0_pay6 (F := Ideal)) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

theorem outC15_eq (hc0 : ¬cond0_0 i) (hc1 : cond0_1 i) : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13 = k0_pay12 x0 (k0_pay7 (F := Ideal)) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xo11 xo13)]
  unfold kernelRun0_C
  dsimp only
  try sl_unfold_words
  rw [View.canon_cons_unit_zero (S := S1x1x1024) z3, View.readCov_unit_zero (S := S1x1x1024) _ z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1x1024) z3, View.ld_unit_zero (S := S512x1024) z2, View.ld_unit_zero (S := S1x1024) z2, shapeCast_self]

end

section
variable (x z X B : Vec Ideal S512x1024 .f32) (y : FVec Ideal S512x1024 .f32) (G : Vec Ideal S1x1x1024 .f32) (g : Vec Ideal S1x1024 .f32) (p : FVec Ideal S512x1 .f32) (s w : FVec Ideal S512x1024 .f32) (u : FVec Ideal S1x1024 .f32) (a : Vec Ideal S1x1024 .f32) (a3 : Vec Ideal S1x1x1024 .f32) (r : Fin 512) (l : Fin 1024) (f d : ℕ → EReal)

theorem cena_at (hf : ∀ k : Fin 1024, @Eq EReal (x (ix2 r k)) (f k.val)) : @Eq EReal (k0_pay8 (F := Ideal) x (ix2 r l)) (cen f l.val) := by
  unfold cen avg
  simp only [← hf]
  pointwise [k0_pay8]

theorem rsta_at (hf : ∀ k : Fin 1024, @Eq EReal (x (ix2 r k)) (f k.val)) : @Eq EReal (k0_pay9 (F := Ideal) x (ix2 r 0)) (rst f) := by
  unfold rst var avg
  simp only [← fun k => cena_at x r k f hf]
  unfold k0_pay9
  try dsimp only
  generalize k0_pay8 (F := Ideal) x = q
  pointwise

theorem hata_at (hf : ∀ k : Fin 1024, @Eq EReal (x (ix2 r k)) (f k.val)) : @Eq EReal (k0_pay10 (F := Ideal) x (ix2 r l)) (hat f l.val) := by
  unfold hat
  rw [← rsta_at x r f hf, ← cena_at x r l f hf]
  unfold k0_pay10
  try dsimp only
  generalize k0_pay9 (F := Ideal) x = q
  generalize k0_pay8 (F := Ideal) x = q'
  pointwise

theorem pay15_at : @Eq EReal (k0_pay15 (F := Ideal) G (ix2 0 l)) (1 + (G (ix3 0 0 l) : EReal)) := by pointwise [k0_pay15]

theorem cenr_at (hf : ∀ k : Fin 1024, @Eq EReal (c2 * (X (ix2 r k) : EReal) + (1 + (G (ix3 0 0 k) : EReal)) * (B (ix2 r k) : EReal)) (f k.val)) :
    @Eq EReal (k0_pay16 (F := Ideal) B G X (ix2 r l)) (cen f l.val) := by
  unfold cen avg
  simp only [← hf]
  unfold c2
  pointwise [k0_pay16, k0_pay15]

theorem rstr_at (hf : ∀ k : Fin 1024, @Eq EReal (c2 * (X (ix2 r k) : EReal) + (1 + (G (ix3 0 0 k) : EReal)) * (B (ix2 r k) : EReal)) (f k.val)) :
    @Eq EReal (k0_pay17 (F := Ideal) B G X (ix2 r 0)) (rst f) := by
  unfold rst var avg
  simp only [← fun k => cenr_at X B G r k f hf]
  unfold k0_pay17
  try dsimp only
  generalize k0_pay16 (F := Ideal) B G X = q
  pointwise

theorem hatr_at (hf : ∀ k : Fin 1024, @Eq EReal (c2 * (X (ix2 r k) : EReal) + (1 + (G (ix3 0 0 k) : EReal)) * (B (ix2 r k) : EReal)) (f k.val)) :
    @Eq EReal (k0_pay18 (F := Ideal) B G X (ix2 r l)) (hat f l.val) := by
  unfold hat
  rw [← rstr_at X B G r f hf, ← cenr_at X B G r l f hf]
  unfold k0_pay18
  try dsimp only
  generalize k0_pay17 (F := Ideal) B G X = q
  generalize k0_pay16 (F := Ideal) B G X = q'
  pointwise

/-- The gradient through the modulated norm, of a tile. -/
theorem kd_at (hp : @Eq EReal (p (ix2 r 0)) (rst f)) (hs : ∀ k : Fin 1024, @Eq EReal (s (ix2 r k)) (hat f k.val)) (hd : ∀ k : Fin 1024, @Eq EReal ((x (ix2 r k) : EReal) * (1 + (G (ix3 0 0 k) : EReal))) (d k.val)) :
    @Eq EReal (k0_pay13 (F := Ideal) x p s G (ix2 r l)) (kdx f d l.val) := by
  unfold kdx avg
  simp only [← hd, ← hs]
  rw [← hp]
  pointwise [k0_pay13]

theorem pay14_at : @Eq EReal (k0_pay14 (F := Ideal) y x (ix2 r l)) ((y (ix2 r l) : EReal) + (x (ix2 r l) : EReal)) := by
  pointwise [k0_pay14]

/-- The gradient in the residual sum, of a tile. -/
theorem dr_at (hp : @Eq EReal (p (ix2 r 0)) (rst f)) (hs : ∀ k : Fin 1024, @Eq EReal (s (ix2 r k)) (hat f k.val)) (hd : ∀ k : Fin 1024, @Eq EReal ((y (ix2 r k) : EReal) * (g (ix2 0 k) : EReal)) (d k.val)) :
    @Eq EReal (k0_pay21 (F := Ideal) y p s g (ix2 r l)) (kdx f d l.val) := by
  unfold kdx avg
  simp only [← hd, ← hs]
  rw [← hp]
  pointwise [k0_pay21]

theorem pay22_at : @Eq EReal (k0_pay22 (F := Ideal) y p s g (ix2 r l)) (c2 * (k0_pay21 (F := Ideal) y p s g (ix2 r l) : EReal)) := by
  unfold k0_pay22
  try dsimp only
  generalize k0_pay21 (F := Ideal) y p s g = q
  unfold c2
  pointwise

theorem pay23_at : @Eq EReal (k0_pay23 (F := Ideal) y u p s g (ix2 r l)) ((u (ix2 0 l) : EReal) * (k0_pay21 (F := Ideal) y p s g (ix2 r l) : EReal)) := by
  unfold k0_pay23
  try dsimp only
  generalize k0_pay21 (F := Ideal) y p s g = q
  pointwise

theorem pay24_at : @Eq EReal (k0_pay24 (F := Ideal) y u p s g (ix2 r l)) (k0_pay23 (F := Ideal) y u p s g (ix2 r l)) := by
  unfold k0_pay24
  try dsimp only
  generalize k0_pay23 (F := Ideal) y u p s g = q
  pointwise

variable (h : Fin 512 → EReal)

theorem pay11_at (hx : ∀ k : Fin 512, @Eq EReal ((x (ix2 k l) : EReal) * (y (ix2 k l) : EReal)) (h k)) :
    @Eq EReal (k0_pay11 (F := Ideal) x y a3 (ix3 0 0 l)) (a3 (ix3 0 0 l) + ∑ k : Fin 512, h k) := by
  simp only [← hx]
  pointwise [k0_pay11]

theorem pay12_at (hx : ∀ k : Fin 512, @Eq EReal (x (ix2 k l)) (h k)) : @Eq EReal (k0_pay12 (F := Ideal) x a3 (ix3 0 0 l)) (a3 (ix3 0 0 l) + ∑ k : Fin 512, h k) := by
  simp only [← hx]
  pointwise [k0_pay12]

theorem pay1_at (hx : ∀ k : Fin 512, @Eq EReal ((y (ix2 k l) : EReal) * (x (ix2 k l) : EReal)) (h k)) :
    @Eq EReal (k0_pay1 (F := Ideal) x y a3 (ix3 0 0 l)) (a3 (ix3 0 0 l) + ∑ k : Fin 512, h k) := by
  simp only [← hx]
  pointwise [k0_pay1]

theorem pay19_at (hx : ∀ k : Fin 512, @Eq EReal ((k0_pay14 (F := Ideal) y z (ix2 k l) : EReal) * (k0_pay18 (F := Ideal) B G X (ix2 k l) : EReal)) (h k)) :
    @Eq EReal (k0_pay19 (F := Ideal) y z B G X a (ix2 0 l)) (a (ix2 0 l) + ∑ k : Fin 512, h k) := by
  simp only [← hx]
  unfold k0_pay19
  try dsimp only
  generalize k0_pay14 (F := Ideal) y z = q
  generalize k0_pay18 (F := Ideal) B G X = q'
  pointwise

theorem pay20_at (hx : ∀ k : Fin 512, @Eq EReal (y (ix2 k l)) (h k)) : @Eq EReal (k0_pay20 (F := Ideal) y a (ix2 0 l)) (a (ix2 0 l) + ∑ k : Fin 512, h k) := by
  simp only [← hx]
  pointwise [k0_pay20]

theorem pay25_at (hx : ∀ k : Fin 512, @Eq EReal (k0_pay23 (F := Ideal) y u p s g (ix2 k l)) (h k)) :
    @Eq EReal (k0_pay25 (F := Ideal) y u p s g a (ix2 0 l)) (a (ix2 0 l) + ∑ k : Fin 512, h k) := by
  simp only [← hx]
  unfold k0_pay25
  try dsimp only
  generalize k0_pay23 (F := Ideal) y u p s g = q
  pointwise

theorem pay2_at : @Eq EReal (k0_pay2 (F := Ideal) (ix2 0 l)) 0 := by pointwise [k0_pay2]
theorem pay3_at : @Eq EReal (k0_pay3 (F := Ideal) (ix2 0 l)) 0 := by pointwise [k0_pay3]
theorem pay4_at : @Eq EReal (k0_pay4 (F := Ideal) (ix2 0 l)) 0 := by pointwise [k0_pay4]
theorem pay5_at : @Eq EReal (k0_pay5 (F := Ideal) (ix3 0 0 l)) 0 := by pointwise [k0_pay5]
theorem pay6_at : @Eq EReal (k0_pay6 (F := Ideal) (ix3 0 0 l)) 0 := by pointwise [k0_pay6]
theorem pay7_at : @Eq EReal (k0_pay7 (F := Ideal) (ix3 0 0 l)) 0 := by pointwise [k0_pay7]
end

/-- Over reals the gradient of a row is real. -/
theorem kdx_real (f : ℕ → EReal) (x : ℕ → ℝ) (hf : ∀ k, f k = ((x k : ℝ) : EReal)) (d : ℕ → EReal) (y : ℕ → ℝ) (hd : ∀ k, d k = ((y k : ℝ) : EReal)) (j : ℕ) :
    kdx f d j = ((EReal.toReal (kdx f d j) : ℝ) : EReal) := by
  obtain ⟨c, v, r, hc, hv, hr, hpos, hrr, h0⟩ := row_real f x hf
  have hh : ∀ k, hat f k = ((c k * r : ℝ) : EReal) := fun k => by unfold hat; rw [hc, hr, ← EReal.coe_mul]
  have hk : kdx f d j = ((r * (y j - (∑ k : Fin 1024, y k.val) * (1 / 1024) - c j * r * ((∑ k : Fin 1024, y k.val * (c k.val * r)) * (1 / 1024))) : ℝ) : EReal) := by
    unfold kdx
    rw [avg_real d y hd, avg_real (fun k => d k * hat f k) (fun k => y k * (c k * r)) (fun k => by rw [hd, hh, ← EReal.coe_mul]), hr, hh, hd,
      ← EReal.coe_mul, ← EReal.coe_sub, ← EReal.coe_sub, ← EReal.coe_mul]
  rw [hk, EReal.toReal_coe]

/-- The gradient that reaches the residual norm is real, and both ways of writing it agree. -/
theorem ent_real (D X : Mat) (C : Bat) (R : Mat) (hD : IsReal D) (hX : IsReal X) (hC : IsReal C) (hR : IsReal R) :
    NormGrad.entR D X C R = NormGrad.entX D X C R ∧ ∀ i k, NormGrad.entX D X C R i k = ((EReal.toReal (NormGrad.entX D X C R i k) : ℝ) : EReal) := by
  have hd : ∀ i k, NormGrad.dh D C i k = ((EReal.toReal (at2 D i k) * (1 + EReal.toReal (atB C (i / 2048) k)) : ℝ) : EReal) := fun i k => by
    rw [EReal.coe_mul, EReal.coe_add, ← NormGrad.at2_real D hD, ← NormGrad.atB_real C hC]
    rfl
  constructor
  · funext i j
    exact congrArg (· + at2 R i j) (kdx_eq _ _ (fun k => NormGrad.at2_real X hX i k) _ _ (hd i) j).symm
  · intro i k
    show kdx _ _ _ + at2 _ _ _ = ((EReal.toReal (kdx _ _ _ + at2 _ _ _) : ℝ) : EReal)
    rw [kdx_real _ _ (fun k => NormGrad.at2_real X hX i k) _ _ (hd i) k, NormGrad.at2_real R hR i k, ← EReal.coe_add, EReal.toReal_coe]

end Cert.Proof.Md

end
-- ==== Proof.ResModGradVal.lean ====
/-
  The gradient of a residual norm and of the modulated norm after it: eight results, six of them sums over tokens.
-/
module

public import proofs.«01_k».proof.Proof.ModOut
public import proofs.«01_k».proof.Proof.ResGradVal
public import proofs.«01_k».proof.Proof.Gen.ResModGrad.Frame
public import proofs.«01_k».proof.Proof.Gen.ResModGradIdeal.Value
public import proofs.«01_k».proof.Proof.Gen.ResModGradRefIdeal.Run
public import proofs.«01_k».proof.Defs

@[expose] public section

set_option maxRecDepth 16384

noncomputable section

namespace Cert.Proof.ResModGrad

open Cert.ResModGradIdeal Cert.ResModGradIdeal.Gen Cert.Proof.Prod
open Idealize.ShloMosaic Idealize.ShloMosaic.TcCoe Idealize.ShloMosaic.StableHlo
open Idealize.SL.Sem
open scoped BigOperators

open Cert.Proof.Ln Cert.Proof.Rs

theorem tile_zero (t : Fin cfg0.N) : t.val / 16 = 0 := by
  have h : t.val < 16 := lt_of_lt_of_eq t.isLt N_0
  omega

section Kern
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val / 4, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val / 4, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val / 4, 0, 0] := (by decide +kernel : ∀ t : Fin grid0.N, _)
theorem idx15 : ∀ t : Fin cfg0.N, win0_15.index t = ![t.val / 4, 0, 0] := (by decide +kernel : ∀ t : Fin grid0.N, _)

variable (m : (ℓ : Loc nD τ sig) → Buf (Elt Ideal) ℓ) (c : Dev nD)

abbrev aU : S8192x1024.Idx → EReal := m ((c : Thread nD τ).loc main_arg0)
abbrev aA : S8192x1024.Idx → EReal := m ((c : Thread nD τ).loc main_arg1)
abbrev aS : S4x1x1024.Idx → EReal := m ((c : Thread nD τ).loc main_arg2)
abbrev aR : S8192x1024.Idx → EReal := m ((c : Thread nD τ).loc main_arg3)
abbrev aX : S8192x1024.Idx → EReal := m ((c : Thread nD τ).loc main_arg4)
abbrev aB : S8192x1024.Idx → EReal := m ((c : Thread nD τ).loc main_arg5)
abbrev aG : S4x1x1024.Idx → EReal := m ((c : Thread nD τ).loc main_arg6)
abbrev aW : S1x1024.Idx → EReal := m ((c : Thread nD τ).loc main_arg7)

theorem blk0 (t : Fin cfg0.N) (r : Fin 512) (l : Fin 1024) : @Eq EReal (iblk m c 0 t (ix2 r l)) (at2 (aU m c) (t.val * 512 + r.val) l.val) := by
  refine at2_idx (aU m c) _ ?_ ?_ <;> blk_simp [idx0 t]

theorem blk1 (t : Fin cfg0.N) (r : Fin 512) (l : Fin 1024) : @Eq EReal (iblk m c 1 t (ix2 r l)) (at2 (aA m c) (t.val * 512 + r.val) l.val) := by
  refine at2_idx (aA m c) _ ?_ ?_ <;> blk_simp [idx1 t]

theorem blk2 (t : Fin cfg0.N) (l : Fin 1024) : @Eq EReal (iblk m c 2 t (ix3 0 0 l)) (atB (aS m c) (t.val / 4) l.val) := by
  refine atB_idx (aS m c) _ ?_ ?_ <;> blk_simp [idx2 t]
  rfl

theorem blk3 (t : Fin cfg0.N) (r : Fin 512) (l : Fin 1024) : @Eq EReal (iblk m c 3 t (ix2 r l)) (at2 (aR m c) (t.val * 512 + r.val) l.val) := by
  refine at2_idx (aR m c) _ ?_ ?_ <;> blk_simp [idx3 t]

theorem blk4 (t : Fin cfg0.N) (r : Fin 512) (l : Fin 1024) : @Eq EReal (iblk m c 4 t (ix2 r l)) (at2 (aX m c) (t.val * 512 + r.val) l.val) := by
  refine at2_idx (aX m c) _ ?_ ?_ <;> blk_simp [idx4 t]

theorem blk5 (t : Fin cfg0.N) (r : Fin 512) (l : Fin 1024) : @Eq EReal (iblk m c 5 t (ix2 r l)) (at2 (aB m c) (t.val * 512 + r.val) l.val) := by
  refine at2_idx (aB m c) _ ?_ ?_ <;> blk_simp [idx5 t]

theorem blk6 (t : Fin cfg0.N) (l : Fin 1024) : @Eq EReal (iblk m c 6 t (ix3 0 0 l)) (atB (aG m c) (t.val / 4) l.val) := by
  refine atB_idx (aG m c) _ ?_ ?_ <;> blk_simp [idx6 t]
  rfl

theorem blk7 (t : Fin cfg0.N) (l : Fin 1024) : @Eq EReal (iblk m c 7 t (ix2 0 l)) (at2 (aW m c) 0 l.val) := by
  refine at2_idx (aW m c) _ ?_ ?_ <;> blk_simp [idx7 t]
  rfl

/-- The gradient that reaches the residual norm, and the gradient in the residual sum, as the kernel writes them. -/
abbrev dy : ℕ → ℕ → EReal := NormGrad.entX (aU m c) (aA m c) (aS m c) (aR m c)
abbrev dr : ℕ → ℕ → EReal := drK (aX m c) (aB m c) (aG m c) (aW m c) (dy m c)

theorem row_at (t : Fin cfg0.N) (r : Fin 512) (k : Fin 1024) :
    @Eq EReal (c2 * @id EReal (iblk m c 4 t (ix2 r k)) + (1 + @id EReal (iblk m c 6 t (ix3 0 0 k))) * @id EReal (iblk m c 5 t (ix2 r k))) (rowR (aX m c) (aB m c) (aG m c) (t.val * 512 + r.val) k.val) := by
  have ht : (t.val * 512 + r.val) / 2048 = t.val / 4 := by omega
  unfold rowR
  rw [ht]
  exact congrArg₂ (· + ·) (congrArg (c2 * ·) (blk4 m c t r k)) (congrArg₂ (· * ·) (congrArg (1 + ·) (blk6 m c t k)) (blk5 m c t r k))

theorem dy_blk (t : Fin cfg0.N) (r : Fin 512) (l : Fin 1024) : @Eq EReal (k0_pay14 (F := Ideal) (k0_pay13 (F := Ideal) (iblk m c 0 t) (k0_pay9 (F := Ideal) (iblk m c 1 t)) (k0_pay10 (F := Ideal) (iblk m c 1 t)) (iblk m c 2 t)) (iblk m c 3 t) (ix2 r l)) (dy m c (t.val * 512 + r.val) l.val) := by
  have ht : (t.val * 512 + r.val) / 2048 = t.val / 4 := by omega
  refine (Md.pay14_at _ _ r l).trans (congrArg₂ (· + ·) ?_ (blk3 m c t r l))
  exact Md.kd_at _ _ _ _ r l (at2 (aA m c) (t.val * 512 + r.val)) (NormGrad.dh (aU m c) (aS m c) (t.val * 512 + r.val)) (Md.rsta_at _ r _ fun k => blk1 m c t r k)
    (fun k => Md.hata_at _ r k _ fun k => blk1 m c t r k) fun k => congrArg₂ (· * ·) (blk0 m c t r k) (congrArg (1 + ·) ((blk2 m c t k).trans (by rw [ht])))

theorem dr_blk (t : Fin cfg0.N) (r : Fin 512) (l : Fin 1024) : @Eq EReal (k0_pay21 (F := Ideal) (k0_pay14 (F := Ideal) (k0_pay13 (F := Ideal) (iblk m c 0 t) (k0_pay9 (F := Ideal) (iblk m c 1 t)) (k0_pay10 (F := Ideal) (iblk m c 1 t)) (iblk m c 2 t)) (iblk m c 3 t)) (k0_pay17 (F := Ideal) (iblk m c 5 t) (iblk m c 6 t) (iblk m c 4 t)) (k0_pay18 (F := Ideal) (iblk m c 5 t) (iblk m c 6 t) (iblk m c 4 t)) (iblk m c 7 t) (ix2 r l)) (dr m c (t.val * 512 + r.val) l.val) :=
  Md.dr_at _ _ _ _ r l (rowR (aX m c) (aB m c) (aG m c) (t.val * 512 + r.val)) (fun k => dy m c (t.val * 512 + r.val) k * at2 (aW m c) 0 k) (Md.rstr_at _ _ _ r _ fun k => row_at m c t r k)
    (fun k => Md.hatr_at _ _ _ r k _ fun k => row_at m c t r k) fun k => congrArg₂ (· * ·) (dy_blk m c t r k) (blk7 m c t k)

theorem dbr_blk (t : Fin cfg0.N) (r : Fin 512) (l : Fin 1024) : @Eq EReal (k0_pay23 (F := Ideal) (k0_pay14 (F := Ideal) (k0_pay13 (F := Ideal) (iblk m c 0 t) (k0_pay9 (F := Ideal) (iblk m c 1 t)) (k0_pay10 (F := Ideal) (iblk m c 1 t)) (iblk m c 2 t)) (iblk m c 3 t)) (k0_pay15 (F := Ideal) (iblk m c 6 t)) (k0_pay17 (F := Ideal) (iblk m c 5 t) (iblk m c 6 t) (iblk m c 4 t)) (k0_pay18 (F := Ideal) (iblk m c 5 t) (iblk m c 6 t) (iblk m c 4 t)) (iblk m c 7 t) (ix2 r l)) ((1 + atB (aG m c) ((t.val * 512 + r.val) / 2048) l.val) * dr m c (t.val * 512 + r.val) l.val) := by
  have ht : (t.val * 512 + r.val) / 2048 = t.val / 4 := by omega
  rw [ht]
  exact (Md.pay23_at _ _ _ _ _ r l).trans (congrArg₂ (· * ·) ((Md.pay15_at _ l).trans (congrArg (1 + ·) (blk6 m c t l))) (dr_blk m c t r l))

theorem dg_blk (t : Fin cfg0.N) (k : Fin 512) (l : Fin 1024) :
    @Eq EReal (@HMul.hMul EReal EReal EReal _ (k0_pay14 (F := Ideal) (k0_pay13 (F := Ideal) (iblk m c 0 t) (k0_pay9 (F := Ideal) (iblk m c 1 t)) (k0_pay10 (F := Ideal) (iblk m c 1 t)) (iblk m c 2 t)) (iblk m c 3 t) (ix2 k l)) (k0_pay18 (F := Ideal) (iblk m c 5 t) (iblk m c 6 t) (iblk m c 4 t) (ix2 k l))) (dy m c (t.val * 512 + k.val) l.val * hat (rowR (aX m c) (aB m c) (aG m c) (t.val * 512 + k.val)) l.val) :=
  congrArg₂ (· * ·) (dy_blk m c t k l) (Md.hatr_at _ _ _ k l _ fun j => row_at m c t k j)

theorem dgt_blk (t : Fin cfg0.N) (k : Fin 512) (l : Fin 1024) :
    @Eq EReal (@HMul.hMul EReal EReal EReal _ (k0_pay21 (F := Ideal) (k0_pay14 (F := Ideal) (k0_pay13 (F := Ideal) (iblk m c 0 t) (k0_pay9 (F := Ideal) (iblk m c 1 t)) (k0_pay10 (F := Ideal) (iblk m c 1 t)) (iblk m c 2 t)) (iblk m c 3 t)) (k0_pay17 (F := Ideal) (iblk m c 5 t) (iblk m c 6 t) (iblk m c 4 t)) (k0_pay18 (F := Ideal) (iblk m c 5 t) (iblk m c 6 t) (iblk m c 4 t)) (iblk m c 7 t) (ix2 k l)) (iblk m c 5 t (ix2 k l))) (dr m c (t.val * 512 + k.val) l.val * at2 (aB m c) (t.val * 512 + k.val) l.val) :=
  congrArg₂ (· * ·) (dr_blk m c t k l) (blk5 m c t k l)

theorem dsc_blk (t : Fin cfg0.N) (k : Fin 512) (l : Fin 1024) :
    @Eq EReal (@HMul.hMul EReal EReal EReal _ (iblk m c 0 t (ix2 k l)) (k0_pay10 (F := Ideal) (iblk m c 1 t) (ix2 k l))) (at2 (aU m c) (t.val * 512 + k.val) l.val * hat (at2 (aA m c) (t.val * 512 + k.val)) l.val) :=
  congrArg₂ (· * ·) (blk0 m c t k l) (Md.hata_at _ k l _ fun j => blk1 m c t k j)

/-- Entry `(i, j)` of the gradient in the carried stream, and in the branch. -/
abbrev ent0 (i j : ℕ) : EReal := c2 * dr m c i j
abbrev ent1 (i j : ℕ) : EReal := (1 + atB (aG m c) (i / 2048) j) * dr m c i j

theorem out8_at (t : Fin cfg0.N) (r : Fin 512) (l : Fin 1024) : @Eq EReal ((outsAt0 m c t.val t.isLt).1 (ix2 r l)) (ent0 m c (t.val * 512 + r.val) l.val) := by
  refine Eq.trans ?_ ((Md.pay22_at _ _ _ _ r l).trans (congrArg (c2 * ·) (dr_blk m c t r l)))
  by_cases h0 : t.val % 16 = 0
  · rw [outsAt0_A m c t h0 (by omega)]
    dsimp only
    rw [Md.outA8_eq]
  · by_cases h1 : t.val % 4 = 0
    · rw [outsAt0_C m c t h0 h1]
      dsimp only
      rw [Md.outC8_eq]
    · rw [outsAt0_B m c t h0 h1]
      dsimp only
      rw [Md.outB8_eq]

theorem out9_at (t : Fin cfg0.N) (r : Fin 512) (l : Fin 1024) : @Eq EReal ((outsAt0 m c t.val t.isLt).2.1 (ix2 r l)) (ent1 m c (t.val * 512 + r.val) l.val) := by
  refine Eq.trans ?_ ((Md.pay24_at _ _ _ _ _ r l).trans (dbr_blk m c t r l))
  by_cases h0 : t.val % 16 = 0
  · rw [outsAt0_A m c t h0 (by omega)]
    dsimp only
    rw [Md.outA9_eq]
  · by_cases h1 : t.val % 4 = 0
    · rw [outsAt0_C m c t h0 h1]
      dsimp only
      rw [Md.outC9_eq]
    · rw [outsAt0_B m c t h0 h1]
      dsimp only
      rw [Md.outB9_eq]

theorem out10_at (t : Fin cfg0.N) (h : t.val % 16 + 1 = 16) (l : Fin 1024) : @Eq EReal ((outsAt0 m c t.val t.isLt).2.2.1 (ix2 0 l)) (ent2 (aX m c) (aB m c) (aG m c) (dy m c) l.val) := by
  have hq : t.val / 16 = 0 := tile_zero t
  have e := Pipeline.eq_sum_of_reset_step_apply_divmod (fun n h (j : Fin 1024) => ((outsAt0 m c n h).2.2.1 (ix2 0 j) : EReal)) 16 (fun _ => (0 : EReal))
    (fun q s j => ∑ k : Fin 512, dy m c (q * 8192 + (512 * s + k.val)) j.val * hat (rowR (aX m c) (aB m c) (aG m c) (q * 8192 + (512 * s + k.val))) j.val) (fun t h i => ?_) (fun t h i => ?_) t l
  · rw [h, zero_add, hq] at e
    simp only [Nat.zero_mul, Nat.zero_add] at e
    exact e.trans (sum_tiles (fun k => dy m c k l.val * hat (rowR (aX m c) (aB m c) (aG m c) k) l.val) 512 16)
  · rw [outsAt0_A m c t h (by omega)]
    dsimp only
    rw [Md.outA10_eq]
    refine (Md.pay19_at _ _ _ _ _ _ i _ fun k => dg_blk m c t k i).trans ?_
    rw [Md.pay2_at]
    simp only [ResGrad.row_eq16]
  · by_cases h1 : t.val % 4 = 0
    · rw [outsAt0_C m c t h h1]
      dsimp only
      rw [Md.outC10_eq]
      refine (Md.pay19_at _ _ _ _ _ _ i _ fun k => dg_blk m c t k i).trans ?_
      simp only [ResGrad.row_eq16]
    · rw [outsAt0_B m c t h h1]
      dsimp only
      rw [Md.outB10_eq]
      refine (Md.pay19_at _ _ _ _ _ _ i _ fun k => dg_blk m c t k i).trans ?_
      simp only [ResGrad.row_eq16]

theorem out11_at (t : Fin cfg0.N) (h : t.val % 16 + 1 = 16) (l : Fin 1024) : @Eq EReal ((outsAt0 m c t.val t.isLt).2.2.2.1 (ix2 0 l)) (ent3 (dy m c) l.val) := by
  have hq : t.val / 16 = 0 := tile_zero t
  have e := Pipeline.eq_sum_of_reset_step_apply_divmod (fun n h (j : Fin 1024) => ((outsAt0 m c n h).2.2.2.1 (ix2 0 j) : EReal)) 16 (fun _ => (0 : EReal))
    (fun q s j => ∑ k : Fin 512, dy m c (q * 8192 + (512 * s + k.val)) j.val) (fun t h i => ?_) (fun t h i => ?_) t l
  · rw [h, zero_add, hq] at e
    simp only [Nat.zero_mul, Nat.zero_add] at e
    exact e.trans (sum_tiles (fun k => dy m c k l.val) 512 16)
  · rw [outsAt0_A m c t h (by omega)]
    dsimp only
    rw [Md.outA11_eq]
    refine (Md.pay20_at _ _ i _ fun k => dy_blk m c t k i).trans ?_
    rw [Md.pay3_at]
    simp only [ResGrad.row_eq16]
  · by_cases h1 : t.val % 4 = 0
    · rw [outsAt0_C m c t h h1]
      dsimp only
      rw [Md.outC11_eq]
      refine (Md.pay20_at _ _ i _ fun k => dy_blk m c t k i).trans ?_
      simp only [ResGrad.row_eq16]
    · rw [outsAt0_B m c t h h1]
      dsimp only
      rw [Md.outB11_eq]
      refine (Md.pay20_at _ _ i _ fun k => dy_blk m c t k i).trans ?_
      simp only [ResGrad.row_eq16]

theorem out13_at (t : Fin cfg0.N) (h : t.val % 16 + 1 = 16) (l : Fin 1024) : @Eq EReal ((outsAt0 m c t.val t.isLt).2.2.2.2.2.1 (ix2 0 l)) (ent5 (aG m c) (dr m c) l.val) := by
  have hq : t.val / 16 = 0 := tile_zero t
  have e := Pipeline.eq_sum_of_reset_step_apply_divmod (fun n h (j : Fin 1024) => ((outsAt0 m c n h).2.2.2.2.2.1 (ix2 0 j) : EReal)) 16 (fun _ => (0 : EReal))
    (fun q s j => ∑ k : Fin 512, (1 + atB (aG m c) ((q * 8192 + (512 * s + k.val)) / 2048) j.val) * dr m c (q * 8192 + (512 * s + k.val)) j.val) (fun t h i => ?_) (fun t h i => ?_) t l
  · rw [h, zero_add, hq] at e
    simp only [Nat.zero_mul, Nat.zero_add] at e
    exact e.trans (sum_tiles (fun k => (1 + atB (aG m c) (k / 2048) l.val) * dr m c k l.val) 512 16)
  · rw [outsAt0_A m c t h (by omega)]
    dsimp only
    rw [Md.outA13_eq]
    refine (Md.pay25_at _ _ _ _ _ _ i _ fun k => dbr_blk m c t k i).trans ?_
    rw [Md.pay4_at]
    simp only [ResGrad.row_eq16]
  · by_cases h1 : t.val % 4 = 0
    · rw [outsAt0_C m c t h h1]
      dsimp only
      rw [Md.outC13_eq]
      refine (Md.pay25_at _ _ _ _ _ _ i _ fun k => dbr_blk m c t k i).trans ?_
      simp only [ResGrad.row_eq16]
    · rw [outsAt0_B m c t h h1]
      dsimp only
      rw [Md.outB13_eq]
      refine (Md.pay25_at _ _ _ _ _ _ i _ fun k => dbr_blk m c t k i).trans ?_
      simp only [ResGrad.row_eq16]

theorem out12_at (t : Fin cfg0.N) (h : t.val % 4 + 1 = 4) (l : Fin 1024) : @Eq EReal ((outsAt0 m c t.val t.isLt).2.2.2.2.1 (ix3 0 0 l)) (ent4 (aB m c) (dr m c) (t.val / 4) l.val) := by
  have e := Pipeline.eq_sum_of_reset_step_apply_divmod (fun n h (j : Fin 1024) => ((outsAt0 m c n h).2.2.2.2.1 (ix3 0 0 j) : EReal)) 4 (fun _ => (0 : EReal))
    (fun q s j => ∑ k : Fin 512, dr m c (q * 2048 + (512 * s + k.val)) j.val * at2 (aB m c) (q * 2048 + (512 * s + k.val)) j.val) (fun t h i => ?_) (fun t h i => ?_) t l
  · rw [h, zero_add] at e
    exact e.trans (sum_tiles (fun k => dr m c (t.val / 4 * 2048 + k) l.val * at2 (aB m c) (t.val / 4 * 2048 + k) l.val) 512 4)
  · by_cases h0 : t.val % 16 = 0
    · rw [outsAt0_A m c t h0 h]
      dsimp only
      rw [Md.outA12_eq]
      refine (Md.pay1_at _ _ _ i _ fun k => dgt_blk m c t k i).trans ?_
      rw [Md.pay5_at]
      simp only [ResGrad.row_eq]
    · rw [outsAt0_C m c t h0 h]
      dsimp only
      rw [Md.outC12_eq]
      refine (Md.pay1_at _ _ _ i _ fun k => dgt_blk m c t k i).trans ?_
      rw [Md.pay5_at]
      simp only [ResGrad.row_eq]
  · rw [outsAt0_B m c t (by omega) h]
    dsimp only
    rw [Md.outB12_eq]
    refine (Md.pay1_at _ _ _ i _ fun k => dgt_blk m c t k i).trans ?_
    simp only [ResGrad.row_eq]

theorem out14_at (t : Fin cfg0.N) (h : t.val % 4 + 1 = 4) (l : Fin 1024) : @Eq EReal ((outsAt0 m c t.val t.isLt).2.2.2.2.2.2.1 (ix3 0 0 l)) (NormGrad.entS (aU m c) (aA m c) (t.val / 4) l.val) := by
  have e := Pipeline.eq_sum_of_reset_step_apply_divmod (fun n h (j : Fin 1024) => ((outsAt0 m c n h).2.2.2.2.2.2.1 (ix3 0 0 j) : EReal)) 4 (fun _ => (0 : EReal))
    (fun q s j => ∑ k : Fin 512, at2 (aU m c) (q * 2048 + (512 * s + k.val)) j.val * hat (at2 (aA m c) (q * 2048 + (512 * s + k.val))) j.val) (fun t h i => ?_) (fun t h i => ?_) t l
  · rw [h, zero_add] at e
    exact e.trans (sum_tiles (fun k => at2 (aU m c) (t.val / 4 * 2048 + k) l.val * hat (at2 (aA m c) (t.val / 4 * 2048 + k)) l.val) 512 4)
  · by_cases h0 : t.val % 16 = 0
    · rw [outsAt0_A m c t h0 h]
      dsimp only
      rw [Md.outA14_eq]
      refine (Md.pay11_at _ _ _ i _ fun k => dsc_blk m c t k i).trans ?_
      rw [Md.pay6_at]
      simp only [ResGrad.row_eq]
    · rw [outsAt0_C m c t h0 h]
      dsimp only
      rw [Md.outC14_eq]
      refine (Md.pay11_at _ _ _ i _ fun k => dsc_blk m c t k i).trans ?_
      rw [Md.pay6_at]
      simp only [ResGrad.row_eq]
  · rw [outsAt0_B m c t (by omega) h]
    dsimp only
    rw [Md.outB14_eq]
    refine (Md.pay11_at _ _ _ i _ fun k => dsc_blk m c t k i).trans ?_
    simp only [ResGrad.row_eq]

theorem out15_at (t : Fin cfg0.N) (h : t.val % 4 + 1 = 4) (l : Fin 1024) : @Eq EReal ((outsAt0 m c t.val t.isLt).2.2.2.2.2.2.2 (ix3 0 0 l)) (NormGrad.entH (aU m c) (t.val / 4) l.val) := by
  have e := Pipeline.eq_sum_of_reset_step_apply_divmod (fun n h (j : Fin 1024) => ((outsAt0 m c n h).2.2.2.2.2.2.2 (ix3 0 0 j) : EReal)) 4 (fun _ => (0 : EReal))
    (fun q s j => ∑ k : Fin 512, at2 (aU m c) (q * 2048 + (512 * s + k.val)) j.val) (fun t h i => ?_) (fun t h i => ?_) t l
  · rw [h, zero_add] at e
    exact e.trans (sum_tiles (fun k => at2 (aU m c) (t.val / 4 * 2048 + k) l.val) 512 4)
  · by_cases h0 : t.val % 16 = 0
    · rw [outsAt0_A m c t h0 h]
      dsimp only
      rw [Md.outA15_eq]
      refine (Md.pay12_at _ _ i _ fun k => blk0 m c t k i).trans ?_
      rw [Md.pay7_at]
      simp only [ResGrad.row_eq]
    · rw [outsAt0_C m c t h0 h]
      dsimp only
      rw [Md.outC15_eq]
      refine (Md.pay12_at _ _ i _ fun k => blk0 m c t k i).trans ?_
      rw [Md.pay7_at]
      simp only [ResGrad.row_eq]
  · rw [outsAt0_B m c t (by omega) h]
    dsimp only
    rw [Md.outB15_eq]
    refine (Md.pay12_at _ _ i _ fun k => blk0 m c t k i).trans ?_
    simp only [ResGrad.row_eq]

theorem arr8 : (dats m 0 c).arrAt 8 cfg0.N = res0 (dr m c) := by
  refine (dats m 0 c).arrAt_eq_of_covers 8 _ (by decide +kernel) fun t hf y => ?_
  blk_simp
  rw [after0_8]
  have hy : (y : (⟨2, ![512, 1024]⟩ : Shape).Idx) = ix2 (y 0) (y 1) := eq_ix2 (n0 := 512) (n1 := 1024) y
  refine Eq.trans ?_ ((out8_at m c t (y 0) (y 1)).trans ?_)
  · rw [hy]; rfl
  · refine congrArg₂ (ent0 m c) ?_ ?_ <;> blk_simp [idx8 t]

theorem arr9 : (dats m 0 c).arrAt 9 cfg0.N = res1 (aG m c) (dr m c) := by
  refine (dats m 0 c).arrAt_eq_of_covers 9 _ (by decide +kernel) fun t hf y => ?_
  blk_simp
  rw [after0_9]
  have hy : (y : (⟨2, ![512, 1024]⟩ : Shape).Idx) = ix2 (y 0) (y 1) := eq_ix2 (n0 := 512) (n1 := 1024) y
  refine Eq.trans ?_ ((out9_at m c t (y 0) (y 1)).trans ?_)
  · rw [hy]; rfl
  · refine congrArg₂ (ent1 m c) ?_ ?_ <;> blk_simp [idx9 t]

theorem arr10 : (dats m 0 c).arrAt 10 cfg0.N = res2 (aX m c) (aB m c) (aG m c) (dy m c) := by
  refine (dats m 0 c).arrAt_eq_of_covers 10 _ (by decide +kernel) fun t hf y => ?_
  have h := (flush0_10 t).mp hf
  blk_simp
  rw [after0_10]
  have hy : (y : (⟨2, ![1, 1024]⟩ : Shape).Idx) = ix2 0 (y 1) := ResGrad.row_idx y
  refine Eq.trans ?_ ((out10_at m c t (by omega) (y 1)).trans ?_)
  · rw [hy]; rfl
  · refine congrArg (ent2 (aX m c) (aB m c) (aG m c) (dy m c)) ?_
    blk_simp [idx10 t]
    try rfl

theorem arr11 : (dats m 0 c).arrAt 11 cfg0.N = res3 (dy m c) := by
  refine (dats m 0 c).arrAt_eq_of_covers 11 _ (by decide +kernel) fun t hf y => ?_
  have h := (flush0_11 t).mp hf
  blk_simp
  rw [after0_11]
  have hy : (y : (⟨2, ![1, 1024]⟩ : Shape).Idx) = ix2 0 (y 1) := ResGrad.row_idx y
  refine Eq.trans ?_ ((out11_at m c t (by omega) (y 1)).trans ?_)
  · rw [hy]; rfl
  · refine congrArg (ent3 (dy m c)) ?_
    blk_simp [idx11 t]
    try rfl

theorem arr12 : (dats m 0 c).arrAt 12 cfg0.N = res4 (aB m c) (dr m c) := by
  refine (dats m 0 c).arrAt_eq_of_covers 12 _ (by decide +kernel) fun t hf y => ?_
  have h := (flush0_12 t).mp hf
  blk_simp
  rw [after0_12]
  have hy : (y : (⟨3, ![1, 1, 1024]⟩ : Shape).Idx) = ix3 0 0 (y 2) := one_idx y
  refine Eq.trans ?_ ((out12_at m c t (by omega) (y 2)).trans ?_)
  · rw [hy]; rfl
  · refine congrArg₂ (ent4 (aB m c) (dr m c)) ?_ ?_ <;> blk_simp [idx12 t]

theorem arr13 : (dats m 0 c).arrAt 13 cfg0.N = res5 (aG m c) (dr m c) := by
  refine (dats m 0 c).arrAt_eq_of_covers 13 _ (by decide +kernel) fun t hf y => ?_
  have h := (flush0_13 t).mp hf
  blk_simp
  rw [after0_13]
  have hy : (y : (⟨2, ![1, 1024]⟩ : Shape).Idx) = ix2 0 (y 1) := ResGrad.row_idx y
  refine Eq.trans ?_ ((out13_at m c t (by omega) (y 1)).trans ?_)
  · rw [hy]; rfl
  · refine congrArg (ent5 (aG m c) (dr m c)) ?_
    blk_simp [idx13 t]
    try rfl

theorem arr14 : (dats m 0 c).arrAt 14 cfg0.N = NormGrad.resS (aU m c) (aA m c) := by
  refine (dats m 0 c).arrAt_eq_of_covers 14 _ (by decide +kernel) fun t hf y => ?_
  have h := (flush0_14 t).mp hf
  blk_simp
  rw [after0_14]
  have hy : (y : (⟨3, ![1, 1, 1024]⟩ : Shape).Idx) = ix3 0 0 (y 2) := one_idx y
  refine Eq.trans ?_ ((out14_at m c t (by omega) (y 2)).trans ?_)
  · rw [hy]; rfl
  · refine congrArg₂ (NormGrad.entS (aU m c) (aA m c)) ?_ ?_ <;> blk_simp [idx14 t]

theorem arr15 : (dats m 0 c).arrAt 15 cfg0.N = NormGrad.resH (aU m c) := by
  refine (dats m 0 c).arrAt_eq_of_covers 15 _ (by decide +kernel) fun t hf y => ?_
  have h := (flush0_15 t).mp hf
  blk_simp
  rw [after0_15]
  have hy : (y : (⟨3, ![1, 1, 1024]⟩ : Shape).Idx) = ix3 0 0 (y 2) := one_idx y
  refine Eq.trans ?_ ((out15_at m c t (by omega) (y 2)).trans ?_)
  · rw [hy]; rfl
  · refine congrArg₂ (NormGrad.entH (aU m c)) ?_ ?_ <;> blk_simp [idx15 t]

end Kern

/-! ## The precondition -/

/-- The side conditions of the precondition's own text. -/
instance preFacts : Cert.Pre_finite_mod.Facts where
  bcast_S_S8192x1024 := by decide
  reducesTo_S8192x1024_S_d0_1 := by decide
  h_S_ := by decide
  bcast_S_S4x1x1024 := by decide
  reducesTo_S4x1x1024_S_d0_1_2 := by decide
  bcast_S_S1x1024 := by decide
  reducesTo_S1x1024_S_d0_1 := by decide

instance : Subsingleton Cert.Pre_finite_mod.S_.Idx := ⟨fun a b => funext fun i => i.elim0⟩

/-- What the precondition says: every entry of the eight arguments is a real. -/
theorem pre_real (U : FVec Ideal S8192x1024 .f32) (A : FVec Ideal S8192x1024 .f32) (S : FVec Ideal S4x1x1024 .f32) (R : FVec Ideal S8192x1024 .f32) (X : FVec Ideal S8192x1024 .f32) (B : FVec Ideal S8192x1024 .f32) (G : FVec Ideal S4x1x1024 .f32) (W : FVec Ideal S1x1024 .f32)
    (h : @Cert.Pre_finite_mod.fn preFacts Ideal _ U A S R X B G W = fun _ => 1#1) : IsReal U ∧ IsReal A ∧ IsReal S ∧ IsReal R ∧ IsReal X ∧ IsReal B ∧ IsReal G ∧ IsReal W := by
  have e := congrFun h (fun i => i.elim0)
  dsimp only [Cert.Pre_finite_mod.fn, Cert.Pre_finite_mod.fn_part1, Cert.Pre_finite_mod.fn_part2, Cert.Pre_finite_mod.fn_part3] at e
  obtain ⟨e, e7⟩ := Attn.and_one _ _ e
  obtain ⟨e, e6⟩ := Attn.and_one _ _ e
  obtain ⟨e, e5⟩ := Attn.and_one _ _ e
  obtain ⟨e, e4⟩ := Attn.and_one _ _ e
  obtain ⟨e, e3⟩ := Attn.and_one _ _ e
  obtain ⟨e, e2⟩ := Attn.and_one _ _ e
  obtain ⟨e0, e1⟩ := Attn.and_one _ _ e
  exact ⟨fun i => Attn.real_of _ (Host.reduce_andi_all _ _ _ _ _ e0 i), fun i => Attn.real_of _ (Host.reduce_andi_all _ _ _ _ _ e1 i), fun i => Attn.real_of _ (Host.reduce_andi_all _ _ _ _ _ e2 i), fun i => Attn.real_of _ (Host.reduce_andi_all _ _ _ _ _ e3 i), fun i => Attn.real_of _ (Host.reduce_andi_all _ _ _ _ _ e4 i), fun i => Attn.real_of _ (Host.reduce_andi_all _ _ _ _ _ e5 i), fun i => Attn.real_of _ (Host.reduce_andi_all _ _ _ _ _ e6 i), fun i => Attn.real_of _ (Host.reduce_andi_all _ _ _ _ _ e7 i)⟩

/-! ## The reference -/

section Ref
open Cert.ResModGradRefIdeal Cert.ResModGradRefIdeal.Gen

/-- The gradient that reaches the residual norm. -/
def dyT (U A : FVec Ideal Cert.ResModGradRefIdeal.S8192x1024 .f32) (C : FVec Ideal Cert.ResModGradRefIdeal.S4x1x1024 .f32) (R : FVec Ideal Cert.ResModGradRefIdeal.S8192x1024 .f32) : FVec Ideal Cert.ResModGradRefIdeal.S4x2048x1024 .f32 :=
  addf (NormGrad.rdxT (Ref.tok A) (NormGrad.dhT U C)) (Ref.tok R)

theorem dyT_at (b : Fin 4) (s : Fin 2048) (j : Fin 1024) (U A : FVec Ideal Cert.ResModGradRefIdeal.S8192x1024 .f32) (C : FVec Ideal Cert.ResModGradRefIdeal.S4x1x1024 .f32) (R : FVec Ideal Cert.ResModGradRefIdeal.S8192x1024 .f32) :
    @Eq EReal (dyT U A C R (ix3 b s j)) (NormGrad.entR U A C R (b.val * 2048 + s.val) j.val) := by
  have hb : (b.val * 2048 + s.val) / 2048 = b.val := by omega
  exact congrArg₂ (· + ·) (NormGrad.rdxT_at b s j (x := Ref.tok A) (d := NormGrad.dhT U C) (f := at2 A (b.val * 2048 + s.val)) (g := NormGrad.dh U C (b.val * 2048 + s.val)) (fun k => Ref.tok_at b s k A)
    (fun k => congrArg₂ (· * ·) (Ref.tok_at b s k U) (((Ref.over_at b s k (Ref.oneT C)).trans (Ref.oneT_at b k C)).trans (by rw [hb])))) (Ref.tok_at b s j R)
end Ref

theorem values : Cert.algebraic_ResModGradIdeal_ResModGradRefIdeal_pre_finite_mod (hResModGradIdeal := Cert.ResModGradIdeal.Gen.facts) (hResModGradRefIdeal := Cert.ResModGradRefIdeal.Gen.facts) (hPre_finite_mod := preFacts) := by
  intro m g m' g' hp ha
  refine ⟨fun c => res0 (dr m c), fun c => res1 (aG m c) (dr m c), fun c => res2 (aX m c) (aB m c) (aG m c) (dy m c), fun c => res3 (dy m c), fun c => res4 (aB m c) (dr m c), fun c => res5 (aG m c) (dr m c), fun c => NormGrad.resS (aU m c) (aA m c), fun c => NormGrad.resH (aU m c),
    (θ_run defs _ _).mono (fun r h c => ⟨(h c).1.trans (arr8 m c), (h c).2.1.trans (arr9 m c), (h c).2.2.1.trans (arr10 m c), (h c).2.2.2.1.trans (arr11 m c), (h c).2.2.2.2.1.trans (arr12 m c), (h c).2.2.2.2.2.1.trans (arr13 m c), (h c).2.2.2.2.2.2.1.trans (arr14 m c), (h c).2.2.2.2.2.2.2.1.trans (arr15 m c), (h c).2.2.2.2.2.2.2.2⟩) (Cert.ResModGradIdeal.Value.run_blocks (F := Ideal) m g), ?_⟩
  refine (θ_run Cert.ResModGradRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.ResModGradRefIdeal.Value.run (F := Ideal) m' g')
  all_goals
    obtain ⟨e0, e1, e2, e3, e4, e5, e6, e7⟩ := ha c
    obtain ⟨hU, hA, hS, hR, hX, hB, hG, hW⟩ := pre_real _ _ _ _ _ _ _ _ (hp c)
    obtain ⟨hx, hy⟩ := Md.ent_real (aU m c) (aA m c) (aS m c) (aR m c) hU hA hS hR
    have ey : NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)) = dy m c := (congr (congr (congrArg₂ NormGrad.entR e0 e1) e2) e3).trans hx
    have e : drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) = dr m c :=
      (congr (congr (congr (congrArg₂ drR e4 e5) e6) e7) ey).trans (drR_eq _ _ _ _ _ hX hB hG hW hy)
  · refine Eq.trans ?_ (congrArg res0 e)
    refine Eq.trans (b := flat (twoT (drT (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))))) rfl ?_
    refine funext fun i => ?_
    rw [eq_ix2 (n0 := 8192) (n1 := 1024) i]
    exact flat_at (i 1) _ (fun i j => c2 * drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) i j) (fun b s j => ResGrad.twoT_at _ (drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))) (fun b s j => drT_at b s j _ _ _ _ _ _ fun b s j => dyT_at b s j _ _ _ _) b s j) (i 0)
  · refine Eq.trans ?_ (congrArg₂ res1 e6 e)
    refine Eq.trans (b := flat (mulf (Ref.over (Ref.oneT (m' (c.tc.loc Cert.ResModGradRefIdeal.main_arg6)))) (drT (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))))) rfl ?_
    refine funext fun i => ?_
    rw [eq_ix2 (n0 := 8192) (n1 := 1024) i]
    exact flat_at (i 1) _ (fun i j => (1 + atB (m' (c.tc.loc Cert.ResModGradRefIdeal.main_arg6)) (i / 2048) j) * drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) i j) (fun b s j => ResGrad.gateT_at _ _ (drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))) (fun b s j => drT_at b s j _ _ _ _ _ _ fun b s j => dyT_at b s j _ _ _ _) b s j) (i 0)
  · refine Eq.trans ?_ (congr (congr (congrArg₂ res2 e4 e5) e6) ey)
    refine Eq.trans (b := colsT (mulf (Ref.hatT (resT (m' (c.tc.loc Cert.ResModGradRefIdeal.main_arg4)) (m' (c.tc.loc Cert.ResModGradRefIdeal.main_arg5)) (m' (c.tc.loc Cert.ResModGradRefIdeal.main_arg6)))) (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))))) rfl ?_
    refine funext fun i => ?_
    rw [eq_ix2 (n0 := 1) (n1 := 1024) i]
    exact colsT_at (i 1) _ (fun k j => NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)) k j * hat (rowR (m' (c.tc.loc Cert.ResModGradRefIdeal.main_arg4)) (m' (c.tc.loc Cert.ResModGradRefIdeal.main_arg5)) (m' (c.tc.loc Cert.ResModGradRefIdeal.main_arg6)) k) j) (fun b s j => (mul_comm _ _).trans (congrArg₂ (· * ·) (dyT_at b s j _ _ _ _) (Ref.hatT_at (x := resT _ _ _) b s j fun k => resT_at b s k _ _ _))) (i 0)
  · refine Eq.trans ?_ (congrArg res3 ey)
    refine Eq.trans (b := colsT (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))) rfl ?_
    refine funext fun i => ?_
    rw [eq_ix2 (n0 := 1) (n1 := 1024) i]
    exact colsT_at (i 1) _ (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) (fun b s j => dyT_at b s j _ _ _ _) (i 0)
  · refine Eq.trans ?_ (congrArg₂ res4 e5 e)
    refine Eq.trans (b := NormGrad.tokens (mulf (drT (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))) (Ref.tok (m' (c.tc.loc Cert.ResModGradRefIdeal.main_arg5))))) rfl ?_
    refine funext fun i => ?_
    rw [eq_ix3 (n0 := 4) (n1 := 1) (n2 := 1024) i]
    exact NormGrad.tokens_at (i 0) (i 1) (i 2) _ (fun k => drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) ((i 0).val * 2048 + k) (i 2).val * at2 (m' (c.tc.loc Cert.ResModGradRefIdeal.main_arg5)) ((i 0).val * 2048 + k) (i 2).val)
      fun s => congrArg₂ (· * ·) (drT_at (i 0) s (i 2) _ _ _ _ _ _ fun b s j => dyT_at b s j _ _ _ _) (Ref.tok_at (i 0) s (i 2) _)
  · refine Eq.trans ?_ (congrArg₂ res5 e6 e)
    refine Eq.trans (b := colsT (mulf (Ref.over (Ref.oneT (m' (c.tc.loc Cert.ResModGradRefIdeal.main_arg6)))) (drT (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (dyT (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))))) rfl ?_
    refine funext fun i => ?_
    rw [eq_ix2 (n0 := 1) (n1 := 1024) i]
    exact colsT_at (i 1) _ (fun i j => (1 + atB (m' (c.tc.loc Cert.ResModGradRefIdeal.main_arg6)) (i / 2048) j) * drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3))) i j) (fun b s j => ResGrad.gateT_at _ _ (drR (m' (c.tc.loc Cert.ResModGradRefIdeal.main_arg4)) (m' (c.tc.loc Cert.ResModGradRefIdeal.main_arg5)) (m' (c.tc.loc Cert.ResModGradRefIdeal.main_arg6)) (m' (c.tc.loc Cert.ResModGradRefIdeal.main_arg7)) (NormGrad.entR (m' (c.tc.loc Cert.ResModGradRefIdeal.main_arg0)) (m' (c.tc.loc Cert.ResModGradRefIdeal.main_arg1)) (m' (c.tc.loc Cert.ResModGradRefIdeal.main_arg2)) (m' (c.tc.loc Cert.ResModGradRefIdeal.main_arg3)))) (fun b s j => drT_at b s j _ _ _ _ _ _ fun b s j => dyT_at b s j _ _ _ _) b s j) (i 0)
  · refine Eq.trans ?_ (congrArg₂ NormGrad.resS e0 e1)
    refine Eq.trans (b := NormGrad.tokens (mulf (Ref.hatT (Ref.tok (m' (c.tc.loc Cert.ResModGradRefIdeal.main_arg1)))) (Ref.tok (m' (c.tc.loc Cert.ResModGradRefIdeal.main_arg0))))) rfl ?_
    refine funext fun i => ?_
    rw [eq_ix3 (n0 := 4) (n1 := 1) (n2 := 1024) i]
    exact NormGrad.tokens_at (i 0) (i 1) (i 2) _ (fun k => at2 (m' (c.tc.loc Cert.ResModGradRefIdeal.main_arg0)) ((i 0).val * 2048 + k) (i 2).val * hat (at2 (m' (c.tc.loc Cert.ResModGradRefIdeal.main_arg1)) ((i 0).val * 2048 + k)) (i 2).val)
      fun s => (mul_comm _ _).trans (congrArg₂ (· * ·) (Ref.tok_at (i 0) s (i 2) _) (Ref.hatT_at (x := Ref.tok _) (i 0) s (i 2) fun k => Ref.tok_at (i 0) s k _))
  · refine Eq.trans ?_ (congrArg NormGrad.resH e0)
    refine Eq.trans (b := NormGrad.tokens (Ref.tok (m' (c.tc.loc Cert.ResModGradRefIdeal.main_arg0)))) rfl ?_
    refine funext fun i => ?_
    rw [eq_ix3 (n0 := 4) (n1 := 1) (n2 := 1024) i]
    exact NormGrad.tokens_at (i 0) (i 1) (i 2) _ (fun k => at2 (m' (c.tc.loc Cert.ResModGradRefIdeal.main_arg0)) ((i 0).val * 2048 + k) (i 2).val) fun s => Ref.tok_at (i 0) s (i 2) _

theorem frame_pre : Cert.quiescent_ResModGradIdeal_pre_finite_mod (hResModGradIdeal := Cert.ResModGradIdeal.Gen.facts) (hPre_finite_mod := preFacts) := fun m ρ _ => Cert.ResModGradIdeal.Gen.frame m ρ

theorem frame_ref : Cert.quiescent_ResModGradRefIdeal (hResModGradRefIdeal := Cert.ResModGradRefIdeal.Gen.facts) := fun m ρ _ =>
  (θ_run Cert.ResModGradRefIdeal.defs _ _).mono (fun r h => ⟨fun c => (h c).2.2.2.2.2.2.2.2, sem_eq_zero_of_no_sems (by decide) r.2⟩)
    (Cert.ResModGradRefIdeal.Value.run (F := Ideal) m ρ)

theorem frame_ref_pre : Cert.quiescent_ResModGradRefIdeal_pre_finite_mod (hResModGradRefIdeal := Cert.ResModGradRefIdeal.Gen.facts) (hPre_finite_mod := preFacts) := fun m ρ _ =>
  frame_ref m ρ trivial

end Cert.Proof.ResModGrad

end
-- ==== Proof.ResVal.lean ====
/-
  The norm of the residual sum, tile by tile: the same operations on both sides, row by row.
-/
module

public import proofs.«01_k».proof.Proof.LnSum
public import proofs.«01_k».proof.Proof.Gen.Res.Frame
public import proofs.«01_k».proof.Proof.Gen.ResIdeal.Value
public import proofs.«01_k».proof.Proof.Gen.ResRefIdeal.Run
public import proofs.«01_k».proof.Defs

@[expose] public section

set_option maxRecDepth 16384

noncomputable section

namespace Cert.Proof.Res

open Cert.ResIdeal Cert.ResIdeal.Gen Cert.Proof.Prod
open Idealize.ShloMosaic Idealize.ShloMosaic.TcCoe Idealize.ShloMosaic.StableHlo
open Idealize.SL.Sem
open scoped BigOperators

open Cert.Proof.Ln Cert.Proof.Rs

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (c : Dev nD)

abbrev aX : S8192x1024.Idx → EReal := m ((c : Thread nD τ).loc main_arg0)
abbrev aB : S8192x1024.Idx → EReal := m ((c : Thread nD τ).loc main_arg1)
abbrev aG : S4x1x1024.Idx → EReal := m ((c : Thread nD τ).loc main_arg2)
abbrev aW : S1x1024.Idx → EReal := m ((c : Thread nD τ).loc main_arg3)
abbrev aH : S1x1024.Idx → EReal := m ((c : Thread nD τ).loc main_arg4)

theorem blk0 (t : Fin cfg0.N) (r : Fin 512) (l : Fin 1024) : @Eq EReal (iblk m c 0 t (ix2 r l)) (at2 (aX m c) (t.val * 512 + r.val) l.val) := by
  refine at2_idx (aX m c) _ ?_ ?_ <;> blk_simp [idx0 t]

theorem blk1 (t : Fin cfg0.N) (r : Fin 512) (l : Fin 1024) : @Eq EReal (iblk m c 1 t (ix2 r l)) (at2 (aB m c) (t.val * 512 + r.val) l.val) := by
  refine at2_idx (aB m c) _ ?_ ?_ <;> blk_simp [idx1 t]

theorem blk2 (t : Fin cfg0.N) (l : Fin 1024) : @Eq EReal (iblk m c 2 t (ix3 0 0 l)) (atB (aG m c) (t.val / 4) l.val) := by
  refine atB_idx (aG m c) _ ?_ ?_ <;> blk_simp [idx2 t]
  rfl

theorem blk3 (t : Fin cfg0.N) (l : Fin 1024) : @Eq EReal (iblk m c 3 t (ix2 0 l)) (at2 (aW m c) 0 l.val) := by
  refine at2_idx (aW m c) _ ?_ ?_ <;> blk_simp [idx3 t]
  rfl

theorem blk4 (t : Fin cfg0.N) (l : Fin 1024) : @Eq EReal (iblk m c 4 t (ix2 0 l)) (at2 (aH m c) 0 l.val) := by
  refine at2_idx (aH m c) _ ?_ ?_ <;> blk_simp [idx4 t]
  rfl

theorem pay1_at (x : Vec Ideal S512x1024 .f32) (u : Vec Ideal S1x1x1024 .f32) (w : Vec Ideal S512x1024 .f32) (p q : Vec Ideal S1x1024 .f32) (r : Fin 512) (l : Fin 1024) (f : ℕ → EReal)
    (hf : ∀ k : Fin 1024, @Eq EReal (c2 * (x (ix2 r k) : EReal) + (1 + (u (ix3 0 0 k) : EReal)) * (w (ix2 r k) : EReal)) (f k.val)) :
    @Eq EReal (k0_pay1 x u w p q (ix2 r l)) (hat f l.val * p (ix2 0 l) + q (ix2 0 l)) := by
  unfold hat rst var cen avg
  simp only [← hf]
  unfold c2
  pointwise [k0_pay1]

/-- The rows of the residual sum in tile `t`. -/
theorem row_at (t : Fin cfg0.N) (r : Fin 512) (k : Fin 1024) :
    @Eq EReal (c2 * (iblk m c 0 t (ix2 r k) : EReal) + (1 + (iblk m c 2 t (ix3 0 0 k) : EReal)) * (iblk m c 1 t (ix2 r k) : EReal)) (rowR (aX m c) (aB m c) (aG m c) (t.val * 512 + r.val) k.val) := by
  have ht : (t.val * 512 + r.val) / 2048 = t.val / 4 := by omega
  unfold rowR
  rw [ht]
  exact congrArg₂ (· + ·) (congrArg (c2 * ·) (blk0 m c t r k)) (congrArg₂ (· * ·) (congrArg (1 + ·) (blk2 m c t k)) (blk1 m c t r k))

/-- The norm of the residual sum, weighted and shifted. -/
abbrev res (X B : S8192x1024.Idx → EReal) (G : S4x1x1024.Idx → EReal) (g h : S1x1024.Idx → EReal) : S8192x1024.Idx → EReal := mat (yR X B G g h)

theorem out_at (t : Fin cfg0.N) (r : Fin 512) (l : Fin 1024) :
    @Eq EReal (out0_5 (iblk m c 0 t) (iblk m c 1 t) (iblk m c 2 t) (iblk m c 3 t) (iblk m c 4 t) (ix2 r l)) (yR (aX m c) (aB m c) (aG m c) (aW m c) (aH m c) (t.val * 512 + r.val) l.val) := by
  unfold yR
  rw [← blk3 m c t l, ← blk4 m c t l]
  have h0 := row_at m c t r
  revert h0
  generalize iblk m c 0 t = x
  generalize iblk m c 1 t = w
  generalize iblk m c 2 t = u
  generalize iblk m c 3 t = p
  generalize iblk m c 4 t = q
  intro h0
  unfold out0_5
  frame_out
  exact pay1_at x u w p q r l _ h0

theorem arr : (dats m 0 c).arrAt 5 cfg0.N = res (aX m c) (aB m c) (aG m c) (aW m c) (aH m c) := by
  refine (dats m 0 c).arrAt_eq_of_covers 5 _ (by decide +kernel) fun t hf y => ?_
  blk_simp
  rw [after0_5]
  have hy : (y : (⟨2, ![512, 1024]⟩ : Shape).Idx) = ix2 (y 0) (y 1) := eq_ix2 (n0 := 512) (n1 := 1024) y
  refine Eq.trans ?_ ((out_at m c t (y 0) (y 1)).trans ?_)
  · rw [hy]; rfl
  · refine congrArg₂ (yR _ _ _ _ _) ?_ ?_ <;> blk_simp [idx5 t]

theorem values : Cert.algebraic_ResIdeal_ResRefIdeal (hResIdeal := Cert.ResIdeal.Gen.facts) (hResRefIdeal := Cert.ResRefIdeal.Gen.facts) := by
  intro m g m' g' _ ha
  refine ⟨fun c => res (aX m c) (aB m c) (aG m c) (aW m c) (aH m c),
    (θ_run defs _ _).mono (fun r h c => ⟨(h c).1.trans (arr m c), (h c).2⟩) (Cert.ResIdeal.Value.run_blocks (F := Ideal) m g), ?_⟩
  refine (θ_run Cert.ResRefIdeal.defs _ _).mono (fun r h c => ⟨(h c).1.trans ?_, (h c).2⟩) (Cert.ResRefIdeal.Value.run (F := Ideal) m' g')
  obtain ⟨e0, e1, e2, e3, e4⟩ := ha c
  refine Eq.trans ?_ (congr (congr (congr (congrArg₂ res e0 e1) e2) e3) e4)
  refine Eq.trans (b := flat (yT (m' (c.tc.loc Cert.ResRefIdeal.main_arg0)) (m' (c.tc.loc Cert.ResRefIdeal.main_arg1)) (m' (c.tc.loc Cert.ResRefIdeal.main_arg2)) (m' (c.tc.loc Cert.ResRefIdeal.main_arg3)) (m' (c.tc.loc Cert.ResRefIdeal.main_arg4)))) rfl ?_
  refine funext fun i => ?_
  rw [eq_ix2 (n0 := 8192) (n1 := 1024) i]
  exact flat_at (i 1) _ (yR _ _ _ _ _) (fun b s j => yT_at b s j _ _ _ _ _) (i 0)

theorem frame_ref : Cert.quiescent_ResRefIdeal (hResRefIdeal := Cert.ResRefIdeal.Gen.facts) := fun m ρ _ =>
  (θ_run Cert.ResRefIdeal.defs _ _).mono (fun r h => ⟨fun c => (h c).2, sem_eq_zero_of_no_sems (by decide) r.2⟩)
    (Cert.ResRefIdeal.Value.run (F := Ideal) m ρ)

end Cert.Proof.Res

end
-- ==== Proof.ResModVal.lean ====
/-
  The norm of the residual sum and its own modulated norm, tile by tile: the same operations on both sides, row by row.
-/
module

public import proofs.«01_k».proof.Proof.LnSum
public import proofs.«01_k».proof.Proof.Gen.ResMod.Frame
public import proofs.«01_k».proof.Proof.Gen.ResModIdeal.Value
public import proofs.«01_k».proof.Proof.Gen.ResModRefIdeal.Run
public import proofs.«01_k».proof.Defs

@[expose] public section

set_option maxRecDepth 16384

noncomputable section

namespace Cert.Proof.ResMod

open Cert.ResModIdeal Cert.ResModIdeal.Gen Cert.Proof.Prod
open Idealize.ShloMosaic Idealize.ShloMosaic.TcCoe Idealize.ShloMosaic.StableHlo
open Idealize.SL.Sem
open scoped BigOperators

open Cert.Proof.Ln Cert.Proof.Rs

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![t.val / 4, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

variable (m : (ℓ : Loc nD τ sig) → Buf (Elt Ideal) ℓ) (c : Dev nD)

abbrev aX : S8192x1024.Idx → EReal := m ((c : Thread nD τ).loc main_arg0)
abbrev aB : S8192x1024.Idx → EReal := m ((c : Thread nD τ).loc main_arg1)
abbrev aG : S4x1x1024.Idx → EReal := m ((c : Thread nD τ).loc main_arg2)
abbrev aW : S1x1024.Idx → EReal := m ((c : Thread nD τ).loc main_arg3)
abbrev aH : S1x1024.Idx → EReal := m ((c : Thread nD τ).loc main_arg4)
abbrev aS : S4x1x1024.Idx → EReal := m ((c : Thread nD τ).loc main_arg5)
abbrev aC : S4x1x1024.Idx → EReal := m ((c : Thread nD τ).loc main_arg6)

theorem blk0 (t : Fin cfg0.N) (r : Fin 512) (l : Fin 1024) : @Eq EReal (iblk m c 0 t (ix2 r l)) (at2 (aX m c) (t.val * 512 + r.val) l.val) := by
  refine at2_idx (aX m c) _ ?_ ?_ <;> blk_simp [idx0 t]

theorem blk1 (t : Fin cfg0.N) (r : Fin 512) (l : Fin 1024) : @Eq EReal (iblk m c 1 t (ix2 r l)) (at2 (aB m c) (t.val * 512 + r.val) l.val) := by
  refine at2_idx (aB m c) _ ?_ ?_ <;> blk_simp [idx1 t]

theorem blk2 (t : Fin cfg0.N) (l : Fin 1024) : @Eq EReal (iblk m c 2 t (ix3 0 0 l)) (atB (aG m c) (t.val / 4) l.val) := by
  refine atB_idx (aG m c) _ ?_ ?_ <;> blk_simp [idx2 t]
  rfl

theorem blk3 (t : Fin cfg0.N) (l : Fin 1024) : @Eq EReal (iblk m c 3 t (ix2 0 l)) (at2 (aW m c) 0 l.val) := by
  refine at2_idx (aW m c) _ ?_ ?_ <;> blk_simp [idx3 t]
  rfl

theorem blk4 (t : Fin cfg0.N) (l : Fin 1024) : @Eq EReal (iblk m c 4 t (ix2 0 l)) (at2 (aH m c) 0 l.val) := by
  refine at2_idx (aH m c) _ ?_ ?_ <;> blk_simp [idx4 t]
  rfl

theorem blk5 (t : Fin cfg0.N) (l : Fin 1024) : @Eq EReal (iblk m c 5 t (ix3 0 0 l)) (atB (aS m c) (t.val / 4) l.val) := by
  refine atB_idx (aS m c) _ ?_ ?_ <;> blk_simp [idx5 t]
  rfl

theorem blk6 (t : Fin cfg0.N) (l : Fin 1024) : @Eq EReal (iblk m c 6 t (ix3 0 0 l)) (atB (aC m c) (t.val / 4) l.val) := by
  refine atB_idx (aC m c) _ ?_ ?_ <;> blk_simp [idx6 t]
  rfl

theorem pay2_at (x : Vec Ideal S512x1024 .f32) (u : Vec Ideal S1x1x1024 .f32) (w : Vec Ideal S512x1024 .f32) (p q : Vec Ideal S1x1024 .f32) (r : Fin 512) (l : Fin 1024) (f : ℕ → EReal)
    (hf : ∀ k : Fin 1024, @Eq EReal (c2 * (x (ix2 r k) : EReal) + (1 + (u (ix3 0 0 k) : EReal)) * (w (ix2 r k) : EReal)) (f k.val)) :
    @Eq EReal (k0_pay2 x u w p q (ix2 r l)) (hat f l.val * p (ix2 0 l) + q (ix2 0 l)) := by
  unfold hat rst var cen avg
  simp only [← hf]
  unfold c2
  pointwise [k0_pay2]

theorem pay3_at (x : Vec Ideal S512x1024 .f32) (u : Vec Ideal S1x1x1024 .f32) (w : Vec Ideal S512x1024 .f32) (p q : Vec Ideal S1x1024 .f32) (r : Fin 512) :
    @Eq EReal (k0_pay3 x u w p q (ix2 r 0)) (∑ k : Fin 1024, (k0_pay2 x u w p q (ix2 r k) : EReal)) := by
  unfold k0_pay3
  generalize k0_pay2 x u w p q = y
  pointwise

theorem pay1_at (y : Vec Ideal S512x1024 .f32) (z : Vec Ideal S512x1 .f32) (v s : Vec Ideal S1x1x1024 .f32) (r : Fin 512) (l : Fin 1024) (f : ℕ → EReal)
    (hf : ∀ k : Fin 1024, @Eq EReal (y (ix2 r k)) (f k.val)) (hz : @Eq EReal (z (ix2 r 0)) (∑ k : Fin 1024, (y (ix2 r k) : EReal))) :
    @Eq EReal (k0_pay1 y z (Scalar.ofBits .f32 0x44800000#32) v s (ix2 r l)) (hat f l.val * (1 + v (ix3 0 0 l)) + s (ix3 0 0 l)) := by
  unfold hat rst var cen avg
  simp only [← hf]
  rw [← hz]
  pointwise [k0_pay1]

/-- The rows of the residual sum in tile `t`. -/
theorem row_at (t : Fin cfg0.N) (r : Fin 512) (k : Fin 1024) :
    @Eq EReal (c2 * (iblk m c 0 t (ix2 r k) : EReal) + (1 + (iblk m c 2 t (ix3 0 0 k) : EReal)) * (iblk m c 1 t (ix2 r k) : EReal)) (rowR (aX m c) (aB m c) (aG m c) (t.val * 512 + r.val) k.val) := by
  have ht : (t.val * 512 + r.val) / 2048 = t.val / 4 := by omega
  unfold rowR
  rw [ht]
  exact congrArg₂ (· + ·) (congrArg (c2 * ·) (blk0 m c t r k)) (congrArg₂ (· * ·) (congrArg (1 + ·) (blk2 m c t k)) (blk1 m c t r k))

/-- The norm of the residual sum, weighted and shifted. -/
abbrev res (X B : S8192x1024.Idx → EReal) (G : S4x1x1024.Idx → EReal) (g h : S1x1024.Idx → EReal) : S8192x1024.Idx → EReal := mat (yR X B G g h)
/-- Entry `(i, j)` of its own norm, modulated. -/
abbrev entry (X B : S8192x1024.Idx → EReal) (G : S4x1x1024.Idx → EReal) (g h : S1x1024.Idx → EReal) (S C : S4x1x1024.Idx → EReal) (i j : ℕ) : EReal :=
  hat (yR X B G g h i) j * (1 + atB C (i / 2048) j) + atB S (i / 2048) j
def resU (X B : S8192x1024.Idx → EReal) (G : S4x1x1024.Idx → EReal) (g h : S1x1024.Idx → EReal) (S C : S4x1x1024.Idx → EReal) : S8192x1024.Idx → EReal := mat (entry X B G g h S C)

theorem y_at (t : Fin cfg0.N) (r : Fin 512) (l : Fin 1024) :
    @Eq EReal (k0_pay2 (iblk m c 0 t) (iblk m c 2 t) (iblk m c 1 t) (iblk m c 3 t) (iblk m c 4 t) (ix2 r l)) (yR (aX m c) (aB m c) (aG m c) (aW m c) (aH m c) (t.val * 512 + r.val) l.val) := by
  unfold yR
  rw [← blk3 m c t l, ← blk4 m c t l]
  exact pay2_at _ _ _ _ _ r l _ (row_at m c t r)

theorem out7_eq (x w : Vec Ideal S512x1024 .f32) (u : Vec Ideal S1x1x1024 .f32) (p q : Vec Ideal S1x1024 .f32) (s v : Vec Ideal S1x1x1024 .f32) (r : Fin 512) (l : Fin 1024) :
    @Eq EReal (out0_7 x w u p q s v (ix2 r l)) (k0_pay2 x u w p q (ix2 r l)) := by
  unfold out0_7
  frame_out

theorem out8_eq (x w : Vec Ideal S512x1024 .f32) (u : Vec Ideal S1x1x1024 .f32) (p q : Vec Ideal S1x1024 .f32) (s v : Vec Ideal S1x1x1024 .f32) (r : Fin 512) (l : Fin 1024) :
    @Eq EReal (out0_8 x w u p q s v (ix2 r l)) (k0_pay1 (k0_pay2 x u w p q) (k0_pay3 x u w p q) (Scalar.ofBits .f32 0x44800000#32) v s (ix2 r l)) := by
  unfold out0_8
  frame_out

theorem out8_at (t : Fin cfg0.N) (r : Fin 512) (l : Fin 1024) :
    @Eq EReal (out0_8 (iblk m c 0 t) (iblk m c 1 t) (iblk m c 2 t) (iblk m c 3 t) (iblk m c 4 t) (iblk m c 5 t) (iblk m c 6 t) (ix2 r l)) (entry (aX m c) (aB m c) (aG m c) (aW m c) (aH m c) (aS m c) (aC m c) (t.val * 512 + r.val) l.val) := by
  have ht : (t.val * 512 + r.val) / 2048 = t.val / 4 := by omega
  show _ = hat _ _ * (1 + atB _ _ _) + atB _ _ _
  rw [ht, ← blk5 m c t l, ← blk6 m c t l]
  exact (out8_eq _ _ _ _ _ _ _ r l).trans (pay1_at _ _ _ _ r l _ (y_at m c t r) (pay3_at _ _ _ _ _ r))

theorem arr7 : (dats m 0 c).arrAt 7 cfg0.N = res (aX m c) (aB m c) (aG m c) (aW m c) (aH m c) := by
  refine (dats m 0 c).arrAt_eq_of_covers 7 _ (by decide +kernel) fun t hf y => ?_
  blk_simp
  rw [after0_7]
  have hy : (y : (⟨2, ![512, 1024]⟩ : Shape).Idx) = ix2 (y 0) (y 1) := eq_ix2 (n0 := 512) (n1 := 1024) y
  refine Eq.trans ?_ (((out7_eq _ _ _ _ _ (iblk m c 5 t) (iblk m c 6 t) (y 0) (y 1)).trans (y_at m c t (y 0) (y 1))).trans ?_)
  · rw [hy]; rfl
  · refine congrArg₂ (yR _ _ _ _ _) ?_ ?_ <;> blk_simp [idx7 t]

theorem arr8 : (dats m 0 c).arrAt 8 cfg0.N = resU (aX m c) (aB m c) (aG m c) (aW m c) (aH m c) (aS m c) (aC m c) := by
  refine (dats m 0 c).arrAt_eq_of_covers 8 _ (by decide +kernel) fun t hf y => ?_
  blk_simp
  rw [after0_8]
  have hy : (y : (⟨2, ![512, 1024]⟩ : Shape).Idx) = ix2 (y 0) (y 1) := eq_ix2 (n0 := 512) (n1 := 1024) y
  refine Eq.trans ?_ ((out8_at m c t (y 0) (y 1)).trans ?_)
  · rw [hy]; rfl
  · refine congrArg₂ (entry _ _ _ _ _ _ _) ?_ ?_ <;> blk_simp [idx8 t]

section Ref
open Cert.ResModRefIdeal Cert.ResModRefIdeal.Gen

/-- The reference's second result, by its stages. -/
def modT (y : FVec Ideal Cert.ResModRefIdeal.S4x2048x1024 .f32) (S C : FVec Ideal Cert.ResModRefIdeal.S4x1x1024 .f32) : FVec Ideal Cert.ResModRefIdeal.S4x2048x1024 .f32 :=
  addf (mulf (Ref.hatT y) (Ref.over (Ref.oneT C))) (Ref.over S)

theorem modT_at (y : FVec Ideal Cert.ResModRefIdeal.S4x2048x1024 .f32) (S C : FVec Ideal Cert.ResModRefIdeal.S4x1x1024 .f32) (f : ℕ → ℕ → EReal)
    (hy : ∀ b s j, @Eq EReal (y (ix3 b s j)) (f (b.val * 2048 + s.val) j.val)) (b : Fin 4) (s : Fin 2048) (j : Fin 1024) :
    @Eq EReal (modT y S C (ix3 b s j)) (hat (f (b.val * 2048 + s.val)) j.val * (1 + atB C ((b.val * 2048 + s.val) / 2048) j.val) + atB S ((b.val * 2048 + s.val) / 2048) j.val) := by
  have hb : (b.val * 2048 + s.val) / 2048 = b.val := by omega
  rw [hb, ← Ref.hatT_at (x := y) b s j (hy b s), ← (Ref.over_at b s j (Ref.oneT C)).trans (Ref.oneT_at b j C), ← (Ref.over_at b s j S).trans (atB_ix3 S b 0 j).symm]
  pointwise [modT]
end Ref

theorem values : Cert.algebraic_ResModIdeal_ResModRefIdeal (hResModIdeal := Cert.ResModIdeal.Gen.facts) (hResModRefIdeal := Cert.ResModRefIdeal.Gen.facts) := by
  intro m g m' g' _ ha
  refine ⟨fun c => res (aX m c) (aB m c) (aG m c) (aW m c) (aH m c), fun c => resU (aX m c) (aB m c) (aG m c) (aW m c) (aH m c) (aS m c) (aC m c),
    (θ_run defs _ _).mono (fun r h c => ⟨(h c).1.trans (arr7 m c), (h c).2.1.trans (arr8 m c), (h c).2.2⟩) (Cert.ResModIdeal.Value.run_blocks (F := Ideal) m g), ?_⟩
  refine (θ_run Cert.ResModRefIdeal.defs _ _).mono (fun r h c => ⟨(h c).1.trans ?_, (h c).2.1.trans ?_, (h c).2.2⟩) (Cert.ResModRefIdeal.Value.run (F := Ideal) m' g')
  all_goals obtain ⟨e0, e1, e2, e3, e4, e5, e6⟩ := ha c
  · refine Eq.trans ?_ (congr (congr (congr (congrArg₂ res e0 e1) e2) e3) e4)
    refine Eq.trans (b := flat (yT (m' (c.tc.loc Cert.ResModRefIdeal.main_arg0)) (m' (c.tc.loc Cert.ResModRefIdeal.main_arg1)) (m' (c.tc.loc Cert.ResModRefIdeal.main_arg2)) (m' (c.tc.loc Cert.ResModRefIdeal.main_arg3)) (m' (c.tc.loc Cert.ResModRefIdeal.main_arg4)))) rfl ?_
    refine funext fun i => ?_
    rw [eq_ix2 (n0 := 8192) (n1 := 1024) i]
    exact flat_at (i 1) _ (yR _ _ _ _ _) (fun b s j => yT_at b s j _ _ _ _ _) (i 0)
  · refine Eq.trans ?_ (congr (congr (congr (congr (congr (congrArg₂ resU e0 e1) e2) e3) e4) e5) e6)
    refine Eq.trans (b := flat (modT (yT (m' (c.tc.loc Cert.ResModRefIdeal.main_arg0)) (m' (c.tc.loc Cert.ResModRefIdeal.main_arg1)) (m' (c.tc.loc Cert.ResModRefIdeal.main_arg2)) (m' (c.tc.loc Cert.ResModRefIdeal.main_arg3)) (m' (c.tc.loc Cert.ResModRefIdeal.main_arg4))) (m' (c.tc.loc Cert.ResModRefIdeal.main_arg5)) (m' (c.tc.loc Cert.ResModRefIdeal.main_arg6)))) rfl ?_
    refine funext fun i => ?_
    rw [eq_ix2 (n0 := 8192) (n1 := 1024) i]
    exact flat_at (i 1) _ (entry _ _ _ _ _ _ _) (fun b s j => modT_at _ _ _ _ (fun b s j => yT_at b s j _ _ _ _ _) b s j) (i 0)

theorem frame_ref : Cert.quiescent_ResModRefIdeal (hResModRefIdeal := Cert.ResModRefIdeal.Gen.facts) := fun m ρ _ =>
  (θ_run Cert.ResModRefIdeal.defs _ _).mono (fun r h => ⟨fun c => (h c).2.2, sem_eq_zero_of_no_sems (by decide) r.2⟩)
    (Cert.ResModRefIdeal.Value.run (F := Ideal) m ρ)

end Cert.Proof.ResMod

end
-- ==== Proof.GateBiasGradVal.lean ====
/-
  The gate projection's gradient in its bias: the kernel accumulates the columns' sums over sixteen tiles of tokens, the reference sums once over the tokens.
-/
module

public import proofs.«01_k».proof.Proof.Gate
public import proofs.«01_k».proof.Proof.Gen.GateBiasGrad.Frame
public import proofs.«01_k».proof.Proof.Gen.GateBiasGradIdeal.Value
public import proofs.«01_k».proof.Proof.Gen.GateBiasGradRefIdeal.Run
public import proofs.«01_k».proof.Defs

@[expose] public section

set_option maxRecDepth 16384

noncomputable section

namespace Cert.Proof.GateBiasGrad

open Cert.GateBiasGradIdeal Cert.GateBiasGradIdeal.Gen Cert.Proof.Prod
open Idealize.ShloMosaic Idealize.ShloMosaic.TcCoe Idealize.ShloMosaic.StableHlo
open Idealize.SL.Sem
open scoped BigOperators

theorem idx0 : ∀ t : Fin cfg0.N, win0_0.index t = ![t.val % 16, t.val / 16] := (by decide +kernel : ∀ t : Fin grid0.N, _)
theorem idx1 : ∀ t : Fin cfg0.N, win0_1.index t = ![0, t.val / 16] := (by decide +kernel : ∀ t : Fin grid0.N, _)

/-- Entry `j` is the sum of column `j` over the tokens. -/
def res (A : S8192x128.Idx → EReal) : S1x128.Idx → EReal := mat fun _ j => ∑ k ∈ Finset.range (512 * 16), at2 A k j

variable (m : (ℓ : Loc nD τ sig) → Buf (Elt Ideal) ℓ) (c : Dev nD)

abbrev aA : S8192x128.Idx → EReal := m ((c : Thread nD τ).loc main_arg0)

theorem blk0 (t : Fin cfg0.N) (k : Fin 512) (l : Fin 128) :
    @Eq EReal (iblk m c 0 t (ix2 k l)) (at2 (aA m c) (512 * (t.val % 16) + k.val) (t.val / 16 * 128 + l.val)) := by
  refine at2_idx (aA m c) _ ?_ ?_ <;> blk_simp [idx0 t]
  omega

theorem next_at (a : Vec Ideal S1x128 .f32) (x : Vec Ideal S512x128 .bf16) (r : Fin 1) (l : Fin 128) (f : Fin 512 → EReal)
    (hx : ∀ k, @Eq EReal (x (ix2 k l)) (f k)) : @Eq EReal (k0_pay2 a x (ix2 r l)) (a (ix2 r l) + ∑ k : Fin 512, f k) := by
  simp only [← hx]
  pointwise [k0_pay2]

theorem first_at (x : Vec Ideal S512x128 .bf16) (r : Fin 1) (l : Fin 128) (f : Fin 512 → EReal)
    (hx : ∀ k, @Eq EReal (x (ix2 k l)) (f k)) : @Eq EReal (k0_pay2 (k0_pay1 (F := Ideal)) x (ix2 r l)) (0 + ∑ k : Fin 512, f k) := by
  refine (next_at _ x r l f hx).trans (congrArg (· + _) ?_)
  pointwise [k0_pay1]

theorem out_at (t : Fin cfg0.N) (h : t.val % 16 + 1 = 16) (r : Fin 1) (l : Fin 128) :
    @Eq EReal (outsAt0 m c t.val t.isLt (ix2 r l)) (∑ k ∈ Finset.range (512 * 16), at2 (aA m c) k (t.val / 16 * 128 + l.val)) := by
  have e := Pipeline.eq_sum_of_reset_step_apply_divmod (fun n h => (outsAt0 m c n h : S1x128.Idx → EReal)) 16 (fun _ => (0 : EReal))
    (fun q s i => ∑ k : Fin 512, at2 (aA m c) (512 * s + k.val) (q * 128 + (i 1).val))
    (fun t h i => ?_) (fun t h i => ?_) t (ix2 r l)
  · rw [h, zero_add] at e
    exact e.trans (sum_tiles (fun k => at2 (aA m c) k (t.val / 16 * 128 + l.val)) 512 16)
  · rw [eq_ix2 (n0 := 1) (n1 := 128) i]
    refine (congrFun (outsAt0_A m c t h) _).trans ?_
    rw [Value.out_A_1_eq]
    exact first_at _ (i 0) (i 1) _ fun k => blk0 m c t k (i 1)
  · rw [eq_ix2 (n0 := 1) (n1 := 128) i]
    refine (congrFun (outsAt0_B m c t h) _).trans ?_
    rw [Value.out_B_1_eq]
    exact next_at _ _ (i 0) (i 1) _ fun k => blk0 m c t k (i 1)

theorem arr : (dats m 0 c).arrAt 1 cfg0.N = res (aA m c) := by
  refine (dats m 0 c).arrAt_eq_of_covers 1 _ (by decide +kernel) fun t hf y => ?_
  have h := (flush0_1 t).mp hf
  blk_simp
  rw [after0_1]
  have hy : (y : (⟨2, ![1, 128]⟩ : Shape).Idx) = ix2 (y 0) (y 1) := eq_ix2 (n0 := 1) (n1 := 128) y
  refine Eq.trans ?_ ((out_at m c t (by omega) (y 0) (y 1)).trans ?_)
  · rw [hy]; rfl
  · refine congrArg (fun j => ∑ k ∈ Finset.range (512 * 16), at2 (aA m c) k j) ?_
    blk_simp [idx1 t]

theorem values : Cert.algebraic_GateBiasGradIdeal_GateBiasGradRefIdeal (hGateBiasGradIdeal := Cert.GateBiasGradIdeal.Gen.facts) (hGateBiasGradRefIdeal := Cert.GateBiasGradRefIdeal.Gen.facts) := by
  intro m g m' g' _ ha
  refine ⟨fun c => res (aA m c),
    (θ_run defs _ _).mono (fun r h c => ⟨(h c).1.trans (arr m c), (h c).2⟩) (Cert.GateBiasGradIdeal.Value.run_blocks (F := Ideal) m g), ?_⟩
  refine (θ_run Cert.GateBiasGradRefIdeal.defs _ _).mono (fun r h c => ⟨(h c).1.trans ?_, (h c).2⟩) (Cert.GateBiasGradRefIdeal.Value.run (F := Ideal) m' g')
  refine Eq.trans ?_ (congrArg res (ha c))
  refine funext fun i => ?_
  rw [eq_ix2 (n0 := 1) (n1 := 128) i]
  refine Eq.trans ?_ ((Finset.sum_congr rfl fun k _ => (at2_ix2 (m' (c.tc.loc Cert.GateBiasGradRefIdeal.main_arg0)) k (i 1)).symm).trans (Finset.sum_range (n := 8192) fun k => at2 (m' (c.tc.loc Cert.GateBiasGradRefIdeal.main_arg0)) k (i 1).val).symm)
  pointwise

theorem frame_ref : Cert.quiescent_GateBiasGradRefIdeal (hGateBiasGradRefIdeal := Cert.GateBiasGradRefIdeal.Gen.facts) := fun m ρ _ =>
  (θ_run Cert.GateBiasGradRefIdeal.defs _ _).mono (fun r h => ⟨fun c => (h c).2, sem_eq_zero_of_no_sems (by decide) r.2⟩)
    (Cert.GateBiasGradRefIdeal.Value.run (F := Ideal) m ρ)

end Cert.Proof.GateBiasGrad

end
-- ==== Proof.lean ====
/- The proof of the claims of `Defs.lean`: the modules under `Proof/` joined. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameRun
public import proofs.«01_k».proof.Proof.Same
public import proofs.«01_k».proof.Proof.Values
public import proofs.«01_k».proof.Proof.UpGradInVal
public import proofs.«01_k».proof.Proof.UpGradWVal
public import proofs.«01_k».proof.Proof.UpVal
public import proofs.«01_k».proof.Proof.DownVal
public import proofs.«01_k».proof.Proof.DownGradInVal
public import proofs.«01_k».proof.Proof.DownGradWVal
public import proofs.«01_k».proof.Proof.InProjVal
public import proofs.«01_k».proof.Proof.InGradVal
public import proofs.«01_k».proof.Proof.InGradWVal
public import proofs.«01_k».proof.Proof.MixVal
public import proofs.«01_k».proof.Proof.MixGradInVal
public import proofs.«01_k».proof.Proof.MixGradWVal
public import proofs.«01_k».proof.Proof.BranchVal
public import proofs.«01_k».proof.Proof.ConvGradInVal
public import proofs.«01_k».proof.Proof.AttnGradInVal
public import proofs.«01_k».proof.Proof.BranchGradWVal
public import proofs.«01_k».proof.Proof.GateProjVal
public import proofs.«01_k».proof.Proof.GateGradInVal
public import proofs.«01_k».proof.Proof.GateGradWVal
public import proofs.«01_k».proof.Proof.MergeVal
public import proofs.«01_k».proof.Proof.MergeGradVal
public import proofs.«01_k».proof.Proof.BiasGradVal
public import proofs.«01_k».proof.Proof.NormVal
public import proofs.«01_k».proof.Proof.NormGradVal
public import proofs.«01_k».proof.Proof.ResGradVal
public import proofs.«01_k».proof.Proof.ResModGradVal
public import proofs.«01_k».proof.Proof.ResVal
public import proofs.«01_k».proof.Proof.ResModVal
public import proofs.«01_k».proof.Proof.GateBiasGradVal

@[expose] public section

noncomputable section

namespace Cert.Proof

open Idealize.ShloMosaic Idealize.ShloMosaic.TcCoe
open Idealize.SL.Sem

/-- The kernel's frame: the run of `FrameRun.lean` at the device's floats. -/
theorem frame_kernel : Cert.quiescent_Kernel (hKernel := Cert.Kernel.Gen.facts) := fun m ρ _ =>
  Attn.run_same Attn.defs_same Attn.main_same _ _ (Attn.frame (F := Bits) m ρ)

/-- The idealized kernel's. -/
theorem frame_ideal : Cert.quiescent_KernelIdeal (hKernelIdeal := Cert.KernelIdeal.Gen.facts) := fun m ρ _ =>
  Attn.frame (F := Ideal) m ρ

/-- The reference's: host operations alone. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The same two frames where the precondition is assumed as well. -/
theorem frame_ideal_pre : Cert.quiescent_KernelIdeal_pre_finite (hKernelIdeal := Cert.KernelIdeal.Gen.facts) (hPre_finite := Attn.preFacts) := fun m ρ _ =>
  frame_ideal m ρ trivial

theorem frame_reference_pre : Cert.quiescent_ReferenceIdeal_pre_finite (hReferenceIdeal := Cert.ReferenceIdeal.Gen.facts) (hPre_finite := Attn.preFacts) := fun m ρ _ =>
  frame_reference m ρ trivial

/-- Each product's two kernel frames are its generated runs; its reference's frame and its value are in its own module. -/
theorem claim : Cert.Claim :=
  ⟨Cert.Kernel.Gen.facts, Cert.KernelIdeal.Gen.facts, Cert.ReferenceIdeal.Gen.facts, Cert.UpGradIn.Gen.facts, Cert.UpGradInIdeal.Gen.facts, Cert.UpGradInRefIdeal.Gen.facts, Cert.UpGradW.Gen.facts, Cert.UpGradWIdeal.Gen.facts, Cert.UpGradWRefIdeal.Gen.facts, Cert.Up.Gen.facts, Cert.UpIdeal.Gen.facts, Cert.UpRefIdeal.Gen.facts, Cert.Down.Gen.facts, Cert.DownIdeal.Gen.facts, Cert.DownRefIdeal.Gen.facts, Cert.DownGradIn.Gen.facts, Cert.DownGradInIdeal.Gen.facts, Cert.DownGradInRefIdeal.Gen.facts, Cert.DownGradW.Gen.facts, Cert.DownGradWIdeal.Gen.facts, Cert.DownGradWRefIdeal.Gen.facts, Cert.InProj.Gen.facts, Cert.InProjIdeal.Gen.facts, Cert.InProjRefIdeal.Gen.facts, Cert.InGrad.Gen.facts, Cert.InGradIdeal.Gen.facts, Cert.InGradRefIdeal.Gen.facts, Cert.InGradW.Gen.facts, Cert.InGradWIdeal.Gen.facts, Cert.InGradWRefIdeal.Gen.facts, Cert.Mix.Gen.facts, Cert.MixIdeal.Gen.facts, Cert.MixRefIdeal.Gen.facts, Cert.MixGradIn.Gen.facts, Cert.MixGradInIdeal.Gen.facts, Cert.MixGradInRefIdeal.Gen.facts, Cert.MixGradW.Gen.facts, Cert.MixGradWIdeal.Gen.facts, Cert.MixGradWRefIdeal.Gen.facts, Cert.Branch.Gen.facts, Cert.BranchIdeal.Gen.facts, Cert.BranchRefIdeal.Gen.facts, Cert.ConvGradIn.Gen.facts, Cert.ConvGradInIdeal.Gen.facts, Cert.ConvGradInRefIdeal.Gen.facts, Cert.AttnGradIn.Gen.facts, Cert.AttnGradInIdeal.Gen.facts, Cert.AttnGradInRefIdeal.Gen.facts, Cert.BranchGradW.Gen.facts, Cert.BranchGradWIdeal.Gen.facts, Cert.BranchGradWRefIdeal.Gen.facts, Cert.GateProj.Gen.facts, Cert.GateProjIdeal.Gen.facts, Cert.GateProjRefIdeal.Gen.facts, Cert.GateGradIn.Gen.facts, Cert.GateGradInIdeal.Gen.facts, Cert.GateGradInRefIdeal.Gen.facts, Cert.GateGradW.Gen.facts, Cert.GateGradWIdeal.Gen.facts, Cert.GateGradWRefIdeal.Gen.facts, Cert.Merge.Gen.facts, Cert.MergeIdeal.Gen.facts, Cert.MergeRefIdeal.Gen.facts, Cert.MergeGrad.Gen.facts, Cert.MergeGradIdeal.Gen.facts, Cert.MergeGradRefIdeal.Gen.facts, Cert.BiasGrad.Gen.facts, Cert.BiasGradIdeal.Gen.facts, Cert.BiasGradRefIdeal.Gen.facts, Cert.Norm.Gen.facts, Cert.NormIdeal.Gen.facts, Cert.NormRefIdeal.Gen.facts, Cert.NormGrad.Gen.facts, Cert.NormGradIdeal.Gen.facts, Cert.NormGradRefIdeal.Gen.facts, Cert.ResGrad.Gen.facts, Cert.ResGradIdeal.Gen.facts, Cert.ResGradRefIdeal.Gen.facts, Cert.ResModGrad.Gen.facts, Cert.ResModGradIdeal.Gen.facts, Cert.ResModGradRefIdeal.Gen.facts, Cert.Res.Gen.facts, Cert.ResIdeal.Gen.facts, Cert.ResRefIdeal.Gen.facts, Cert.ResMod.Gen.facts, Cert.ResModIdeal.Gen.facts, Cert.ResModRefIdeal.Gen.facts, Cert.GateBiasGrad.Gen.facts, Cert.GateBiasGradIdeal.Gen.facts, Cert.GateBiasGradRefIdeal.Gen.facts, Attn.preFacts, NormGrad.preFacts, ResGrad.preFacts, ResModGrad.preFacts,
    frame_kernel, frame_ideal, frame_ideal_pre, frame_reference, frame_reference_pre,
    fun m ρ _ => Cert.UpGradIn.Gen.frame m ρ, fun m ρ _ => Cert.UpGradInIdeal.Gen.frame m ρ, UpGradIn.frame_ref,
    fun m ρ _ => Cert.UpGradW.Gen.frame m ρ, fun m ρ _ => Cert.UpGradWIdeal.Gen.frame m ρ, UpGradW.frame_ref,
    fun m ρ _ => Cert.Up.Gen.frame m ρ, fun m ρ _ => Cert.UpIdeal.Gen.frame m ρ, Up.frame_ref,
    fun m ρ _ => Cert.Down.Gen.frame m ρ, fun m ρ _ => Cert.DownIdeal.Gen.frame m ρ, Down.frame_ref,
    fun m ρ _ => Cert.DownGradIn.Gen.frame m ρ, fun m ρ _ => Cert.DownGradInIdeal.Gen.frame m ρ, DownGradIn.frame_ref,
    fun m ρ _ => Cert.DownGradW.Gen.frame m ρ, fun m ρ _ => Cert.DownGradWIdeal.Gen.frame m ρ, DownGradW.frame_ref,
    fun m ρ _ => Cert.InProj.Gen.frame m ρ, fun m ρ _ => Cert.InProjIdeal.Gen.frame m ρ, InProj.frame_ref,
    fun m ρ _ => Cert.InGrad.Gen.frame m ρ, fun m ρ _ => Cert.InGradIdeal.Gen.frame m ρ, InGrad.frame_ref,
    fun m ρ _ => Cert.InGradW.Gen.frame m ρ, fun m ρ _ => Cert.InGradWIdeal.Gen.frame m ρ, InGradW.frame_ref,
    fun m ρ _ => Cert.Mix.Gen.frame m ρ, fun m ρ _ => Cert.MixIdeal.Gen.frame m ρ, Mix.frame_ref,
    fun m ρ _ => Cert.MixGradIn.Gen.frame m ρ, fun m ρ _ => Cert.MixGradInIdeal.Gen.frame m ρ, MixGradIn.frame_ref,
    fun m ρ _ => Cert.MixGradW.Gen.frame m ρ, fun m ρ _ => Cert.MixGradWIdeal.Gen.frame m ρ, MixGradW.frame_ref,
    fun m ρ _ => Cert.Branch.Gen.frame m ρ, fun m ρ _ => Cert.BranchIdeal.Gen.frame m ρ, Branch.frame_ref,
    fun m ρ _ => Cert.ConvGradIn.Gen.frame m ρ, fun m ρ _ => Cert.ConvGradInIdeal.Gen.frame m ρ, ConvGradIn.frame_ref,
    fun m ρ _ => Cert.AttnGradIn.Gen.frame m ρ, fun m ρ _ => Cert.AttnGradInIdeal.Gen.frame m ρ, AttnGradIn.frame_ref,
    fun m ρ _ => Cert.BranchGradW.Gen.frame m ρ, fun m ρ _ => Cert.BranchGradWIdeal.Gen.frame m ρ, BranchGradW.frame_ref,
    fun m ρ _ => Cert.GateProj.Gen.frame m ρ, fun m ρ _ => Cert.GateProjIdeal.Gen.frame m ρ, GateProj.frame_ref,
    fun m ρ _ => Cert.GateGradIn.Gen.frame m ρ, fun m ρ _ => Cert.GateGradInIdeal.Gen.frame m ρ, GateGradIn.frame_ref,
    fun m ρ _ => Cert.GateGradW.Gen.frame m ρ, fun m ρ _ => Cert.GateGradWIdeal.Gen.frame m ρ, GateGradW.frame_ref,
    fun m ρ _ => Cert.Merge.Gen.frame m ρ, fun m ρ _ => Cert.MergeIdeal.Gen.frame m ρ, Merge.frame_ref,
    fun m ρ _ => Cert.MergeGrad.Gen.frame m ρ, fun m ρ _ => Cert.MergeGradIdeal.Gen.frame m ρ, MergeGrad.frame_ref,
    fun m ρ _ => Cert.BiasGrad.Gen.frame m ρ, fun m ρ _ => Cert.BiasGradIdeal.Gen.frame m ρ, BiasGrad.frame_ref,
    fun m ρ _ => Cert.Norm.Gen.frame m ρ, fun m ρ _ => Cert.NormIdeal.Gen.frame m ρ, Norm.frame_ref,
    fun m ρ _ => Cert.NormGrad.Gen.frame m ρ, fun m ρ _ => Cert.NormGradIdeal.Gen.frame m ρ, NormGrad.frame_pre, NormGrad.frame_ref, NormGrad.frame_ref_pre,
    fun m ρ _ => Cert.ResGrad.Gen.frame m ρ, fun m ρ _ => Cert.ResGradIdeal.Gen.frame m ρ, ResGrad.frame_pre, ResGrad.frame_ref, ResGrad.frame_ref_pre,
    fun m ρ _ => Cert.ResModGrad.Gen.frame m ρ, fun m ρ _ => Cert.ResModGradIdeal.Gen.frame m ρ, ResModGrad.frame_pre, ResModGrad.frame_ref, ResModGrad.frame_ref_pre,
    fun m ρ _ => Cert.Res.Gen.frame m ρ, fun m ρ _ => Cert.ResIdeal.Gen.frame m ρ, Res.frame_ref,
    fun m ρ _ => Cert.ResMod.Gen.frame m ρ, fun m ρ _ => Cert.ResModIdeal.Gen.frame m ρ, ResMod.frame_ref,
    fun m ρ _ => Cert.GateBiasGrad.Gen.frame m ρ, fun m ρ _ => Cert.GateBiasGradIdeal.Gen.frame m ρ, GateBiasGrad.frame_ref,
    trivial, Attn.values,
    trivial, UpGradIn.values,
    trivial, UpGradW.values,
    trivial, Up.values,
    trivial, Down.values,
    trivial, DownGradIn.values,
    trivial, DownGradW.values,
    trivial, InProj.values,
    trivial, InGrad.values,
    trivial, InGradW.values,
    trivial, Mix.values,
    trivial, MixGradIn.values,
    trivial, MixGradW.values,
    trivial, Branch.values,
    trivial, ConvGradIn.values,
    trivial, AttnGradIn.values,
    trivial, BranchGradW.values,
    trivial, GateProj.values,
    trivial, GateGradIn.values,
    trivial, GateGradW.values,
    trivial, Merge.values,
    trivial, MergeGrad.values,
    trivial, BiasGrad.values,
    trivial, Norm.values,
    trivial, NormGrad.values,
    trivial, ResGrad.values,
    trivial, ResModGrad.values,
    trivial, Res.values,
    trivial, ResMod.values,
    trivial, GateBiasGrad.values⟩

end Cert.Proof

end
